-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_PostMla (m : (ℓ : Loc Cert.PostMla.nD Cert.PostMla.τ Cert.PostMla.sig) → Buf (Elt Bits) ℓ) : Prop :=
  True

def Pre_PostMlaIdeal (m : (ℓ : Loc Cert.PostMlaIdeal.nD Cert.PostMlaIdeal.τ Cert.PostMlaIdeal.sig) → Buf (Elt Ideal) ℓ) : Prop :=
  True

def Pre_PostMlaRefIdeal (m : (ℓ : Loc Cert.PostMlaRefIdeal.nD Cert.PostMlaRefIdeal.τ Cert.PostMlaRefIdeal.sig) → Buf (Elt Ideal) ℓ) : Prop :=
  True

def Pre_PostFinal (m : (ℓ : Loc Cert.PostFinal.nD Cert.PostFinal.τ Cert.PostFinal.sig) → Buf (Elt Bits) ℓ) : Prop :=
  True

def Pre_PostFinalIdeal (m : (ℓ : Loc Cert.PostFinalIdeal.nD Cert.PostFinalIdeal.τ Cert.PostFinalIdeal.sig) → Buf (Elt Ideal) ℓ) : Prop :=
  True

def Pre_PostFinalRefIdeal (m : (ℓ : Loc Cert.PostFinalRefIdeal.nD Cert.PostFinalRefIdeal.τ Cert.PostFinalRefIdeal.sig) → Buf (Elt Ideal) ℓ) : Prop :=
  True

def Pre_DilProj (m : (ℓ : Loc Cert.DilProj.nD Cert.DilProj.τ Cert.DilProj.sig) → Buf (Elt Bits) ℓ) : Prop :=
  True

def Pre_DilProjIdeal (m : (ℓ : Loc Cert.DilProjIdeal.nD Cert.DilProjIdeal.τ Cert.DilProjIdeal.sig) → Buf (Elt Ideal) ℓ) : Prop :=
  True

def Pre_DilProjRefIdeal (m : (ℓ : Loc Cert.DilProjRefIdeal.nD Cert.DilProjRefIdeal.τ Cert.DilProjRefIdeal.sig) → Buf (Elt Ideal) ℓ) : Prop :=
  True

def Pre_PostDil (m : (ℓ : Loc Cert.PostDil.nD Cert.PostDil.τ Cert.PostDil.sig) → Buf (Elt Bits) ℓ) : Prop :=
  True

def Pre_PostDilIdeal (m : (ℓ : Loc Cert.PostDilIdeal.nD Cert.PostDilIdeal.τ Cert.PostDilIdeal.sig) → Buf (Elt Ideal) ℓ) : Prop :=
  True

def Pre_PostDilRefIdeal (m : (ℓ : Loc Cert.PostDilRefIdeal.nD Cert.PostDilRefIdeal.τ Cert.PostDilRefIdeal.sig) → Buf (Elt Ideal) ℓ) : Prop :=
  True

def Pre_MlaProj (m : (ℓ : Loc Cert.MlaProj.nD Cert.MlaProj.τ Cert.MlaProj.sig) → Buf (Elt Bits) ℓ) : Prop :=
  True

def Pre_MlaProjIdeal (m : (ℓ : Loc Cert.MlaProjIdeal.nD Cert.MlaProjIdeal.τ Cert.MlaProjIdeal.sig) → Buf (Elt Ideal) ℓ) : Prop :=
  True

def Pre_MlaProjRefIdeal (m : (ℓ : Loc Cert.MlaProjRefIdeal.nD Cert.MlaProjRefIdeal.τ Cert.MlaProjRefIdeal.sig) → Buf (Elt Ideal) ℓ) : Prop :=
  True

def Pre_DilAttn (m : (ℓ : Loc Cert.DilAttn.nD Cert.DilAttn.τ Cert.DilAttn.sig) → Buf (Elt Bits) ℓ) : Prop :=
  True

def Pre_DilAttnIdeal (m : (ℓ : Loc Cert.DilAttnIdeal.nD Cert.DilAttnIdeal.τ Cert.DilAttnIdeal.sig) → Buf (Elt Ideal) ℓ) : Prop :=
  True

def Pre_DilAttnRefIdeal (m : (ℓ : Loc Cert.DilAttnRefIdeal.nD Cert.DilAttnRefIdeal.τ Cert.DilAttnRefIdeal.sig) → Buf (Elt Ideal) ℓ) : Prop :=
  True

def Pre_PostFinalSample (m : (ℓ : Loc Cert.PostFinalSample.nD Cert.PostFinalSample.τ Cert.PostFinalSample.sig) → Buf (Elt Bits) ℓ) : Prop :=
  True

def Pre_PostFinalSampleIdeal (m : (ℓ : Loc Cert.PostFinalSampleIdeal.nD Cert.PostFinalSampleIdeal.τ Cert.PostFinalSampleIdeal.sig) → Buf (Elt Ideal) ℓ) : Prop :=
  True

def Pre_PostFinalSampleRefIdeal (m : (ℓ : Loc Cert.PostFinalSampleRefIdeal.nD Cert.PostFinalSampleRefIdeal.τ Cert.PostFinalSampleRefIdeal.sig) → Buf (Elt Ideal) ℓ) : Prop :=
  True

def Pre_DilProjSample (m : (ℓ : Loc Cert.DilProjSample.nD Cert.DilProjSample.τ Cert.DilProjSample.sig) → Buf (Elt Bits) ℓ) : Prop :=
  True

def Pre_DilProjSampleIdeal (m : (ℓ : Loc Cert.DilProjSampleIdeal.nD Cert.DilProjSampleIdeal.τ Cert.DilProjSampleIdeal.sig) → Buf (Elt Ideal) ℓ) : Prop :=
  True

def Pre_DilProjSampleRefIdeal (m : (ℓ : Loc Cert.DilProjSampleRefIdeal.nD Cert.DilProjSampleRefIdeal.τ Cert.DilProjSampleRefIdeal.sig) → Buf (Elt Ideal) ℓ) : Prop :=
  True

def Pre_MlaProjSample (m : (ℓ : Loc Cert.MlaProjSample.nD Cert.MlaProjSample.τ Cert.MlaProjSample.sig) → Buf (Elt Bits) ℓ) : Prop :=
  True

def Pre_MlaProjSampleIdeal (m : (ℓ : Loc Cert.MlaProjSampleIdeal.nD Cert.MlaProjSampleIdeal.τ Cert.MlaProjSampleIdeal.sig) → Buf (Elt Ideal) ℓ) : Prop :=
  True

def Pre_MlaProjSampleRefIdeal (m : (ℓ : Loc Cert.MlaProjSampleRefIdeal.nD Cert.MlaProjSampleRefIdeal.τ Cert.MlaProjSampleRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_PostMla [hPostMla : Cert.PostMla.Facts] : Prop :=
  ∀ (m : (ℓ : Loc Cert.PostMla.nD Cert.PostMla.τ Cert.PostMla.sig) → Buf (Elt Bits) ℓ) (g : Dev Cert.PostMla.nD → PrngReg), Pre_PostMla m →
    θ_run (Cert.PostMla.defs (F := Bits)) (onTc (τ := Cert.PostMla.τ) (Cert.PostMla.main (F := Bits))) ⟨m, fun _ => 0, g⟩ (fun r => (∀ c : Dev Cert.PostMla.nD,
      r.2.mem ((c.tc : Thread Cert.PostMla.nD Cert.PostMla.τ).loc Cert.PostMla.main_arg0) = m ((c.tc : Thread Cert.PostMla.nD Cert.PostMla.τ).loc Cert.PostMla.main_arg0)
      ∧ r.2.mem ((c.tc : Thread Cert.PostMla.nD Cert.PostMla.τ).loc Cert.PostMla.main_arg1) = m ((c.tc : Thread Cert.PostMla.nD Cert.PostMla.τ).loc Cert.PostMla.main_arg1)
      ∧ r.2.mem ((c.tc : Thread Cert.PostMla.nD Cert.PostMla.τ).loc Cert.PostMla.main_arg2) = m ((c.tc : Thread Cert.PostMla.nD Cert.PostMla.τ).loc Cert.PostMla.main_arg2)
      ∧ r.2.mem ((c.tc : Thread Cert.PostMla.nD Cert.PostMla.τ).loc Cert.PostMla.main_arg3) = m ((c.tc : Thread Cert.PostMla.nD Cert.PostMla.τ).loc Cert.PostMla.main_arg3)
      ∧ r.2.mem ((c.tc : Thread Cert.PostMla.nD Cert.PostMla.τ).loc Cert.PostMla.main_arg4) = m ((c.tc : Thread Cert.PostMla.nD Cert.PostMla.τ).loc Cert.PostMla.main_arg4)
      ∧ r.2.mem ((c.tc : Thread Cert.PostMla.nD Cert.PostMla.τ).loc Cert.PostMla.main_arg5) = m ((c.tc : Thread Cert.PostMla.nD Cert.PostMla.τ).loc Cert.PostMla.main_arg5))
      ∧ r.2.sem = fun _ => 0)

def quiescent_PostMlaIdeal [hPostMlaIdeal : Cert.PostMlaIdeal.Facts] : Prop :=
  ∀ (m : (ℓ : Loc Cert.PostMlaIdeal.nD Cert.PostMlaIdeal.τ Cert.PostMlaIdeal.sig) → Buf (Elt Ideal) ℓ) (g : Dev Cert.PostMlaIdeal.nD → PrngReg), Pre_PostMlaIdeal m →
    θ_run (Cert.PostMlaIdeal.defs (F := Ideal)) (onTc (τ := Cert.PostMlaIdeal.τ) (Cert.PostMlaIdeal.main (F := Ideal))) ⟨m, fun _ => 0, g⟩ (fun r => (∀ c : Dev Cert.PostMlaIdeal.nD,
      r.2.mem ((c.tc : Thread Cert.PostMlaIdeal.nD Cert.PostMlaIdeal.τ).loc Cert.PostMlaIdeal.main_arg0) = m ((c.tc : Thread Cert.PostMlaIdeal.nD Cert.PostMlaIdeal.τ).loc Cert.PostMlaIdeal.main_arg0)
      ∧ r.2.mem ((c.tc : Thread Cert.PostMlaIdeal.nD Cert.PostMlaIdeal.τ).loc Cert.PostMlaIdeal.main_arg1) = m ((c.tc : Thread Cert.PostMlaIdeal.nD Cert.PostMlaIdeal.τ).loc Cert.PostMlaIdeal.main_arg1)
      ∧ r.2.mem ((c.tc : Thread Cert.PostMlaIdeal.nD Cert.PostMlaIdeal.τ).loc Cert.PostMlaIdeal.main_arg2) = m ((c.tc : Thread Cert.PostMlaIdeal.nD Cert.PostMlaIdeal.τ).loc Cert.PostMlaIdeal.main_arg2)
      ∧ r.2.mem ((c.tc : Thread Cert.PostMlaIdeal.nD Cert.PostMlaIdeal.τ).loc Cert.PostMlaIdeal.main_arg3) = m ((c.tc : Thread Cert.PostMlaIdeal.nD Cert.PostMlaIdeal.τ).loc Cert.PostMlaIdeal.main_arg3)
      ∧ r.2.mem ((c.tc : Thread Cert.PostMlaIdeal.nD Cert.PostMlaIdeal.τ).loc Cert.PostMlaIdeal.main_arg4) = m ((c.tc : Thread Cert.PostMlaIdeal.nD Cert.PostMlaIdeal.τ).loc Cert.PostMlaIdeal.main_arg4)
      ∧ r.2.mem ((c.tc : Thread Cert.PostMlaIdeal.nD Cert.PostMlaIdeal.τ).loc Cert.PostMlaIdeal.main_arg5) = m ((c.tc : Thread Cert.PostMlaIdeal.nD Cert.PostMlaIdeal.τ).loc Cert.PostMlaIdeal.main_arg5))
      ∧ r.2.sem = fun _ => 0)

def quiescent_PostMlaRefIdeal [hPostMlaRefIdeal : Cert.PostMlaRefIdeal.Facts] : Prop :=
  ∀ (m : (ℓ : Loc Cert.PostMlaRefIdeal.nD Cert.PostMlaRefIdeal.τ Cert.PostMlaRefIdeal.sig) → Buf (Elt Ideal) ℓ) (g : Dev Cert.PostMlaRefIdeal.nD → PrngReg), Pre_PostMlaRefIdeal m →
    θ_run (Cert.PostMlaRefIdeal.defs (F := Ideal)) (onTc (τ := Cert.PostMlaRefIdeal.τ) (Cert.PostMlaRefIdeal.main (F := Ideal))) ⟨m, fun _ => 0, g⟩ (fun r => (∀ c : Dev Cert.PostMlaRefIdeal.nD,
      r.2.mem ((c.tc : Thread Cert.PostMlaRefIdeal.nD Cert.PostMlaRefIdeal.τ).loc Cert.PostMlaRefIdeal.main_arg0) = m ((c.tc : Thread Cert.PostMlaRefIdeal.nD Cert.PostMlaRefIdeal.τ).loc Cert.PostMlaRefIdeal.main_arg0)
      ∧ r.2.mem ((c.tc : Thread Cert.PostMlaRefIdeal.nD Cert.PostMlaRefIdeal.τ).loc Cert.PostMlaRefIdeal.main_arg1) = m ((c.tc : Thread Cert.PostMlaRefIdeal.nD Cert.PostMlaRefIdeal.τ).loc Cert.PostMlaRefIdeal.main_arg1)
      ∧ r.2.mem ((c.tc : Thread Cert.PostMlaRefIdeal.nD Cert.PostMlaRefIdeal.τ).loc Cert.PostMlaRefIdeal.main_arg2) = m ((c.tc : Thread Cert.PostMlaRefIdeal.nD Cert.PostMlaRefIdeal.τ).loc Cert.PostMlaRefIdeal.main_arg2)
      ∧ r.2.mem ((c.tc : Thread Cert.PostMlaRefIdeal.nD Cert.PostMlaRefIdeal.τ).loc Cert.PostMlaRefIdeal.main_arg3) = m ((c.tc : Thread Cert.PostMlaRefIdeal.nD Cert.PostMlaRefIdeal.τ).loc Cert.PostMlaRefIdeal.main_arg3)
      ∧ r.2.mem ((c.tc : Thread Cert.PostMlaRefIdeal.nD Cert.PostMlaRefIdeal.τ).loc Cert.PostMlaRefIdeal.main_arg4) = m ((c.tc : Thread Cert.PostMlaRefIdeal.nD Cert.PostMlaRefIdeal.τ).loc Cert.PostMlaRefIdeal.main_arg4)
      ∧ r.2.mem ((c.tc : Thread Cert.PostMlaRefIdeal.nD Cert.PostMlaRefIdeal.τ).loc Cert.PostMlaRefIdeal.main_arg5) = m ((c.tc : Thread Cert.PostMlaRefIdeal.nD Cert.PostMlaRefIdeal.τ).loc Cert.PostMlaRefIdeal.main_arg5))
      ∧ r.2.sem = fun _ => 0)

def quiescent_PostFinal [hPostFinal : Cert.PostFinal.Facts] : Prop :=
  ∀ (m : (ℓ : Loc Cert.PostFinal.nD Cert.PostFinal.τ Cert.PostFinal.sig) → Buf (Elt Bits) ℓ) (g : Dev Cert.PostFinal.nD → PrngReg), Pre_PostFinal m →
    θ_run (Cert.PostFinal.defs (F := Bits)) (onTc (τ := Cert.PostFinal.τ) (Cert.PostFinal.main (F := Bits))) ⟨m, fun _ => 0, g⟩ (fun r => (∀ c : Dev Cert.PostFinal.nD,
      r.2.mem ((c.tc : Thread Cert.PostFinal.nD Cert.PostFinal.τ).loc Cert.PostFinal.main_arg0) = m ((c.tc : Thread Cert.PostFinal.nD Cert.PostFinal.τ).loc Cert.PostFinal.main_arg0)
      ∧ r.2.mem ((c.tc : Thread Cert.PostFinal.nD Cert.PostFinal.τ).loc Cert.PostFinal.main_arg1) = m ((c.tc : Thread Cert.PostFinal.nD Cert.PostFinal.τ).loc Cert.PostFinal.main_arg1)
      ∧ r.2.mem ((c.tc : Thread Cert.PostFinal.nD Cert.PostFinal.τ).loc Cert.PostFinal.main_arg2) = m ((c.tc : Thread Cert.PostFinal.nD Cert.PostFinal.τ).loc Cert.PostFinal.main_arg2)
      ∧ r.2.mem ((c.tc : Thread Cert.PostFinal.nD Cert.PostFinal.τ).loc Cert.PostFinal.main_arg3) = m ((c.tc : Thread Cert.PostFinal.nD Cert.PostFinal.τ).loc Cert.PostFinal.main_arg3)
      ∧ r.2.mem ((c.tc : Thread Cert.PostFinal.nD Cert.PostFinal.τ).loc Cert.PostFinal.main_arg4) = m ((c.tc : Thread Cert.PostFinal.nD Cert.PostFinal.τ).loc Cert.PostFinal.main_arg4)
      ∧ r.2.mem ((c.tc : Thread Cert.PostFinal.nD Cert.PostFinal.τ).loc Cert.PostFinal.main_arg5) = m ((c.tc : Thread Cert.PostFinal.nD Cert.PostFinal.τ).loc Cert.PostFinal.main_arg5)
      ∧ r.2.mem ((c.tc : Thread Cert.PostFinal.nD Cert.PostFinal.τ).loc Cert.PostFinal.main_arg6) = m ((c.tc : Thread Cert.PostFinal.nD Cert.PostFinal.τ).loc Cert.PostFinal.main_arg6))
      ∧ r.2.sem = fun _ => 0)

def quiescent_PostFinalIdeal [hPostFinalIdeal : Cert.PostFinalIdeal.Facts] : Prop :=
  ∀ (m : (ℓ : Loc Cert.PostFinalIdeal.nD Cert.PostFinalIdeal.τ Cert.PostFinalIdeal.sig) → Buf (Elt Ideal) ℓ) (g : Dev Cert.PostFinalIdeal.nD → PrngReg), Pre_PostFinalIdeal m →
    θ_run (Cert.PostFinalIdeal.defs (F := Ideal)) (onTc (τ := Cert.PostFinalIdeal.τ) (Cert.PostFinalIdeal.main (F := Ideal))) ⟨m, fun _ => 0, g⟩ (fun r => (∀ c : Dev Cert.PostFinalIdeal.nD,
      r.2.mem ((c.tc : Thread Cert.PostFinalIdeal.nD Cert.PostFinalIdeal.τ).loc Cert.PostFinalIdeal.main_arg0) = m ((c.tc : Thread Cert.PostFinalIdeal.nD Cert.PostFinalIdeal.τ).loc Cert.PostFinalIdeal.main_arg0)
      ∧ r.2.mem ((c.tc : Thread Cert.PostFinalIdeal.nD Cert.PostFinalIdeal.τ).loc Cert.PostFinalIdeal.main_arg1) = m ((c.tc : Thread Cert.PostFinalIdeal.nD Cert.PostFinalIdeal.τ).loc Cert.PostFinalIdeal.main_arg1)
      ∧ r.2.mem ((c.tc : Thread Cert.PostFinalIdeal.nD Cert.PostFinalIdeal.τ).loc Cert.PostFinalIdeal.main_arg2) = m ((c.tc : Thread Cert.PostFinalIdeal.nD Cert.PostFinalIdeal.τ).loc Cert.PostFinalIdeal.main_arg2)
      ∧ r.2.mem ((c.tc : Thread Cert.PostFinalIdeal.nD Cert.PostFinalIdeal.τ).loc Cert.PostFinalIdeal.main_arg3) = m ((c.tc : Thread Cert.PostFinalIdeal.nD Cert.PostFinalIdeal.τ).loc Cert.PostFinalIdeal.main_arg3)
      ∧ r.2.mem ((c.tc : Thread Cert.PostFinalIdeal.nD Cert.PostFinalIdeal.τ).loc Cert.PostFinalIdeal.main_arg4) = m ((c.tc : Thread Cert.PostFinalIdeal.nD Cert.PostFinalIdeal.τ).loc Cert.PostFinalIdeal.main_arg4)
      ∧ r.2.mem ((c.tc : Thread Cert.PostFinalIdeal.nD Cert.PostFinalIdeal.τ).loc Cert.PostFinalIdeal.main_arg5) = m ((c.tc : Thread Cert.PostFinalIdeal.nD Cert.PostFinalIdeal.τ).loc Cert.PostFinalIdeal.main_arg5)
      ∧ r.2.mem ((c.tc : Thread Cert.PostFinalIdeal.nD Cert.PostFinalIdeal.τ).loc Cert.PostFinalIdeal.main_arg6) = m ((c.tc : Thread Cert.PostFinalIdeal.nD Cert.PostFinalIdeal.τ).loc Cert.PostFinalIdeal.main_arg6))
      ∧ r.2.sem = fun _ => 0)

def quiescent_PostFinalRefIdeal [hPostFinalRefIdeal : Cert.PostFinalRefIdeal.Facts] : Prop :=
  ∀ (m : (ℓ : Loc Cert.PostFinalRefIdeal.nD Cert.PostFinalRefIdeal.τ Cert.PostFinalRefIdeal.sig) → Buf (Elt Ideal) ℓ) (g : Dev Cert.PostFinalRefIdeal.nD → PrngReg), Pre_PostFinalRefIdeal m →
    θ_run (Cert.PostFinalRefIdeal.defs (F := Ideal)) (onTc (τ := Cert.PostFinalRefIdeal.τ) (Cert.PostFinalRefIdeal.main (F := Ideal))) ⟨m, fun _ => 0, g⟩ (fun r => (∀ c : Dev Cert.PostFinalRefIdeal.nD,
      r.2.mem ((c.tc : Thread Cert.PostFinalRefIdeal.nD Cert.PostFinalRefIdeal.τ).loc Cert.PostFinalRefIdeal.main_arg0) = m ((c.tc : Thread Cert.PostFinalRefIdeal.nD Cert.PostFinalRefIdeal.τ).loc Cert.PostFinalRefIdeal.main_arg0)
      ∧ r.2.mem ((c.tc : Thread Cert.PostFinalRefIdeal.nD Cert.PostFinalRefIdeal.τ).loc Cert.PostFinalRefIdeal.main_arg1) = m ((c.tc : Thread Cert.PostFinalRefIdeal.nD Cert.PostFinalRefIdeal.τ).loc Cert.PostFinalRefIdeal.main_arg1)
      ∧ r.2.mem ((c.tc : Thread Cert.PostFinalRefIdeal.nD Cert.PostFinalRefIdeal.τ).loc Cert.PostFinalRefIdeal.main_arg2) = m ((c.tc : Thread Cert.PostFinalRefIdeal.nD Cert.PostFinalRefIdeal.τ).loc Cert.PostFinalRefIdeal.main_arg2)
      ∧ r.2.mem ((c.tc : Thread Cert.PostFinalRefIdeal.nD Cert.PostFinalRefIdeal.τ).loc Cert.PostFinalRefIdeal.main_arg3) = m ((c.tc : Thread Cert.PostFinalRefIdeal.nD Cert.PostFinalRefIdeal.τ).loc Cert.PostFinalRefIdeal.main_arg3)
      ∧ r.2.mem ((c.tc : Thread Cert.PostFinalRefIdeal.nD Cert.PostFinalRefIdeal.τ).loc Cert.PostFinalRefIdeal.main_arg4) = m ((c.tc : Thread Cert.PostFinalRefIdeal.nD Cert.PostFinalRefIdeal.τ).loc Cert.PostFinalRefIdeal.main_arg4)
      ∧ r.2.mem ((c.tc : Thread Cert.PostFinalRefIdeal.nD Cert.PostFinalRefIdeal.τ).loc Cert.PostFinalRefIdeal.main_arg5) = m ((c.tc : Thread Cert.PostFinalRefIdeal.nD Cert.PostFinalRefIdeal.τ).loc Cert.PostFinalRefIdeal.main_arg5)
      ∧ r.2.mem ((c.tc : Thread Cert.PostFinalRefIdeal.nD Cert.PostFinalRefIdeal.τ).loc Cert.PostFinalRefIdeal.main_arg6) = m ((c.tc : Thread Cert.PostFinalRefIdeal.nD Cert.PostFinalRefIdeal.τ).loc Cert.PostFinalRefIdeal.main_arg6))
      ∧ r.2.sem = fun _ => 0)

def quiescent_DilProj [hDilProj : Cert.DilProj.Facts] : Prop :=
  ∀ (m : (ℓ : Loc Cert.DilProj.nD Cert.DilProj.τ Cert.DilProj.sig) → Buf (Elt Bits) ℓ) (g : Dev Cert.DilProj.nD → PrngReg), Pre_DilProj m →
    θ_run (Cert.DilProj.defs (F := Bits)) (onTc (τ := Cert.DilProj.τ) (Cert.DilProj.main (F := Bits))) ⟨m, fun _ => 0, g⟩ (fun r => (∀ c : Dev Cert.DilProj.nD,
      r.2.mem ((c.tc : Thread Cert.DilProj.nD Cert.DilProj.τ).loc Cert.DilProj.main_arg0) = m ((c.tc : Thread Cert.DilProj.nD Cert.DilProj.τ).loc Cert.DilProj.main_arg0)
      ∧ r.2.mem ((c.tc : Thread Cert.DilProj.nD Cert.DilProj.τ).loc Cert.DilProj.main_arg1) = m ((c.tc : Thread Cert.DilProj.nD Cert.DilProj.τ).loc Cert.DilProj.main_arg1)
      ∧ r.2.mem ((c.tc : Thread Cert.DilProj.nD Cert.DilProj.τ).loc Cert.DilProj.main_arg2) = m ((c.tc : Thread Cert.DilProj.nD Cert.DilProj.τ).loc Cert.DilProj.main_arg2))
      ∧ r.2.sem = fun _ => 0)

def quiescent_DilProjIdeal [hDilProjIdeal : Cert.DilProjIdeal.Facts] : Prop :=
  ∀ (m : (ℓ : Loc Cert.DilProjIdeal.nD Cert.DilProjIdeal.τ Cert.DilProjIdeal.sig) → Buf (Elt Ideal) ℓ) (g : Dev Cert.DilProjIdeal.nD → PrngReg), Pre_DilProjIdeal m →
    θ_run (Cert.DilProjIdeal.defs (F := Ideal)) (onTc (τ := Cert.DilProjIdeal.τ) (Cert.DilProjIdeal.main (F := Ideal))) ⟨m, fun _ => 0, g⟩ (fun r => (∀ c : Dev Cert.DilProjIdeal.nD,
      r.2.mem ((c.tc : Thread Cert.DilProjIdeal.nD Cert.DilProjIdeal.τ).loc Cert.DilProjIdeal.main_arg0) = m ((c.tc : Thread Cert.DilProjIdeal.nD Cert.DilProjIdeal.τ).loc Cert.DilProjIdeal.main_arg0)
      ∧ r.2.mem ((c.tc : Thread Cert.DilProjIdeal.nD Cert.DilProjIdeal.τ).loc Cert.DilProjIdeal.main_arg1) = m ((c.tc : Thread Cert.DilProjIdeal.nD Cert.DilProjIdeal.τ).loc Cert.DilProjIdeal.main_arg1)
      ∧ r.2.mem ((c.tc : Thread Cert.DilProjIdeal.nD Cert.DilProjIdeal.τ).loc Cert.DilProjIdeal.main_arg2) = m ((c.tc : Thread Cert.DilProjIdeal.nD Cert.DilProjIdeal.τ).loc Cert.DilProjIdeal.main_arg2))
      ∧ r.2.sem = fun _ => 0)

def quiescent_DilProjRefIdeal [hDilProjRefIdeal : Cert.DilProjRefIdeal.Facts] : Prop :=
  ∀ (m : (ℓ : Loc Cert.DilProjRefIdeal.nD Cert.DilProjRefIdeal.τ Cert.DilProjRefIdeal.sig) → Buf (Elt Ideal) ℓ) (g : Dev Cert.DilProjRefIdeal.nD → PrngReg), Pre_DilProjRefIdeal m →
    θ_run (Cert.DilProjRefIdeal.defs (F := Ideal)) (onTc (τ := Cert.DilProjRefIdeal.τ) (Cert.DilProjRefIdeal.main (F := Ideal))) ⟨m, fun _ => 0, g⟩ (fun r => (∀ c : Dev Cert.DilProjRefIdeal.nD,
      r.2.mem ((c.tc : Thread Cert.DilProjRefIdeal.nD Cert.DilProjRefIdeal.τ).loc Cert.DilProjRefIdeal.main_arg0) = m ((c.tc : Thread Cert.DilProjRefIdeal.nD Cert.DilProjRefIdeal.τ).loc Cert.DilProjRefIdeal.main_arg0)
      ∧ r.2.mem ((c.tc : Thread Cert.DilProjRefIdeal.nD Cert.DilProjRefIdeal.τ).loc Cert.DilProjRefIdeal.main_arg1) = m ((c.tc : Thread Cert.DilProjRefIdeal.nD Cert.DilProjRefIdeal.τ).loc Cert.DilProjRefIdeal.main_arg1)
      ∧ r.2.mem ((c.tc : Thread Cert.DilProjRefIdeal.nD Cert.DilProjRefIdeal.τ).loc Cert.DilProjRefIdeal.main_arg2) = m ((c.tc : Thread Cert.DilProjRefIdeal.nD Cert.DilProjRefIdeal.τ).loc Cert.DilProjRefIdeal.main_arg2))
      ∧ r.2.sem = fun _ => 0)

def quiescent_PostDil [hPostDil : Cert.PostDil.Facts] : Prop :=
  ∀ (m : (ℓ : Loc Cert.PostDil.nD Cert.PostDil.τ Cert.PostDil.sig) → Buf (Elt Bits) ℓ) (g : Dev Cert.PostDil.nD → PrngReg), Pre_PostDil m →
    θ_run (Cert.PostDil.defs (F := Bits)) (onTc (τ := Cert.PostDil.τ) (Cert.PostDil.main (F := Bits))) ⟨m, fun _ => 0, g⟩ (fun r => (∀ c : Dev Cert.PostDil.nD,
      r.2.mem ((c.tc : Thread Cert.PostDil.nD Cert.PostDil.τ).loc Cert.PostDil.main_arg0) = m ((c.tc : Thread Cert.PostDil.nD Cert.PostDil.τ).loc Cert.PostDil.main_arg0)
      ∧ r.2.mem ((c.tc : Thread Cert.PostDil.nD Cert.PostDil.τ).loc Cert.PostDil.main_arg1) = m ((c.tc : Thread Cert.PostDil.nD Cert.PostDil.τ).loc Cert.PostDil.main_arg1)
      ∧ r.2.mem ((c.tc : Thread Cert.PostDil.nD Cert.PostDil.τ).loc Cert.PostDil.main_arg2) = m ((c.tc : Thread Cert.PostDil.nD Cert.PostDil.τ).loc Cert.PostDil.main_arg2)
      ∧ r.2.mem ((c.tc : Thread Cert.PostDil.nD Cert.PostDil.τ).loc Cert.PostDil.main_arg3) = m ((c.tc : Thread Cert.PostDil.nD Cert.PostDil.τ).loc Cert.PostDil.main_arg3)
      ∧ r.2.mem ((c.tc : Thread Cert.PostDil.nD Cert.PostDil.τ).loc Cert.PostDil.main_arg4) = m ((c.tc : Thread Cert.PostDil.nD Cert.PostDil.τ).loc Cert.PostDil.main_arg4)
      ∧ r.2.mem ((c.tc : Thread Cert.PostDil.nD Cert.PostDil.τ).loc Cert.PostDil.main_arg5) = m ((c.tc : Thread Cert.PostDil.nD Cert.PostDil.τ).loc Cert.PostDil.main_arg5))
      ∧ r.2.sem = fun _ => 0)

def quiescent_PostDilIdeal [hPostDilIdeal : Cert.PostDilIdeal.Facts] : Prop :=
  ∀ (m : (ℓ : Loc Cert.PostDilIdeal.nD Cert.PostDilIdeal.τ Cert.PostDilIdeal.sig) → Buf (Elt Ideal) ℓ) (g : Dev Cert.PostDilIdeal.nD → PrngReg), Pre_PostDilIdeal m →
    θ_run (Cert.PostDilIdeal.defs (F := Ideal)) (onTc (τ := Cert.PostDilIdeal.τ) (Cert.PostDilIdeal.main (F := Ideal))) ⟨m, fun _ => 0, g⟩ (fun r => (∀ c : Dev Cert.PostDilIdeal.nD,
      r.2.mem ((c.tc : Thread Cert.PostDilIdeal.nD Cert.PostDilIdeal.τ).loc Cert.PostDilIdeal.main_arg0) = m ((c.tc : Thread Cert.PostDilIdeal.nD Cert.PostDilIdeal.τ).loc Cert.PostDilIdeal.main_arg0)
      ∧ r.2.mem ((c.tc : Thread Cert.PostDilIdeal.nD Cert.PostDilIdeal.τ).loc Cert.PostDilIdeal.main_arg1) = m ((c.tc : Thread Cert.PostDilIdeal.nD Cert.PostDilIdeal.τ).loc Cert.PostDilIdeal.main_arg1)
      ∧ r.2.mem ((c.tc : Thread Cert.PostDilIdeal.nD Cert.PostDilIdeal.τ).loc Cert.PostDilIdeal.main_arg2) = m ((c.tc : Thread Cert.PostDilIdeal.nD Cert.PostDilIdeal.τ).loc Cert.PostDilIdeal.main_arg2)
      ∧ r.2.mem ((c.tc : Thread Cert.PostDilIdeal.nD Cert.PostDilIdeal.τ).loc Cert.PostDilIdeal.main_arg3) = m ((c.tc : Thread Cert.PostDilIdeal.nD Cert.PostDilIdeal.τ).loc Cert.PostDilIdeal.main_arg3)
      ∧ r.2.mem ((c.tc : Thread Cert.PostDilIdeal.nD Cert.PostDilIdeal.τ).loc Cert.PostDilIdeal.main_arg4) = m ((c.tc : Thread Cert.PostDilIdeal.nD Cert.PostDilIdeal.τ).loc Cert.PostDilIdeal.main_arg4)
      ∧ r.2.mem ((c.tc : Thread Cert.PostDilIdeal.nD Cert.PostDilIdeal.τ).loc Cert.PostDilIdeal.main_arg5) = m ((c.tc : Thread Cert.PostDilIdeal.nD Cert.PostDilIdeal.τ).loc Cert.PostDilIdeal.main_arg5))
      ∧ r.2.sem = fun _ => 0)

def quiescent_PostDilRefIdeal [hPostDilRefIdeal : Cert.PostDilRefIdeal.Facts] : Prop :=
  ∀ (m : (ℓ : Loc Cert.PostDilRefIdeal.nD Cert.PostDilRefIdeal.τ Cert.PostDilRefIdeal.sig) → Buf (Elt Ideal) ℓ) (g : Dev Cert.PostDilRefIdeal.nD → PrngReg), Pre_PostDilRefIdeal m →
    θ_run (Cert.PostDilRefIdeal.defs (F := Ideal)) (onTc (τ := Cert.PostDilRefIdeal.τ) (Cert.PostDilRefIdeal.main (F := Ideal))) ⟨m, fun _ => 0, g⟩ (fun r => (∀ c : Dev Cert.PostDilRefIdeal.nD,
      r.2.mem ((c.tc : Thread Cert.PostDilRefIdeal.nD Cert.PostDilRefIdeal.τ).loc Cert.PostDilRefIdeal.main_arg0) = m ((c.tc : Thread Cert.PostDilRefIdeal.nD Cert.PostDilRefIdeal.τ).loc Cert.PostDilRefIdeal.main_arg0)
      ∧ r.2.mem ((c.tc : Thread Cert.PostDilRefIdeal.nD Cert.PostDilRefIdeal.τ).loc Cert.PostDilRefIdeal.main_arg1) = m ((c.tc : Thread Cert.PostDilRefIdeal.nD Cert.PostDilRefIdeal.τ).loc Cert.PostDilRefIdeal.main_arg1)
      ∧ r.2.mem ((c.tc : Thread Cert.PostDilRefIdeal.nD Cert.PostDilRefIdeal.τ).loc Cert.PostDilRefIdeal.main_arg2) = m ((c.tc : Thread Cert.PostDilRefIdeal.nD Cert.PostDilRefIdeal.τ).loc Cert.PostDilRefIdeal.main_arg2)
      ∧ r.2.mem ((c.tc : Thread Cert.PostDilRefIdeal.nD Cert.PostDilRefIdeal.τ).loc Cert.PostDilRefIdeal.main_arg3) = m ((c.tc : Thread Cert.PostDilRefIdeal.nD Cert.PostDilRefIdeal.τ).loc Cert.PostDilRefIdeal.main_arg3)
      ∧ r.2.mem ((c.tc : Thread Cert.PostDilRefIdeal.nD Cert.PostDilRefIdeal.τ).loc Cert.PostDilRefIdeal.main_arg4) = m ((c.tc : Thread Cert.PostDilRefIdeal.nD Cert.PostDilRefIdeal.τ).loc Cert.PostDilRefIdeal.main_arg4)
      ∧ r.2.mem ((c.tc : Thread Cert.PostDilRefIdeal.nD Cert.PostDilRefIdeal.τ).loc Cert.PostDilRefIdeal.main_arg5) = m ((c.tc : Thread Cert.PostDilRefIdeal.nD Cert.PostDilRefIdeal.τ).loc Cert.PostDilRefIdeal.main_arg5))
      ∧ r.2.sem = fun _ => 0)

def quiescent_MlaProj [hMlaProj : Cert.MlaProj.Facts] : Prop :=
  ∀ (m : (ℓ : Loc Cert.MlaProj.nD Cert.MlaProj.τ Cert.MlaProj.sig) → Buf (Elt Bits) ℓ) (g : Dev Cert.MlaProj.nD → PrngReg), Pre_MlaProj m →
    θ_run (Cert.MlaProj.defs (F := Bits)) (onTc (τ := Cert.MlaProj.τ) (Cert.MlaProj.main (F := Bits))) ⟨m, fun _ => 0, g⟩ (fun r => (∀ c : Dev Cert.MlaProj.nD,
      r.2.mem ((c.tc : Thread Cert.MlaProj.nD Cert.MlaProj.τ).loc Cert.MlaProj.main_arg0) = m ((c.tc : Thread Cert.MlaProj.nD Cert.MlaProj.τ).loc Cert.MlaProj.main_arg0)
      ∧ r.2.mem ((c.tc : Thread Cert.MlaProj.nD Cert.MlaProj.τ).loc Cert.MlaProj.main_arg1) = m ((c.tc : Thread Cert.MlaProj.nD Cert.MlaProj.τ).loc Cert.MlaProj.main_arg1)
      ∧ r.2.mem ((c.tc : Thread Cert.MlaProj.nD Cert.MlaProj.τ).loc Cert.MlaProj.main_arg2) = m ((c.tc : Thread Cert.MlaProj.nD Cert.MlaProj.τ).loc Cert.MlaProj.main_arg2)
      ∧ r.2.mem ((c.tc : Thread Cert.MlaProj.nD Cert.MlaProj.τ).loc Cert.MlaProj.main_arg3) = m ((c.tc : Thread Cert.MlaProj.nD Cert.MlaProj.τ).loc Cert.MlaProj.main_arg3)
      ∧ r.2.mem ((c.tc : Thread Cert.MlaProj.nD Cert.MlaProj.τ).loc Cert.MlaProj.main_arg4) = m ((c.tc : Thread Cert.MlaProj.nD Cert.MlaProj.τ).loc Cert.MlaProj.main_arg4)
      ∧ r.2.mem ((c.tc : Thread Cert.MlaProj.nD Cert.MlaProj.τ).loc Cert.MlaProj.main_arg5) = m ((c.tc : Thread Cert.MlaProj.nD Cert.MlaProj.τ).loc Cert.MlaProj.main_arg5)
      ∧ r.2.mem ((c.tc : Thread Cert.MlaProj.nD Cert.MlaProj.τ).loc Cert.MlaProj.main_arg6) = m ((c.tc : Thread Cert.MlaProj.nD Cert.MlaProj.τ).loc Cert.MlaProj.main_arg6)
      ∧ r.2.mem ((c.tc : Thread Cert.MlaProj.nD Cert.MlaProj.τ).loc Cert.MlaProj.main_arg7) = m ((c.tc : Thread Cert.MlaProj.nD Cert.MlaProj.τ).loc Cert.MlaProj.main_arg7)
      ∧ r.2.mem ((c.tc : Thread Cert.MlaProj.nD Cert.MlaProj.τ).loc Cert.MlaProj.main_arg8) = m ((c.tc : Thread Cert.MlaProj.nD Cert.MlaProj.τ).loc Cert.MlaProj.main_arg8))
      ∧ r.2.sem = fun _ => 0)

def quiescent_MlaProjIdeal [hMlaProjIdeal : Cert.MlaProjIdeal.Facts] : Prop :=
  ∀ (m : (ℓ : Loc Cert.MlaProjIdeal.nD Cert.MlaProjIdeal.τ Cert.MlaProjIdeal.sig) → Buf (Elt Ideal) ℓ) (g : Dev Cert.MlaProjIdeal.nD → PrngReg), Pre_MlaProjIdeal m →
    θ_run (Cert.MlaProjIdeal.defs (F := Ideal)) (onTc (τ := Cert.MlaProjIdeal.τ) (Cert.MlaProjIdeal.main (F := Ideal))) ⟨m, fun _ => 0, g⟩ (fun r => (∀ c : Dev Cert.MlaProjIdeal.nD,
      r.2.mem ((c.tc : Thread Cert.MlaProjIdeal.nD Cert.MlaProjIdeal.τ).loc Cert.MlaProjIdeal.main_arg0) = m ((c.tc : Thread Cert.MlaProjIdeal.nD Cert.MlaProjIdeal.τ).loc Cert.MlaProjIdeal.main_arg0)
      ∧ r.2.mem ((c.tc : Thread Cert.MlaProjIdeal.nD Cert.MlaProjIdeal.τ).loc Cert.MlaProjIdeal.main_arg1) = m ((c.tc : Thread Cert.MlaProjIdeal.nD Cert.MlaProjIdeal.τ).loc Cert.MlaProjIdeal.main_arg1)
      ∧ r.2.mem ((c.tc : Thread Cert.MlaProjIdeal.nD Cert.MlaProjIdeal.τ).loc Cert.MlaProjIdeal.main_arg2) = m ((c.tc : Thread Cert.MlaProjIdeal.nD Cert.MlaProjIdeal.τ).loc Cert.MlaProjIdeal.main_arg2)
      ∧ r.2.mem ((c.tc : Thread Cert.MlaProjIdeal.nD Cert.MlaProjIdeal.τ).loc Cert.MlaProjIdeal.main_arg3) = m ((c.tc : Thread Cert.MlaProjIdeal.nD Cert.MlaProjIdeal.τ).loc Cert.MlaProjIdeal.main_arg3)
      ∧ r.2.mem ((c.tc : Thread Cert.MlaProjIdeal.nD Cert.MlaProjIdeal.τ).loc Cert.MlaProjIdeal.main_arg4) = m ((c.tc : Thread Cert.MlaProjIdeal.nD Cert.MlaProjIdeal.τ).loc Cert.MlaProjIdeal.main_arg4)
      ∧ r.2.mem ((c.tc : Thread Cert.MlaProjIdeal.nD Cert.MlaProjIdeal.τ).loc Cert.MlaProjIdeal.main_arg5) = m ((c.tc : Thread Cert.MlaProjIdeal.nD Cert.MlaProjIdeal.τ).loc Cert.MlaProjIdeal.main_arg5)
      ∧ r.2.mem ((c.tc : Thread Cert.MlaProjIdeal.nD Cert.MlaProjIdeal.τ).loc Cert.MlaProjIdeal.main_arg6) = m ((c.tc : Thread Cert.MlaProjIdeal.nD Cert.MlaProjIdeal.τ).loc Cert.MlaProjIdeal.main_arg6)
      ∧ r.2.mem ((c.tc : Thread Cert.MlaProjIdeal.nD Cert.MlaProjIdeal.τ).loc Cert.MlaProjIdeal.main_arg7) = m ((c.tc : Thread Cert.MlaProjIdeal.nD Cert.MlaProjIdeal.τ).loc Cert.MlaProjIdeal.main_arg7)
      ∧ r.2.mem ((c.tc : Thread Cert.MlaProjIdeal.nD Cert.MlaProjIdeal.τ).loc Cert.MlaProjIdeal.main_arg8) = m ((c.tc : Thread Cert.MlaProjIdeal.nD Cert.MlaProjIdeal.τ).loc Cert.MlaProjIdeal.main_arg8))
      ∧ r.2.sem = fun _ => 0)

def quiescent_MlaProjRefIdeal [hMlaProjRefIdeal : Cert.MlaProjRefIdeal.Facts] : Prop :=
  ∀ (m : (ℓ : Loc Cert.MlaProjRefIdeal.nD Cert.MlaProjRefIdeal.τ Cert.MlaProjRefIdeal.sig) → Buf (Elt Ideal) ℓ) (g : Dev Cert.MlaProjRefIdeal.nD → PrngReg), Pre_MlaProjRefIdeal m →
    θ_run (Cert.MlaProjRefIdeal.defs (F := Ideal)) (onTc (τ := Cert.MlaProjRefIdeal.τ) (Cert.MlaProjRefIdeal.main (F := Ideal))) ⟨m, fun _ => 0, g⟩ (fun r => (∀ c : Dev Cert.MlaProjRefIdeal.nD,
      r.2.mem ((c.tc : Thread Cert.MlaProjRefIdeal.nD Cert.MlaProjRefIdeal.τ).loc Cert.MlaProjRefIdeal.main_arg0) = m ((c.tc : Thread Cert.MlaProjRefIdeal.nD Cert.MlaProjRefIdeal.τ).loc Cert.MlaProjRefIdeal.main_arg0)
      ∧ r.2.mem ((c.tc : Thread Cert.MlaProjRefIdeal.nD Cert.MlaProjRefIdeal.τ).loc Cert.MlaProjRefIdeal.main_arg1) = m ((c.tc : Thread Cert.MlaProjRefIdeal.nD Cert.MlaProjRefIdeal.τ).loc Cert.MlaProjRefIdeal.main_arg1)
      ∧ r.2.mem ((c.tc : Thread Cert.MlaProjRefIdeal.nD Cert.MlaProjRefIdeal.τ).loc Cert.MlaProjRefIdeal.main_arg2) = m ((c.tc : Thread Cert.MlaProjRefIdeal.nD Cert.MlaProjRefIdeal.τ).loc Cert.MlaProjRefIdeal.main_arg2)
      ∧ r.2.mem ((c.tc : Thread Cert.MlaProjRefIdeal.nD Cert.MlaProjRefIdeal.τ).loc Cert.MlaProjRefIdeal.main_arg3) = m ((c.tc : Thread Cert.MlaProjRefIdeal.nD Cert.MlaProjRefIdeal.τ).loc Cert.MlaProjRefIdeal.main_arg3)
      ∧ r.2.mem ((c.tc : Thread Cert.MlaProjRefIdeal.nD Cert.MlaProjRefIdeal.τ).loc Cert.MlaProjRefIdeal.main_arg4) = m ((c.tc : Thread Cert.MlaProjRefIdeal.nD Cert.MlaProjRefIdeal.τ).loc Cert.MlaProjRefIdeal.main_arg4)
      ∧ r.2.mem ((c.tc : Thread Cert.MlaProjRefIdeal.nD Cert.MlaProjRefIdeal.τ).loc Cert.MlaProjRefIdeal.main_arg5) = m ((c.tc : Thread Cert.MlaProjRefIdeal.nD Cert.MlaProjRefIdeal.τ).loc Cert.MlaProjRefIdeal.main_arg5)
      ∧ r.2.mem ((c.tc : Thread Cert.MlaProjRefIdeal.nD Cert.MlaProjRefIdeal.τ).loc Cert.MlaProjRefIdeal.main_arg6) = m ((c.tc : Thread Cert.MlaProjRefIdeal.nD Cert.MlaProjRefIdeal.τ).loc Cert.MlaProjRefIdeal.main_arg6)
      ∧ r.2.mem ((c.tc : Thread Cert.MlaProjRefIdeal.nD Cert.MlaProjRefIdeal.τ).loc Cert.MlaProjRefIdeal.main_arg7) = m ((c.tc : Thread Cert.MlaProjRefIdeal.nD Cert.MlaProjRefIdeal.τ).loc Cert.MlaProjRefIdeal.main_arg7)
      ∧ r.2.mem ((c.tc : Thread Cert.MlaProjRefIdeal.nD Cert.MlaProjRefIdeal.τ).loc Cert.MlaProjRefIdeal.main_arg8) = m ((c.tc : Thread Cert.MlaProjRefIdeal.nD Cert.MlaProjRefIdeal.τ).loc Cert.MlaProjRefIdeal.main_arg8))
      ∧ r.2.sem = fun _ => 0)

def quiescent_DilAttn [hDilAttn : Cert.DilAttn.Facts] : Prop :=
  ∀ (m : (ℓ : Loc Cert.DilAttn.nD Cert.DilAttn.τ Cert.DilAttn.sig) → Buf (Elt Bits) ℓ) (g : Dev Cert.DilAttn.nD → PrngReg), Pre_DilAttn m →
    θ_run (Cert.DilAttn.defs (F := Bits)) (onTc (τ := Cert.DilAttn.τ) (Cert.DilAttn.main (F := Bits))) ⟨m, fun _ => 0, g⟩ (fun r => (∀ c : Dev Cert.DilAttn.nD,
      r.2.mem ((c.tc : Thread Cert.DilAttn.nD Cert.DilAttn.τ).loc Cert.DilAttn.main_arg0) = m ((c.tc : Thread Cert.DilAttn.nD Cert.DilAttn.τ).loc Cert.DilAttn.main_arg0)
      ∧ r.2.mem ((c.tc : Thread Cert.DilAttn.nD Cert.DilAttn.τ).loc Cert.DilAttn.main_arg1) = m ((c.tc : Thread Cert.DilAttn.nD Cert.DilAttn.τ).loc Cert.DilAttn.main_arg1))
      ∧ r.2.sem = fun _ => 0)

def quiescent_DilAttnIdeal [hDilAttnIdeal : Cert.DilAttnIdeal.Facts] : Prop :=
  ∀ (m : (ℓ : Loc Cert.DilAttnIdeal.nD Cert.DilAttnIdeal.τ Cert.DilAttnIdeal.sig) → Buf (Elt Ideal) ℓ) (g : Dev Cert.DilAttnIdeal.nD → PrngReg), Pre_DilAttnIdeal m →
    θ_run (Cert.DilAttnIdeal.defs (F := Ideal)) (onTc (τ := Cert.DilAttnIdeal.τ) (Cert.DilAttnIdeal.main (F := Ideal))) ⟨m, fun _ => 0, g⟩ (fun r => (∀ c : Dev Cert.DilAttnIdeal.nD,
      r.2.mem ((c.tc : Thread Cert.DilAttnIdeal.nD Cert.DilAttnIdeal.τ).loc Cert.DilAttnIdeal.main_arg0) = m ((c.tc : Thread Cert.DilAttnIdeal.nD Cert.DilAttnIdeal.τ).loc Cert.DilAttnIdeal.main_arg0)
      ∧ r.2.mem ((c.tc : Thread Cert.DilAttnIdeal.nD Cert.DilAttnIdeal.τ).loc Cert.DilAttnIdeal.main_arg1) = m ((c.tc : Thread Cert.DilAttnIdeal.nD Cert.DilAttnIdeal.τ).loc Cert.DilAttnIdeal.main_arg1))
      ∧ r.2.sem = fun _ => 0)

def quiescent_DilAttnRefIdeal [hDilAttnRefIdeal : Cert.DilAttnRefIdeal.Facts] : Prop :=
  ∀ (m : (ℓ : Loc Cert.DilAttnRefIdeal.nD Cert.DilAttnRefIdeal.τ Cert.DilAttnRefIdeal.sig) → Buf (Elt Ideal) ℓ) (g : Dev Cert.DilAttnRefIdeal.nD → PrngReg), Pre_DilAttnRefIdeal m →
    θ_run (Cert.DilAttnRefIdeal.defs (F := Ideal)) (onTc (τ := Cert.DilAttnRefIdeal.τ) (Cert.DilAttnRefIdeal.main (F := Ideal))) ⟨m, fun _ => 0, g⟩ (fun r => (∀ c : Dev Cert.DilAttnRefIdeal.nD,
      r.2.mem ((c.tc : Thread Cert.DilAttnRefIdeal.nD Cert.DilAttnRefIdeal.τ).loc Cert.DilAttnRefIdeal.main_arg0) = m ((c.tc : Thread Cert.DilAttnRefIdeal.nD Cert.DilAttnRefIdeal.τ).loc Cert.DilAttnRefIdeal.main_arg0)
      ∧ r.2.mem ((c.tc : Thread Cert.DilAttnRefIdeal.nD Cert.DilAttnRefIdeal.τ).loc Cert.DilAttnRefIdeal.main_arg1) = m ((c.tc : Thread Cert.DilAttnRefIdeal.nD Cert.DilAttnRefIdeal.τ).loc Cert.DilAttnRefIdeal.main_arg1))
      ∧ r.2.sem = fun _ => 0)

def quiescent_PostFinalSample [hPostFinalSample : Cert.PostFinalSample.Facts] : Prop :=
  ∀ (m : (ℓ : Loc Cert.PostFinalSample.nD Cert.PostFinalSample.τ Cert.PostFinalSample.sig) → Buf (Elt Bits) ℓ) (g : Dev Cert.PostFinalSample.nD → PrngReg), Pre_PostFinalSample m →
    θ_run (Cert.PostFinalSample.defs (F := Bits)) (onTc (τ := Cert.PostFinalSample.τ) (Cert.PostFinalSample.main (F := Bits))) ⟨m, fun _ => 0, g⟩ (fun r => (∀ c : Dev Cert.PostFinalSample.nD,
      r.2.mem ((c.tc : Thread Cert.PostFinalSample.nD Cert.PostFinalSample.τ).loc Cert.PostFinalSample.main_arg0) = m ((c.tc : Thread Cert.PostFinalSample.nD Cert.PostFinalSample.τ).loc Cert.PostFinalSample.main_arg0)
      ∧ r.2.mem ((c.tc : Thread Cert.PostFinalSample.nD Cert.PostFinalSample.τ).loc Cert.PostFinalSample.main_arg1) = m ((c.tc : Thread Cert.PostFinalSample.nD Cert.PostFinalSample.τ).loc Cert.PostFinalSample.main_arg1)
      ∧ r.2.mem ((c.tc : Thread Cert.PostFinalSample.nD Cert.PostFinalSample.τ).loc Cert.PostFinalSample.main_arg2) = m ((c.tc : Thread Cert.PostFinalSample.nD Cert.PostFinalSample.τ).loc Cert.PostFinalSample.main_arg2)
      ∧ r.2.mem ((c.tc : Thread Cert.PostFinalSample.nD Cert.PostFinalSample.τ).loc Cert.PostFinalSample.main_arg3) = m ((c.tc : Thread Cert.PostFinalSample.nD Cert.PostFinalSample.τ).loc Cert.PostFinalSample.main_arg3)
      ∧ r.2.mem ((c.tc : Thread Cert.PostFinalSample.nD Cert.PostFinalSample.τ).loc Cert.PostFinalSample.main_arg4) = m ((c.tc : Thread Cert.PostFinalSample.nD Cert.PostFinalSample.τ).loc Cert.PostFinalSample.main_arg4)
      ∧ r.2.mem ((c.tc : Thread Cert.PostFinalSample.nD Cert.PostFinalSample.τ).loc Cert.PostFinalSample.main_arg5) = m ((c.tc : Thread Cert.PostFinalSample.nD Cert.PostFinalSample.τ).loc Cert.PostFinalSample.main_arg5)
      ∧ r.2.mem ((c.tc : Thread Cert.PostFinalSample.nD Cert.PostFinalSample.τ).loc Cert.PostFinalSample.main_arg6) = m ((c.tc : Thread Cert.PostFinalSample.nD Cert.PostFinalSample.τ).loc Cert.PostFinalSample.main_arg6))
      ∧ r.2.sem = fun _ => 0)

def quiescent_PostFinalSampleIdeal [hPostFinalSampleIdeal : Cert.PostFinalSampleIdeal.Facts] : Prop :=
  ∀ (m : (ℓ : Loc Cert.PostFinalSampleIdeal.nD Cert.PostFinalSampleIdeal.τ Cert.PostFinalSampleIdeal.sig) → Buf (Elt Ideal) ℓ) (g : Dev Cert.PostFinalSampleIdeal.nD → PrngReg), Pre_PostFinalSampleIdeal m →
    θ_run (Cert.PostFinalSampleIdeal.defs (F := Ideal)) (onTc (τ := Cert.PostFinalSampleIdeal.τ) (Cert.PostFinalSampleIdeal.main (F := Ideal))) ⟨m, fun _ => 0, g⟩ (fun r => (∀ c : Dev Cert.PostFinalSampleIdeal.nD,
      r.2.mem ((c.tc : Thread Cert.PostFinalSampleIdeal.nD Cert.PostFinalSampleIdeal.τ).loc Cert.PostFinalSampleIdeal.main_arg0) = m ((c.tc : Thread Cert.PostFinalSampleIdeal.nD Cert.PostFinalSampleIdeal.τ).loc Cert.PostFinalSampleIdeal.main_arg0)
      ∧ r.2.mem ((c.tc : Thread Cert.PostFinalSampleIdeal.nD Cert.PostFinalSampleIdeal.τ).loc Cert.PostFinalSampleIdeal.main_arg1) = m ((c.tc : Thread Cert.PostFinalSampleIdeal.nD Cert.PostFinalSampleIdeal.τ).loc Cert.PostFinalSampleIdeal.main_arg1)
      ∧ r.2.mem ((c.tc : Thread Cert.PostFinalSampleIdeal.nD Cert.PostFinalSampleIdeal.τ).loc Cert.PostFinalSampleIdeal.main_arg2) = m ((c.tc : Thread Cert.PostFinalSampleIdeal.nD Cert.PostFinalSampleIdeal.τ).loc Cert.PostFinalSampleIdeal.main_arg2)
      ∧ r.2.mem ((c.tc : Thread Cert.PostFinalSampleIdeal.nD Cert.PostFinalSampleIdeal.τ).loc Cert.PostFinalSampleIdeal.main_arg3) = m ((c.tc : Thread Cert.PostFinalSampleIdeal.nD Cert.PostFinalSampleIdeal.τ).loc Cert.PostFinalSampleIdeal.main_arg3)
      ∧ r.2.mem ((c.tc : Thread Cert.PostFinalSampleIdeal.nD Cert.PostFinalSampleIdeal.τ).loc Cert.PostFinalSampleIdeal.main_arg4) = m ((c.tc : Thread Cert.PostFinalSampleIdeal.nD Cert.PostFinalSampleIdeal.τ).loc Cert.PostFinalSampleIdeal.main_arg4)
      ∧ r.2.mem ((c.tc : Thread Cert.PostFinalSampleIdeal.nD Cert.PostFinalSampleIdeal.τ).loc Cert.PostFinalSampleIdeal.main_arg5) = m ((c.tc : Thread Cert.PostFinalSampleIdeal.nD Cert.PostFinalSampleIdeal.τ).loc Cert.PostFinalSampleIdeal.main_arg5)
      ∧ r.2.mem ((c.tc : Thread Cert.PostFinalSampleIdeal.nD Cert.PostFinalSampleIdeal.τ).loc Cert.PostFinalSampleIdeal.main_arg6) = m ((c.tc : Thread Cert.PostFinalSampleIdeal.nD Cert.PostFinalSampleIdeal.τ).loc Cert.PostFinalSampleIdeal.main_arg6))
      ∧ r.2.sem = fun _ => 0)

def quiescent_PostFinalSampleRefIdeal [hPostFinalSampleRefIdeal : Cert.PostFinalSampleRefIdeal.Facts] : Prop :=
  ∀ (m : (ℓ : Loc Cert.PostFinalSampleRefIdeal.nD Cert.PostFinalSampleRefIdeal.τ Cert.PostFinalSampleRefIdeal.sig) → Buf (Elt Ideal) ℓ) (g : Dev Cert.PostFinalSampleRefIdeal.nD → PrngReg), Pre_PostFinalSampleRefIdeal m →
    θ_run (Cert.PostFinalSampleRefIdeal.defs (F := Ideal)) (onTc (τ := Cert.PostFinalSampleRefIdeal.τ) (Cert.PostFinalSampleRefIdeal.main (F := Ideal))) ⟨m, fun _ => 0, g⟩ (fun r => (∀ c : Dev Cert.PostFinalSampleRefIdeal.nD,
      r.2.mem ((c.tc : Thread Cert.PostFinalSampleRefIdeal.nD Cert.PostFinalSampleRefIdeal.τ).loc Cert.PostFinalSampleRefIdeal.main_arg0) = m ((c.tc : Thread Cert.PostFinalSampleRefIdeal.nD Cert.PostFinalSampleRefIdeal.τ).loc Cert.PostFinalSampleRefIdeal.main_arg0)
      ∧ r.2.mem ((c.tc : Thread Cert.PostFinalSampleRefIdeal.nD Cert.PostFinalSampleRefIdeal.τ).loc Cert.PostFinalSampleRefIdeal.main_arg1) = m ((c.tc : Thread Cert.PostFinalSampleRefIdeal.nD Cert.PostFinalSampleRefIdeal.τ).loc Cert.PostFinalSampleRefIdeal.main_arg1)
      ∧ r.2.mem ((c.tc : Thread Cert.PostFinalSampleRefIdeal.nD Cert.PostFinalSampleRefIdeal.τ).loc Cert.PostFinalSampleRefIdeal.main_arg2) = m ((c.tc : Thread Cert.PostFinalSampleRefIdeal.nD Cert.PostFinalSampleRefIdeal.τ).loc Cert.PostFinalSampleRefIdeal.main_arg2)
      ∧ r.2.mem ((c.tc : Thread Cert.PostFinalSampleRefIdeal.nD Cert.PostFinalSampleRefIdeal.τ).loc Cert.PostFinalSampleRefIdeal.main_arg3) = m ((c.tc : Thread Cert.PostFinalSampleRefIdeal.nD Cert.PostFinalSampleRefIdeal.τ).loc Cert.PostFinalSampleRefIdeal.main_arg3)
      ∧ r.2.mem ((c.tc : Thread Cert.PostFinalSampleRefIdeal.nD Cert.PostFinalSampleRefIdeal.τ).loc Cert.PostFinalSampleRefIdeal.main_arg4) = m ((c.tc : Thread Cert.PostFinalSampleRefIdeal.nD Cert.PostFinalSampleRefIdeal.τ).loc Cert.PostFinalSampleRefIdeal.main_arg4)
      ∧ r.2.mem ((c.tc : Thread Cert.PostFinalSampleRefIdeal.nD Cert.PostFinalSampleRefIdeal.τ).loc Cert.PostFinalSampleRefIdeal.main_arg5) = m ((c.tc : Thread Cert.PostFinalSampleRefIdeal.nD Cert.PostFinalSampleRefIdeal.τ).loc Cert.PostFinalSampleRefIdeal.main_arg5)
      ∧ r.2.mem ((c.tc : Thread Cert.PostFinalSampleRefIdeal.nD Cert.PostFinalSampleRefIdeal.τ).loc Cert.PostFinalSampleRefIdeal.main_arg6) = m ((c.tc : Thread Cert.PostFinalSampleRefIdeal.nD Cert.PostFinalSampleRefIdeal.τ).loc Cert.PostFinalSampleRefIdeal.main_arg6))
      ∧ r.2.sem = fun _ => 0)

def quiescent_DilProjSample [hDilProjSample : Cert.DilProjSample.Facts] : Prop :=
  ∀ (m : (ℓ : Loc Cert.DilProjSample.nD Cert.DilProjSample.τ Cert.DilProjSample.sig) → Buf (Elt Bits) ℓ) (g : Dev Cert.DilProjSample.nD → PrngReg), Pre_DilProjSample m →
    θ_run (Cert.DilProjSample.defs (F := Bits)) (onTc (τ := Cert.DilProjSample.τ) (Cert.DilProjSample.main (F := Bits))) ⟨m, fun _ => 0, g⟩ (fun r => (∀ c : Dev Cert.DilProjSample.nD,
      r.2.mem ((c.tc : Thread Cert.DilProjSample.nD Cert.DilProjSample.τ).loc Cert.DilProjSample.main_arg0) = m ((c.tc : Thread Cert.DilProjSample.nD Cert.DilProjSample.τ).loc Cert.DilProjSample.main_arg0)
      ∧ r.2.mem ((c.tc : Thread Cert.DilProjSample.nD Cert.DilProjSample.τ).loc Cert.DilProjSample.main_arg1) = m ((c.tc : Thread Cert.DilProjSample.nD Cert.DilProjSample.τ).loc Cert.DilProjSample.main_arg1)
      ∧ r.2.mem ((c.tc : Thread Cert.DilProjSample.nD Cert.DilProjSample.τ).loc Cert.DilProjSample.main_arg2) = m ((c.tc : Thread Cert.DilProjSample.nD Cert.DilProjSample.τ).loc Cert.DilProjSample.main_arg2)
      ∧ r.2.mem ((c.tc : Thread Cert.DilProjSample.nD Cert.DilProjSample.τ).loc Cert.DilProjSample.main_arg3) = m ((c.tc : Thread Cert.DilProjSample.nD Cert.DilProjSample.τ).loc Cert.DilProjSample.main_arg3)
      ∧ r.2.mem ((c.tc : Thread Cert.DilProjSample.nD Cert.DilProjSample.τ).loc Cert.DilProjSample.main_arg4) = m ((c.tc : Thread Cert.DilProjSample.nD Cert.DilProjSample.τ).loc Cert.DilProjSample.main_arg4)
      ∧ r.2.mem ((c.tc : Thread Cert.DilProjSample.nD Cert.DilProjSample.τ).loc Cert.DilProjSample.main_arg5) = m ((c.tc : Thread Cert.DilProjSample.nD Cert.DilProjSample.τ).loc Cert.DilProjSample.main_arg5))
      ∧ r.2.sem = fun _ => 0)

def quiescent_DilProjSampleIdeal [hDilProjSampleIdeal : Cert.DilProjSampleIdeal.Facts] : Prop :=
  ∀ (m : (ℓ : Loc Cert.DilProjSampleIdeal.nD Cert.DilProjSampleIdeal.τ Cert.DilProjSampleIdeal.sig) → Buf (Elt Ideal) ℓ) (g : Dev Cert.DilProjSampleIdeal.nD → PrngReg), Pre_DilProjSampleIdeal m →
    θ_run (Cert.DilProjSampleIdeal.defs (F := Ideal)) (onTc (τ := Cert.DilProjSampleIdeal.τ) (Cert.DilProjSampleIdeal.main (F := Ideal))) ⟨m, fun _ => 0, g⟩ (fun r => (∀ c : Dev Cert.DilProjSampleIdeal.nD,
      r.2.mem ((c.tc : Thread Cert.DilProjSampleIdeal.nD Cert.DilProjSampleIdeal.τ).loc Cert.DilProjSampleIdeal.main_arg0) = m ((c.tc : Thread Cert.DilProjSampleIdeal.nD Cert.DilProjSampleIdeal.τ).loc Cert.DilProjSampleIdeal.main_arg0)
      ∧ r.2.mem ((c.tc : Thread Cert.DilProjSampleIdeal.nD Cert.DilProjSampleIdeal.τ).loc Cert.DilProjSampleIdeal.main_arg1) = m ((c.tc : Thread Cert.DilProjSampleIdeal.nD Cert.DilProjSampleIdeal.τ).loc Cert.DilProjSampleIdeal.main_arg1)
      ∧ r.2.mem ((c.tc : Thread Cert.DilProjSampleIdeal.nD Cert.DilProjSampleIdeal.τ).loc Cert.DilProjSampleIdeal.main_arg2) = m ((c.tc : Thread Cert.DilProjSampleIdeal.nD Cert.DilProjSampleIdeal.τ).loc Cert.DilProjSampleIdeal.main_arg2)
      ∧ r.2.mem ((c.tc : Thread Cert.DilProjSampleIdeal.nD Cert.DilProjSampleIdeal.τ).loc Cert.DilProjSampleIdeal.main_arg3) = m ((c.tc : Thread Cert.DilProjSampleIdeal.nD Cert.DilProjSampleIdeal.τ).loc Cert.DilProjSampleIdeal.main_arg3)
      ∧ r.2.mem ((c.tc : Thread Cert.DilProjSampleIdeal.nD Cert.DilProjSampleIdeal.τ).loc Cert.DilProjSampleIdeal.main_arg4) = m ((c.tc : Thread Cert.DilProjSampleIdeal.nD Cert.DilProjSampleIdeal.τ).loc Cert.DilProjSampleIdeal.main_arg4)
      ∧ r.2.mem ((c.tc : Thread Cert.DilProjSampleIdeal.nD Cert.DilProjSampleIdeal.τ).loc Cert.DilProjSampleIdeal.main_arg5) = m ((c.tc : Thread Cert.DilProjSampleIdeal.nD Cert.DilProjSampleIdeal.τ).loc Cert.DilProjSampleIdeal.main_arg5))
      ∧ r.2.sem = fun _ => 0)

def quiescent_DilProjSampleRefIdeal [hDilProjSampleRefIdeal : Cert.DilProjSampleRefIdeal.Facts] : Prop :=
  ∀ (m : (ℓ : Loc Cert.DilProjSampleRefIdeal.nD Cert.DilProjSampleRefIdeal.τ Cert.DilProjSampleRefIdeal.sig) → Buf (Elt Ideal) ℓ) (g : Dev Cert.DilProjSampleRefIdeal.nD → PrngReg), Pre_DilProjSampleRefIdeal m →
    θ_run (Cert.DilProjSampleRefIdeal.defs (F := Ideal)) (onTc (τ := Cert.DilProjSampleRefIdeal.τ) (Cert.DilProjSampleRefIdeal.main (F := Ideal))) ⟨m, fun _ => 0, g⟩ (fun r => (∀ c : Dev Cert.DilProjSampleRefIdeal.nD,
      r.2.mem ((c.tc : Thread Cert.DilProjSampleRefIdeal.nD Cert.DilProjSampleRefIdeal.τ).loc Cert.DilProjSampleRefIdeal.main_arg0) = m ((c.tc : Thread Cert.DilProjSampleRefIdeal.nD Cert.DilProjSampleRefIdeal.τ).loc Cert.DilProjSampleRefIdeal.main_arg0)
      ∧ r.2.mem ((c.tc : Thread Cert.DilProjSampleRefIdeal.nD Cert.DilProjSampleRefIdeal.τ).loc Cert.DilProjSampleRefIdeal.main_arg1) = m ((c.tc : Thread Cert.DilProjSampleRefIdeal.nD Cert.DilProjSampleRefIdeal.τ).loc Cert.DilProjSampleRefIdeal.main_arg1)
      ∧ r.2.mem ((c.tc : Thread Cert.DilProjSampleRefIdeal.nD Cert.DilProjSampleRefIdeal.τ).loc Cert.DilProjSampleRefIdeal.main_arg2) = m ((c.tc : Thread Cert.DilProjSampleRefIdeal.nD Cert.DilProjSampleRefIdeal.τ).loc Cert.DilProjSampleRefIdeal.main_arg2)
      ∧ r.2.mem ((c.tc : Thread Cert.DilProjSampleRefIdeal.nD Cert.DilProjSampleRefIdeal.τ).loc Cert.DilProjSampleRefIdeal.main_arg3) = m ((c.tc : Thread Cert.DilProjSampleRefIdeal.nD Cert.DilProjSampleRefIdeal.τ).loc Cert.DilProjSampleRefIdeal.main_arg3)
      ∧ r.2.mem ((c.tc : Thread Cert.DilProjSampleRefIdeal.nD Cert.DilProjSampleRefIdeal.τ).loc Cert.DilProjSampleRefIdeal.main_arg4) = m ((c.tc : Thread Cert.DilProjSampleRefIdeal.nD Cert.DilProjSampleRefIdeal.τ).loc Cert.DilProjSampleRefIdeal.main_arg4)
      ∧ r.2.mem ((c.tc : Thread Cert.DilProjSampleRefIdeal.nD Cert.DilProjSampleRefIdeal.τ).loc Cert.DilProjSampleRefIdeal.main_arg5) = m ((c.tc : Thread Cert.DilProjSampleRefIdeal.nD Cert.DilProjSampleRefIdeal.τ).loc Cert.DilProjSampleRefIdeal.main_arg5))
      ∧ r.2.sem = fun _ => 0)

def quiescent_MlaProjSample [hMlaProjSample : Cert.MlaProjSample.Facts] : Prop :=
  ∀ (m : (ℓ : Loc Cert.MlaProjSample.nD Cert.MlaProjSample.τ Cert.MlaProjSample.sig) → Buf (Elt Bits) ℓ) (g : Dev Cert.MlaProjSample.nD → PrngReg), Pre_MlaProjSample m →
    θ_run (Cert.MlaProjSample.defs (F := Bits)) (onTc (τ := Cert.MlaProjSample.τ) (Cert.MlaProjSample.main (F := Bits))) ⟨m, fun _ => 0, g⟩ (fun r => (∀ c : Dev Cert.MlaProjSample.nD,
      r.2.mem ((c.tc : Thread Cert.MlaProjSample.nD Cert.MlaProjSample.τ).loc Cert.MlaProjSample.main_arg0) = m ((c.tc : Thread Cert.MlaProjSample.nD Cert.MlaProjSample.τ).loc Cert.MlaProjSample.main_arg0)
      ∧ r.2.mem ((c.tc : Thread Cert.MlaProjSample.nD Cert.MlaProjSample.τ).loc Cert.MlaProjSample.main_arg1) = m ((c.tc : Thread Cert.MlaProjSample.nD Cert.MlaProjSample.τ).loc Cert.MlaProjSample.main_arg1)
      ∧ r.2.mem ((c.tc : Thread Cert.MlaProjSample.nD Cert.MlaProjSample.τ).loc Cert.MlaProjSample.main_arg2) = m ((c.tc : Thread Cert.MlaProjSample.nD Cert.MlaProjSample.τ).loc Cert.MlaProjSample.main_arg2)
      ∧ r.2.mem ((c.tc : Thread Cert.MlaProjSample.nD Cert.MlaProjSample.τ).loc Cert.MlaProjSample.main_arg3) = m ((c.tc : Thread Cert.MlaProjSample.nD Cert.MlaProjSample.τ).loc Cert.MlaProjSample.main_arg3)
      ∧ r.2.mem ((c.tc : Thread Cert.MlaProjSample.nD Cert.MlaProjSample.τ).loc Cert.MlaProjSample.main_arg4) = m ((c.tc : Thread Cert.MlaProjSample.nD Cert.MlaProjSample.τ).loc Cert.MlaProjSample.main_arg4)
      ∧ r.2.mem ((c.tc : Thread Cert.MlaProjSample.nD Cert.MlaProjSample.τ).loc Cert.MlaProjSample.main_arg5) = m ((c.tc : Thread Cert.MlaProjSample.nD Cert.MlaProjSample.τ).loc Cert.MlaProjSample.main_arg5)
      ∧ r.2.mem ((c.tc : Thread Cert.MlaProjSample.nD Cert.MlaProjSample.τ).loc Cert.MlaProjSample.main_arg6) = m ((c.tc : Thread Cert.MlaProjSample.nD Cert.MlaProjSample.τ).loc Cert.MlaProjSample.main_arg6))
      ∧ r.2.sem = fun _ => 0)

def quiescent_MlaProjSampleIdeal [hMlaProjSampleIdeal : Cert.MlaProjSampleIdeal.Facts] : Prop :=
  ∀ (m : (ℓ : Loc Cert.MlaProjSampleIdeal.nD Cert.MlaProjSampleIdeal.τ Cert.MlaProjSampleIdeal.sig) → Buf (Elt Ideal) ℓ) (g : Dev Cert.MlaProjSampleIdeal.nD → PrngReg), Pre_MlaProjSampleIdeal m →
    θ_run (Cert.MlaProjSampleIdeal.defs (F := Ideal)) (onTc (τ := Cert.MlaProjSampleIdeal.τ) (Cert.MlaProjSampleIdeal.main (F := Ideal))) ⟨m, fun _ => 0, g⟩ (fun r => (∀ c : Dev Cert.MlaProjSampleIdeal.nD,
      r.2.mem ((c.tc : Thread Cert.MlaProjSampleIdeal.nD Cert.MlaProjSampleIdeal.τ).loc Cert.MlaProjSampleIdeal.main_arg0) = m ((c.tc : Thread Cert.MlaProjSampleIdeal.nD Cert.MlaProjSampleIdeal.τ).loc Cert.MlaProjSampleIdeal.main_arg0)
      ∧ r.2.mem ((c.tc : Thread Cert.MlaProjSampleIdeal.nD Cert.MlaProjSampleIdeal.τ).loc Cert.MlaProjSampleIdeal.main_arg1) = m ((c.tc : Thread Cert.MlaProjSampleIdeal.nD Cert.MlaProjSampleIdeal.τ).loc Cert.MlaProjSampleIdeal.main_arg1)
      ∧ r.2.mem ((c.tc : Thread Cert.MlaProjSampleIdeal.nD Cert.MlaProjSampleIdeal.τ).loc Cert.MlaProjSampleIdeal.main_arg2) = m ((c.tc : Thread Cert.MlaProjSampleIdeal.nD Cert.MlaProjSampleIdeal.τ).loc Cert.MlaProjSampleIdeal.main_arg2)
      ∧ r.2.mem ((c.tc : Thread Cert.MlaProjSampleIdeal.nD Cert.MlaProjSampleIdeal.τ).loc Cert.MlaProjSampleIdeal.main_arg3) = m ((c.tc : Thread Cert.MlaProjSampleIdeal.nD Cert.MlaProjSampleIdeal.τ).loc Cert.MlaProjSampleIdeal.main_arg3)
      ∧ r.2.mem ((c.tc : Thread Cert.MlaProjSampleIdeal.nD Cert.MlaProjSampleIdeal.τ).loc Cert.MlaProjSampleIdeal.main_arg4) = m ((c.tc : Thread Cert.MlaProjSampleIdeal.nD Cert.MlaProjSampleIdeal.τ).loc Cert.MlaProjSampleIdeal.main_arg4)
      ∧ r.2.mem ((c.tc : Thread Cert.MlaProjSampleIdeal.nD Cert.MlaProjSampleIdeal.τ).loc Cert.MlaProjSampleIdeal.main_arg5) = m ((c.tc : Thread Cert.MlaProjSampleIdeal.nD Cert.MlaProjSampleIdeal.τ).loc Cert.MlaProjSampleIdeal.main_arg5)
      ∧ r.2.mem ((c.tc : Thread Cert.MlaProjSampleIdeal.nD Cert.MlaProjSampleIdeal.τ).loc Cert.MlaProjSampleIdeal.main_arg6) = m ((c.tc : Thread Cert.MlaProjSampleIdeal.nD Cert.MlaProjSampleIdeal.τ).loc Cert.MlaProjSampleIdeal.main_arg6))
      ∧ r.2.sem = fun _ => 0)

def quiescent_MlaProjSampleRefIdeal [hMlaProjSampleRefIdeal : Cert.MlaProjSampleRefIdeal.Facts] : Prop :=
  ∀ (m : (ℓ : Loc Cert.MlaProjSampleRefIdeal.nD Cert.MlaProjSampleRefIdeal.τ Cert.MlaProjSampleRefIdeal.sig) → Buf (Elt Ideal) ℓ) (g : Dev Cert.MlaProjSampleRefIdeal.nD → PrngReg), Pre_MlaProjSampleRefIdeal m →
    θ_run (Cert.MlaProjSampleRefIdeal.defs (F := Ideal)) (onTc (τ := Cert.MlaProjSampleRefIdeal.τ) (Cert.MlaProjSampleRefIdeal.main (F := Ideal))) ⟨m, fun _ => 0, g⟩ (fun r => (∀ c : Dev Cert.MlaProjSampleRefIdeal.nD,
      r.2.mem ((c.tc : Thread Cert.MlaProjSampleRefIdeal.nD Cert.MlaProjSampleRefIdeal.τ).loc Cert.MlaProjSampleRefIdeal.main_arg0) = m ((c.tc : Thread Cert.MlaProjSampleRefIdeal.nD Cert.MlaProjSampleRefIdeal.τ).loc Cert.MlaProjSampleRefIdeal.main_arg0)
      ∧ r.2.mem ((c.tc : Thread Cert.MlaProjSampleRefIdeal.nD Cert.MlaProjSampleRefIdeal.τ).loc Cert.MlaProjSampleRefIdeal.main_arg1) = m ((c.tc : Thread Cert.MlaProjSampleRefIdeal.nD Cert.MlaProjSampleRefIdeal.τ).loc Cert.MlaProjSampleRefIdeal.main_arg1)
      ∧ r.2.mem ((c.tc : Thread Cert.MlaProjSampleRefIdeal.nD Cert.MlaProjSampleRefIdeal.τ).loc Cert.MlaProjSampleRefIdeal.main_arg2) = m ((c.tc : Thread Cert.MlaProjSampleRefIdeal.nD Cert.MlaProjSampleRefIdeal.τ).loc Cert.MlaProjSampleRefIdeal.main_arg2)
      ∧ r.2.mem ((c.tc : Thread Cert.MlaProjSampleRefIdeal.nD Cert.MlaProjSampleRefIdeal.τ).loc Cert.MlaProjSampleRefIdeal.main_arg3) = m ((c.tc : Thread Cert.MlaProjSampleRefIdeal.nD Cert.MlaProjSampleRefIdeal.τ).loc Cert.MlaProjSampleRefIdeal.main_arg3)
      ∧ r.2.mem ((c.tc : Thread Cert.MlaProjSampleRefIdeal.nD Cert.MlaProjSampleRefIdeal.τ).loc Cert.MlaProjSampleRefIdeal.main_arg4) = m ((c.tc : Thread Cert.MlaProjSampleRefIdeal.nD Cert.MlaProjSampleRefIdeal.τ).loc Cert.MlaProjSampleRefIdeal.main_arg4)
      ∧ r.2.mem ((c.tc : Thread Cert.MlaProjSampleRefIdeal.nD Cert.MlaProjSampleRefIdeal.τ).loc Cert.MlaProjSampleRefIdeal.main_arg5) = m ((c.tc : Thread Cert.MlaProjSampleRefIdeal.nD Cert.MlaProjSampleRefIdeal.τ).loc Cert.MlaProjSampleRefIdeal.main_arg5)
      ∧ r.2.mem ((c.tc : Thread Cert.MlaProjSampleRefIdeal.nD Cert.MlaProjSampleRefIdeal.τ).loc Cert.MlaProjSampleRefIdeal.main_arg6) = m ((c.tc : Thread Cert.MlaProjSampleRefIdeal.nD Cert.MlaProjSampleRefIdeal.τ).loc Cert.MlaProjSampleRefIdeal.main_arg6))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v28) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_PostMla_PostMlaIdeal : Prop :=
  True

def algebraic_PostMlaIdeal_PostMlaRefIdeal [hPostMlaIdeal : Cert.PostMlaIdeal.Facts] [hPostMlaRefIdeal : Cert.PostMlaRefIdeal.Facts] : Prop :=
  ∀ (m : (ℓ : Loc Cert.PostMlaIdeal.nD Cert.PostMlaIdeal.τ Cert.PostMlaIdeal.sig) → Buf (Elt Ideal) ℓ) (g : Dev Cert.PostMlaIdeal.nD → PrngReg)
    (m' : (ℓ : Loc Cert.PostMlaRefIdeal.nD Cert.PostMlaRefIdeal.τ Cert.PostMlaRefIdeal.sig) → Buf (Elt Ideal) ℓ) (g' : Dev Cert.PostMlaRefIdeal.nD → PrngReg), Pre_PostMlaIdeal m →
    (∀ c : Dev Cert.PostMlaIdeal.nD,
      m' ((c.tc : Thread Cert.PostMlaRefIdeal.nD Cert.PostMlaRefIdeal.τ).loc Cert.PostMlaRefIdeal.main_arg0) = m ((c.tc : Thread Cert.PostMlaIdeal.nD Cert.PostMlaIdeal.τ).loc Cert.PostMlaIdeal.main_arg0)
      ∧ m' ((c.tc : Thread Cert.PostMlaRefIdeal.nD Cert.PostMlaRefIdeal.τ).loc Cert.PostMlaRefIdeal.main_arg1) = m ((c.tc : Thread Cert.PostMlaIdeal.nD Cert.PostMlaIdeal.τ).loc Cert.PostMlaIdeal.main_arg1)
      ∧ m' ((c.tc : Thread Cert.PostMlaRefIdeal.nD Cert.PostMlaRefIdeal.τ).loc Cert.PostMlaRefIdeal.main_arg2) = m ((c.tc : Thread Cert.PostMlaIdeal.nD Cert.PostMlaIdeal.τ).loc Cert.PostMlaIdeal.main_arg2)
      ∧ m' ((c.tc : Thread Cert.PostMlaRefIdeal.nD Cert.PostMlaRefIdeal.τ).loc Cert.PostMlaRefIdeal.main_arg3) = m ((c.tc : Thread Cert.PostMlaIdeal.nD Cert.PostMlaIdeal.τ).loc Cert.PostMlaIdeal.main_arg3)
      ∧ m' ((c.tc : Thread Cert.PostMlaRefIdeal.nD Cert.PostMlaRefIdeal.τ).loc Cert.PostMlaRefIdeal.main_arg4) = m ((c.tc : Thread Cert.PostMlaIdeal.nD Cert.PostMlaIdeal.τ).loc Cert.PostMlaIdeal.main_arg4)
      ∧ m' ((c.tc : Thread Cert.PostMlaRefIdeal.nD Cert.PostMlaRefIdeal.τ).loc Cert.PostMlaRefIdeal.main_arg5) = m ((c.tc : Thread Cert.PostMlaIdeal.nD Cert.PostMlaIdeal.τ).loc Cert.PostMlaIdeal.main_arg5)) →
    ∃ (v0 : (c : Dev Cert.PostMlaIdeal.nD) → Buf (Elt Ideal) ((c.tc : Thread Cert.PostMlaIdeal.nD Cert.PostMlaIdeal.τ).loc Cert.PostMlaIdeal.main_v0)),
      θ_run (Cert.PostMlaIdeal.defs (F := Ideal)) (onTc (τ := Cert.PostMlaIdeal.τ) (Cert.PostMlaIdeal.main (F := Ideal))) ⟨m, fun _ => 0, g⟩ (fun r => ∀ c : Dev Cert.PostMlaIdeal.nD,
          r.2.mem ((c.tc : Thread Cert.PostMlaIdeal.nD Cert.PostMlaIdeal.τ).loc Cert.PostMlaIdeal.main_v0) = v0 c
          ∧ r.2.mem ((c.tc : Thread Cert.PostMlaIdeal.nD Cert.PostMlaIdeal.τ).loc Cert.PostMlaIdeal.main_arg0) = m ((c.tc : Thread Cert.PostMlaIdeal.nD Cert.PostMlaIdeal.τ).loc Cert.PostMlaIdeal.main_arg0)
          ∧ r.2.mem ((c.tc : Thread Cert.PostMlaIdeal.nD Cert.PostMlaIdeal.τ).loc Cert.PostMlaIdeal.main_arg1) = m ((c.tc : Thread Cert.PostMlaIdeal.nD Cert.PostMlaIdeal.τ).loc Cert.PostMlaIdeal.main_arg1)
          ∧ r.2.mem ((c.tc : Thread Cert.PostMlaIdeal.nD Cert.PostMlaIdeal.τ).loc Cert.PostMlaIdeal.main_arg2) = m ((c.tc : Thread Cert.PostMlaIdeal.nD Cert.PostMlaIdeal.τ).loc Cert.PostMlaIdeal.main_arg2)
          ∧ r.2.mem ((c.tc : Thread Cert.PostMlaIdeal.nD Cert.PostMlaIdeal.τ).loc Cert.PostMlaIdeal.main_arg3) = m ((c.tc : Thread Cert.PostMlaIdeal.nD Cert.PostMlaIdeal.τ).loc Cert.PostMlaIdeal.main_arg3)
          ∧ r.2.mem ((c.tc : Thread Cert.PostMlaIdeal.nD Cert.PostMlaIdeal.τ).loc Cert.PostMlaIdeal.main_arg4) = m ((c.tc : Thread Cert.PostMlaIdeal.nD Cert.PostMlaIdeal.τ).loc Cert.PostMlaIdeal.main_arg4)
          ∧ r.2.mem ((c.tc : Thread Cert.PostMlaIdeal.nD Cert.PostMlaIdeal.τ).loc Cert.PostMlaIdeal.main_arg5) = m ((c.tc : Thread Cert.PostMlaIdeal.nD Cert.PostMlaIdeal.τ).loc Cert.PostMlaIdeal.main_arg5))
      ∧ θ_run (Cert.PostMlaRefIdeal.defs (F := Ideal)) (onTc (τ := Cert.PostMlaRefIdeal.τ) (Cert.PostMlaRefIdeal.main (F := Ideal))) ⟨m', fun _ => 0, g'⟩ (fun r => ∀ c : Dev Cert.PostMlaRefIdeal.nD,
          r.2.mem ((c.tc : Thread Cert.PostMlaRefIdeal.nD Cert.PostMlaRefIdeal.τ).loc Cert.PostMlaRefIdeal.main_v22) = v0 c
          ∧ r.2.mem ((c.tc : Thread Cert.PostMlaRefIdeal.nD Cert.PostMlaRefIdeal.τ).loc Cert.PostMlaRefIdeal.main_arg0) = m' ((c.tc : Thread Cert.PostMlaRefIdeal.nD Cert.PostMlaRefIdeal.τ).loc Cert.PostMlaRefIdeal.main_arg0)
          ∧ r.2.mem ((c.tc : Thread Cert.PostMlaRefIdeal.nD Cert.PostMlaRefIdeal.τ).loc Cert.PostMlaRefIdeal.main_arg1) = m' ((c.tc : Thread Cert.PostMlaRefIdeal.nD Cert.PostMlaRefIdeal.τ).loc Cert.PostMlaRefIdeal.main_arg1)
          ∧ r.2.mem ((c.tc : Thread Cert.PostMlaRefIdeal.nD Cert.PostMlaRefIdeal.τ).loc Cert.PostMlaRefIdeal.main_arg2) = m' ((c.tc : Thread Cert.PostMlaRefIdeal.nD Cert.PostMlaRefIdeal.τ).loc Cert.PostMlaRefIdeal.main_arg2)
          ∧ r.2.mem ((c.tc : Thread Cert.PostMlaRefIdeal.nD Cert.PostMlaRefIdeal.τ).loc Cert.PostMlaRefIdeal.main_arg3) = m' ((c.tc : Thread Cert.PostMlaRefIdeal.nD Cert.PostMlaRefIdeal.τ).loc Cert.PostMlaRefIdeal.main_arg3)
          ∧ r.2.mem ((c.tc : Thread Cert.PostMlaRefIdeal.nD Cert.PostMlaRefIdeal.τ).loc Cert.PostMlaRefIdeal.main_arg4) = m' ((c.tc : Thread Cert.PostMlaRefIdeal.nD Cert.PostMlaRefIdeal.τ).loc Cert.PostMlaRefIdeal.main_arg4)
          ∧ r.2.mem ((c.tc : Thread Cert.PostMlaRefIdeal.nD Cert.PostMlaRefIdeal.τ).loc Cert.PostMlaRefIdeal.main_arg5) = m' ((c.tc : Thread Cert.PostMlaRefIdeal.nD Cert.PostMlaRefIdeal.τ).loc Cert.PostMlaRefIdeal.main_arg5))

def preserves_PostFinal_PostFinalIdeal : Prop :=
  True

def algebraic_PostFinalIdeal_PostFinalRefIdeal [hPostFinalIdeal : Cert.PostFinalIdeal.Facts] [hPostFinalRefIdeal : Cert.PostFinalRefIdeal.Facts] : Prop :=
  ∀ (m : (ℓ : Loc Cert.PostFinalIdeal.nD Cert.PostFinalIdeal.τ Cert.PostFinalIdeal.sig) → Buf (Elt Ideal) ℓ) (g : Dev Cert.PostFinalIdeal.nD → PrngReg)
    (m' : (ℓ : Loc Cert.PostFinalRefIdeal.nD Cert.PostFinalRefIdeal.τ Cert.PostFinalRefIdeal.sig) → Buf (Elt Ideal) ℓ) (g' : Dev Cert.PostFinalRefIdeal.nD → PrngReg), Pre_PostFinalIdeal m →
    (∀ c : Dev Cert.PostFinalIdeal.nD,
      m' ((c.tc : Thread Cert.PostFinalRefIdeal.nD Cert.PostFinalRefIdeal.τ).loc Cert.PostFinalRefIdeal.main_arg0) = m ((c.tc : Thread Cert.PostFinalIdeal.nD Cert.PostFinalIdeal.τ).loc Cert.PostFinalIdeal.main_arg0)
      ∧ m' ((c.tc : Thread Cert.PostFinalRefIdeal.nD Cert.PostFinalRefIdeal.τ).loc Cert.PostFinalRefIdeal.main_arg1) = m ((c.tc : Thread Cert.PostFinalIdeal.nD Cert.PostFinalIdeal.τ).loc Cert.PostFinalIdeal.main_arg1)
      ∧ m' ((c.tc : Thread Cert.PostFinalRefIdeal.nD Cert.PostFinalRefIdeal.τ).loc Cert.PostFinalRefIdeal.main_arg2) = m ((c.tc : Thread Cert.PostFinalIdeal.nD Cert.PostFinalIdeal.τ).loc Cert.PostFinalIdeal.main_arg2)
      ∧ m' ((c.tc : Thread Cert.PostFinalRefIdeal.nD Cert.PostFinalRefIdeal.τ).loc Cert.PostFinalRefIdeal.main_arg3) = m ((c.tc : Thread Cert.PostFinalIdeal.nD Cert.PostFinalIdeal.τ).loc Cert.PostFinalIdeal.main_arg3)
      ∧ m' ((c.tc : Thread Cert.PostFinalRefIdeal.nD Cert.PostFinalRefIdeal.τ).loc Cert.PostFinalRefIdeal.main_arg4) = m ((c.tc : Thread Cert.PostFinalIdeal.nD Cert.PostFinalIdeal.τ).loc Cert.PostFinalIdeal.main_arg4)
      ∧ m' ((c.tc : Thread Cert.PostFinalRefIdeal.nD Cert.PostFinalRefIdeal.τ).loc Cert.PostFinalRefIdeal.main_arg5) = m ((c.tc : Thread Cert.PostFinalIdeal.nD Cert.PostFinalIdeal.τ).loc Cert.PostFinalIdeal.main_arg5)
      ∧ m' ((c.tc : Thread Cert.PostFinalRefIdeal.nD Cert.PostFinalRefIdeal.τ).loc Cert.PostFinalRefIdeal.main_arg6) = m ((c.tc : Thread Cert.PostFinalIdeal.nD Cert.PostFinalIdeal.τ).loc Cert.PostFinalIdeal.main_arg6)) →
    ∃ (v0 : (c : Dev Cert.PostFinalIdeal.nD) → Buf (Elt Ideal) ((c.tc : Thread Cert.PostFinalIdeal.nD Cert.PostFinalIdeal.τ).loc Cert.PostFinalIdeal.main_v0)),
      θ_run (Cert.PostFinalIdeal.defs (F := Ideal)) (onTc (τ := Cert.PostFinalIdeal.τ) (Cert.PostFinalIdeal.main (F := Ideal))) ⟨m, fun _ => 0, g⟩ (fun r => ∀ c : Dev Cert.PostFinalIdeal.nD,
          r.2.mem ((c.tc : Thread Cert.PostFinalIdeal.nD Cert.PostFinalIdeal.τ).loc Cert.PostFinalIdeal.main_v0) = v0 c
          ∧ r.2.mem ((c.tc : Thread Cert.PostFinalIdeal.nD Cert.PostFinalIdeal.τ).loc Cert.PostFinalIdeal.main_arg0) = m ((c.tc : Thread Cert.PostFinalIdeal.nD Cert.PostFinalIdeal.τ).loc Cert.PostFinalIdeal.main_arg0)
          ∧ r.2.mem ((c.tc : Thread Cert.PostFinalIdeal.nD Cert.PostFinalIdeal.τ).loc Cert.PostFinalIdeal.main_arg1) = m ((c.tc : Thread Cert.PostFinalIdeal.nD Cert.PostFinalIdeal.τ).loc Cert.PostFinalIdeal.main_arg1)
          ∧ r.2.mem ((c.tc : Thread Cert.PostFinalIdeal.nD Cert.PostFinalIdeal.τ).loc Cert.PostFinalIdeal.main_arg2) = m ((c.tc : Thread Cert.PostFinalIdeal.nD Cert.PostFinalIdeal.τ).loc Cert.PostFinalIdeal.main_arg2)
          ∧ r.2.mem ((c.tc : Thread Cert.PostFinalIdeal.nD Cert.PostFinalIdeal.τ).loc Cert.PostFinalIdeal.main_arg3) = m ((c.tc : Thread Cert.PostFinalIdeal.nD Cert.PostFinalIdeal.τ).loc Cert.PostFinalIdeal.main_arg3)
          ∧ r.2.mem ((c.tc : Thread Cert.PostFinalIdeal.nD Cert.PostFinalIdeal.τ).loc Cert.PostFinalIdeal.main_arg4) = m ((c.tc : Thread Cert.PostFinalIdeal.nD Cert.PostFinalIdeal.τ).loc Cert.PostFinalIdeal.main_arg4)
          ∧ r.2.mem ((c.tc : Thread Cert.PostFinalIdeal.nD Cert.PostFinalIdeal.τ).loc Cert.PostFinalIdeal.main_arg5) = m ((c.tc : Thread Cert.PostFinalIdeal.nD Cert.PostFinalIdeal.τ).loc Cert.PostFinalIdeal.main_arg5)
          ∧ r.2.mem ((c.tc : Thread Cert.PostFinalIdeal.nD Cert.PostFinalIdeal.τ).loc Cert.PostFinalIdeal.main_arg6) = m ((c.tc : Thread Cert.PostFinalIdeal.nD Cert.PostFinalIdeal.τ).loc Cert.PostFinalIdeal.main_arg6))
      ∧ θ_run (Cert.PostFinalRefIdeal.defs (F := Ideal)) (onTc (τ := Cert.PostFinalRefIdeal.τ) (Cert.PostFinalRefIdeal.main (F := Ideal))) ⟨m', fun _ => 0, g'⟩ (fun r => ∀ c : Dev Cert.PostFinalRefIdeal.nD,
          r.2.mem ((c.tc : Thread Cert.PostFinalRefIdeal.nD Cert.PostFinalRefIdeal.τ).loc Cert.PostFinalRefIdeal.main_v34) = v0 c
          ∧ r.2.mem ((c.tc : Thread Cert.PostFinalRefIdeal.nD Cert.PostFinalRefIdeal.τ).loc Cert.PostFinalRefIdeal.main_arg0) = m' ((c.tc : Thread Cert.PostFinalRefIdeal.nD Cert.PostFinalRefIdeal.τ).loc Cert.PostFinalRefIdeal.main_arg0)
          ∧ r.2.mem ((c.tc : Thread Cert.PostFinalRefIdeal.nD Cert.PostFinalRefIdeal.τ).loc Cert.PostFinalRefIdeal.main_arg1) = m' ((c.tc : Thread Cert.PostFinalRefIdeal.nD Cert.PostFinalRefIdeal.τ).loc Cert.PostFinalRefIdeal.main_arg1)
          ∧ r.2.mem ((c.tc : Thread Cert.PostFinalRefIdeal.nD Cert.PostFinalRefIdeal.τ).loc Cert.PostFinalRefIdeal.main_arg2) = m' ((c.tc : Thread Cert.PostFinalRefIdeal.nD Cert.PostFinalRefIdeal.τ).loc Cert.PostFinalRefIdeal.main_arg2)
          ∧ r.2.mem ((c.tc : Thread Cert.PostFinalRefIdeal.nD Cert.PostFinalRefIdeal.τ).loc Cert.PostFinalRefIdeal.main_arg3) = m' ((c.tc : Thread Cert.PostFinalRefIdeal.nD Cert.PostFinalRefIdeal.τ).loc Cert.PostFinalRefIdeal.main_arg3)
          ∧ r.2.mem ((c.tc : Thread Cert.PostFinalRefIdeal.nD Cert.PostFinalRefIdeal.τ).loc Cert.PostFinalRefIdeal.main_arg4) = m' ((c.tc : Thread Cert.PostFinalRefIdeal.nD Cert.PostFinalRefIdeal.τ).loc Cert.PostFinalRefIdeal.main_arg4)
          ∧ r.2.mem ((c.tc : Thread Cert.PostFinalRefIdeal.nD Cert.PostFinalRefIdeal.τ).loc Cert.PostFinalRefIdeal.main_arg5) = m' ((c.tc : Thread Cert.PostFinalRefIdeal.nD Cert.PostFinalRefIdeal.τ).loc Cert.PostFinalRefIdeal.main_arg5)
          ∧ r.2.mem ((c.tc : Thread Cert.PostFinalRefIdeal.nD Cert.PostFinalRefIdeal.τ).loc Cert.PostFinalRefIdeal.main_arg6) = m' ((c.tc : Thread Cert.PostFinalRefIdeal.nD Cert.PostFinalRefIdeal.τ).loc Cert.PostFinalRefIdeal.main_arg6))

def preserves_DilProj_DilProjIdeal : Prop :=
  True

def algebraic_DilProjIdeal_DilProjRefIdeal [hDilProjIdeal : Cert.DilProjIdeal.Facts] [hDilProjRefIdeal : Cert.DilProjRefIdeal.Facts] : Prop :=
  ∀ (m : (ℓ : Loc Cert.DilProjIdeal.nD Cert.DilProjIdeal.τ Cert.DilProjIdeal.sig) → Buf (Elt Ideal) ℓ) (g : Dev Cert.DilProjIdeal.nD → PrngReg)
    (m' : (ℓ : Loc Cert.DilProjRefIdeal.nD Cert.DilProjRefIdeal.τ Cert.DilProjRefIdeal.sig) → Buf (Elt Ideal) ℓ) (g' : Dev Cert.DilProjRefIdeal.nD → PrngReg), Pre_DilProjIdeal m →
    (∀ c : Dev Cert.DilProjIdeal.nD,
      m' ((c.tc : Thread Cert.DilProjRefIdeal.nD Cert.DilProjRefIdeal.τ).loc Cert.DilProjRefIdeal.main_arg0) = m ((c.tc : Thread Cert.DilProjIdeal.nD Cert.DilProjIdeal.τ).loc Cert.DilProjIdeal.main_arg0)
      ∧ m' ((c.tc : Thread Cert.DilProjRefIdeal.nD Cert.DilProjRefIdeal.τ).loc Cert.DilProjRefIdeal.main_arg1) = m ((c.tc : Thread Cert.DilProjIdeal.nD Cert.DilProjIdeal.τ).loc Cert.DilProjIdeal.main_arg1)
      ∧ m' ((c.tc : Thread Cert.DilProjRefIdeal.nD Cert.DilProjRefIdeal.τ).loc Cert.DilProjRefIdeal.main_arg2) = m ((c.tc : Thread Cert.DilProjIdeal.nD Cert.DilProjIdeal.τ).loc Cert.DilProjIdeal.main_arg2)) →
    ∃ (v0 : (c : Dev Cert.DilProjIdeal.nD) → Buf (Elt Ideal) ((c.tc : Thread Cert.DilProjIdeal.nD Cert.DilProjIdeal.τ).loc Cert.DilProjIdeal.main_v0_0)) (v1 : (c : Dev Cert.DilProjIdeal.nD) → Buf (Elt Ideal) ((c.tc : Thread Cert.DilProjIdeal.nD Cert.DilProjIdeal.τ).loc Cert.DilProjIdeal.main_v0_1)),
      θ_run (Cert.DilProjIdeal.defs (F := Ideal)) (onTc (τ := Cert.DilProjIdeal.τ) (Cert.DilProjIdeal.main (F := Ideal))) ⟨m, fun _ => 0, g⟩ (fun r => ∀ c : Dev Cert.DilProjIdeal.nD,
          r.2.mem ((c.tc : Thread Cert.DilProjIdeal.nD Cert.DilProjIdeal.τ).loc Cert.DilProjIdeal.main_v0_0) = v0 c
          ∧ r.2.mem ((c.tc : Thread Cert.DilProjIdeal.nD Cert.DilProjIdeal.τ).loc Cert.DilProjIdeal.main_v0_1) = v1 c
          ∧ r.2.mem ((c.tc : Thread Cert.DilProjIdeal.nD Cert.DilProjIdeal.τ).loc Cert.DilProjIdeal.main_arg0) = m ((c.tc : Thread Cert.DilProjIdeal.nD Cert.DilProjIdeal.τ).loc Cert.DilProjIdeal.main_arg0)
          ∧ r.2.mem ((c.tc : Thread Cert.DilProjIdeal.nD Cert.DilProjIdeal.τ).loc Cert.DilProjIdeal.main_arg1) = m ((c.tc : Thread Cert.DilProjIdeal.nD Cert.DilProjIdeal.τ).loc Cert.DilProjIdeal.main_arg1)
          ∧ r.2.mem ((c.tc : Thread Cert.DilProjIdeal.nD Cert.DilProjIdeal.τ).loc Cert.DilProjIdeal.main_arg2) = m ((c.tc : Thread Cert.DilProjIdeal.nD Cert.DilProjIdeal.τ).loc Cert.DilProjIdeal.main_arg2))
      ∧ θ_run (Cert.DilProjRefIdeal.defs (F := Ideal)) (onTc (τ := Cert.DilProjRefIdeal.τ) (Cert.DilProjRefIdeal.main (F := Ideal))) ⟨m', fun _ => 0, g'⟩ (fun r => ∀ c : Dev Cert.DilProjRefIdeal.nD,
          r.2.mem ((c.tc : Thread Cert.DilProjRefIdeal.nD Cert.DilProjRefIdeal.τ).loc Cert.DilProjRefIdeal.main_v21) = v0 c
          ∧ r.2.mem ((c.tc : Thread Cert.DilProjRefIdeal.nD Cert.DilProjRefIdeal.τ).loc Cert.DilProjRefIdeal.main_v22) = v1 c
          ∧ r.2.mem ((c.tc : Thread Cert.DilProjRefIdeal.nD Cert.DilProjRefIdeal.τ).loc Cert.DilProjRefIdeal.main_arg0) = m' ((c.tc : Thread Cert.DilProjRefIdeal.nD Cert.DilProjRefIdeal.τ).loc Cert.DilProjRefIdeal.main_arg0)
          ∧ r.2.mem ((c.tc : Thread Cert.DilProjRefIdeal.nD Cert.DilProjRefIdeal.τ).loc Cert.DilProjRefIdeal.main_arg1) = m' ((c.tc : Thread Cert.DilProjRefIdeal.nD Cert.DilProjRefIdeal.τ).loc Cert.DilProjRefIdeal.main_arg1)
          ∧ r.2.mem ((c.tc : Thread Cert.DilProjRefIdeal.nD Cert.DilProjRefIdeal.τ).loc Cert.DilProjRefIdeal.main_arg2) = m' ((c.tc : Thread Cert.DilProjRefIdeal.nD Cert.DilProjRefIdeal.τ).loc Cert.DilProjRefIdeal.main_arg2))

def preserves_PostDil_PostDilIdeal : Prop :=
  True

def algebraic_PostDilIdeal_PostDilRefIdeal [hPostDilIdeal : Cert.PostDilIdeal.Facts] [hPostDilRefIdeal : Cert.PostDilRefIdeal.Facts] : Prop :=
  ∀ (m : (ℓ : Loc Cert.PostDilIdeal.nD Cert.PostDilIdeal.τ Cert.PostDilIdeal.sig) → Buf (Elt Ideal) ℓ) (g : Dev Cert.PostDilIdeal.nD → PrngReg)
    (m' : (ℓ : Loc Cert.PostDilRefIdeal.nD Cert.PostDilRefIdeal.τ Cert.PostDilRefIdeal.sig) → Buf (Elt Ideal) ℓ) (g' : Dev Cert.PostDilRefIdeal.nD → PrngReg), Pre_PostDilIdeal m →
    (∀ c : Dev Cert.PostDilIdeal.nD,
      m' ((c.tc : Thread Cert.PostDilRefIdeal.nD Cert.PostDilRefIdeal.τ).loc Cert.PostDilRefIdeal.main_arg0) = m ((c.tc : Thread Cert.PostDilIdeal.nD Cert.PostDilIdeal.τ).loc Cert.PostDilIdeal.main_arg0)
      ∧ m' ((c.tc : Thread Cert.PostDilRefIdeal.nD Cert.PostDilRefIdeal.τ).loc Cert.PostDilRefIdeal.main_arg1) = m ((c.tc : Thread Cert.PostDilIdeal.nD Cert.PostDilIdeal.τ).loc Cert.PostDilIdeal.main_arg1)
      ∧ m' ((c.tc : Thread Cert.PostDilRefIdeal.nD Cert.PostDilRefIdeal.τ).loc Cert.PostDilRefIdeal.main_arg2) = m ((c.tc : Thread Cert.PostDilIdeal.nD Cert.PostDilIdeal.τ).loc Cert.PostDilIdeal.main_arg2)
      ∧ m' ((c.tc : Thread Cert.PostDilRefIdeal.nD Cert.PostDilRefIdeal.τ).loc Cert.PostDilRefIdeal.main_arg3) = m ((c.tc : Thread Cert.PostDilIdeal.nD Cert.PostDilIdeal.τ).loc Cert.PostDilIdeal.main_arg3)
      ∧ m' ((c.tc : Thread Cert.PostDilRefIdeal.nD Cert.PostDilRefIdeal.τ).loc Cert.PostDilRefIdeal.main_arg4) = m ((c.tc : Thread Cert.PostDilIdeal.nD Cert.PostDilIdeal.τ).loc Cert.PostDilIdeal.main_arg4)
      ∧ m' ((c.tc : Thread Cert.PostDilRefIdeal.nD Cert.PostDilRefIdeal.τ).loc Cert.PostDilRefIdeal.main_arg5) = m ((c.tc : Thread Cert.PostDilIdeal.nD Cert.PostDilIdeal.τ).loc Cert.PostDilIdeal.main_arg5)) →
    ∃ (v0 : (c : Dev Cert.PostDilIdeal.nD) → Buf (Elt Ideal) ((c.tc : Thread Cert.PostDilIdeal.nD Cert.PostDilIdeal.τ).loc Cert.PostDilIdeal.main_v0)),
      θ_run (Cert.PostDilIdeal.defs (F := Ideal)) (onTc (τ := Cert.PostDilIdeal.τ) (Cert.PostDilIdeal.main (F := Ideal))) ⟨m, fun _ => 0, g⟩ (fun r => ∀ c : Dev Cert.PostDilIdeal.nD,
          r.2.mem ((c.tc : Thread Cert.PostDilIdeal.nD Cert.PostDilIdeal.τ).loc Cert.PostDilIdeal.main_v0) = v0 c
          ∧ r.2.mem ((c.tc : Thread Cert.PostDilIdeal.nD Cert.PostDilIdeal.τ).loc Cert.PostDilIdeal.main_arg0) = m ((c.tc : Thread Cert.PostDilIdeal.nD Cert.PostDilIdeal.τ).loc Cert.PostDilIdeal.main_arg0)
          ∧ r.2.mem ((c.tc : Thread Cert.PostDilIdeal.nD Cert.PostDilIdeal.τ).loc Cert.PostDilIdeal.main_arg1) = m ((c.tc : Thread Cert.PostDilIdeal.nD Cert.PostDilIdeal.τ).loc Cert.PostDilIdeal.main_arg1)
          ∧ r.2.mem ((c.tc : Thread Cert.PostDilIdeal.nD Cert.PostDilIdeal.τ).loc Cert.PostDilIdeal.main_arg2) = m ((c.tc : Thread Cert.PostDilIdeal.nD Cert.PostDilIdeal.τ).loc Cert.PostDilIdeal.main_arg2)
          ∧ r.2.mem ((c.tc : Thread Cert.PostDilIdeal.nD Cert.PostDilIdeal.τ).loc Cert.PostDilIdeal.main_arg3) = m ((c.tc : Thread Cert.PostDilIdeal.nD Cert.PostDilIdeal.τ).loc Cert.PostDilIdeal.main_arg3)
          ∧ r.2.mem ((c.tc : Thread Cert.PostDilIdeal.nD Cert.PostDilIdeal.τ).loc Cert.PostDilIdeal.main_arg4) = m ((c.tc : Thread Cert.PostDilIdeal.nD Cert.PostDilIdeal.τ).loc Cert.PostDilIdeal.main_arg4)
          ∧ r.2.mem ((c.tc : Thread Cert.PostDilIdeal.nD Cert.PostDilIdeal.τ).loc Cert.PostDilIdeal.main_arg5) = m ((c.tc : Thread Cert.PostDilIdeal.nD Cert.PostDilIdeal.τ).loc Cert.PostDilIdeal.main_arg5))
      ∧ θ_run (Cert.PostDilRefIdeal.defs (F := Ideal)) (onTc (τ := Cert.PostDilRefIdeal.τ) (Cert.PostDilRefIdeal.main (F := Ideal))) ⟨m', fun _ => 0, g'⟩ (fun r => ∀ c : Dev Cert.PostDilRefIdeal.nD,
          r.2.mem ((c.tc : Thread Cert.PostDilRefIdeal.nD Cert.PostDilRefIdeal.τ).loc Cert.PostDilRefIdeal.main_v22) = v0 c
          ∧ r.2.mem ((c.tc : Thread Cert.PostDilRefIdeal.nD Cert.PostDilRefIdeal.τ).loc Cert.PostDilRefIdeal.main_arg0) = m' ((c.tc : Thread Cert.PostDilRefIdeal.nD Cert.PostDilRefIdeal.τ).loc Cert.PostDilRefIdeal.main_arg0)
          ∧ r.2.mem ((c.tc : Thread Cert.PostDilRefIdeal.nD Cert.PostDilRefIdeal.τ).loc Cert.PostDilRefIdeal.main_arg1) = m' ((c.tc : Thread Cert.PostDilRefIdeal.nD Cert.PostDilRefIdeal.τ).loc Cert.PostDilRefIdeal.main_arg1)
          ∧ r.2.mem ((c.tc : Thread Cert.PostDilRefIdeal.nD Cert.PostDilRefIdeal.τ).loc Cert.PostDilRefIdeal.main_arg2) = m' ((c.tc : Thread Cert.PostDilRefIdeal.nD Cert.PostDilRefIdeal.τ).loc Cert.PostDilRefIdeal.main_arg2)
          ∧ r.2.mem ((c.tc : Thread Cert.PostDilRefIdeal.nD Cert.PostDilRefIdeal.τ).loc Cert.PostDilRefIdeal.main_arg3) = m' ((c.tc : Thread Cert.PostDilRefIdeal.nD Cert.PostDilRefIdeal.τ).loc Cert.PostDilRefIdeal.main_arg3)
          ∧ r.2.mem ((c.tc : Thread Cert.PostDilRefIdeal.nD Cert.PostDilRefIdeal.τ).loc Cert.PostDilRefIdeal.main_arg4) = m' ((c.tc : Thread Cert.PostDilRefIdeal.nD Cert.PostDilRefIdeal.τ).loc Cert.PostDilRefIdeal.main_arg4)
          ∧ r.2.mem ((c.tc : Thread Cert.PostDilRefIdeal.nD Cert.PostDilRefIdeal.τ).loc Cert.PostDilRefIdeal.main_arg5) = m' ((c.tc : Thread Cert.PostDilRefIdeal.nD Cert.PostDilRefIdeal.τ).loc Cert.PostDilRefIdeal.main_arg5))

def preserves_MlaProj_MlaProjIdeal : Prop :=
  True

def algebraic_MlaProjIdeal_MlaProjRefIdeal [hMlaProjIdeal : Cert.MlaProjIdeal.Facts] [hMlaProjRefIdeal : Cert.MlaProjRefIdeal.Facts] : Prop :=
  ∀ (m : (ℓ : Loc Cert.MlaProjIdeal.nD Cert.MlaProjIdeal.τ Cert.MlaProjIdeal.sig) → Buf (Elt Ideal) ℓ) (g : Dev Cert.MlaProjIdeal.nD → PrngReg)
    (m' : (ℓ : Loc Cert.MlaProjRefIdeal.nD Cert.MlaProjRefIdeal.τ Cert.MlaProjRefIdeal.sig) → Buf (Elt Ideal) ℓ) (g' : Dev Cert.MlaProjRefIdeal.nD → PrngReg), Pre_MlaProjIdeal m →
    (∀ c : Dev Cert.MlaProjIdeal.nD,
      m' ((c.tc : Thread Cert.MlaProjRefIdeal.nD Cert.MlaProjRefIdeal.τ).loc Cert.MlaProjRefIdeal.main_arg0) = m ((c.tc : Thread Cert.MlaProjIdeal.nD Cert.MlaProjIdeal.τ).loc Cert.MlaProjIdeal.main_arg0)
      ∧ m' ((c.tc : Thread Cert.MlaProjRefIdeal.nD Cert.MlaProjRefIdeal.τ).loc Cert.MlaProjRefIdeal.main_arg1) = m ((c.tc : Thread Cert.MlaProjIdeal.nD Cert.MlaProjIdeal.τ).loc Cert.MlaProjIdeal.main_arg1)
      ∧ m' ((c.tc : Thread Cert.MlaProjRefIdeal.nD Cert.MlaProjRefIdeal.τ).loc Cert.MlaProjRefIdeal.main_arg2) = m ((c.tc : Thread Cert.MlaProjIdeal.nD Cert.MlaProjIdeal.τ).loc Cert.MlaProjIdeal.main_arg2)
      ∧ m' ((c.tc : Thread Cert.MlaProjRefIdeal.nD Cert.MlaProjRefIdeal.τ).loc Cert.MlaProjRefIdeal.main_arg3) = m ((c.tc : Thread Cert.MlaProjIdeal.nD Cert.MlaProjIdeal.τ).loc Cert.MlaProjIdeal.main_arg3)
      ∧ m' ((c.tc : Thread Cert.MlaProjRefIdeal.nD Cert.MlaProjRefIdeal.τ).loc Cert.MlaProjRefIdeal.main_arg4) = m ((c.tc : Thread Cert.MlaProjIdeal.nD Cert.MlaProjIdeal.τ).loc Cert.MlaProjIdeal.main_arg4)
      ∧ m' ((c.tc : Thread Cert.MlaProjRefIdeal.nD Cert.MlaProjRefIdeal.τ).loc Cert.MlaProjRefIdeal.main_arg5) = m ((c.tc : Thread Cert.MlaProjIdeal.nD Cert.MlaProjIdeal.τ).loc Cert.MlaProjIdeal.main_arg5)
      ∧ m' ((c.tc : Thread Cert.MlaProjRefIdeal.nD Cert.MlaProjRefIdeal.τ).loc Cert.MlaProjRefIdeal.main_arg6) = m ((c.tc : Thread Cert.MlaProjIdeal.nD Cert.MlaProjIdeal.τ).loc Cert.MlaProjIdeal.main_arg6)
      ∧ m' ((c.tc : Thread Cert.MlaProjRefIdeal.nD Cert.MlaProjRefIdeal.τ).loc Cert.MlaProjRefIdeal.main_arg7) = m ((c.tc : Thread Cert.MlaProjIdeal.nD Cert.MlaProjIdeal.τ).loc Cert.MlaProjIdeal.main_arg7)
      ∧ m' ((c.tc : Thread Cert.MlaProjRefIdeal.nD Cert.MlaProjRefIdeal.τ).loc Cert.MlaProjRefIdeal.main_arg8) = m ((c.tc : Thread Cert.MlaProjIdeal.nD Cert.MlaProjIdeal.τ).loc Cert.MlaProjIdeal.main_arg8)) →
    ∃ (v0 : (c : Dev Cert.MlaProjIdeal.nD) → Buf (Elt Ideal) ((c.tc : Thread Cert.MlaProjIdeal.nD Cert.MlaProjIdeal.τ).loc Cert.MlaProjIdeal.main_v66_0)) (v1 : (c : Dev Cert.MlaProjIdeal.nD) → Buf (Elt Ideal) ((c.tc : Thread Cert.MlaProjIdeal.nD Cert.MlaProjIdeal.τ).loc Cert.MlaProjIdeal.main_v66_1)) (v2 : (c : Dev Cert.MlaProjIdeal.nD) → Buf (Elt Ideal) ((c.tc : Thread Cert.MlaProjIdeal.nD Cert.MlaProjIdeal.τ).loc Cert.MlaProjIdeal.main_v66_2)) (v3 : (c : Dev Cert.MlaProjIdeal.nD) → Buf (Elt Ideal) ((c.tc : Thread Cert.MlaProjIdeal.nD Cert.MlaProjIdeal.τ).loc Cert.MlaProjIdeal.main_v66_3)) (v4 : (c : Dev Cert.MlaProjIdeal.nD) → Buf (Elt Ideal) ((c.tc : Thread Cert.MlaProjIdeal.nD Cert.MlaProjIdeal.τ).loc Cert.MlaProjIdeal.main_v66_4)),
      θ_run (Cert.MlaProjIdeal.defs (F := Ideal)) (onTc (τ := Cert.MlaProjIdeal.τ) (Cert.MlaProjIdeal.main (F := Ideal))) ⟨m, fun _ => 0, g⟩ (fun r => ∀ c : Dev Cert.MlaProjIdeal.nD,
          r.2.mem ((c.tc : Thread Cert.MlaProjIdeal.nD Cert.MlaProjIdeal.τ).loc Cert.MlaProjIdeal.main_v66_0) = v0 c
          ∧ r.2.mem ((c.tc : Thread Cert.MlaProjIdeal.nD Cert.MlaProjIdeal.τ).loc Cert.MlaProjIdeal.main_v66_1) = v1 c
          ∧ r.2.mem ((c.tc : Thread Cert.MlaProjIdeal.nD Cert.MlaProjIdeal.τ).loc Cert.MlaProjIdeal.main_v66_2) = v2 c
          ∧ r.2.mem ((c.tc : Thread Cert.MlaProjIdeal.nD Cert.MlaProjIdeal.τ).loc Cert.MlaProjIdeal.main_v66_3) = v3 c
          ∧ r.2.mem ((c.tc : Thread Cert.MlaProjIdeal.nD Cert.MlaProjIdeal.τ).loc Cert.MlaProjIdeal.main_v66_4) = v4 c
          ∧ r.2.mem ((c.tc : Thread Cert.MlaProjIdeal.nD Cert.MlaProjIdeal.τ).loc Cert.MlaProjIdeal.main_arg0) = m ((c.tc : Thread Cert.MlaProjIdeal.nD Cert.MlaProjIdeal.τ).loc Cert.MlaProjIdeal.main_arg0)
          ∧ r.2.mem ((c.tc : Thread Cert.MlaProjIdeal.nD Cert.MlaProjIdeal.τ).loc Cert.MlaProjIdeal.main_arg1) = m ((c.tc : Thread Cert.MlaProjIdeal.nD Cert.MlaProjIdeal.τ).loc Cert.MlaProjIdeal.main_arg1)
          ∧ r.2.mem ((c.tc : Thread Cert.MlaProjIdeal.nD Cert.MlaProjIdeal.τ).loc Cert.MlaProjIdeal.main_arg2) = m ((c.tc : Thread Cert.MlaProjIdeal.nD Cert.MlaProjIdeal.τ).loc Cert.MlaProjIdeal.main_arg2)
          ∧ r.2.mem ((c.tc : Thread Cert.MlaProjIdeal.nD Cert.MlaProjIdeal.τ).loc Cert.MlaProjIdeal.main_arg3) = m ((c.tc : Thread Cert.MlaProjIdeal.nD Cert.MlaProjIdeal.τ).loc Cert.MlaProjIdeal.main_arg3)
          ∧ r.2.mem ((c.tc : Thread Cert.MlaProjIdeal.nD Cert.MlaProjIdeal.τ).loc Cert.MlaProjIdeal.main_arg4) = m ((c.tc : Thread Cert.MlaProjIdeal.nD Cert.MlaProjIdeal.τ).loc Cert.MlaProjIdeal.main_arg4)
          ∧ r.2.mem ((c.tc : Thread Cert.MlaProjIdeal.nD Cert.MlaProjIdeal.τ).loc Cert.MlaProjIdeal.main_arg5) = m ((c.tc : Thread Cert.MlaProjIdeal.nD Cert.MlaProjIdeal.τ).loc Cert.MlaProjIdeal.main_arg5)
          ∧ r.2.mem ((c.tc : Thread Cert.MlaProjIdeal.nD Cert.MlaProjIdeal.τ).loc Cert.MlaProjIdeal.main_arg6) = m ((c.tc : Thread Cert.MlaProjIdeal.nD Cert.MlaProjIdeal.τ).loc Cert.MlaProjIdeal.main_arg6)
          ∧ r.2.mem ((c.tc : Thread Cert.MlaProjIdeal.nD Cert.MlaProjIdeal.τ).loc Cert.MlaProjIdeal.main_arg7) = m ((c.tc : Thread Cert.MlaProjIdeal.nD Cert.MlaProjIdeal.τ).loc Cert.MlaProjIdeal.main_arg7)
          ∧ r.2.mem ((c.tc : Thread Cert.MlaProjIdeal.nD Cert.MlaProjIdeal.τ).loc Cert.MlaProjIdeal.main_arg8) = m ((c.tc : Thread Cert.MlaProjIdeal.nD Cert.MlaProjIdeal.τ).loc Cert.MlaProjIdeal.main_arg8))
      ∧ θ_run (Cert.MlaProjRefIdeal.defs (F := Ideal)) (onTc (τ := Cert.MlaProjRefIdeal.τ) (Cert.MlaProjRefIdeal.main (F := Ideal))) ⟨m', fun _ => 0, g'⟩ (fun r => ∀ c : Dev Cert.MlaProjRefIdeal.nD,
          r.2.mem ((c.tc : Thread Cert.MlaProjRefIdeal.nD Cert.MlaProjRefIdeal.τ).loc Cert.MlaProjRefIdeal.main_v116) = v0 c
          ∧ r.2.mem ((c.tc : Thread Cert.MlaProjRefIdeal.nD Cert.MlaProjRefIdeal.τ).loc Cert.MlaProjRefIdeal.main_v117) = v1 c
          ∧ r.2.mem ((c.tc : Thread Cert.MlaProjRefIdeal.nD Cert.MlaProjRefIdeal.τ).loc Cert.MlaProjRefIdeal.main_v118) = v2 c
          ∧ r.2.mem ((c.tc : Thread Cert.MlaProjRefIdeal.nD Cert.MlaProjRefIdeal.τ).loc Cert.MlaProjRefIdeal.main_v120) = v3 c
          ∧ r.2.mem ((c.tc : Thread Cert.MlaProjRefIdeal.nD Cert.MlaProjRefIdeal.τ).loc Cert.MlaProjRefIdeal.main_v122) = v4 c
          ∧ r.2.mem ((c.tc : Thread Cert.MlaProjRefIdeal.nD Cert.MlaProjRefIdeal.τ).loc Cert.MlaProjRefIdeal.main_arg0) = m' ((c.tc : Thread Cert.MlaProjRefIdeal.nD Cert.MlaProjRefIdeal.τ).loc Cert.MlaProjRefIdeal.main_arg0)
          ∧ r.2.mem ((c.tc : Thread Cert.MlaProjRefIdeal.nD Cert.MlaProjRefIdeal.τ).loc Cert.MlaProjRefIdeal.main_arg1) = m' ((c.tc : Thread Cert.MlaProjRefIdeal.nD Cert.MlaProjRefIdeal.τ).loc Cert.MlaProjRefIdeal.main_arg1)
          ∧ r.2.mem ((c.tc : Thread Cert.MlaProjRefIdeal.nD Cert.MlaProjRefIdeal.τ).loc Cert.MlaProjRefIdeal.main_arg2) = m' ((c.tc : Thread Cert.MlaProjRefIdeal.nD Cert.MlaProjRefIdeal.τ).loc Cert.MlaProjRefIdeal.main_arg2)
          ∧ r.2.mem ((c.tc : Thread Cert.MlaProjRefIdeal.nD Cert.MlaProjRefIdeal.τ).loc Cert.MlaProjRefIdeal.main_arg3) = m' ((c.tc : Thread Cert.MlaProjRefIdeal.nD Cert.MlaProjRefIdeal.τ).loc Cert.MlaProjRefIdeal.main_arg3)
          ∧ r.2.mem ((c.tc : Thread Cert.MlaProjRefIdeal.nD Cert.MlaProjRefIdeal.τ).loc Cert.MlaProjRefIdeal.main_arg4) = m' ((c.tc : Thread Cert.MlaProjRefIdeal.nD Cert.MlaProjRefIdeal.τ).loc Cert.MlaProjRefIdeal.main_arg4)
          ∧ r.2.mem ((c.tc : Thread Cert.MlaProjRefIdeal.nD Cert.MlaProjRefIdeal.τ).loc Cert.MlaProjRefIdeal.main_arg5) = m' ((c.tc : Thread Cert.MlaProjRefIdeal.nD Cert.MlaProjRefIdeal.τ).loc Cert.MlaProjRefIdeal.main_arg5)
          ∧ r.2.mem ((c.tc : Thread Cert.MlaProjRefIdeal.nD Cert.MlaProjRefIdeal.τ).loc Cert.MlaProjRefIdeal.main_arg6) = m' ((c.tc : Thread Cert.MlaProjRefIdeal.nD Cert.MlaProjRefIdeal.τ).loc Cert.MlaProjRefIdeal.main_arg6)
          ∧ r.2.mem ((c.tc : Thread Cert.MlaProjRefIdeal.nD Cert.MlaProjRefIdeal.τ).loc Cert.MlaProjRefIdeal.main_arg7) = m' ((c.tc : Thread Cert.MlaProjRefIdeal.nD Cert.MlaProjRefIdeal.τ).loc Cert.MlaProjRefIdeal.main_arg7)
          ∧ r.2.mem ((c.tc : Thread Cert.MlaProjRefIdeal.nD Cert.MlaProjRefIdeal.τ).loc Cert.MlaProjRefIdeal.main_arg8) = m' ((c.tc : Thread Cert.MlaProjRefIdeal.nD Cert.MlaProjRefIdeal.τ).loc Cert.MlaProjRefIdeal.main_arg8))

def preserves_DilAttn_DilAttnIdeal : Prop :=
  IdealRules.named_const.Statement Cert.DilAttnIdeal.κ "mask" .f32 0xF149F2CA#32 ⊥

def algebraic_DilAttnIdeal_DilAttnRefIdeal [hDilAttnIdeal : Cert.DilAttnIdeal.Facts] [hDilAttnRefIdeal : Cert.DilAttnRefIdeal.Facts] : Prop :=
  ∀ (m : (ℓ : Loc Cert.DilAttnIdeal.nD Cert.DilAttnIdeal.τ Cert.DilAttnIdeal.sig) → Buf (Elt Ideal) ℓ) (g : Dev Cert.DilAttnIdeal.nD → PrngReg)
    (m' : (ℓ : Loc Cert.DilAttnRefIdeal.nD Cert.DilAttnRefIdeal.τ Cert.DilAttnRefIdeal.sig) → Buf (Elt Ideal) ℓ) (g' : Dev Cert.DilAttnRefIdeal.nD → PrngReg), Pre_DilAttnIdeal m →
    (∀ c : Dev Cert.DilAttnIdeal.nD,
      m' ((c.tc : Thread Cert.DilAttnRefIdeal.nD Cert.DilAttnRefIdeal.τ).loc Cert.DilAttnRefIdeal.main_arg0) = m ((c.tc : Thread Cert.DilAttnIdeal.nD Cert.DilAttnIdeal.τ).loc Cert.DilAttnIdeal.main_arg0)
      ∧ m' ((c.tc : Thread Cert.DilAttnRefIdeal.nD Cert.DilAttnRefIdeal.τ).loc Cert.DilAttnRefIdeal.main_arg1) = m ((c.tc : Thread Cert.DilAttnIdeal.nD Cert.DilAttnIdeal.τ).loc Cert.DilAttnIdeal.main_arg1)) →
    ∃ (v0 : (c : Dev Cert.DilAttnIdeal.nD) → Buf (Elt Ideal) ((c.tc : Thread Cert.DilAttnIdeal.nD Cert.DilAttnIdeal.τ).loc Cert.DilAttnIdeal.main_v0)),
      θ_run (Cert.DilAttnIdeal.defs (F := Ideal)) (onTc (τ := Cert.DilAttnIdeal.τ) (Cert.DilAttnIdeal.main (F := Ideal))) ⟨m, fun _ => 0, g⟩ (fun r => ∀ c : Dev Cert.DilAttnIdeal.nD,
          r.2.mem ((c.tc : Thread Cert.DilAttnIdeal.nD Cert.DilAttnIdeal.τ).loc Cert.DilAttnIdeal.main_v0) = v0 c
          ∧ r.2.mem ((c.tc : Thread Cert.DilAttnIdeal.nD Cert.DilAttnIdeal.τ).loc Cert.DilAttnIdeal.main_arg0) = m ((c.tc : Thread Cert.DilAttnIdeal.nD Cert.DilAttnIdeal.τ).loc Cert.DilAttnIdeal.main_arg0)
          ∧ r.2.mem ((c.tc : Thread Cert.DilAttnIdeal.nD Cert.DilAttnIdeal.τ).loc Cert.DilAttnIdeal.main_arg1) = m ((c.tc : Thread Cert.DilAttnIdeal.nD Cert.DilAttnIdeal.τ).loc Cert.DilAttnIdeal.main_arg1))
      ∧ θ_run (Cert.DilAttnRefIdeal.defs (F := Ideal)) (onTc (τ := Cert.DilAttnRefIdeal.τ) (Cert.DilAttnRefIdeal.main (F := Ideal))) ⟨m', fun _ => 0, g'⟩ (fun r => ∀ c : Dev Cert.DilAttnRefIdeal.nD,
          r.2.mem ((c.tc : Thread Cert.DilAttnRefIdeal.nD Cert.DilAttnRefIdeal.τ).loc Cert.DilAttnRefIdeal.main_v175) = v0 c
          ∧ r.2.mem ((c.tc : Thread Cert.DilAttnRefIdeal.nD Cert.DilAttnRefIdeal.τ).loc Cert.DilAttnRefIdeal.main_arg0) = m' ((c.tc : Thread Cert.DilAttnRefIdeal.nD Cert.DilAttnRefIdeal.τ).loc Cert.DilAttnRefIdeal.main_arg0)
          ∧ r.2.mem ((c.tc : Thread Cert.DilAttnRefIdeal.nD Cert.DilAttnRefIdeal.τ).loc Cert.DilAttnRefIdeal.main_arg1) = m' ((c.tc : Thread Cert.DilAttnRefIdeal.nD Cert.DilAttnRefIdeal.τ).loc Cert.DilAttnRefIdeal.main_arg1))

def preserves_PostFinalSample_PostFinalSampleIdeal : Prop :=
  True

def algebraic_PostFinalSampleIdeal_PostFinalSampleRefIdeal [hPostFinalSampleIdeal : Cert.PostFinalSampleIdeal.Facts] [hPostFinalSampleRefIdeal : Cert.PostFinalSampleRefIdeal.Facts] : Prop :=
  ∀ (m : (ℓ : Loc Cert.PostFinalSampleIdeal.nD Cert.PostFinalSampleIdeal.τ Cert.PostFinalSampleIdeal.sig) → Buf (Elt Ideal) ℓ) (g : Dev Cert.PostFinalSampleIdeal.nD → PrngReg)
    (m' : (ℓ : Loc Cert.PostFinalSampleRefIdeal.nD Cert.PostFinalSampleRefIdeal.τ Cert.PostFinalSampleRefIdeal.sig) → Buf (Elt Ideal) ℓ) (g' : Dev Cert.PostFinalSampleRefIdeal.nD → PrngReg), Pre_PostFinalSampleIdeal m →
    (∀ c : Dev Cert.PostFinalSampleIdeal.nD,
      m' ((c.tc : Thread Cert.PostFinalSampleRefIdeal.nD Cert.PostFinalSampleRefIdeal.τ).loc Cert.PostFinalSampleRefIdeal.main_arg0) = m ((c.tc : Thread Cert.PostFinalSampleIdeal.nD Cert.PostFinalSampleIdeal.τ).loc Cert.PostFinalSampleIdeal.main_arg0)
      ∧ m' ((c.tc : Thread Cert.PostFinalSampleRefIdeal.nD Cert.PostFinalSampleRefIdeal.τ).loc Cert.PostFinalSampleRefIdeal.main_arg1) = m ((c.tc : Thread Cert.PostFinalSampleIdeal.nD Cert.PostFinalSampleIdeal.τ).loc Cert.PostFinalSampleIdeal.main_arg1)
      ∧ m' ((c.tc : Thread Cert.PostFinalSampleRefIdeal.nD Cert.PostFinalSampleRefIdeal.τ).loc Cert.PostFinalSampleRefIdeal.main_arg2) = m ((c.tc : Thread Cert.PostFinalSampleIdeal.nD Cert.PostFinalSampleIdeal.τ).loc Cert.PostFinalSampleIdeal.main_arg2)
      ∧ m' ((c.tc : Thread Cert.PostFinalSampleRefIdeal.nD Cert.PostFinalSampleRefIdeal.τ).loc Cert.PostFinalSampleRefIdeal.main_arg3) = m ((c.tc : Thread Cert.PostFinalSampleIdeal.nD Cert.PostFinalSampleIdeal.τ).loc Cert.PostFinalSampleIdeal.main_arg3)
      ∧ m' ((c.tc : Thread Cert.PostFinalSampleRefIdeal.nD Cert.PostFinalSampleRefIdeal.τ).loc Cert.PostFinalSampleRefIdeal.main_arg4) = m ((c.tc : Thread Cert.PostFinalSampleIdeal.nD Cert.PostFinalSampleIdeal.τ).loc Cert.PostFinalSampleIdeal.main_arg4)
      ∧ m' ((c.tc : Thread Cert.PostFinalSampleRefIdeal.nD Cert.PostFinalSampleRefIdeal.τ).loc Cert.PostFinalSampleRefIdeal.main_arg5) = m ((c.tc : Thread Cert.PostFinalSampleIdeal.nD Cert.PostFinalSampleIdeal.τ).loc Cert.PostFinalSampleIdeal.main_arg5)
      ∧ m' ((c.tc : Thread Cert.PostFinalSampleRefIdeal.nD Cert.PostFinalSampleRefIdeal.τ).loc Cert.PostFinalSampleRefIdeal.main_arg6) = m ((c.tc : Thread Cert.PostFinalSampleIdeal.nD Cert.PostFinalSampleIdeal.τ).loc Cert.PostFinalSampleIdeal.main_arg6)) →
    ∃ (v0 : (c : Dev Cert.PostFinalSampleIdeal.nD) → Buf (Elt Ideal) ((c.tc : Thread Cert.PostFinalSampleIdeal.nD Cert.PostFinalSampleIdeal.τ).loc Cert.PostFinalSampleIdeal.main_v0)),
      θ_run (Cert.PostFinalSampleIdeal.defs (F := Ideal)) (onTc (τ := Cert.PostFinalSampleIdeal.τ) (Cert.PostFinalSampleIdeal.main (F := Ideal))) ⟨m, fun _ => 0, g⟩ (fun r => ∀ c : Dev Cert.PostFinalSampleIdeal.nD,
          r.2.mem ((c.tc : Thread Cert.PostFinalSampleIdeal.nD Cert.PostFinalSampleIdeal.τ).loc Cert.PostFinalSampleIdeal.main_v0) = v0 c
          ∧ r.2.mem ((c.tc : Thread Cert.PostFinalSampleIdeal.nD Cert.PostFinalSampleIdeal.τ).loc Cert.PostFinalSampleIdeal.main_arg0) = m ((c.tc : Thread Cert.PostFinalSampleIdeal.nD Cert.PostFinalSampleIdeal.τ).loc Cert.PostFinalSampleIdeal.main_arg0)
          ∧ r.2.mem ((c.tc : Thread Cert.PostFinalSampleIdeal.nD Cert.PostFinalSampleIdeal.τ).loc Cert.PostFinalSampleIdeal.main_arg1) = m ((c.tc : Thread Cert.PostFinalSampleIdeal.nD Cert.PostFinalSampleIdeal.τ).loc Cert.PostFinalSampleIdeal.main_arg1)
          ∧ r.2.mem ((c.tc : Thread Cert.PostFinalSampleIdeal.nD Cert.PostFinalSampleIdeal.τ).loc Cert.PostFinalSampleIdeal.main_arg2) = m ((c.tc : Thread Cert.PostFinalSampleIdeal.nD Cert.PostFinalSampleIdeal.τ).loc Cert.PostFinalSampleIdeal.main_arg2)
          ∧ r.2.mem ((c.tc : Thread Cert.PostFinalSampleIdeal.nD Cert.PostFinalSampleIdeal.τ).loc Cert.PostFinalSampleIdeal.main_arg3) = m ((c.tc : Thread Cert.PostFinalSampleIdeal.nD Cert.PostFinalSampleIdeal.τ).loc Cert.PostFinalSampleIdeal.main_arg3)
          ∧ r.2.mem ((c.tc : Thread Cert.PostFinalSampleIdeal.nD Cert.PostFinalSampleIdeal.τ).loc Cert.PostFinalSampleIdeal.main_arg4) = m ((c.tc : Thread Cert.PostFinalSampleIdeal.nD Cert.PostFinalSampleIdeal.τ).loc Cert.PostFinalSampleIdeal.main_arg4)
          ∧ r.2.mem ((c.tc : Thread Cert.PostFinalSampleIdeal.nD Cert.PostFinalSampleIdeal.τ).loc Cert.PostFinalSampleIdeal.main_arg5) = m ((c.tc : Thread Cert.PostFinalSampleIdeal.nD Cert.PostFinalSampleIdeal.τ).loc Cert.PostFinalSampleIdeal.main_arg5)
          ∧ r.2.mem ((c.tc : Thread Cert.PostFinalSampleIdeal.nD Cert.PostFinalSampleIdeal.τ).loc Cert.PostFinalSampleIdeal.main_arg6) = m ((c.tc : Thread Cert.PostFinalSampleIdeal.nD Cert.PostFinalSampleIdeal.τ).loc Cert.PostFinalSampleIdeal.main_arg6))
      ∧ θ_run (Cert.PostFinalSampleRefIdeal.defs (F := Ideal)) (onTc (τ := Cert.PostFinalSampleRefIdeal.τ) (Cert.PostFinalSampleRefIdeal.main (F := Ideal))) ⟨m', fun _ => 0, g'⟩ (fun r => ∀ c : Dev Cert.PostFinalSampleRefIdeal.nD,
          r.2.mem ((c.tc : Thread Cert.PostFinalSampleRefIdeal.nD Cert.PostFinalSampleRefIdeal.τ).loc Cert.PostFinalSampleRefIdeal.main_v34) = v0 c
          ∧ r.2.mem ((c.tc : Thread Cert.PostFinalSampleRefIdeal.nD Cert.PostFinalSampleRefIdeal.τ).loc Cert.PostFinalSampleRefIdeal.main_arg0) = m' ((c.tc : Thread Cert.PostFinalSampleRefIdeal.nD Cert.PostFinalSampleRefIdeal.τ).loc Cert.PostFinalSampleRefIdeal.main_arg0)
          ∧ r.2.mem ((c.tc : Thread Cert.PostFinalSampleRefIdeal.nD Cert.PostFinalSampleRefIdeal.τ).loc Cert.PostFinalSampleRefIdeal.main_arg1) = m' ((c.tc : Thread Cert.PostFinalSampleRefIdeal.nD Cert.PostFinalSampleRefIdeal.τ).loc Cert.PostFinalSampleRefIdeal.main_arg1)
          ∧ r.2.mem ((c.tc : Thread Cert.PostFinalSampleRefIdeal.nD Cert.PostFinalSampleRefIdeal.τ).loc Cert.PostFinalSampleRefIdeal.main_arg2) = m' ((c.tc : Thread Cert.PostFinalSampleRefIdeal.nD Cert.PostFinalSampleRefIdeal.τ).loc Cert.PostFinalSampleRefIdeal.main_arg2)
          ∧ r.2.mem ((c.tc : Thread Cert.PostFinalSampleRefIdeal.nD Cert.PostFinalSampleRefIdeal.τ).loc Cert.PostFinalSampleRefIdeal.main_arg3) = m' ((c.tc : Thread Cert.PostFinalSampleRefIdeal.nD Cert.PostFinalSampleRefIdeal.τ).loc Cert.PostFinalSampleRefIdeal.main_arg3)
          ∧ r.2.mem ((c.tc : Thread Cert.PostFinalSampleRefIdeal.nD Cert.PostFinalSampleRefIdeal.τ).loc Cert.PostFinalSampleRefIdeal.main_arg4) = m' ((c.tc : Thread Cert.PostFinalSampleRefIdeal.nD Cert.PostFinalSampleRefIdeal.τ).loc Cert.PostFinalSampleRefIdeal.main_arg4)
          ∧ r.2.mem ((c.tc : Thread Cert.PostFinalSampleRefIdeal.nD Cert.PostFinalSampleRefIdeal.τ).loc Cert.PostFinalSampleRefIdeal.main_arg5) = m' ((c.tc : Thread Cert.PostFinalSampleRefIdeal.nD Cert.PostFinalSampleRefIdeal.τ).loc Cert.PostFinalSampleRefIdeal.main_arg5)
          ∧ r.2.mem ((c.tc : Thread Cert.PostFinalSampleRefIdeal.nD Cert.PostFinalSampleRefIdeal.τ).loc Cert.PostFinalSampleRefIdeal.main_arg6) = m' ((c.tc : Thread Cert.PostFinalSampleRefIdeal.nD Cert.PostFinalSampleRefIdeal.τ).loc Cert.PostFinalSampleRefIdeal.main_arg6))

def preserves_DilProjSample_DilProjSampleIdeal : Prop :=
  True

def algebraic_DilProjSampleIdeal_DilProjSampleRefIdeal [hDilProjSampleIdeal : Cert.DilProjSampleIdeal.Facts] [hDilProjSampleRefIdeal : Cert.DilProjSampleRefIdeal.Facts] : Prop :=
  ∀ (m : (ℓ : Loc Cert.DilProjSampleIdeal.nD Cert.DilProjSampleIdeal.τ Cert.DilProjSampleIdeal.sig) → Buf (Elt Ideal) ℓ) (g : Dev Cert.DilProjSampleIdeal.nD → PrngReg)
    (m' : (ℓ : Loc Cert.DilProjSampleRefIdeal.nD Cert.DilProjSampleRefIdeal.τ Cert.DilProjSampleRefIdeal.sig) → Buf (Elt Ideal) ℓ) (g' : Dev Cert.DilProjSampleRefIdeal.nD → PrngReg), Pre_DilProjSampleIdeal m →
    (∀ c : Dev Cert.DilProjSampleIdeal.nD,
      m' ((c.tc : Thread Cert.DilProjSampleRefIdeal.nD Cert.DilProjSampleRefIdeal.τ).loc Cert.DilProjSampleRefIdeal.main_arg0) = m ((c.tc : Thread Cert.DilProjSampleIdeal.nD Cert.DilProjSampleIdeal.τ).loc Cert.DilProjSampleIdeal.main_arg0)
      ∧ m' ((c.tc : Thread Cert.DilProjSampleRefIdeal.nD Cert.DilProjSampleRefIdeal.τ).loc Cert.DilProjSampleRefIdeal.main_arg1) = m ((c.tc : Thread Cert.DilProjSampleIdeal.nD Cert.DilProjSampleIdeal.τ).loc Cert.DilProjSampleIdeal.main_arg1)
      ∧ m' ((c.tc : Thread Cert.DilProjSampleRefIdeal.nD Cert.DilProjSampleRefIdeal.τ).loc Cert.DilProjSampleRefIdeal.main_arg2) = m ((c.tc : Thread Cert.DilProjSampleIdeal.nD Cert.DilProjSampleIdeal.τ).loc Cert.DilProjSampleIdeal.main_arg2)
      ∧ m' ((c.tc : Thread Cert.DilProjSampleRefIdeal.nD Cert.DilProjSampleRefIdeal.τ).loc Cert.DilProjSampleRefIdeal.main_arg3) = m ((c.tc : Thread Cert.DilProjSampleIdeal.nD Cert.DilProjSampleIdeal.τ).loc Cert.DilProjSampleIdeal.main_arg3)
      ∧ m' ((c.tc : Thread Cert.DilProjSampleRefIdeal.nD Cert.DilProjSampleRefIdeal.τ).loc Cert.DilProjSampleRefIdeal.main_arg4) = m ((c.tc : Thread Cert.DilProjSampleIdeal.nD Cert.DilProjSampleIdeal.τ).loc Cert.DilProjSampleIdeal.main_arg4)
      ∧ m' ((c.tc : Thread Cert.DilProjSampleRefIdeal.nD Cert.DilProjSampleRefIdeal.τ).loc Cert.DilProjSampleRefIdeal.main_arg5) = m ((c.tc : Thread Cert.DilProjSampleIdeal.nD Cert.DilProjSampleIdeal.τ).loc Cert.DilProjSampleIdeal.main_arg5)) →
    ∃ (v0 : (c : Dev Cert.DilProjSampleIdeal.nD) → Buf (Elt Ideal) ((c.tc : Thread Cert.DilProjSampleIdeal.nD Cert.DilProjSampleIdeal.τ).loc Cert.DilProjSampleIdeal.main_v0_0)) (v1 : (c : Dev Cert.DilProjSampleIdeal.nD) → Buf (Elt Ideal) ((c.tc : Thread Cert.DilProjSampleIdeal.nD Cert.DilProjSampleIdeal.τ).loc Cert.DilProjSampleIdeal.main_v0_1)) (v2 : (c : Dev Cert.DilProjSampleIdeal.nD) → Buf (Elt Ideal) ((c.tc : Thread Cert.DilProjSampleIdeal.nD Cert.DilProjSampleIdeal.τ).loc Cert.DilProjSampleIdeal.main_v5)) (v3 : (c : Dev Cert.DilProjSampleIdeal.nD) → Buf (Elt Ideal) ((c.tc : Thread Cert.DilProjSampleIdeal.nD Cert.DilProjSampleIdeal.τ).loc Cert.DilProjSampleIdeal.main_v10)) (v4 : (c : Dev Cert.DilProjSampleIdeal.nD) → Buf (Elt Ideal) ((c.tc : Thread Cert.DilProjSampleIdeal.nD Cert.DilProjSampleIdeal.τ).loc Cert.DilProjSampleIdeal.main_v15)),
      θ_run (Cert.DilProjSampleIdeal.defs (F := Ideal)) (onTc (τ := Cert.DilProjSampleIdeal.τ) (Cert.DilProjSampleIdeal.main (F := Ideal))) ⟨m, fun _ => 0, g⟩ (fun r => ∀ c : Dev Cert.DilProjSampleIdeal.nD,
          r.2.mem ((c.tc : Thread Cert.DilProjSampleIdeal.nD Cert.DilProjSampleIdeal.τ).loc Cert.DilProjSampleIdeal.main_v0_0) = v0 c
          ∧ r.2.mem ((c.tc : Thread Cert.DilProjSampleIdeal.nD Cert.DilProjSampleIdeal.τ).loc Cert.DilProjSampleIdeal.main_v0_1) = v1 c
          ∧ r.2.mem ((c.tc : Thread Cert.DilProjSampleIdeal.nD Cert.DilProjSampleIdeal.τ).loc Cert.DilProjSampleIdeal.main_v5) = v2 c
          ∧ r.2.mem ((c.tc : Thread Cert.DilProjSampleIdeal.nD Cert.DilProjSampleIdeal.τ).loc Cert.DilProjSampleIdeal.main_v10) = v3 c
          ∧ r.2.mem ((c.tc : Thread Cert.DilProjSampleIdeal.nD Cert.DilProjSampleIdeal.τ).loc Cert.DilProjSampleIdeal.main_v15) = v4 c
          ∧ r.2.mem ((c.tc : Thread Cert.DilProjSampleIdeal.nD Cert.DilProjSampleIdeal.τ).loc Cert.DilProjSampleIdeal.main_arg0) = m ((c.tc : Thread Cert.DilProjSampleIdeal.nD Cert.DilProjSampleIdeal.τ).loc Cert.DilProjSampleIdeal.main_arg0)
          ∧ r.2.mem ((c.tc : Thread Cert.DilProjSampleIdeal.nD Cert.DilProjSampleIdeal.τ).loc Cert.DilProjSampleIdeal.main_arg1) = m ((c.tc : Thread Cert.DilProjSampleIdeal.nD Cert.DilProjSampleIdeal.τ).loc Cert.DilProjSampleIdeal.main_arg1)
          ∧ r.2.mem ((c.tc : Thread Cert.DilProjSampleIdeal.nD Cert.DilProjSampleIdeal.τ).loc Cert.DilProjSampleIdeal.main_arg2) = m ((c.tc : Thread Cert.DilProjSampleIdeal.nD Cert.DilProjSampleIdeal.τ).loc Cert.DilProjSampleIdeal.main_arg2)
          ∧ r.2.mem ((c.tc : Thread Cert.DilProjSampleIdeal.nD Cert.DilProjSampleIdeal.τ).loc Cert.DilProjSampleIdeal.main_arg3) = m ((c.tc : Thread Cert.DilProjSampleIdeal.nD Cert.DilProjSampleIdeal.τ).loc Cert.DilProjSampleIdeal.main_arg3)
          ∧ r.2.mem ((c.tc : Thread Cert.DilProjSampleIdeal.nD Cert.DilProjSampleIdeal.τ).loc Cert.DilProjSampleIdeal.main_arg4) = m ((c.tc : Thread Cert.DilProjSampleIdeal.nD Cert.DilProjSampleIdeal.τ).loc Cert.DilProjSampleIdeal.main_arg4)
          ∧ r.2.mem ((c.tc : Thread Cert.DilProjSampleIdeal.nD Cert.DilProjSampleIdeal.τ).loc Cert.DilProjSampleIdeal.main_arg5) = m ((c.tc : Thread Cert.DilProjSampleIdeal.nD Cert.DilProjSampleIdeal.τ).loc Cert.DilProjSampleIdeal.main_arg5))
      ∧ θ_run (Cert.DilProjSampleRefIdeal.defs (F := Ideal)) (onTc (τ := Cert.DilProjSampleRefIdeal.τ) (Cert.DilProjSampleRefIdeal.main (F := Ideal))) ⟨m', fun _ => 0, g'⟩ (fun r => ∀ c : Dev Cert.DilProjSampleRefIdeal.nD,
          r.2.mem ((c.tc : Thread Cert.DilProjSampleRefIdeal.nD Cert.DilProjSampleRefIdeal.τ).loc Cert.DilProjSampleRefIdeal.main_v37) = v0 c
          ∧ r.2.mem ((c.tc : Thread Cert.DilProjSampleRefIdeal.nD Cert.DilProjSampleRefIdeal.τ).loc Cert.DilProjSampleRefIdeal.main_v38) = v1 c
          ∧ r.2.mem ((c.tc : Thread Cert.DilProjSampleRefIdeal.nD Cert.DilProjSampleRefIdeal.τ).loc Cert.DilProjSampleRefIdeal.main_v25) = v2 c
          ∧ r.2.mem ((c.tc : Thread Cert.DilProjSampleRefIdeal.nD Cert.DilProjSampleRefIdeal.τ).loc Cert.DilProjSampleRefIdeal.main_v30) = v3 c
          ∧ r.2.mem ((c.tc : Thread Cert.DilProjSampleRefIdeal.nD Cert.DilProjSampleRefIdeal.τ).loc Cert.DilProjSampleRefIdeal.main_v35) = v4 c
          ∧ r.2.mem ((c.tc : Thread Cert.DilProjSampleRefIdeal.nD Cert.DilProjSampleRefIdeal.τ).loc Cert.DilProjSampleRefIdeal.main_arg0) = m' ((c.tc : Thread Cert.DilProjSampleRefIdeal.nD Cert.DilProjSampleRefIdeal.τ).loc Cert.DilProjSampleRefIdeal.main_arg0)
          ∧ r.2.mem ((c.tc : Thread Cert.DilProjSampleRefIdeal.nD Cert.DilProjSampleRefIdeal.τ).loc Cert.DilProjSampleRefIdeal.main_arg1) = m' ((c.tc : Thread Cert.DilProjSampleRefIdeal.nD Cert.DilProjSampleRefIdeal.τ).loc Cert.DilProjSampleRefIdeal.main_arg1)
          ∧ r.2.mem ((c.tc : Thread Cert.DilProjSampleRefIdeal.nD Cert.DilProjSampleRefIdeal.τ).loc Cert.DilProjSampleRefIdeal.main_arg2) = m' ((c.tc : Thread Cert.DilProjSampleRefIdeal.nD Cert.DilProjSampleRefIdeal.τ).loc Cert.DilProjSampleRefIdeal.main_arg2)
          ∧ r.2.mem ((c.tc : Thread Cert.DilProjSampleRefIdeal.nD Cert.DilProjSampleRefIdeal.τ).loc Cert.DilProjSampleRefIdeal.main_arg3) = m' ((c.tc : Thread Cert.DilProjSampleRefIdeal.nD Cert.DilProjSampleRefIdeal.τ).loc Cert.DilProjSampleRefIdeal.main_arg3)
          ∧ r.2.mem ((c.tc : Thread Cert.DilProjSampleRefIdeal.nD Cert.DilProjSampleRefIdeal.τ).loc Cert.DilProjSampleRefIdeal.main_arg4) = m' ((c.tc : Thread Cert.DilProjSampleRefIdeal.nD Cert.DilProjSampleRefIdeal.τ).loc Cert.DilProjSampleRefIdeal.main_arg4)
          ∧ r.2.mem ((c.tc : Thread Cert.DilProjSampleRefIdeal.nD Cert.DilProjSampleRefIdeal.τ).loc Cert.DilProjSampleRefIdeal.main_arg5) = m' ((c.tc : Thread Cert.DilProjSampleRefIdeal.nD Cert.DilProjSampleRefIdeal.τ).loc Cert.DilProjSampleRefIdeal.main_arg5))

def preserves_MlaProjSample_MlaProjSampleIdeal : Prop :=
  True

def algebraic_MlaProjSampleIdeal_MlaProjSampleRefIdeal [hMlaProjSampleIdeal : Cert.MlaProjSampleIdeal.Facts] [hMlaProjSampleRefIdeal : Cert.MlaProjSampleRefIdeal.Facts] : Prop :=
  ∀ (m : (ℓ : Loc Cert.MlaProjSampleIdeal.nD Cert.MlaProjSampleIdeal.τ Cert.MlaProjSampleIdeal.sig) → Buf (Elt Ideal) ℓ) (g : Dev Cert.MlaProjSampleIdeal.nD → PrngReg)
    (m' : (ℓ : Loc Cert.MlaProjSampleRefIdeal.nD Cert.MlaProjSampleRefIdeal.τ Cert.MlaProjSampleRefIdeal.sig) → Buf (Elt Ideal) ℓ) (g' : Dev Cert.MlaProjSampleRefIdeal.nD → PrngReg), Pre_MlaProjSampleIdeal m →
    (∀ c : Dev Cert.MlaProjSampleIdeal.nD,
      m' ((c.tc : Thread Cert.MlaProjSampleRefIdeal.nD Cert.MlaProjSampleRefIdeal.τ).loc Cert.MlaProjSampleRefIdeal.main_arg0) = m ((c.tc : Thread Cert.MlaProjSampleIdeal.nD Cert.MlaProjSampleIdeal.τ).loc Cert.MlaProjSampleIdeal.main_arg0)
      ∧ m' ((c.tc : Thread Cert.MlaProjSampleRefIdeal.nD Cert.MlaProjSampleRefIdeal.τ).loc Cert.MlaProjSampleRefIdeal.main_arg1) = m ((c.tc : Thread Cert.MlaProjSampleIdeal.nD Cert.MlaProjSampleIdeal.τ).loc Cert.MlaProjSampleIdeal.main_arg1)
      ∧ m' ((c.tc : Thread Cert.MlaProjSampleRefIdeal.nD Cert.MlaProjSampleRefIdeal.τ).loc Cert.MlaProjSampleRefIdeal.main_arg2) = m ((c.tc : Thread Cert.MlaProjSampleIdeal.nD Cert.MlaProjSampleIdeal.τ).loc Cert.MlaProjSampleIdeal.main_arg2)
      ∧ m' ((c.tc : Thread Cert.MlaProjSampleRefIdeal.nD Cert.MlaProjSampleRefIdeal.τ).loc Cert.MlaProjSampleRefIdeal.main_arg3) = m ((c.tc : Thread Cert.MlaProjSampleIdeal.nD Cert.MlaProjSampleIdeal.τ).loc Cert.MlaProjSampleIdeal.main_arg3)
      ∧ m' ((c.tc : Thread Cert.MlaProjSampleRefIdeal.nD Cert.MlaProjSampleRefIdeal.τ).loc Cert.MlaProjSampleRefIdeal.main_arg4) = m ((c.tc : Thread Cert.MlaProjSampleIdeal.nD Cert.MlaProjSampleIdeal.τ).loc Cert.MlaProjSampleIdeal.main_arg4)
      ∧ m' ((c.tc : Thread Cert.MlaProjSampleRefIdeal.nD Cert.MlaProjSampleRefIdeal.τ).loc Cert.MlaProjSampleRefIdeal.main_arg5) = m ((c.tc : Thread Cert.MlaProjSampleIdeal.nD Cert.MlaProjSampleIdeal.τ).loc Cert.MlaProjSampleIdeal.main_arg5)
      ∧ m' ((c.tc : Thread Cert.MlaProjSampleRefIdeal.nD Cert.MlaProjSampleRefIdeal.τ).loc Cert.MlaProjSampleRefIdeal.main_arg6) = m ((c.tc : Thread Cert.MlaProjSampleIdeal.nD Cert.MlaProjSampleIdeal.τ).loc Cert.MlaProjSampleIdeal.main_arg6)) →
    ∃ (v0 : (c : Dev Cert.MlaProjSampleIdeal.nD) → Buf (Elt Ideal) ((c.tc : Thread Cert.MlaProjSampleIdeal.nD Cert.MlaProjSampleIdeal.τ).loc Cert.MlaProjSampleIdeal.main_v50_0)) (v1 : (c : Dev Cert.MlaProjSampleIdeal.nD) → Buf (Elt Ideal) ((c.tc : Thread Cert.MlaProjSampleIdeal.nD Cert.MlaProjSampleIdeal.τ).loc Cert.MlaProjSampleIdeal.main_v50_1)) (v2 : (c : Dev Cert.MlaProjSampleIdeal.nD) → Buf (Elt Ideal) ((c.tc : Thread Cert.MlaProjSampleIdeal.nD Cert.MlaProjSampleIdeal.τ).loc Cert.MlaProjSampleIdeal.main_v50_2)),
      θ_run (Cert.MlaProjSampleIdeal.defs (F := Ideal)) (onTc (τ := Cert.MlaProjSampleIdeal.τ) (Cert.MlaProjSampleIdeal.main (F := Ideal))) ⟨m, fun _ => 0, g⟩ (fun r => ∀ c : Dev Cert.MlaProjSampleIdeal.nD,
          r.2.mem ((c.tc : Thread Cert.MlaProjSampleIdeal.nD Cert.MlaProjSampleIdeal.τ).loc Cert.MlaProjSampleIdeal.main_v50_0) = v0 c
          ∧ r.2.mem ((c.tc : Thread Cert.MlaProjSampleIdeal.nD Cert.MlaProjSampleIdeal.τ).loc Cert.MlaProjSampleIdeal.main_v50_1) = v1 c
          ∧ r.2.mem ((c.tc : Thread Cert.MlaProjSampleIdeal.nD Cert.MlaProjSampleIdeal.τ).loc Cert.MlaProjSampleIdeal.main_v50_2) = v2 c
          ∧ r.2.mem ((c.tc : Thread Cert.MlaProjSampleIdeal.nD Cert.MlaProjSampleIdeal.τ).loc Cert.MlaProjSampleIdeal.main_arg0) = m ((c.tc : Thread Cert.MlaProjSampleIdeal.nD Cert.MlaProjSampleIdeal.τ).loc Cert.MlaProjSampleIdeal.main_arg0)
          ∧ r.2.mem ((c.tc : Thread Cert.MlaProjSampleIdeal.nD Cert.MlaProjSampleIdeal.τ).loc Cert.MlaProjSampleIdeal.main_arg1) = m ((c.tc : Thread Cert.MlaProjSampleIdeal.nD Cert.MlaProjSampleIdeal.τ).loc Cert.MlaProjSampleIdeal.main_arg1)
          ∧ r.2.mem ((c.tc : Thread Cert.MlaProjSampleIdeal.nD Cert.MlaProjSampleIdeal.τ).loc Cert.MlaProjSampleIdeal.main_arg2) = m ((c.tc : Thread Cert.MlaProjSampleIdeal.nD Cert.MlaProjSampleIdeal.τ).loc Cert.MlaProjSampleIdeal.main_arg2)
          ∧ r.2.mem ((c.tc : Thread Cert.MlaProjSampleIdeal.nD Cert.MlaProjSampleIdeal.τ).loc Cert.MlaProjSampleIdeal.main_arg3) = m ((c.tc : Thread Cert.MlaProjSampleIdeal.nD Cert.MlaProjSampleIdeal.τ).loc Cert.MlaProjSampleIdeal.main_arg3)
          ∧ r.2.mem ((c.tc : Thread Cert.MlaProjSampleIdeal.nD Cert.MlaProjSampleIdeal.τ).loc Cert.MlaProjSampleIdeal.main_arg4) = m ((c.tc : Thread Cert.MlaProjSampleIdeal.nD Cert.MlaProjSampleIdeal.τ).loc Cert.MlaProjSampleIdeal.main_arg4)
          ∧ r.2.mem ((c.tc : Thread Cert.MlaProjSampleIdeal.nD Cert.MlaProjSampleIdeal.τ).loc Cert.MlaProjSampleIdeal.main_arg5) = m ((c.tc : Thread Cert.MlaProjSampleIdeal.nD Cert.MlaProjSampleIdeal.τ).loc Cert.MlaProjSampleIdeal.main_arg5)
          ∧ r.2.mem ((c.tc : Thread Cert.MlaProjSampleIdeal.nD Cert.MlaProjSampleIdeal.τ).loc Cert.MlaProjSampleIdeal.main_arg6) = m ((c.tc : Thread Cert.MlaProjSampleIdeal.nD Cert.MlaProjSampleIdeal.τ).loc Cert.MlaProjSampleIdeal.main_arg6))
      ∧ θ_run (Cert.MlaProjSampleRefIdeal.defs (F := Ideal)) (onTc (τ := Cert.MlaProjSampleRefIdeal.τ) (Cert.MlaProjSampleRefIdeal.main (F := Ideal))) ⟨m', fun _ => 0, g'⟩ (fun r => ∀ c : Dev Cert.MlaProjSampleRefIdeal.nD,
          r.2.mem ((c.tc : Thread Cert.MlaProjSampleRefIdeal.nD Cert.MlaProjSampleRefIdeal.τ).loc Cert.MlaProjSampleRefIdeal.main_v112) = v0 c
          ∧ r.2.mem ((c.tc : Thread Cert.MlaProjSampleRefIdeal.nD Cert.MlaProjSampleRefIdeal.τ).loc Cert.MlaProjSampleRefIdeal.main_v113) = v1 c
          ∧ r.2.mem ((c.tc : Thread Cert.MlaProjSampleRefIdeal.nD Cert.MlaProjSampleRefIdeal.τ).loc Cert.MlaProjSampleRefIdeal.main_v114) = v2 c
          ∧ r.2.mem ((c.tc : Thread Cert.MlaProjSampleRefIdeal.nD Cert.MlaProjSampleRefIdeal.τ).loc Cert.MlaProjSampleRefIdeal.main_arg0) = m' ((c.tc : Thread Cert.MlaProjSampleRefIdeal.nD Cert.MlaProjSampleRefIdeal.τ).loc Cert.MlaProjSampleRefIdeal.main_arg0)
          ∧ r.2.mem ((c.tc : Thread Cert.MlaProjSampleRefIdeal.nD Cert.MlaProjSampleRefIdeal.τ).loc Cert.MlaProjSampleRefIdeal.main_arg1) = m' ((c.tc : Thread Cert.MlaProjSampleRefIdeal.nD Cert.MlaProjSampleRefIdeal.τ).loc Cert.MlaProjSampleRefIdeal.main_arg1)
          ∧ r.2.mem ((c.tc : Thread Cert.MlaProjSampleRefIdeal.nD Cert.MlaProjSampleRefIdeal.τ).loc Cert.MlaProjSampleRefIdeal.main_arg2) = m' ((c.tc : Thread Cert.MlaProjSampleRefIdeal.nD Cert.MlaProjSampleRefIdeal.τ).loc Cert.MlaProjSampleRefIdeal.main_arg2)
          ∧ r.2.mem ((c.tc : Thread Cert.MlaProjSampleRefIdeal.nD Cert.MlaProjSampleRefIdeal.τ).loc Cert.MlaProjSampleRefIdeal.main_arg3) = m' ((c.tc : Thread Cert.MlaProjSampleRefIdeal.nD Cert.MlaProjSampleRefIdeal.τ).loc Cert.MlaProjSampleRefIdeal.main_arg3)
          ∧ r.2.mem ((c.tc : Thread Cert.MlaProjSampleRefIdeal.nD Cert.MlaProjSampleRefIdeal.τ).loc Cert.MlaProjSampleRefIdeal.main_arg4) = m' ((c.tc : Thread Cert.MlaProjSampleRefIdeal.nD Cert.MlaProjSampleRefIdeal.τ).loc Cert.MlaProjSampleRefIdeal.main_arg4)
          ∧ r.2.mem ((c.tc : Thread Cert.MlaProjSampleRefIdeal.nD Cert.MlaProjSampleRefIdeal.τ).loc Cert.MlaProjSampleRefIdeal.main_arg5) = m' ((c.tc : Thread Cert.MlaProjSampleRefIdeal.nD Cert.MlaProjSampleRefIdeal.τ).loc Cert.MlaProjSampleRefIdeal.main_arg5)
          ∧ r.2.mem ((c.tc : Thread Cert.MlaProjSampleRefIdeal.nD Cert.MlaProjSampleRefIdeal.τ).loc Cert.MlaProjSampleRefIdeal.main_arg6) = m' ((c.tc : Thread Cert.MlaProjSampleRefIdeal.nD Cert.MlaProjSampleRefIdeal.τ).loc Cert.MlaProjSampleRefIdeal.main_arg6))

def Claim : Prop :=
  ∃ (hAttn : Cert.Attn.Facts) (hAttnIdeal : Cert.AttnIdeal.Facts) (hAttnRefIdeal : Cert.AttnRefIdeal.Facts) (hPostMla : Cert.PostMla.Facts) (hPostMlaIdeal : Cert.PostMlaIdeal.Facts) (hPostMlaRefIdeal : Cert.PostMlaRefIdeal.Facts) (hPostFinal : Cert.PostFinal.Facts) (hPostFinalIdeal : Cert.PostFinalIdeal.Facts) (hPostFinalRefIdeal : Cert.PostFinalRefIdeal.Facts) (hDilProj : Cert.DilProj.Facts) (hDilProjIdeal : Cert.DilProjIdeal.Facts) (hDilProjRefIdeal : Cert.DilProjRefIdeal.Facts) (hPostDil : Cert.PostDil.Facts) (hPostDilIdeal : Cert.PostDilIdeal.Facts) (hPostDilRefIdeal : Cert.PostDilRefIdeal.Facts) (hMlaProj : Cert.MlaProj.Facts) (hMlaProjIdeal : Cert.MlaProjIdeal.Facts) (hMlaProjRefIdeal : Cert.MlaProjRefIdeal.Facts) (hDilAttn : Cert.DilAttn.Facts) (hDilAttnIdeal : Cert.DilAttnIdeal.Facts) (hDilAttnRefIdeal : Cert.DilAttnRefIdeal.Facts) (hPostFinalSample : Cert.PostFinalSample.Facts) (hPostFinalSampleIdeal : Cert.PostFinalSampleIdeal.Facts) (hPostFinalSampleRefIdeal : Cert.PostFinalSampleRefIdeal.Facts) (hDilProjSample : Cert.DilProjSample.Facts) (hDilProjSampleIdeal : Cert.DilProjSampleIdeal.Facts) (hDilProjSampleRefIdeal : Cert.DilProjSampleRefIdeal.Facts) (hMlaProjSample : Cert.MlaProjSample.Facts) (hMlaProjSampleIdeal : Cert.MlaProjSampleIdeal.Facts) (hMlaProjSampleRefIdeal : Cert.MlaProjSampleRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_PostMla (hPostMla := hPostMla)
    ∧ quiescent_PostMlaIdeal (hPostMlaIdeal := hPostMlaIdeal)
    ∧ quiescent_PostMlaRefIdeal (hPostMlaRefIdeal := hPostMlaRefIdeal)
    ∧ quiescent_PostFinal (hPostFinal := hPostFinal)
    ∧ quiescent_PostFinalIdeal (hPostFinalIdeal := hPostFinalIdeal)
    ∧ quiescent_PostFinalRefIdeal (hPostFinalRefIdeal := hPostFinalRefIdeal)
    ∧ quiescent_DilProj (hDilProj := hDilProj)
    ∧ quiescent_DilProjIdeal (hDilProjIdeal := hDilProjIdeal)
    ∧ quiescent_DilProjRefIdeal (hDilProjRefIdeal := hDilProjRefIdeal)
    ∧ quiescent_PostDil (hPostDil := hPostDil)
    ∧ quiescent_PostDilIdeal (hPostDilIdeal := hPostDilIdeal)
    ∧ quiescent_PostDilRefIdeal (hPostDilRefIdeal := hPostDilRefIdeal)
    ∧ quiescent_MlaProj (hMlaProj := hMlaProj)
    ∧ quiescent_MlaProjIdeal (hMlaProjIdeal := hMlaProjIdeal)
    ∧ quiescent_MlaProjRefIdeal (hMlaProjRefIdeal := hMlaProjRefIdeal)
    ∧ quiescent_DilAttn (hDilAttn := hDilAttn)
    ∧ quiescent_DilAttnIdeal (hDilAttnIdeal := hDilAttnIdeal)
    ∧ quiescent_DilAttnRefIdeal (hDilAttnRefIdeal := hDilAttnRefIdeal)
    ∧ quiescent_PostFinalSample (hPostFinalSample := hPostFinalSample)
    ∧ quiescent_PostFinalSampleIdeal (hPostFinalSampleIdeal := hPostFinalSampleIdeal)
    ∧ quiescent_PostFinalSampleRefIdeal (hPostFinalSampleRefIdeal := hPostFinalSampleRefIdeal)
    ∧ quiescent_DilProjSample (hDilProjSample := hDilProjSample)
    ∧ quiescent_DilProjSampleIdeal (hDilProjSampleIdeal := hDilProjSampleIdeal)
    ∧ quiescent_DilProjSampleRefIdeal (hDilProjSampleRefIdeal := hDilProjSampleRefIdeal)
    ∧ quiescent_MlaProjSample (hMlaProjSample := hMlaProjSample)
    ∧ quiescent_MlaProjSampleIdeal (hMlaProjSampleIdeal := hMlaProjSampleIdeal)
    ∧ quiescent_MlaProjSampleRefIdeal (hMlaProjSampleRefIdeal := hMlaProjSampleRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_PostMla_PostMlaIdeal
    ∧ algebraic_PostMlaIdeal_PostMlaRefIdeal (hPostMlaIdeal := hPostMlaIdeal) (hPostMlaRefIdeal := hPostMlaRefIdeal)
    ∧ preserves_PostFinal_PostFinalIdeal
    ∧ algebraic_PostFinalIdeal_PostFinalRefIdeal (hPostFinalIdeal := hPostFinalIdeal) (hPostFinalRefIdeal := hPostFinalRefIdeal)
    ∧ preserves_DilProj_DilProjIdeal
    ∧ algebraic_DilProjIdeal_DilProjRefIdeal (hDilProjIdeal := hDilProjIdeal) (hDilProjRefIdeal := hDilProjRefIdeal)
    ∧ preserves_PostDil_PostDilIdeal
    ∧ algebraic_PostDilIdeal_PostDilRefIdeal (hPostDilIdeal := hPostDilIdeal) (hPostDilRefIdeal := hPostDilRefIdeal)
    ∧ preserves_MlaProj_MlaProjIdeal
    ∧ algebraic_MlaProjIdeal_MlaProjRefIdeal (hMlaProjIdeal := hMlaProjIdeal) (hMlaProjRefIdeal := hMlaProjRefIdeal)
    ∧ preserves_DilAttn_DilAttnIdeal
    ∧ algebraic_DilAttnIdeal_DilAttnRefIdeal (hDilAttnIdeal := hDilAttnIdeal) (hDilAttnRefIdeal := hDilAttnRefIdeal)
    ∧ preserves_PostFinalSample_PostFinalSampleIdeal
    ∧ algebraic_PostFinalSampleIdeal_PostFinalSampleRefIdeal (hPostFinalSampleIdeal := hPostFinalSampleIdeal) (hPostFinalSampleRefIdeal := hPostFinalSampleRefIdeal)
    ∧ preserves_DilProjSample_DilProjSampleIdeal
    ∧ algebraic_DilProjSampleIdeal_DilProjSampleRefIdeal (hDilProjSampleIdeal := hDilProjSampleIdeal) (hDilProjSampleRefIdeal := hDilProjSampleRefIdeal)
    ∧ preserves_MlaProjSample_MlaProjSampleIdeal
    ∧ algebraic_MlaProjSampleIdeal_MlaProjSampleRefIdeal (hMlaProjSampleIdeal := hMlaProjSampleIdeal) (hMlaProjSampleRefIdeal := hMlaProjSampleRefIdeal)
-- ==== Pre_finite.lean ====
abbrev S16384x2048 : Shape := ⟨2, ![16384, 2048]⟩
abbrev S16384x1024 : Shape := ⟨2, ![16384, 1024]⟩
abbrev S_ : Shape := ⟨0, ![]⟩

class Facts : Prop where
  bcast_S_S16384x2048 : S_.BroadcastsInDim S16384x2048 (![] : Fin 0 → Fin S16384x2048.rank)

variable [Facts]

def fn {F : FTy → Type} [FloatOps F] (main_arg0 : FVec F S16384x2048 .bf16) (main_arg1 : FVec F S16384x2048 .bf16) (main_arg2 : FVec F S16384x1024 .bf16) : IVec S16384x2048 1 :=
  let main_v0 : FVec F S16384x2048 .bf16 := Host.absf main_arg0
  let main_cst : FVec F S_ .bf16 := constant S_ .bf16 0x7F80#16
  let main_v1 : FVec F S16384x2048 .bf16 := broadcastInDim S16384x2048 ![] bcast_S_S16384x2048 main_cst
  let main_v2 : IVec S16384x2048 1 := cmpf .olt main_v0 main_v1
  let main_v3 : FVec F S16384x2048 .bf16 := Host.absf main_arg1
  let main_cst_0 : FVec F S_ .bf16 := constant S_ .bf16 0x7F80#16
  let main_v4 : FVec F S16384x2048 .bf16 := broadcastInDim S16384x2048 ![] bcast_S_S16384x2048 main_cst_0
  let main_v5 : IVec S16384x2048 1 := cmpf .olt main_v3 main_v4
  let main_v6 : IVec S16384x2048 1 := andi main_v2 main_v5
  main_v6
-- ==== Attn.lean ====
abbrev S16384x2048 : Shape := ⟨2, ![16384, 2048]⟩
abbrev S16384x1024 : Shape := ⟨2, ![16384, 1024]⟩
abbrev S256x256 : Shape := ⟨2, ![256, 256]⟩
abbrev S2048x256 : Shape := ⟨2, ![2048, 256]⟩
abbrev S2048x128 : Shape := ⟨2, ![2048, 128]⟩
abbrev S256x128 : Shape := ⟨2, ![256, 128]⟩
abbrev S256x1 : Shape := ⟨2, ![256, 1]⟩
abbrev S256 : Shape := ⟨1, ![256]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x1024, .bf16⟩
  | .hbm, ⟨3, _⟩ => ⟨S16384x1024, .bf16⟩
  | .local _ .vmem, ⟨0, _⟩ => ⟨S256x256, .bf16⟩
  | .local _ .vmem, ⟨1, _⟩ => ⟨S256x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 8], ![false, false, false]⟩

@[reducible] def k0_t1_loop (i : grid0.Coords) : Scf.Loop 32 :=
  let c0_i32 : BitVec 32 := 0#32
  let arg2 : BitVec 32 := BitVec.ofNat 32 (i 2).val
  let v6 : BitVec 32 := Scalar.subi arg2 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_3 : BitVec 32 := 1#32
  ⟨c0_i32, v10, c1_i32_3⟩
def k0_mult1 (i : grid0.Coords) (k0_t1 : Fin (k0_t1_loop i).trips) : BitVec 32 :=
  let c0_i32 : BitVec 32 := 0#32
  let c1_i32_3 : BitVec 32 := 1#32
  let arg7 : BitVec 32 := Scf.iv c0_i32 c1_i32_3 k0_t1
  let c256_i32_30 : BitVec 32 := 256#32
  let v88 : BitVec 32 := Scalar.muli arg7 c256_i32_30
  v88
def k0_off1 (i : grid0.Coords) (k0_t1 : Fin (k0_t1_loop i).trips) : Fin 2 → Nat :=
  let c0_i32 : BitVec 32 := 0#32
  let c1_i32_3 : BitVec 32 := 1#32
  let arg7 : BitVec 32 := Scf.iv c0_i32 c1_i32_3 k0_t1
  let c256_i32_30 : BitVec 32 := 256#32
  let v88 : BitVec 32 := Scalar.muli arg7 c256_i32_30
  let v89 : BitVec 32 := v88
  let v90 : Index := Scalar.indexCast v89
  let c0_31 : Index := 0#32
  ![v90.toNat, 0]
def k0_off2 (i : grid0.Coords) (k0_t1 : Fin (k0_t1_loop i).trips) : Fin 2 → Nat :=
  let c0_i32 : BitVec 32 := 0#32
  let c1_i32_3 : BitVec 32 := 1#32
  let arg7 : BitVec 32 := Scf.iv c0_i32 c1_i32_3 k0_t1
  let c256_i32_30 : BitVec 32 := 256#32
  let v88 : BitVec 32 := Scalar.muli arg7 c256_i32_30
  let v89 : BitVec 32 := v88
  let v105 : Index := Scalar.indexCast v89
  let c0_35 : Index := 0#32
  ![v105.toNat, 0]
@[reducible] def k0_t2_loop (i : grid0.Coords) : Scf.Loop 32 :=
  let c0_i32 : BitVec 32 := 0#32
  let arg2 : BitVec 32 := BitVec.ofNat 32 (i 2).val
  let v6 : BitVec 32 := Scalar.subi arg2 c0_i32
  let c1_i32 : BitVec 32 := 1#32
  let v8 : BitVec 32 := Scalar.divsi v6 c1_i32
  let v9 : BitVec 32 := Scalar.muli v8 c1_i32
  let v10 : BitVec 32 := Scalar.addi c0_i32 v9
  let v7 : BitVec 32 := Scalar.addi c0_i32 v6
  let c1_i32_4 : BitVec 32 := 1#32
  ⟨v10, v7, c1_i32_4⟩
def k0_mult2 (i : grid0.Coords) (k0_t2 : Fin (k0_t2_loop i).trips) : BitVec 32 :=
  let c0_i32 : BitVec 32 := 0#32
  let arg2 : BitVec 32 := BitVec.ofNat 32 (i 2).val
  let v6 : BitVec 32 := Scalar.subi arg2 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_4 : BitVec 32 := 1#32
  let arg7 : BitVec 32 := Scf.iv v10 c1_i32_4 k0_t2
  let c256_i32_30 : BitVec 32 := 256#32
  let v88 : BitVec 32 := Scalar.muli arg7 c256_i32_30
  v88
def k0_off3 (i : grid0.Coords) (k0_t2 : Fin (k0_t2_loop i).trips) : Fin 2 → Nat :=
  let c0_i32 : BitVec 32 := 0#32
  let arg2 : BitVec 32 := BitVec.ofNat 32 (i 2).val
  let v6 : BitVec 32 := Scalar.subi arg2 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_4 : BitVec 32 := 1#32
  let arg7 : BitVec 32 := Scf.iv v10 c1_i32_4 k0_t2
  let c256_i32_30 : BitVec 32 := 256#32
  let v88 : BitVec 32 := Scalar.muli arg7 c256_i32_30
  let v89 : BitVec 32 := v88
  let v90 : Index := Scalar.indexCast v89
  let c0_31 : Index := 0#32
  ![v90.toNat, 0]
def k0_off4 (i : grid0.Coords) (k0_t2 : Fin (k0_t2_loop i).trips) : Fin 2 → Nat :=
  let c0_i32 : BitVec 32 := 0#32
  let arg2 : BitVec 32 := BitVec.ofNat 32 (i 2).val
  let v6 : BitVec 32 := Scalar.subi arg2 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_4 : BitVec 32 := 1#32
  let arg7 : BitVec 32 := Scf.iv v10 c1_i32_4 k0_t2
  let c256_i32_30 : BitVec 32 := 256#32
  let v88 : BitVec 32 := Scalar.muli arg7 c256_i32_30
  let v89 : BitVec 32 := v88
  let v105 : Index := Scalar.indexCast v89
  let c0_35 : Index := 0#32
  ![v105.toNat, 0]
def k0_mult3 (i : grid0.Coords) : BitVec 32 :=
  let arg2 : BitVec 32 := BitVec.ofNat 32 (i 2).val
  let c256_i32 : BitVec 32 := 256#32
  let v13 : BitVec 32 := Scalar.muli arg2 c256_i32
  v13
def k0_off5 (i : grid0.Coords) : Fin 2 → Nat :=
  let arg2 : BitVec 32 := BitVec.ofNat 32 (i 2).val
  let c256_i32 : BitVec 32 := 256#32
  let v13 : BitVec 32 := Scalar.muli arg2 c256_i32
  let v14 : BitVec 32 := v13
  let v15 : Index := Scalar.indexCast v14
  let c0_5 : Index := 0#32
  ![v15.toNat, 0]
def k0_off6 (i : grid0.Coords) : Fin 2 → Nat :=
  let arg2 : BitVec 32 := BitVec.ofNat 32 (i 2).val
  let c256_i32 : BitVec 32 := 256#32
  let v13 : BitVec 32 := Scalar.muli arg2 c256_i32
  let v14 : BitVec 32 := v13
  let v33 : Index := Scalar.indexCast v14
  let c0_10 : Index := 0#32
  ![v33.toNat, 0]
@[reducible] def k0_t3_loop (i : grid0.Coords) : Scf.Loop 32 :=
  let c0_i32_16 : BitVec 32 := 0#32
  let arg2 : BitVec 32 := BitVec.ofNat 32 (i 2).val
  let v46 : BitVec 32 := Scalar.subi arg2 c0_i32_16
  let c1_i32_17 : BitVec 32 := 1#32
  let v48 : BitVec 32 := Scalar.divsi v46 c1_i32_17
  let v49 : BitVec 32 := Scalar.muli v48 c1_i32_17
  let v50 : BitVec 32 := Scalar.addi c0_i32_16 v49
  let c1_i32_18 : BitVec 32 := 1#32
  ⟨c0_i32_16, v50, c1_i32_18⟩
def k0_mult4 (i : grid0.Coords) (k0_t3 : Fin (k0_t3_loop i).trips) : BitVec 32 :=
  let c0_i32_16 : BitVec 32 := 0#32
  let c1_i32_18 : BitVec 32 := 1#32
  let arg7 : BitVec 32 := Scf.iv c0_i32_16 c1_i32_18 k0_t3
  let c256_i32_30 : BitVec 32 := 256#32
  let v88 : BitVec 32 := Scalar.muli arg7 c256_i32_30
  v88
def k0_off7 (i : grid0.Coords) (k0_t3 : Fin (k0_t3_loop i).trips) : Fin 2 → Nat :=
  let c0_i32_16 : BitVec 32 := 0#32
  let c1_i32_18 : BitVec 32 := 1#32
  let arg7 : BitVec 32 := Scf.iv c0_i32_16 c1_i32_18 k0_t3
  let c256_i32_30 : BitVec 32 := 256#32
  let v88 : BitVec 32 := Scalar.muli arg7 c256_i32_30
  let v89 : BitVec 32 := v88
  let v90 : Index := Scalar.indexCast v89
  let c128_31 : Index := 128#32
  ![v90.toNat, 128]
def k0_off8 (i : grid0.Coords) (k0_t3 : Fin (k0_t3_loop i).trips) : Fin 2 → Nat :=
  let c0_i32_16 : BitVec 32 := 0#32
  let c1_i32_18 : BitVec 32 := 1#32
  let arg7 : BitVec 32 := Scf.iv c0_i32_16 c1_i32_18 k0_t3
  let c256_i32_30 : BitVec 32 := 256#32
  let v88 : BitVec 32 := Scalar.muli arg7 c256_i32_30
  let v89 : BitVec 32 := v88
  let v105 : Index := Scalar.indexCast v89
  let c0_35 : Index := 0#32
  ![v105.toNat, 0]
@[reducible] def k0_t4_loop (i : grid0.Coords) : Scf.Loop 32 :=
  let c0_i32_16 : BitVec 32 := 0#32
  let arg2 : BitVec 32 := BitVec.ofNat 32 (i 2).val
  let v46 : BitVec 32 := Scalar.subi arg2 c0_i32_16
  let c1_i32_17 : BitVec 32 := 1#32
  let v48 : BitVec 32 := Scalar.divsi v46 c1_i32_17
  let v49 : BitVec 32 := Scalar.muli v48 c1_i32_17
  let v50 : BitVec 32 := Scalar.addi c0_i32_16 v49
  let v47 : BitVec 32 := Scalar.addi c0_i32_16 v46
  let c1_i32_19 : BitVec 32 := 1#32
  ⟨v50, v47, c1_i32_19⟩
def k0_mult5 (i : grid0.Coords) (k0_t4 : Fin (k0_t4_loop i).trips) : BitVec 32 :=
  let c0_i32_16 : BitVec 32 := 0#32
  let arg2 : BitVec 32 := BitVec.ofNat 32 (i 2).val
  let v46 : BitVec 32 := Scalar.subi arg2 c0_i32_16
  let c1_i32_17 : BitVec 32 := 1#32
  let v48 : BitVec 32 := Scalar.divsi v46 c1_i32_17
  let v49 : BitVec 32 := Scalar.muli v48 c1_i32_17
  let v50 : BitVec 32 := Scalar.addi c0_i32_16 v49
  let c1_i32_19 : BitVec 32 := 1#32
  let arg7 : BitVec 32 := Scf.iv v50 c1_i32_19 k0_t4
  let c256_i32_30 : BitVec 32 := 256#32
  let v88 : BitVec 32 := Scalar.muli arg7 c256_i32_30
  v88
def k0_off9 (i : grid0.Coords) (k0_t4 : Fin (k0_t4_loop i).trips) : Fin 2 → Nat :=
  let c0_i32_16 : BitVec 32 := 0#32
  let arg2 : BitVec 32 := BitVec.ofNat 32 (i 2).val
  let v46 : BitVec 32 := Scalar.subi arg2 c0_i32_16
  let c1_i32_17 : BitVec 32 := 1#32
  let v48 : BitVec 32 := Scalar.divsi v46 c1_i32_17
  let v49 : BitVec 32 := Scalar.muli v48 c1_i32_17
  let v50 : BitVec 32 := Scalar.addi c0_i32_16 v49
  let c1_i32_19 : BitVec 32 := 1#32
  let arg7 : BitVec 32 := Scf.iv v50 c1_i32_19 k0_t4
  let c256_i32_30 : BitVec 32 := 256#32
  let v88 : BitVec 32 := Scalar.muli arg7 c256_i32_30
  let v89 : BitVec 32 := v88
  let v90 : Index := Scalar.indexCast v89
  let c128_31 : Index := 128#32
  ![v90.toNat, 128]
def k0_off10 (i : grid0.Coords) (k0_t4 : Fin (k0_t4_loop i).trips) : Fin 2 → Nat :=
  let c0_i32_16 : BitVec 32 := 0#32
  let arg2 : BitVec 32 := BitVec.ofNat 32 (i 2).val
  let v46 : BitVec 32 := Scalar.subi arg2 c0_i32_16
  let c1_i32_17 : BitVec 32 := 1#32
  let v48 : BitVec 32 := Scalar.divsi v46 c1_i32_17
  let v49 : BitVec 32 := Scalar.muli v48 c1_i32_17
  let v50 : BitVec 32 := Scalar.addi c0_i32_16 v49
  let c1_i32_19 : BitVec 32 := 1#32
  let arg7 : BitVec 32 := Scf.iv v50 c1_i32_19 k0_t4
  let c256_i32_30 : BitVec 32 := 256#32
  let v88 : BitVec 32 := Scalar.muli arg7 c256_i32_30
  let v89 : BitVec 32 := v88
  let v105 : Index := Scalar.indexCast v89
  let c0_35 : Index := 0#32
  ![v105.toNat, 0]
def k0_mult6 (i : grid0.Coords) : BitVec 32 :=
  let arg2 : BitVec 32 := BitVec.ofNat 32 (i 2).val
  let c256_i32_20 : BitVec 32 := 256#32
  let v53 : BitVec 32 := Scalar.muli arg2 c256_i32_20
  v53
def k0_off11 (i : grid0.Coords) : Fin 2 → Nat :=
  let arg2 : BitVec 32 := BitVec.ofNat 32 (i 2).val
  let c256_i32_20 : BitVec 32 := 256#32
  let v53 : BitVec 32 := Scalar.muli arg2 c256_i32_20
  let v54 : BitVec 32 := v53
  let v55 : Index := Scalar.indexCast v54
  let c128_21 : Index := 128#32
  ![v55.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnIdeal.lean ====
variable {F : FTy → Type} [FloatOps F] [Named F]
def κ : String → Option EReal := fun
  | "mask" => some ⊥
  | _ => none
-- ==== AttnRefIdeal.lean ====
abbrev S16384x2048 : Shape := ⟨2, ![16384, 2048]⟩
abbrev S16384x1024 : Shape := ⟨2, ![16384, 1024]⟩
abbrev S8x2048x16x128 : Shape := ⟨4, ![8, 2048, 16, 128]⟩
abbrev S8x2048x16x64 : Shape := ⟨4, ![8, 2048, 16, 64]⟩
abbrev S8x16x2048x2048 : Shape := ⟨4, ![8, 16, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S8x16x2048 : Shape := ⟨3, ![8, 16, 2048]⟩
abbrev S8x16x2048x1 : Shape := ⟨4, ![8, 16, 2048, 1]⟩
abbrev S8x16x64x2048 : Shape := ⟨4, ![8, 16, 64, 2048]⟩

abbrev nBuf : Space → Nat
  | .hbm => 39
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x1024, .bf16⟩
  | .hbm, ⟨3, _⟩ => ⟨S16384x2048, .f32⟩
  | .hbm, ⟨4, _⟩ => ⟨S8x2048x16x128, .f32⟩
  | .hbm, ⟨5, _⟩ => ⟨S16384x2048, .f32⟩
  | .hbm, ⟨6, _⟩ => ⟨S8x2048x16x128, .f32⟩
  | .hbm, ⟨7, _⟩ => ⟨S16384x1024, .f32⟩
  | .hbm, ⟨8, _⟩ => ⟨S8x2048x16x64, .f32⟩
  | .hbm, ⟨9, _⟩ => ⟨S8x16x2048x2048, .f32⟩
  | .hbm, ⟨10, _⟩ => ⟨S2048, .i32⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .f32⟩
  | .hbm, ⟨17, _⟩ => ⟨S_, .f32⟩
  | .hbm, ⟨18, _⟩ => ⟨S8x16x2048x2048, .i1⟩
  | .hbm, ⟨19, _⟩ => ⟨S8x16x2048x2048, .f32⟩
  | .hbm, ⟨20, _⟩ => ⟨S8x16x2048x2048, .f32⟩
  | .hbm, ⟨21, _⟩ => ⟨S_, .f32⟩
  | .hbm, ⟨22, _⟩ => ⟨S8x16x2048, .f32⟩
  | .hbm, ⟨23, _⟩ => ⟨S_, .f32⟩
  | .hbm, ⟨24, _⟩ => ⟨S8x16x2048, .f32⟩
  | .hbm, ⟨25, _⟩ => ⟨S8x16x2048, .f32⟩
  | .hbm, ⟨26, _⟩ => ⟨S8x16x2048x1, .f32⟩
  | .hbm, ⟨27, _⟩ => ⟨S8x16x2048x2048, .f32⟩
  | .hbm, ⟨28, _⟩ => ⟨S8x16x2048x2048, .f32⟩
  | .hbm, ⟨29, _⟩ => ⟨S8x16x2048x2048, .f32⟩
  | .hbm, ⟨30, _⟩ => ⟨S_, .f32⟩
  | .hbm, ⟨31, _⟩ => ⟨S8x16x2048, .f32⟩
  | .hbm, ⟨32, _⟩ => ⟨S8x16x2048x1, .f32⟩
  | .hbm, ⟨33, _⟩ => ⟨S8x16x2048x2048, .f32⟩
  | .hbm, ⟨34, _⟩ => ⟨S8x16x2048x2048, .f32⟩
  | .hbm, ⟨35, _⟩ => ⟨S8x16x64x2048, .f32⟩
  | .hbm, ⟨36, _⟩ => ⟨S8x2048x16x64, .f32⟩
  | .hbm, ⟨37, _⟩ => ⟨S16384x1024, .f32⟩
  | .hbm, ⟨38, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== PostMla.lean ====
abbrev S16384x1024 : Shape := ⟨2, ![16384, 1024]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .bf16⟩
  | .hbm, ⟨3, _⟩ => ⟨S1x1024, .f32⟩
  | .hbm, ⟨4, _⟩ => ⟨S1024x4096, .bf16⟩
  | .hbm, ⟨5, _⟩ => ⟨S4096x1024, .bf16⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PostMlaIdeal.lean ====
abbrev S16384x1024 : Shape := ⟨2, ![16384, 1024]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .bf16⟩
  | .hbm, ⟨3, _⟩ => ⟨S1x1024, .f32⟩
  | .hbm, ⟨4, _⟩ => ⟨S1024x4096, .bf16⟩
  | .hbm, ⟨5, _⟩ => ⟨S4096x1024, .bf16⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PostMlaRefIdeal.lean ====
abbrev S16384x1024 : Shape := ⟨2, ![16384, 1024]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .bf16⟩
  | .hbm, ⟨3, _⟩ => ⟨S1x1024, .f32⟩
  | .hbm, ⟨4, _⟩ => ⟨S1024x4096, .bf16⟩
  | .hbm, ⟨5, _⟩ => ⟨S4096x1024, .bf16⟩
  | .hbm, ⟨6, _⟩ => ⟨S16384x1024, .f32⟩
  | .hbm, ⟨7, _⟩ => ⟨S1024x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S1024x4096, .f32⟩
  | .hbm, ⟨26, _⟩ => ⟨S4096x1024, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S16384x1024, .f32⟩
  | .hbm, ⟨33, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== PostFinal.lean ====
abbrev S16384x1024 : Shape := ⟨2, ![16384, 1024]⟩
abbrev S16384x512 : Shape := ⟨2, ![16384, 512]⟩
abbrev S512x1024 : Shape := ⟨2, ![512, 1024]⟩
abbrev S1x1024 : Shape := ⟨2, ![1, 1024]⟩
abbrev S1024x4096 : Shape := ⟨2, ![1024, 4096]⟩
abbrev S4096x1024 : Shape := ⟨2, ![4096, 1024]⟩
abbrev S512x512 : Shape := ⟨2, ![512, 512]⟩
abbrev S512 : Shape := ⟨1, ![512]⟩
abbrev S512x1 : Shape := ⟨2, ![512, 1]⟩
abbrev S1024x1024 : Shape := ⟨2, ![1024, 1024]⟩

abbrev nBuf : Space → Nat
  | .hbm => 8
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S512x1024, .bf16⟩
  | .hbm, ⟨3, _⟩ => ⟨S1x1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PostFinalRefIdeal.lean ====
abbrev S16384x1024 : Shape := ⟨2, ![16384, 1024]⟩
abbrev S16384x512 : Shape := ⟨2, ![16384, 512]⟩
abbrev S512x1024 : Shape := ⟨2, ![512, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S512x1024, .bf16⟩
  | .hbm, ⟨3, _⟩ => ⟨S1x1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S16384x512, .f32⟩
  | .hbm, ⟨8, _⟩ => ⟨S512x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S1024x4096, .f32⟩
  | .hbm, ⟨27, _⟩ => ⟨S4096x1024, .f32⟩
  | .hbm, ⟨28, _⟩ => ⟨S16384x4096, .f32⟩
  | .hbm, ⟨29, _⟩ => ⟨S_, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== DilProj.lean ====
abbrev S16384x1024 : Shape := ⟨2, ![16384, 1024]⟩
abbrev S1x1024 : Shape := ⟨2, ![1, 1024]⟩
abbrev S1024x4608 : Shape := ⟨2, ![1024, 4608]⟩
abbrev S3x16384x512 : Shape := ⟨3, ![3, 16384, 512]⟩
abbrev S3x16384x1024 : Shape := ⟨3, ![3, 16384, 1024]⟩
abbrev S256x1024 : Shape := ⟨2, ![256, 1024]⟩
abbrev S3x256x512 : Shape := ⟨3, ![3, 256, 512]⟩
abbrev S3x256x1024 : Shape := ⟨3, ![3, 256, 1024]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S256x512 : Shape := ⟨2, ![256, 512]⟩
abbrev S1x256x512 : Shape := ⟨3, ![1, 256, 512]⟩
abbrev S1x256x1024 : Shape := ⟨3, ![1, 256, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4608, .bf16⟩
  | .hbm, ⟨3, _⟩ => ⟨S3x16384x512, .f32⟩
  | .hbm, ⟨4, _⟩ => ⟨S3x16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4608, .bf16⟩
  | .local _ .vmem, ⟨4, _⟩ => ⟨S3x256x512, .f32⟩
  | .local _ .vmem, ⟨5, _⟩ => ⟨S3x256x512, .f32⟩
  | .local _ .vmem, ⟨6, _⟩ => ⟨S3x256x1024, .f32⟩
  | .local _ .vmem, ⟨7, _⟩ => ⟨S3x256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DilProjRefIdeal.lean ====
abbrev S16384x1024 : Shape := ⟨2, ![16384, 1024]⟩
abbrev S1x1024 : Shape := ⟨2, ![1, 1024]⟩
abbrev S1024x4608 : Shape := ⟨2, ![1024, 4608]⟩
abbrev S_ : Shape := ⟨0, ![]⟩
abbrev S16384 : Shape := ⟨1, ![16384]⟩
abbrev S16384x1 : Shape := ⟨2, ![16384, 1]⟩
abbrev S16384x4608 : Shape := ⟨2, ![16384, 4608]⟩
abbrev S16384x3x3x512 : Shape := ⟨4, ![16384, 3, 3, 512]⟩
abbrev S16384x3x1x512 : Shape := ⟨4, ![16384, 3, 1, 512]⟩
abbrev S16384x3x512 : Shape := ⟨3, ![16384, 3, 512]⟩
abbrev S16384x3x2x512 : Shape := ⟨4, ![16384, 3, 2, 512]⟩
abbrev S16384x3x1024 : Shape := ⟨3, ![16384, 3, 1024]⟩
abbrev S3x16384x512 : Shape := ⟨3, ![3, 16384, 512]⟩
abbrev S3x16384x1024 : Shape := ⟨3, ![3, 16384, 1024]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4608, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S1024x4608, .f32⟩
  | .hbm, ⟨19, _⟩ => ⟨S16384x4608, .f32⟩
  | .hbm, ⟨20, _⟩ => ⟨S16384x3x3x512, .f32⟩
  | .hbm, ⟨21, _⟩ => ⟨S16384x3x1x512, .f32⟩
  | .hbm, ⟨22, _⟩ => ⟨S16384x3x512, .f32⟩
  | .hbm, ⟨23, _⟩ => ⟨S_, .f32⟩
  | .hbm, ⟨24, _⟩ => ⟨S16384x3x512, .f32⟩
  | .hbm, ⟨25, _⟩ => ⟨S16384x3x512, .f32⟩
  | .hbm, ⟨26, _⟩ => ⟨S16384x3x2x512, .f32⟩
  | .hbm, ⟨27, _⟩ => ⟨S16384x3x1024, .f32⟩
  | .hbm, ⟨28, _⟩ => ⟨S3x16384x512, .f32⟩
  | .hbm, ⟨29, _⟩ => ⟨S3x16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== PostDil.lean ====
abbrev S16384x1024 : Shape := ⟨2, ![16384, 1024]⟩
abbrev S16384x512 : Shape := ⟨2, ![16384, 512]⟩
abbrev S512x1024 : Shape := ⟨2, ![512, 1024]⟩
abbrev S1x1024 : Shape := ⟨2, ![1, 1024]⟩
abbrev S1024x4096 : Shape := ⟨2, ![1024, 4096]⟩
abbrev S4096x1024 : Shape := ⟨2, ![4096, 1024]⟩
abbrev S512x512 : Shape := ⟨2, ![512, 512]⟩
abbrev S512 : Shape := ⟨1, ![512]⟩
abbrev S512x1 : Shape := ⟨2, ![512, 1]⟩
abbrev S1024x1024 : Shape := ⟨2, ![1024, 1024]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S512x1024, .bf16⟩
  | .hbm, ⟨3, _⟩ => ⟨S1x1024, .f32⟩
  | .hbm, ⟨4, _⟩ => ⟨S1024x4096, .bf16⟩
  | .hbm, ⟨5, _⟩ => ⟨S4096x1024, .bf16⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PostDilRefIdeal.lean ====
abbrev S16384x1024 : Shape := ⟨2, ![16384, 1024]⟩
abbrev S16384x512 : Shape := ⟨2, ![16384, 512]⟩
abbrev S512x1024 : Shape := ⟨2, ![512, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S512x1024, .bf16⟩
  | .hbm, ⟨3, _⟩ => ⟨S1x1024, .f32⟩
  | .hbm, ⟨4, _⟩ => ⟨S1024x4096, .bf16⟩
  | .hbm, ⟨5, _⟩ => ⟨S4096x1024, .bf16⟩
  | .hbm, ⟨6, _⟩ => ⟨S16384x512, .f32⟩
  | .hbm, ⟨7, _⟩ => ⟨S512x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S1024x4096, .f32⟩
  | .hbm, ⟨26, _⟩ => ⟨S4096x1024, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S16384x1024, .f32⟩
  | .hbm, ⟨33, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== MlaProj.lean ====
abbrev S16384x1024 : Shape := ⟨2, ![16384, 1024]⟩
abbrev S1x1024 : Shape := ⟨2, ![1, 1024]⟩
abbrev S1024x384 : Shape := ⟨2, ![1024, 384]⟩
abbrev S1x384 : Shape := ⟨2, ![1, 384]⟩
abbrev S384x1536 : Shape := ⟨2, ![384, 1536]⟩
abbrev S1024x288 : Shape := ⟨2, ![1024, 288]⟩
abbrev S1x256 : Shape := ⟨2, ![1, 256]⟩
abbrev S256x16x64 : Shape := ⟨3, ![256, 16, 64]⟩
abbrev S1024x256 : Shape := ⟨2, ![1024, 256]⟩
abbrev S1024x32 : Shape := ⟨2, ![1024, 32]⟩
abbrev S1024x16 : Shape := ⟨2, ![1024, 16]⟩
abbrev S_ : Shape := ⟨0, ![]⟩
abbrev S1024x128 : Shape := ⟨2, ![1024, 128]⟩
abbrev S1024x896 : Shape := ⟨2, ![1024, 896]⟩
abbrev S384x16x96 : Shape := ⟨3, ![384, 16, 96]⟩
abbrev S384x16x128 : Shape := ⟨3, ![384, 16, 128]⟩
abbrev S384x2048 : Shape := ⟨2, ![384, 2048]⟩
abbrev S384x16x64 : Shape := ⟨3, ![384, 16, 64]⟩
abbrev S384x16x16 : Shape := ⟨3, ![384, 16, 16]⟩
abbrev S256x16x128 : Shape := ⟨3, ![256, 16, 128]⟩
abbrev S256x2048 : Shape := ⟨2, ![256, 2048]⟩
abbrev S32x32 : Shape := ⟨2, ![32, 32]⟩
abbrev S128x128 : Shape := ⟨2, ![128, 128]⟩
abbrev S1x128x1x128 : Shape := ⟨4, ![1, 128, 1, 128]⟩
abbrev S1x128x16x128 : Shape := ⟨4, ![1, 128, 16, 128]⟩
abbrev S128x2048 : Shape := ⟨2, ![128, 2048]⟩
abbrev S256x1024 : Shape := ⟨2, ![256, 1024]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x64 : Shape := ⟨2, ![2048, 64]⟩
abbrev S2048x128 : Shape := ⟨2, ![2048, 128]⟩
abbrev S2048x96 : Shape := ⟨2, ![2048, 96]⟩
abbrev S16384x2048 : Shape := ⟨2, ![16384, 2048]⟩
abbrev S16384x256 : Shape := ⟨2, ![16384, 256]⟩
abbrev S16384x32 : Shape := ⟨2, ![16384, 32]⟩
abbrev S512x1024 : Shape := ⟨2, ![512, 1024]⟩
abbrev S512x128 : Shape := ⟨2, ![512, 128]⟩
abbrev S512x2048 : Shape := ⟨2, ![512, 2048]⟩
abbrev S512x256 : Shape := ⟨2, ![512, 256]⟩
abbrev S512x32 : Shape := ⟨2, ![512, 32]⟩
abbrev S512 : Shape := ⟨1, ![512]⟩
abbrev S512x1 : Shape := ⟨2, ![512, 1]⟩
abbrev S512x896 : Shape := ⟨2, ![512, 896]⟩
abbrev S512x384 : Shape := ⟨2, ![512, 384]⟩
abbrev S512x512 : Shape := ⟨2, ![512, 512]⟩
abbrev S384x512 : Shape := ⟨2, ![384, 512]⟩

abbrev nBuf : Space → Nat
  | .hbm => 102
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x384, .f32⟩
  | .hbm, ⟨3, _⟩ => ⟨S1x384, .f32⟩
  | .hbm, ⟨4, _⟩ => ⟨S384x1536, .f32⟩
  | .hbm, ⟨5, _⟩ => ⟨S1024x288, .f32⟩
  | .hbm, ⟨6, _⟩ => ⟨S1x256, .f32⟩
  | .hbm, ⟨7, _⟩ => ⟨S256x16x64, .f32⟩
  | .hbm, ⟨8, _⟩ => ⟨S256x16x64, .f32⟩
  | .hbm, ⟨9, _⟩ => ⟨S1024x256, .f32⟩
  | .hbm, ⟨10, _⟩ => ⟨S1024x32, .f32⟩
  | .hbm, ⟨11, _⟩ => ⟨S1024x16, .f32⟩
  | .hbm, ⟨12, _⟩ => ⟨S1024x16, .f32⟩
  | .hbm, ⟨13, _⟩ => ⟨S1024x32, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x896, .f32⟩
  | .hbm, ⟨21, _⟩ => ⟨S1024x896, .bf16⟩
  | .hbm, ⟨22, _⟩ => ⟨S384x16x96, .f32⟩
  | .hbm, ⟨23, _⟩ => ⟨S_, .i32⟩
  | .hbm, ⟨24, _⟩ => ⟨S_, .f32⟩
  | .hbm, ⟨25, _⟩ => ⟨S384x16x128, .f32⟩
  | .hbm, ⟨26, _⟩ => ⟨S384x2048, .f32⟩
  | .hbm, ⟨27, _⟩ => ⟨S384x2048, .bf16⟩
  | .hbm, ⟨28, _⟩ => ⟨S384x16x64, .f32⟩
  | .hbm, ⟨29, _⟩ => ⟨S_, .f32⟩
  | .hbm, ⟨30, _⟩ => ⟨S384x16x64, .f32⟩
  | .hbm, ⟨31, _⟩ => ⟨S384x16x16, .f32⟩
  | .hbm, ⟨32, _⟩ => ⟨S384x16x16, .f32⟩
  | .hbm, ⟨33, _⟩ => ⟨S384x16x96, .f32⟩
  | .hbm, ⟨34, _⟩ => ⟨S_, .i32⟩
  | .hbm, ⟨35, _⟩ => ⟨S_, .f32⟩
  | .hbm, ⟨36, _⟩ => ⟨S384x16x128, .f32⟩
  | .hbm, ⟨37, _⟩ => ⟨S384x2048, .f32⟩
  | .hbm, ⟨38, _⟩ => ⟨S384x2048, .bf16⟩
  | .hbm, ⟨39, _⟩ => ⟨S_, .i32⟩
  | .hbm, ⟨40, _⟩ => ⟨S_, .f32⟩
  | .hbm, ⟨41, _⟩ => ⟨S256x16x128, .f32⟩
  | .hbm, ⟨42, _⟩ => ⟨S256x2048, .f32⟩
  | .hbm, ⟨43, _⟩ => ⟨S32x32, .i32⟩
  | .hbm, ⟨44, _⟩ => ⟨S32x32, .i32⟩
  | .hbm, ⟨45, _⟩ => ⟨S_, .i32⟩
  | .hbm, ⟨46, _⟩ => ⟨S32x32, .i32⟩
  | .hbm, ⟨47, _⟩ => ⟨S32x32, .i32⟩
  | .hbm, ⟨48, _⟩ => ⟨S32x32, .i1⟩
  | .hbm, ⟨49, _⟩ => ⟨S32x32, .f32⟩
  | .hbm, ⟨50, _⟩ => ⟨S_, .i32⟩
  | .hbm, ⟨51, _⟩ => ⟨S_, .f32⟩
  | .hbm, ⟨52, _⟩ => ⟨S128x128, .f32⟩
  | .hbm, ⟨53, _⟩ => ⟨S1x128x1x128, .f32⟩
  | .hbm, ⟨54, _⟩ => ⟨S1x128x16x128, .f32⟩
  | .hbm, ⟨55, _⟩ => ⟨S128x2048, .f32⟩
  | .hbm, ⟨56, _⟩ => ⟨S384x2048, .f32⟩
  | .hbm, ⟨57, _⟩ => ⟨S384x2048, .bf16⟩
  | .hbm, ⟨58, _⟩ => ⟨S256x1024, .f32⟩
  | .hbm, ⟨59, _⟩ => ⟨S256x1024, .bf16⟩
  | .hbm, ⟨60, _⟩ => ⟨S2048, .i32⟩
  | .hbm, ⟨61, _⟩ => ⟨S16, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S2048, .f32⟩
  | .hbm, ⟨70, _⟩ => ⟨S2048x1, .f32⟩
  | .hbm, ⟨71, _⟩ => ⟨S1x16, .f32⟩
  | .hbm, ⟨72, _⟩ => ⟨S2048x16, .f32⟩
  | .hbm, ⟨73, _⟩ => ⟨S2048x16, .f32⟩
  | .hbm, ⟨74, _⟩ => ⟨S2048x16, .f32⟩
  | .hbm, ⟨75, _⟩ => ⟨S2048x16, .f32⟩
  | .hbm, ⟨76, _⟩ => ⟨S2048x16, .f32⟩
  | .hbm, ⟨77, _⟩ => ⟨S_, .f32⟩
  | .hbm, ⟨78, _⟩ => ⟨S2048x32, .f32⟩
  | .hbm, ⟨79, _⟩ => ⟨S_, .f32⟩
  | .hbm, ⟨80, _⟩ => ⟨S2048x64, .f32⟩
  | .hbm, ⟨81, _⟩ => ⟨S2048x128, .f32⟩
  | .hbm, ⟨82, _⟩ => ⟨S_, .f32⟩
  | .hbm, ⟨83, _⟩ => ⟨S2048x128, .f32⟩
  | .hbm, ⟨84, _⟩ => ⟨S2048x128, .f32⟩
  | .hbm, ⟨85, _⟩ => ⟨S_, .f32⟩
  | .hbm, ⟨86, _⟩ => ⟨S2048x64, .f32⟩
  | .hbm, ⟨87, _⟩ => ⟨S2048x16, .f32⟩
  | .hbm, ⟨88, _⟩ => ⟨S2048x128, .f32⟩
  | .hbm, ⟨89, _⟩ => ⟨S_, .f32⟩
  | .hbm, ⟨90, _⟩ => ⟨S2048x128, .f32⟩
  | .hbm, ⟨91, _⟩ => ⟨S2048x128, .f32⟩
  | .hbm, ⟨92, _⟩ => ⟨S_, .f32⟩
  | .hbm, ⟨93, _⟩ => ⟨S2048x96, .f32⟩
  | .hbm, ⟨94, _⟩ => ⟨S2048x128, .f32⟩
  | .hbm, ⟨95, _⟩ => ⟨S2048x16, .f32⟩
  | .hbm, ⟨96, _⟩ => ⟨S2048x128, .f32⟩
  | .hbm, ⟨97, _⟩ => ⟨S16384x2048, .bf16⟩
  | .hbm, ⟨98, _⟩ => ⟨S16384x256, .f32⟩
  | .hbm, ⟨99, _⟩ => ⟨S16384x32, .f32⟩
  | .hbm, ⟨100, _⟩ => ⟨S16384x2048, .bf16⟩
  | .hbm, ⟨101, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x896, .bf16⟩
  | .local _ .vmem, ⟨4, _⟩ => ⟨S1x384, .f32⟩
  | .local _ .vmem, ⟨5, _⟩ => ⟨S384x2048, .bf16⟩
  | .local _ .vmem, ⟨6, _⟩ => ⟨S384x2048, .bf16⟩
  | .local _ .vmem, ⟨7, _⟩ => ⟨S1x256, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S384x2048, .bf16⟩
  | .local _ .vmem, ⟨17, _⟩ => ⟨S256x1024, .bf16⟩
  | .local _ .vmem, ⟨18, _⟩ => ⟨S512x2048, .bf16⟩
  | .local _ .vmem, ⟨19, _⟩ => ⟨S512x2048, .bf16⟩
  | .local _ .vmem, ⟨20, _⟩ => ⟨S512x256, .f32⟩
  | .local _ .vmem, ⟨21, _⟩ => ⟨S512x256, .f32⟩
  | .local _ .vmem, ⟨22, _⟩ => ⟨S512x32, .f32⟩
  | .local _ .vmem, ⟨23, _⟩ => ⟨S512x32, .f32⟩
  | .local _ .vmem, ⟨24, _⟩ => ⟨S512x2048, .bf16⟩
  | .local _ .vmem, ⟨25, _⟩ => ⟨S512x2048, .bf16⟩
  | .local _ .vmem, ⟨26, _⟩ => ⟨S512x1024, .bf16⟩
  | .local _ .vmem, ⟨27, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_c_0 : Ref sig .tc := ⟨.hbm, 17, rfl⟩
abbrev main_call1_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_call2_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_call3_v0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_call4_v0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_call5_v0 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_6 : Ref sig .tc := ⟨.hbm, 63, rfl⟩
abbrev main_v40 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_8 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_cst_10 : Ref sig .tc := ⟨.hbm, 82, rfl⟩
abbrev main_v55 : Ref sig .tc := ⟨.hbm, 83, rfl⟩
abbrev main_v56 : Ref sig .tc := ⟨.hbm, 84, rfl⟩
abbrev main_cst_11 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_12 : Ref sig .tc := ⟨.hbm, 89, rfl⟩
abbrev main_v60 : Ref sig .tc := ⟨.hbm, 90, rfl⟩
abbrev main_v61 : Ref sig .tc := ⟨.hbm, 91, rfl⟩
abbrev main_cst_13 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66_0 : Ref sig .tc := ⟨.hbm, 97, rfl⟩
abbrev main_v66_1 : Ref sig .tc := ⟨.hbm, 98, rfl⟩
abbrev main_v66_2 : Ref sig .tc := ⟨.hbm, 99, rfl⟩
abbrev main_v66_3 : Ref sig .tc := ⟨.hbm, 100, rfl⟩
abbrev main_v66_4 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S384x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MlaProjRefIdeal.lean ====
abbrev S16384x1024 : Shape := ⟨2, ![16384, 1024]⟩
abbrev S1x1024 : Shape := ⟨2, ![1, 1024]⟩
abbrev S1024x384 : Shape := ⟨2, ![1024, 384]⟩
abbrev S1x384 : Shape := ⟨2, ![1, 384]⟩
abbrev S384x1536 : Shape := ⟨2, ![384, 1536]⟩
abbrev S1024x288 : Shape := ⟨2, ![1024, 288]⟩
abbrev S1x256 : Shape := ⟨2, ![1, 256]⟩
abbrev S256x16x64 : Shape := ⟨3, ![256, 16, 64]⟩
abbrev S_ : Shape := ⟨0, ![]⟩
abbrev S16384 : Shape := ⟨1, ![16384]⟩
abbrev S16384x1 : Shape := ⟨2, ![16384, 1]⟩
abbrev S8x2048x1024 : Shape := ⟨3, ![8, 2048, 1024]⟩
abbrev S2048 : Shape := ⟨1, ![2048]⟩
abbrev S8x2048x384 : Shape := ⟨3, ![8, 2048, 384]⟩
abbrev S8x2048 : Shape := ⟨2, ![8, 2048]⟩
abbrev S8x2048x1 : Shape := ⟨3, ![8, 2048, 1]⟩
abbrev S1x1x384 : Shape := ⟨3, ![1, 1, 384]⟩
abbrev S8x2048x1536 : Shape := ⟨3, ![8, 2048, 1536]⟩
abbrev S8x2048x16x96 : Shape := ⟨4, ![8, 2048, 16, 96]⟩
abbrev S8x2048x16x32 : Shape := ⟨4, ![8, 2048, 16, 32]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S8x2048x16x16 : Shape := ⟨4, ![8, 2048, 16, 16]⟩
abbrev S8x2048x288 : Shape := ⟨3, ![8, 2048, 288]⟩
abbrev S8x2048x256 : Shape := ⟨3, ![8, 2048, 256]⟩
abbrev S1x1x256 : Shape := ⟨3, ![1, 1, 256]⟩
abbrev S8x2048x32 : Shape := ⟨3, ![8, 2048, 32]⟩
abbrev S8x2048x1x32 : Shape := ⟨4, ![8, 2048, 1, 32]⟩
abbrev S8x2048x1x16 : Shape := ⟨4, ![8, 2048, 1, 16]⟩
abbrev S8x2048x16x64 : Shape := ⟨4, ![8, 2048, 16, 64]⟩
abbrev S8x2048x16x128 : Shape := ⟨4, ![8, 2048, 16, 128]⟩
abbrev S16384x2048 : Shape := ⟨2, ![16384, 2048]⟩
abbrev S16384x256 : Shape := ⟨2, ![16384, 256]⟩
abbrev S16384x32 : Shape := ⟨2, ![16384, 32]⟩

abbrev nBuf : Space → Nat
  | .hbm => 147
  | .vmem => 0
  | .smem => 0
  | _ => 0

abbrev hbmTy0_0 (i : Nat) : BufTy := match i % 128 with
  | 0 => ⟨S16384x1024, .f32⟩
  | 1 => ⟨S1x1024, .f32⟩
  | 2 => ⟨S1024x384, .f32⟩
  | 3 => ⟨S1x384, .f32⟩
  | 4 => ⟨S384x1536, .f32⟩
  | 5 => ⟨S1024x288, .f32⟩
  | 6 => ⟨S1x256, .f32⟩
  | 7 => ⟨S256x16x64, .f32⟩
  | 8 => ⟨S256x16x64, .f32⟩
  | 9 => ⟨S16384x1024, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S_, .f32⟩
  | 17 => ⟨S16384x1, .f32⟩
  | 18 => ⟨S16384x1, .f32⟩
  | 19 => ⟨S16384x1, .f32⟩
  | 20 => ⟨S16384x1024, .f32⟩
  | 21 => ⟨S16384x1024, .f32⟩
  | 22 => ⟨S16384x1024, .f32⟩
  | 23 => ⟨S16384x1024, .f32⟩
  | 24 => ⟨S8x2048x1024, .f32⟩
  | 25 => ⟨S2048, .i32⟩
  | 26 => ⟨S8x2048x384, .f32⟩
  | 27 => ⟨S8x2048x384, .f32⟩
  | 28 => ⟨S_, .f32⟩
  | 29 => ⟨S8x2048, .f32⟩
  | 30 => ⟨S8x2048x1, .f32⟩
  | 31 => ⟨S_, .f32⟩
  | 32 => ⟨S8x2048x1, .f32⟩
  | 33 => ⟨S8x2048x1, .f32⟩
  | 34 => ⟨S_, .f32⟩
  | 35 => ⟨S8x2048x1, .f32⟩
  | 36 => ⟨S8x2048x1, .f32⟩
  | 37 => ⟨S8x2048x1, .f32⟩
  | 38 => ⟨S8x2048x384, .f32⟩
  | 39 => ⟨S8x2048x384, .f32⟩
  | 40 => ⟨S1x1x384, .f32⟩
  | 41 => ⟨S8x2048x384, .f32⟩
  | 42 => ⟨S8x2048x384, .f32⟩
  | 43 => ⟨S8x2048x1536, .f32⟩
  | 44 => ⟨S8x2048x16x96, .f32⟩
  | 45 => ⟨S8x2048x16x32, .f32⟩
  | 46 => ⟨S16, .f32⟩
  | 47 => ⟨S16, .f32⟩
  | 48 => ⟨S_, .f32⟩
  | 49 => ⟨S16, .f32⟩
  | 50 => ⟨S16, .f32⟩
  | 51 => ⟨S_, .f32⟩
  | 52 => ⟨S16, .f32⟩
  | 53 => ⟨S16, .f32⟩
  | 54 => ⟨S2048, .f32⟩
  | 55 => ⟨S2048x1, .f32⟩
  | 56 => ⟨S1x16, .f32⟩
  | 57 => ⟨S2048x16, .f32⟩
  | 58 => ⟨S2048x16, .f32⟩
  | 59 => ⟨S2048x16, .f32⟩
  | 60 => ⟨S2048x16, .f32⟩
  | 61 => ⟨S1x2048x1x16, .f32⟩
  | 62 => ⟨S2048x16, .f32⟩
  | 63 => ⟨S1x2048x1x16, .f32⟩
  | 64 => ⟨S8x2048x16x16, .f32⟩
  | 65 => ⟨S8x2048x16x16, .f32⟩
  | 66 => ⟨S8x2048x16x16, .f32⟩
  | 67 => ⟨S8x2048x16x16, .f32⟩
  | 68 => ⟨S8x2048x16x16, .f32⟩
  | 69 => ⟨S8x2048x16x16, .f32⟩
  | 70 => ⟨S8x2048x16x16, .f32⟩
  | 71 => ⟨S8x2048x16x16, .f32⟩
  | 72 => ⟨S8x2048x16x16, .f32⟩
  | 73 => ⟨S8x2048x16x16, .f32⟩
  | 74 => ⟨S8x2048x16x16, .f32⟩
  | 75 => ⟨S8x2048x16x16, .f32⟩
  | 76 => ⟨S8x2048x16x32, .f32⟩
  | 77 => ⟨S8x2048x288, .f32⟩
  | 78 => ⟨S8x2048x256, .f32⟩
  | 79 => ⟨S8x2048x256, .f32⟩
  | 80 => ⟨S_, .f32⟩
  | 81 => ⟨S8x2048, .f32⟩
  | 82 => ⟨S8x2048x1, .f32⟩
  | 83 => ⟨S_, .f32⟩
  | 84 => ⟨S8x2048x1, .f32⟩
  | 85 => ⟨S8x2048x1, .f32⟩
  | 86 => ⟨S_, .f32⟩
  | 87 => ⟨S8x2048x1, .f32⟩
  | 88 => ⟨S8x2048x1, .f32⟩
  | 89 => ⟨S8x2048x1, .f32⟩
  | 90 => ⟨S8x2048x256, .f32⟩
  | 91 => ⟨S8x2048x256, .f32⟩
  | 92 => ⟨S1x1x256, .f32⟩
  | 93 => ⟨S8x2048x256, .f32⟩
  | 94 => ⟨S8x2048x256, .f32⟩
  | 95 => ⟨S8x2048x32, .f32⟩
  | 96 => ⟨S8x2048x1x32, .f32⟩
  | 97 => ⟨S16, .f32⟩
  | 98 => ⟨S16, .f32⟩
  | 99 => ⟨S_, .f32⟩
  | 100 => ⟨S16, .f32⟩
  | 101 => ⟨S16, .f32⟩
  | 102 => ⟨S_, .f32⟩
  | 103 => ⟨S16, .f32⟩
  | 104 => ⟨S16, .f32⟩
  | 105 => ⟨S2048, .f32⟩
  | 106 => ⟨S2048x1, .f32⟩
  | 107 => ⟨S1x16, .f32⟩
  | 108 => ⟨S2048x16, .f32⟩
  | 109 => ⟨S2048x16, .f32⟩
  | 110 => ⟨S2048x16, .f32⟩
  | 111 => ⟨S2048x16, .f32⟩
  | 112 => ⟨S1x2048x1x16, .f32⟩
  | 113 => ⟨S2048x16, .f32⟩
  | 114 => ⟨S1x2048x1x16, .f32⟩
  | 115 => ⟨S8x2048x1x16, .f32⟩
  | 116 => ⟨S8x2048x1x16, .f32⟩
  | 117 => ⟨S8x2048x1x16, .f32⟩
  | 118 => ⟨S8x2048x1x16, .f32⟩
  | 119 => ⟨S8x2048x1x16, .f32⟩
  | 120 => ⟨S8x2048x1x16, .f32⟩
  | 121 => ⟨S8x2048x1x16, .f32⟩
  | 122 => ⟨S8x2048x1x16, .f32⟩
  | 123 => ⟨S8x2048x1x16, .f32⟩
  | 124 => ⟨S8x2048x1x16, .f32⟩
  | 125 => ⟨S8x2048x1x16, .f32⟩
  | 126 => ⟨S8x2048x1x16, .f32⟩
  | 127 => ⟨S8x2048x1x32, .f32⟩
  | _ => ⟨S16384x1024, .f32⟩

abbrev hbmTy0_1 (i : Nat) : BufTy := match i % 128 with
  | 0 => ⟨S8x2048x16x64, .f32⟩
  | 1 => ⟨S8x2048x16x64, .f32⟩
  | 2 => ⟨S_, .f32⟩
  | 3 => ⟨S8x2048x16x32, .f32⟩
  | 4 => ⟨S8x2048x16x64, .f32⟩
  | 5 => ⟨S8x2048x16x128, .f32⟩
  | 6 => ⟨S_, .f32⟩
  | 7 => ⟨S8x2048x16x128, .f32⟩
  | 8 => ⟨S8x2048x16x128, .f32⟩
  | 9 => ⟨S8x2048x16x32, .f32⟩
  | 10 => ⟨S8x2048x16x128, .f32⟩
  | 11 => ⟨S16384x2048, .f32⟩
  | 12 => ⟨S16384x2048, .bf16⟩
  | 13 => ⟨S16384x256, .f32⟩
  | 14 => ⟨S16384x32, .f32⟩
  | 15 => ⟨S16384x2048, .f32⟩
  | 16 => ⟨S16384x2048, .bf16⟩
  | 17 => ⟨S16384x1024, .f32⟩
  | 18 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_7 : Ref sig .tc := ⟨.hbm, 80, rfl⟩
abbrev main_v63 : Ref sig .tc := ⟨.hbm, 81, rfl⟩
abbrev main_v64 : Ref sig .tc := ⟨.hbm, 82, rfl⟩
abbrev main_cst_8 : Ref sig .tc := ⟨.hbm, 83, rfl⟩
abbrev main_v65 : Ref sig .tc := ⟨.hbm, 84, rfl⟩
abbrev main_v66 : Ref sig .tc := ⟨.hbm, 85, rfl⟩
abbrev main_cst_9 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_10 : Ref sig .tc := ⟨.hbm, 99, rfl⟩
abbrev main_v79 : Ref sig .tc := ⟨.hbm, 100, rfl⟩
abbrev main_v80 : Ref sig .tc := ⟨.hbm, 101, rfl⟩
abbrev main_cst_11 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_cst_12 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_cst_13 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩

abbrev nD : Nat := 1
abbrev τ : Topo := Topo.v7x

variable {F : FTy → Type} [FloatOps F]
-- ==== DilAttn.lean ====
abbrev S3x16384x512 : Shape := ⟨3, ![3, 16384, 512]⟩
abbrev S3x16384x1024 : Shape := ⟨3, ![3, 16384, 1024]⟩
abbrev S16384x512 : Shape := ⟨2, ![16384, 512]⟩
abbrev S3x2048x128 : Shape := ⟨3, ![3, 2048, 128]⟩
abbrev S2048x128 : Shape := ⟨2, ![2048, 128]⟩
abbrev S128x128 : Shape := ⟨2, ![128, 128]⟩
abbrev S128x256 : Shape := ⟨2, ![128, 256]⟩
abbrev S1x128x128 : Shape := ⟨3, ![1, 128, 128]⟩
abbrev S256x128 : Shape := ⟨2, ![256, 128]⟩
abbrev S128 : Shape := ⟨1, ![128]⟩
abbrev S128x1 : Shape := ⟨2, ![128, 1]⟩
abbrev S1x2048x128 : Shape := ⟨3, ![1, 2048, 128]⟩

abbrev nBuf : Space → Nat
  | .hbm => 3
  | .vmem => 11
  | .smem => 0
  | _ => 0

abbrev bufTy : (tb : Table) → Fin (tcTables nBuf tb) → BufTy
  | .hbm, ⟨0, _⟩ => ⟨S3x16384x512, .f32⟩
  | .hbm, ⟨1, _⟩ => ⟨S3x16384x1024, .f32⟩
  | .hbm, ⟨2, _⟩ => ⟨S16384x512, .bf16⟩
  | .local _ .vmem, ⟨0, _⟩ => ⟨S3x2048x128, .f32⟩
  | .local _ .vmem, ⟨1, _⟩ => ⟨S3x2048x128, .f32⟩
  | .local _ .vmem, ⟨2, _⟩ => ⟨S3x2048x128, .f32⟩
  | .local _ .vmem, ⟨3, _⟩ => ⟨S3x2048x128, .f32⟩
  | .local _ .vmem, ⟨4, _⟩ => ⟨S3x2048x128, .f32⟩
  | .local _ .vmem, ⟨5, _⟩ => ⟨S3x2048x128, .f32⟩
  | .local _ .vmem, ⟨6, _⟩ => ⟨S2048x128, .bf16⟩
  | .local _ .vmem, ⟨7, _⟩ => ⟨S2048x128, .bf16⟩
  | .local _ .vmem, ⟨8, _⟩ => ⟨S3x2048x128, .f32⟩
  | .local _ .vmem, ⟨9, _⟩ => ⟨S3x2048x128, .f32⟩
  | .local _ .vmem, ⟨10, _⟩ => ⟨S3x2048x128, .f32⟩
  | _, _ => ⟨S3x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_12 : BitVec 32 := 0#32
  let c16_i32 : BitVec 32 := 16#32
  let v40 : BitVec 32 := Scalar.addi c0_i32_12 c16_i32
  let c1_i32_13 : BitVec 32 := 1#32
  ⟨c0_i32_12, v40, c1_i32_13⟩
def k0_off1 (k0_t1 : Fin k0_t1_loop.trips) : Fin 3 → Nat :=
  let c0_102 : Index := 0#32
  let c0_i32_12 : BitVec 32 := 0#32
  let c1_i32_13 : BitVec 32 := 1#32
  let arg9 : BitVec 32 := Scf.iv c0_i32_12 c1_i32_13 k0_t1
  let c0_i32_86 : BitVec 32 := 0#32
  let v143 : BitVec 1 := Scalar.cmpi .sgt arg9 c0_i32_86
  let v144 : BitVec 32 := Scalar.extui v143
  let c0_i32_87 : BitVec 32 := 0#32
  let v145 : BitVec 1 := Scalar.cmpi .slt arg9 c0_i32_87
  let v146 : BitVec 32 := Scalar.extui v145
  let v147 : BitVec 32 := Scalar.subi v144 v146
  let c1_i32_85 : BitVec 32 := 1#32
  let c0_i32_88 : BitVec 32 := 0#32
  let v148 : BitVec 1 := Scalar.cmpi .sgt c1_i32_85 c0_i32_88
  let v149 : BitVec 32 := Scalar.extui v148
  let c0_i32_89 : BitVec 32 := 0#32
  let v150 : BitVec 1 := Scalar.cmpi .slt c1_i32_85 c0_i32_89
  let v151 : BitVec 32 := Scalar.extui v150
  let v152 : BitVec 32 := Scalar.subi v149 v151
  let v153 : BitVec 1 := Scalar.cmpi .ne v147 v152
  let v154 : BitVec 32 := Scalar.remsi arg9 c1_i32_85
  let c0_i32_90 : BitVec 32 := 0#32
  let v155 : BitVec 1 := Scalar.cmpi .ne v154 c0_i32_90
  let v156 : BitVec 1 := Scalar.andi v153 v155
  let v142 : BitVec 32 := Scalar.divsi arg9 c1_i32_85
  let c1_i32_91 : BitVec 32 := 1#32
  let v157 : BitVec 32 := Scalar.subi v142 c1_i32_91
  let v158 : BitVec 32 := Scalar.select v156 v157 v142
  let c128_i32_98 : BitVec 32 := 128#32
  let v169 : BitVec 32 := Scalar.muli v158 c128_i32_98
  let c1_i32_92 : BitVec 32 := 1#32
  let c0_i32_93 : BitVec 32 := 0#32
  let v159 : BitVec 1 := Scalar.cmpi .eq c1_i32_92 c0_i32_93
  let c1_i32_94 : BitVec 32 := 1#32
  let v160 : BitVec 32 := Scalar.select v159 c1_i32_94 c1_i32_92
  let v161 : BitVec 32 := Scalar.remsi arg9 v160
  let c0_i32_96 : BitVec 32 := 0#32
  let v163 : BitVec 1 := Scalar.cmpi .slt v161 c0_i32_96
  let c0_i32_97 : BitVec 32 := 0#32
  let v164 : BitVec 1 := Scalar.cmpi .slt v160 c0_i32_97
  let v165 : BitVec 1 := Scalar.xori v163 v164
  let c0_i32_95 : BitVec 32 := 0#32
  let v162 : BitVec 1 := Scalar.cmpi .ne v161 c0_i32_95
  let v166 : BitVec 1 := Scalar.andi v165 v162
  let v167 : BitVec 32 := Scalar.addi v161 v160
  let v168 : BitVec 32 := Scalar.select v166 v167 v161
  let v170 : BitVec 32 := Scalar.addi v169 v168
  let v175 : Index := Scalar.indexCast v170
  let c0_103 : Index := 0#32
  ![0, v175.toNat, 0]
def k0_off2 (k0_t1 : Fin k0_t1_loop.trips) : Fin 3 → Nat :=
  let c0_104 : Index := 0#32
  let c0_i32_12 : BitVec 32 := 0#32
  let c1_i32_13 : BitVec 32 := 1#32
  let arg9 : BitVec 32 := Scf.iv c0_i32_12 c1_i32_13 k0_t1
  let c0_i32_86 : BitVec 32 := 0#32
  let v143 : BitVec 1 := Scalar.cmpi .sgt arg9 c0_i32_86
  let v144 : BitVec 32 := Scalar.extui v143
  let c0_i32_87 : BitVec 32 := 0#32
  let v145 : BitVec 1 := Scalar.cmpi .slt arg9 c0_i32_87
  let v146 : BitVec 32 := Scalar.extui v145
  let v147 : BitVec 32 := Scalar.subi v144 v146
  let c1_i32_85 : BitVec 32 := 1#32
  let c0_i32_88 : BitVec 32 := 0#32
  let v148 : BitVec 1 := Scalar.cmpi .sgt c1_i32_85 c0_i32_88
  let v149 : BitVec 32 := Scalar.extui v148
  let c0_i32_89 : BitVec 32 := 0#32
  let v150 : BitVec 1 := Scalar.cmpi .slt c1_i32_85 c0_i32_89
  let v151 : BitVec 32 := Scalar.extui v150
  let v152 : BitVec 32 := Scalar.subi v149 v151
  let v153 : BitVec 1 := Scalar.cmpi .ne v147 v152
  let v154 : BitVec 32 := Scalar.remsi arg9 c1_i32_85
  let c0_i32_90 : BitVec 32 := 0#32
  let v155 : BitVec 1 := Scalar.cmpi .ne v154 c0_i32_90
  let v156 : BitVec 1 := Scalar.andi v153 v155
  let v142 : BitVec 32 := Scalar.divsi arg9 c1_i32_85
  let c1_i32_91 : BitVec 32 := 1#32
  let v157 : BitVec 32 := Scalar.subi v142 c1_i32_91
  let v158 : BitVec 32 := Scalar.select v156 v157 v142
  let c1_i32_99 : BitVec 32 := 1#32
  let v171 : BitVec 32 := Scalar.subi v158 c1_i32_99
  let c0_i32_100 : BitVec 32 := 0#32
  let v172 : BitVec 32 := Scalar.maxsi v171 c0_i32_100
  let c128_i32_101 : BitVec 32 := 128#32
  let v173 : BitVec 32 := Scalar.muli v172 c128_i32_101
  let c1_i32_92 : BitVec 32 := 1#32
  let c0_i32_93 : BitVec 32 := 0#32
  let v159 : BitVec 1 := Scalar.cmpi .eq c1_i32_92 c0_i32_93
  let c1_i32_94 : BitVec 32 := 1#32
  let v160 : BitVec 32 := Scalar.select v159 c1_i32_94 c1_i32_92
  let v161 : BitVec 32 := Scalar.remsi arg9 v160
  let c0_i32_96 : BitVec 32 := 0#32
  let v163 : BitVec 1 := Scalar.cmpi .slt v161 c0_i32_96
  let c0_i32_97 : BitVec 32 := 0#32
  let v164 : BitVec 1 := Scalar.cmpi .slt v160 c0_i32_97
  let v165 : BitVec 1 := Scalar.xori v163 v164
  let c0_i32_95 : BitVec 32 := 0#32
  let v162 : BitVec 1 := Scalar.cmpi .ne v161 c0_i32_95
  let v166 : BitVec 1 := Scalar.andi v165 v162
  let v167 : BitVec 32 := Scalar.addi v161 v160
  let v168 : BitVec 32 := Scalar.select v166 v167 v161
  let v174 : BitVec 32 := Scalar.addi v173 v168
  let v178 : Index := Scalar.indexCast v174
  let c0_105 : Index := 0#32
  ![0, v178.toNat, 0]
@[reducible] def k0_t2_loop : Scf.Loop 32 :=
  let c0_i32_27 : BitVec 32 := 0#32
  let c16_i32_28 : BitVec 32 := 16#32
  let v66 : BitVec 32 := Scalar.addi c0_i32_27 c16_i32_28
  let c1_i32_29 : BitVec 32 := 1#32
  ⟨c0_i32_27, v66, c1_i32_29⟩
def k0_off3 (k0_t2 : Fin k0_t2_loop.trips) : Fin 3 → Nat :=
  let c1_101 : Index := 1#32
  let c0_i32_27 : BitVec 32 := 0#32
  let c1_i32_29 : BitVec 32 := 1#32
  let arg9 : BitVec 32 := Scf.iv c0_i32_27 c1_i32_29 k0_t2
  let c0_i32_86 : BitVec 32 := 0#32
  let v143 : BitVec 1 := Scalar.cmpi .sgt arg9 c0_i32_86
  let v144 : BitVec 32 := Scalar.extui v143
  let c0_i32_87 : BitVec 32 := 0#32
  let v145 : BitVec 1 := Scalar.cmpi .slt arg9 c0_i32_87
  let v146 : BitVec 32 := Scalar.extui v145
  let v147 : BitVec 32 := Scalar.subi v144 v146
  let c4_i32_85 : BitVec 32 := 4#32
  let c0_i32_88 : BitVec 32 := 0#32
  let v148 : BitVec 1 := Scalar.cmpi .sgt c4_i32_85 c0_i32_88
  let v149 : BitVec 32 := Scalar.extui v148
  let c0_i32_89 : BitVec 32 := 0#32
  let v150 : BitVec 1 := Scalar.cmpi .slt c4_i32_85 c0_i32_89
  let v151 : BitVec 32 := Scalar.extui v150
  let v152 : BitVec 32 := Scalar.subi v149 v151
  let v153 : BitVec 1 := Scalar.cmpi .ne v147 v152
  let v154 : BitVec 32 := Scalar.remsi arg9 c4_i32_85
  let c0_i32_90 : BitVec 32 := 0#32
  let v155 : BitVec 1 := Scalar.cmpi .ne v154 c0_i32_90
  let v156 : BitVec 1 := Scalar.andi v153 v155
  let v142 : BitVec 32 := Scalar.divsi arg9 c4_i32_85
  let c1_i32_91 : BitVec 32 := 1#32
  let v157 : BitVec 32 := Scalar.subi v142 c1_i32_91
  let v158 : BitVec 32 := Scalar.select v156 v157 v142
  let c512_i32 : BitVec 32 := 512#32
  let v169 : BitVec 32 := Scalar.muli v158 c512_i32
  let c4_i32_92 : BitVec 32 := 4#32
  let c0_i32_93 : BitVec 32 := 0#32
  let v159 : BitVec 1 := Scalar.cmpi .eq c4_i32_92 c0_i32_93
  let c1_i32_94 : BitVec 32 := 1#32
  let v160 : BitVec 32 := Scalar.select v159 c1_i32_94 c4_i32_92
  let v161 : BitVec 32 := Scalar.remsi arg9 v160
  let c0_i32_96 : BitVec 32 := 0#32
  let v163 : BitVec 1 := Scalar.cmpi .slt v161 c0_i32_96
  let c0_i32_97 : BitVec 32 := 0#32
  let v164 : BitVec 1 := Scalar.cmpi .slt v160 c0_i32_97
  let v165 : BitVec 1 := Scalar.xori v163 v164
  let c0_i32_95 : BitVec 32 := 0#32
  let v162 : BitVec 1 := Scalar.cmpi .ne v161 c0_i32_95
  let v166 : BitVec 1 := Scalar.andi v165 v162
  let v167 : BitVec 32 := Scalar.addi v161 v160
  let v168 : BitVec 32 := Scalar.select v166 v167 v161
  let v170 : BitVec 32 := Scalar.addi v169 v168
  let v175 : Index := Scalar.indexCast v170
  let c0_102 : Index := 0#32
  ![1, v175.toNat, 0]
def k0_off4 (k0_t2 : Fin k0_t2_loop.trips) : Fin 3 → Nat :=
  let c1_103 : Index := 1#32
  let c0_i32_27 : BitVec 32 := 0#32
  let c1_i32_29 : BitVec 32 := 1#32
  let arg9 : BitVec 32 := Scf.iv c0_i32_27 c1_i32_29 k0_t2
  let c0_i32_86 : BitVec 32 := 0#32
  let v143 : BitVec 1 := Scalar.cmpi .sgt arg9 c0_i32_86
  let v144 : BitVec 32 := Scalar.extui v143
  let c0_i32_87 : BitVec 32 := 0#32
  let v145 : BitVec 1 := Scalar.cmpi .slt arg9 c0_i32_87
  let v146 : BitVec 32 := Scalar.extui v145
  let v147 : BitVec 32 := Scalar.subi v144 v146
  let c4_i32_85 : BitVec 32 := 4#32
  let c0_i32_88 : BitVec 32 := 0#32
  let v148 : BitVec 1 := Scalar.cmpi .sgt c4_i32_85 c0_i32_88
  let v149 : BitVec 32 := Scalar.extui v148
  let c0_i32_89 : BitVec 32 := 0#32
  let v150 : BitVec 1 := Scalar.cmpi .slt c4_i32_85 c0_i32_89
  let v151 : BitVec 32 := Scalar.extui v150
  let v152 : BitVec 32 := Scalar.subi v149 v151
  let v153 : BitVec 1 := Scalar.cmpi .ne v147 v152
  let v154 : BitVec 32 := Scalar.remsi arg9 c4_i32_85
  let c0_i32_90 : BitVec 32 := 0#32
  let v155 : BitVec 1 := Scalar.cmpi .ne v154 c0_i32_90
  let v156 : BitVec 1 := Scalar.andi v153 v155
  let v142 : BitVec 32 := Scalar.divsi arg9 c4_i32_85
  let c1_i32_91 : BitVec 32 := 1#32
  let v157 : BitVec 32 := Scalar.subi v142 c1_i32_91
  let v158 : BitVec 32 := Scalar.select v156 v157 v142
  let c1_i32_98 : BitVec 32 := 1#32
  let v171 : BitVec 32 := Scalar.subi v158 c1_i32_98
  let c0_i32_99 : BitVec 32 := 0#32
  let v172 : BitVec 32 := Scalar.maxsi v171 c0_i32_99
  let c512_i32_100 : BitVec 32 := 512#32
  let v173 : BitVec 32 := Scalar.muli v172 c512_i32_100
  let c4_i32_92 : BitVec 32 := 4#32
  let c0_i32_93 : BitVec 32 := 0#32
  let v159 : BitVec 1 := Scalar.cmpi .eq c4_i32_92 c0_i32_93
  let c1_i32_94 : BitVec 32 := 1#32
  let v160 : BitVec 32 := Scalar.select v159 c1_i32_94 c4_i32_92
  let v161 : BitVec 32 := Scalar.remsi arg9 v160
  let c0_i32_96 : BitVec 32 := 0#32
  let v163 : BitVec 1 := Scalar.cmpi .slt v161 c0_i32_96
  let c0_i32_97 : BitVec 32 := 0#32
  let v164 : BitVec 1 := Scalar.cmpi .slt v160 c0_i32_97
  let v165 : BitVec 1 := Scalar.xori v163 v164
  let c0_i32_95 : BitVec 32 := 0#32
  let v162 : BitVec 1 := Scalar.cmpi .ne v161 c0_i32_95
  let v166 : BitVec 1 := Scalar.andi v165 v162
  let v167 : BitVec 32 := Scalar.addi v161 v160
  let v168 : BitVec 32 := Scalar.select v166 v167 v161
  let v174 : BitVec 32 := Scalar.addi v173 v168
  let v178 : Index := Scalar.indexCast v174
  let c0_104 : Index := 0#32
  ![1, v178.toNat, 0]
@[reducible] def k0_t3_loop : Scf.Loop 32 :=
  let c0_i32_44 : BitVec 32 := 0#32
  let c16_i32_45 : BitVec 32 := 16#32
  let v92 : BitVec 32 := Scalar.addi c0_i32_44 c16_i32_45
  let c1_i32_46 : BitVec 32 := 1#32
  ⟨c0_i32_44, v92, c1_i32_46⟩
def k0_off5 (k0_t3 : Fin k0_t3_loop.trips) : Fin 3 → Nat :=
  let c2_101 : Index := 2#32
  let c0_i32_44 : BitVec 32 := 0#32
  let c1_i32_46 : BitVec 32 := 1#32
  let arg9 : BitVec 32 := Scf.iv c0_i32_44 c1_i32_46 k0_t3
  let c0_i32_86 : BitVec 32 := 0#32
  let v143 : BitVec 1 := Scalar.cmpi .sgt arg9 c0_i32_86
  let v144 : BitVec 32 := Scalar.extui v143
  let c0_i32_87 : BitVec 32 := 0#32
  let v145 : BitVec 1 := Scalar.cmpi .slt arg9 c0_i32_87
  let v146 : BitVec 32 := Scalar.extui v145
  let v147 : BitVec 32 := Scalar.subi v144 v146
  let c16_i32_85 : BitVec 32 := 16#32
  let c0_i32_88 : BitVec 32 := 0#32
  let v148 : BitVec 1 := Scalar.cmpi .sgt c16_i32_85 c0_i32_88
  let v149 : BitVec 32 := Scalar.extui v148
  let c0_i32_89 : BitVec 32 := 0#32
  let v150 : BitVec 1 := Scalar.cmpi .slt c16_i32_85 c0_i32_89
  let v151 : BitVec 32 := Scalar.extui v150
  let v152 : BitVec 32 := Scalar.subi v149 v151
  let v153 : BitVec 1 := Scalar.cmpi .ne v147 v152
  let v154 : BitVec 32 := Scalar.remsi arg9 c16_i32_85
  let c0_i32_90 : BitVec 32 := 0#32
  let v155 : BitVec 1 := Scalar.cmpi .ne v154 c0_i32_90
  let v156 : BitVec 1 := Scalar.andi v153 v155
  let v142 : BitVec 32 := Scalar.divsi arg9 c16_i32_85
  let c1_i32_91 : BitVec 32 := 1#32
  let v157 : BitVec 32 := Scalar.subi v142 c1_i32_91
  let v158 : BitVec 32 := Scalar.select v156 v157 v142
  let c2048_i32 : BitVec 32 := 2048#32
  let v169 : BitVec 32 := Scalar.muli v158 c2048_i32
  let c16_i32_92 : BitVec 32 := 16#32
  let c0_i32_93 : BitVec 32 := 0#32
  let v159 : BitVec 1 := Scalar.cmpi .eq c16_i32_92 c0_i32_93
  let c1_i32_94 : BitVec 32 := 1#32
  let v160 : BitVec 32 := Scalar.select v159 c1_i32_94 c16_i32_92
  let v161 : BitVec 32 := Scalar.remsi arg9 v160
  let c0_i32_96 : BitVec 32 := 0#32
  let v163 : BitVec 1 := Scalar.cmpi .slt v161 c0_i32_96
  let c0_i32_97 : BitVec 32 := 0#32
  let v164 : BitVec 1 := Scalar.cmpi .slt v160 c0_i32_97
  let v165 : BitVec 1 := Scalar.xori v163 v164
  let c0_i32_95 : BitVec 32 := 0#32
  let v162 : BitVec 1 := Scalar.cmpi .ne v161 c0_i32_95
  let v166 : BitVec 1 := Scalar.andi v165 v162
  let v167 : BitVec 32 := Scalar.addi v161 v160
  let v168 : BitVec 32 := Scalar.select v166 v167 v161
  let v170 : BitVec 32 := Scalar.addi v169 v168
  let v175 : Index := Scalar.indexCast v170
  let c0_102 : Index := 0#32
  ![2, v175.toNat, 0]
def k0_off6 (k0_t3 : Fin k0_t3_loop.trips) : Fin 3 → Nat :=
  let c2_103 : Index := 2#32
  let c0_i32_44 : BitVec 32 := 0#32
  let c1_i32_46 : BitVec 32 := 1#32
  let arg9 : BitVec 32 := Scf.iv c0_i32_44 c1_i32_46 k0_t3
  let c0_i32_86 : BitVec 32 := 0#32
  let v143 : BitVec 1 := Scalar.cmpi .sgt arg9 c0_i32_86
  let v144 : BitVec 32 := Scalar.extui v143
  let c0_i32_87 : BitVec 32 := 0#32
  let v145 : BitVec 1 := Scalar.cmpi .slt arg9 c0_i32_87
  let v146 : BitVec 32 := Scalar.extui v145
  let v147 : BitVec 32 := Scalar.subi v144 v146
  let c16_i32_85 : BitVec 32 := 16#32
  let c0_i32_88 : BitVec 32 := 0#32
  let v148 : BitVec 1 := Scalar.cmpi .sgt c16_i32_85 c0_i32_88
  let v149 : BitVec 32 := Scalar.extui v148
  let c0_i32_89 : BitVec 32 := 0#32
  let v150 : BitVec 1 := Scalar.cmpi .slt c16_i32_85 c0_i32_89
  let v151 : BitVec 32 := Scalar.extui v150
  let v152 : BitVec 32 := Scalar.subi v149 v151
  let v153 : BitVec 1 := Scalar.cmpi .ne v147 v152
  let v154 : BitVec 32 := Scalar.remsi arg9 c16_i32_85
  let c0_i32_90 : BitVec 32 := 0#32
  let v155 : BitVec 1 := Scalar.cmpi .ne v154 c0_i32_90
  let v156 : BitVec 1 := Scalar.andi v153 v155
  let v142 : BitVec 32 := Scalar.divsi arg9 c16_i32_85
  let c1_i32_91 : BitVec 32 := 1#32
  let v157 : BitVec 32 := Scalar.subi v142 c1_i32_91
  let v158 : BitVec 32 := Scalar.select v156 v157 v142
  let c1_i32_98 : BitVec 32 := 1#32
  let v171 : BitVec 32 := Scalar.subi v158 c1_i32_98
  let c0_i32_99 : BitVec 32 := 0#32
  let v172 : BitVec 32 := Scalar.maxsi v171 c0_i32_99
  let c2048_i32_100 : BitVec 32 := 2048#32
  let v173 : BitVec 32 := Scalar.muli v172 c2048_i32_100
  let c16_i32_92 : BitVec 32 := 16#32
  let c0_i32_93 : BitVec 32 := 0#32
  let v159 : BitVec 1 := Scalar.cmpi .eq c16_i32_92 c0_i32_93
  let c1_i32_94 : BitVec 32 := 1#32
  let v160 : BitVec 32 := Scalar.select v159 c1_i32_94 c16_i32_92
  let v161 : BitVec 32 := Scalar.remsi arg9 v160
  let c0_i32_96 : BitVec 32 := 0#32
  let v163 : BitVec 1 := Scalar.cmpi .slt v161 c0_i32_96
  let c0_i32_97 : BitVec 32 := 0#32
  let v164 : BitVec 1 := Scalar.cmpi .slt v160 c0_i32_97
  let v165 : BitVec 1 := Scalar.xori v163 v164
  let c0_i32_95 : BitVec 32 := 0#32
  let v162 : BitVec 1 := Scalar.cmpi .ne v161 c0_i32_95
  let v166 : BitVec 1 := Scalar.andi v165 v162
  let v167 : BitVec 32 := Scalar.addi v161 v160
  let v168 : BitVec 32 := Scalar.select v166 v167 v161
  let v174 : BitVec 32 := Scalar.addi v173 v168
  let v178 : Index := Scalar.indexCast v174
  let c0_104 : Index := 0#32
  ![2, v178.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, arg0.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, arg0.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S3x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DilAttnIdeal.lean ====
variable {F : FTy → Type} [FloatOps F] [Named F]
def κ : String → Option EReal := fun
  | "mask" => some ⊥
  | _ => none
-- ==== DilAttnRefIdeal.lean ====
abbrev S3x16384x512 : Shape := ⟨3, ![3, 16384, 512]⟩
abbrev S3x16384x1024 : Shape := ⟨3, ![3, 16384, 1024]⟩
abbrev S3x8x2048x8x64 : Shape := ⟨5, ![3, 8, 2048, 8, 64]⟩
abbrev S3x8x2048x2x8x64 : Shape := ⟨6, ![3, 8, 2048, 2, 8, 64]⟩
abbrev S8 : Shape := ⟨1, ![8]⟩
abbrev S_ : Shape := ⟨0, ![]⟩
abbrev S1x8x2048x8x64 : Shape := ⟨5, ![1, 8, 2048, 8, 64]⟩
abbrev S8x2048x8x64 : Shape := ⟨4, ![8, 2048, 8, 64]⟩
abbrev S1x8x2048x1x8x64 : Shape := ⟨6, ![1, 8, 2048, 1, 8, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x8x2048x2048 : Shape := ⟨4, ![8, 8, 2048, 2048]⟩
abbrev S8x1x1 : Shape := ⟨3, ![8, 1, 1]⟩
abbrev S1x2048x2048 : Shape := ⟨3, ![1, 2048, 2048]⟩
abbrev S8x2048x2048 : Shape := ⟨3, ![8, 2048, 2048]⟩
abbrev S1x8x2048x2048 : Shape := ⟨4, ![1, 8, 2048, 2048]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩
abbrev S8x2048x8 : Shape := ⟨3, ![8, 2048, 8]⟩
abbrev S8x2048x8x1 : Shape := ⟨4, ![8, 2048, 8, 1]⟩
abbrev S16384x512 : Shape := ⟨2, ![16384, 512]⟩

abbrev nBuf : Space → Nat
  | .hbm => 274
  | .vmem => 0
  | .smem => 0
  | _ => 0

abbrev hbmTy0_0 (i : Nat) : BufTy := match i % 128 with
  | 0 => ⟨S3x16384x512, .f32⟩
  | 1 => ⟨S3x16384x1024, .f32⟩
  | 2 => ⟨S3x8x2048x8x64, .f32⟩
  | 3 => ⟨S3x8x2048x2x8x64, .f32⟩
  | 4 => ⟨S8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S1x8x2048x8x64, .f32⟩
  | 18 => ⟨S8x2048x8x64, .f32⟩
  | 19 => ⟨S1x8x2048x1x8x64, .f32⟩
  | 20 => ⟨S8x2048x8x64, .f32⟩
  | 21 => ⟨S1x8x2048x1x8x64, .f32⟩
  | 22 => ⟨S8x2048x8x64, .f32⟩
  | 23 => ⟨S2048, .i32⟩
  | 24 => ⟨S2048x1, .i32⟩
  | 25 => ⟨S1x2048, .i32⟩
  | 26 => ⟨S2048x2048, .i32⟩
  | 27 => ⟨S2048x2048, .i32⟩
  | 28 => ⟨S2048x2048, .i32⟩
  | 29 => ⟨S_, .i32⟩
  | 30 => ⟨S2048x2048, .i32⟩
  | 31 => ⟨S2048x2048, .i1⟩
  | 32 => ⟨S_, .i32⟩
  | 33 => ⟨S2048x2048, .i32⟩
  | 34 => ⟨S2048x2048, .i1⟩
  | 35 => ⟨S2048x2048, .i1⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S2048x2048, .i32⟩
  | 43 => ⟨S2048x2048, .i32⟩
  | 44 => ⟨S_, .i32⟩
  | 45 => ⟨S2048x2048, .i32⟩
  | 46 => ⟨S2048x2048, .i1⟩
  | 47 => ⟨S_, .i32⟩
  | 48 => ⟨S2048x2048, .i32⟩
  | 49 => ⟨S2048x2048, .i1⟩
  | 50 => ⟨S_, .i32⟩
  | 51 => ⟨S_, .i1⟩
  | 52 => ⟨S2048x2048, .i1⟩
  | 53 => ⟨S2048x2048, .i1⟩
  | 54 => ⟨S2048x2048, .i1⟩
  | 55 => ⟨S2048x2048, .i32⟩
  | 56 => ⟨S2048x2048, .i32⟩
  | 57 => ⟨S2048x2048, .i32⟩
  | 58 => ⟨S_, .i32⟩
  | 59 => ⟨S2048x2048, .i32⟩
  | 60 => ⟨S2048x2048, .i1⟩
  | 61 => ⟨S2048x2048, .i1⟩
  | 62 => ⟨S8x8x2048x2048, .f32⟩
  | 63 => ⟨S8x1x1, .f32⟩
  | 64 => ⟨S2048x2048, .f32⟩
  | 65 => ⟨S1x2048x2048, .f32⟩
  | 66 => ⟨S8x2048x2048, .f32⟩
  | 67 => ⟨S8x2048x2048, .f32⟩
  | 68 => ⟨S8x2048x2048, .f32⟩
  | 69 => ⟨S1x8x2048x2048, .f32⟩
  | 70 => ⟨S8x8x2048x2048, .f32⟩
  | 71 => ⟨S8x8x2048x2048, .f32⟩
  | 72 => ⟨S_, .f32⟩
  | 73 => ⟨S_, .f32⟩
  | 74 => ⟨S8x8x2048x2048, .i1⟩
  | 75 => ⟨S8x8x2048x2048, .f32⟩
  | 76 => ⟨S8x8x2048x2048, .f32⟩
  | 77 => ⟨S_, .f32⟩
  | 78 => ⟨S8x8x2048, .f32⟩
  | 79 => ⟨S8x8x2048x1, .f32⟩
  | 80 => ⟨S8x8x2048x2048, .f32⟩
  | 81 => ⟨S8x8x2048x2048, .f32⟩
  | 82 => ⟨S8x8x2048x2048, .f32⟩
  | 83 => ⟨S_, .f32⟩
  | 84 => ⟨S8x8x2048, .f32⟩
  | 85 => ⟨S8x8x64x2048, .f32⟩
  | 86 => ⟨S8x2048x8x64, .f32⟩
  | 87 => ⟨S8x2048x8, .f32⟩
  | 88 => ⟨S8x2048x8, .f32⟩
  | 89 => ⟨S1x8x2048x8x64, .f32⟩
  | 90 => ⟨S8x2048x8x64, .f32⟩
  | 91 => ⟨S1x8x2048x1x8x64, .f32⟩
  | 92 => ⟨S8x2048x8x64, .f32⟩
  | 93 => ⟨S1x8x2048x1x8x64, .f32⟩
  | 94 => ⟨S8x2048x8x64, .f32⟩
  | 95 => ⟨S2048, .i32⟩
  | 96 => ⟨S2048x1, .i32⟩
  | 97 => ⟨S1x2048, .i32⟩
  | 98 => ⟨S2048x2048, .i32⟩
  | 99 => ⟨S2048x2048, .i32⟩
  | 100 => ⟨S2048x2048, .i32⟩
  | 101 => ⟨S_, .i32⟩
  | 102 => ⟨S2048x2048, .i32⟩
  | 103 => ⟨S2048x2048, .i1⟩
  | 104 => ⟨S_, .i32⟩
  | 105 => ⟨S2048x2048, .i32⟩
  | 106 => ⟨S2048x2048, .i1⟩
  | 107 => ⟨S2048x2048, .i1⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S2048x2048, .i32⟩
  | 115 => ⟨S2048x2048, .i32⟩
  | 116 => ⟨S_, .i32⟩
  | 117 => ⟨S2048x2048, .i32⟩
  | 118 => ⟨S2048x2048, .i1⟩
  | 119 => ⟨S_, .i32⟩
  | 120 => ⟨S2048x2048, .i32⟩
  | 121 => ⟨S2048x2048, .i1⟩
  | 122 => ⟨S_, .i32⟩
  | 123 => ⟨S_, .i1⟩
  | 124 => ⟨S2048x2048, .i1⟩
  | 125 => ⟨S2048x2048, .i1⟩
  | 126 => ⟨S2048x2048, .i1⟩
  | 127 => ⟨S2048x2048, .i32⟩
  | _ => ⟨S3x16384x512, .f32⟩

abbrev hbmTy0_1 (i : Nat) : BufTy := match i % 128 with
  | 0 => ⟨S2048x2048, .i32⟩
  | 1 => ⟨S2048x2048, .i32⟩
  | 2 => ⟨S_, .i32⟩
  | 3 => ⟨S2048x2048, .i32⟩
  | 4 => ⟨S2048x2048, .i1⟩
  | 5 => ⟨S2048x2048, .i1⟩
  | 6 => ⟨S8x8x2048x2048, .f32⟩
  | 7 => ⟨S8x1x1, .f32⟩
  | 8 => ⟨S2048x2048, .f32⟩
  | 9 => ⟨S1x2048x2048, .f32⟩
  | 10 => ⟨S8x2048x2048, .f32⟩
  | 11 => ⟨S8x2048x2048, .f32⟩
  | 12 => ⟨S8x2048x2048, .f32⟩
  | 13 => ⟨S1x8x2048x2048, .f32⟩
  | 14 => ⟨S8x8x2048x2048, .f32⟩
  | 15 => ⟨S8x8x2048x2048, .f32⟩
  | 16 => ⟨S_, .f32⟩
  | 17 => ⟨S_, .f32⟩
  | 18 => ⟨S8x8x2048x2048, .i1⟩
  | 19 => ⟨S8x8x2048x2048, .f32⟩
  | 20 => ⟨S8x8x2048x2048, .f32⟩
  | 21 => ⟨S_, .f32⟩
  | 22 => ⟨S8x8x2048, .f32⟩
  | 23 => ⟨S8x8x2048x1, .f32⟩
  | 24 => ⟨S8x8x2048x2048, .f32⟩
  | 25 => ⟨S8x8x2048x2048, .f32⟩
  | 26 => ⟨S8x8x2048x2048, .f32⟩
  | 27 => ⟨S_, .f32⟩
  | 28 => ⟨S8x8x2048, .f32⟩
  | 29 => ⟨S8x8x64x2048, .f32⟩
  | 30 => ⟨S8x2048x8x64, .f32⟩
  | 31 => ⟨S8x2048x8, .f32⟩
  | 32 => ⟨S8x2048x8, .f32⟩
  | 33 => ⟨S1x8x2048x8x64, .f32⟩
  | 34 => ⟨S8x2048x8x64, .f32⟩
  | 35 => ⟨S1x8x2048x1x8x64, .f32⟩
  | 36 => ⟨S8x2048x8x64, .f32⟩
  | 37 => ⟨S1x8x2048x1x8x64, .f32⟩
  | 38 => ⟨S8x2048x8x64, .f32⟩
  | 39 => ⟨S2048, .i32⟩
  | 40 => ⟨S2048x1, .i32⟩
  | 41 => ⟨S1x2048, .i32⟩
  | 42 => ⟨S2048x2048, .i32⟩
  | 43 => ⟨S2048x2048, .i32⟩
  | 44 => ⟨S2048x2048, .i32⟩
  | 45 => ⟨S_, .i32⟩
  | 46 => ⟨S2048x2048, .i32⟩
  | 47 => ⟨S2048x2048, .i1⟩
  | 48 => ⟨S_, .i32⟩
  | 49 => ⟨S2048x2048, .i32⟩
  | 50 => ⟨S2048x2048, .i1⟩
  | 51 => ⟨S2048x2048, .i1⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S2048x2048, .i32⟩
  | 59 => ⟨S2048x2048, .i32⟩
  | 60 => ⟨S_, .i32⟩
  | 61 => ⟨S2048x2048, .i32⟩
  | 62 => ⟨S2048x2048, .i1⟩
  | 63 => ⟨S_, .i32⟩
  | 64 => ⟨S2048x2048, .i32⟩
  | 65 => ⟨S2048x2048, .i1⟩
  | 66 => ⟨S_, .i32⟩
  | 67 => ⟨S_, .i1⟩
  | 68 => ⟨S2048x2048, .i1⟩
  | 69 => ⟨S2048x2048, .i1⟩
  | 70 => ⟨S2048x2048, .i1⟩
  | 71 => ⟨S2048x2048, .i32⟩
  | 72 => ⟨S2048x2048, .i32⟩
  | 73 => ⟨S2048x2048, .i32⟩
  | 74 => ⟨S_, .i32⟩
  | 75 => ⟨S2048x2048, .i32⟩
  | 76 => ⟨S2048x2048, .i1⟩
  | 77 => ⟨S2048x2048, .i1⟩
  | 78 => ⟨S8x8x2048x2048, .f32⟩
  | 79 => ⟨S8x1x1, .f32⟩
  | 80 => ⟨S2048x2048, .f32⟩
  | 81 => ⟨S1x2048x2048, .f32⟩
  | 82 => ⟨S8x2048x2048, .f32⟩
  | 83 => ⟨S8x2048x2048, .f32⟩
  | 84 => ⟨S8x2048x2048, .f32⟩
  | 85 => ⟨S1x8x2048x2048, .f32⟩
  | 86 => ⟨S8x8x2048x2048, .f32⟩
  | 87 => ⟨S8x8x2048x2048, .f32⟩
  | 88 => ⟨S_, .f32⟩
  | 89 => ⟨S_, .f32⟩
  | 90 => ⟨S8x8x2048x2048, .i1⟩
  | 91 => ⟨S8x8x2048x2048, .f32⟩
  | 92 => ⟨S8x8x2048x2048, .f32⟩
  | 93 => ⟨S_, .f32⟩
  | 94 => ⟨S8x8x2048, .f32⟩
  | 95 => ⟨S8x8x2048x1, .f32⟩
  | 96 => ⟨S8x8x2048x2048, .f32⟩
  | 97 => ⟨S8x8x2048x2048, .f32⟩
  | 98 => ⟨S8x8x2048x2048, .f32⟩
  | 99 => ⟨S_, .f32⟩
  | 100 => ⟨S8x8x2048, .f32⟩
  | 101 => ⟨S8x8x64x2048, .f32⟩
  | 102 => ⟨S8x2048x8x64, .f32⟩
  | 103 => ⟨S8x2048x8, .f32⟩
  | 104 => ⟨S8x2048x8, .f32⟩
  | 105 => ⟨S8x2048x8, .f32⟩
  | 106 => ⟨S8x2048x8, .f32⟩
  | 107 => ⟨S8x2048x8, .f32⟩
  | 108 => ⟨S8x2048x8, .f32⟩
  | 109 => ⟨S8x2048x8x1, .f32⟩
  | 110 => ⟨S8x2048x8x64, .f32⟩
  | 111 => ⟨S8x2048x8x64, .f32⟩
  | 112 => ⟨S_, .f32⟩
  | 113 => ⟨S8x2048x8x64, .f32⟩
  | 114 => ⟨S8x2048x8x64, .f32⟩
  | 115 => ⟨S8x2048x8, .f32⟩
  | 116 => ⟨S8x2048x8, .f32⟩
  | 117 => ⟨S8x2048x8x1, .f32⟩
  | 118 => ⟨S8x2048x8x64, .f32⟩
  | 119 => ⟨S8x2048x8x64, .f32⟩
  | 120 => ⟨S8x2048x8x64, .f32⟩
  | 121 => ⟨S8x2048x8, .f32⟩
  | 122 => ⟨S8x2048x8, .f32⟩
  | 123 => ⟨S8x2048x8x1, .f32⟩
  | 124 => ⟨S8x2048x8x64, .f32⟩
  | 125 => ⟨S8x2048x8x64, .f32⟩
  | 126 => ⟨S8x2048x8x64, .f32⟩
  | 127 => ⟨S8x2048x8, .f32⟩
  | _ => ⟨S3x16384x512, .f32⟩

abbrev hbmTy0_2 (i : Nat) : BufTy := match i % 128 with
  | 0 => ⟨S8x2048x8, .f32⟩
  | 1 => ⟨S8x2048x8, .f32⟩
  | 2 => ⟨S_, .f32⟩
  | 3 => ⟨S8x2048x8, .f32⟩
  | 4 => ⟨S8x2048x8, .f32⟩
  | 5 => ⟨S8x2048x8, .f32⟩
  | 6 => ⟨S8x2048x8, .f32⟩
  | 7 => ⟨S8x2048x8, .f32⟩
  | 8 => ⟨S8x2048x8, .f32⟩
  | 9 => ⟨S8x2048x8, .f32⟩
  | 10 => ⟨S8x2048x8, .f32⟩
  | 11 => ⟨S8x2048x8, .f32⟩
  | 12 => ⟨S8x2048x8, .f32⟩
  | 13 => ⟨S8x2048x8x1, .f32⟩
  | 14 => ⟨S8x2048x8x64, .f32⟩
  | 15 => ⟨S8x2048x8x64, .f32⟩
  | 16 => ⟨S16384x512, .f32⟩
  | 17 => ⟨S16384x512, .bf16⟩
  | _ => ⟨S3x16384x512, .f32⟩

abbrev hbmTy (i : Nat) : BufTy := match i / 128 with
  | 0 => hbmTy0_0 i
  | 1 => hbmTy0_1 i
  | 2 => hbmTy0_2 i
  | _ => ⟨S3x16384x512, .f32⟩

abbrev bufTy : (tb : Table) → Fin (tcTables nBuf tb) → BufTy
  | .hbm, ⟨i, _⟩ => hbmTy i
  | _, _ => ⟨S3x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_v23 : Ref sig .tc := ⟨.hbm, 30, rfl⟩
abbrev main_v24 : Ref sig .tc := ⟨.hbm, 31, rfl⟩
abbrev main_c_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_4 : Ref sig .tc := ⟨.hbm, 36, rfl⟩
abbrev main_call0_v0 : Ref sig .tc := ⟨.hbm, 37, rfl⟩
abbrev main_call0_c : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_c_1 : Ref sig .tc := ⟨.hbm, 44, rfl⟩
abbrev main_call0_v5 : Ref sig .tc := ⟨.hbm, 45, rfl⟩
abbrev main_call0_v6 : Ref sig .tc := ⟨.hbm, 46, rfl⟩
abbrev main_call0_c_2 : Ref sig .tc := ⟨.hbm, 47, rfl⟩
abbrev main_call0_v7 : Ref sig .tc := ⟨.hbm, 48, rfl⟩
abbrev main_call0_v8 : Ref sig .tc := ⟨.hbm, 49, rfl⟩
abbrev main_call0_c_3 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_v28 : Ref sig .tc := ⟨.hbm, 57, rfl⟩
abbrev main_c_5 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_6 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v42 : Ref sig .tc := ⟨.hbm, 76, rfl⟩
abbrev main_cst_7 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_8 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_c_9 : Ref sig .tc := ⟨.hbm, 101, rfl⟩
abbrev main_v65 : Ref sig .tc := ⟨.hbm, 102, rfl⟩
abbrev main_v66 : Ref sig .tc := ⟨.hbm, 103, rfl⟩
abbrev main_c_10 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_c_11 : Ref sig .tc := ⟨.hbm, 108, rfl⟩
abbrev main_call2_v0 : Ref sig .tc := ⟨.hbm, 109, rfl⟩
abbrev main_call2_c : Ref sig .tc := ⟨.hbm, 110, rfl⟩
abbrev main_call2_v1 : Ref sig .tc := ⟨.hbm, 111, rfl⟩
abbrev main_call2_c_0 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_call2_c_1 : Ref sig .tc := ⟨.hbm, 116, rfl⟩
abbrev main_call2_v5 : Ref sig .tc := ⟨.hbm, 117, rfl⟩
abbrev main_call2_v6 : Ref sig .tc := ⟨.hbm, 118, rfl⟩
abbrev main_call2_c_2 : Ref sig .tc := ⟨.hbm, 119, rfl⟩
abbrev main_call2_v7 : Ref sig .tc := ⟨.hbm, 120, rfl⟩
abbrev main_call2_v8 : Ref sig .tc := ⟨.hbm, 121, rfl⟩
abbrev main_call2_c_3 : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_v12 : Ref sig .tc := ⟨.hbm, 126, rfl⟩
abbrev main_call2_v13 : Ref sig .tc := ⟨.hbm, 127, rfl⟩
abbrev main_call2_v14 : Ref sig .tc := ⟨.hbm, 128, rfl⟩
abbrev main_v70 : Ref sig .tc := ⟨.hbm, 129, rfl⟩
abbrev main_c_12 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_cst_13 : Ref sig .tc := ⟨.hbm, 144, rfl⟩
abbrev main_call3_v0 : Ref sig .tc := ⟨.hbm, 145, rfl⟩
abbrev main_call3_v1 : Ref sig .tc := ⟨.hbm, 146, rfl⟩
abbrev main_call3_v2 : Ref sig .tc := ⟨.hbm, 147, rfl⟩
abbrev main_v84 : Ref sig .tc := ⟨.hbm, 148, rfl⟩
abbrev main_cst_14 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_cst_15 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_c_16 : Ref sig .tc := ⟨.hbm, 173, rfl⟩
abbrev main_v107 : Ref sig .tc := ⟨.hbm, 174, rfl⟩
abbrev main_v108 : Ref sig .tc := ⟨.hbm, 175, rfl⟩
abbrev main_c_17 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_c_18 : Ref sig .tc := ⟨.hbm, 180, rfl⟩
abbrev main_call4_v0 : Ref sig .tc := ⟨.hbm, 181, rfl⟩
abbrev main_call4_c : Ref sig .tc := ⟨.hbm, 182, rfl⟩
abbrev main_call4_v1 : Ref sig .tc := ⟨.hbm, 183, rfl⟩
abbrev main_call4_c_0 : Ref sig .tc := ⟨.hbm, 184, rfl⟩
abbrev main_call4_v2 : Ref sig .tc := ⟨.hbm, 185, rfl⟩
abbrev main_call4_v3 : Ref sig .tc := ⟨.hbm, 186, rfl⟩
abbrev main_call4_v4 : Ref sig .tc := ⟨.hbm, 187, rfl⟩
abbrev main_call4_c_1 : Ref sig .tc := ⟨.hbm, 188, rfl⟩
abbrev main_call4_v5 : Ref sig .tc := ⟨.hbm, 189, rfl⟩
abbrev main_call4_v6 : Ref sig .tc := ⟨.hbm, 190, rfl⟩
abbrev main_call4_c_2 : Ref sig .tc := ⟨.hbm, 191, rfl⟩
abbrev main_call4_v7 : Ref sig .tc := ⟨.hbm, 192, rfl⟩
abbrev main_call4_v8 : Ref sig .tc := ⟨.hbm, 193, rfl⟩
abbrev main_call4_c_3 : Ref sig .tc := ⟨.hbm, 194, rfl⟩
abbrev main_call4_v9 : Ref sig .tc := ⟨.hbm, 195, rfl⟩
abbrev main_call4_v10 : Ref sig .tc := ⟨.hbm, 196, rfl⟩
abbrev main_call4_v11 : Ref sig .tc := ⟨.hbm, 197, rfl⟩
abbrev main_call4_v12 : Ref sig .tc := ⟨.hbm, 198, rfl⟩
abbrev main_call4_v13 : Ref sig .tc := ⟨.hbm, 199, rfl⟩
abbrev main_call4_v14 : Ref sig .tc := ⟨.hbm, 200, rfl⟩
abbrev main_v112 : Ref sig .tc := ⟨.hbm, 201, rfl⟩
abbrev main_c_19 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_cst_20 : Ref sig .tc := ⟨.hbm, 216, rfl⟩
abbrev main_call5_v0 : Ref sig .tc := ⟨.hbm, 217, rfl⟩
abbrev main_call5_v1 : Ref sig .tc := ⟨.hbm, 218, rfl⟩
abbrev main_call5_v2 : Ref sig .tc := ⟨.hbm, 219, rfl⟩
abbrev main_v126 : Ref sig .tc := ⟨.hbm, 220, rfl⟩
abbrev main_cst_21 : Ref sig .tc := ⟨.hbm, 221, rfl⟩
abbrev main_v127 : Ref sig .tc := ⟨.hbm, 222, rfl⟩
abbrev main_v128 : Ref sig .tc := ⟨.hbm, 223, rfl⟩
abbrev main_v129 : Ref sig .tc := ⟨.hbm, 224, rfl⟩
abbrev main_v130 : Ref sig .tc := ⟨.hbm, 225, rfl⟩
abbrev main_v131 : Ref sig .tc := ⟨.hbm, 226, rfl⟩
abbrev main_cst_22 : Ref sig .tc := ⟨.hbm, 227, rfl⟩
abbrev main_v132 : Ref sig .tc := ⟨.hbm, 228, rfl⟩
abbrev main_v133 : Ref sig .tc := ⟨.hbm, 229, rfl⟩
abbrev main_v134 : Ref sig .tc := ⟨.hbm, 230, rfl⟩
abbrev main_v135 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_cst_23 : Ref sig .tc := ⟨.hbm, 240, rfl⟩
abbrev main_v144 : Ref sig .tc := ⟨.hbm, 241, rfl⟩
abbrev main_v145 : Ref sig .tc := ⟨.hbm, 242, rfl⟩
abbrev main_v146 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_v152 : Ref sig .tc := ⟨.hbm, 249, rfl⟩
abbrev main_v153 : Ref sig .tc := ⟨.hbm, 250, rfl⟩
abbrev main_v154 : Ref sig .tc := ⟨.hbm, 251, rfl⟩
abbrev main_v155 : Ref sig .tc := ⟨.hbm, 252, rfl⟩
abbrev main_v156 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_v160 : Ref sig .tc := ⟨.hbm, 257, rfl⟩
abbrev main_cst_24 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩

abbrev nD : Nat := 1
abbrev τ : Topo := Topo.v7x

variable {F : FTy → Type} [FloatOps F]
-- ==== PostFinalSample.lean ====
abbrev S32x1024 : Shape := ⟨2, ![32, 1024]⟩
abbrev S32x512 : Shape := ⟨2, ![32, 512]⟩
abbrev S512x1024 : Shape := ⟨2, ![512, 1024]⟩
abbrev S1x1024 : Shape := ⟨2, ![1, 1024]⟩
abbrev S1024x4096 : Shape := ⟨2, ![1024, 4096]⟩
abbrev S4096x1024 : Shape := ⟨2, ![4096, 1024]⟩
abbrev S32 : Shape := ⟨1, ![32]⟩
abbrev S32x1 : Shape := ⟨2, ![32, 1]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S32x1024, .f32⟩
  | .hbm, ⟨1, _⟩ => ⟨S32x512, .bf16⟩
  | .hbm, ⟨2, _⟩ => ⟨S512x1024, .bf16⟩
  | .hbm, ⟨3, _⟩ => ⟨S1x1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S32x1024, .f32⟩
  | .local _ .vmem, ⟨0, _⟩ => ⟨S32x1024, .f32⟩
  | .local _ .vmem, ⟨1, _⟩ => ⟨S32x512, .bf16⟩
  | .local _ .vmem, ⟨2, _⟩ => ⟨S512x1024, .bf16⟩
  | .local _ .vmem, ⟨3, _⟩ => ⟨S1x1024, .f32⟩
  | .local _ .vmem, ⟨4, _⟩ => ⟨S1024x4096, .bf16⟩
  | .local _ .vmem, ⟨5, _⟩ => ⟨S4096x1024, .bf16⟩
  | .local _ .vmem, ⟨6, _⟩ => ⟨S1x1024, .f32⟩
  | .local _ .vmem, ⟨7, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== PostFinalSampleRefIdeal.lean ====
abbrev S32x1024 : Shape := ⟨2, ![32, 1024]⟩
abbrev S32x512 : Shape := ⟨2, ![32, 512]⟩
abbrev S512x1024 : Shape := ⟨2, ![512, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S32 : Shape := ⟨1, ![32]⟩
abbrev S32x1 : Shape := ⟨2, ![32, 1]⟩
abbrev S32x4096 : Shape := ⟨2, ![32, 4096]⟩

abbrev nBuf : Space → Nat
  | .hbm => 50
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x512, .bf16⟩
  | .hbm, ⟨2, _⟩ => ⟨S512x1024, .bf16⟩
  | .hbm, ⟨3, _⟩ => ⟨S1x1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S32x512, .f32⟩
  | .hbm, ⟨8, _⟩ => ⟨S512x1024, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S_, .f32⟩
  | .hbm, ⟨13, _⟩ => ⟨S32, .f32⟩
  | .hbm, ⟨14, _⟩ => ⟨S32x1, .f32⟩
  | .hbm, ⟨15, _⟩ => ⟨S_, .f32⟩
  | .hbm, ⟨16, _⟩ => ⟨S32x1, .f32⟩
  | .hbm, ⟨17, _⟩ => ⟨S32x1, .f32⟩
  | .hbm, ⟨18, _⟩ => ⟨S_, .f32⟩
  | .hbm, ⟨19, _⟩ => ⟨S32x1, .f32⟩
  | .hbm, ⟨20, _⟩ => ⟨S32x1, .f32⟩
  | .hbm, ⟨21, _⟩ => ⟨S32x1, .f32⟩
  | .hbm, ⟨22, _⟩ => ⟨S32x1024, .f32⟩
  | .hbm, ⟨23, _⟩ => ⟨S32x1024, .f32⟩
  | .hbm, ⟨24, _⟩ => ⟨S32x1024, .f32⟩
  | .hbm, ⟨25, _⟩ => ⟨S32x1024, .f32⟩
  | .hbm, ⟨26, _⟩ => ⟨S1024x4096, .f32⟩
  | .hbm, ⟨27, _⟩ => ⟨S4096x1024, .f32⟩
  | .hbm, ⟨28, _⟩ => ⟨S32x4096, .f32⟩
  | .hbm, ⟨29, _⟩ => ⟨S_, .f32⟩
  | .hbm, ⟨30, _⟩ => ⟨S32x4096, .f32⟩
  | .hbm, ⟨31, _⟩ => ⟨S32x4096, .f32⟩
  | .hbm, ⟨32, _⟩ => ⟨S32x4096, .f32⟩
  | .hbm, ⟨33, _⟩ => ⟨S32x1024, .f32⟩
  | .hbm, ⟨34, _⟩ => ⟨S32x1024, .f32⟩
  | .hbm, ⟨35, _⟩ => ⟨S32x1024, .f32⟩
  | .hbm, ⟨36, _⟩ => ⟨S_, .f32⟩
  | .hbm, ⟨37, _⟩ => ⟨S32, .f32⟩
  | .hbm, ⟨38, _⟩ => ⟨S32x1, .f32⟩
  | .hbm, ⟨39, _⟩ => ⟨S_, .f32⟩
  | .hbm, ⟨40, _⟩ => ⟨S32x1, .f32⟩
  | .hbm, ⟨41, _⟩ => ⟨S32x1, .f32⟩
  | .hbm, ⟨42, _⟩ => ⟨S_, .f32⟩
  | .hbm, ⟨43, _⟩ => ⟨S32x1, .f32⟩
  | .hbm, ⟨44, _⟩ => ⟨S32x1, .f32⟩
  | .hbm, ⟨45, _⟩ => ⟨S32x1, .f32⟩
  | .hbm, ⟨46, _⟩ => ⟨S32x1024, .f32⟩
  | .hbm, ⟨47, _⟩ => ⟨S32x1024, .f32⟩
  | .hbm, ⟨48, _⟩ => ⟨S32x1024, .f32⟩
  | .hbm, ⟨49, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== DilProjSample.lean ====
abbrev S32x1024 : Shape := ⟨2, ![32, 1024]⟩
abbrev S1x1024 : Shape := ⟨2, ![1, 1024]⟩
abbrev S1024x4608 : Shape := ⟨2, ![1024, 4608]⟩
abbrev S32x128x2x8x64 : Shape := ⟨5, ![32, 128, 2, 8, 64]⟩
abbrev S32x512x2x8x64 : Shape := ⟨5, ![32, 512, 2, 8, 64]⟩
abbrev S32x2048x2x8x64 : Shape := ⟨5, ![32, 2048, 2, 8, 64]⟩
abbrev S3x32x512 : Shape := ⟨3, ![3, 32, 512]⟩
abbrev S3x32x1024 : Shape := ⟨3, ![3, 32, 1024]⟩
abbrev S32 : Shape := ⟨1, ![32]⟩
abbrev S32x1 : Shape := ⟨2, ![32, 1]⟩
abbrev S1024x1536 : Shape := ⟨2, ![1024, 1536]⟩
abbrev S32x1536 : Shape := ⟨2, ![32, 1536]⟩
abbrev S32x512 : Shape := ⟨2, ![32, 512]⟩
abbrev S1x32x512 : Shape := ⟨3, ![1, 32, 512]⟩
abbrev S1x32x1024 : Shape := ⟨3, ![1, 32, 1024]⟩
abbrev S32x1x2x8x64 : Shape := ⟨5, ![32, 1, 2, 8, 64]⟩
abbrev S32x127x2x8x64 : Shape := ⟨5, ![32, 127, 2, 8, 64]⟩
abbrev S32x511x2x8x64 : Shape := ⟨5, ![32, 511, 2, 8, 64]⟩
abbrev S32x2047x2x8x64 : Shape := ⟨5, ![32, 2047, 2, 8, 64]⟩

abbrev nBuf : Space → Nat
  | .hbm => 23
  | .vmem => 5
  | .smem => 0
  | _ => 0

abbrev bufTy : (tb : Table) → Fin (tcTables nBuf tb) → BufTy
  | .hbm, ⟨0, _⟩ => ⟨S32x1024, .f32⟩
  | .hbm, ⟨1, _⟩ => ⟨S1x1024, .f32⟩
  | .hbm, ⟨2, _⟩ => ⟨S1024x4608, .bf16⟩
  | .hbm, ⟨3, _⟩ => ⟨S32x128x2x8x64, .f32⟩
  | .hbm, ⟨4, _⟩ => ⟨S32x512x2x8x64, .f32⟩
  | .hbm, ⟨5, _⟩ => ⟨S32x2048x2x8x64, .f32⟩
  | .hbm, ⟨6, _⟩ => ⟨S3x32x512, .f32⟩
  | .hbm, ⟨7, _⟩ => ⟨S3x32x1024, .f32⟩
  | .hbm, ⟨8, _⟩ => ⟨S1x32x1024, .f32⟩
  | .hbm, ⟨9, _⟩ => ⟨S32x1024, .f32⟩
  | .hbm, ⟨10, _⟩ => ⟨S32x1x2x8x64, .f32⟩
  | .hbm, ⟨11, _⟩ => ⟨S32x127x2x8x64, .f32⟩
  | .hbm, ⟨12, _⟩ => ⟨S32x128x2x8x64, .f32⟩
  | .hbm, ⟨13, _⟩ => ⟨S1x32x1024, .f32⟩
  | .hbm, ⟨14, _⟩ => ⟨S32x1024, .f32⟩
  | .hbm, ⟨15, _⟩ => ⟨S32x1x2x8x64, .f32⟩
  | .hbm, ⟨16, _⟩ => ⟨S32x511x2x8x64, .f32⟩
  | .hbm, ⟨17, _⟩ => ⟨S32x512x2x8x64, .f32⟩
  | .hbm, ⟨18, _⟩ => ⟨S1x32x1024, .f32⟩
  | .hbm, ⟨19, _⟩ => ⟨S32x1024, .f32⟩
  | .hbm, ⟨20, _⟩ => ⟨S32x1x2x8x64, .f32⟩
  | .hbm, ⟨21, _⟩ => ⟨S32x2047x2x8x64, .f32⟩
  | .hbm, ⟨22, _⟩ => ⟨S32x2048x2x8x64, .f32⟩
  | .local _ .vmem, ⟨0, _⟩ => ⟨S32x1024, .f32⟩
  | .local _ .vmem, ⟨1, _⟩ => ⟨S1x1024, .f32⟩
  | .local _ .vmem, ⟨2, _⟩ => ⟨S1024x4608, .bf16⟩
  | .local _ .vmem, ⟨3, _⟩ => ⟨S3x32x512, .f32⟩
  | .local _ .vmem, ⟨4, _⟩ => ⟨S3x32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== DilProjSampleRefIdeal.lean ====
abbrev S32x1024 : Shape := ⟨2, ![32, 1024]⟩
abbrev S1x1024 : Shape := ⟨2, ![1, 1024]⟩
abbrev S1024x4608 : Shape := ⟨2, ![1024, 4608]⟩
abbrev S32x128x2x8x64 : Shape := ⟨5, ![32, 128, 2, 8, 64]⟩
abbrev S32x512x2x8x64 : Shape := ⟨5, ![32, 512, 2, 8, 64]⟩
abbrev S32x2048x2x8x64 : Shape := ⟨5, ![32, 2048, 2, 8, 64]⟩
abbrev S_ : Shape := ⟨0, ![]⟩
abbrev S32 : Shape := ⟨1, ![32]⟩
abbrev S32x1 : Shape := ⟨2, ![32, 1]⟩
abbrev S32x4608 : Shape := ⟨2, ![32, 4608]⟩
abbrev S32x3x3x8x64 : Shape := ⟨5, ![32, 3, 3, 8, 64]⟩
abbrev S32x3x1x8x64 : Shape := ⟨5, ![32, 3, 1, 8, 64]⟩
abbrev S32x3x8x64 : Shape := ⟨4, ![32, 3, 8, 64]⟩
abbrev S32x3x512 : Shape := ⟨3, ![32, 3, 512]⟩
abbrev S32x3x2x8x64 : Shape := ⟨5, ![32, 3, 2, 8, 64]⟩
abbrev S32x127x2x8x64 : Shape := ⟨5, ![32, 127, 2, 8, 64]⟩
abbrev S32x1x2x8x64 : Shape := ⟨5, ![32, 1, 2, 8, 64]⟩
abbrev S32x2x8x64 : Shape := ⟨4, ![32, 2, 8, 64]⟩
abbrev S32x511x2x8x64 : Shape := ⟨5, ![32, 511, 2, 8, 64]⟩
abbrev S32x2047x2x8x64 : Shape := ⟨5, ![32, 2047, 2, 8, 64]⟩
abbrev S32x3x1024 : Shape := ⟨3, ![32, 3, 1024]⟩
abbrev S3x32x512 : Shape := ⟨3, ![3, 32, 512]⟩
abbrev S3x32x1024 : Shape := ⟨3, ![3, 32, 1024]⟩

abbrev nBuf : Space → Nat
  | .hbm => 49
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1x1024, .f32⟩
  | .hbm, ⟨2, _⟩ => ⟨S1024x4608, .bf16⟩
  | .hbm, ⟨3, _⟩ => ⟨S32x128x2x8x64, .f32⟩
  | .hbm, ⟨4, _⟩ => ⟨S32x512x2x8x64, .f32⟩
  | .hbm, ⟨5, _⟩ => ⟨S32x2048x2x8x64, .f32⟩
  | .hbm, ⟨6, _⟩ => ⟨S32x1024, .f32⟩
  | .hbm, ⟨7, _⟩ => ⟨S_, .f32⟩
  | .hbm, ⟨8, _⟩ => ⟨S32, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S_, .f32⟩
  | .hbm, ⟨14, _⟩ => ⟨S32x1, .f32⟩
  | .hbm, ⟨15, _⟩ => ⟨S32x1, .f32⟩
  | .hbm, ⟨16, _⟩ => ⟨S32x1, .f32⟩
  | .hbm, ⟨17, _⟩ => ⟨S32x1024, .f32⟩
  | .hbm, ⟨18, _⟩ => ⟨S32x1024, .f32⟩
  | .hbm, ⟨19, _⟩ => ⟨S32x1024, .f32⟩
  | .hbm, ⟨20, _⟩ => ⟨S32x1024, .f32⟩
  | .hbm, ⟨21, _⟩ => ⟨S1024x4608, .f32⟩
  | .hbm, ⟨22, _⟩ => ⟨S32x4608, .f32⟩
  | .hbm, ⟨23, _⟩ => ⟨S32x3x3x8x64, .f32⟩
  | .hbm, ⟨24, _⟩ => ⟨S32x3x1x8x64, .f32⟩
  | .hbm, ⟨25, _⟩ => ⟨S32x3x8x64, .f32⟩
  | .hbm, ⟨26, _⟩ => ⟨S32x3x512, .f32⟩
  | .hbm, ⟨27, _⟩ => ⟨S_, .f32⟩
  | .hbm, ⟨28, _⟩ => ⟨S32x3x512, .f32⟩
  | .hbm, ⟨29, _⟩ => ⟨S32x3x512, .f32⟩
  | .hbm, ⟨30, _⟩ => ⟨S32x3x2x8x64, .f32⟩
  | .hbm, ⟨31, _⟩ => ⟨S32x127x2x8x64, .f32⟩
  | .hbm, ⟨32, _⟩ => ⟨S32x1x2x8x64, .f32⟩
  | .hbm, ⟨33, _⟩ => ⟨S32x2x8x64, .f32⟩
  | .hbm, ⟨34, _⟩ => ⟨S32x1x2x8x64, .f32⟩
  | .hbm, ⟨35, _⟩ => ⟨S32x128x2x8x64, .f32⟩
  | .hbm, ⟨36, _⟩ => ⟨S32x511x2x8x64, .f32⟩
  | .hbm, ⟨37, _⟩ => ⟨S32x1x2x8x64, .f32⟩
  | .hbm, ⟨38, _⟩ => ⟨S32x2x8x64, .f32⟩
  | .hbm, ⟨39, _⟩ => ⟨S32x1x2x8x64, .f32⟩
  | .hbm, ⟨40, _⟩ => ⟨S32x512x2x8x64, .f32⟩
  | .hbm, ⟨41, _⟩ => ⟨S32x2047x2x8x64, .f32⟩
  | .hbm, ⟨42, _⟩ => ⟨S32x1x2x8x64, .f32⟩
  | .hbm, ⟨43, _⟩ => ⟨S32x2x8x64, .f32⟩
  | .hbm, ⟨44, _⟩ => ⟨S32x1x2x8x64, .f32⟩
  | .hbm, ⟨45, _⟩ => ⟨S32x2048x2x8x64, .f32⟩
  | .hbm, ⟨46, _⟩ => ⟨S32x3x1024, .f32⟩
  | .hbm, ⟨47, _⟩ => ⟨S3x32x512, .f32⟩
  | .hbm, ⟨48, _⟩ => ⟨S3x32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== MlaProjSample.lean ====
abbrev S32x1024 : Shape := ⟨2, ![32, 1024]⟩
abbrev S1x1024 : Shape := ⟨2, ![1, 1024]⟩
abbrev S1024x384 : Shape := ⟨2, ![1024, 384]⟩
abbrev S1x384 : Shape := ⟨2, ![1, 384]⟩
abbrev S384x1536 : Shape := ⟨2, ![384, 1536]⟩
abbrev S1024x288 : Shape := ⟨2, ![1024, 288]⟩
abbrev S1x256 : Shape := ⟨2, ![1, 256]⟩
abbrev S1024x256 : Shape := ⟨2, ![1024, 256]⟩
abbrev S1024x32 : Shape := ⟨2, ![1024, 32]⟩
abbrev S1024x16 : Shape := ⟨2, ![1024, 16]⟩
abbrev S_ : Shape := ⟨0, ![]⟩
abbrev S1024x128 : Shape := ⟨2, ![1024, 128]⟩
abbrev S1024x896 : Shape := ⟨2, ![1024, 896]⟩
abbrev S384x16x96 : Shape := ⟨3, ![384, 16, 96]⟩
abbrev S384x16x128 : Shape := ⟨3, ![384, 16, 128]⟩
abbrev S384x2048 : Shape := ⟨2, ![384, 2048]⟩
abbrev S384x16x64 : Shape := ⟨3, ![384, 16, 64]⟩
abbrev S384x16x16 : Shape := ⟨3, ![384, 16, 16]⟩
abbrev S32 : Shape := ⟨1, ![32]⟩
abbrev S16 : Shape := ⟨1, ![16]⟩
abbrev S32x1 : Shape := ⟨2, ![32, 1]⟩
abbrev S1x16 : Shape := ⟨2, ![1, 16]⟩
abbrev S32x16 : Shape := ⟨2, ![32, 16]⟩
abbrev S32x32 : Shape := ⟨2, ![32, 32]⟩
abbrev S32x64 : Shape := ⟨2, ![32, 64]⟩
abbrev S32x128 : Shape := ⟨2, ![32, 128]⟩
abbrev S32x96 : Shape := ⟨2, ![32, 96]⟩
abbrev S32x2048 : Shape := ⟨2, ![32, 2048]⟩
abbrev S32x256 : Shape := ⟨2, ![32, 256]⟩
abbrev S32x896 : Shape := ⟨2, ![32, 896]⟩
abbrev S32x384 : Shape := ⟨2, ![32, 384]⟩
abbrev S32x512 : Shape := ⟨2, ![32, 512]⟩
abbrev S384x512 : Shape := ⟨2, ![384, 512]⟩

abbrev nBuf : Space → Nat
  | .hbm => 78
  | .vmem => 14
  | .smem => 0
  | _ => 0

abbrev bufTy : (tb : Table) → Fin (tcTables nBuf tb) → BufTy
  | .hbm, ⟨0, _⟩ => ⟨S32x1024, .f32⟩
  | .hbm, ⟨1, _⟩ => ⟨S1x1024, .f32⟩
  | .hbm, ⟨2, _⟩ => ⟨S1024x384, .f32⟩
  | .hbm, ⟨3, _⟩ => ⟨S1x384, .f32⟩
  | .hbm, ⟨4, _⟩ => ⟨S384x1536, .f32⟩
  | .hbm, ⟨5, _⟩ => ⟨S1024x288, .f32⟩
  | .hbm, ⟨6, _⟩ => ⟨S1x256, .f32⟩
  | .hbm, ⟨7, _⟩ => ⟨S1024x256, .f32⟩
  | .hbm, ⟨8, _⟩ => ⟨S1024x32, .f32⟩
  | .hbm, ⟨9, _⟩ => ⟨S1024x16, .f32⟩
  | .hbm, ⟨10, _⟩ => ⟨S1024x16, .f32⟩
  | .hbm, ⟨11, _⟩ => ⟨S1024x32, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x896, .f32⟩
  | .hbm, ⟨19, _⟩ => ⟨S1024x896, .bf16⟩
  | .hbm, ⟨20, _⟩ => ⟨S384x16x96, .f32⟩
  | .hbm, ⟨21, _⟩ => ⟨S_, .i32⟩
  | .hbm, ⟨22, _⟩ => ⟨S_, .f32⟩
  | .hbm, ⟨23, _⟩ => ⟨S384x16x128, .f32⟩
  | .hbm, ⟨24, _⟩ => ⟨S384x2048, .f32⟩
  | .hbm, ⟨25, _⟩ => ⟨S384x2048, .bf16⟩
  | .hbm, ⟨26, _⟩ => ⟨S384x16x64, .f32⟩
  | .hbm, ⟨27, _⟩ => ⟨S_, .f32⟩
  | .hbm, ⟨28, _⟩ => ⟨S384x16x64, .f32⟩
  | .hbm, ⟨29, _⟩ => ⟨S384x16x16, .f32⟩
  | .hbm, ⟨30, _⟩ => ⟨S384x16x16, .f32⟩
  | .hbm, ⟨31, _⟩ => ⟨S384x16x96, .f32⟩
  | .hbm, ⟨32, _⟩ => ⟨S_, .i32⟩
  | .hbm, ⟨33, _⟩ => ⟨S_, .f32⟩
  | .hbm, ⟨34, _⟩ => ⟨S384x16x128, .f32⟩
  | .hbm, ⟨35, _⟩ => ⟨S384x2048, .f32⟩
  | .hbm, ⟨36, _⟩ => ⟨S384x2048, .bf16⟩
  | .hbm, ⟨37, _⟩ => ⟨S_, .i32⟩
  | .hbm, ⟨38, _⟩ => ⟨S32, .i32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S32, .f32⟩
  | .hbm, ⟨48, _⟩ => ⟨S32x1, .f32⟩
  | .hbm, ⟨49, _⟩ => ⟨S1x16, .f32⟩
  | .hbm, ⟨50, _⟩ => ⟨S32x16, .f32⟩
  | .hbm, ⟨51, _⟩ => ⟨S32x16, .f32⟩
  | .hbm, ⟨52, _⟩ => ⟨S32x16, .f32⟩
  | .hbm, ⟨53, _⟩ => ⟨S32x16, .f32⟩
  | .hbm, ⟨54, _⟩ => ⟨S32x16, .f32⟩
  | .hbm, ⟨55, _⟩ => ⟨S_, .f32⟩
  | .hbm, ⟨56, _⟩ => ⟨S32x32, .f32⟩
  | .hbm, ⟨57, _⟩ => ⟨S_, .f32⟩
  | .hbm, ⟨58, _⟩ => ⟨S32x64, .f32⟩
  | .hbm, ⟨59, _⟩ => ⟨S32x128, .f32⟩
  | .hbm, ⟨60, _⟩ => ⟨S_, .f32⟩
  | .hbm, ⟨61, _⟩ => ⟨S32x128, .f32⟩
  | .hbm, ⟨62, _⟩ => ⟨S32x128, .f32⟩
  | .hbm, ⟨63, _⟩ => ⟨S_, .f32⟩
  | .hbm, ⟨64, _⟩ => ⟨S32x64, .f32⟩
  | .hbm, ⟨65, _⟩ => ⟨S32x16, .f32⟩
  | .hbm, ⟨66, _⟩ => ⟨S32x128, .f32⟩
  | .hbm, ⟨67, _⟩ => ⟨S_, .f32⟩
  | .hbm, ⟨68, _⟩ => ⟨S32x128, .f32⟩
  | .hbm, ⟨69, _⟩ => ⟨S32x128, .f32⟩
  | .hbm, ⟨70, _⟩ => ⟨S_, .f32⟩
  | .hbm, ⟨71, _⟩ => ⟨S32x96, .f32⟩
  | .hbm, ⟨72, _⟩ => ⟨S32x128, .f32⟩
  | .hbm, ⟨73, _⟩ => ⟨S32x16, .f32⟩
  | .hbm, ⟨74, _⟩ => ⟨S32x128, .f32⟩
  | .hbm, ⟨75, _⟩ => ⟨S32x2048, .bf16⟩
  | .hbm, ⟨76, _⟩ => ⟨S32x256, .f32⟩
  | .hbm, ⟨77, _⟩ => ⟨S32x32, .f32⟩
  | .local _ .vmem, ⟨0, _⟩ => ⟨S32x1024, .f32⟩
  | .local _ .vmem, ⟨1, _⟩ => ⟨S1x1024, .f32⟩
  | .local _ .vmem, ⟨2, _⟩ => ⟨S1024x896, .bf16⟩
  | .local _ .vmem, ⟨3, _⟩ => ⟨S1x384, .f32⟩
  | .local _ .vmem, ⟨4, _⟩ => ⟨S384x2048, .bf16⟩
  | .local _ .vmem, ⟨5, _⟩ => ⟨S384x2048, .bf16⟩
  | .local _ .vmem, ⟨6, _⟩ => ⟨S1x256, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x2048, .bf16⟩
  | .local _ .vmem, ⟨12, _⟩ => ⟨S32x256, .f32⟩
  | .local _ .vmem, ⟨13, _⟩ => ⟨S32x32, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_call2_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_call3_v0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_cst_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50_0 : Ref sig .tc := ⟨.hbm, 75, rfl⟩
abbrev main_v50_1 : Ref sig .tc := ⟨.hbm, 76, rfl⟩
abbrev main_v50_2 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S32x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S32x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== MlaProjSampleRefIdeal.lean ====
abbrev S32x1024 : Shape := ⟨2, ![32, 1024]⟩
abbrev S1x1024 : Shape := ⟨2, ![1, 1024]⟩
abbrev S1024x384 : Shape := ⟨2, ![1024, 384]⟩
abbrev S1x384 : Shape := ⟨2, ![1, 384]⟩
abbrev S384x1536 : Shape := ⟨2, ![384, 1536]⟩
abbrev S1024x288 : Shape := ⟨2, ![1024, 288]⟩
abbrev S1x256 : Shape := ⟨2, ![1, 256]⟩
abbrev S_ : Shape := ⟨0, ![]⟩
abbrev S32 : Shape := ⟨1, ![32]⟩
abbrev S32x1 : Shape := ⟨2, ![32, 1]⟩
abbrev S32x1x1024 : Shape := ⟨3, ![32, 1, 1024]⟩
abbrev S1 : Shape := ⟨1, ![1]⟩
abbrev S32x1x384 : Shape := ⟨3, ![32, 1, 384]⟩
abbrev S32x1x1 : Shape := ⟨3, ![32, 1, 1]⟩
abbrev S1x1x384 : Shape := ⟨3, ![1, 1, 384]⟩
abbrev S32x1x1536 : Shape := ⟨3, ![32, 1, 1536]⟩
abbrev S32x1x16x96 : Shape := ⟨4, ![32, 1, 16, 96]⟩
abbrev S32x1x16x32 : Shape := ⟨4, ![32, 1, 16, 32]⟩
abbrev S16 : Shape := ⟨1, ![16]⟩
abbrev S1x1 : Shape := ⟨2, ![1, 1]⟩
abbrev S1x16 : Shape := ⟨2, ![1, 16]⟩
abbrev S1x1x1x16 : Shape := ⟨4, ![1, 1, 1, 16]⟩
abbrev S32x1x16x16 : Shape := ⟨4, ![32, 1, 16, 16]⟩
abbrev S32x1x288 : Shape := ⟨3, ![32, 1, 288]⟩
abbrev S32x1x256 : Shape := ⟨3, ![32, 1, 256]⟩
abbrev S1x1x256 : Shape := ⟨3, ![1, 1, 256]⟩
abbrev S32x1x32 : Shape := ⟨3, ![32, 1, 32]⟩
abbrev S32x1x1x32 : Shape := ⟨4, ![32, 1, 1, 32]⟩
abbrev S32x1x1x16 : Shape := ⟨4, ![32, 1, 1, 16]⟩
abbrev S32x1x16x64 : Shape := ⟨4, ![32, 1, 16, 64]⟩
abbrev S32x1x16x128 : Shape := ⟨4, ![32, 1, 16, 128]⟩
abbrev S32x2048 : Shape := ⟨2, ![32, 2048]⟩
abbrev S32x256 : Shape := ⟨2, ![32, 256]⟩
abbrev S32x32 : Shape := ⟨2, ![32, 32]⟩

abbrev nBuf : Space → Nat
  | .hbm => 138
  | .vmem => 0
  | .smem => 0
  | _ => 0

abbrev hbmTy0_0 (i : Nat) : BufTy := match i % 128 with
  | 0 => ⟨S32x1024, .f32⟩
  | 1 => ⟨S1x1024, .f32⟩
  | 2 => ⟨S1024x384, .f32⟩
  | 3 => ⟨S1x384, .f32⟩
  | 4 => ⟨S384x1536, .f32⟩
  | 5 => ⟨S1024x288, .f32⟩
  | 6 => ⟨S1x256, .f32⟩
  | 7 => ⟨S32x1024, .f32⟩
  | 8 => ⟨S_, .f32⟩
  | 9 => ⟨S32, .f32⟩
  | 10 => ⟨S32x1, .f32⟩
  | 11 => ⟨S_, .f32⟩
  | 12 => ⟨S32x1, .f32⟩
  | 13 => ⟨S32x1, .f32⟩
  | 14 => ⟨S_, .f32⟩
  | 15 => ⟨S32x1, .f32⟩
  | 16 => ⟨S32x1, .f32⟩
  | 17 => ⟨S32x1, .f32⟩
  | 18 => ⟨S32x1024, .f32⟩
  | 19 => ⟨S32x1024, .f32⟩
  | 20 => ⟨S32x1024, .f32⟩
  | 21 => ⟨S32x1024, .f32⟩
  | 22 => ⟨S32x1x1024, .f32⟩
  | 23 => ⟨S1, .i32⟩
  | 24 => ⟨S_, .i32⟩
  | 25 => ⟨S1, .i32⟩
  | 26 => ⟨S1, .i32⟩
  | 27 => ⟨S32x1x384, .f32⟩
  | 28 => ⟨S32x1x384, .f32⟩
  | 29 => ⟨S_, .f32⟩
  | 30 => ⟨S32x1, .f32⟩
  | 31 => ⟨S32x1x1, .f32⟩
  | 32 => ⟨S_, .f32⟩
  | 33 => ⟨S32x1x1, .f32⟩
  | 34 => ⟨S32x1x1, .f32⟩
  | 35 => ⟨S_, .f32⟩
  | 36 => ⟨S32x1x1, .f32⟩
  | 37 => ⟨S32x1x1, .f32⟩
  | 38 => ⟨S32x1x1, .f32⟩
  | 39 => ⟨S32x1x384, .f32⟩
  | 40 => ⟨S32x1x384, .f32⟩
  | 41 => ⟨S1x1x384, .f32⟩
  | 42 => ⟨S32x1x384, .f32⟩
  | 43 => ⟨S32x1x384, .f32⟩
  | 44 => ⟨S32x1x1536, .f32⟩
  | 45 => ⟨S32x1x16x96, .f32⟩
  | 46 => ⟨S32x1x16x32, .f32⟩
  | 47 => ⟨S16, .f32⟩
  | 48 => ⟨S16, .f32⟩
  | 49 => ⟨S_, .f32⟩
  | 50 => ⟨S16, .f32⟩
  | 51 => ⟨S16, .f32⟩
  | 52 => ⟨S_, .f32⟩
  | 53 => ⟨S16, .f32⟩
  | 54 => ⟨S16, .f32⟩
  | 55 => ⟨S1, .f32⟩
  | 56 => ⟨S1x1, .f32⟩
  | 57 => ⟨S1x16, .f32⟩
  | 58 => ⟨S1x16, .f32⟩
  | 59 => ⟨S1x16, .f32⟩
  | 60 => ⟨S1x16, .f32⟩
  | 61 => ⟨S1x1x1x16, .f32⟩
  | 62 => ⟨S1x16, .f32⟩
  | 63 => ⟨S1x1x1x16, .f32⟩
  | 64 => ⟨S32x1x16x16, .f32⟩
  | 65 => ⟨S32x1x16x16, .f32⟩
  | 66 => ⟨S32x1x16x16, .f32⟩
  | 67 => ⟨S32x1x16x16, .f32⟩
  | 68 => ⟨S32x1x16x16, .f32⟩
  | 69 => ⟨S32x1x16x16, .f32⟩
  | 70 => ⟨S32x1x16x16, .f32⟩
  | 71 => ⟨S32x1x16x16, .f32⟩
  | 72 => ⟨S32x1x16x16, .f32⟩
  | 73 => ⟨S32x1x16x16, .f32⟩
  | 74 => ⟨S32x1x16x16, .f32⟩
  | 75 => ⟨S32x1x16x16, .f32⟩
  | 76 => ⟨S32x1x16x32, .f32⟩
  | 77 => ⟨S32x1x288, .f32⟩
  | 78 => ⟨S32x1x256, .f32⟩
  | 79 => ⟨S32x1x256, .f32⟩
  | 80 => ⟨S_, .f32⟩
  | 81 => ⟨S32x1, .f32⟩
  | 82 => ⟨S32x1x1, .f32⟩
  | 83 => ⟨S_, .f32⟩
  | 84 => ⟨S32x1x1, .f32⟩
  | 85 => ⟨S32x1x1, .f32⟩
  | 86 => ⟨S_, .f32⟩
  | 87 => ⟨S32x1x1, .f32⟩
  | 88 => ⟨S32x1x1, .f32⟩
  | 89 => ⟨S32x1x1, .f32⟩
  | 90 => ⟨S32x1x256, .f32⟩
  | 91 => ⟨S32x1x256, .f32⟩
  | 92 => ⟨S1x1x256, .f32⟩
  | 93 => ⟨S32x1x256, .f32⟩
  | 94 => ⟨S32x1x256, .f32⟩
  | 95 => ⟨S32x1x32, .f32⟩
  | 96 => ⟨S32x1x1x32, .f32⟩
  | 97 => ⟨S16, .f32⟩
  | 98 => ⟨S16, .f32⟩
  | 99 => ⟨S_, .f32⟩
  | 100 => ⟨S16, .f32⟩
  | 101 => ⟨S16, .f32⟩
  | 102 => ⟨S_, .f32⟩
  | 103 => ⟨S16, .f32⟩
  | 104 => ⟨S16, .f32⟩
  | 105 => ⟨S1, .f32⟩
  | 106 => ⟨S1x1, .f32⟩
  | 107 => ⟨S1x16, .f32⟩
  | 108 => ⟨S1x16, .f32⟩
  | 109 => ⟨S1x16, .f32⟩
  | 110 => ⟨S1x16, .f32⟩
  | 111 => ⟨S1x1x1x16, .f32⟩
  | 112 => ⟨S1x16, .f32⟩
  | 113 => ⟨S1x1x1x16, .f32⟩
  | 114 => ⟨S32x1x1x16, .f32⟩
  | 115 => ⟨S32x1x1x16, .f32⟩
  | 116 => ⟨S32x1x1x16, .f32⟩
  | 117 => ⟨S32x1x1x16, .f32⟩
  | 118 => ⟨S32x1x1x16, .f32⟩
  | 119 => ⟨S32x1x1x16, .f32⟩
  | 120 => ⟨S32x1x1x16, .f32⟩
  | 121 => ⟨S32x1x1x16, .f32⟩
  | 122 => ⟨S32x1x1x16, .f32⟩
  | 123 => ⟨S32x1x1x16, .f32⟩
  | 124 => ⟨S32x1x1x16, .f32⟩
  | 125 => ⟨S32x1x1x16, .f32⟩
  | 126 => ⟨S32x1x1x32, .f32⟩
  | 127 => ⟨S_, .f32⟩
  | _ => ⟨S32x1024, .f32⟩

abbrev hbmTy0_1 (i : Nat) : BufTy := match i % 128 with
  | 0 => ⟨S32x1x16x32, .f32⟩
  | 1 => ⟨S32x1x16x64, .f32⟩
  | 2 => ⟨S32x1x16x128, .f32⟩
  | 3 => ⟨S_, .f32⟩
  | 4 => ⟨S32x1x16x128, .f32⟩
  | 5 => ⟨S32x1x16x128, .f32⟩
  | 6 => ⟨S32x2048, .f32⟩
  | 7 => ⟨S32x2048, .bf16⟩
  | 8 => ⟨S32x256, .f32⟩
  | 9 => ⟨S32x32, .f32⟩
  | _ => ⟨S32x1024, .f32⟩

abbrev hbmTy (i : Nat) : BufTy := match i / 128 with
  | 0 => hbmTy0_0 i
  | 1 => hbmTy0_1 i
  | _ => ⟨S32x1024, .f32⟩

abbrev bufTy : (tb : Table) → Fin (tcTables nBuf tb) → BufTy
  | .hbm, ⟨i, _⟩ => hbmTy i
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_7 : Ref sig .tc := ⟨.hbm, 80, rfl⟩
abbrev main_v64 : Ref sig .tc := ⟨.hbm, 81, rfl⟩
abbrev main_v65 : Ref sig .tc := ⟨.hbm, 82, rfl⟩
abbrev main_cst_8 : Ref sig .tc := ⟨.hbm, 83, rfl⟩
abbrev main_v66 : Ref sig .tc := ⟨.hbm, 84, rfl⟩
abbrev main_v67 : Ref sig .tc := ⟨.hbm, 85, rfl⟩
abbrev main_cst_9 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_10 : Ref sig .tc := ⟨.hbm, 99, rfl⟩
abbrev main_v80 : Ref sig .tc := ⟨.hbm, 100, rfl⟩
abbrev main_v81 : Ref sig .tc := ⟨.hbm, 101, rfl⟩
abbrev main_cst_11 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_cst_12 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_cst_13 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩

abbrev nD : Nat := 1
abbrev τ : Topo := Topo.v7x

variable {F : FTy → Type} [FloatOps F]
-- ==== Proof.Online.lean ====
/-
  Softmax-weighted sums taken block by block, over the extended reals.

  A row of scores `s`, indexed by keys, and one column `v` of values. `top`, `den` and `num` are the greatest score,
  the sum of the weights `exp (s k - top)` and the weighted sum of the values over a finite set of keys; the theorems
  say how the three change when a disjoint set of keys is added, that keys of score `⊥` change none of them, and that
  their quotient is the softmax-weighted sum.
-/
module

public import Idealize.ShloMosaic.PureOps.Ideal

@[expose] public section

noncomputable section

namespace Cert.Online

open Idealize.ShloMosaic

variable {ι : Type} [DecidableEq ι]

/-- The greatest score of the keys in `K`, `⊥` where there is none. -/
def top (s : ι → EReal) (K : Finset ι) : EReal := K.sup s

/-- The sum of the weights of the keys in `K`, relative to the score `m`. -/
def den (s : ι → EReal) (m : EReal) (K : Finset ι) : EReal := ∑ k ∈ K, Ideal.exp (s k - m)

/-- The weighted sum of the values of the keys in `K`, relative to the score `m`. -/
def num (s v : ι → EReal) (m : EReal) (K : Finset ι) : EReal := ∑ k ∈ K, Ideal.exp (s k - m) * v k

/-- An exponential is not negative. -/
theorem exp_nonneg (x : EReal) : 0 ≤ Ideal.exp x := by
  induction x with
  | bot => simp
  | top => simp
  | coe r => rw [Ideal.exp_coe]; exact_mod_cast (Real.exp_pos r).le

/-- The exponential of a number other than `⊤` is a real. -/
theorem exp_ne_top {x : EReal} (h : x ≠ ⊤) : Ideal.exp x ≠ ⊤ := by
  induction x with
  | bot => simp
  | top => exact absurd rfl h
  | coe r => rw [Ideal.exp_coe]; exact EReal.coe_ne_top _

/-- A difference `x - y` with `x ≤ y` is not `⊤`. -/
theorem sub_ne_top {x y : EReal} (h : x ≤ y) : x - y ≠ ⊤ := by
  induction y with
  | bot => rw [le_bot_iff.mp h]; simp [sub_eq_add_neg]
  | top => simp [sub_eq_add_neg]
  | coe r =>
    induction x with
    | bot => simp [sub_eq_add_neg]
    | top => exact absurd h (by simp)
    | coe q => rw [← EReal.coe_sub]; exact EReal.coe_ne_top _

/-- Rescaling a weight from the score `m` to a greater score `m'`. -/
theorem rescale {x m m' : EReal} (h : x ≤ m) (h' : m ≤ m') :
    Ideal.exp (m - m') * Ideal.exp (x - m) = Ideal.exp (x - m') := by
  induction x with
  | bot => simp [sub_eq_add_neg]
  | top =>
    obtain rfl := top_le_iff.mp h
    obtain rfl := top_le_iff.mp h'
    simp [sub_eq_add_neg]
  | coe q =>
    induction m with
    | bot => exact absurd h (by simp)
    | top =>
      obtain rfl := top_le_iff.mp h'
      simp [sub_eq_add_neg]
    | coe r =>
      induction m' with
      | bot => exact absurd h' (by simp)
      | top => simp [sub_eq_add_neg]
      | coe t =>
        rw [← EReal.coe_sub, ← EReal.coe_sub, ← EReal.coe_sub, Ideal.exp_coe, Ideal.exp_coe, Ideal.exp_coe,
          ← EReal.coe_mul, ← Real.exp_add]
        congr 2; ring

/-- A nonnegative real factor goes inside a finite sum. -/
theorem mul_sum {a : EReal} (h0 : 0 ≤ a) (ht : a ≠ ⊤) (f : ι → EReal) (K : Finset ι) :
    a * ∑ k ∈ K, f k = ∑ k ∈ K, a * f k := by
  induction K using Finset.induction_on with
  | empty => simp
  | insert k K hk ih =>
    rw [Finset.sum_insert hk, Finset.sum_insert hk, EReal.left_distrib_of_nonneg_of_ne_top h0 ht, ih]

/-- A finite sum of reals, each read as an extended real, is the real sum read so. -/
theorem coe_sum (f : ι → ℝ) (K : Finset ι) : ∑ k ∈ K, (f k : EReal) = ((∑ k ∈ K, f k : ℝ) : EReal) := by
  induction K using Finset.induction_on with
  | empty => simp
  | insert k K hk ih => rw [Finset.sum_insert hk, Finset.sum_insert hk, ih, EReal.coe_add]

variable (s v : ι → EReal)

/-- The greatest score when the keys of `L` are added to those of `K`. -/
theorem top_union (K L : Finset ι) : top s (K ∪ L) = max (top s K) (top s L) := Finset.sup_union

/-- The sum of the weights when the keys of `L` are added to those of `K`. -/
theorem den_union {K L : Finset ι} (h : Disjoint K L) {m : EReal} (hm : top s K ≤ m) :
    Ideal.exp (top s K - m) * den s (top s K) K + den s m L = den s m (K ∪ L) := by
  unfold den
  rw [Finset.sum_union h, mul_sum (exp_nonneg _) (exp_ne_top (sub_ne_top hm))]
  congr 1
  exact Finset.sum_congr rfl fun k hk => rescale (Finset.le_sup hk) hm

/-- The weighted sum of the values when the keys of `L` are added to those of `K`. -/
theorem num_union {K L : Finset ι} (h : Disjoint K L) {m : EReal} (hm : top s K ≤ m) :
    Ideal.exp (top s K - m) * num s v (top s K) K + num s v m L = num s v m (K ∪ L) := by
  unfold num
  rw [Finset.sum_union h, mul_sum (exp_nonneg _) (exp_ne_top (sub_ne_top hm))]
  congr 1
  exact Finset.sum_congr rfl fun k hk => by rw [← mul_assoc, rescale (show s k ≤ top s K from Finset.le_sup hk) hm]

/-- Keys of score `⊥` do not change the greatest score. -/
theorem top_of_bot {K L : Finset ι} (h : K ⊆ L) (hb : ∀ k ∈ L, k ∉ K → s k = ⊥) : top s K = top s L := by
  apply le_antisymm (Finset.sup_mono h)
  refine Finset.sup_le fun k hk => ?_
  by_cases hkK : k ∈ K
  · exact Finset.le_sup hkK
  · rw [hb k hk hkK]; exact bot_le

/-- Keys of score `⊥` do not change the sum of the weights. -/
theorem den_of_bot {K L : Finset ι} (h : K ⊆ L) (hb : ∀ k ∈ L, k ∉ K → s k = ⊥) (m : EReal) : den s m K = den s m L :=
  Finset.sum_subset h fun k hk hkK => by simp [hb k hk hkK, sub_eq_add_neg]

/-- Keys of score `⊥` do not change the weighted sum of the values. -/
theorem num_of_bot {K L : Finset ι} (h : K ⊆ L) (hb : ∀ k ∈ L, k ∉ K → s k = ⊥) (m : EReal) : num s v m K = num s v m L :=
  Finset.sum_subset h fun k hk hkK => by simp [hb k hk hkK, sub_eq_add_neg]

/-- A greatest score attained at a real score, all the others being real or `⊥`, is real. -/
theorem top_real {K : Finset ι} (hs : ∀ k ∈ K, s k ≠ ⊤) {k₀ : ι} (hk : k₀ ∈ K) (h₀ : s k₀ ≠ ⊥) :
    ∃ r : ℝ, top s K = r := by
  obtain ⟨k, hkK, e⟩ := Finset.exists_mem_eq_sup K ⟨k₀, hk⟩ s
  have hb : s k ≠ ⊥ := fun hb => h₀ (le_bot_iff.mp (hb ▸ e ▸ Finset.le_sup (f := s) hk))
  exact ⟨(s k).toReal, e.trans (EReal.coe_toReal (hs k hkK) hb).symm⟩

/-- At a real greatest score the weights sum to a positive real. -/
theorem den_pos {K : Finset ι} (hs : ∀ k ∈ K, s k ≠ ⊤) {k₀ : ι} (hk : k₀ ∈ K) (h₀ : s k₀ ≠ ⊥) :
    ∃ r : ℝ, 0 < r ∧ den s (top s K) K = r := by
  obtain ⟨m, hm⟩ := top_real s hs hk h₀
  have hw : ∀ k ∈ K, Ideal.exp (s k - top s K) = ((Ideal.exp (s k - top s K)).toReal : EReal) := fun k hk' =>
    (EReal.coe_toReal (exp_ne_top (sub_ne_top (Finset.le_sup hk')))
      (ne_of_gt (lt_of_lt_of_le EReal.bot_lt_zero (exp_nonneg _)))).symm
  refine ⟨∑ k ∈ K, (Ideal.exp (s k - top s K)).toReal, ?_, ?_⟩
  · refine lt_of_lt_of_le ?_ (Finset.single_le_sum (fun k _ => EReal.toReal_nonneg (exp_nonneg _)) hk)
    rw [hm, ← EReal.coe_toReal (hs k₀ hk) h₀, ← EReal.coe_sub, Ideal.exp_coe, EReal.toReal_coe]
    exact Real.exp_pos _
  · unfold den
    rw [Finset.sum_congr rfl hw, coe_sum]

/-- The quotient of the two sums is the sum of the values under the normalised weights. -/
theorem quotient {K : Finset ι} (hs : ∀ k ∈ K, s k ≠ ⊤) {k₀ : ι} (hk : k₀ ∈ K) (h₀ : s k₀ ≠ ⊥) :
    Ideal.div (num s v (top s K) K) (den s (top s K) K)
      = ∑ k ∈ K, Ideal.div (Ideal.exp (s k - top s K)) (den s (top s K) K) * v k := by
  obtain ⟨r, hr, e⟩ := den_pos s hs hk h₀
  have hi : (0 : EReal) ≤ ((1 / r : ℝ) : EReal) := by exact_mod_cast (one_div_pos.mpr hr).le
  rw [e, Ideal.div_coe hr.ne', mul_comm, num, mul_sum hi (EReal.coe_ne_top _)]
  refine Finset.sum_congr rfl fun k _ => ?_
  rw [Ideal.div_coe hr.ne', ← mul_assoc, mul_comm ((1 / r : ℝ) : EReal)]

end Cert.Online
-- ==== Proof.AttnStep.lean ====
/-
  One step of the attention kernel, read at an index.

  The kernel keeps for each of its 256 rows the greatest score so far, the sum of the weights relative to it and the
  weighted sum of the values. A step takes the scores of 256 more keys and their values and updates the three. This
  module states what a step does to rows that hold the three quantities of the first `n` keys: they then hold those of
  the first `n + 256`.
-/
module

public import proofs.«01_k».proof.Proof.Gen.AttnIdeal.Skeleton
public import proofs.«01_k».proof.Proof.Online
public import Idealize.ShloMosaic.Lib.Pointwise
public import Idealize.ShloMosaic.Lib.WordCmp

@[expose] public section

set_option maxRecDepth 16384

noncomputable section

namespace Cert.AttnStep

open Cert.AttnIdeal Cert.AttnIdeal.Gen Cert.Online
open Idealize.ShloMosaic Idealize.ShloMosaic.TcCoe Idealize.SL.Sem

/-- The rows' greatest scores after a step on the scores `s`. -/
def stepM (s : FVec Ideal S256x256 .f32) (m : FVec Ideal S256x1 .f32) : FVec Ideal S256x1 .f32 :=
  maximumf m (shapeCast S256x1 (multiReduction .maximumf [1] S256 s 0xFF800000#32 reduces_S256x256_S256 (.inl rfl) rfl)
    shapeCasts_S256_S256x1)

/-- The weights of the step's keys. -/
def stepP (s : FVec Ideal S256x256 .f32) (m : FVec Ideal S256x1 .f32) : FVec Ideal S256x256 .f32 :=
  exp (subf s (broadcastTo S256x256 (stepM s m) broadcasts_S256x1_S256x256))

/-- The rows' sums of weights after a step. -/
def stepL (s : FVec Ideal S256x256 .f32) (m l : FVec Ideal S256x1 .f32) : FVec Ideal S256x1 .f32 :=
  addf (mulf (exp (subf m (stepM s m))) l)
    (shapeCast S256x1 (multiReduction .add [1] S256 (stepP s m) 0x00000000#32 reduces_S256x256_S256 (.inl rfl) rfl)
      shapeCasts_S256_S256x1)

/-- The rows' weighted sums of values after a step. -/
def stepA (s : FVec Ideal S256x256 .f32) (m : FVec Ideal S256x1 .f32) (a : FVec Ideal S256x128 .f32)
    (v : FVec Ideal S256x128 .bf16) : FVec Ideal S256x128 .f32 :=
  addf (mulf (broadcastTo S256x128 (exp (subf m (stepM s m))) broadcasts_S256x1_S256x128) a)
    (matmul dot_S256x256_S256x128_S256x128_1_0_0_1_n_n none (truncf .bf16 (stepP s m) bitsLt_bf16_f32) v
      (constant S256x128 .f32 0x00000000#32))

/-- The scores of 256 rows against 256 keys. -/
def scores (q k : FVec Ideal S256x128 .bf16) : FVec Ideal S256x256 .f32 :=
  matmul dot_S256x128_S256x128_S256x256_1_1_0_0_n_n none q k (constant S256x256 .f32 0x00000000#32)

/-- The scores with the keys after the row's own masked. -/
def masked (q k : FVec Ideal S256x128 .bf16) : FVec Ideal S256x256 .f32 :=
  select (cmpi .sle (iota .tc S256x256 32 [1] iota_S256x256_d1_w32) (iota .tc S256x256 32 [0] iota_S256x256_d0_w32))
    (scores q k) (broadcast S256x256 (Named.named κ "mask" 0xF149F2CA#32))

/-- The word −∞ is the least extended real. -/
theorem ofBits_neg_inf : Ideal.ofBits .f32 0xFF800000#32 = ⊥ := by simp [Ideal.ofBits, Ideal.ieee]

/-- The masking constant is the least extended real. -/
theorem mask_bot : (Named.named κ "mask" 0xF149F2CA#32 : Ideal .f32) = ⊥ := rfl

/-- A score is the product of a query's row and a key's row. -/
theorem scores_at (q k : FVec Ideal S256x128 .bf16) (r c : Fin 256) :
    scores q k (ix2 r c) = ∑ d : Fin 128, q (ix2 r d) * k (ix2 c d) := by
  pointwise [scores]

/-- A masked score is the score where the key is not after the query, and ⊥ after it. -/
theorem masked_at (q k : FVec Ideal S256x128 .bf16) (r c : Fin 256) :
    masked q k (ix2 r c) = if c ≤ r then ∑ d : Fin 128, q (ix2 r d) * k (ix2 c d) else ⊥ := by
  pointwise [masked, scores_at, mask_bot]
  by_cases h : c ≤ r
  · rw [if_pos h]
    rw [(by word_cmp : IntOp.cmpi .sle (BitVec.ofNat 32 c.val) (BitVec.ofNat 32 r.val) = 1#1)]
    rfl
  · rw [if_neg h]
    rw [(by word_cmp : IntOp.cmpi .sle (BitVec.ofNat 32 c.val) (BitVec.ofNat 32 r.val) = 0#1)]
    rfl

/-- A step's greatest score is the greater of the one before and the block's own. -/
theorem stepM_at (s : FVec Ideal S256x256 .f32) (m : FVec Ideal S256x1 .f32) (r : Fin 256) :
    stepM s m (ix2 r 0) = max (m (ix2 r 0)) (Finset.univ.sup fun c : Fin 256 => s (ix2 r c)) := by
  pointwise [stepM, ofBits_neg_inf]
  rfl

/-- A step's sum of weights is the rescaled one before plus the block's own. -/
theorem stepL_at (s : FVec Ideal S256x256 .f32) (m l : FVec Ideal S256x1 .f32) (r : Fin 256) :
    stepL s m l (ix2 r 0) = Ideal.exp (m (ix2 r 0) - stepM s m (ix2 r 0)) * l (ix2 r 0)
      + ∑ c : Fin 256, Ideal.exp (s (ix2 r c) - stepM s m (ix2 r 0)) := by
  pointwise [stepL, stepP]

/-- A step's weighted sum of the values is the rescaled one before plus the block's own. -/
theorem stepA_at (s : FVec Ideal S256x256 .f32) (m : FVec Ideal S256x1 .f32) (a : FVec Ideal S256x128 .f32)
    (v : FVec Ideal S256x128 .bf16) (r : Fin 256) (j : Fin 128) :
    stepA s m a v (ix2 r j) = Ideal.exp (m (ix2 r 0) - stepM s m (ix2 r 0)) * a (ix2 r j)
      + ∑ c : Fin 256, Ideal.exp (s (ix2 r c) - stepM s m (ix2 r 0)) * v (ix2 c j) := by
  pointwise [stepA, stepP]

/-- The rows' state: greatest scores, sums of weights, weighted sums of values. -/
abbrev State := FVec Ideal S256x1 .f32 × FVec Ideal S256x1 .f32 × FVec Ideal S256x128 .f32

/-- A step on the whole state. -/
def step (s : FVec Ideal S256x256 .f32) (v : FVec Ideal S256x128 .bf16) (st : State) : State :=
  (stepM s st.1, stepL s st.1 st.2.1, stepA s st.1 st.2.2 v)

/-- The state holds, for the scores `σ` and the values `ν` by key, what belongs to the first `n` keys. -/
def Holds (σ : Fin 256 → ℕ → EReal) (ν : ℕ → Fin 128 → EReal) (n : ℕ) (st : State) : Prop :=
  ∀ r, st.1 (ix2 r 0) = top (σ r) (Finset.range n)
    ∧ st.2.1 (ix2 r 0) = den (σ r) (top (σ r) (Finset.range n)) (Finset.range n)
    ∧ ∀ j, st.2.2 (ix2 r j) = num (σ r) (fun k => ν k j) (top (σ r) (Finset.range n)) (Finset.range n)

/-- The state before the first step. -/
theorem holds_zero (σ : Fin 256 → ℕ → EReal) (ν : ℕ → Fin 128 → EReal) : Holds σ ν 0 (k0_pay2, k0_pay3, k0_pay4) := by
  intro r
  refine ⟨?_, ?_, fun j => ?_⟩
  · pointwise [k0_pay2, mask_bot]
    simp [top]
  · pointwise [k0_pay3]
    simp [den]
  · pointwise [k0_pay4]
    simp [num]

variable {σ : Fin 256 → ℕ → EReal} {ν : ℕ → Fin 128 → EReal} {n : ℕ}

/-- The greatest of 256 consecutive scores from `n` on, as a greatest score over those keys. -/
theorem sup_block (f : ℕ → EReal) : (Finset.univ.sup fun c : Fin 256 => f (n + c))
    = top f ((Finset.range 256).map (addLeftEmbedding n)) := by
  unfold top
  rw [Finset.sup_map]
  apply le_antisymm
  · exact Finset.sup_le fun c _ => Finset.le_sup (f := f ∘ addLeftEmbedding n) (Finset.mem_range.mpr c.isLt)
  · exact Finset.sup_le fun c hc => Finset.le_sup (f := fun c : Fin 256 => f (n + c)) (b := ⟨c, Finset.mem_range.mp hc⟩) (Finset.mem_univ _)

/-- A sum over 256 consecutive keys from `n` on, as a sum over the set of those keys. -/
theorem sum_block (f : ℕ → EReal) : ∑ c : Fin 256, f (n + c) = ∑ k ∈ (Finset.range 256).map (addLeftEmbedding n), f k := by
  rw [Finset.sum_map, ← Fin.sum_univ_eq_sum_range (fun k => f (addLeftEmbedding n k))]
  rfl

/-- A step takes the state of the first `n` keys to that of the first `n + 256`. -/
theorem holds_step {s : FVec Ideal S256x256 .f32} {v : FVec Ideal S256x128 .bf16} {st : State} (h : Holds σ ν n st)
    (hs : ∀ r c : Fin 256, s (ix2 r c) = σ r (n + c)) (hv : ∀ (c : Fin 256) (j : Fin 128), v (ix2 c j) = ν (n + c) j) :
    Holds σ ν (n + 256) (step s v st) := by
  intro r
  obtain ⟨h1, h2, h3⟩ := h r
  have hd : Disjoint (Finset.range n) ((Finset.range 256).map (addLeftEmbedding n)) :=
    Finset.disjoint_range_addLeftEmbedding n _
  have hu : Finset.range (n + 256) = Finset.range n ∪ (Finset.range 256).map (addLeftEmbedding n) :=
    Finset.range_add_eq_union n 256
  have hm : stepM s st.1 (ix2 r 0) = top (σ r) (Finset.range (n + 256)) := by
    rw [stepM_at, h1, hu, top_union]
    simp only [hs]
    rw [sup_block]
  have hle : top (σ r) (Finset.range n) ≤ top (σ r) (Finset.range (n + 256)) := by
    rw [hu, top_union]; exact le_max_left _ _
  refine ⟨hm, ?_, fun j => ?_⟩
  · show stepL s st.1 st.2.1 (ix2 r 0) = _
    rw [stepL_at, hm, h1, h2]
    simp only [hs]
    rw [sum_block (fun k => Ideal.exp (σ r k - top (σ r) (Finset.range (n + 256))))]
    rw [hu] at hle ⊢
    exact den_union (σ r) hd hle
  · show stepA s st.1 st.2.2 v (ix2 r j) = _
    rw [stepA_at, hm, h1, h3 j]
    simp only [hs, hv]
    rw [sum_block (fun k => Ideal.exp (σ r k - top (σ r) (Finset.range (n + 256))) * ν k j)]
    rw [hu] at hle ⊢
    exact num_union (σ r) (fun k => ν k j) hd hle

end Cert.AttnStep
-- ==== Proof.AttnBlock.lean ====
/-
  What the attention kernel stores at one grid point.

  A grid point takes 256 rows of queries of two heads (128 columns each), all the keys of these heads and the values of
  both (64 columns each). For each head the kernel walks the key blocks before the rows' own, then takes the rows' own
  block with the later keys masked, and divides; the stored block has the first head's 64 columns and the second's.
-/
module

public import proofs.«01_k».proof.Proof.Gen.AttnIdeal.Value
public import proofs.«01_k».proof.Proof.AttnStep
public import Idealize.ShloMosaic.Lib.Pipeline.ValueKit

@[expose] public section

set_option maxRecDepth 16384

noncomputable section

namespace Cert.AttnBlock

open Cert.AttnIdeal Cert.AttnIdeal.Gen Cert.Online Cert.AttnStep
open Idealize.ShloMosaic Idealize.ShloMosaic.TcCoe Idealize.SL.Sem

/-- The walk over the first head's key blocks has as many trips as there are blocks before the rows' own. -/
theorem trips1 (i : grid0.Coords) : (k0_t1_loop i).trips = (i 2).val :=
  (by decide +kernel : ∀ j : Fin 8, Scf.trips 0#32 (Scalar.addi 0#32 (Scalar.muli (Scalar.divsi
    (Scalar.subi (BitVec.ofNat 32 j.val) 0#32) 1#32) 1#32)) 1#32 = j.val) (i 2)

/-- So has the walk over the second head's. -/
theorem trips3 (i : grid0.Coords) : (k0_t3_loop i).trips = (i 2).val := trips1 i

/-- The remainder of the first head's walk has no trip. -/
theorem trips2 (i : grid0.Coords) : (k0_t2_loop i).trips = 0 := Nat.le_zero.mp (k0_t2_abs i).2.1

/-- The remainder of the second head's walk has no trip. -/
theorem trips4 (i : grid0.Coords) : (k0_t4_loop i).trips = 0 := Nat.le_zero.mp (k0_t4_abs i).2.1

/-- Column `d` of head `h`, of the two heads side by side. -/
def col (h : Fin 2) (d : Fin 128) : Fin 256 := ⟨128 * h.val + d.val, by have := h.isLt; have := d.isLt; omega⟩

/-- Key `k` of the keys `x1`, at column `e`. -/
def key (x1 : FVec Ideal S2048x256 .bf16) (k : ℕ) (e : Fin 256) : EReal := if h : k < 2048 then x1 (ix2 ⟨k, h⟩ e) else 0

/-- The value row of key `k`, at column `j`. -/
def value (x2 : FVec Ideal S2048x128 .bf16) (k : ℕ) (j : Fin 128) : EReal := if h : k < 2048 then x2 (ix2 ⟨k, h⟩ j) else 0

/-- A key read at its row and column numbers. -/
theorem key_at (x1 : FVec Ideal S2048x256 .bf16) {a b : ℕ} (ha : a < 2048) (hb : b < 256) {k : ℕ} {e : Fin 256}
    (ea : a = k) (eb : b = e.val) : x1 (ix2 ⟨a, ha⟩ ⟨b, hb⟩) = key x1 k e := by
  subst ea eb
  rw [key, dif_pos ha]

/-- A value row read at its row and column numbers. -/
theorem value_at (x2 : FVec Ideal S2048x128 .bf16) {a b : ℕ} (ha : a < 2048) (hb : b < 128) {k : ℕ} {e : Fin 128}
    (ea : a = k) (eb : b = e.val) : x2 (ix2 ⟨a, ha⟩ ⟨b, hb⟩) = value x2 k e := by
  subst ea eb
  rw [value, dif_pos ha]

/-- The scores of row `r` by key, `⊥` for the keys after the row's own. The rows are those of block `b`. -/
def rowScore (b : ℕ) (x0 : FVec Ideal S256x256 .bf16) (x1 : FVec Ideal S2048x256 .bf16) (h : Fin 2) (r : Fin 256) (k : ℕ) : EReal :=
  if k ≤ 256 * b + r.val then ∑ d : Fin 128, x0 (ix2 r (col h d)) * key x1 k (col h d) else ⊥

/-- The quotient of the weighted sums of values by the sums of weights. -/
def quot (st : State) : FVec Ideal S256x128 .f32 :=
  divf st.2.2 (broadcastTo S256x128 st.2.1 broadcasts_S256x1_S256x128)

/-- The quotient of the weighted sum of the values by the row's sum of weights. -/
theorem quot_at (st : State) (r : Fin 256) (j : Fin 128) :
    quot st (ix2 r j) = Ideal.div (st.2.2 (ix2 r j)) (st.2.1 (ix2 r 0)) := by
  pointwise [quot]

/-- The stored block: the first 64 columns from the first head, the others from the second. -/
theorem pay1_at (s0 s1 : FVec Ideal S256x128 .f32) (r : Fin 256) (j : Fin 128) :
    k0_pay1 s0 s1 (iota .tc S256x128 32 [1] iota_S256x128_d1_w32) (ix2 r j)
      = if j.val < 64 then s0 (ix2 r j) else s1 (ix2 r j) := by
  pointwise [k0_pay1]
  by_cases h : j.val < 64
  · rw [if_pos h, (by word_cmp : IntOp.cmpi .slt (BitVec.ofNat 32 j.val) 64#32 = 1#1)]
    rfl
  · rw [if_neg h, (by word_cmp : IntOp.cmpi .slt (BitVec.ofNat 32 j.val) 64#32 = 0#1)]
    rfl

/-- The result of row `r` at column `j` for head `h`. -/
def rowOut (b : ℕ) (x0 : FVec Ideal S256x256 .bf16) (x1 : FVec Ideal S2048x256 .bf16) (x2 : FVec Ideal S2048x128 .bf16)
    (h : Fin 2) (r : Fin 256) (j : Fin 128) : EReal :=
  let s := rowScore b x0 x1 h r
  let K := Finset.range (256 * b + 256)
  Ideal.div (num s (fun k => value x2 k j) (top s K) K) (den s (top s K) K)

/-- The first head's last step and division, as they are printed. -/
theorem last0 (q k v : FVec Ideal S256x128 .bf16) (st : State) :
    k0_pay23 (k0_pay21 q st.1 st.2.1 k) (k0_pay22 q st.1 st.2.2 k v) = quot (step (masked q k) v st) := rfl

/-- The second head's last step and division, as they are printed. -/
theorem last1 (q k v : FVec Ideal S256x128 .bf16) (st : State) :
    k0_pay39 (iota .tc S256x256 32 [0] iota_S256x256_d0_w32) (iota .tc S256x256 32 [1] iota_S256x256_d1_w32) q st.1 st.2.1
      st.2.2 k v = quot (step (masked q k) v st) := rfl

section
variable {b : ℕ} {x0 : FVec Ideal S256x256 .bf16} {x1 : FVec Ideal S2048x256 .bf16} {x2 : FVec Ideal S2048x128 .bf16} {h : Fin 2}
  {q : FVec Ideal S256x128 .bf16} (hq : ∀ r d, q (ix2 r d) = x0 (ix2 r (col h d)))
  {n : ℕ} {k v : FVec Ideal S256x128 .bf16} (hk : ∀ c d, k (ix2 c d) = key x1 (256 * n + c) (col h d))
  (hv : ∀ c j, v (ix2 c j) = value x2 (256 * n + c) j) {st : State}
  (hst : Holds (rowScore b x0 x1 h) (value x2) (256 * n) st)

include hq hk hv hst

/-- A trip of the walk, over a block before the rows' own. -/
theorem holds_trip (hn : n < b) : Holds (rowScore b x0 x1 h) (value x2) (256 * n + 256) (step (scores q k) v st) :=
  holds_step hst (fun r c => by
    have : 256 * n + c.val ≤ 256 * b + r.val := by have := c.isLt; omega
    rw [scores_at, rowScore, if_pos this]
    simp only [hq, hk]) hv

/-- The last step, over the rows' own block, and the division. -/
theorem quot_last (hn : n = b) (r : Fin 256) (j : Fin 128) :
    quot (step (masked q k) v st) (ix2 r j) = rowOut b x0 x1 x2 h r j := by
  subst hn
  have := holds_step (s := masked q k) hst (fun r c => by
    rw [masked_at, rowScore]
    have : c ≤ r ↔ 256 * n + c.val ≤ 256 * n + r.val := by rw [Fin.le_def]; omega
    simp only [hq, hk, this]) hv r
  rw [quot_at, this.2.1, this.2.2]
  rfl
end

section
variable (c : Dev nD) (i : grid0.Coords) (arg3 : Memref sig .tc .vmem S256x256 .bf16) (harg3 : arg3.IsWhole)
  (arg4 : Memref sig .tc .vmem S2048x256 .bf16) (harg4 : arg4.IsWhole) (arg5 : Memref sig .tc .vmem S2048x128 .bf16)
  (harg5 : arg5.IsWhole) (arg6 : Memref sig .tc .vmem S256x128 .bf16) (harg6 : arg6.IsWhole)
  (x0 : FVec Ideal S256x256 .bf16) (x1 : FVec Ideal S2048x256 .bf16) (x2 : FVec Ideal S2048x128 .bf16)

/-- The first head's walk, after `n` trips. -/
theorem walk1 {q : FVec Ideal S256x128 .bf16} (hq : ∀ r d, q (ix2 r d) = x0 (ix2 r (col 0 d))) (n : ℕ) (hn : n ≤ (i 2).val) :
    Holds (rowScore (i 2).val x0 x1 0) (value x2) (256 * n) (st_k0_t1 Variants.none c none i arg3 harg3 arg4 harg4 arg5
      harg5 arg6 harg6 q (harg4.unread x1) (harg5.unread x2) (k0_pay2, k0_pay3, k0_pay4) n) := by
  induction n with
  | zero => rw [st_k0_t1_zero]; exact holds_zero _ _
  | succ n ih =>
    have hlt : (i 2).val < 8 := (i 2).isLt
    have e := st_k0_t1_succ (F := Ideal) Variants.none c none i arg3 harg3 arg4 harg4 arg5 harg5 arg6 harg6 q
      (harg4.unread x1) (harg5.unread x2) (k0_pay2, k0_pay3, k0_pay4) ⟨n, by rw [trips1]; omega⟩
    dsimp only at e
    rw [e]
    unfold tripR_k0_t1 trip_k0_t1
    dsimp only
    simp only [View.readAt_eq_ld, harg4.read_unread, harg5.read_unread]
    refine holds_trip hq (fun r d => ?_) (fun r j => ?_) (ih (by omega)) (by omega)
    · pointwise
      exact key_at x1 _ _ (congrArg (· + r.val) (congrFun (k0_off1_eq i _) 0)) (congrArg (· + d.val) (congrFun (k0_off1_eq i _) 1))
    · pointwise
      exact value_at x2 _ _ (congrArg (· + r.val) (congrFun (k0_off2_eq i _) 0))
        ((congrArg (· + j.val) (congrFun (k0_off2_eq i _) 1)).trans (Nat.zero_add _))

/-- The first head's walk, at its end. -/
theorem walk1_end {q : FVec Ideal S256x128 .bf16} (hq : ∀ r d, q (ix2 r d) = x0 (ix2 r (col 0 d))) {T : ℕ} (hT : T = (i 2).val) :
    Holds (rowScore (i 2).val x0 x1 0) (value x2) (256 * (i 2).val) (st_k0_t1 Variants.none c none i arg3 harg3 arg4 harg4
      arg5 harg5 arg6 harg6 q (harg4.unread x1) (harg5.unread x2) (k0_pay2, k0_pay3, k0_pay4) T) := by
  subst hT
  exact walk1 c i arg3 harg3 arg4 harg4 arg5 harg5 arg6 harg6 x0 x1 x2 hq _ le_rfl

/-- The second head's walk, after `n` trips. -/
theorem walk3 (a2 : BitVec 32) (i0 i1 : IVec S256x256 32) (l : FVec Ideal S256x1 .f32) (a : FVec Ideal S256x128 .f32)
    {q : FVec Ideal S256x128 .bf16} (hq : ∀ r d, q (ix2 r d) = x0 (ix2 r (col 1 d))) (n : ℕ) (hn : n ≤ (i 2).val) :
    Holds (rowScore (i 2).val x0 x1 1) (value x2) (256 * n) (st_k0_t3 Variants.none c none i arg3 harg3 arg4 harg4 arg5
      harg5 arg6 harg6 a2 i0 i1 l a q (harg4.unread x1) (harg5.unread x2) (k0_pay24, k0_pay25, k0_pay26) n) := by
  induction n with
  | zero => rw [st_k0_t3_zero]; exact holds_zero _ _
  | succ n ih =>
    have hlt : (i 2).val < 8 := (i 2).isLt
    have e := st_k0_t3_succ (F := Ideal) Variants.none c none i arg3 harg3 arg4 harg4 arg5 harg5 arg6 harg6 a2 i0 i1 l a q
      (harg4.unread x1) (harg5.unread x2) (k0_pay24, k0_pay25, k0_pay26) ⟨n, by rw [trips3]; omega⟩
    dsimp only at e
    rw [e]
    unfold tripR_k0_t3 trip_k0_t3
    dsimp only
    simp only [View.readAt_eq_ld, harg4.read_unread, harg5.read_unread]
    refine holds_trip hq (fun r d => ?_) (fun r j => ?_) (ih (by omega)) (by omega)
    · pointwise
      exact key_at x1 _ _ (congrArg (· + r.val) (congrFun (k0_off7_eq i _) 0)) (congrArg (· + d.val) (congrFun (k0_off7_eq i _) 1))
    · pointwise
      exact value_at x2 _ _ (congrArg (· + r.val) (congrFun (k0_off8_eq i _) 0))
        ((congrArg (· + j.val) (congrFun (k0_off8_eq i _) 1)).trans (Nat.zero_add _))

/-- The second head's walk, at its end. -/
theorem walk3_end (a2 : BitVec 32) (i0 i1 : IVec S256x256 32) (l : FVec Ideal S256x1 .f32) (a : FVec Ideal S256x128 .f32)
    {q : FVec Ideal S256x128 .bf16} (hq : ∀ r d, q (ix2 r d) = x0 (ix2 r (col 1 d))) {T : ℕ} (hT : T = (i 2).val) :
    Holds (rowScore (i 2).val x0 x1 1) (value x2) (256 * (i 2).val) (st_k0_t3 Variants.none c none i arg3 harg3 arg4 harg4
      arg5 harg5 arg6 harg6 a2 i0 i1 l a q (harg4.unread x1) (harg5.unread x2) (k0_pay24, k0_pay25, k0_pay26) T) := by
  subst hT
  exact walk3 c i arg3 harg3 arg4 harg4 arg5 harg5 arg6 harg6 x0 x1 x2 a2 i0 i1 l a hq _ le_rfl

/-- The remainder of the first head's walk leaves the state as it is. -/
theorem rest2 (q : FVec Ideal S256x128 .bf16) (st : State) {T : ℕ} (hT : T = 0) :
    st_k0_t2 Variants.none c none i arg3 harg3 arg4 harg4 arg5 harg5 arg6 harg6 q (harg4.unread x1) (harg5.unread x2) st T
      = st := by
  subst hT
  exact st_k0_t2_zero ..

/-- The remainder of the second head's walk leaves the state as it is. -/
theorem rest4 (a2 : BitVec 32) (i0 i1 : IVec S256x256 32) (l : FVec Ideal S256x1 .f32) (a : FVec Ideal S256x128 .f32)
    (q : FVec Ideal S256x128 .bf16) (st : State) {T : ℕ} (hT : T = 0) :
    st_k0_t4 Variants.none c none i arg3 harg3 arg4 harg4 arg5 harg5 arg6 harg6 a2 i0 i1 l a q (harg4.unread x1)
      (harg5.unread x2) st T = st := by
  subst hT
  exact st_k0_t4_zero ..

/-- The stored block, read at an index. -/
theorem out_at (r : Fin 256) (j : Fin 128) :
    out0_A_3 (F := Ideal) c i arg3 harg3 arg4 harg4 arg5 harg5 arg6 harg6 x0 x1 x2 (ix2 r j)
      = if j.val < 64 then rowOut (i 2).val x0 x1 x2 0 r j else rowOut (i 2).val x0 x1 x2 1 r j := by
  have hz : (![0, 0] : Fin 2 → Nat) = fun _ => 0 := by funext a; fin_cases a <;> rfl
  unfold out0_A_3
  rw [View.read_writes_eq_canon _ _ _ (cover0_A_3 (F := Ideal) c i arg3 harg3 arg4 harg4 arg5 harg5 arg6 harg6 x0 x1 x2)]
  unfold kernelRun0_A
  dsimp only
  sl_unfold_words
  dsimp only
  rw [View.canon_unit_zero hz]
  simp only [View.readAt_eq_ld, harg3.read_unread, harg4.read_unread, harg5.read_unread]
  generalize hB : st_k0_t2 (F := Ideal) Variants.none c none i arg3 harg3 arg4 harg4 arg5 harg5 arg6 harg6 _ (harg4.unread x1)
    (harg5.unread x2) _ _ = B
  generalize hD : st_k0_t4 (F := Ideal) Variants.none c none i arg3 harg3 arg4 harg4 arg5 harg5 arg6 harg6 _ _ _ _ _ _
    (harg4.unread x1) (harg5.unread x2) _ _ = D
  rw [pay1_at, last0, last1]
  refine if_congr Iff.rfl ?_ ?_
  · refine quot_last (n := (i 2).val) (fun r d => ?_) (fun r d => ?_) (fun r d => ?_) ?_ rfl r j
    · pointwise
      exact congrArg (fun e => x0 (ix2 r e)) (Fin.ext (by simp [col]))
    · pointwise
      exact key_at x1 _ _ (congrArg (· + r.val) (congrFun (k0_off5_eq i) 0)) (by simp [col])
    · pointwise
      exact value_at x2 _ _ (congrArg (· + r.val) (congrFun (k0_off6_eq i) 0)) rfl
    · have e := hB.symm.trans (rest2 c i arg3 harg3 arg4 harg4 arg5 harg5 arg6 harg6 x1 x2 _ _ (trips2 i))
      rw [e]
      refine walk1_end c i arg3 harg3 arg4 harg4 arg5 harg5 arg6 harg6 x0 x1 x2 (fun r d => ?_) (trips1 i)
      pointwise
      exact congrArg (fun e => x0 (ix2 r e)) (Fin.ext (by simp [col]))
  · refine quot_last (n := (i 2).val) (fun r d => ?_) (fun r d => ?_) (fun r d => ?_) ?_ rfl r j
    · pointwise
      exact congrArg (fun e => x0 (ix2 r e)) (Fin.ext (by simp [col]))
    · pointwise
      exact key_at x1 _ _ (congrArg (· + r.val) (congrFun (k0_off11_eq i) 0)) rfl
    · pointwise
      exact value_at x2 _ _ (congrArg (· + r.val) (congrFun (k0_off6_eq i) 0)) rfl
    · have e := hD.symm.trans (rest4 c i arg3 harg3 arg4 harg4 arg5 harg5 arg6 harg6 x1 x2 _ _ _ _ _ _ _ (trips4 i))
      rw [e]
      refine walk3_end c i arg3 harg3 arg4 harg4 arg5 harg5 arg6 harg6 x0 x1 x2 _ _ _ _ _ (fun r d => ?_) (trips3 i)
      pointwise
      exact congrArg (fun e => x0 (ix2 r e)) (Fin.ext (by simp [col]))
end
end Cert.AttnBlock
-- ==== Proof.AttnRef.lean ====
/-
  The reference attention, read at an index: masked scores, softmax, weighted sum of the values.
-/
module

public import proofs.«01_k».proof.Proof.Gen.AttnRefIdeal.Run
public import proofs.«01_k».proof.Proof.Online
public import Idealize.ShloMosaic.Lib.Pointwise
public import Idealize.ShloMosaic.Lib.WordCmp

@[expose] public section

set_option maxRecDepth 16384

noncomputable section

namespace Cert.AttnRef

open Cert.AttnRefIdeal Cert.AttnRefIdeal.Gen Cert.Online
open Idealize.ShloMosaic Idealize.ShloMosaic.TcCoe Idealize.SL.Sem

/-- The masked scores of every head. -/
def masked (q k : FVec Ideal S16384x2048 .bf16) : FVec Ideal S8x16x2048x2048 .f32 :=
  select (broadcastInDim S8x16x2048x2048 ![2, 3] bcast_S2048x2048_S8x16x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))
    (Host.dotGeneral dot_S8x2048x16x128_S8x2048x16x128_S8x16x2048x2048_3_3_1_1_02_02 none (shapeCast S8x2048x16x128 (extf .f32 q bitsLt_bf16_f32) shapeCasts_S16384x2048_S8x2048x16x128) (shapeCast S8x2048x16x128 (extf .f32 k bitsLt_bf16_f32) shapeCasts_S16384x2048_S8x2048x16x128))
    (broadcastInDim S8x16x2048x2048 ![] bcast_S_S8x16x2048x2048 (id (constant S_ .f32 0xFF800000#32)))

/-- The greatest score of each row. -/
def tops (s : FVec Ideal S8x16x2048x2048 .f32) : FVec Ideal S8x16x2048 .f32 :=
  maximumf (broadcastInDim S8x16x2048 ![] bcast_S_S8x16x2048 (constant S_ .f32 0xFF800000#32))
    (Host.reduce FloatOps.maximumf s (constant S_ .f32 0xFF800000#32) reducesTo_S8x16x2048x2048_S8x16x2048_d3 h_S_)

/-- The weights of the keys. -/
def weights (s : FVec Ideal S8x16x2048x2048 .f32) : FVec Ideal S8x16x2048x2048 .f32 :=
  Host.exp (subf s (broadcastInDim S8x16x2048x2048 ![0, 1, 2, 3] bcast_S8x16x2048x1_S8x16x2048x2048_0_1_2_3 (broadcastInDim S8x16x2048x1 ![0, 1, 2] bcast_S8x16x2048_S8x16x2048x1_0_1_2 (tops s))))

/-- The weights divided by their sum. -/
def softmax (s : FVec Ideal S8x16x2048x2048 .f32) : FVec Ideal S8x16x2048x2048 .f32 :=
  Host.divf (weights s) (broadcastInDim S8x16x2048x2048 ![0, 1, 2, 3] bcast_S8x16x2048x1_S8x16x2048x2048_0_1_2_3 (broadcastInDim S8x16x2048x1 ![0, 1, 2] bcast_S8x16x2048_S8x16x2048x1_0_1_2
    (Host.reduceAdd (weights s) (constant S_ .f32 0x00000000#32) reducesTo_S8x16x2048x2048_S8x16x2048_d3 h_S_)))

/-- The reference's result. -/
def result (q k : FVec Ideal S16384x2048 .bf16) (v : FVec Ideal S16384x1024 .bf16) : FVec Ideal S16384x1024 .bf16 :=
  truncf .bf16 (shapeCast S16384x1024 (transpose S8x2048x16x64 [0, 3, 1, 2] (Host.dotGeneral dot_S8x2048x16x64_S8x16x2048x2048_S8x16x64x2048_1_3_3_2_02_01 none (shapeCast S8x2048x16x64 (extf .f32 v bitsLt_bf16_f32) shapeCasts_S16384x1024_S8x2048x16x64) (softmax (masked q k))) transposes_S8x16x64x2048_S8x2048x16x64_0_3_1_2) shapeCasts_S8x2048x16x64_S16384x1024) bitsLt_bf16_f32

/-- The reference's run ends with this result. -/
theorem res_eq (m : (ℓ : Loc nD τ sig) → Buf (Elt Ideal) ℓ) (c : Dev nD) :
    Value.res_main_v28 m c = result (m ((c.tc : Thread nD τ).loc main_arg0)) (m ((c.tc : Thread nD τ).loc main_arg1)) (m ((c.tc : Thread nD τ).loc main_arg2)) := rfl

/-- The word −∞ is the least extended real. -/
theorem ofBits_neg_inf : Ideal.ofBits .f32 0xFF800000#32 = ⊥ := by simp [Ideal.ofBits, Ideal.ieee]

/-- The masked score of row `r` of batch `b` and head `h` with key `κ`. -/
theorem masked_at (q k : FVec Ideal S16384x2048 .bf16) (b : Fin 8) (h : Fin 16) (r κ : Fin 2048) :
    masked q k (ix4 b h r κ) = if κ ≤ r then ∑ d : Fin 128, q (ix2 ⟨b.val * 2048 + r.val, by omega⟩ ⟨h.val * 128 + d.val, by omega⟩)
      * k (ix2 ⟨b.val * 2048 + κ.val, by omega⟩ ⟨h.val * 128 + d.val, by omega⟩) else ⊥ := by
  pointwise [masked]
  by_cases hc : κ ≤ r
  · rw [if_pos hc, (by word_cmp : IntOp.cmpi .sle (BitVec.ofNat 32 κ.val) (BitVec.ofNat 32 r.val) = 1#1)]
    rfl
  · rw [if_neg hc, (by word_cmp : IntOp.cmpi .sle (BitVec.ofNat 32 κ.val) (BitVec.ofNat 32 r.val) = 0#1)]
    exact ofBits_neg_inf

/-- The reduction to a maximum over one axis, from `⊥`, is the supremum over that axis. -/
theorem reduce_max {s t u : Shape} {a : Fin s.rank} (x : FVec Ideal s .f32) (init : FVec Ideal u .f32) (h' : s.ReducesTo [a] t)
    (h : s.Reduces [a] t) (hu : 0 < u.numel) (hb : init (Shape.Idx.first hu) = ⊥) (j : t.Idx) :
    Host.reduce FloatOps.maximumf x init h' hu j = Finset.univ.sup fun k : Fin (s.size a) => x (h.lift j k) := by
  rw [Host.reduce_eq_fold_single FloatOps.maximumf x init h' h hu j, hb]
  rfl

/-- A maximum with −∞ everywhere is the other operand. -/
theorem max_neg_inf {s : Shape} (x y : FVec Ideal s .f32) (j : s.Idx) (hx : x j = ⊥) : maximumf x y j = y j := by
  show max (x j) (y j) = y j
  rw [hx, max_eq_right bot_le]

/-- −∞ laid out over an array is the least extended real everywhere. -/
theorem splat_neg_inf {t : Shape} (h : S_.BroadcastsInDim t (![] : Fin 0 → Fin t.rank)) (j : t.Idx) :
    broadcastInDim t ![] h (constant (F := Ideal) S_ .f32 0xFF800000#32) j = ⊥ := ofBits_neg_inf

/-- The greatest score of a row. -/
theorem tops_at (s : FVec Ideal S8x16x2048x2048 .f32) (b : Fin 8) (h : Fin 16) (r : Fin 2048) :
    tops s (ix3 b h r) = Finset.univ.sup fun κ : Fin 2048 => s (ix4 b h r κ) := by
  have hr : Shape.Reduces S8x16x2048x2048 [3] S8x16x2048 := by decide
  have e := reduce_max s (constant (F := Ideal) S_ .f32 0xFF800000#32) reducesTo_S8x16x2048x2048_S8x16x2048_d3 hr h_S_ ofBits_neg_inf (ix3 b h r)
  have hl : ∀ κ : Fin 2048, hr.lift (ix3 b h r) κ = ix4 b h r κ := fun κ => by funext a; fin_cases a <;> rfl
  rw [tops, max_neg_inf _ _ _ (splat_neg_inf _ _), e]
  exact congrArg (Finset.univ.sup) (funext fun κ => congrArg s (hl κ))

/-- The softmax of a row at a key. -/
theorem softmax_at (s : FVec Ideal S8x16x2048x2048 .f32) (b : Fin 8) (h : Fin 16) (r κ : Fin 2048) :
    softmax s (ix4 b h r κ) = Ideal.div (Ideal.exp (s (ix4 b h r κ) - tops s (ix3 b h r)))
      (∑ x : Fin 2048, Ideal.exp (s (ix4 b h r x) - tops s (ix3 b h r))) := by
  pointwise [softmax, weights]

/-- The result at row `R` and column `C`, from the softmax. -/
theorem result_sum (q k : FVec Ideal S16384x2048 .bf16) (v : FVec Ideal S16384x1024 .bf16) (R : Fin 16384) (C : Fin 1024) :
    result q k v (ix2 R C) = ∑ x : Fin 2048, v (ix2 ⟨R.val / 2048 * 2048 + x.val, by omega⟩ C)
      * softmax (masked q k) (ix4 ⟨R.val / 2048, by omega⟩ ⟨C.val / 64, by omega⟩ ⟨R.val % 2048, by omega⟩ x) := by
  pointwise [result]

/-- The scores of row `R` and head `h` by key: `⊥` for the keys after the row's own. -/
def score (q k : FVec Ideal S16384x2048 .bf16) (R : Fin 16384) (h : Fin 16) (κ : ℕ) : EReal :=
  if κ ≤ R.val % 2048 then ∑ d : Fin 128, q (ix2 R ⟨h.val * 128 + d.val, by omega⟩)
    * (if hκ : κ < 2048 then k (ix2 ⟨R.val / 2048 * 2048 + κ, by omega⟩ ⟨h.val * 128 + d.val, by omega⟩) else 0) else ⊥

/-- The values of row `R`'s batch at column `C`, by key. -/
def value (v : FVec Ideal S16384x1024 .bf16) (R : Fin 16384) (C : Fin 1024) (κ : ℕ) : EReal :=
  if hκ : κ < 2048 then v (ix2 ⟨R.val / 2048 * 2048 + κ, by omega⟩ C) else 0

/-- The result at row `R` and column `C`, from the scores. -/
theorem result_at (q k : FVec Ideal S16384x2048 .bf16) (v : FVec Ideal S16384x1024 .bf16) (R : Fin 16384) (C : Fin 1024) :
    result q k v (ix2 R C) = ∑ κ ∈ Finset.range 2048,
      Ideal.div (Ideal.exp (score q k R ⟨C.val / 64, by omega⟩ κ - top (score q k R ⟨C.val / 64, by omega⟩) (Finset.range 2048)))
        (den (score q k R ⟨C.val / 64, by omega⟩) (top (score q k R ⟨C.val / 64, by omega⟩) (Finset.range 2048)) (Finset.range 2048))
      * value v R C κ := by
  have hm : ∀ κ : Fin 2048, masked q k (ix4 ⟨R.val / 2048, by omega⟩ ⟨C.val / 64, by omega⟩ ⟨R.val % 2048, by omega⟩ κ)
      = score q k R ⟨C.val / 64, by omega⟩ κ := fun κ => by
    rw [masked_at, score]
    refine if_congr Iff.rfl (Finset.sum_congr rfl fun d _ => ?_) rfl
    rw [dif_pos κ.isLt]
    refine congrArg₂ (· * ·) (congrArg (fun r => q (ix2 r _)) (Fin.ext ?_)) rfl
    show R.val / 2048 * 2048 + R.val % 2048 = R.val
    omega
  have ht : tops (masked q k) (ix3 ⟨R.val / 2048, by omega⟩ ⟨C.val / 64, by omega⟩ ⟨R.val % 2048, by omega⟩)
      = top (score q k R ⟨C.val / 64, by omega⟩) (Finset.range 2048) := by
    rw [tops_at]
    simp only [hm]
    apply le_antisymm
    · exact Finset.sup_le fun κ _ => Finset.le_sup (Finset.mem_range.mpr κ.isLt)
    · exact Finset.sup_le fun κ hκ => Finset.le_sup (f := fun κ : Fin 2048 => score q k R ⟨C.val / 64, by omega⟩ κ)
        (b := ⟨κ, Finset.mem_range.mp hκ⟩) (Finset.mem_univ _)
  rw [result_sum, ← Fin.sum_univ_eq_sum_range]
  refine Finset.sum_congr rfl fun κ _ => ?_
  rw [softmax_at, ht, mul_comm]
  simp only [hm]
  refine congrArg₂ (· * ·) (congrArg (Ideal.div _) ?_) ?_
  · rw [den, ← Fin.sum_univ_eq_sum_range]
  · rw [value, dif_pos κ.isLt]

end Cert.AttnRef
-- ==== Proof.AttnValue.lean ====
/-
  The attention kernel's result array is the reference's, for real queries and keys.
-/
module

public import proofs.«01_k».proof.Proof.AttnBlock
public import proofs.«01_k».proof.Proof.AttnRef

@[expose] public section

set_option maxRecDepth 16384

noncomputable section

namespace Cert.AttnValue

open Cert.AttnIdeal Cert.AttnIdeal.Gen Cert.Online Cert.AttnBlock
open Idealize.ShloMosaic Idealize.ShloMosaic.TcCoe Idealize.SL.Sem

/-- A number that is neither infinite. -/
def Real' (x : EReal) : Prop := x ≠ ⊤ ∧ x ≠ ⊥

/-- A sum of products of real numbers is real. -/
theorem sum_real {n : ℕ} (f g : Fin n → EReal) (hf : ∀ d, Real' (f d)) (hg : ∀ d, Real' (g d)) : Real' (∑ d, f d * g d) := by
  have e : ∀ d, f d * g d = (((f d).toReal * (g d).toReal : ℝ) : EReal) := fun d => by
    rw [EReal.coe_mul, EReal.coe_toReal (hf d).1 (hf d).2, EReal.coe_toReal (hg d).1 (hg d).2]
  simp only [e]
  rw [coe_sum]
  exact ⟨EReal.coe_ne_top _, EReal.coe_ne_bot _⟩

variable {x0 : FVec Ideal S256x256 .bf16} {x1 : FVec Ideal S2048x256 .bf16} {x2 : FVec Ideal S2048x128 .bf16}
  {q k : FVec Ideal S16384x2048 .bf16} {v : FVec Ideal S16384x1024 .bf16} {b g i : ℕ} (hb : b < 8) (hg : g < 8) (hi : i < 8)
  (h0 : ∀ r e : Fin 256, x0 (ix2 r e) = q (ix2 ⟨256 * (8 * b + i) + r.val, by omega⟩ ⟨256 * g + e.val, by omega⟩))
  (h1 : ∀ (κ : Fin 2048) (e : Fin 256), x1 (ix2 κ e) = k (ix2 ⟨2048 * b + κ.val, by omega⟩ ⟨256 * g + e.val, by omega⟩))
  (h2 : ∀ (κ : Fin 2048) (e : Fin 128), x2 (ix2 κ e) = v (ix2 ⟨2048 * b + κ.val, by omega⟩ ⟨128 * g + e.val, by omega⟩))
  (r : Fin 256) (h : Fin 2) (j : Fin 128)

include h0 h1 in
/-- The block's scores are the reference's. -/
theorem score_eq (H : Fin 16) (hH : H.val = 2 * g + h.val) :
    rowScore i x0 x1 h r = AttnRef.score q k ⟨256 * (8 * b + i) + r.val, by omega⟩ H := by
  funext κ
  unfold rowScore AttnRef.score
  have e : κ ≤ 256 * i + r.val ↔ κ ≤ (256 * (8 * b + i) + r.val) % 2048 := by have := r.isLt; omega
  refine if_congr e (Finset.sum_congr rfl fun d _ => ?_) rfl
  rw [h0]
  have hc : ∀ p p', (⟨256 * g + (col h d).val, p⟩ : Fin 2048) = ⟨H.val * 128 + d.val, p'⟩ := fun _ _ =>
    Fin.ext (by show 256 * g + (128 * h.val + d.val) = H.val * 128 + d.val; omega)
  refine congrArg₂ (· * ·) (congrArg (fun e => q (ix2 _ e)) (hc _ _)) ?_
  unfold key
  by_cases hκ : κ < 2048
  · rw [dif_pos hκ, dif_pos hκ, h1]
    refine (congrArg (fun e => k (ix2 _ e)) (hc _ _)).trans (congrArg (fun r => k (ix2 r _)) (Fin.ext ?_))
    show 2048 * b + κ = (256 * (8 * b + i) + r.val) / 2048 * 2048 + κ
    have := r.isLt
    omega
  · rw [dif_neg hκ, dif_neg hκ]

include h2 in
/-- The block's values are the reference's. -/
theorem value_eq : (fun κ => value x2 κ j)
    = AttnRef.value v ⟨256 * (8 * b + i) + r.val, by omega⟩ ⟨128 * g + j.val, by omega⟩ := by
  funext κ
  unfold value AttnRef.value
  by_cases hκ : κ < 2048
  · rw [dif_pos hκ, dif_pos hκ, h2]
    refine congrArg (fun r => v (ix2 r _)) (Fin.ext ?_)
    show 2048 * b + κ = (256 * (8 * b + i) + r.val) / 2048 * 2048 + κ
    have := r.isLt
    omega
  · rw [dif_neg hκ, dif_neg hκ]

include h0 h1 h2 in
/-- The result of a row of a block is the reference's, if the queries and keys are real. -/
theorem rowOut_eq (hq : ∀ p, Real' (q p)) (hk : ∀ p, Real' (k p)) (hh : (128 * g + j.val) / 64 = 2 * g + h.val) :
    rowOut i x0 x1 x2 h r j = AttnRef.result q k v (ix2 ⟨256 * (8 * b + i) + r.val, by omega⟩ ⟨128 * g + j.val, by omega⟩) := by
  have hr := r.isLt
  rw [AttnRef.result_at]
  unfold rowOut
  dsimp only
  rw [score_eq hb hg hi h0 h1 r h ⟨(128 * g + j.val) / 64, by omega⟩ hh, value_eq hb hg hi h2 r j]
  set s := AttnRef.score q k ⟨256 * (8 * b + i) + r.val, by omega⟩ ⟨(128 * g + j.val) / 64, by omega⟩ with hs
  have hsub : Finset.range (256 * i + 256) ⊆ Finset.range 2048 := Finset.range_mono (by omega)
  have hbot : ∀ κ ∈ Finset.range 2048, κ ∉ Finset.range (256 * i + 256) → s κ = ⊥ := fun κ _ hκ => by
    rw [hs, AttnRef.score, if_neg]
    rw [Finset.mem_range] at hκ
    show ¬ κ ≤ (256 * (8 * b + i) + r.val) % 2048
    omega
  have hreal : ∀ κ < 2048, κ ≤ (256 * (8 * b + i) + r.val) % 2048 → Real' (s κ) := fun κ hκ hle => by
    rw [hs, AttnRef.score, if_pos hle]
    exact sum_real _ _ (fun d => hq _) (fun d => by rw [dif_pos hκ]; exact hk _)
  rw [top_of_bot s hsub hbot, den_of_bot s hsub hbot, num_of_bot s _ hsub hbot]
  refine quotient s _ (k₀ := 0) (fun κ hκ => ?_) (Finset.mem_range.mpr (by omega)) (hreal 0 (by omega) (by omega)).2
  by_cases hle : κ ≤ (256 * (8 * b + i) + r.val) % 2048
  · exact (hreal κ (Finset.mem_range.mp hκ) hle).1
  · rw [hs, AttnRef.score, if_neg hle]
    exact bot_ne_top

variable (m : (ℓ : Loc nD τ sig) → Buf (Elt Ideal) ℓ)

/-- The windows' blocks at a grid point. -/
theorem idx : ∀ t : Fin cfg0.N, win0_0.index t = ![8 * (t.val / 64) + t.val % 8, t.val / 8 % 8]
    ∧ win0_1.index t = ![t.val / 64, t.val / 8 % 8] ∧ win0_2.index t = ![t.val / 64, t.val / 8 % 8]
    ∧ win0_3.index t = ![8 * (t.val / 64) + t.val % 8, t.val / 8 % 8] ∧ (grid0.coords t 2).val = t.val % 8 :=
  (by decide +kernel : ∀ t : Fin grid0.N, _)

/-- What a grid point stores is the reference's result at the place of its block. -/
theorem point (c : Dev nD) (hq : ∀ p, Real' (m ((c.tc : Thread nD τ).loc main_arg0) p))
    (hk : ∀ p, Real' (m ((c.tc : Thread nD τ).loc main_arg1) p)) (t : Fin cfg0.N) (r : Fin 256) (j : Fin 128) :
    out0_A_3 (F := Ideal) c (grid0.coords t) (ms0_0 t) (hs0_0 t) (ms0_1 t) (hs0_1 t) (ms0_2 t) (hs0_2 t) (ms0_3 t) (hs0_3 t)
        (iblk m c 0 t) (iblk m c 1 t) (iblk m c 2 t) (ix2 r j)
      = AttnRef.result (m ((c.tc : Thread nD τ).loc main_arg0)) (m ((c.tc : Thread nD τ).loc main_arg1))
          (m ((c.tc : Thread nD τ).loc main_arg2)) (((cfg0.win 3).blk t).view.emb (ix2 r j)) := by
  have hN : t.val < 512 := t.isLt
  have h0 : ∀ r e : Fin 256, iblk m c 0 t (ix2 r e) = m ((c.tc : Thread nD τ).loc main_arg0)
      (ix2 ⟨256 * (8 * (t.val / 64) + t.val % 8) + r.val, by omega⟩ ⟨256 * (t.val / 8 % 8) + e.val, by omega⟩) := fun r e => by
    blk_ext [iblk, V, idx t]
  have h1 : ∀ (κ : Fin 2048) (e : Fin 256), iblk m c 1 t (ix2 κ e) = m ((c.tc : Thread nD τ).loc main_arg1)
      (ix2 ⟨2048 * (t.val / 64) + κ.val, by omega⟩ ⟨256 * (t.val / 8 % 8) + e.val, by omega⟩) := fun r e => by
    blk_ext [iblk, V, idx t]
  have h2 : ∀ (κ : Fin 2048) (e : Fin 128), iblk m c 2 t (ix2 κ e) = m ((c.tc : Thread nD τ).loc main_arg2)
      (ix2 ⟨2048 * (t.val / 64) + κ.val, by omega⟩ ⟨128 * (t.val / 8 % 8) + e.val, by omega⟩) := fun r e => by
    blk_ext [iblk, V, idx t]
  have he : ((cfg0.win 3).blk t).view.emb (ix2 r j)
      = ix2 ⟨256 * (8 * (t.val / 64) + t.val % 8) + r.val, by omega⟩ ⟨128 * (t.val / 8 % 8) + j.val, by omega⟩ := by
    blk_ext [idx t]
  rw [out_at, he, (idx t).2.2.2.2]
  by_cases hj : j.val < 64
  · rw [if_pos hj]
    exact rowOut_eq (by omega) (by omega) (by omega) h0 h1 h2 r 0 j hq hk (by show _ = 2 * (t.val / 8 % 8) + 0; omega)
  · rw [if_neg hj]
    exact rowOut_eq (by omega) (by omega) (by omega) h0 h1 h2 r 1 j hq hk (by show _ = 2 * (t.val / 8 % 8) + 1; omega)

/-- The result array after the run is the reference's. -/
theorem final (c : Dev nD) (hq : ∀ p, Real' (m ((c.tc : Thread nD τ).loc main_arg0) p))
    (hk : ∀ p, Real' (m ((c.tc : Thread nD τ).loc main_arg1) p)) :
    (dats m 0 c).arrAt 3 cfg0.N
      = AttnRef.result (m ((c.tc : Thread nD τ).loc main_arg0)) (m ((c.tc : Thread nD τ).loc main_arg1))
          (m ((c.tc : Thread nD τ).loc main_arg2)) := by
  refine (dats m 0 c).arrAt_eq_of_covers 3 _ (by decide +kernel) fun t _ y => ?_
  blk_simp
  rw [after0_3]
  obtain ⟨r, j, rfl⟩ : ∃ (r : Fin 256) (j : Fin 128), y = ix2 r j := ⟨y 0, y 1, eq_ix2 y⟩
  exact point m c hq hk t r j

end Cert.AttnValue
-- ==== Proof.AttnFinite.lean ====
/-
  What the precondition says: no query and no key is infinite.
-/
module

public import proofs.«01_k».proof.Proof.Gen.Pre_finite
public import proofs.«01_k».proof.Proof.AttnValue
public import Idealize.ShloMosaic.Lib.Pointwise

@[expose] public section

set_option maxRecDepth 16384

noncomputable section

namespace Cert.AttnFinite

open Cert.Pre_finite Cert.Pre_finite.Gen
open Idealize.ShloMosaic Idealize.ShloMosaic.TcCoe Idealize.SL.Sem

/-- The word +∞ is the greatest extended real. -/
theorem ofBits_inf : Ideal.ofBits .bf16 0x7F80#16 = ⊤ := by simp [Ideal.ofBits, Ideal.ieee]

/-- A number whose absolute value is below +∞ is real. -/
theorem real_of_lt (x : EReal) (h : max x (-x) < ⊤) : AttnValue.Real' x :=
  ⟨(max_lt_iff.mp h).1.ne, fun e => (max_lt_iff.mp h).2.ne (by rw [e, EReal.neg_bot])⟩

/-- Two one-bit words whose conjunction is one are the words of true propositions. -/
theorem both_of_andi (a b : Prop) [Decidable a] [Decidable b]
    (h : IntOp.andi (BitVec.ofBool (decide a)) (BitVec.ofBool (decide b)) = 1#1) : a ∧ b := by
  by_cases ha : a <;> by_cases hb : b <;> simp_all [IntOp.andi]

/-- If the precondition's words are all one, the queries and keys are real. -/
theorem real_of_pre (q k : FVec Ideal S16384x2048 .bf16) (v : FVec Ideal S16384x1024 .bf16)
    (h : Cert.Pre_finite.fn (F := Ideal) q k v = fun _ => 1#1) (p : S16384x2048.Idx) : AttnValue.Real' (q p) ∧ AttnValue.Real' (k p) := by
  have e := congrFun h p
  unfold Cert.Pre_finite.fn at e
  pointwise at e
  obtain ⟨hq, hk⟩ := both_of_andi _ _ e
  rw [ofBits_inf] at hq hk
  exact ⟨real_of_lt _ hq, real_of_lt _ hk⟩

end Cert.AttnFinite
-- ==== Proof.AttnClaims.lean ====
/-
  The claims about the attention of the latent layers over the prompt: the runs end, the idealization is licensed, and the kernel's result is the reference's.
-/
module

public import proofs.«01_k».proof.Defs
public import proofs.«01_k».proof.Proof.Gen.Attn.Frame
public import proofs.«01_k».proof.Proof.Gen.AttnIdeal.Frame
public import proofs.«01_k».proof.Proof.Gen.AttnIdeal.Value
public import proofs.«01_k».proof.Proof.Gen.AttnRefIdeal.Run
public import proofs.«01_k».proof.Proof.AttnFinite
public import Idealize.ShloMosaic.Lib.Quiescent

@[expose] public section

set_option maxRecDepth 16384

noncomputable section

namespace Cert.AttnClaims

open Idealize.ShloMosaic Idealize.ShloMosaic.TcCoe Idealize.SL.Sem

/-- The kernel runs to its end, keeps its arguments, and leaves no counter raised. -/
theorem frame_kernel : Cert.quiescent_Attn := fun m ρ _ => Cert.Attn.Gen.frame m ρ

/-- The idealized kernel does too. -/
theorem frame_ideal : Cert.quiescent_AttnIdeal := fun m ρ _ => Cert.AttnIdeal.Gen.frame m ρ

/-- The same where the queries and keys are finite. -/
theorem frame_ideal_finite : Cert.quiescent_AttnIdeal_pre_finite (hPre_finite := Cert.Pre_finite.Gen.facts) :=
  fun m ρ _ => Cert.AttnIdeal.Gen.frame m ρ

/-- The reference does too. -/
theorem frame_reference : Cert.quiescent_AttnRefIdeal := fun m ρ _ =>
  (θ_run Cert.AttnRefIdeal.defs _ _).mono
    (fun r h => ⟨fun c => (h c).2, Idealize.ShloMosaic.sem_eq_zero_of_no_sems (by decide) r.2⟩)
    (Cert.AttnRefIdeal.Value.run (F := Ideal) m ρ)

/-- The same where the queries and keys are finite. -/
theorem frame_reference_finite : Cert.quiescent_AttnRefIdeal_pre_finite (hPre_finite := Cert.Pre_finite.Gen.facts) :=
  fun m ρ _ => frame_reference m ρ trivial

/-- The only change the idealization makes is to read the mask's large negative constant as −∞. -/
theorem preserves : Cert.preserves_Attn_AttnIdeal :=
  IdealRules.named_const.statement Cert.AttnIdeal.κ "mask" .f32 0xF149F2CA#32 ⊥ rfl

/-- Where no query and no key is infinite, the blockwise attention and the attention taken in one pass agree. -/
theorem algebraic : Cert.algebraic_AttnIdeal_AttnRefIdeal_pre_finite (hPre_finite := Cert.Pre_finite.Gen.facts) := by
  intro m ρ m' ρ' pre args
  refine ⟨fun c => Cert.AttnRef.result (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)),
    (θ_run Cert.AttnIdeal.defs _ _).mono (fun r h c => ⟨(h c).1.trans (Cert.AttnValue.final m c (fun p => (Cert.AttnFinite.real_of_pre _ _ _ (pre c) p).1) fun p => (Cert.AttnFinite.real_of_pre _ _ _ (pre c) p).2), (h c).2⟩)
      (Cert.AttnIdeal.Value.run_blocks (F := Ideal) m ρ), ?_⟩
  refine (θ_run Cert.AttnRefIdeal.defs _ _).mono (fun r h c => ⟨(h c).1.trans ?_, (h c).2⟩)
    (Cert.AttnRefIdeal.Value.run (F := Ideal) m' ρ')
  obtain ⟨h0, h1, h2⟩ := args c
  show Cert.AttnRef.result (m' ((c.tc : Thread Cert.AttnRefIdeal.nD Cert.AttnRefIdeal.τ).loc Cert.AttnRefIdeal.main_arg0)) (m' ((c.tc : Thread Cert.AttnRefIdeal.nD Cert.AttnRefIdeal.τ).loc Cert.AttnRefIdeal.main_arg1)) (m' ((c.tc : Thread Cert.AttnRefIdeal.nD Cert.AttnRefIdeal.τ).loc Cert.AttnRefIdeal.main_arg2)) = _
  rw [h0, h1, h2]

end Cert.AttnClaims

end
-- ==== Proof.PostRow.lean ====
/-
  The mathematics of one row of a layer's second half: the output projection with its residual, the
  normalisation, and the squared-ReLU network with its residual. The network's sum over its 4096 hidden
  numbers is also four sums over 1024 of them, added one after the other.
-/
module

public import Idealize.ShloMosaic.Lib.Pipeline.ValueKit

@[expose] public section

noncomputable section

namespace Cert.PostRow

open Idealize.ShloMosaic

/-- A row of an array. -/
abbrev row {a b : ℕ} (x : (⟨2, ![a, b]⟩ : Shape).Idx → EReal) (r : Fin a) (j : Fin b) : EReal := x (ix2 r j)

/-- The residual plus the output projection. -/
def resid {K : ℕ} (x : Fin 1024 → EReal) (o : Fin K → EReal) (wo : Fin K → Fin 1024 → EReal) (j : Fin 1024) : EReal :=
  x j + ∑ k, o k * wo k j

/-- A row over the root of its mean square, times the weights. -/
def norm (x g : Fin 1024 → EReal) (j : Fin 1024) : EReal :=
  x j * Ideal.rsqrt (Ideal.div (∑ k, x k * x k) (Ideal.ofBits FTy.f32 0x44800000#32) + Ideal.ofBits FTy.f32 0x358637BD#32) * g j

/-- A hidden number: the positive part of a product with a column, squared. -/
def hidden (h up : Fin 1024 → EReal) : EReal := max (∑ k, h k * up k) 0 * max (∑ k, h k * up k) 0

/-- The squared-ReLU network with its residual. -/
def ffn (x g : Fin 1024 → EReal) (up : Fin 1024 → Fin 4096 → EReal) (dn : Fin 4096 → Fin 1024 → EReal) (j : Fin 1024) : EReal :=
  x j + ∑ f, hidden (norm x g) (fun k => up k f) * dn f j

/-- Part `n` of the network's sum: 1024 of the hidden numbers. -/
def part (x g : Fin 1024 → EReal) (up : Fin 1024 → Fin 4096 → EReal) (dn : Fin 4096 → Fin 1024 → EReal) (n : Fin 4) (j : Fin 1024) : EReal :=
  ∑ f : Fin 1024, hidden (norm x g) (fun k => up k ⟨n.val * 1024 + f.val, by omega⟩) * dn ⟨n.val * 1024 + f.val, by omega⟩ j

/-- The network's sum is its four parts, added in order. -/
theorem ffn_parts (x g : Fin 1024 → EReal) (up : Fin 1024 → Fin 4096 → EReal) (dn : Fin 4096 → Fin 1024 → EReal) (j : Fin 1024) :
    x j + part x g up dn 0 j + part x g up dn 1 j + part x g up dn 2 j + part x g up dn 3 j = ffn x g up dn j := by
  unfold ffn part
  rw [Fin.sum_univ_tiles 4 1024 rfl, Fin.sum_univ_four]
  simp only [add_assoc]

end Cert.PostRow
-- ==== Proof.PostMlaRef.lean ====
/-
  The second half of an attention layer with 16 heads: the reference, row by row.
-/
module

public import proofs.«01_k».proof.Proof.Gen.PostMlaRefIdeal.Run
public import proofs.«01_k».proof.Proof.PostRow
public import Idealize.ShloMosaic.Lib.Pointwise

@[expose] public section

set_option maxRecDepth 16384

noncomputable section

namespace Cert.PostMlaRef

open Cert.PostMlaRefIdeal Cert.PostMlaRefIdeal.Gen Cert.PostRow
open Idealize.ShloMosaic Idealize.ShloMosaic.TcCoe Idealize.SL.Sem

variable (x : FVec Ideal S16384x1024 .f32) (o : FVec Ideal S16384x1024 .bf16) (wo : FVec Ideal S1024x1024 .bf16) (g : FVec Ideal S1x1024 .f32)
  (up : FVec Ideal S1024x4096 .bf16) (dn : FVec Ideal S4096x1024 .bf16) (R : Fin 16384) (j : Fin 1024)

/-- The reference's residual. -/
def resids : FVec Ideal S16384x1024 .f32 :=
  addf x (Host.dotGeneral dot_S16384x1024_S1024x1024_S16384x1024_1_0_0_1_n_n none (extf .f32 o bitsLt_bf16_f32) (extf .f32 wo bitsLt_bf16_f32))

/-- The reference's normalised rows. -/
def norms (y : FVec Ideal S16384x1024 .f32) (g : FVec Ideal S1x1024 .f32) : FVec Ideal S16384x1024 .f32 :=
  mulf (mulf y (broadcastInDim S16384x1024 ![0, 1] bcast_S16384x1_S16384x1024_0_1 (Host.rsqrt (addf (Host.divf (broadcastInDim S16384x1 ![0] bcast_S16384_S16384x1_0 (Host.reduceAdd (mulf y y) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 g)

/-- The reference's hidden numbers. -/
def hiddens (h : FVec Ideal S16384x1024 .f32) (up : FVec Ideal S1024x4096 .bf16) : FVec Ideal S16384x4096 .f32 :=
  maximumf (Host.dotGeneral dot_S16384x1024_S1024x4096_S16384x4096_1_0_0_1_n_n none h (extf .f32 up bitsLt_bf16_f32)) (broadcastInDim S16384x4096 ![] bcast_S_S16384x4096 (constant S_ .f32 0x00000000#32))

/-- The reference's result. -/
def result : FVec Ideal S16384x1024 .f32 :=
  addf (resids x o wo) (Host.dotGeneral dot_S16384x4096_S4096x1024_S16384x1024_1_0_0_1_n_n none
    (mulf (hiddens (norms (resids x o wo) g) up) (hiddens (norms (resids x o wo) g) up)) (extf .f32 dn bitsLt_bf16_f32))

/-- The reference's residual at a place. -/
theorem resids_at : resids x o wo (ix2 R j) = resid (row x R) (row o R) (row wo) j := by
  pointwise [resids]
  rfl

/-- The reference's normalised row at a place. -/
theorem norms_at (y : FVec Ideal S16384x1024 .f32) : norms y g (ix2 R j) = norm (row y R) (row g 0) j := by
  pointwise [norms]
  rfl

/-- The reference's hidden numbers at a place. -/
theorem hiddens_at (h : FVec Ideal S16384x1024 .f32) (f : Fin 4096) :
    hiddens h up (ix2 R f) = max (∑ k, h (ix2 R k) * up (ix2 k f)) 0 := by
  pointwise [hiddens]

/-- The reference's result at a place. -/
theorem result_at : result x o wo g up dn (ix2 R j)
    = ffn (resid (row x R) (row o R) (row wo)) (row g 0) (row up) (row dn) j := by
  have e : ∀ k, norms (resids x o wo) g (ix2 R k) = norm (resid (row x R) (row o R) (row wo)) (row g 0) k := fun k => by
    rw [norms_at, show row (resids x o wo) R = _ from funext fun k => resids_at x o wo R k]
  pointwise [result]
  rw [resids_at]
  simp only [hiddens_at, e]
  rfl

end Cert.PostMlaRef
-- ==== Proof.PostMlaValue.lean ====
/-
  The second half of an attention layer with 16 heads: the kernel's result array is the reference's.
-/
module

public import proofs.«01_k».proof.Proof.Gen.PostMlaIdeal.Value
public import proofs.«01_k».proof.Proof.PostMlaRef
public import Idealize.ShloMosaic.Lib.Pipeline.ValueKit
public import Idealize.ShloMosaic.Lib.Pointwise

@[expose] public section

set_option maxRecDepth 16384

noncomputable section

namespace Cert.PostMlaValue

open Cert.PostMlaIdeal Cert.PostMlaIdeal.Gen Cert.PostRow
open Idealize.ShloMosaic Idealize.ShloMosaic.TcCoe Idealize.SL.Sem

section Block

variable (v0 : Vec Ideal S512x1024 .f32) (v1 : Vec Ideal S512x1024 .bf16) (v2 : Vec Ideal S1024x1024 .bf16) (v5 : Vec Ideal S1x1024 .f32)
  (u d : Vec Ideal S1024x1024 .bf16) (r : Fin 512) (j : Fin 1024)

/-- The residual of a row of a block. -/
theorem pay2_at : k0_pay2 v0 v1 v2 (ix2 r j) = resid (row v0 r) (row v1 r) (row v2) j := by
  pointwise [k0_pay2]
  rfl

/-- The normalised row of a block. -/
theorem pay3_at : k0_pay3 v0 v1 v2 v5 (ix2 r j) = norm (resid (row v0 r) (row v1 r) (row v2)) (row v5 0) j := by
  pointwise [k0_pay3]
  simp only [pay2_at]
  rfl

/-- The residual plus the first part of the network. -/
theorem pay4_at : k0_pay4 v0 v1 v2 v5 u d (ix2 r j) = resid (row v0 r) (row v1 r) (row v2) j
    + ∑ f : Fin 1024, hidden (row (k0_pay3 v0 v1 v2 v5) r) (fun k => u (ix2 k f)) * d (ix2 f j) := by
  pointwise [k0_pay4]
  rw [pay2_at]
  rfl

/-- The hidden numbers of the second part. -/
theorem pay5_at : k0_pay5 v0 v1 v2 v5 u (ix2 r j) = hidden (row (k0_pay3 v0 v1 v2 v5) r) (fun k => u (ix2 k j)) := by
  pointwise [k0_pay5]
  rfl

/-- The other parts of the network, added in order. -/
theorem pay1_at (h : FVec Ideal S512x1024 .bf16) (a : FVec Ideal S512x1024 .f32) (h1 : FVec Ideal S512x1024 .bf16)
    (d1 u2 d2 u3 d3 : Vec Ideal S1024x1024 .bf16) : k0_pay1 h a h1 d1 u2 d2 u3 d3 (ix2 r j) = a (ix2 r j)
      + (∑ f : Fin 1024, h1 (ix2 r f) * d1 (ix2 f j))
      + (∑ f : Fin 1024, hidden (row h r) (fun k => u2 (ix2 k f)) * d2 (ix2 f j))
      + ∑ f : Fin 1024, hidden (row h r) (fun k => u3 (ix2 k f)) * d3 (ix2 f j) := by
  pointwise [k0_pay1]
  rfl

/-- What a block stores, row by row. -/
theorem out_at (x0 : Vec Ideal S512x1024 .f32) (x1 : Vec Ideal S512x1024 .bf16) (x2 : Vec Ideal S1024x1024 .bf16) (x3 : Vec Ideal S1x1024 .f32)
    (x4 : Vec Ideal S1024x4096 .bf16) (x5 : Vec Ideal S4096x1024 .bf16) :
    out0_6 (F := Ideal) x0 x1 x2 x3 x4 x5 (ix2 r j) = ffn (resid (row x0 r) (row x1 r) (row x2)) (row x3 0) (row x4) (row x5) j := by
  frame_out
  rw [pay1_at, pay4_at]
  simp only [pay5_at]
  rw [← ffn_parts]
  have e : row (k0_pay3 (F := Ideal) x0 x1 x2 x3) r = norm (resid (row x0 r) (row x1 r) (row x2)) (row x3 0) :=
    funext fun j => pay3_at ..
  simp only [e]
  unfold part
  pointwise

end Block

variable (m : (ℓ : Loc nD τ sig) → Buf (Elt Ideal) ℓ)

/-- The windows' blocks at a grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The result array after the run is the reference's. -/
theorem final (c : Dev nD) : (dats m 0 c).arrAt 6 cfg0.N
    = PostMlaRef.result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  refine (dats m 0 c).arrAt_eq_of_covers 6 _ (by decide +kernel) fun t _ y => ?_
  blk_simp
  rw [after0_6]
  obtain ⟨r, j, rfl⟩ : ∃ (r : Fin 512) (j : Fin 1024), y = ix2 r j := ⟨y 0, y 1, eq_ix2 y⟩
  have hN : t.val < 32 := t.isLt
  have he : ((cfg0.win 6).blk t).view.emb (ix2 r j) = ix2 ⟨512 * t.val + r.val, by omega⟩ j := by blk_ext [idx t]
  have h0 : row (iblk m c 0 t) r = row (m ((c.tc : Thread nD τ).loc main_arg0)) ⟨512 * t.val + r.val, by omega⟩ :=
    funext fun k => by blk_ext [row, iblk, V, idx t]
  have h1 : row (iblk m c 1 t) r = row (m ((c.tc : Thread nD τ).loc main_arg1)) ⟨512 * t.val + r.val, by omega⟩ :=
    funext fun k => by blk_ext [row, iblk, V, idx t]
  have h2 : row (iblk m c 2 t) = row (m ((c.tc : Thread nD τ).loc main_arg2)) :=
    funext fun r => funext fun k => by blk_ext [row, iblk, V, idx t]
  have h3 : row (iblk m c 3 t) 0 = row (m ((c.tc : Thread nD τ).loc main_arg3)) 0 :=
    funext fun k => by blk_ext [row, iblk, V, idx t]
  have h4 : row (iblk m c 4 t) = row (m ((c.tc : Thread nD τ).loc main_arg4)) :=
    funext fun r => funext fun k => by blk_ext [row, iblk, V, idx t]
  have h5 : row (iblk m c 5 t) = row (m ((c.tc : Thread nD τ).loc main_arg5)) :=
    funext fun r => funext fun k => by blk_ext [row, iblk, V, idx t]
  rw [he, PostMlaRef.result_at, out_at, h0, h1, h2, h3, h4, h5]

end Cert.PostMlaValue
-- ==== Proof.PostMlaClaims.lean ====
/-
  The claims about what follows the attention of a latent layer: the runs end, the idealization is licensed, and the kernel's result is the reference's.
-/
module

public import proofs.«01_k».proof.Defs
public import proofs.«01_k».proof.Proof.Gen.PostMla.Frame
public import proofs.«01_k».proof.Proof.Gen.PostMlaIdeal.Frame
public import proofs.«01_k».proof.Proof.Gen.PostMlaIdeal.Value
public import proofs.«01_k».proof.Proof.Gen.PostMlaRefIdeal.Run
public import proofs.«01_k».proof.Proof.PostMlaValue
public import Idealize.ShloMosaic.Lib.Quiescent

@[expose] public section

set_option maxRecDepth 16384

noncomputable section

namespace Cert.PostMlaClaims

open Idealize.ShloMosaic Idealize.ShloMosaic.TcCoe Idealize.SL.Sem

/-- The kernel runs to its end, keeps its arguments, and leaves no counter raised. -/
theorem frame_kernel : Cert.quiescent_PostMla := fun m ρ _ => Cert.PostMla.Gen.frame m ρ

/-- The idealized kernel does too. -/
theorem frame_ideal : Cert.quiescent_PostMlaIdeal := fun m ρ _ => Cert.PostMlaIdeal.Gen.frame m ρ

/-- The reference does too. -/
theorem frame_reference : Cert.quiescent_PostMlaRefIdeal := fun m ρ _ =>
  (θ_run Cert.PostMlaRefIdeal.defs _ _).mono
    (fun r h => ⟨fun c => (h c).2, Idealize.ShloMosaic.sem_eq_zero_of_no_sems (by decide) r.2⟩)
    (Cert.PostMlaRefIdeal.Value.run (F := Ideal) m ρ)

/-- The kernel and its idealization differ in no operation. -/
theorem preserves : Cert.preserves_PostMla_PostMlaIdeal := trivial

/-- The output projection, the normalization and the feed-forward part, taken hidden block by hidden block, add up to the reference's. -/
theorem algebraic : Cert.algebraic_PostMlaIdeal_PostMlaRefIdeal := by
  intro m ρ m' ρ' _ args
  refine ⟨fun c => Cert.PostMlaRef.result (m ((c.tc : Thread Cert.PostMlaIdeal.nD Cert.PostMlaIdeal.τ).loc Cert.PostMlaIdeal.main_arg0)) (m ((c.tc : Thread Cert.PostMlaIdeal.nD Cert.PostMlaIdeal.τ).loc Cert.PostMlaIdeal.main_arg1)) (m ((c.tc : Thread Cert.PostMlaIdeal.nD Cert.PostMlaIdeal.τ).loc Cert.PostMlaIdeal.main_arg2)) (m ((c.tc : Thread Cert.PostMlaIdeal.nD Cert.PostMlaIdeal.τ).loc Cert.PostMlaIdeal.main_arg3)) (m ((c.tc : Thread Cert.PostMlaIdeal.nD Cert.PostMlaIdeal.τ).loc Cert.PostMlaIdeal.main_arg4)) (m ((c.tc : Thread Cert.PostMlaIdeal.nD Cert.PostMlaIdeal.τ).loc Cert.PostMlaIdeal.main_arg5)),
    (θ_run Cert.PostMlaIdeal.defs _ _).mono (fun r h c => ⟨(h c).1.trans (Cert.PostMlaValue.final m c), (h c).2⟩)
      (Cert.PostMlaIdeal.Value.run_blocks (F := Ideal) m ρ), ?_⟩
  refine (θ_run Cert.PostMlaRefIdeal.defs _ _).mono (fun r h c => ⟨(h c).1.trans ?_, (h c).2⟩)
    (Cert.PostMlaRefIdeal.Value.run (F := Ideal) m' ρ')
  obtain ⟨h0, h1, h2, h3, h4, h5⟩ := args c
  show Cert.PostMlaRef.result (m' ((c.tc : Thread Cert.PostMlaRefIdeal.nD Cert.PostMlaRefIdeal.τ).loc Cert.PostMlaRefIdeal.main_arg0)) (m' ((c.tc : Thread Cert.PostMlaRefIdeal.nD Cert.PostMlaRefIdeal.τ).loc Cert.PostMlaRefIdeal.main_arg1)) (m' ((c.tc : Thread Cert.PostMlaRefIdeal.nD Cert.PostMlaRefIdeal.τ).loc Cert.PostMlaRefIdeal.main_arg2)) (m' ((c.tc : Thread Cert.PostMlaRefIdeal.nD Cert.PostMlaRefIdeal.τ).loc Cert.PostMlaRefIdeal.main_arg3)) (m' ((c.tc : Thread Cert.PostMlaRefIdeal.nD Cert.PostMlaRefIdeal.τ).loc Cert.PostMlaRefIdeal.main_arg4)) (m' ((c.tc : Thread Cert.PostMlaRefIdeal.nD Cert.PostMlaRefIdeal.τ).loc Cert.PostMlaRefIdeal.main_arg5)) = _
  rw [h0, h1, h2, h3, h4, h5]

end Cert.PostMlaClaims

end
-- ==== Proof.PostDilRef.lean ====
/-
  The second half of a dilated layer: the reference, row by row.
-/
module

public import proofs.«01_k».proof.Proof.Gen.PostDilRefIdeal.Run
public import proofs.«01_k».proof.Proof.PostRow
public import Idealize.ShloMosaic.Lib.Pointwise

@[expose] public section

set_option maxRecDepth 16384

noncomputable section

namespace Cert.PostDilRef

open Cert.PostDilRefIdeal Cert.PostDilRefIdeal.Gen Cert.PostRow
open Idealize.ShloMosaic Idealize.ShloMosaic.TcCoe Idealize.SL.Sem

variable (x : FVec Ideal S16384x1024 .f32) (o : FVec Ideal S16384x512 .bf16) (wo : FVec Ideal S512x1024 .bf16) (g : FVec Ideal S1x1024 .f32)
  (up : FVec Ideal S1024x4096 .bf16) (dn : FVec Ideal S4096x1024 .bf16) (R : Fin 16384) (j : Fin 1024)

/-- The reference's residual. -/
def resids : FVec Ideal S16384x1024 .f32 :=
  addf x (Host.dotGeneral dot_S16384x512_S512x1024_S16384x1024_1_0_0_1_n_n none (extf .f32 o bitsLt_bf16_f32) (extf .f32 wo bitsLt_bf16_f32))

/-- The reference's normalised rows. -/
def norms (y : FVec Ideal S16384x1024 .f32) (g : FVec Ideal S1x1024 .f32) : FVec Ideal S16384x1024 .f32 :=
  mulf (mulf y (broadcastInDim S16384x1024 ![0, 1] bcast_S16384x1_S16384x1024_0_1 (Host.rsqrt (addf (Host.divf (broadcastInDim S16384x1 ![0] bcast_S16384_S16384x1_0 (Host.reduceAdd (mulf y y) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 g)

/-- The reference's hidden numbers. -/
def hiddens (h : FVec Ideal S16384x1024 .f32) (up : FVec Ideal S1024x4096 .bf16) : FVec Ideal S16384x4096 .f32 :=
  maximumf (Host.dotGeneral dot_S16384x1024_S1024x4096_S16384x4096_1_0_0_1_n_n none h (extf .f32 up bitsLt_bf16_f32)) (broadcastInDim S16384x4096 ![] bcast_S_S16384x4096 (constant S_ .f32 0x00000000#32))

/-- The reference's result. -/
def result : FVec Ideal S16384x1024 .f32 :=
  addf (resids x o wo) (Host.dotGeneral dot_S16384x4096_S4096x1024_S16384x1024_1_0_0_1_n_n none
    (mulf (hiddens (norms (resids x o wo) g) up) (hiddens (norms (resids x o wo) g) up)) (extf .f32 dn bitsLt_bf16_f32))

/-- The reference's residual at a place. -/
theorem resids_at : resids x o wo (ix2 R j) = resid (row x R) (row o R) (row wo) j := by
  pointwise [resids]
  rfl

/-- The reference's normalised row at a place. -/
theorem norms_at (y : FVec Ideal S16384x1024 .f32) : norms y g (ix2 R j) = norm (row y R) (row g 0) j := by
  pointwise [norms]
  rfl

/-- The reference's hidden numbers at a place. -/
theorem hiddens_at (h : FVec Ideal S16384x1024 .f32) (f : Fin 4096) :
    hiddens h up (ix2 R f) = max (∑ k, h (ix2 R k) * up (ix2 k f)) 0 := by
  pointwise [hiddens]

/-- The reference's result at a place. -/
theorem result_at : result x o wo g up dn (ix2 R j)
    = ffn (resid (row x R) (row o R) (row wo)) (row g 0) (row up) (row dn) j := by
  have e : ∀ k, norms (resids x o wo) g (ix2 R k) = norm (resid (row x R) (row o R) (row wo)) (row g 0) k := fun k => by
    rw [norms_at, show row (resids x o wo) R = _ from funext fun k => resids_at x o wo R k]
  pointwise [result]
  rw [resids_at]
  simp only [hiddens_at, e]
  rfl

end Cert.PostDilRef
-- ==== Proof.PostDilValue.lean ====
/-
  The second half of a dilated layer: the kernel's result array is the reference's.
-/
module

public import proofs.«01_k».proof.Proof.Gen.PostDilIdeal.Value
public import proofs.«01_k».proof.Proof.PostDilRef
public import Idealize.ShloMosaic.Lib.Pipeline.ValueKit
public import Idealize.ShloMosaic.Lib.Pointwise

@[expose] public section

set_option maxRecDepth 16384

noncomputable section

namespace Cert.PostDilValue

open Cert.PostDilIdeal Cert.PostDilIdeal.Gen Cert.PostRow
open Idealize.ShloMosaic Idealize.ShloMosaic.TcCoe Idealize.SL.Sem

section Block

variable (v0 : Vec Ideal S512x1024 .f32) (v1 : Vec Ideal S512x512 .bf16) (v2 : Vec Ideal S512x1024 .bf16) (v5 : Vec Ideal S1x1024 .f32)
  (u d : Vec Ideal S1024x1024 .bf16) (r : Fin 512) (j : Fin 1024)

/-- The residual of a row of a block. -/
theorem pay2_at : k0_pay2 v0 v1 v2 (ix2 r j) = resid (row v0 r) (row v1 r) (row v2) j := by
  pointwise [k0_pay2]
  rfl

/-- The normalised row of a block. -/
theorem pay3_at : k0_pay3 v0 v1 v2 v5 (ix2 r j) = norm (resid (row v0 r) (row v1 r) (row v2)) (row v5 0) j := by
  pointwise [k0_pay3]
  simp only [pay2_at]
  rfl

/-- The residual plus the first part of the network. -/
theorem pay4_at : k0_pay4 v0 v1 v2 v5 u d (ix2 r j) = resid (row v0 r) (row v1 r) (row v2) j
    + ∑ f : Fin 1024, hidden (row (k0_pay3 v0 v1 v2 v5) r) (fun k => u (ix2 k f)) * d (ix2 f j) := by
  pointwise [k0_pay4]
  rw [pay2_at]
  rfl

/-- The hidden numbers of the second part. -/
theorem pay5_at : k0_pay5 v0 v1 v2 v5 u (ix2 r j) = hidden (row (k0_pay3 v0 v1 v2 v5) r) (fun k => u (ix2 k j)) := by
  pointwise [k0_pay5]
  rfl

/-- The other parts of the network, added in order. -/
theorem pay1_at (h : FVec Ideal S512x1024 .bf16) (a : FVec Ideal S512x1024 .f32) (h1 : FVec Ideal S512x1024 .bf16)
    (d1 u2 d2 u3 d3 : Vec Ideal S1024x1024 .bf16) : k0_pay1 h a h1 d1 u2 d2 u3 d3 (ix2 r j) = a (ix2 r j)
      + (∑ f : Fin 1024, h1 (ix2 r f) * d1 (ix2 f j))
      + (∑ f : Fin 1024, hidden (row h r) (fun k => u2 (ix2 k f)) * d2 (ix2 f j))
      + ∑ f : Fin 1024, hidden (row h r) (fun k => u3 (ix2 k f)) * d3 (ix2 f j) := by
  pointwise [k0_pay1]
  rfl

/-- What a block stores, row by row. -/
theorem out_at (x0 : Vec Ideal S512x1024 .f32) (x1 : Vec Ideal S512x512 .bf16) (x2 : Vec Ideal S512x1024 .bf16) (x3 : Vec Ideal S1x1024 .f32)
    (x4 : Vec Ideal S1024x4096 .bf16) (x5 : Vec Ideal S4096x1024 .bf16) :
    out0_6 (F := Ideal) x0 x1 x2 x3 x4 x5 (ix2 r j) = ffn (resid (row x0 r) (row x1 r) (row x2)) (row x3 0) (row x4) (row x5) j := by
  frame_out
  rw [pay1_at, pay4_at]
  simp only [pay5_at]
  rw [← ffn_parts]
  have e : row (k0_pay3 (F := Ideal) x0 x1 x2 x3) r = norm (resid (row x0 r) (row x1 r) (row x2)) (row x3 0) :=
    funext fun j => pay3_at ..
  simp only [e]
  unfold part
  pointwise

end Block

variable (m : (ℓ : Loc nD τ sig) → Buf (Elt Ideal) ℓ)

/-- The windows' blocks at a grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The result array after the run is the reference's. -/
theorem final (c : Dev nD) : (dats m 0 c).arrAt 6 cfg0.N
    = PostDilRef.result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  refine (dats m 0 c).arrAt_eq_of_covers 6 _ (by decide +kernel) fun t _ y => ?_
  blk_simp
  rw [after0_6]
  obtain ⟨r, j, rfl⟩ : ∃ (r : Fin 512) (j : Fin 1024), y = ix2 r j := ⟨y 0, y 1, eq_ix2 y⟩
  have hN : t.val < 32 := t.isLt
  have he : ((cfg0.win 6).blk t).view.emb (ix2 r j) = ix2 ⟨512 * t.val + r.val, by omega⟩ j := by blk_ext [idx t]
  have h0 : row (iblk m c 0 t) r = row (m ((c.tc : Thread nD τ).loc main_arg0)) ⟨512 * t.val + r.val, by omega⟩ :=
    funext fun k => by blk_ext [row, iblk, V, idx t]
  have h1 : row (iblk m c 1 t) r = row (m ((c.tc : Thread nD τ).loc main_arg1)) ⟨512 * t.val + r.val, by omega⟩ :=
    funext fun k => by blk_ext [row, iblk, V, idx t]
  have h2 : row (iblk m c 2 t) = row (m ((c.tc : Thread nD τ).loc main_arg2)) :=
    funext fun r => funext fun k => by blk_ext [row, iblk, V, idx t]
  have h3 : row (iblk m c 3 t) 0 = row (m ((c.tc : Thread nD τ).loc main_arg3)) 0 :=
    funext fun k => by blk_ext [row, iblk, V, idx t]
  have h4 : row (iblk m c 4 t) = row (m ((c.tc : Thread nD τ).loc main_arg4)) :=
    funext fun r => funext fun k => by blk_ext [row, iblk, V, idx t]
  have h5 : row (iblk m c 5 t) = row (m ((c.tc : Thread nD τ).loc main_arg5)) :=
    funext fun r => funext fun k => by blk_ext [row, iblk, V, idx t]
  rw [he, PostDilRef.result_at, out_at, h0, h1, h2, h3, h4, h5]

end Cert.PostDilValue
-- ==== Proof.PostFinalValue.lean ====
/-
  The second half of the last layer: the kernel's result array is the reference's. Up to the final
  normalisation it is the second half of a dilated layer.
-/
module

public import proofs.«01_k».proof.Proof.Gen.PostFinalIdeal.Value
public import proofs.«01_k».proof.Proof.Gen.PostFinalRefIdeal.Run
public import proofs.«01_k».proof.Proof.PostDilValue

@[expose] public section

set_option maxRecDepth 16384

noncomputable section

namespace Cert.PostFinalValue

open Cert.PostFinalIdeal Cert.PostFinalIdeal.Gen Cert.PostRow
open Idealize.ShloMosaic Idealize.ShloMosaic.TcCoe Idealize.SL.Sem

/-- The reference's result: the normalised result of a dilated layer's second half. -/
def result (x : FVec Ideal S16384x1024 .f32) (o : FVec Ideal S16384x512 .bf16) (wo : FVec Ideal S512x1024 .bf16) (g : FVec Ideal S1x1024 .f32)
    (up : FVec Ideal S1024x4096 .bf16) (dn : FVec Ideal S4096x1024 .bf16) (gfin : FVec Ideal S1x1024 .f32) : FVec Ideal S16384x1024 .f32 :=
  PostDilRef.norms (PostDilRef.result x o wo g up dn) gfin

section Block

variable (v0 : Vec Ideal S512x1024 .f32) (v1 : Vec Ideal S512x512 .bf16) (v2 : Vec Ideal S512x1024 .bf16) (v5 : Vec Ideal S1x1024 .f32)
  (u d : Vec Ideal S1024x1024 .bf16) (r : Fin 512) (j : Fin 1024)

/-- The residual of a row of a block. -/
theorem pay2_at : k0_pay2 v0 v1 v2 (ix2 r j) = resid (row v0 r) (row v1 r) (row v2) j := PostDilValue.pay2_at v0 v1 v2 r j

/-- The normalised row of a block. -/
theorem pay3_at : k0_pay3 v0 v1 v2 v5 (ix2 r j) = norm (resid (row v0 r) (row v1 r) (row v2)) (row v5 0) j :=
  PostDilValue.pay3_at v0 v1 v2 v5 r j

/-- The residual plus the first part of the network. -/
theorem pay4_at : k0_pay4 v0 v1 v2 v5 u d (ix2 r j) = resid (row v0 r) (row v1 r) (row v2) j
    + ∑ f : Fin 1024, hidden (row (k0_pay3 v0 v1 v2 v5) r) (fun k => u (ix2 k f)) * d (ix2 f j) :=
  PostDilValue.pay4_at v0 v1 v2 v5 u d r j

/-- The hidden numbers of the second part. -/
theorem pay5_at : k0_pay5 v0 v1 v2 v5 u (ix2 r j) = hidden (row (k0_pay3 v0 v1 v2 v5) r) (fun k => u (ix2 k j)) :=
  PostDilValue.pay5_at v0 v1 v2 v5 u r j

/-- The other parts of the network, added in order, and the final normalisation. -/
theorem pay1_at (h : FVec Ideal S512x1024 .bf16) (a : FVec Ideal S512x1024 .f32) (h1 : FVec Ideal S512x1024 .bf16)
    (d1 u2 d2 u3 d3 : Vec Ideal S1024x1024 .bf16) (w : Vec Ideal S1x1024 .f32) :
    k0_pay1 h a h1 d1 u2 d2 u3 d3 w (ix2 r j) = norm (fun j => a (ix2 r j)
      + (∑ f : Fin 1024, h1 (ix2 r f) * d1 (ix2 f j))
      + (∑ f : Fin 1024, hidden (row h r) (fun k => u2 (ix2 k f)) * d2 (ix2 f j))
      + ∑ f : Fin 1024, hidden (row h r) (fun k => u3 (ix2 k f)) * d3 (ix2 f j)) (row w 0) j := by
  pointwise [k0_pay1]
  rfl

/-- What a block stores, row by row. -/
theorem out_at (x0 : Vec Ideal S512x1024 .f32) (x1 : Vec Ideal S512x512 .bf16) (x2 : Vec Ideal S512x1024 .bf16) (x3 : Vec Ideal S1x1024 .f32)
    (x4 : Vec Ideal S1024x4096 .bf16) (x5 : Vec Ideal S4096x1024 .bf16) (x6 : Vec Ideal S1x1024 .f32) :
    out0_7 (F := Ideal) x0 x1 x2 x3 x4 x5 x6 (ix2 r j)
      = norm (ffn (resid (row x0 r) (row x1 r) (row x2)) (row x3 0) (row x4) (row x5)) (row x6 0) j := by
  frame_out
  rw [pay1_at]
  refine congrArg (fun x => norm x _ j) (funext fun j => ?_)
  rw [pay4_at]
  simp only [pay5_at]
  rw [← ffn_parts]
  have e : row (k0_pay3 (F := Ideal) x0 x1 x2 x3) r = norm (resid (row x0 r) (row x1 r) (row x2)) (row x3 0) :=
    funext fun j => pay3_at ..
  simp only [e]
  unfold part
  pointwise

end Block

/-- The reference's result at a place. -/
theorem result_at (x : FVec Ideal S16384x1024 .f32) (o : FVec Ideal S16384x512 .bf16) (wo : FVec Ideal S512x1024 .bf16) (g : FVec Ideal S1x1024 .f32)
    (up : FVec Ideal S1024x4096 .bf16) (dn : FVec Ideal S4096x1024 .bf16) (gfin : FVec Ideal S1x1024 .f32) (R : Fin 16384) (j : Fin 1024) :
    result x o wo g up dn gfin (ix2 R j)
      = norm (ffn (resid (row x R) (row o R) (row wo)) (row g 0) (row up) (row dn)) (row gfin 0) j := by
  rw [result, PostDilRef.norms_at]
  exact congrArg (fun x => norm x _ j) (funext fun j => PostDilRef.result_at x o wo g up dn R j)

/-- The reference program's result is `result` of its arguments. -/
theorem res_eq (m : (ℓ : Loc Cert.PostFinalRefIdeal.nD Cert.PostFinalRefIdeal.τ Cert.PostFinalRefIdeal.sig) → Buf (Elt Ideal) ℓ)
    (c : Dev Cert.PostFinalRefIdeal.nD) : PostFinalRefIdeal.Value.res_main_v34 m c
      = result (m ((c.tc : Thread _ Cert.PostFinalRefIdeal.τ).loc Cert.PostFinalRefIdeal.main_arg0)) (m ((c.tc : Thread _ Cert.PostFinalRefIdeal.τ).loc Cert.PostFinalRefIdeal.main_arg1))
          (m ((c.tc : Thread _ Cert.PostFinalRefIdeal.τ).loc Cert.PostFinalRefIdeal.main_arg2)) (m ((c.tc : Thread _ Cert.PostFinalRefIdeal.τ).loc Cert.PostFinalRefIdeal.main_arg3))
          (m ((c.tc : Thread _ Cert.PostFinalRefIdeal.τ).loc Cert.PostFinalRefIdeal.main_arg4)) (m ((c.tc : Thread _ Cert.PostFinalRefIdeal.τ).loc Cert.PostFinalRefIdeal.main_arg5))
          (m ((c.tc : Thread _ Cert.PostFinalRefIdeal.τ).loc Cert.PostFinalRefIdeal.main_arg6)) := rfl

variable (m : (ℓ : Loc nD τ sig) → Buf (Elt Ideal) ℓ)

/-- The windows' blocks at a grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0] ∧ win0_7.index t = ![t.val, 0] :=
  (by decide +kernel : ∀ t : Fin grid0.N, _)

/-- The result array after the run is the reference's. -/
theorem final (c : Dev nD) : (dats m 0 c).arrAt 7 cfg0.N
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  refine (dats m 0 c).arrAt_eq_of_covers 7 _ (by decide +kernel) fun t _ y => ?_
  blk_simp
  rw [after0_7]
  obtain ⟨r, j, rfl⟩ : ∃ (r : Fin 512) (j : Fin 1024), y = ix2 r j := ⟨y 0, y 1, eq_ix2 y⟩
  have hN : t.val < 32 := t.isLt
  have he : ((cfg0.win 7).blk t).view.emb (ix2 r j) = ix2 ⟨512 * t.val + r.val, by omega⟩ j := by blk_ext [idx t]
  have h0 : row (iblk m c 0 t) r = row (m ((c.tc : Thread nD τ).loc main_arg0)) ⟨512 * t.val + r.val, by omega⟩ :=
    funext fun k => by blk_ext [row, iblk, V, idx t]
  have h1 : row (iblk m c 1 t) r = row (m ((c.tc : Thread nD τ).loc main_arg1)) ⟨512 * t.val + r.val, by omega⟩ :=
    funext fun k => by blk_ext [row, iblk, V, idx t]
  have h2 : row (iblk m c 2 t) = row (m ((c.tc : Thread nD τ).loc main_arg2)) :=
    funext fun r => funext fun k => by blk_ext [row, iblk, V, idx t]
  have h3 : row (iblk m c 3 t) 0 = row (m ((c.tc : Thread nD τ).loc main_arg3)) 0 :=
    funext fun k => by blk_ext [row, iblk, V, idx t]
  have h4 : row (iblk m c 4 t) = row (m ((c.tc : Thread nD τ).loc main_arg4)) :=
    funext fun r => funext fun k => by blk_ext [row, iblk, V, idx t]
  have h5 : row (iblk m c 5 t) = row (m ((c.tc : Thread nD τ).loc main_arg5)) :=
    funext fun r => funext fun k => by blk_ext [row, iblk, V, idx t]
  have h6 : row (iblk m c 6 t) 0 = row (m ((c.tc : Thread nD τ).loc main_arg6)) 0 :=
    funext fun k => by blk_ext [row, iblk, V, idx t]
  rw [he, result_at, out_at, h0, h1, h2, h3, h4, h5, h6]

end Cert.PostFinalValue
-- ==== Proof.PostFinalClaims.lean ====
/-
  The claims about what follows the attention of the last layer: the runs end, the idealization is licensed, and the kernel's result is the reference's.
-/
module

public import proofs.«01_k».proof.Defs
public import proofs.«01_k».proof.Proof.Gen.PostFinal.Frame
public import proofs.«01_k».proof.Proof.Gen.PostFinalIdeal.Frame
public import proofs.«01_k».proof.Proof.Gen.PostFinalIdeal.Value
public import proofs.«01_k».proof.Proof.Gen.PostFinalRefIdeal.Run
public import proofs.«01_k».proof.Proof.PostFinalValue
public import Idealize.ShloMosaic.Lib.Quiescent

@[expose] public section

set_option maxRecDepth 16384

noncomputable section

namespace Cert.PostFinalClaims

open Idealize.ShloMosaic Idealize.ShloMosaic.TcCoe Idealize.SL.Sem

/-- The kernel runs to its end, keeps its arguments, and leaves no counter raised. -/
theorem frame_kernel : Cert.quiescent_PostFinal := fun m ρ _ => Cert.PostFinal.Gen.frame m ρ

/-- The idealized kernel does too. -/
theorem frame_ideal : Cert.quiescent_PostFinalIdeal := fun m ρ _ => Cert.PostFinalIdeal.Gen.frame m ρ

/-- The reference does too. -/
theorem frame_reference : Cert.quiescent_PostFinalRefIdeal := fun m ρ _ =>
  (θ_run Cert.PostFinalRefIdeal.defs _ _).mono
    (fun r h => ⟨fun c => (h c).2, Idealize.ShloMosaic.sem_eq_zero_of_no_sems (by decide) r.2⟩)
    (Cert.PostFinalRefIdeal.Value.run (F := Ideal) m ρ)

/-- The kernel and its idealization differ in no operation. -/
theorem preserves : Cert.preserves_PostFinal_PostFinalIdeal := trivial

/-- The last layer's feed-forward part and the final normalization give the reference's hidden states. -/
theorem algebraic : Cert.algebraic_PostFinalIdeal_PostFinalRefIdeal := by
  intro m ρ m' ρ' _ args
  refine ⟨fun c => Cert.PostFinalValue.result (m ((c.tc : Thread Cert.PostFinalIdeal.nD Cert.PostFinalIdeal.τ).loc Cert.PostFinalIdeal.main_arg0)) (m ((c.tc : Thread Cert.PostFinalIdeal.nD Cert.PostFinalIdeal.τ).loc Cert.PostFinalIdeal.main_arg1)) (m ((c.tc : Thread Cert.PostFinalIdeal.nD Cert.PostFinalIdeal.τ).loc Cert.PostFinalIdeal.main_arg2)) (m ((c.tc : Thread Cert.PostFinalIdeal.nD Cert.PostFinalIdeal.τ).loc Cert.PostFinalIdeal.main_arg3)) (m ((c.tc : Thread Cert.PostFinalIdeal.nD Cert.PostFinalIdeal.τ).loc Cert.PostFinalIdeal.main_arg4)) (m ((c.tc : Thread Cert.PostFinalIdeal.nD Cert.PostFinalIdeal.τ).loc Cert.PostFinalIdeal.main_arg5)) (m ((c.tc : Thread Cert.PostFinalIdeal.nD Cert.PostFinalIdeal.τ).loc Cert.PostFinalIdeal.main_arg6)),
    (θ_run Cert.PostFinalIdeal.defs _ _).mono (fun r h c => ⟨(h c).1.trans (Cert.PostFinalValue.final m c), (h c).2⟩)
      (Cert.PostFinalIdeal.Value.run_blocks (F := Ideal) m ρ), ?_⟩
  refine (θ_run Cert.PostFinalRefIdeal.defs _ _).mono (fun r h c => ⟨(h c).1.trans ?_, (h c).2⟩)
    (Cert.PostFinalRefIdeal.Value.run (F := Ideal) m' ρ')
  obtain ⟨h0, h1, h2, h3, h4, h5, h6⟩ := args c
  show Cert.PostFinalValue.result (m' ((c.tc : Thread Cert.PostFinalRefIdeal.nD Cert.PostFinalRefIdeal.τ).loc Cert.PostFinalRefIdeal.main_arg0)) (m' ((c.tc : Thread Cert.PostFinalRefIdeal.nD Cert.PostFinalRefIdeal.τ).loc Cert.PostFinalRefIdeal.main_arg1)) (m' ((c.tc : Thread Cert.PostFinalRefIdeal.nD Cert.PostFinalRefIdeal.τ).loc Cert.PostFinalRefIdeal.main_arg2)) (m' ((c.tc : Thread Cert.PostFinalRefIdeal.nD Cert.PostFinalRefIdeal.τ).loc Cert.PostFinalRefIdeal.main_arg3)) (m' ((c.tc : Thread Cert.PostFinalRefIdeal.nD Cert.PostFinalRefIdeal.τ).loc Cert.PostFinalRefIdeal.main_arg4)) (m' ((c.tc : Thread Cert.PostFinalRefIdeal.nD Cert.PostFinalRefIdeal.τ).loc Cert.PostFinalRefIdeal.main_arg5)) (m' ((c.tc : Thread Cert.PostFinalRefIdeal.nD Cert.PostFinalRefIdeal.τ).loc Cert.PostFinalRefIdeal.main_arg6)) = _
  rw [h0, h1, h2, h3, h4, h5, h6]

end Cert.PostFinalClaims

end
-- ==== Proof.DilProjRef.lean ====
/-
  The projections of a dilated layer: the reference, row by row.
-/
module

public import proofs.«01_k».proof.Proof.Gen.DilProjRefIdeal.Run
public import proofs.«01_k».proof.Proof.PostDilRef
public import Idealize.ShloMosaic.Lib.Pointwise

@[expose] public section

set_option maxRecDepth 16384

noncomputable section

namespace Cert.DilProjRef

open Cert.DilProjRefIdeal Cert.DilProjRefIdeal.Gen Cert.PostRow
open Idealize.ShloMosaic Idealize.ShloMosaic.TcCoe Idealize.SL.Sem

variable (x : FVec Ideal S16384x1024 .f32) (g : FVec Ideal S1x1024 .f32) (w : FVec Ideal S1024x4608 .bf16)

/-- The normalised rows times the weights, split into groups and the three parts of a group. -/
def proj : FVec Ideal S16384x3x3x512 .f32 :=
  shapeCast S16384x3x3x512 (Host.dotGeneral dot_S16384x1024_S1024x4608_S16384x4608_1_0_0_1_n_n none (PostDilRef.norms x g) (extf .f32 w bitsLt_bf16_f32)) shapeCasts_S16384x4608_S16384x3x3x512

/-- The scaled queries, group by group. -/
def queries : FVec Ideal S3x16384x512 .f32 :=
  transpose S3x16384x512 [1, 0, 2] (mulf (shapeCast S16384x3x512 (extractStridedSlice S16384x3x1x512 ![0, 0, 0, 0] (proj x g w) slices_S16384x3x3x512_S16384x3x1x512_0_0_0_0) shapeCasts_S16384x3x1x512_S16384x3x512) (broadcastInDim S16384x3x512 ![] bcast_S_S16384x3x512 (constant S_ .f32 0x3E000000#32))) transposes_S16384x3x512_S3x16384x512_1_0_2

/-- The keys and values, group by group. -/
def kvs : FVec Ideal S3x16384x1024 .f32 :=
  transpose S3x16384x1024 [1, 0, 2] (shapeCast S16384x3x1024 (extractStridedSlice S16384x3x2x512 ![0, 0, 1, 0] (proj x g w) slices_S16384x3x3x512_S16384x3x2x512_0_0_1_0) shapeCasts_S16384x3x2x512_S16384x3x1024) transposes_S16384x3x1024_S3x16384x1024_1_0_2

/-- A projection at a place. -/
theorem proj_at (R : Fin 16384) (n p : Fin 3) (e : Fin 512) : proj x g w (ix4 R n p e)
    = ∑ k, norm (row x R) (row g 0) k * w (ix2 k ⟨n.val * 1536 + p.val * 512 + e.val, by omega⟩) := by
  pointwise [proj]
  simp only [PostDilRef.norms_at]

/-- A scaled query at a place. -/
theorem queries_at (n : Fin 3) (R : Fin 16384) (e : Fin 512) : queries x g w (ix3 n R e)
    = (∑ k, norm (row x R) (row g 0) k * w (ix2 k ⟨n.val * 1536 + e.val, by omega⟩)) * Ideal.ofBits FTy.f32 0x3E000000#32 := by
  pointwise [queries]
  simp only [proj_at]
  rfl

/-- A key or value at a place. -/
theorem kvs_at (n : Fin 3) (R : Fin 16384) (e : Fin 1024) : kvs x g w (ix3 n R e)
    = ∑ k, norm (row x R) (row g 0) k * w (ix2 k ⟨n.val * 1536 + (512 + e.val), by omega⟩) := by
  pointwise [kvs]
  rw [proj_at]
  refine Finset.sum_congr rfl fun k _ => congrArg (fun f => _ * w (ix2 k f)) (Fin.ext ?_)
  dsimp only
  omega

end Cert.DilProjRef
-- ==== Proof.DilProjValue.lean ====
/-
  The projections of a dilated layer: the kernel's two result arrays are the reference's.
-/
module

public import proofs.«01_k».proof.Proof.Gen.DilProjIdeal.Value
public import proofs.«01_k».proof.Proof.DilProjRef
public import Idealize.ShloMosaic.Lib.Pipeline.ValueKit
public import Idealize.ShloMosaic.Lib.Pointwise

@[expose] public section

set_option maxRecDepth 16384

noncomputable section

namespace Cert.DilProjValue

open Cert.DilProjIdeal Cert.DilProjIdeal.Gen Cert.PostRow
open Idealize.ShloMosaic Idealize.ShloMosaic.TcCoe Idealize.SL.Sem

section Block

variable (v0 : Vec Ideal S256x1024 .f32) (v1 : Vec Ideal S1x1024 .f32) (h : FVec Ideal S256x1024 .bf16) (w : Vec Ideal S1024x1536 .bf16)
  (r : Fin 256)

/-- The normalised row of a block. -/
theorem pay6_at (k : Fin 1024) : k0_pay6 v0 v1 (ix2 r k) = norm (row v0 r) (row v1 0) k := by
  pointwise [k0_pay6]
  rfl

/-- The projection of the third group. -/
theorem pay3_at (j : Fin 1536) : k0_pay3 h w (ix2 r j) = ∑ k, h (ix2 r k) * w (ix2 k j) := by
  pointwise [k0_pay3]

/-- The projection of the first group. -/
theorem pay7_at (j : Fin 1536) : k0_pay7 v0 v1 w (ix2 r j) = ∑ k, norm (row v0 r) (row v1 0) k * w (ix2 k j) := by
  pointwise [k0_pay7]
  simp only [pay6_at]

/-- The projection of the second group. -/
theorem pay10_at (j : Fin 1536) : k0_pay10 v0 v1 w (ix2 r j) = ∑ k, norm (row v0 r) (row v1 0) k * w (ix2 k j) := by
  pointwise [k0_pay10]
  simp only [pay6_at]

/-- A scaled query of the first group. -/
theorem pay8_at (a : Fin 1) (e : Fin 512) : k0_pay8 v0 v1 w (ix3 a r e)
    = (∑ k, norm (row v0 r) (row v1 0) k * w (ix2 k ⟨e.val, by omega⟩)) * Ideal.ofBits FTy.f32 0x3E000000#32 := by
  pointwise [k0_pay8]
  simp only [pay7_at]

/-- A scaled query of the second group. -/
theorem pay1_at (a : Fin 1) (e : Fin 512) : k0_pay1 (k0_pay11 v0 v1 w) (ix3 a r e)
    = (∑ k, norm (row v0 r) (row v1 0) k * w (ix2 k ⟨e.val, by omega⟩)) * Ideal.ofBits FTy.f32 0x3E000000#32 := by
  pointwise [k0_pay1, k0_pay11]
  simp only [pay10_at]

/-- A scaled query of the third group. -/
theorem pay4_at (a : Fin 1) (e : Fin 512) : k0_pay4 h w (ix3 a r e)
    = (∑ k, h (ix2 r k) * w (ix2 k ⟨e.val, by omega⟩)) * Ideal.ofBits FTy.f32 0x3E000000#32 := by
  pointwise [k0_pay4]
  simp only [pay3_at]

/-- A key or value of the first group. -/
theorem pay9_at (a : Fin 1) (e : Fin 1024) : k0_pay9 v0 v1 w (ix3 a r e)
    = ∑ k, norm (row v0 r) (row v1 0) k * w (ix2 k ⟨512 + e.val, by omega⟩) := by
  pointwise [k0_pay9]
  simp only [pay7_at]

/-- A key or value of the second group. -/
theorem pay2_at (a : Fin 1) (e : Fin 1024) : k0_pay2 (k0_pay10 v0 v1 w) (ix3 a r e)
    = ∑ k, norm (row v0 r) (row v1 0) k * w (ix2 k ⟨512 + e.val, by omega⟩) := by
  pointwise [k0_pay2]
  simp only [pay10_at]

/-- A key or value of the third group. -/
theorem pay5_at (a : Fin 1) (e : Fin 1024) : k0_pay5 h w (ix3 a r e) = ∑ k, h (ix2 r k) * w (ix2 k ⟨512 + e.val, by omega⟩) := by
  pointwise [k0_pay5]
  simp only [pay3_at]

variable (x0 : Vec Ideal S256x1024 .f32) (x1 : Vec Ideal S1x1024 .f32) (x2 : Vec Ideal S1024x4608 .bf16)

/-- The normalised row of a block, as the third group reads it. -/
theorem pay12_at (k : Fin 1024) : k0_pay12 (F := Ideal) x0 x1 x2 (ix2 r k) = norm (row x0 r) (row x1 0) k := by
  unfold k0_pay12
  simp (disch := decide) only [View.ld_unit_lit]
  rw [pay6_at]

/-- A scaled query of a block. -/
theorem query_at (n : Fin 3) (e : Fin 512) : out0_3 (F := Ideal) x0 x1 x2 (ix3 n r e)
    = (∑ k, norm (row x0 r) (row x1 0) k * x2 (ix2 k ⟨n.val * 1536 + e.val, by omega⟩)) * Ideal.ofBits FTy.f32 0x3E000000#32 := by
  canon_tiles x hx
  all_goals
    obtain ⟨a, b, d, rfl⟩ : ∃ a b d, x = ix3 a b d := ⟨x 0, x 1, x 2, eq_ix3 x⟩
    obtain rfl : r = b := Fin.ext hx1
    obtain rfl : e = d := Fin.ext hx2
    have ha : a.val < 1 := a.isLt
  · obtain rfl : n = 2 := Fin.ext (by change n.val = 2 + a.val at hx0; show n.val = 2; omega)
    rw [pay4_at]
    simp only [pay12_at]
    pointwise
  · obtain rfl : n = 1 := Fin.ext (by change n.val = 1 + a.val at hx0; show n.val = 1; omega)
    simp (disch := decide) only [View.ld_unit_lit]
    rw [pay1_at]
    pointwise
  · obtain rfl : n = 0 := Fin.ext (by change n.val = a.val at hx0; show n.val = 0; omega)
    simp (disch := decide) only [View.ld_unit_lit]
    rw [pay8_at]
    pointwise

/-- A key or value of a block. -/
theorem kv_at (n : Fin 3) (e : Fin 1024) : out0_4 (F := Ideal) x0 x1 x2 (ix3 n r e)
    = ∑ k, norm (row x0 r) (row x1 0) k * x2 (ix2 k ⟨n.val * 1536 + (512 + e.val), by omega⟩) := by
  canon_tiles x hx
  all_goals
    obtain ⟨a, b, d, rfl⟩ : ∃ a b d, x = ix3 a b d := ⟨x 0, x 1, x 2, eq_ix3 x⟩
    obtain rfl : r = b := Fin.ext hx1
    obtain rfl : e = d := Fin.ext hx2
    have ha : a.val < 1 := a.isLt
  · obtain rfl : n = 2 := Fin.ext (by change n.val = 2 + a.val at hx0; show n.val = 2; omega)
    rw [pay5_at]
    simp only [pay12_at]
    pointwise
  · obtain rfl : n = 1 := Fin.ext (by change n.val = 1 + a.val at hx0; show n.val = 1; omega)
    simp (disch := decide) only [View.ld_unit_lit]
    rw [pay2_at]
    pointwise
  · obtain rfl : n = 0 := Fin.ext (by change n.val = a.val at hx0; show n.val = 0; omega)
    simp (disch := decide) only [View.ld_unit_lit]
    rw [pay9_at]
    pointwise

end Block

variable (m : (ℓ : Loc nD τ sig) → Buf (Elt Ideal) ℓ)

/-- The windows' blocks at a grid point. -/
theorem idx : ∀ t : Fin cfg0.N, win0_0.index t = ![t.val, 0] ∧ win0_1.index t = ![0, 0] ∧ win0_2.index t = ![0, 0]
    ∧ win0_3.index t = ![0, t.val, 0] ∧ win0_4.index t = ![0, t.val, 0] :=
  (by decide +kernel : ∀ t : Fin grid0.N, _)

/-- A row of the activations' block is a row of the array. -/
theorem rows (c : Dev nD) (t : Fin cfg0.N) (r : Fin 256) : row (iblk m c 0 t) r
    = row (m ((c.tc : Thread nD τ).loc main_arg0)) ⟨256 * t.val + r.val, by have : t.val < 64 := t.isLt; omega⟩ :=
  funext fun k => by blk_ext [row, iblk, V, idx t]

/-- The normalisation's weights' block is the whole array. -/
theorem weights (c : Dev nD) (t : Fin cfg0.N) : row (iblk m c 1 t) 0 = row (m ((c.tc : Thread nD τ).loc main_arg1)) 0 :=
  funext fun k => by blk_ext [row, iblk, V, idx t]

/-- The projection's weights' block is the whole array. -/
theorem columns (c : Dev nD) (t : Fin cfg0.N) (k : Fin 1024) (j : Fin 4608) :
    iblk m c 2 t (ix2 k j) = m ((c.tc : Thread nD τ).loc main_arg2) (ix2 k j) := by
  blk_ext [iblk, V, idx t]

/-- The query array after the run is the reference's. -/
theorem final_queries (c : Dev nD) : (dats m 0 c).arrAt 3 cfg0.N
    = DilProjRef.queries (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  obtain ⟨n, r, e, rfl⟩ : ∃ (n : Fin 3) (r : Fin 256) (e : Fin 512), y = ix3 n r e := ⟨y 0, y 1, y 2, eq_ix3 y⟩
  have hN : t.val < 64 := t.isLt
  have he : ((cfg0.win 3).blk t).view.emb (ix3 n r e) = ix3 n ⟨256 * t.val + r.val, by omega⟩ e := by blk_ext [idx t]
  rw [he, DilProjRef.queries_at, query_at, rows, weights]
  simp only [columns]

/-- The array of keys and values after the run is the reference's. -/
theorem final_kvs (c : Dev nD) : (dats m 0 c).arrAt 4 cfg0.N
    = DilProjRef.kvs (m ((c.tc : Thread nD τ).loc main_arg0)) (m ((c.tc : Thread nD τ).loc main_arg1)) (m ((c.tc : Thread nD τ).loc main_arg2)) := by
  refine (dats m 0 c).arrAt_eq_of_covers 4 _ (by decide +kernel) fun t _ y => ?_
  blk_simp
  rw [after0_4]
  obtain ⟨n, r, e, rfl⟩ : ∃ (n : Fin 3) (r : Fin 256) (e : Fin 1024), y = ix3 n r e := ⟨y 0, y 1, y 2, eq_ix3 y⟩
  have hN : t.val < 64 := t.isLt
  have he : ((cfg0.win 4).blk t).view.emb (ix3 n r e) = ix3 n ⟨256 * t.val + r.val, by omega⟩ e := by blk_ext [idx t]
  rw [he, DilProjRef.kvs_at, kv_at, rows, weights]
  simp only [columns]

end Cert.DilProjValue
-- ==== Proof.DilProjClaims.lean ====
/-
  The claims about the projection of the dilated layers: the runs end, the idealization is licensed, and the kernel's result is the reference's.
-/
module

public import proofs.«01_k».proof.Defs
public import proofs.«01_k».proof.Proof.Gen.DilProj.Frame
public import proofs.«01_k».proof.Proof.Gen.DilProjIdeal.Frame
public import proofs.«01_k».proof.Proof.Gen.DilProjIdeal.Value
public import proofs.«01_k».proof.Proof.Gen.DilProjRefIdeal.Run
public import proofs.«01_k».proof.Proof.DilProjValue
public import Idealize.ShloMosaic.Lib.Quiescent

@[expose] public section

set_option maxRecDepth 16384

noncomputable section

namespace Cert.DilProjClaims

open Idealize.ShloMosaic Idealize.ShloMosaic.TcCoe Idealize.SL.Sem

/-- The kernel runs to its end, keeps its arguments, and leaves no counter raised. -/
theorem frame_kernel : Cert.quiescent_DilProj := fun m ρ _ => Cert.DilProj.Gen.frame m ρ

/-- The idealized kernel does too. -/
theorem frame_ideal : Cert.quiescent_DilProjIdeal := fun m ρ _ => Cert.DilProjIdeal.Gen.frame m ρ

/-- The reference does too. -/
theorem frame_reference : Cert.quiescent_DilProjRefIdeal := fun m ρ _ =>
  (θ_run Cert.DilProjRefIdeal.defs _ _).mono
    (fun r h => ⟨fun c => (h c).2.2, Idealize.ShloMosaic.sem_eq_zero_of_no_sems (by decide) r.2⟩)
    (Cert.DilProjRefIdeal.Value.run (F := Ideal) m ρ)

/-- The kernel and its idealization differ in no operation. -/
theorem preserves : Cert.preserves_DilProj_DilProjIdeal := trivial

/-- The queries and the keys with values of the three windows are the reference's. -/
theorem algebraic : Cert.algebraic_DilProjIdeal_DilProjRefIdeal := by
  intro m ρ m' ρ' _ args
  refine ⟨fun c => Cert.DilProjRef.queries (m ((c.tc : Thread Cert.DilProjIdeal.nD Cert.DilProjIdeal.τ).loc Cert.DilProjIdeal.main_arg0)) (m ((c.tc : Thread Cert.DilProjIdeal.nD Cert.DilProjIdeal.τ).loc Cert.DilProjIdeal.main_arg1)) (m ((c.tc : Thread Cert.DilProjIdeal.nD Cert.DilProjIdeal.τ).loc Cert.DilProjIdeal.main_arg2)),
    fun c => Cert.DilProjRef.kvs (m ((c.tc : Thread Cert.DilProjIdeal.nD Cert.DilProjIdeal.τ).loc Cert.DilProjIdeal.main_arg0)) (m ((c.tc : Thread Cert.DilProjIdeal.nD Cert.DilProjIdeal.τ).loc Cert.DilProjIdeal.main_arg1)) (m ((c.tc : Thread Cert.DilProjIdeal.nD Cert.DilProjIdeal.τ).loc Cert.DilProjIdeal.main_arg2)),
    (θ_run Cert.DilProjIdeal.defs _ _).mono
      (fun r h c => ⟨(h c).1.trans (Cert.DilProjValue.final_queries m c), (h c).2.1.trans (Cert.DilProjValue.final_kvs m c), (h c).2.2⟩)
      (Cert.DilProjIdeal.Value.run_blocks (F := Ideal) m ρ), ?_⟩
  refine (θ_run Cert.DilProjRefIdeal.defs _ _).mono (fun r h c => ⟨(h c).1.trans ?_, (h c).2.1.trans ?_, (h c).2.2⟩)
    (Cert.DilProjRefIdeal.Value.run (F := Ideal) m' ρ')
  · obtain ⟨h0, h1, h2⟩ := args c
    show Cert.DilProjRef.queries (m' ((c.tc : Thread Cert.DilProjRefIdeal.nD Cert.DilProjRefIdeal.τ).loc Cert.DilProjRefIdeal.main_arg0)) (m' ((c.tc : Thread Cert.DilProjRefIdeal.nD Cert.DilProjRefIdeal.τ).loc Cert.DilProjRefIdeal.main_arg1)) (m' ((c.tc : Thread Cert.DilProjRefIdeal.nD Cert.DilProjRefIdeal.τ).loc Cert.DilProjRefIdeal.main_arg2)) = _
    rw [h0, h1, h2]
  · obtain ⟨h0, h1, h2⟩ := args c
    show Cert.DilProjRef.kvs (m' ((c.tc : Thread Cert.DilProjRefIdeal.nD Cert.DilProjRefIdeal.τ).loc Cert.DilProjRefIdeal.main_arg0)) (m' ((c.tc : Thread Cert.DilProjRefIdeal.nD Cert.DilProjRefIdeal.τ).loc Cert.DilProjRefIdeal.main_arg1)) (m' ((c.tc : Thread Cert.DilProjRefIdeal.nD Cert.DilProjRefIdeal.τ).loc Cert.DilProjRefIdeal.main_arg2)) = _
    rw [h0, h1, h2]

end Cert.DilProjClaims

end
-- ==== Proof.PostDilClaims.lean ====
/-
  The claims about what follows the attention of a dilated layer: the runs end, the idealization is licensed, and the kernel's result is the reference's.
-/
module

public import proofs.«01_k».proof.Defs
public import proofs.«01_k».proof.Proof.Gen.PostDil.Frame
public import proofs.«01_k».proof.Proof.Gen.PostDilIdeal.Frame
public import proofs.«01_k».proof.Proof.Gen.PostDilIdeal.Value
public import proofs.«01_k».proof.Proof.Gen.PostDilRefIdeal.Run
public import proofs.«01_k».proof.Proof.PostDilValue
public import Idealize.ShloMosaic.Lib.Quiescent

@[expose] public section

set_option maxRecDepth 16384

noncomputable section

namespace Cert.PostDilClaims

open Idealize.ShloMosaic Idealize.ShloMosaic.TcCoe Idealize.SL.Sem

/-- The kernel runs to its end, keeps its arguments, and leaves no counter raised. -/
theorem frame_kernel : Cert.quiescent_PostDil := fun m ρ _ => Cert.PostDil.Gen.frame m ρ

/-- The idealized kernel does too. -/
theorem frame_ideal : Cert.quiescent_PostDilIdeal := fun m ρ _ => Cert.PostDilIdeal.Gen.frame m ρ

/-- The reference does too. -/
theorem frame_reference : Cert.quiescent_PostDilRefIdeal := fun m ρ _ =>
  (θ_run Cert.PostDilRefIdeal.defs _ _).mono
    (fun r h => ⟨fun c => (h c).2, Idealize.ShloMosaic.sem_eq_zero_of_no_sems (by decide) r.2⟩)
    (Cert.PostDilRefIdeal.Value.run (F := Ideal) m ρ)

/-- The kernel and its idealization differ in no operation. -/
theorem preserves : Cert.preserves_PostDil_PostDilIdeal := trivial

/-- The output projection, the normalization and the feed-forward part, taken hidden block by hidden block, add up to the reference's. -/
theorem algebraic : Cert.algebraic_PostDilIdeal_PostDilRefIdeal := by
  intro m ρ m' ρ' _ args
  refine ⟨fun c => Cert.PostDilRef.result (m ((c.tc : Thread Cert.PostDilIdeal.nD Cert.PostDilIdeal.τ).loc Cert.PostDilIdeal.main_arg0)) (m ((c.tc : Thread Cert.PostDilIdeal.nD Cert.PostDilIdeal.τ).loc Cert.PostDilIdeal.main_arg1)) (m ((c.tc : Thread Cert.PostDilIdeal.nD Cert.PostDilIdeal.τ).loc Cert.PostDilIdeal.main_arg2)) (m ((c.tc : Thread Cert.PostDilIdeal.nD Cert.PostDilIdeal.τ).loc Cert.PostDilIdeal.main_arg3)) (m ((c.tc : Thread Cert.PostDilIdeal.nD Cert.PostDilIdeal.τ).loc Cert.PostDilIdeal.main_arg4)) (m ((c.tc : Thread Cert.PostDilIdeal.nD Cert.PostDilIdeal.τ).loc Cert.PostDilIdeal.main_arg5)),
    (θ_run Cert.PostDilIdeal.defs _ _).mono (fun r h c => ⟨(h c).1.trans (Cert.PostDilValue.final m c), (h c).2⟩)
      (Cert.PostDilIdeal.Value.run_blocks (F := Ideal) m ρ), ?_⟩
  refine (θ_run Cert.PostDilRefIdeal.defs _ _).mono (fun r h c => ⟨(h c).1.trans ?_, (h c).2⟩)
    (Cert.PostDilRefIdeal.Value.run (F := Ideal) m' ρ')
  obtain ⟨h0, h1, h2, h3, h4, h5⟩ := args c
  show Cert.PostDilRef.result (m' ((c.tc : Thread Cert.PostDilRefIdeal.nD Cert.PostDilRefIdeal.τ).loc Cert.PostDilRefIdeal.main_arg0)) (m' ((c.tc : Thread Cert.PostDilRefIdeal.nD Cert.PostDilRefIdeal.τ).loc Cert.PostDilRefIdeal.main_arg1)) (m' ((c.tc : Thread Cert.PostDilRefIdeal.nD Cert.PostDilRefIdeal.τ).loc Cert.PostDilRefIdeal.main_arg2)) (m' ((c.tc : Thread Cert.PostDilRefIdeal.nD Cert.PostDilRefIdeal.τ).loc Cert.PostDilRefIdeal.main_arg3)) (m' ((c.tc : Thread Cert.PostDilRefIdeal.nD Cert.PostDilRefIdeal.τ).loc Cert.PostDilRefIdeal.main_arg4)) (m' ((c.tc : Thread Cert.PostDilRefIdeal.nD Cert.PostDilRefIdeal.τ).loc Cert.PostDilRefIdeal.main_arg5)) = _
  rw [h0, h1, h2, h3, h4, h5]

end Cert.PostDilClaims

end
-- ==== Proof.MlaRow.lean ====
/-
  The mathematics of one row of a latent layer's projections: the normalised latents, and the rotation of a rotary part by the
  angles of the row's position.
-/
module

public import proofs.«01_k».proof.Proof.PostRow
public import Idealize.ShloMosaic.Lib.Pointwise

@[expose] public section

noncomputable section

namespace Cert.MlaRow

open Idealize.ShloMosaic Cert.PostRow

/-- A row over the root of its mean square, times the weights; `c` is the row's length as a number. -/
def rms {n : ℕ} (c : EReal) (x g : Fin n → EReal) (j : Fin n) : EReal :=
  x j * Ideal.rsqrt (Ideal.div (∑ k, x k * x k) c + Ideal.ofBits FTy.f32 0x358637BD#32) * g j

/-- A row times a matrix. -/
def times {a b : ℕ} (x : Fin a → EReal) (w : Fin a → Fin b → EReal) (j : Fin b) : EReal := ∑ k, x k * w k j

/-- The angle of a position and a frequency. -/
def theta (s : Fin 2048) (i : Fin 16) : EReal :=
  FloatOps.sitofp (F := Ideal) FTy.f32 (BitVec.ofNat 32 s.val) * Ideal.pow (Ideal.ofBits FTy.f32 0x461C4000#32)
    (Ideal.div (-FloatOps.sitofp (F := Ideal) FTy.f32 (BitVec.ofNat 32 i.val)) (Ideal.ofBits FTy.f32 0x41800000#32))

/-- The first half of a rotary part after its rotation. -/
def turnLow (s : Fin 2048) (a b : EReal) (i : Fin 16) : EReal := a * Ideal.cos (theta s i) - b * Ideal.sin (theta s i)

/-- The second half of a rotary part after its rotation. -/
def turnHigh (s : Fin 2048) (a b : EReal) (i : Fin 16) : EReal := a * Ideal.sin (theta s i) + b * Ideal.cos (theta s i)

/-- The position of a row in its sequence. -/
abbrev pos (R : Fin 16384) : Fin 2048 := ⟨R.val % 2048, by omega⟩

/-- The sequence of a row. -/
abbrev seq (R : Fin 16384) : Fin 8 := ⟨R.val / 2048, by omega⟩

/-- A row is its sequence and its position. -/
theorem seq_pos (R : Fin 16384) : (⟨(seq R).val * 2048 + (pos R).val, by have := (seq R).isLt; have := (pos R).isLt; omega⟩ : Fin 16384) = R :=
  Fin.ext (by dsimp only; omega)

/-- A column of 32 is one of the first half or of the second. -/
theorem halves (j : Fin 32) : (∃ i : Fin 16, j = ⟨i.val, by omega⟩) ∨ ∃ i : Fin 16, j = ⟨16 + i.val, by omega⟩ := by
  by_cases h : j.val < 16
  · exact .inl ⟨⟨j.val, h⟩, rfl⟩
  · exact .inr ⟨⟨j.val - 16, by omega⟩, Fin.ext (by dsimp only; omega)⟩

/-- A lane of a head is one of the first 64, of the first or second half of the rotary part, or spare. -/
theorem lanes (l : Fin 128) : (∃ i : Fin 64, l = ⟨i.val, by omega⟩) ∨ (∃ i : Fin 16, l = ⟨64 + i.val, by omega⟩)
    ∨ (∃ i : Fin 16, l = ⟨80 + i.val, by omega⟩) ∨ ∃ i : Fin 32, l = ⟨96 + i.val, by omega⟩ := by
  rcases lt_or_ge l.val 64 with h | h
  · exact .inl ⟨⟨l.val, h⟩, rfl⟩
  rcases lt_or_ge l.val 80 with h' | h'
  · exact .inr (.inl ⟨⟨l.val - 64, by omega⟩, Fin.ext (by dsimp only; omega)⟩)
  rcases lt_or_ge l.val 96 with h'' | h''
  · exact .inr (.inr (.inl ⟨⟨l.val - 80, by omega⟩, Fin.ext (by dsimp only; omega)⟩))
  · exact .inr (.inr (.inr ⟨⟨l.val - 96, by omega⟩, Fin.ext (by dsimp only; omega)⟩))

/-- A column of rows of 128 lanes is a head and a lane. -/
theorem wide (j : Fin 2048) : ∃ (n : Fin 16) (l : Fin 128), j = ⟨n.val * 128 + l.val, by omega⟩ :=
  ⟨⟨j.val / 128, by omega⟩, ⟨j.val % 128, by omega⟩, Fin.ext (by dsimp only; omega)⟩

/-- A column of rows of 64 lanes is a head and a lane. -/
theorem narrow (j : Fin 1024) : ∃ (n : Fin 16) (l : Fin 64), j = ⟨n.val * 64 + l.val, by omega⟩ :=
  ⟨⟨j.val / 64, by omega⟩, ⟨j.val % 64, by omega⟩, Fin.ext (by dsimp only; omega)⟩

end Cert.MlaRow
-- ==== Proof.MlaBlock.lean ====
/-
  The projections of a latent layer: what the kernel's body leaves in its five result blocks, number by number.
-/
module

public import proofs.«01_k».proof.Proof.Gen.MlaProjIdeal.Value
public import proofs.«01_k».proof.Proof.MlaRow
public import Idealize.ShloMosaic.Lib.Pipeline.ValueKit
public import Idealize.ShloMosaic.Lib.Pointwise

@[expose] public section

set_option maxRecDepth 16384

noncomputable section

namespace Cert.MlaBlock

open Cert.MlaProjIdeal Cert.MlaProjIdeal.Gen Cert.PostRow Cert.MlaRow
open Idealize.ShloMosaic Idealize.ShloMosaic.TcCoe Idealize.SL.Sem

section Body

variable (v0 : Vec Ideal S512x1024 .f32) (v1 : Vec Ideal S1x1024 .f32) (w : Vec Ideal S1024x896 .bf16) (r : Fin 512)

/-- The first projection of a normalised row. -/
theorem pay4_at (j : Fin 896) : k0_pay4 v0 v1 w (ix2 r j) = ∑ k, norm (row v0 r) (row v1 0) k * w (ix2 k j) := by
  pointwise [k0_pay4]
  rfl

/-- A latent for the queries. -/
theorem pay5_at (g : Vec Ideal S1x384 .f32) (j : Fin 384) : k0_pay5 v0 v1 w g (ix2 r j)
    = rms (Ideal.ofBits FTy.f32 0x43C00000#32) (times (norm (row v0 r) (row v1 0)) fun k (j : Fin 384) => w (ix2 k ⟨j.val, by omega⟩)) (row g 0) j := by
  pointwise [k0_pay5]
  simp only [pay4_at]
  rfl

/-- A latent for the keys before its normalisation. -/
theorem pay6_at (j : Fin 256) : k0_pay6 v0 v1 w (ix2 r j)
    = times (norm (row v0 r) (row v1 0)) (fun k (j : Fin 256) => w (ix2 k ⟨384 + j.val, by omega⟩)) j := by
  pointwise [k0_pay6]
  simp only [pay4_at]
  rfl

/-- A latent for the keys. -/
theorem pay8_at (g : Vec Ideal S1x256 .f32) (j : Fin 256) : k0_pay8 (k0_pay6 v0 v1 w) g (k0_pay7 v0 v1 w) (ix2 r j)
    = rms (Ideal.ofBits FTy.f32 0x43800000#32) (times (norm (row v0 r) (row v1 0)) fun k (j : Fin 256) => w (ix2 k ⟨384 + j.val, by omega⟩)) (row g 0) j := by
  pointwise [k0_pay8, k0_pay7]
  simp only [pay6_at]
  rfl

/-- A lane of the rotary key. -/
theorem pay9_at (a b : Vec Ideal S512x128 .f32) (l : Fin 128) : k0_pay9 (k0_pay4 v0 v1 w) a b (ix2 r l)
    = (∑ k, norm (row v0 r) (row v1 0) k * w (ix2 k ⟨640 + l.val, by omega⟩)) * a (ix2 r l)
      + (∑ k, norm (row v0 r) (row v1 0) k * w (ix2 k ⟨768 + l.val, by omega⟩)) * b (ix2 r l) := by
  pointwise [k0_pay9]
  simp only [pay4_at]

/-- A key: the latents' part and the rotary key's part. -/
theorem pay2_at (u : FVec Ideal S512x256 .f32) (v : FVec Ideal S512x128 .f32) (y : Vec Ideal S384x2048 .bf16) (j : Fin 2048) :
    k0_pay2 u v y (ix2 r j) = ∑ k : Fin 256, u (ix2 r k) * y (ix2 ⟨k.val, by omega⟩ j) + ∑ k : Fin 128, v (ix2 r k) * y (ix2 ⟨256 + k.val, by omega⟩ j) := by
  pointwise [k0_pay2, k0_pay1]

/-- A value. -/
theorem pay3_at (u : FVec Ideal S512x256 .f32) (y : Vec Ideal S256x1024 .bf16) (j : Fin 1024) :
    k0_pay3 u y (ix2 r j) = ∑ k, u (ix2 r k) * y (ix2 k j) := by
  pointwise [k0_pay3, k0_pay1]

/-- The cosines of four heads. -/
theorem pay11_at (a : Vec Ideal S512x128 .f32) (n : Fin 4) (l : Fin 128) : k0_pay11 a (ix2 r ⟨n.val * 128 + l.val, by omega⟩) = a (ix2 r l) := by
  match n with
  | 0 => pointwise [k0_pay11]
  | 1 => pointwise [k0_pay11]
  | 2 =>
    pointwise [k0_pay11]
    rw [dif_neg (by omega), dif_neg (by omega), dif_pos (by omega)]
    exact congrArg (fun e => a (ix2 r e)) (Fin.ext (by dsimp only; omega))
  | 3 =>
    pointwise [k0_pay11]
    rw [dif_neg (by omega), dif_neg (by omega), dif_neg (by omega)]
    exact congrArg (fun e => a (ix2 r e)) (Fin.ext (by dsimp only; omega))

/-- The queries of four heads. -/
theorem pay13_at (q : FVec Ideal S512x384 .bf16) (a b : Vec Ideal S512x128 .f32) (y z : Vec Ideal S384x512 .bf16) (n : Fin 4) (l : Fin 128) :
    k0_pay13 q a b y z (ix2 r ⟨n.val * 128 + l.val, by omega⟩)
    = (∑ k, q (ix2 r k) * y (ix2 k ⟨n.val * 128 + l.val, by omega⟩)) * a (ix2 r l)
      + (∑ k, q (ix2 r k) * z (ix2 k ⟨n.val * 128 + l.val, by omega⟩)) * b (ix2 r l) := by
  pointwise [k0_pay13]
  rw [pay11_at, show k0_pay12 b = k0_pay11 b from rfl, pay11_at]

variable (x0 : Vec Ideal S512x1024 .f32) (x1 : Vec Ideal S1x1024 .f32) (x2 : Vec Ideal S1024x896 .bf16) (x3 : Vec Ideal S1x384 .f32)
  (x4 x5 : Vec Ideal S384x2048 .bf16) (x6 : Vec Ideal S1x256 .f32) (x7 x8 x9 x10 : Vec Ideal S512x128 .f32) (x11 : Vec Ideal S384x2048 .bf16)
  (x12 : Vec Ideal S256x1024 .bf16)

/-- A row's latents for the queries. -/
abbrev latQ : Fin 384 → EReal :=
  rms (Ideal.ofBits FTy.f32 0x43C00000#32) (times (norm (row x0 r) (row x1 0)) fun k (j : Fin 384) => x2 (ix2 k ⟨j.val, by omega⟩)) (row x3 0)

/-- A row's latents for the keys. -/
abbrev latC : Fin 256 → EReal :=
  rms (Ideal.ofBits FTy.f32 0x43800000#32) (times (norm (row x0 r) (row x1 0)) fun k (j : Fin 256) => x2 (ix2 k ⟨384 + j.val, by omega⟩)) (row x6 0)

/-- A row's rotary key on 128 lanes. -/
abbrev turned (l : Fin 128) : EReal :=
  (∑ k, norm (row x0 r) (row x1 0) k * x2 (ix2 k ⟨640 + l.val, by omega⟩)) * x9 (ix2 r l)
    + (∑ k, norm (row x0 r) (row x1 0) k * x2 (ix2 k ⟨768 + l.val, by omega⟩)) * x10 (ix2 r l)

/-- A latent the cache keeps. -/
theorem latents_at (j : Fin 256) : out0_14 (F := Ideal) x0 x1 x2 x3 x4 x5 x6 x7 x8 x9 x10 x11 x12 (ix2 r j) = latC r x0 x1 x2 x6 j := by
  unfold_out out0_14
  simp (disch := decide) only [View.ld_unit_lit]
  frame_out
  rw [pay8_at]

/-- A rotary key the cache keeps. -/
theorem rotary_at (j : Fin 32) : out0_15 (F := Ideal) x0 x1 x2 x3 x4 x5 x6 x7 x8 x9 x10 x11 x12 (ix2 r j)
    = turned r x0 x1 x2 x9 x10 ⟨j.val, by omega⟩ := by
  unfold_out out0_15
  simp (disch := decide) only [View.ld_unit_lit]
  frame_out
  pointwise [k0_pay10]
  rw [pay9_at]

/-- A key. -/
theorem keys_at (j : Fin 2048) : out0_16 (F := Ideal) x0 x1 x2 x3 x4 x5 x6 x7 x8 x9 x10 x11 x12 (ix2 r j)
    = ∑ k : Fin 256, latC r x0 x1 x2 x6 k * x11 (ix2 ⟨k.val, by omega⟩ j) + ∑ k : Fin 128, turned r x0 x1 x2 x9 x10 k * x11 (ix2 ⟨256 + k.val, by omega⟩ j) := by
  unfold_out out0_16
  simp (disch := decide) only [View.ld_unit_lit]
  frame_out
  rw [pay2_at]
  simp only [pay8_at, pay9_at]

/-- A value. -/
theorem values_at (j : Fin 1024) : out0_17 (F := Ideal) x0 x1 x2 x3 x4 x5 x6 x7 x8 x9 x10 x11 x12 (ix2 r j)
    = ∑ k : Fin 256, latC r x0 x1 x2 x6 k * x12 (ix2 k j) := by
  unfold_out out0_17
  simp (disch := decide) only [View.ld_unit_lit]
  frame_out
  rw [pay3_at]
  simp only [pay8_at]

/-- A query. -/
theorem queries_at (n : Fin 16) (l : Fin 128) : out0_13 (F := Ideal) x0 x1 x2 x3 x4 x5 x6 x7 x8 x9 x10 x11 x12 (ix2 r ⟨n.val * 128 + l.val, by omega⟩)
    = (∑ k, latQ r x0 x1 x2 x3 k * x4 (ix2 k ⟨n.val * 128 + l.val, by omega⟩)) * x7 (ix2 r l)
      + (∑ k, latQ r x0 x1 x2 x3 k * x5 (ix2 k ⟨n.val * 128 + l.val, by omega⟩)) * x8 (ix2 r l) := by
  unfold_out out0_13
  canon_tiles x hx
  all_goals
    obtain ⟨a, b, rfl⟩ : ∃ a b, x = ix2 a b := ⟨x 0, x 1, eq_ix2 x⟩
    obtain rfl : r = a := Fin.ext hx0
  · obtain ⟨p, hp⟩ : ∃ p : Fin 4, n.val = 12 + p.val := ⟨⟨n.val - 12, by change n.val * 128 + l.val = 1536 + b.val at hx1; omega⟩, by change n.val * 128 + l.val = 1536 + b.val at hx1; dsimp only; omega⟩
    have hb : b = ⟨p.val * 128 + l.val, by omega⟩ := Fin.ext (by change n.val * 128 + l.val = 1536 + b.val at hx1; dsimp only; omega)
    have e (v : Vec Ideal S384x2048 .bf16) (k : Fin 384) : View.ld v r0_14 (ix2 k ⟨p.val * 128 + l.val, by omega⟩) = v (ix2 k ⟨n.val * 128 + l.val, by omega⟩) := by
      pointwise
      exact congrArg (fun e => v (ix2 k e)) (Fin.ext (by dsimp only; omega))
    rw [hb]
    simp (disch := decide) only [View.ld_unit_lit]
    refine (pay13_at r _ _ _ _ _ p l).trans ?_
    simp only [pay5_at]
    exact congrArg₂ (· + ·) (congrArg (· * _) (Finset.sum_congr rfl fun k _ => congrArg (_ * ·) (e x4 k)))
      (congrArg (· * _) (Finset.sum_congr rfl fun k _ => congrArg (_ * ·) (e x5 k)))
  · obtain ⟨p, hp⟩ : ∃ p : Fin 4, n.val = 8 + p.val := ⟨⟨n.val - 8, by change n.val * 128 + l.val = 1024 + b.val at hx1; omega⟩, by change n.val * 128 + l.val = 1024 + b.val at hx1; dsimp only; omega⟩
    have hb : b = ⟨p.val * 128 + l.val, by omega⟩ := Fin.ext (by change n.val * 128 + l.val = 1024 + b.val at hx1; dsimp only; omega)
    have e (v : Vec Ideal S384x2048 .bf16) (k : Fin 384) : View.ld v r0_12 (ix2 k ⟨p.val * 128 + l.val, by omega⟩) = v (ix2 k ⟨n.val * 128 + l.val, by omega⟩) := by
      pointwise
      exact congrArg (fun e => v (ix2 k e)) (Fin.ext (by dsimp only; omega))
    rw [hb]
    simp (disch := decide) only [View.ld_unit_lit]
    refine (pay13_at r _ _ _ _ _ p l).trans ?_
    simp only [pay5_at]
    exact congrArg₂ (· + ·) (congrArg (· * _) (Finset.sum_congr rfl fun k _ => congrArg (_ * ·) (e x4 k)))
      (congrArg (· * _) (Finset.sum_congr rfl fun k _ => congrArg (_ * ·) (e x5 k)))
  · obtain ⟨p, hp⟩ : ∃ p : Fin 4, n.val = 4 + p.val := ⟨⟨n.val - 4, by change n.val * 128 + l.val = 512 + b.val at hx1; omega⟩, by change n.val * 128 + l.val = 512 + b.val at hx1; dsimp only; omega⟩
    have hb : b = ⟨p.val * 128 + l.val, by omega⟩ := Fin.ext (by change n.val * 128 + l.val = 512 + b.val at hx1; dsimp only; omega)
    have e (v : Vec Ideal S384x2048 .bf16) (k : Fin 384) : View.ld v r0_10 (ix2 k ⟨p.val * 128 + l.val, by omega⟩) = v (ix2 k ⟨n.val * 128 + l.val, by omega⟩) := by
      pointwise
      exact congrArg (fun e => v (ix2 k e)) (Fin.ext (by dsimp only; omega))
    rw [hb]
    simp (disch := decide) only [View.ld_unit_lit]
    refine (pay13_at r _ _ _ _ _ p l).trans ?_
    simp only [pay5_at]
    exact congrArg₂ (· + ·) (congrArg (· * _) (Finset.sum_congr rfl fun k _ => congrArg (_ * ·) (e x4 k)))
      (congrArg (· * _) (Finset.sum_congr rfl fun k _ => congrArg (_ * ·) (e x5 k)))
  · obtain ⟨p, hp⟩ : ∃ p : Fin 4, n.val = p.val := ⟨⟨n.val - 0, by change n.val * 128 + l.val = b.val at hx1; omega⟩, by change n.val * 128 + l.val = b.val at hx1; dsimp only; omega⟩
    have hb : b = ⟨p.val * 128 + l.val, by omega⟩ := Fin.ext (by change n.val * 128 + l.val = b.val at hx1; dsimp only; omega)
    have e (v : Vec Ideal S384x2048 .bf16) (k : Fin 384) : View.ld v r0_8 (ix2 k ⟨p.val * 128 + l.val, by omega⟩) = v (ix2 k ⟨n.val * 128 + l.val, by omega⟩) := by
      pointwise
      exact congrArg (fun e => v (ix2 k e)) (Fin.ext (by dsimp only; omega))
    rw [hb]
    simp (disch := decide) only [View.ld_unit_lit]
    refine (pay13_at r _ _ _ _ _ p l).trans ?_
    simp only [pay5_at]
    exact congrArg₂ (· + ·) (congrArg (· * _) (Finset.sum_congr rfl fun k _ => congrArg (_ * ·) (e x4 k)))
      (congrArg (· * _) (Finset.sum_congr rfl fun k _ => congrArg (_ * ·) (e x5 k)))

end Body

end Cert.MlaBlock
-- ==== Proof.MlaPrep.lean ====
/-
  The projections of a latent layer: the weights and the rotary tables as they are laid out for the kernel.
-/
module

public import proofs.«01_k».proof.Proof.Gen.MlaProjIdeal.Value
public import Idealize.ShloMosaic.Lib.Pipeline.ValueKit
public import Idealize.ShloMosaic.Lib.Pointwise

@[expose] public section

set_option maxRecDepth 16384

noncomputable section

namespace Cert.MlaPrep

open Cert.MlaProjIdeal Cert.MlaProjIdeal.Gen
open Idealize.ShloMosaic Idealize.ShloMosaic.TcCoe Idealize.SL.Sem

/-- The value the spare lanes are filled with. -/
def fill : FVec Ideal S_ .f32 := sitofp .f32 (constantI S_ 32 0#32)

/-- The rotary columns of the joint projection. -/
def turn (w : FVec Ideal S1024x288 .f32) : FVec Ideal S1024x32 .f32 := extractStridedSlice S1024x32 ![0, 256] w slices_S1024x288_S1024x32_0_256

/-- The rotary columns with their halves exchanged. -/
def turnSwapped (w : FVec Ideal S1024x288 .f32) : FVec Ideal S1024x32 .f32 :=
  concatenate S1024x32 1 [⟨S1024x16, extractStridedSlice S1024x16 ![0, 16] (turn w) slices_S1024x32_S1024x16_0_16⟩, ⟨S1024x16, extractStridedSlice S1024x16 ![0, 0] (turn w) slices_S1024x32_S1024x16_0_0⟩] concatenates_S1024x16_S1024x16_S1024x32_d1

/-- The first projection: the queries' latents, the keys' latents, the rotary columns and the exchanged ones. -/
def first (wq : FVec Ideal S1024x384 .f32) (w : FVec Ideal S1024x288 .f32) : FVec Ideal S1024x896 .bf16 :=
  truncf .bf16 (concatenate S1024x896 1 [⟨S1024x384, wq⟩, ⟨S1024x256, extractStridedSlice S1024x256 ![0, 0] w slices_S1024x288_S1024x256_0_0⟩,
    ⟨S1024x128, pad S1024x128 ![0, 0] ![0, 96] ![0, 0] (turn w) fill pads_S1024x32_S1024x128_000_0960 h_S_⟩,
    ⟨S1024x128, pad S1024x128 ![0, 0] ![0, 96] ![0, 0] (turnSwapped w) fill pads_S1024x32_S1024x128_000_0960 h_S_⟩] concatenates_S1024x384_S1024x256_S1024x128_S1024x128_S1024x896_d1) bitsLt_bf16_f32

/-- The queries' second projection, head by head. -/
def heads (w : FVec Ideal S384x1536 .f32) : FVec Ideal S384x16x96 .f32 := shapeCast S384x16x96 w shapeCasts_S384x1536_S384x16x96

/-- The queries' second projection in rows of 128 lanes. -/
def query (w : FVec Ideal S384x1536 .f32) : FVec Ideal S384x2048 .bf16 :=
  truncf .bf16 (shapeCast S384x2048 (pad S384x16x128 ![0, 0, 0] ![0, 0, 32] ![0, 0, 0] (heads w) fill pads_S384x16x96_S384x16x128_000_000_0320 h_S_) shapeCasts_S384x16x128_S384x2048) bitsLt_bf16_f32

/-- The queries' rotary columns with their halves exchanged, in rows of 128 lanes. -/
def querySwapped (w : FVec Ideal S384x1536 .f32) : FVec Ideal S384x2048 .bf16 :=
  truncf .bf16 (shapeCast S384x2048 (pad S384x16x128 ![0, 0, 0] ![0, 0, 32] ![0, 0, 0]
    (concatenate S384x16x96 2 [⟨S384x16x64, broadcastInDim S384x16x64 ![] bcast_S_S384x16x64 (constant S_ .f32 0x00000000#32)⟩,
      ⟨S384x16x16, extractStridedSlice S384x16x16 ![0, 0, 80] (heads w) slices_S384x16x96_S384x16x16_0_0_80⟩,
      ⟨S384x16x16, extractStridedSlice S384x16x16 ![0, 0, 64] (heads w) slices_S384x16x96_S384x16x16_0_0_64⟩] concatenates_S384x16x64_S384x16x16_S384x16x16_S384x16x96_d2)
    fill pads_S384x16x96_S384x16x128_000_000_0320 h_S_) shapeCasts_S384x16x128_S384x2048) bitsLt_bf16_f32

/-- The placement of a rotary key on lanes 64 to 95. -/
def place : FVec Ideal S128x128 .f32 :=
  pad S128x128 ![0, 64] ![96, 32] ![0, 0] (uitofp .f32 (cmpi .eq (addi (iotaInDim S32x32 32 0) (broadcastInDim S32x32 ![] bcast_S_S32x32 (constantI S_ 32 0#32))) (iotaInDim S32x32 32 1)) : FVec Ideal S32x32 .f32) fill pads_S32x32_S128x128_0960_64320 h_S_

/-- The keys' projection of the latents, above the placement of the rotary key in every head. -/
def key (w : FVec Ideal S256x16x64 .f32) : FVec Ideal S384x2048 .bf16 :=
  truncf .bf16 (concatenate S384x2048 0 [⟨S256x2048, shapeCast S256x2048 (pad S256x16x128 ![0, 0, 0] ![0, 0, 64] ![0, 0, 0] w fill pads_S256x16x64_S256x16x128_000_000_0640 h_S_) shapeCasts_S256x16x128_S256x2048⟩,
    ⟨S128x2048, shapeCast S128x2048 (broadcastInDim S1x128x16x128 ![0, 1, 2, 3] bcast_S1x128x1x128_S1x128x16x128_0_1_2_3 (shapeCast S1x128x1x128 place shapeCasts_S128x128_S1x128x1x128)) shapeCasts_S1x128x16x128_S128x2048⟩] concatenates_S256x2048_S128x2048_S384x2048_d0) bitsLt_bf16_f32

/-- The values' projection of the latents. -/
def value (w : FVec Ideal S256x16x64 .f32) : FVec Ideal S256x1024 .bf16 := truncf .bf16 (shapeCast S256x1024 w shapeCasts_S256x16x64_S256x1024) bitsLt_bf16_f32

/-- The angle of a position and a frequency. -/
def angle : FVec Ideal S2048x16 .f32 :=
  mulf (broadcastInDim S2048x16 ![0, 1] bcast_S2048x1_S2048x16_0_1 (broadcastInDim S2048x1 ![0] bcast_S2048_S2048x1_0 (sitofp .f32 (iotaInDim S2048 32 0))))
    (broadcastInDim S2048x16 ![0, 1] bcast_S1x16_S2048x16_0_1 (broadcastInDim S1x16 ![1] bcast_S16_S1x16_1
      (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

/-- Zeros on the spare lanes. -/
def spare : FVec Ideal S2048x32 .f32 := broadcastInDim S2048x32 ![] bcast_S_S2048x32 (constant S_ .f32 0x00000000#32)

/-- The queries' table of cosines, scaled. -/
def cosQ : FVec Ideal S2048x128 .f32 :=
  mulf (concatenate S2048x128 1 [⟨S2048x64, broadcastInDim S2048x64 ![] bcast_S_S2048x64 (constant S_ .f32 0x3F800000#32)⟩, ⟨S2048x16, Host.cos angle⟩, ⟨S2048x16, Host.cos angle⟩, ⟨S2048x32, spare⟩] concatenates_S2048x64_S2048x16_S2048x16_S2048x32_S2048x128_d1)
    (broadcastInDim S2048x128 ![] bcast_S_S2048x128 (constant S_ .f32 0x3DD105EC#32))

/-- The queries' table of sines, scaled. -/
def sinQ : FVec Ideal S2048x128 .f32 :=
  mulf (concatenate S2048x128 1 [⟨S2048x64, broadcastInDim S2048x64 ![] bcast_S_S2048x64 (constant S_ .f32 0x00000000#32)⟩, ⟨S2048x16, Host.negf (Host.sin angle)⟩, ⟨S2048x16, Host.sin angle⟩, ⟨S2048x32, spare⟩] concatenates_S2048x64_S2048x16_S2048x16_S2048x32_S2048x128_d1)
    (broadcastInDim S2048x128 ![] bcast_S_S2048x128 (constant S_ .f32 0x3DD105EC#32))

/-- The keys' table of cosines. -/
def cosK : FVec Ideal S2048x128 .f32 :=
  concatenate S2048x128 1 [⟨S2048x16, Host.cos angle⟩, ⟨S2048x16, Host.cos angle⟩, ⟨S2048x96, broadcastInDim S2048x96 ![] bcast_S_S2048x96 (constant S_ .f32 0x00000000#32)⟩] concatenates_S2048x16_S2048x16_S2048x96_S2048x128_d1

/-- The keys' table of sines. -/
def sinK : FVec Ideal S2048x128 .f32 :=
  concatenate S2048x128 1 [⟨S2048x16, Host.negf (Host.sin angle)⟩, ⟨S2048x16, Host.sin angle⟩, ⟨S2048x96, broadcastInDim S2048x96 ![] bcast_S_S2048x96 (constant S_ .f32 0x00000000#32)⟩] concatenates_S2048x16_S2048x16_S2048x96_S2048x128_d1

variable (m : (ℓ : Loc nD τ sig) → Buf (Elt Ideal) ℓ) (c : Dev nD)

/-- The values' projection, as the kernel finds it. -/
theorem entry_v36 : V m c main_v36 = value (m ((c.tc : Thread nD τ).loc main_arg8)) := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results_simp <;> (try dsimp only [Matrix.cons_val]) <;> (try after_results_simp) <;> rfl

/-- The first projection, as the kernel finds it. -/
theorem entry_v8 : V m c main_v8 = first (m ((c.tc : Thread nD τ).loc main_arg2)) (m ((c.tc : Thread nD τ).loc main_arg5)) := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results_simp <;> (try dsimp only [Matrix.cons_val]) <;> (try after_results_simp) <;> rfl

/-- The queries' second projection, as the kernel finds it. -/
theorem entry_v12 : V m c main_v12 = query (m ((c.tc : Thread nD τ).loc main_arg4)) := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results_simp <;> (try dsimp only [Matrix.cons_val]) <;> (try after_results_simp) <;> rfl

/-- The queries' exchanged rotary columns, as the kernel finds them. -/
theorem entry_v20 : V m c main_v20 = querySwapped (m ((c.tc : Thread nD τ).loc main_arg4)) := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results_simp <;> (try dsimp only [Matrix.cons_val]) <;> (try after_results_simp) <;> rfl

/-- The keys' projection, as the kernel finds it. -/
theorem entry_v34 : V m c main_v34 = key (m ((c.tc : Thread nD τ).loc main_arg7)) := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results_simp <;> (try dsimp only [Matrix.cons_val]) <;> (try after_results_simp) <;> rfl

/-- The queries' table of cosines, as the kernel finds it. -/
theorem entry_v56 : V m c main_v56 = cosQ := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results_simp <;> (try dsimp only [Matrix.cons_val]) <;> (try after_results_simp) <;> rfl

/-- The queries' table of sines, as the kernel finds it. -/
theorem entry_v61 : V m c main_v61 = sinQ := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results_simp <;> (try dsimp only [Matrix.cons_val]) <;> (try after_results_simp) <;> rfl

/-- The keys' table of cosines, as the kernel finds it. -/
theorem entry_v63 : V m c main_v63 = cosK := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results_simp <;> (try dsimp only [Matrix.cons_val]) <;> (try after_results_simp) <;> rfl

/-- The keys' table of sines, as the kernel finds it. -/
theorem entry_v65 : V m c main_v65 = sinK := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results_simp <;> (try dsimp only [Matrix.cons_val]) <;> (try after_results_simp) <;> rfl

end Cert.MlaPrep
-- ==== Proof.MlaTables.lean ====
/-
  The projections of a latent layer: the numbers of the laid-out weights and of the rotary tables, lane by lane.
-/
module

public import proofs.«01_k».proof.Proof.MlaPrep
public import proofs.«01_k».proof.Proof.MlaRow

@[expose] public section

set_option maxRecDepth 16384

noncomputable section

namespace Cert.MlaPrep

open Cert.MlaProjIdeal Cert.MlaProjIdeal.Gen Cert.MlaRow
open Idealize.ShloMosaic

/-- The queries' scale. -/
abbrev scale : EReal := Ideal.ofBits FTy.f32 0x3DD105EC#32

/-- The scale is not negative and is finite. -/
theorem scale_real : 0 ≤ scale ∧ scale ≠ ⊤ := by
  have h : ∃ q : ℝ, 0 ≤ q ∧ scale = (q : EReal) :=
    ⟨13698540 / 134217728, by norm_num, by simp [scale, Ideal.ofBits, Ideal.ieee, -EReal.coe_mul]; norm_num⟩
  obtain ⟨q, h0, h1⟩ := h
  rw [h1]
  exact ⟨by exact_mod_cast h0, EReal.coe_ne_top q⟩

/-- The word zero is the number zero. -/
theorem word_zero : (FloatOps.sitofp FTy.f32 0#32 : Ideal FTy.f32) = (0 : EReal) := by
  simp [FloatOps.sitofp]

section First

variable (wq : FVec Ideal S1024x384 .f32) (w : FVec Ideal S1024x288 .f32) (k : Fin 1024)

/-- A column of the queries' latents. -/
theorem first_queries (j : Fin 384) : first wq w (ix2 k ⟨j.val, by omega⟩) = wq (ix2 k j) := by
  pointwise [first]

/-- A column of the keys' latents. -/
theorem first_keys (j : Fin 256) : first wq w (ix2 k ⟨384 + j.val, by omega⟩) = w (ix2 k ⟨j.val, by omega⟩) := by
  pointwise [first]

/-- A rotary column. -/
theorem first_turn (j : Fin 32) : first wq w (ix2 k ⟨640 + j.val, by omega⟩) = w (ix2 k ⟨256 + j.val, by omega⟩) := by
  pointwise [first, turn]
  rw [dif_neg (by omega), dif_neg (by omega), dif_pos (by omega), dif_pos (by omega)]
  exact congrArg (fun a => w (ix2 k a)) (Fin.ext (by dsimp only; omega))

/-- A column of the first half of the exchanged rotary columns. -/
theorem first_low (i : Fin 16) : first wq w (ix2 k ⟨768 + i.val, by omega⟩) = w (ix2 k ⟨256 + (16 + i.val), by omega⟩) := by
  pointwise [first, turn, turnSwapped]
  rw [dif_neg (by omega), dif_neg (by omega), dif_neg (by omega), dif_pos (by omega), dif_pos (by omega)]
  exact congrArg (fun a => w (ix2 k a)) (Fin.ext (by dsimp only; omega))

/-- A column of the second half of the exchanged rotary columns. -/
theorem first_high (i : Fin 16) : first wq w (ix2 k ⟨784 + i.val, by omega⟩) = w (ix2 k ⟨256 + i.val, by omega⟩) := by
  pointwise [first, turn, turnSwapped]
  rw [dif_neg (by omega), dif_neg (by omega), dif_neg (by omega), dif_pos (by omega), dif_neg (by omega)]
  exact congrArg (fun a => w (ix2 k a)) (Fin.ext (by dsimp only; omega))

end First

section Heads

variable (w : FVec Ideal S384x1536 .f32) (k : Fin 384) (n : Fin 16)

/-- A column of a head. -/
theorem query_at (l : Fin 96) : query w (ix2 k ⟨n.val * 128 + l.val, by omega⟩) = w (ix2 k ⟨n.val * 96 + l.val, by omega⟩) := by
  pointwise [query, heads]
  rw [dif_pos (by omega)]
  exact congrArg (fun a => w (ix2 k a)) (Fin.ext (by dsimp only; omega))

/-- A column of the first half of a head's exchanged rotary columns. -/
theorem swapped_low (i : Fin 16) : querySwapped w (ix2 k ⟨n.val * 128 + (64 + i.val), by omega⟩) = w (ix2 k ⟨n.val * 96 + (80 + i.val), by omega⟩) := by
  pointwise [querySwapped, heads]
  rw [dif_pos (by omega), dif_neg (by omega), dif_pos (by omega)]
  exact congrArg (fun a => w (ix2 k a)) (Fin.ext (by dsimp only; omega))

/-- A column of the second half of a head's exchanged rotary columns. -/
theorem swapped_high (i : Fin 16) : querySwapped w (ix2 k ⟨n.val * 128 + (80 + i.val), by omega⟩) = w (ix2 k ⟨n.val * 96 + (64 + i.val), by omega⟩) := by
  pointwise [querySwapped, heads]
  rw [dif_pos (by omega), dif_neg (by omega), dif_neg (by omega)]
  exact congrArg (fun a => w (ix2 k a)) (Fin.ext (by dsimp only; omega))

end Heads

section Keys

variable (w : FVec Ideal S256x16x64 .f32) (k : Fin 256) (n : Fin 16)

/-- A column of a head's keys. -/
theorem key_first (l : Fin 64) : key w (ix2 ⟨k.val, by omega⟩ ⟨n.val * 128 + l.val, by omega⟩) = w (ix3 k n l) := by
  pointwise [key, fill]
  rw [dif_pos (by omega)]
  exact congrArg (fun a => w (ix3 k n a)) (Fin.ext (by dsimp only; omega))

/-- The other columns of a head are empty. -/
theorem key_rest (l : Fin 64) : key w (ix2 ⟨k.val, by omega⟩ ⟨n.val * 128 + (64 + l.val), by omega⟩) = 0 := by
  pointwise [key, fill]
  rw [dif_neg (by omega), word_zero]

/-- The rows below place the rotary key. -/
theorem key_place (r l : Fin 128) : key w (ix2 ⟨256 + r.val, by omega⟩ ⟨n.val * 128 + l.val, by omega⟩) = place (ix2 r l) := by
  pointwise [key]

/-- A value's weight. -/
theorem value_at (l : Fin 64) : value w (ix2 k ⟨n.val * 64 + l.val, by omega⟩) = w (ix3 k n l) := by
  pointwise [value]

/-- The first lanes take no rotary key. -/
theorem place_first (r : Fin 128) (l : Fin 64) : place (ix2 r ⟨l.val, by omega⟩) = 0 := by
  pointwise [place, fill]
  rw [dif_neg (fun h => h.2.1), word_zero]

/-- The spare lanes take no rotary key. -/
theorem place_spare (r : Fin 128) (l : Fin 32) : place (ix2 r ⟨96 + l.val, by omega⟩) = 0 := by
  pointwise [place, fill]
  rw [dif_neg (by omega), word_zero]

/-- The rotary lanes take the rotary key's numbers, each its own. -/
theorem place_turn (r : Fin 128) (j : Fin 32) : place (ix2 r ⟨64 + j.val, by omega⟩) = if r.val = j.val then 1 else 0 := by
  pointwise [place, fill]
  by_cases h : r.val < 32
  · rw [dif_pos h]
    by_cases e : r.val = j.val
    · rw [if_pos e, e]
      simp [FloatOps.uitofp, IntOp.cmpi, IntOp.addi]
    · have e' : ¬(BitVec.ofNat 32 r.val = BitVec.ofNat 32 j.val) := fun q => e (by
        have := congrArg BitVec.toNat q
        simp only [BitVec.toNat_ofNat] at this
        omega)
      rw [if_neg e]
      simp [FloatOps.uitofp, IntOp.cmpi, IntOp.addi, e']
  · rw [dif_neg h, if_neg (by omega), word_zero]

end Keys

section Tables

variable (s : Fin 2048)

/-- An angle. -/
theorem angle_at (i : Fin 16) : angle (ix2 s i) = theta s i := by
  pointwise [angle]
  rfl

/-- The keys' cosines, first half. -/
theorem cosK_low (i : Fin 16) : cosK (ix2 s ⟨i.val, by omega⟩) = Ideal.cos (theta s i) := by
  pointwise [cosK]
  rw [angle_at]

/-- The keys' cosines, second half. -/
theorem cosK_high (i : Fin 16) : cosK (ix2 s ⟨16 + i.val, by omega⟩) = Ideal.cos (theta s i) := by
  pointwise [cosK]
  rw [angle_at]

/-- The keys' cosines, elsewhere. -/
theorem cosK_rest (i : Fin 96) : cosK (ix2 s ⟨32 + i.val, by omega⟩) = 0 := by
  pointwise [cosK]
  rw [dif_neg (by omega), dif_neg (by omega)]

/-- The keys' sines, first half. -/
theorem sinK_low (i : Fin 16) : sinK (ix2 s ⟨i.val, by omega⟩) = -Ideal.sin (theta s i) := by
  pointwise [sinK]
  rw [angle_at]

/-- The keys' sines, second half. -/
theorem sinK_high (i : Fin 16) : sinK (ix2 s ⟨16 + i.val, by omega⟩) = Ideal.sin (theta s i) := by
  pointwise [sinK]
  rw [angle_at]

/-- The keys' sines, elsewhere. -/
theorem sinK_rest (i : Fin 96) : sinK (ix2 s ⟨32 + i.val, by omega⟩) = 0 := by
  pointwise [sinK]
  rw [dif_neg (by omega), dif_neg (by omega)]

/-- The queries' cosines on the first lanes. -/
theorem cosQ_first (l : Fin 64) : cosQ (ix2 s ⟨l.val, by omega⟩) = scale := by
  pointwise [cosQ]

/-- The queries' cosines, first half. -/
theorem cosQ_low (i : Fin 16) : cosQ (ix2 s ⟨64 + i.val, by omega⟩) = Ideal.cos (theta s i) * scale := by
  pointwise [cosQ]
  rw [angle_at]

/-- The queries' cosines, second half. -/
theorem cosQ_high (i : Fin 16) : cosQ (ix2 s ⟨80 + i.val, by omega⟩) = Ideal.cos (theta s i) * scale := by
  have e : (⟨80 + i.val - 64 - 16, by omega⟩ : Fin 16) = i := Fin.ext (by dsimp only; omega)
  pointwise [cosQ]
  rw [dif_neg (by omega), dif_neg (by omega), dif_pos (by omega), e, angle_at]

/-- The queries' cosines on the spare lanes. -/
theorem cosQ_spare (i : Fin 32) : cosQ (ix2 s ⟨96 + i.val, by omega⟩) = 0 := by
  pointwise [cosQ, spare]
  rw [dif_neg (by omega), dif_neg (by omega), dif_neg (by omega), zero_mul]

/-- The queries' sines on the first lanes. -/
theorem sinQ_first (l : Fin 64) : sinQ (ix2 s ⟨l.val, by omega⟩) = 0 := by
  pointwise [sinQ]
  rw [zero_mul]

/-- The queries' sines, first half. -/
theorem sinQ_low (i : Fin 16) : sinQ (ix2 s ⟨64 + i.val, by omega⟩) = -Ideal.sin (theta s i) * scale := by
  pointwise [sinQ]
  rw [angle_at]

/-- The queries' sines, second half. -/
theorem sinQ_high (i : Fin 16) : sinQ (ix2 s ⟨80 + i.val, by omega⟩) = Ideal.sin (theta s i) * scale := by
  have e : (⟨80 + i.val - 64 - 16, by omega⟩ : Fin 16) = i := Fin.ext (by dsimp only; omega)
  pointwise [sinQ]
  rw [dif_neg (by omega), dif_neg (by omega), dif_pos (by omega), e, angle_at]

/-- The queries' sines on the spare lanes. -/
theorem sinQ_spare (i : Fin 32) : sinQ (ix2 s ⟨96 + i.val, by omega⟩) = 0 := by
  pointwise [sinQ, spare]
  rw [dif_neg (by omega), dif_neg (by omega), dif_neg (by omega), zero_mul]

end Tables

end Cert.MlaPrep
-- ==== Proof.MlaProjRef.lean ====
/-
  The projections of a latent layer: the reference, row by row.
-/
module

public import proofs.«01_k».proof.Proof.Gen.MlaProjRefIdeal.Run
public import proofs.«01_k».proof.Proof.MlaRow

@[expose] public section

set_option maxRecDepth 16384

noncomputable section

namespace Cert.MlaProjRef

open Cert.MlaProjRefIdeal Cert.MlaProjRefIdeal.Gen Cert.PostRow Cert.MlaRow
open Idealize.ShloMosaic Idealize.ShloMosaic.TcCoe Idealize.SL.Sem

variable (x : FVec Ideal S16384x1024 .f32) (g : FVec Ideal S1x1024 .f32) (wdq : FVec Ideal S1024x384 .f32) (gq : FVec Ideal S1x384 .f32)
  (wuq : FVec Ideal S384x1536 .f32) (wdkv : FVec Ideal S1024x288 .f32) (gkv : FVec Ideal S1x256 .f32) (wuk wuv : FVec Ideal S256x16x64 .f32)

/-- The normalised rows, sequence by sequence. -/
def hidden : FVec Ideal S8x2048x1024 .f32 :=
  shapeCast _ (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 g)) shapeCasts_S16384x1024_S8x2048x1024

/-- The small number under the roots. -/
def eps : FVec Ideal S8x2048x1 .f32 := broadcastInDim S8x2048x1 ![] bcast_S_S8x2048x1 (constant S_ .f32 0x358637BD#32)

/-- The queries' latents before their normalisation. -/
def downQ : FVec Ideal S8x2048x384 .f32 := Host.dotGeneral dot_S8x2048x1024_S1024x384_S8x2048x384_2_0_01_1_n_n none (hidden x g) wdq

/-- The keys' latents before their normalisation, with the rotary columns. -/
def downKV : FVec Ideal S8x2048x288 .f32 := Host.dotGeneral dot_S8x2048x1024_S1024x288_S8x2048x288_2_0_01_1_n_n none (hidden x g) wdkv

/-- The queries' latents. -/
def latQ : FVec Ideal S8x2048x384 .f32 :=
  mulf (mulf (downQ x g wdq) (broadcastInDim S8x2048x384 ![0, 1, 2] bcast_S8x2048x1_S8x2048x384_0_1_2 (Host.rsqrt (addf (Host.divf (broadcastInDim S8x2048x1 ![0, 1] bcast_S8x2048_S8x2048x1_0_1 (Host.reduceAdd (mulf (downQ x g wdq) (downQ x g wdq)) (constant S_ .f32 0x00000000#32) reducesTo_S8x2048x384_S8x2048_d2 h_S_)) (broadcastInDim S8x2048x1 ![] bcast_S_S8x2048x1 (constant S_ .f32 0x43C00000#32))) eps)))) (broadcastInDim S8x2048x384 ![0, 1, 2] bcast_S1x1x384_S8x2048x384_0_1_2 (broadcastInDim S1x1x384 ![1, 2] bcast_S1x384_S1x1x384_1_2 gq))

/-- The queries, head by head. -/
def heads : FVec Ideal S8x2048x16x96 .f32 :=
  shapeCast _ (Host.dotGeneral dot_S8x2048x384_S384x1536_S8x2048x1536_2_0_01_1_n_n none (latQ x g wdq gq) wuq) shapeCasts_S8x2048x1536_S8x2048x16x96

/-- The keys' latents before their normalisation, alone. -/
def downC : FVec Ideal S8x2048x256 .f32 := extractStridedSlice S8x2048x256 ![0, 0, 0] (downKV x g wdkv) slices_S8x2048x288_S8x2048x256_0_0_0

/-- The keys' latents. -/
def latC : FVec Ideal S8x2048x256 .f32 :=
  mulf (mulf (downC x g wdkv) (broadcastInDim S8x2048x256 ![0, 1, 2] bcast_S8x2048x1_S8x2048x256_0_1_2 (Host.rsqrt (addf (Host.divf (broadcastInDim S8x2048x1 ![0, 1] bcast_S8x2048_S8x2048x1_0_1 (Host.reduceAdd (mulf (downC x g wdkv) (downC x g wdkv)) (constant S_ .f32 0x00000000#32) reducesTo_S8x2048x256_S8x2048_d2 h_S_)) (broadcastInDim S8x2048x1 ![] bcast_S_S8x2048x1 (constant S_ .f32 0x43800000#32))) eps)))) (broadcastInDim S8x2048x256 ![0, 1, 2] bcast_S1x1x256_S8x2048x256_0_1_2 (broadcastInDim S1x1x256 ![1, 2] bcast_S1x256_S1x1x256_1_2 gkv))

/-- The angle of a position and a frequency. -/
def angle : FVec Ideal S2048x16 .f32 :=
  mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

/-- The cosines, for every sequence and head. -/
def cosines : FVec Ideal S1x2048x1x16 .f32 := broadcastInDim S1x2048x1x16 ![1, 3] bcast_S2048x16_S1x2048x1x16_1_3 (Host.cos angle)

/-- The sines, for every sequence and head. -/
def sines : FVec Ideal S1x2048x1x16 .f32 := broadcastInDim S1x2048x1x16 ![1, 3] bcast_S2048x16_S1x2048x1x16_1_3 (Host.sin angle)

/-- The rotary columns of the keys. -/
def partK : FVec Ideal S8x2048x1x32 .f32 := broadcastInDim S8x2048x1x32 ![0, 1, 3] bcast_S8x2048x32_S8x2048x1x32_0_1_3 (extractStridedSlice S8x2048x32 ![0, 0, 256] (downKV x g wdkv) slices_S8x2048x288_S8x2048x32_0_0_256)

/-- The first half of the keys' rotary columns. -/
def lowK : FVec Ideal S8x2048x1x16 .f32 := extractStridedSlice S8x2048x1x16 ![0, 0, 0, 0] (partK x g wdkv) slices_S8x2048x1x32_S8x2048x1x16_0_0_0_0

/-- The second half of the keys' rotary columns. -/
def highK : FVec Ideal S8x2048x1x16 .f32 := extractStridedSlice S8x2048x1x16 ![0, 0, 0, 16] (partK x g wdkv) slices_S8x2048x1x32_S8x2048x1x16_0_0_0_16

/-- The rotary keys. -/
def turnedK : FVec Ideal S8x2048x1x32 .f32 :=
  concatenate S8x2048x1x32 3 [⟨S8x2048x1x16, subf (mulf (lowK x g wdkv) (broadcastInDim S8x2048x1x16 ![0, 1, 2, 3] bcast_S1x2048x1x16_S8x2048x1x16_0_1_2_3 cosines)) (mulf (highK x g wdkv) (broadcastInDim S8x2048x1x16 ![0, 1, 2, 3] bcast_S1x2048x1x16_S8x2048x1x16_0_1_2_3 sines))⟩, ⟨S8x2048x1x16, addf (mulf (lowK x g wdkv) (broadcastInDim S8x2048x1x16 ![0, 1, 2, 3] bcast_S1x2048x1x16_S8x2048x1x16_0_1_2_3 sines)) (mulf (highK x g wdkv) (broadcastInDim S8x2048x1x16 ![0, 1, 2, 3] bcast_S1x2048x1x16_S8x2048x1x16_0_1_2_3 cosines))⟩] concatenates_S8x2048x1x16_S8x2048x1x16_S8x2048x1x32_d3

/-- The rotary part of the queries. -/
def partQ : FVec Ideal S8x2048x16x32 .f32 := extractStridedSlice S8x2048x16x32 ![0, 0, 0, 64] (heads x g wdq gq wuq) slices_S8x2048x16x96_S8x2048x16x32_0_0_0_64

/-- The first half of the queries' rotary part. -/
def lowQ : FVec Ideal S8x2048x16x16 .f32 := extractStridedSlice S8x2048x16x16 ![0, 0, 0, 0] (partQ x g wdq gq wuq) slices_S8x2048x16x32_S8x2048x16x16_0_0_0_0

/-- The second half of the queries' rotary part. -/
def highQ : FVec Ideal S8x2048x16x16 .f32 := extractStridedSlice S8x2048x16x16 ![0, 0, 0, 16] (partQ x g wdq gq wuq) slices_S8x2048x16x32_S8x2048x16x16_0_0_0_16

/-- The rotated part of the queries. -/
def turnedQ : FVec Ideal S8x2048x16x32 .f32 :=
  concatenate S8x2048x16x32 3 [⟨S8x2048x16x16, subf (mulf (lowQ x g wdq gq wuq) (broadcastInDim S8x2048x16x16 ![0, 1, 2, 3] bcast_S1x2048x1x16_S8x2048x16x16_0_1_2_3 cosines)) (mulf (highQ x g wdq gq wuq) (broadcastInDim S8x2048x16x16 ![0, 1, 2, 3] bcast_S1x2048x1x16_S8x2048x16x16_0_1_2_3 sines))⟩, ⟨S8x2048x16x16, addf (mulf (lowQ x g wdq gq wuq) (broadcastInDim S8x2048x16x16 ![0, 1, 2, 3] bcast_S1x2048x1x16_S8x2048x16x16_0_1_2_3 sines)) (mulf (highQ x g wdq gq wuq) (broadcastInDim S8x2048x16x16 ![0, 1, 2, 3] bcast_S1x2048x1x16_S8x2048x16x16_0_1_2_3 cosines))⟩] concatenates_S8x2048x16x16_S8x2048x16x16_S8x2048x16x32_d3

/-- Zeros on the spare lanes. -/
def spare : FVec Ideal S8x2048x16x32 .f32 := broadcastInDim S8x2048x16x32 ![] bcast_S_S8x2048x16x32 (constant S_ .f32 0x00000000#32)

/-- The scaled queries, head by head. -/
def rowsQ : FVec Ideal S8x2048x16x128 .f32 :=
  mulf (concatenate S8x2048x16x128 3 [⟨S8x2048x16x64, extractStridedSlice S8x2048x16x64 ![0, 0, 0, 0] (heads x g wdq gq wuq) slices_S8x2048x16x96_S8x2048x16x64_0_0_0_0⟩, ⟨S8x2048x16x32, turnedQ x g wdq gq wuq⟩, ⟨S8x2048x16x32, spare⟩] concatenates_S8x2048x16x64_S8x2048x16x32_S8x2048x16x32_S8x2048x16x128_d3) (broadcastInDim S8x2048x16x128 ![] bcast_S_S8x2048x16x128 (constant S_ .f32 0x3DD105EC#32))

/-- The scaled queries. -/
def queries : FVec Ideal S16384x2048 .bf16 :=
  truncf .bf16 (shapeCast S16384x2048 (rowsQ x g wdq gq wuq) shapeCasts_S8x2048x16x128_S16384x2048) bitsLt_bf16_f32

/-- The latents the cache keeps. -/
def latents : FVec Ideal S16384x256 .f32 := shapeCast S16384x256 (latC x g wdkv gkv) shapeCasts_S8x2048x256_S16384x256

/-- The rotary keys the cache keeps. -/
def rotary : FVec Ideal S16384x32 .f32 := shapeCast S16384x32 (turnedK x g wdkv) shapeCasts_S8x2048x1x32_S16384x32

/-- The keys, head by head. -/
def rowsK : FVec Ideal S8x2048x16x128 .f32 :=
  concatenate S8x2048x16x128 3 [⟨S8x2048x16x64, Host.dotGeneral dot_S8x2048x256_S256x16x64_S8x2048x16x64_2_0_01_12_n_n none (latC x g wdkv gkv) wuk⟩, ⟨S8x2048x16x32, broadcastInDim S8x2048x16x32 ![0, 1, 2, 3] bcast_S8x2048x1x32_S8x2048x16x32_0_1_2_3 (turnedK x g wdkv)⟩, ⟨S8x2048x16x32, spare⟩] concatenates_S8x2048x16x64_S8x2048x16x32_S8x2048x16x32_S8x2048x16x128_d3

/-- The keys. -/
def keys : FVec Ideal S16384x2048 .bf16 :=
  truncf .bf16 (shapeCast S16384x2048 (rowsK x g wdkv gkv wuk) shapeCasts_S8x2048x16x128_S16384x2048) bitsLt_bf16_f32

/-- The values. -/
def values : FVec Ideal S16384x1024 .bf16 :=
  truncf .bf16 (shapeCast S16384x1024 (Host.dotGeneral dot_S8x2048x256_S256x16x64_S8x2048x16x64_2_0_01_12_n_n none (latC x g wdkv gkv) wuv) shapeCasts_S8x2048x16x64_S16384x1024) bitsLt_bf16_f32

/-- A row's normalised numbers. -/
abbrev H (R : Fin 16384) : Fin 1024 → EReal := norm (row x R) (row g 0)

/-- A row's latents for the queries. -/
abbrev Q (R : Fin 16384) : Fin 384 → EReal := rms (Ideal.ofBits FTy.f32 0x43C00000#32) (times (H x g R) (row wdq)) (row gq 0)

/-- A row's latents for the keys. -/
abbrev C (R : Fin 16384) : Fin 256 → EReal :=
  rms (Ideal.ofBits FTy.f32 0x43800000#32) (times (H x g R) fun k (j : Fin 256) => wdkv (ix2 k ⟨j.val, by omega⟩)) (row gkv 0)

/-- A row's rotary columns before the rotation. -/
abbrev P (R : Fin 16384) (j : Fin 32) : EReal := ∑ k, H x g R k * wdkv (ix2 k ⟨256 + j.val, by omega⟩)

/-- A head's column of a row's queries. -/
abbrev U (R : Fin 16384) (n : Fin 16) (l : Fin 96) : EReal := ∑ k, Q x g wdq gq R k * wuq (ix2 k ⟨n.val * 96 + l.val, by omega⟩)

variable (b : Fin 8) (s : Fin 2048) (R : Fin 16384)

/-- A normalised number. -/
theorem hidden_at (k : Fin 1024) : hidden x g (ix3 b s k) = H x g ⟨b.val * 2048 + s.val, by omega⟩ k := by
  pointwise [hidden]
  rfl

/-- A query's latent before its normalisation. -/
theorem downQ_at (j : Fin 384) : downQ x g wdq (ix3 b s j) = times (H x g ⟨b.val * 2048 + s.val, by omega⟩) (row wdq) j := by
  pointwise [downQ]
  simp only [hidden_at]
  rfl

/-- A key's latent or rotary column before its normalisation. -/
theorem downKV_at (j : Fin 288) : downKV x g wdkv (ix3 b s j) = ∑ k, H x g ⟨b.val * 2048 + s.val, by omega⟩ k * wdkv (ix2 k j) := by
  pointwise [downKV]
  simp only [hidden_at]

/-- A query's latent. -/
theorem latQ_at (j : Fin 384) : latQ x g wdq gq (ix3 b s j) = Q x g wdq gq ⟨b.val * 2048 + s.val, by omega⟩ j := by
  pointwise [latQ, eps]
  simp only [downQ_at]
  rfl

/-- A key's latent. -/
theorem latC_at (j : Fin 256) : latC x g wdkv gkv (ix3 b s j) = C x g wdkv gkv ⟨b.val * 2048 + s.val, by omega⟩ j := by
  pointwise [latC, eps, downC]
  simp only [downKV_at]
  rfl

/-- A query's number, head by head. -/
theorem heads_at (n : Fin 16) (l : Fin 96) : heads x g wdq gq wuq (ix4 b s n l) = U x g wdq gq wuq ⟨b.val * 2048 + s.val, by omega⟩ n l := by
  pointwise [heads]
  simp only [latQ_at]

/-- An angle. -/
theorem angle_at (i : Fin 16) : angle (ix2 s i) = theta s i := by
  pointwise [angle]
  rfl

/-- The first half of a rotary key. -/
theorem turnedK_low (i : Fin 16) : turnedK x g wdkv (ix4 b s 0 ⟨i.val, by omega⟩)
    = turnLow s (P x g wdkv ⟨b.val * 2048 + s.val, by omega⟩ ⟨i.val, by omega⟩) (P x g wdkv ⟨b.val * 2048 + s.val, by omega⟩ ⟨16 + i.val, by omega⟩) i := by
  pointwise [turnedK, lowK, highK, partK, cosines, sines]
  simp only [angle_at, downKV_at]
  rfl

/-- The second half of a rotary key. -/
theorem turnedK_high (i : Fin 16) : turnedK x g wdkv (ix4 b s 0 ⟨16 + i.val, by omega⟩)
    = turnHigh s (P x g wdkv ⟨b.val * 2048 + s.val, by omega⟩ ⟨i.val, by omega⟩) (P x g wdkv ⟨b.val * 2048 + s.val, by omega⟩ ⟨16 + i.val, by omega⟩) i := by
  pointwise [turnedK, lowK, highK, partK, cosines, sines]
  simp only [angle_at, downKV_at]
  rfl

/-- The first half of the rotary part of a query. -/
theorem turnedQ_low (n i : Fin 16) : turnedQ x g wdq gq wuq (ix4 b s n ⟨i.val, by omega⟩)
    = turnLow s (U x g wdq gq wuq ⟨b.val * 2048 + s.val, by omega⟩ n ⟨64 + i.val, by omega⟩) (U x g wdq gq wuq ⟨b.val * 2048 + s.val, by omega⟩ n ⟨80 + i.val, by omega⟩) i := by
  have e : (⟨64 + (16 + i.val), by omega⟩ : Fin 96) = ⟨80 + i.val, by omega⟩ := Fin.ext (by dsimp only; omega)
  pointwise [turnedQ, lowQ, highQ, partQ, cosines, sines]
  simp only [angle_at, heads_at]
  rw [e]
  rfl

/-- The second half of the rotary part of a query. -/
theorem turnedQ_high (n i : Fin 16) : turnedQ x g wdq gq wuq (ix4 b s n ⟨16 + i.val, by omega⟩)
    = turnHigh s (U x g wdq gq wuq ⟨b.val * 2048 + s.val, by omega⟩ n ⟨64 + i.val, by omega⟩) (U x g wdq gq wuq ⟨b.val * 2048 + s.val, by omega⟩ n ⟨80 + i.val, by omega⟩) i := by
  have e : (⟨64 + (16 + i.val), by omega⟩ : Fin 96) = ⟨80 + i.val, by omega⟩ := Fin.ext (by dsimp only; omega)
  pointwise [turnedQ, lowQ, highQ, partQ, cosines, sines]
  simp only [angle_at, heads_at]
  rw [e]
  rfl

/-- A latent. -/
theorem latents_at (j : Fin 256) : latents x g wdkv gkv (ix2 R j) = C x g wdkv gkv R j := by
  pointwise [latents]
  rw [latC_at, seq_pos]

/-- A value. -/
theorem values_at (n : Fin 16) (l : Fin 64) : values x g wdkv gkv wuv (ix2 R ⟨n.val * 64 + l.val, by omega⟩)
    = ∑ k, C x g wdkv gkv R k * wuv (ix3 k n l) := by
  pointwise [values]
  simp only [latC_at]
  rw [seq_pos]

/-- The first half of a rotary key. -/
theorem rotary_low (i : Fin 16) : rotary x g wdkv (ix2 R ⟨i.val, by omega⟩)
    = turnLow (pos R) (P x g wdkv R ⟨i.val, by omega⟩) (P x g wdkv R ⟨16 + i.val, by omega⟩) i := by
  pointwise [rotary]
  rw [turnedK_low, seq_pos]

/-- The second half of a rotary key. -/
theorem rotary_high (i : Fin 16) : rotary x g wdkv (ix2 R ⟨16 + i.val, by omega⟩)
    = turnHigh (pos R) (P x g wdkv R ⟨i.val, by omega⟩) (P x g wdkv R ⟨16 + i.val, by omega⟩) i := by
  pointwise [rotary]
  rw [turnedK_high, seq_pos]

/-- A key's number is its head's at its lane. -/
theorem keys_at (n : Fin 16) (l : Fin 128) : keys x g wdkv gkv wuk (ix2 R ⟨n.val * 128 + l.val, by omega⟩)
    = rowsK x g wdkv gkv wuk (ix4 (seq R) (pos R) n l) := by
  pointwise [keys]

/-- A query's number is its head's at its lane. -/
theorem queries_at (n : Fin 16) (l : Fin 128) : queries x g wdq gq wuq (ix2 R ⟨n.val * 128 + l.val, by omega⟩)
    = rowsQ x g wdq gq wuq (ix4 (seq R) (pos R) n l) := by
  pointwise [queries]

/-- A key's first lanes. -/
theorem keys_first (n : Fin 16) (l : Fin 64) : rowsK x g wdkv gkv wuk (ix4 (seq R) (pos R) n ⟨l.val, by omega⟩)
    = ∑ k, C x g wdkv gkv R k * wuk (ix3 k n l) := by
  pointwise [rowsK]
  simp only [latC_at]
  rw [seq_pos]

/-- The first half of a key's rotary lanes. -/
theorem keys_low (n i : Fin 16) : rowsK x g wdkv gkv wuk (ix4 (seq R) (pos R) n ⟨64 + i.val, by omega⟩)
    = turnLow (pos R) (P x g wdkv R ⟨i.val, by omega⟩) (P x g wdkv R ⟨16 + i.val, by omega⟩) i := by
  pointwise [rowsK]
  rw [dif_pos (by omega), turnedK_low, seq_pos]

/-- The second half of a key's rotary lanes. -/
theorem keys_high (n i : Fin 16) : rowsK x g wdkv gkv wuk (ix4 (seq R) (pos R) n ⟨80 + i.val, by omega⟩)
    = turnHigh (pos R) (P x g wdkv R ⟨i.val, by omega⟩) (P x g wdkv R ⟨16 + i.val, by omega⟩) i := by
  have e : (⟨80 + i.val - 64, by omega⟩ : Fin 32) = ⟨16 + i.val, by omega⟩ := Fin.ext (by dsimp only; omega)
  pointwise [rowsK]
  rw [dif_neg (by omega), dif_pos (by omega), e, turnedK_high, seq_pos]

/-- A key's spare lanes. -/
theorem keys_spare (n : Fin 16) (i : Fin 32) : rowsK x g wdkv gkv wuk (ix4 (seq R) (pos R) n ⟨96 + i.val, by omega⟩) = 0 := by
  pointwise [rowsK, spare]
  rw [dif_neg (by omega), dif_neg (by omega)]

/-- A query's first lanes. -/
theorem queries_first (n : Fin 16) (l : Fin 64) : rowsQ x g wdq gq wuq (ix4 (seq R) (pos R) n ⟨l.val, by omega⟩)
    = U x g wdq gq wuq R n ⟨l.val, by omega⟩ * Ideal.ofBits FTy.f32 0x3DD105EC#32 := by
  pointwise [rowsQ]
  simp only [heads_at]
  rw [seq_pos]

/-- The first half of a query's rotary lanes. -/
theorem queries_low (n i : Fin 16) : rowsQ x g wdq gq wuq (ix4 (seq R) (pos R) n ⟨64 + i.val, by omega⟩)
    = turnLow (pos R) (U x g wdq gq wuq R n ⟨64 + i.val, by omega⟩) (U x g wdq gq wuq R n ⟨80 + i.val, by omega⟩) i * Ideal.ofBits FTy.f32 0x3DD105EC#32 := by
  pointwise [rowsQ]
  rw [dif_pos (by omega), turnedQ_low, seq_pos]

/-- The second half of a query's rotary lanes. -/
theorem queries_high (n i : Fin 16) : rowsQ x g wdq gq wuq (ix4 (seq R) (pos R) n ⟨80 + i.val, by omega⟩)
    = turnHigh (pos R) (U x g wdq gq wuq R n ⟨64 + i.val, by omega⟩) (U x g wdq gq wuq R n ⟨80 + i.val, by omega⟩) i * Ideal.ofBits FTy.f32 0x3DD105EC#32 := by
  have e : (⟨80 + i.val - 64, by omega⟩ : Fin 32) = ⟨16 + i.val, by omega⟩ := Fin.ext (by dsimp only; omega)
  pointwise [rowsQ]
  rw [dif_neg (by omega), dif_pos (by omega), e, turnedQ_high, seq_pos]

/-- A query's spare lanes. -/
theorem queries_spare (n : Fin 16) (i : Fin 32) : rowsQ x g wdq gq wuq (ix4 (seq R) (pos R) n ⟨96 + i.val, by omega⟩) = 0 := by
  pointwise [rowsQ, spare]
  rw [dif_neg (by omega), dif_neg (by omega), zero_mul]

end Cert.MlaProjRef
-- ==== Proof.MlaProjValue.lean ====
/-
  The projections of a latent layer: the kernel's five result arrays are the reference's.
-/
module

public import proofs.«01_k».proof.Proof.MlaBlock
public import proofs.«01_k».proof.Proof.MlaTables
public import proofs.«01_k».proof.Proof.MlaProjRef

@[expose] public section

set_option maxRecDepth 16384

noncomputable section

namespace Cert.MlaProjValue

open Cert.MlaProjIdeal Cert.MlaProjIdeal.Gen Cert.PostRow Cert.MlaRow Cert.MlaPrep
open Idealize.ShloMosaic Idealize.ShloMosaic.TcCoe Idealize.SL.Sem

variable (m : (ℓ : Loc nD τ sig) → Buf (Elt Ideal) ℓ) (c : Dev nD)

/-- The windows' blocks at a grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val % 4, 0] ∧ win0_8.index t = ![t.val % 4, 0] ∧ win0_9.index t = ![t.val % 4, 0] ∧ win0_10.index t = ![t.val % 4, 0]
    ∧ win0_11.index t = ![0, 0] ∧ win0_12.index t = ![0, 0]
    ∧ win0_13.index t = ![t.val, 0] ∧ win0_14.index t = ![t.val, 0] ∧ win0_15.index t = ![t.val, 0] ∧ win0_16.index t = ![t.val, 0] ∧ win0_17.index t = ![t.val, 0] :=
  (by decide +kernel : ∀ t : Fin grid0.N, _)

/-- The row of the arrays that is a row of a block. -/
abbrev at_ (t : Fin cfg0.N) (r : Fin 512) : Fin 16384 := ⟨512 * t.val + r.val, by have : t.val < 32 := t.isLt; omega⟩

section Blocks

variable (t : Fin cfg0.N) (r : Fin 512)

/-- A row of the activations' block is a row of the array. -/
theorem rows : row (iblk m c 0 t) r = row (m ((c.tc : Thread nD τ).loc main_arg0)) (at_ t r) :=
  funext fun k => by blk_ext [row, iblk, V, idx t]

/-- The first normalisation's weights' block is the whole array. -/
theorem mixing : row (iblk m c 1 t) 0 = row (m ((c.tc : Thread nD τ).loc main_arg1)) 0 :=
  funext fun k => by blk_ext [row, iblk, V, idx t]

/-- The first projection's block is the whole array. -/
theorem columns (k : Fin 1024) (j : Fin 896) : iblk m c 2 t (ix2 k j) = first (m ((c.tc : Thread nD τ).loc main_arg2)) (m ((c.tc : Thread nD τ).loc main_arg5)) (ix2 k j) := by
  rw [← entry_v8]
  blk_ext [iblk, idx t]

/-- The queries' normalisation's weights' block is the whole array. -/
theorem weightsQ : row (iblk m c 3 t) 0 = row (m ((c.tc : Thread nD τ).loc main_arg3)) 0 :=
  funext fun k => by blk_ext [row, iblk, V, idx t]

/-- The queries' projection's block is the whole array. -/
theorem columnsQ (k : Fin 384) (j : Fin 2048) : iblk m c 4 t (ix2 k j) = query (m ((c.tc : Thread nD τ).loc main_arg4)) (ix2 k j) := by
  rw [← entry_v12]
  blk_ext [iblk, idx t]

/-- The exchanged queries' projection's block is the whole array. -/
theorem columnsS (k : Fin 384) (j : Fin 2048) : iblk m c 5 t (ix2 k j) = querySwapped (m ((c.tc : Thread nD τ).loc main_arg4)) (ix2 k j) := by
  rw [← entry_v20]
  blk_ext [iblk, idx t]

/-- The keys' normalisation's weights' block is the whole array. -/
theorem weightsK : row (iblk m c 6 t) 0 = row (m ((c.tc : Thread nD τ).loc main_arg6)) 0 :=
  funext fun k => by blk_ext [row, iblk, V, idx t]

/-- The queries' cosines of a row are its position's. -/
theorem tableCQ (l : Fin 128) : iblk m c 7 t (ix2 r l) = cosQ (ix2 (pos (at_ t r)) l) := by
  have e : (⟨512 * (t.val % 4) + r.val, by omega⟩ : Fin 2048) = pos (at_ t r) := Fin.ext (by dsimp only; omega)
  rw [← entry_v56 m c, ← e]
  blk_ext [iblk, idx t]

/-- The queries' sines of a row are its position's. -/
theorem tableSQ (l : Fin 128) : iblk m c 8 t (ix2 r l) = sinQ (ix2 (pos (at_ t r)) l) := by
  have e : (⟨512 * (t.val % 4) + r.val, by omega⟩ : Fin 2048) = pos (at_ t r) := Fin.ext (by dsimp only; omega)
  rw [← entry_v61 m c, ← e]
  blk_ext [iblk, idx t]

/-- The keys' cosines of a row are its position's. -/
theorem tableCK (l : Fin 128) : iblk m c 9 t (ix2 r l) = cosK (ix2 (pos (at_ t r)) l) := by
  have e : (⟨512 * (t.val % 4) + r.val, by omega⟩ : Fin 2048) = pos (at_ t r) := Fin.ext (by dsimp only; omega)
  rw [← entry_v63 m c, ← e]
  blk_ext [iblk, idx t]

/-- The keys' sines of a row are its position's. -/
theorem tableSK (l : Fin 128) : iblk m c 10 t (ix2 r l) = sinK (ix2 (pos (at_ t r)) l) := by
  have e : (⟨512 * (t.val % 4) + r.val, by omega⟩ : Fin 2048) = pos (at_ t r) := Fin.ext (by dsimp only; omega)
  rw [← entry_v65 m c, ← e]
  blk_ext [iblk, idx t]

/-- The keys' projection's block is the whole array. -/
theorem columnsK (k : Fin 384) (j : Fin 2048) : iblk m c 11 t (ix2 k j) = key (m ((c.tc : Thread nD τ).loc main_arg7)) (ix2 k j) := by
  rw [← entry_v34]
  blk_ext [iblk, idx t]

/-- The values' projection's block is the whole array. -/
theorem columnsV (k : Fin 256) (j : Fin 1024) : iblk m c 12 t (ix2 k j) = value (m ((c.tc : Thread nD τ).loc main_arg8)) (ix2 k j) := by
  rw [← entry_v36]
  blk_ext [iblk, idx t]

end Blocks

end Cert.MlaProjValue
-- ==== Proof.MlaProjFinal.lean ====
/-
  The projections of a latent layer: the kernel's result arrays after the run are the reference's.
-/
module

public import proofs.«01_k».proof.Proof.MlaProjValue

@[expose] public section

set_option maxRecDepth 16384

noncomputable section

namespace Cert.MlaProjValue

open Cert.MlaProjIdeal Cert.MlaProjIdeal.Gen Cert.PostRow Cert.MlaRow Cert.MlaPrep
open Idealize.ShloMosaic Idealize.ShloMosaic.TcCoe Idealize.SL.Sem

variable (m : (ℓ : Loc nD τ sig) → Buf (Elt Ideal) ℓ) (c : Dev nD)

section Rows

variable (t : Fin cfg0.N) (r : Fin 512)

/-- A block's latents for the keys are the reference's. -/
theorem latC_eq : MlaBlock.latC r (iblk m c 0 t) (iblk m c 1 t) (iblk m c 2 t) (iblk m c 6 t)
    = MlaProjRef.C (m ((c.tc : Thread nD τ).loc main_arg0)) (m ((c.tc : Thread nD τ).loc main_arg1)) (m ((c.tc : Thread nD τ).loc main_arg5)) (m ((c.tc : Thread nD τ).loc main_arg6)) (at_ t r) := by
  unfold MlaBlock.latC MlaProjRef.C
  rw [rows, mixing, weightsK]
  simp only [columns, first_keys]

/-- A block's latents for the queries are the reference's. -/
theorem latQ_eq : MlaBlock.latQ r (iblk m c 0 t) (iblk m c 1 t) (iblk m c 2 t) (iblk m c 3 t)
    = MlaProjRef.Q (m ((c.tc : Thread nD τ).loc main_arg0)) (m ((c.tc : Thread nD τ).loc main_arg1)) (m ((c.tc : Thread nD τ).loc main_arg2)) (m ((c.tc : Thread nD τ).loc main_arg3)) (at_ t r) := by
  unfold MlaBlock.latQ MlaProjRef.Q
  rw [rows, mixing, weightsQ]
  simp only [columns, first_queries]

/-- A block's rotary key, first half. -/
theorem turned_low (i : Fin 16) : MlaBlock.turned r (iblk m c 0 t) (iblk m c 1 t) (iblk m c 2 t) (iblk m c 9 t) (iblk m c 10 t) ⟨i.val, by omega⟩
    = turnLow (pos (at_ t r)) (MlaProjRef.P (m ((c.tc : Thread nD τ).loc main_arg0)) (m ((c.tc : Thread nD τ).loc main_arg1)) (m ((c.tc : Thread nD τ).loc main_arg5)) (at_ t r) ⟨i.val, by omega⟩)
        (MlaProjRef.P (m ((c.tc : Thread nD τ).loc main_arg0)) (m ((c.tc : Thread nD τ).loc main_arg1)) (m ((c.tc : Thread nD τ).loc main_arg5)) (at_ t r) ⟨16 + i.val, by omega⟩) i := by
  unfold MlaBlock.turned turnLow MlaProjRef.P
  rw [rows, mixing, tableCK, tableSK, cosK_low, sinK_low]
  simp only [columns, first_low]
  simp only [fun k => first_turn (m ((c.tc : Thread nD τ).loc main_arg2)) (m ((c.tc : Thread nD τ).loc main_arg5)) k ⟨i.val, by omega⟩]
  rw [mul_neg, sub_eq_add_neg]

/-- A block's rotary key, second half. -/
theorem turned_high (i : Fin 16) : MlaBlock.turned r (iblk m c 0 t) (iblk m c 1 t) (iblk m c 2 t) (iblk m c 9 t) (iblk m c 10 t) ⟨16 + i.val, by omega⟩
    = turnHigh (pos (at_ t r)) (MlaProjRef.P (m ((c.tc : Thread nD τ).loc main_arg0)) (m ((c.tc : Thread nD τ).loc main_arg1)) (m ((c.tc : Thread nD τ).loc main_arg5)) (at_ t r) ⟨i.val, by omega⟩)
        (MlaProjRef.P (m ((c.tc : Thread nD τ).loc main_arg0)) (m ((c.tc : Thread nD τ).loc main_arg1)) (m ((c.tc : Thread nD τ).loc main_arg5)) (at_ t r) ⟨16 + i.val, by omega⟩) i := by
  have e : (⟨768 + (16 + i.val), by omega⟩ : Fin 896) = ⟨784 + i.val, by omega⟩ := Fin.ext (by dsimp only; omega)
  unfold MlaBlock.turned turnHigh MlaProjRef.P
  rw [rows, mixing, tableCK, tableSK, cosK_high, sinK_high]
  simp only [columns, e, first_high]
  simp only [fun k => first_turn (m ((c.tc : Thread nD τ).loc main_arg2)) (m ((c.tc : Thread nD τ).loc main_arg5)) k ⟨16 + i.val, by omega⟩]
  rw [add_comm]

/-- A block's rotary key on 32 lanes is the reference's. -/
theorem turned_eq (j : Fin 32) : MlaBlock.turned r (iblk m c 0 t) (iblk m c 1 t) (iblk m c 2 t) (iblk m c 9 t) (iblk m c 10 t) ⟨j.val, by omega⟩
    = MlaProjRef.rotary (m ((c.tc : Thread nD τ).loc main_arg0)) (m ((c.tc : Thread nD τ).loc main_arg1)) (m ((c.tc : Thread nD τ).loc main_arg5)) (ix2 (at_ t r) j) := by
  rcases halves j with ⟨i, rfl⟩ | ⟨i, rfl⟩
  · rw [turned_low, MlaProjRef.rotary_low]
  · rw [turned_high, MlaProjRef.rotary_high]

/-- A block's keys are the reference's. -/
theorem keys_eq (j : Fin 2048) :
    ∑ k : Fin 256, MlaBlock.latC r (iblk m c 0 t) (iblk m c 1 t) (iblk m c 2 t) (iblk m c 6 t) k * iblk m c 11 t (ix2 ⟨k.val, by omega⟩ j)
      + ∑ k : Fin 128, MlaBlock.turned r (iblk m c 0 t) (iblk m c 1 t) (iblk m c 2 t) (iblk m c 9 t) (iblk m c 10 t) k * iblk m c 11 t (ix2 ⟨256 + k.val, by omega⟩ j)
    = MlaProjRef.keys (m ((c.tc : Thread nD τ).loc main_arg0)) (m ((c.tc : Thread nD τ).loc main_arg1)) (m ((c.tc : Thread nD τ).loc main_arg5))
        (m ((c.tc : Thread nD τ).loc main_arg6)) (m ((c.tc : Thread nD τ).loc main_arg7)) (ix2 (at_ t r) j) := by
  obtain ⟨n, l, rfl⟩ := wide j
  rw [latC_eq, MlaProjRef.keys_at]
  simp only [columnsK]
  simp only [key_place]
  have one (T : Fin 128 → EReal) (j : Fin 32) : ∑ k : Fin 128, T k * place (ix2 k ⟨64 + j.val, by omega⟩) = T ⟨j.val, by omega⟩ := by
    simp only [place_turn]
    rw [Finset.sum_eq_single (⟨j.val, by omega⟩ : Fin 128)]
    · simp
    · intro k _ hk
      rw [if_neg (fun h => hk (Fin.ext h)), mul_zero]
    · simp
  have rest (i : Fin 64) (k : Fin 256) := key_rest (m ((c.tc : Thread nD τ).loc main_arg7)) k n i
  rcases lanes l with ⟨i, rfl⟩ | ⟨i, rfl⟩ | ⟨i, rfl⟩ | ⟨i, rfl⟩
  · rw [MlaProjRef.keys_first]
    simp only [key_first, place_first, mul_zero, Finset.sum_const_zero, add_zero]
  · rw [MlaProjRef.keys_low, one _ ⟨i.val, by omega⟩, turned_low]
    simp only [rest ⟨i.val, by omega⟩, mul_zero, Finset.sum_const_zero, zero_add]
  · have e : (⟨80 + i.val, by omega⟩ : Fin 128) = ⟨64 + (16 + i.val), by omega⟩ := Fin.ext (by dsimp only; omega)
    have e' : (⟨n.val * 128 + (80 + i.val), by omega⟩ : Fin 2048) = ⟨n.val * 128 + (64 + (16 + i.val)), by omega⟩ := Fin.ext (by dsimp only; omega)
    rw [MlaProjRef.keys_high]
    simp only [e, e']
    rw [one _ ⟨16 + i.val, by omega⟩, turned_high]
    simp only [rest ⟨16 + i.val, by omega⟩, mul_zero, Finset.sum_const_zero, zero_add]
  · have e' : (⟨n.val * 128 + (96 + i.val), by omega⟩ : Fin 2048) = ⟨n.val * 128 + (64 + (32 + i.val)), by omega⟩ := Fin.ext (by dsimp only; omega)
    rw [MlaProjRef.keys_spare]
    simp only [place_spare, e']
    simp only [rest ⟨32 + i.val, by omega⟩, mul_zero, Finset.sum_const_zero, zero_add]

/-- A block's queries are the reference's. -/
theorem queries_eq (n : Fin 16) (l : Fin 128) :
    (∑ k, MlaBlock.latQ r (iblk m c 0 t) (iblk m c 1 t) (iblk m c 2 t) (iblk m c 3 t) k * iblk m c 4 t (ix2 k ⟨n.val * 128 + l.val, by omega⟩)) * iblk m c 7 t (ix2 r l)
      + (∑ k, MlaBlock.latQ r (iblk m c 0 t) (iblk m c 1 t) (iblk m c 2 t) (iblk m c 3 t) k * iblk m c 5 t (ix2 k ⟨n.val * 128 + l.val, by omega⟩)) * iblk m c 8 t (ix2 r l)
    = MlaProjRef.queries (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (ix2 (at_ t r) ⟨n.val * 128 + l.val, by omega⟩) := by
  rw [latQ_eq, tableCQ, tableSQ, MlaProjRef.queries_at]
  simp only [columnsQ, columnsS]
  have own (l : Fin 96) (k : Fin 384) := query_at (m ((c.tc : Thread nD τ).loc main_arg4)) k n l
  rcases lanes l with ⟨i, rfl⟩ | ⟨i, rfl⟩ | ⟨i, rfl⟩ | ⟨i, rfl⟩
  · rw [MlaProjRef.queries_first, cosQ_first, sinQ_first, mul_zero, add_zero]
    simp only [own ⟨i.val, by omega⟩]
  · rw [MlaProjRef.queries_low, cosQ_low, sinQ_low, ← mul_assoc, ← mul_assoc, ← EReal.right_distrib_of_nonneg_of_ne_top scale_real.1 scale_real.2]
    simp only [own ⟨64 + i.val, by omega⟩, swapped_low, turnLow]
    rw [mul_neg, sub_eq_add_neg]
  · rw [MlaProjRef.queries_high, cosQ_high, sinQ_high, ← mul_assoc, ← mul_assoc, ← EReal.right_distrib_of_nonneg_of_ne_top scale_real.1 scale_real.2, add_comm]
    simp only [own ⟨80 + i.val, by omega⟩, swapped_high, turnHigh]
  · rw [MlaProjRef.queries_spare, cosQ_spare, sinQ_spare, mul_zero, mul_zero, add_zero]

/-- A block's values are the reference's. -/
theorem values_eq (j : Fin 1024) :
    ∑ k : Fin 256, MlaBlock.latC r (iblk m c 0 t) (iblk m c 1 t) (iblk m c 2 t) (iblk m c 6 t) k * iblk m c 12 t (ix2 k j)
    = MlaProjRef.values (m ((c.tc : Thread nD τ).loc main_arg0)) (m ((c.tc : Thread nD τ).loc main_arg1)) (m ((c.tc : Thread nD τ).loc main_arg5))
        (m ((c.tc : Thread nD τ).loc main_arg6)) (m ((c.tc : Thread nD τ).loc main_arg8)) (ix2 (at_ t r) j) := by
  obtain ⟨n, l, rfl⟩ := narrow j
  rw [latC_eq, MlaProjRef.values_at]
  simp only [columnsV, value_at]

end Rows

/-- The queries after the run are the reference's. -/
theorem final_queries : (dats m 0 c).arrAt 13 cfg0.N
    = MlaProjRef.queries (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine (dats m 0 c).arrAt_eq_of_covers 13 _ (by decide +kernel) fun t _ y => ?_
  blk_simp
  rw [after0_13]
  obtain ⟨r, e, rfl⟩ : ∃ (r : Fin 512) (e : Fin 2048), y = ix2 r e := ⟨y 0, y 1, eq_ix2 y⟩
  have he : ((cfg0.win 13).blk t).view.emb (ix2 r e) = ix2 (at_ t r) e := by blk_ext [idx t]
  obtain ⟨n, l, rfl⟩ := wide e
  rw [he, MlaBlock.queries_at, queries_eq]

/-- The latents after the run are the reference's. -/
theorem final_latents : (dats m 0 c).arrAt 14 cfg0.N
    = MlaProjRef.latents (m ((c.tc : Thread nD τ).loc main_arg0)) (m ((c.tc : Thread nD τ).loc main_arg1)) (m ((c.tc : Thread nD τ).loc main_arg5))
        (m ((c.tc : Thread nD τ).loc main_arg6)) := by
  refine (dats m 0 c).arrAt_eq_of_covers 14 _ (by decide +kernel) fun t _ y => ?_
  blk_simp
  rw [after0_14]
  obtain ⟨r, e, rfl⟩ : ∃ (r : Fin 512) (e : Fin 256), y = ix2 r e := ⟨y 0, y 1, eq_ix2 y⟩
  have he : ((cfg0.win 14).blk t).view.emb (ix2 r e) = ix2 (at_ t r) e := by blk_ext [idx t]
  rw [he, MlaProjRef.latents_at, MlaBlock.latents_at, latC_eq]

/-- The rotary keys after the run are the reference's. -/
theorem final_rotary : (dats m 0 c).arrAt 15 cfg0.N
    = MlaProjRef.rotary (m ((c.tc : Thread nD τ).loc main_arg0)) (m ((c.tc : Thread nD τ).loc main_arg1)) (m ((c.tc : Thread nD τ).loc main_arg5)) := by
  refine (dats m 0 c).arrAt_eq_of_covers 15 _ (by decide +kernel) fun t _ y => ?_
  blk_simp
  rw [after0_15]
  obtain ⟨r, e, rfl⟩ : ∃ (r : Fin 512) (e : Fin 32), y = ix2 r e := ⟨y 0, y 1, eq_ix2 y⟩
  have he : ((cfg0.win 15).blk t).view.emb (ix2 r e) = ix2 (at_ t r) e := by blk_ext [idx t]
  rw [he, MlaBlock.rotary_at, turned_eq]

/-- The keys after the run are the reference's. -/
theorem final_keys : (dats m 0 c).arrAt 16 cfg0.N
    = MlaProjRef.keys (m ((c.tc : Thread nD τ).loc main_arg0)) (m ((c.tc : Thread nD τ).loc main_arg1)) (m ((c.tc : Thread nD τ).loc main_arg5))
        (m ((c.tc : Thread nD τ).loc main_arg6)) (m ((c.tc : Thread nD τ).loc main_arg7)) := by
  refine (dats m 0 c).arrAt_eq_of_covers 16 _ (by decide +kernel) fun t _ y => ?_
  blk_simp
  rw [after0_16]
  obtain ⟨r, e, rfl⟩ : ∃ (r : Fin 512) (e : Fin 2048), y = ix2 r e := ⟨y 0, y 1, eq_ix2 y⟩
  have he : ((cfg0.win 16).blk t).view.emb (ix2 r e) = ix2 (at_ t r) e := by blk_ext [idx t]
  rw [he, MlaBlock.keys_at, keys_eq]

/-- The values after the run are the reference's. -/
theorem final_values : (dats m 0 c).arrAt 17 cfg0.N
    = MlaProjRef.values (m ((c.tc : Thread nD τ).loc main_arg0)) (m ((c.tc : Thread nD τ).loc main_arg1)) (m ((c.tc : Thread nD τ).loc main_arg5))
        (m ((c.tc : Thread nD τ).loc main_arg6)) (m ((c.tc : Thread nD τ).loc main_arg8)) := by
  refine (dats m 0 c).arrAt_eq_of_covers 17 _ (by decide +kernel) fun t _ y => ?_
  blk_simp
  rw [after0_17]
  obtain ⟨r, e, rfl⟩ : ∃ (r : Fin 512) (e : Fin 1024), y = ix2 r e := ⟨y 0, y 1, eq_ix2 y⟩
  have he : ((cfg0.win 17).blk t).view.emb (ix2 r e) = ix2 (at_ t r) e := by blk_ext [idx t]
  rw [he, MlaBlock.values_at, values_eq]

end Cert.MlaProjValue
-- ==== Proof.MlaProjClaims.lean ====
/-
  The claims about the projections of the latent layers: the runs end, the idealization is licensed, and the kernel's results are the reference's.
-/
module

public import proofs.«01_k».proof.Defs
public import proofs.«01_k».proof.Proof.Gen.MlaProj.Frame
public import proofs.«01_k».proof.Proof.Gen.MlaProjIdeal.Frame
public import proofs.«01_k».proof.Proof.Gen.MlaProjIdeal.Value
public import proofs.«01_k».proof.Proof.Gen.MlaProjRefIdeal.Run
public import proofs.«01_k».proof.Proof.MlaProjFinal
public import Idealize.ShloMosaic.Lib.Quiescent

@[expose] public section

set_option maxRecDepth 16384

noncomputable section

namespace Cert.MlaProjClaims

open Idealize.ShloMosaic Idealize.ShloMosaic.TcCoe Idealize.SL.Sem

/-- The kernel runs to its end, keeps its arguments, and leaves no counter raised. -/
theorem frame_kernel : Cert.quiescent_MlaProj := fun m ρ _ => Cert.MlaProj.Gen.frame m ρ

/-- The idealized kernel does too. -/
theorem frame_ideal : Cert.quiescent_MlaProjIdeal := fun m ρ _ => Cert.MlaProjIdeal.Gen.frame m ρ

/-- The reference does too. -/
theorem frame_reference : Cert.quiescent_MlaProjRefIdeal := fun m ρ _ =>
  (θ_run Cert.MlaProjRefIdeal.defs _ _).mono
    (fun r h => ⟨fun c => (h c).2.2.2.2.2, Idealize.ShloMosaic.sem_eq_zero_of_no_sems (by decide) r.2⟩)
    (Cert.MlaProjRefIdeal.Value.run (F := Ideal) m ρ)

/-- The kernel and its idealization differ in no operation. -/
theorem preserves : Cert.preserves_MlaProj_MlaProjIdeal := trivial

/-- The queries, the latents, the rotary keys, the keys and the values are the reference's. -/
theorem algebraic : Cert.algebraic_MlaProjIdeal_MlaProjRefIdeal := by
  intro m ρ m' ρ' _ args
  refine ⟨fun c => Cert.MlaProjRef.queries (m ((c.tc : Thread Cert.MlaProjIdeal.nD Cert.MlaProjIdeal.τ).loc Cert.MlaProjIdeal.main_arg0)) (m ((c.tc : Thread Cert.MlaProjIdeal.nD Cert.MlaProjIdeal.τ).loc Cert.MlaProjIdeal.main_arg1)) (m ((c.tc : Thread Cert.MlaProjIdeal.nD Cert.MlaProjIdeal.τ).loc Cert.MlaProjIdeal.main_arg2)) (m ((c.tc : Thread Cert.MlaProjIdeal.nD Cert.MlaProjIdeal.τ).loc Cert.MlaProjIdeal.main_arg3)) (m ((c.tc : Thread Cert.MlaProjIdeal.nD Cert.MlaProjIdeal.τ).loc Cert.MlaProjIdeal.main_arg4)),
    fun c => Cert.MlaProjRef.latents (m ((c.tc : Thread Cert.MlaProjIdeal.nD Cert.MlaProjIdeal.τ).loc Cert.MlaProjIdeal.main_arg0)) (m ((c.tc : Thread Cert.MlaProjIdeal.nD Cert.MlaProjIdeal.τ).loc Cert.MlaProjIdeal.main_arg1)) (m ((c.tc : Thread Cert.MlaProjIdeal.nD Cert.MlaProjIdeal.τ).loc Cert.MlaProjIdeal.main_arg5)) (m ((c.tc : Thread Cert.MlaProjIdeal.nD Cert.MlaProjIdeal.τ).loc Cert.MlaProjIdeal.main_arg6)),
    fun c => Cert.MlaProjRef.rotary (m ((c.tc : Thread Cert.MlaProjIdeal.nD Cert.MlaProjIdeal.τ).loc Cert.MlaProjIdeal.main_arg0)) (m ((c.tc : Thread Cert.MlaProjIdeal.nD Cert.MlaProjIdeal.τ).loc Cert.MlaProjIdeal.main_arg1)) (m ((c.tc : Thread Cert.MlaProjIdeal.nD Cert.MlaProjIdeal.τ).loc Cert.MlaProjIdeal.main_arg5)),
    fun c => Cert.MlaProjRef.keys (m ((c.tc : Thread Cert.MlaProjIdeal.nD Cert.MlaProjIdeal.τ).loc Cert.MlaProjIdeal.main_arg0)) (m ((c.tc : Thread Cert.MlaProjIdeal.nD Cert.MlaProjIdeal.τ).loc Cert.MlaProjIdeal.main_arg1)) (m ((c.tc : Thread Cert.MlaProjIdeal.nD Cert.MlaProjIdeal.τ).loc Cert.MlaProjIdeal.main_arg5)) (m ((c.tc : Thread Cert.MlaProjIdeal.nD Cert.MlaProjIdeal.τ).loc Cert.MlaProjIdeal.main_arg6)) (m ((c.tc : Thread Cert.MlaProjIdeal.nD Cert.MlaProjIdeal.τ).loc Cert.MlaProjIdeal.main_arg7)),
    fun c => Cert.MlaProjRef.values (m ((c.tc : Thread Cert.MlaProjIdeal.nD Cert.MlaProjIdeal.τ).loc Cert.MlaProjIdeal.main_arg0)) (m ((c.tc : Thread Cert.MlaProjIdeal.nD Cert.MlaProjIdeal.τ).loc Cert.MlaProjIdeal.main_arg1)) (m ((c.tc : Thread Cert.MlaProjIdeal.nD Cert.MlaProjIdeal.τ).loc Cert.MlaProjIdeal.main_arg5)) (m ((c.tc : Thread Cert.MlaProjIdeal.nD Cert.MlaProjIdeal.τ).loc Cert.MlaProjIdeal.main_arg6)) (m ((c.tc : Thread Cert.MlaProjIdeal.nD Cert.MlaProjIdeal.τ).loc Cert.MlaProjIdeal.main_arg8)),
    (θ_run Cert.MlaProjIdeal.defs _ _).mono
      (fun r h c => ⟨(h c).1.trans (Cert.MlaProjValue.final_queries m c), (h c).2.1.trans (Cert.MlaProjValue.final_latents m c), (h c).2.2.1.trans (Cert.MlaProjValue.final_rotary m c), (h c).2.2.2.1.trans (Cert.MlaProjValue.final_keys m c), (h c).2.2.2.2.1.trans (Cert.MlaProjValue.final_values m c), (h c).2.2.2.2.2⟩)
      (Cert.MlaProjIdeal.Value.run_blocks (F := Ideal) m ρ), ?_⟩
  refine (θ_run Cert.MlaProjRefIdeal.defs _ _).mono (fun r h c => ⟨(h c).1.trans ?_, (h c).2.1.trans ?_, (h c).2.2.1.trans ?_, (h c).2.2.2.1.trans ?_, (h c).2.2.2.2.1.trans ?_, (h c).2.2.2.2.2⟩)
    (Cert.MlaProjRefIdeal.Value.run (F := Ideal) m' ρ')
  · obtain ⟨h0, h1, h2, h3, h4, h5, h6, h7, h8⟩ := args c
    show Cert.MlaProjRef.queries (m' ((c.tc : Thread Cert.MlaProjRefIdeal.nD Cert.MlaProjRefIdeal.τ).loc Cert.MlaProjRefIdeal.main_arg0)) (m' ((c.tc : Thread Cert.MlaProjRefIdeal.nD Cert.MlaProjRefIdeal.τ).loc Cert.MlaProjRefIdeal.main_arg1)) (m' ((c.tc : Thread Cert.MlaProjRefIdeal.nD Cert.MlaProjRefIdeal.τ).loc Cert.MlaProjRefIdeal.main_arg2)) (m' ((c.tc : Thread Cert.MlaProjRefIdeal.nD Cert.MlaProjRefIdeal.τ).loc Cert.MlaProjRefIdeal.main_arg3)) (m' ((c.tc : Thread Cert.MlaProjRefIdeal.nD Cert.MlaProjRefIdeal.τ).loc Cert.MlaProjRefIdeal.main_arg4)) = _
    rw [h0, h1, h2, h3, h4]
  · obtain ⟨h0, h1, h2, h3, h4, h5, h6, h7, h8⟩ := args c
    show Cert.MlaProjRef.latents (m' ((c.tc : Thread Cert.MlaProjRefIdeal.nD Cert.MlaProjRefIdeal.τ).loc Cert.MlaProjRefIdeal.main_arg0)) (m' ((c.tc : Thread Cert.MlaProjRefIdeal.nD Cert.MlaProjRefIdeal.τ).loc Cert.MlaProjRefIdeal.main_arg1)) (m' ((c.tc : Thread Cert.MlaProjRefIdeal.nD Cert.MlaProjRefIdeal.τ).loc Cert.MlaProjRefIdeal.main_arg5)) (m' ((c.tc : Thread Cert.MlaProjRefIdeal.nD Cert.MlaProjRefIdeal.τ).loc Cert.MlaProjRefIdeal.main_arg6)) = _
    rw [h0, h1, h5, h6]
  · obtain ⟨h0, h1, h2, h3, h4, h5, h6, h7, h8⟩ := args c
    show Cert.MlaProjRef.rotary (m' ((c.tc : Thread Cert.MlaProjRefIdeal.nD Cert.MlaProjRefIdeal.τ).loc Cert.MlaProjRefIdeal.main_arg0)) (m' ((c.tc : Thread Cert.MlaProjRefIdeal.nD Cert.MlaProjRefIdeal.τ).loc Cert.MlaProjRefIdeal.main_arg1)) (m' ((c.tc : Thread Cert.MlaProjRefIdeal.nD Cert.MlaProjRefIdeal.τ).loc Cert.MlaProjRefIdeal.main_arg5)) = _
    rw [h0, h1, h5]
  · obtain ⟨h0, h1, h2, h3, h4, h5, h6, h7, h8⟩ := args c
    show Cert.MlaProjRef.keys (m' ((c.tc : Thread Cert.MlaProjRefIdeal.nD Cert.MlaProjRefIdeal.τ).loc Cert.MlaProjRefIdeal.main_arg0)) (m' ((c.tc : Thread Cert.MlaProjRefIdeal.nD Cert.MlaProjRefIdeal.τ).loc Cert.MlaProjRefIdeal.main_arg1)) (m' ((c.tc : Thread Cert.MlaProjRefIdeal.nD Cert.MlaProjRefIdeal.τ).loc Cert.MlaProjRefIdeal.main_arg5)) (m' ((c.tc : Thread Cert.MlaProjRefIdeal.nD Cert.MlaProjRefIdeal.τ).loc Cert.MlaProjRefIdeal.main_arg6)) (m' ((c.tc : Thread Cert.MlaProjRefIdeal.nD Cert.MlaProjRefIdeal.τ).loc Cert.MlaProjRefIdeal.main_arg7)) = _
    rw [h0, h1, h5, h6, h7]
  · obtain ⟨h0, h1, h2, h3, h4, h5, h6, h7, h8⟩ := args c
    show Cert.MlaProjRef.values (m' ((c.tc : Thread Cert.MlaProjRefIdeal.nD Cert.MlaProjRefIdeal.τ).loc Cert.MlaProjRefIdeal.main_arg0)) (m' ((c.tc : Thread Cert.MlaProjRefIdeal.nD Cert.MlaProjRefIdeal.τ).loc Cert.MlaProjRefIdeal.main_arg1)) (m' ((c.tc : Thread Cert.MlaProjRefIdeal.nD Cert.MlaProjRefIdeal.τ).loc Cert.MlaProjRefIdeal.main_arg5)) (m' ((c.tc : Thread Cert.MlaProjRefIdeal.nD Cert.MlaProjRefIdeal.τ).loc Cert.MlaProjRefIdeal.main_arg6)) (m' ((c.tc : Thread Cert.MlaProjRefIdeal.nD Cert.MlaProjRefIdeal.τ).loc Cert.MlaProjRefIdeal.main_arg8)) = _
    rw [h0, h1, h5, h6, h8]

end Cert.MlaProjClaims

end
-- ==== Proof.DilKeep.lean ====
/- The run of the dilated attention call of the kernel: its arguments end unchanged and no semaphore is left counted.
   Nothing is said of the result, so each loop keeps only that the inputs are as they were. -/
module

public import proofs.«01_k».proof.Proof.Gen.DilAttn.Loops
public import proofs.«01_k».proof.Proof.Gen.DilAttn.Launch
public import proofs.«01_k».proof.Proof.Gen.DilAttn.Points
public import proofs.«01_k».proof.Proof.Gen.DilAttn.Skeleton
public import Idealize.ShloMosaic.Lib.Pipeline.Frame
public import Idealize.ShloMosaic.Lib.Pipeline.FrameBody
public import Idealize.ShloMosaic.Lib.WholeRead
public import Idealize.ShloMosaic.Lib.Claim

@[expose] public section

set_option maxRecDepth 16384
set_option maxHeartbeats 4000000

noncomputable section

namespace Cert.DilAttn.Keep

open Cert.DilAttn Cert.DilAttn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F]

local notation "𝕄" => MT nD τ sig Unit (Elt F) ℕ (UR sig nD τ) ℕ
local notation "Plane" => Memref sig Kind.tc Space.vmem S3x2048x128 EltTy.f32

section Loops

variable (𝒱 : Variants) (c : Dev nD) (bd : Option 𝒱.V) (i : grid0.Coords) (a2 : Plane) (h2 : a2.IsWhole) (a3 : Plane)
  (h3 : a3.IsWhole) (a4 : Plane) (h4 : a4.IsWhole) (a5 : Memref sig .tc .vmem S2048x128 .bf16) (h5 : a5.IsWhole)
  (a6 : Plane) (h6 : a6.IsWhole) (a7 : Plane) (h7 : a7.IsWhole) (a8 : Plane) (h8 : a8.IsWhole)
  (w : BitVec 32) (v2 : IVec S128x128 1) (v7 : IVec S128x256 32) (v12 : IVec S128x256 1) (v14 : IVec S128x256 1)
  (v28 v39 : FVec F S128x256 .f32) (v69 : FVec F S128x256 .f32) (v72 : BitVec 32)
  (X2 : BufTy.Contents (Elt F) a2.view.ty) (X3 : BufTy.Contents (Elt F) a3.view.ty) (X4 : BufTy.Contents (Elt F) a4.view.ty)

/-- The inputs at their contents, the scratch buffers at any. -/
abbrev kept : sProp 𝕄 :=
  iprop((a2.view.loc (c : Thread nD τ) ↦[a2.view.set]{fullShare} X2) ∗ (a3.view.loc (c : Thread nD τ) ↦[a3.view.set]{fullShare} X3)
    ∗ (a4.view.loc (c : Thread nD τ) ↦[a4.view.set]{fullShare} X4) ∗ (∃ f, a6.view.loc (c : Thread nD τ) ↦[a6.view.set]{fullShare} f)
    ∗ (∃ f, a7.view.loc (c : Thread nD τ) ↦[a7.view.set]{fullShare} f) ∗ (∃ f, a8.view.loc (c : Thread nD τ) ↦[a8.view.set]{fullShare} f))

set_option warn.classDefReducibility false in
/-- The loop over the second group's positions keeps the inputs. -/
@[sl_loop] def loop2 (E : Set ℕ) :
    LoopInvTy_k0_t2 (F := F) Unit ℕ (UR sig nD τ) ℕ 𝒱 c bd E i a2 h2 a3 h3 a4 h4 a5 h5 a6 h6 a7 h7 a8 h8 w v2 v7 v12 v14 v28 v39 where
  inv _ _ := kept (F := F) c a2 a3 a4 a6 a7 a8 X2 X3 X4
  step k _ := by
    unfold k0_t2_body
    iintro ⟨H2, H3, H4, ⟨%f6, H6⟩, ⟨%f7, H7⟩, ⟨%f8, H8⟩⟩
    sl_exec
    sl_step
    sl_close

set_option warn.classDefReducibility false in
/-- The loop over the third group's positions keeps the inputs. -/
@[sl_loop] def loop3 (E : Set ℕ) :
    LoopInvTy_k0_t3 (F := F) Unit ℕ (UR sig nD τ) ℕ 𝒱 c bd E i a2 h2 a3 h3 a4 h4 a5 h5 a6 h6 a7 h7 a8 h8 w v2 v12 v14 v69 v72 where
  inv _ _ := kept (F := F) c a2 a3 a4 a6 a7 a8 X2 X3 X4
  step k _ := by
    unfold k0_t3_body
    iintro ⟨H2, H3, H4, ⟨%f6, H6⟩, ⟨%f7, H7⟩, ⟨%f8, H8⟩⟩
    sl_exec
    sl_step
    sl_close

end Loops

/-- The whole body keeps the inputs' buffers. -/
theorem bodyKeeps (c : Dev nD) (i : grid0.Coords) (a2 : Plane) (h2 : a2.IsWhole) (a3 : Plane)
    (h3 : a3.IsWhole) (a4 : Plane) (h4 : a4.IsWhole) (a5 : Memref sig .tc .vmem S2048x128 .bf16) (h5 : a5.IsWhole)
    (a6 : Plane) (h6 : a6.IsWhole) (a7 : Plane) (h7 : a7.IsWhole) (a8 : Plane) (h8 : a8.IsWhole)
    (x0 x1 x2 : Vec F S3x2048x128 .f32) (G6 : BufTy.Contents (Elt F) a6.view.ty) (G7 : BufTy.Contents (Elt F) a7.view.ty)
    (G8 : BufTy.Contents (Elt F) a8.view.ty) (E : Set ℕ) (K : PUnit → sProp 𝕄) :
      iprop(owns (c : Thread nD τ) a2 fullShare x0 ∗ owns (c : Thread nD τ) a3 fullShare x1 ∗ owns (c : Thread nD τ) a4 fullShare x2
          ∗ (∃ d, owns (c : Thread nD τ) a5 fullShare d)
          ∗ (a6.view.loc (c : Thread nD τ) ↦[a6.view.set]{fullShare} G6)
          ∗ (a7.view.loc (c : Thread nD τ) ↦[a7.view.set]{fullShare} G7)
          ∗ (a8.view.loc (c : Thread nD τ) ↦[a8.view.set]{fullShare} G8)
          ∗ (iprop(owns (c : Thread nD τ) a2 fullShare x0 ∗ owns (c : Thread nD τ) a3 fullShare x1 ∗ owns (c : Thread nD τ) a4 fullShare x2
              ∗ (∃ d, owns (c : Thread nD τ) a5 fullShare d)
              ∗ (∃ f, a6.view.loc (c : Thread nD τ) ↦[a6.view.set]{fullShare} f)
              ∗ (∃ f, a7.view.loc (c : Thread nD τ) ↦[a7.view.set]{fullShare} f)
              ∗ (∃ f, a8.view.loc (c : Thread nD τ) ↦[a8.view.set]{fullShare} f)) -∗ K ⟨⟩))
        ⊢ wp frame (wpE (defs₀ (F := F)) Variants.none (c : Thread nD τ) none) E
            (cc0_dil_attn_prompt i a2 h2 a3 h3 a4 h4 a5 h5 a6 h6 a7 h7 a8 h8) K := by
  simp only [cc0_dil_attn_prompt_eq_skeleton]; unfold cc0_dil_attn_prompt_skel
  simp only [k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%d3, %f3, -, H3⟩, H6, H7, H8, Hk⟩
  obtain rfl := h2.eq_unread hf0; obtain rfl := h3.eq_unread hf1; obtain rfl := h4.eq_unread hf2
  sl_exec
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; iexists _; isplitr
    swap; · iexact H3
    ipureintro; rfl
  isplitl [H6]; · iexists _; iexact H6
  isplitl [H7]; · iexists _; iexact H7
  iexists _; iexact H8

variable (m : (ℓ : Loc nD τ sig) → Buf (Elt F) ℓ) (ρ : Dev nD → PrngReg)

/-- A core's buffers when the call begins: as launched. -/
abbrev V (c : Dev nD) (b : Ref sig .tc) : Buf (Elt F) ((c : Thread nD τ).loc b) := m ((c : Thread nD τ).loc b)

/-- The program is the call alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The block of window `w` at point `t`, as the call finds the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data of the call: each input's buffer left at its block; the output's is forgotten, so what is named for it
    is of no account. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := Pipeline.ΦA spec0 c
  q w := Pipeline.shareOf spec0 w
  owed _ := 0

/-- The windows whose contents are forgotten: the output's. -/
abbrev fgt (w : Fin cfg0.W) : Bool := decide (w = 3)

/-- The arrays are as found. -/
theorem A_eq (c : Dev nD) (w : Fin cfg0.W) : (dats m 0 c).A w = V m c (Pipeline.arrRef spec0 w) := by
  dsimp only [dats]

/-- Each input's buffer is left at its block. -/
theorem after0 (c : Dev nD) (t : Fin cfg0.N) : (dats m 0 c).after 0 t = iblk m c 0 t := by dsimp only [dats]
/-- The same of the keys. -/
theorem after1 (c : Dev nD) (t : Fin cfg0.N) : (dats m 0 c).after 1 t = iblk m c 1 t := by dsimp only [dats]
/-- The same of the values. -/
theorem after2 (c : Dev nD) (t : Fin cfg0.N) : (dats m 0 c).after 2 t = iblk m c 2 t := by dsimp only [dats]

/-- Each input's buffer holds its block before every point. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]) t d).trans
    (by unfold Dat.fetched Dat.blockOf iblk; rw [A_eq]; try rfl)
/-- The same of the keys. -/
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]) t d).trans
    (by unfold Dat.fetched Dat.blockOf iblk; rw [A_eq]; try rfl)
/-- The same of the values. -/
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]) t d).trans
    (by unfold Dat.fetched Dat.blockOf iblk; rw [A_eq]; try rfl)

/-- The memref of window `w`'s buffer at point `t`. -/
abbrev ms (w : Fin cfg0.W) (t : Fin cfg0.N) := (cfg0.win w).stage (cfg0.slots t w)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms 0 t) fullShare ((dats m 0 c).before 0 t d))
    ∗ (∃ d, owns (c : Thread nD τ) (ms 1 t) fullShare ((dats m 0 c).before 1 t d))
    ∗ (∃ d, owns (c : Thread nD τ) (ms 2 t) fullShare ((dats m 0 c).before 2 t d))
    ∗ (∃ d, owns (c : Thread nD τ) (ms 3 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms 0 t) fullShare ((dats m 0 c).after 0 t)
    ∗ owns (c : Thread nD τ) (ms 1 t) fullShare ((dats m 0 c).after 1 t)
    ∗ owns (c : Thread nD τ) (ms 2 t) fullShare ((dats m 0 c).after 2 t)
    ∗ (∃ d, owns (c : Thread nD τ) (ms 3 t) fullShare d))

/-- The body at any point, its scratch buffers from whatever they hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl,
    after0, after1, after2,
    show (dats m 0 c).Φ t.succ = Pipeline.ΦA spec0 c from rfl, show (dats m 0 c).Φ t.castSucc = Pipeline.ΦA spec0 c from rfl]
  unfold Pipeline.ΦA
  rw [scopedRest0_eq]
  iintro ⟨⟨⟨⟨%g6, S6⟩, ⟨%g7, S7⟩, ⟨%g8, S8⟩⟩, Hr⟩, Ho, ⟨%d0, H0⟩, ⟨%d1, H1⟩, ⟨%d2, H2⟩, ⟨%d3, H3⟩⟩
  iapply (bodyKeeps c (grid0.coords t) _ _ _ _ _ _ _ _ (Memref.whole cc0_scratch0) (Memref.isWhole_whole _) (Memref.whole cc0_scratch1) (Memref.isWhole_whole _)
    (Memref.whole cc0_scratch2) (Memref.isWhole_whole _) (iblk m c 0 t) (iblk m c 1 t) (iblk m c 2 t) g6 g7 g8 Set.univ _)
  simp only [Memref.view_whole, View.set_whole]
  isplitl [H0]; · iexact H0
  isplitl [H1]; · iexact H1
  isplitl [H2]; · iexact H2
  isplitl [H3]; · iexists _; iexact H3
  isplitl [S6]; · iexact S6
  isplitl [S7]; · iexact S7
  isplitl [S8]; · iexact S8
  iintro ⟨H0, H1, H2, ⟨%e3, H3⟩, ⟨%e6, S6⟩, ⟨%e7, S7⟩, ⟨%e8, S8⟩⟩
  isplitl [Hr S6 S7 S8]
  · isplitl [S6 S7 S8]
    · isplitl [S6]; · iexists _; iexact S6
      isplitl [S7]; · iexists _; iexact S7
      iexists _; iexact S8
    iexact Hr
  isplitl [Ho]; · iexact Ho
  isplitl [H0]; · iexact H0
  isplitl [H1]; · iexact H1
  isplitl [H2]; · iexact H2
  iexists _; iexact H3

/-- The body table's row at the point's buffers is the body. -/
theorem defs₀_row (t : Fin cfg0.N) :
    defs₀ (F := F) .tc cfg0.body (cfg0.bodyArgs t (cfg0.slots t)) = bodyAt0 t := by
  unfold defs₀; rw [Defs.onTc_tc]

/-- The body's obligation at every point, the output forgotten. -/
theorem body_obligation (c : Dev nD) : Pipeline.BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The run: each input's array at what it was, every semaphore at zero. -/
theorem run_quiescent : θ_run defs (onTc (τ := τ) (main (F := F))) (s₀ m ρ)
    (fun r => RDat.FramePost cfg0 (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := fun c => (body_obligation m c).loose) (hq := fun _ _ _ => rfl)
    (howed := fun _ _ => rfl) (V := V m) (hmain := hmain m Variants.none) (hA := A_eq m) (hΦ := fun _ _ => rfl)

/-- The run terminates, leaves the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨((Dat.toRForget_arrAt_iff _ (fgt := fgt) (w := 0) rfl _ _).mp ((h.1 c).1 0)).trans (((dats m 0 c).arrAt_in 0 rfl _).trans (A_eq m c 0)),
      ((Dat.toRForget_arrAt_iff _ (fgt := fgt) (w := 1) rfl _ _).mp ((h.1 c).1 1)).trans (((dats m 0 c).arrAt_in 1 rfl _).trans (A_eq m c 1))⟩, h.2⟩)
    (run_quiescent m ρ)

end Cert.DilAttn.Keep

end
-- ==== Proof.DilLoop.lean ====
/- A counted loop whose trips each write pieces into three buffers, by the list of the pieces written so far. -/
module

public import Idealize.ShloMosaic.Lib.Exec
public import Idealize.ShloMosaic.Lib.Tactic
public import Idealize.ShloMosaic.Lib.Pipeline.Kit

@[expose] public section

namespace Cert.DilLoop

open Idealize.ShloMosaic Idealize.ShloMosaic.Tactic
open Idealize.SL Idealize.SL.RA Idealize.SL.BI
open scoped Idealize.SL.BI
open Idealize.SL.BI.BIBase Idealize.SL.BI.Laws Idealize.SL.ProofMode Idealize.SL.Sem

/-- The pieces of the trips before `k`, the last trip's in front. -/
def piecesUpTo {α : Type} {n : ℕ} (p : Fin n → List α) : ℕ → List α
  | 0 => []
  | k + 1 => if h : k < n then p ⟨k, h⟩ ++ piecesUpTo p k else piecesUpTo p k

/-- One more trip puts its pieces in front. -/
theorem piecesUpTo_succ {α : Type} {n : ℕ} (p : Fin n → List α) (k : Fin n) :
    piecesUpTo p (k.val + 1) = p k ++ piecesUpTo p k.val := dif_pos k.isLt

/-- The pieces of the trips before `k` are those of a trip below `k`. -/
theorem mem_piecesUpTo {α : Type} {n : ℕ} (p : Fin n → List α) (x : α) :
    ∀ k, x ∈ piecesUpTo p k ↔ ∃ c : Fin n, c.val < k ∧ x ∈ p c
  | 0 => by simp [piecesUpTo]
  | k + 1 => by
    unfold piecesUpTo
    split
    · rename_i h
      rw [List.mem_append, mem_piecesUpTo p x k]
      constructor
      · rintro (h' | ⟨c, hc, h'⟩)
        · exact ⟨⟨k, h⟩, Nat.lt_succ_self _, h'⟩
        · exact ⟨c, Nat.lt_succ_of_lt hc, h'⟩
      · rintro ⟨c, hc, h'⟩
        rcases Nat.lt_succ_iff_lt_or_eq.mp hc with hc | hc
        · exact .inr ⟨c, hc, h'⟩
        · have e : c = ⟨k, h⟩ := Fin.ext hc
          exact .inl (e ▸ h')
    · rename_i h
      rw [mem_piecesUpTo p x k]
      exact ⟨fun ⟨c, hc, h'⟩ => ⟨c, Nat.lt_succ_of_lt hc, h'⟩, fun ⟨c, hc, h'⟩ => ⟨c, by have := c.isLt; omega, h'⟩⟩

end Cert.DilLoop

end
-- ==== Proof.DilRun.lean ====
/- One trip of each counted loop of the dilated attention kernel, and the loops by the pieces their trips write. -/
module

public import proofs.«01_k».proof.Proof.DilLoop
public import proofs.«01_k».proof.Proof.Gen.DilAttnIdeal.Loops

@[expose] public section

set_option maxRecDepth 8192
set_option maxHeartbeats 4000000

noncomputable section

namespace Cert.DilAttnIdeal.Run

open Cert.DilAttnIdeal Cert.DilAttnIdeal.Gen Cert.DilLoop
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ
local notation "Plane" => Memref sig Kind.tc Space.vmem S3x2048x128 EltTy.f32
local notation "PieceL" => List (View.Piece (Elt F) S3x2048x128 EltTy.f32)

/-- What one trip touches: the three inputs at their contents and the three scratch buffers at theirs. -/
abbrev touched (c : Dev nD) (a2 a3 a4 a6 a7 a8 : Plane) (X2 : BufTy.Contents (Elt F) a2.view.ty)
    (X3 : BufTy.Contents (Elt F) a3.view.ty) (X4 : BufTy.Contents (Elt F) a4.view.ty)
    (f6 : BufTy.Contents (Elt F) a6.view.ty) (f7 : BufTy.Contents (Elt F) a7.view.ty)
    (f8 : BufTy.Contents (Elt F) a8.view.ty) : sProp 𝕄 :=
  iprop((a2.view.loc (c : Thread nD τ) ↦[a2.view.set]{fullShare} X2) ∗ (a3.view.loc (c : Thread nD τ) ↦[a3.view.set]{fullShare} X3)
    ∗ (a4.view.loc (c : Thread nD τ) ↦[a4.view.set]{fullShare} X4) ∗ (a6.view.loc (c : Thread nD τ) ↦[a6.view.set]{fullShare} f6)
    ∗ (a7.view.loc (c : Thread nD τ) ↦[a7.view.set]{fullShare} f7) ∗ (a8.view.loc (c : Thread nD τ) ↦[a8.view.set]{fullShare} f8))

/-- Before trip `k`: the inputs at their contents, each scratch buffer with the pieces of the trips before `k` written
    over what it held when the loop began. -/
abbrev before (c : Dev nD) (a2 a3 a4 a6 a7 a8 : Plane) (X2 : BufTy.Contents (Elt F) a2.view.ty)
    (X3 : BufTy.Contents (Elt F) a3.view.ty) (X4 : BufTy.Contents (Elt F) a4.view.ty)
    (f6 : BufTy.Contents (Elt F) a6.view.ty) (f7 : BufTy.Contents (Elt F) a7.view.ty)
    (f8 : BufTy.Contents (Elt F) a8.view.ty) {n : ℕ} (p6 p7 p8 : Fin n → PieceL) (k : ℕ) : sProp 𝕄 :=
  iprop((a2.view.loc (c : Thread nD τ) ↦[a2.view.set]{fullShare} X2) ∗ (a3.view.loc (c : Thread nD τ) ↦[a3.view.set]{fullShare} X3)
    ∗ (a4.view.loc (c : Thread nD τ) ↦[a4.view.set]{fullShare} X4)
    ∗ (∃ f, (a6.view.loc (c : Thread nD τ) ↦[a6.view.set]{fullShare} f) ∗ ⌜f = a6.view.writes (Elt F) f6 (piecesUpTo p6 k)⌝)
    ∗ (∃ f, (a7.view.loc (c : Thread nD τ) ↦[a7.view.set]{fullShare} f) ∗ ⌜f = a7.view.writes (Elt F) f7 (piecesUpTo p7 k)⌝)
    ∗ (∃ f, (a8.view.loc (c : Thread nD τ) ↦[a8.view.set]{fullShare} f) ∗ ⌜f = a8.view.writes (Elt F) f8 (piecesUpTo p8 k)⌝))

/-- A trip that writes its own pieces takes the state before it to the state before the next. -/
theorem before_step (𝒱 : Variants) (c : Dev nD) (bd : Option 𝒱.V) (E : Set ℕ) (a2 a3 a4 a6 a7 a8 : Plane)
    (X2 : BufTy.Contents (Elt F) a2.view.ty)
    (X3 : BufTy.Contents (Elt F) a3.view.ty) (X4 : BufTy.Contents (Elt F) a4.view.ty)
    (G6 : BufTy.Contents (Elt F) a6.view.ty) (G7 : BufTy.Contents (Elt F) a7.view.ty)
    (G8 : BufTy.Contents (Elt F) a8.view.ty) {n : ℕ} (p6 p7 p8 : Fin n → PieceL) (k : Fin n)
    (B : Prog (TpuEff nD τ sig (Elt F) Λ₀ .tc) Unit)
    (trip : ∀ f6 f7 f8, touched (F := F) c a2 a3 a4 a6 a7 a8 X2 X3 X4 f6 f7 f8
      ⊢ wp frame (wpE (defs₀ (F := F)) 𝒱 (c : Thread nD τ) bd) E B
          (fun _ => touched (F := F) c a2 a3 a4 a6 a7 a8 X2 X3 X4 (a6.view.writes (Elt F) f6 (p6 k))
            (a7.view.writes (Elt F) f7 (p7 k)) (a8.view.writes (Elt F) f8 (p8 k)))) :
    before (F := F) c a2 a3 a4 a6 a7 a8 X2 X3 X4 G6 G7 G8 p6 p7 p8 k.val
      ⊢ wp frame (wpE (defs₀ (F := F)) 𝒱 (c : Thread nD τ) bd) E B
          (fun _ => before (F := F) c a2 a3 a4 a6 a7 a8 X2 X3 X4 G6 G7 G8 p6 p7 p8 (k.val + 1)) := by
  iintro ⟨H2, H3, H4, ⟨%f6, H6, %h6⟩, ⟨%f7, H7, %h7⟩, ⟨%f8, H8, %h8⟩⟩
  iapply (wp_wand_r Idealize.ShloMosaic.frame (wpE (defs₀ (F := F)) 𝒱 (c : Thread nD τ) bd) E)
  isplitl [H2 H3 H4 H6 H7 H8]
  · iapply (trip f6 f7 f8)
    isplitl [H2]; · iexact H2
    isplitl [H3]; · iexact H3
    isplitl [H4]; · iexact H4
    isplitl [H6]; · iexact H6
    isplitl [H7]; · iexact H7
    iexact H8
  · iintro %_ ⟨H2, H3, H4, H6, H7, H8⟩
    isplitl [H2]; · iexact H2
    isplitl [H3]; · iexact H3
    isplitl [H4]; · iexact H4
    simp only [piecesUpTo_succ]
    isplitl [H6]
    · iexists _; isplitl [H6]; · iexact H6
      ipureintro; rw [h6, ← View.writes_append]
    isplitl [H7]
    · iexists _; isplitl [H7]; · iexact H7
      ipureintro; rw [h7, ← View.writes_append]
    iexists _; isplitl [H8]; · iexact H8
    ipureintro; rw [h8, ← View.writes_append]

variable (𝒱 : Variants) (c : Dev nD) (bd : Option 𝒱.V) (i : grid0.Coords) (a2 : Plane) (h2 : a2.IsWhole) (a3 : Plane)
  (h3 : a3.IsWhole) (a4 : Plane) (h4 : a4.IsWhole) (a5 : Memref sig .tc .vmem S2048x128 .bf16) (h5 : a5.IsWhole)
  (a6 : Plane) (h6 : a6.IsWhole) (a7 : Plane) (h7 : a7.IsWhole) (a8 : Plane) (h8 : a8.IsWhole)

section Loops

variable (w : BitVec 32) (v2 : IVec S128x128 1) (v7 : IVec S128x256 32) (v12 : IVec S128x256 1) (v14 : IVec S128x256 1)
  (v28 v39 : FVec F S128x256 .f32) (v69 : FVec F S128x256 .f32) (v72 : BitVec 32)
  (X2 : BufTy.Contents (Elt F) a2.view.ty) (X3 : BufTy.Contents (Elt F) a3.view.ty) (X4 : BufTy.Contents (Elt F) a4.view.ty)

/-- One trip of the loop over the positions of the first group (every position): the pieces it writes. -/
@[irreducible] def trip1 (k : Fin k0_t1_loop.trips) :
    Σ' (L6 : PieceL) (L7 : PieceL), { L8 : PieceL // ∀ (E : Set ℕ) f6 f7 f8,
      touched (F := F) c a2 a3 a4 a6 a7 a8 X2 X3 X4 f6 f7 f8
      ⊢ wp frame (wpE (defs₀ (F := F)) 𝒱 (c : Thread nD τ) bd) E
          (k0_t1_body (F := F) i a2 h2 a3 h3 a4 h4 a5 h5 a6 h6 a7 h7 a8 h8 w v2 v7 v12 v14 v28 v39 k PUnit.unit)
          (fun _ => touched (F := F) c a2 a3 a4 a6 a7 a8 X2 X3 X4 (a6.view.writes (Elt F) f6 L6)
            (a7.view.writes (Elt F) f7 L7) (a8.view.writes (Elt F) f8 L8)) } := by
  refine ⟨?_, ?_, ?_, fun E f6 f7 f8 => ?run⟩
  case run =>
    unfold k0_t1_body
    iintro ⟨H2, H3, H4, H6, H7, H8⟩
    sl_exec
    sl_step
    sl_close

/-- One trip of the loop over the positions of the second group (every fourth position): the pieces it writes. -/
@[irreducible] def trip2 (k : Fin k0_t2_loop.trips) :
    Σ' (L6 : PieceL) (L7 : PieceL), { L8 : PieceL // ∀ (E : Set ℕ) f6 f7 f8,
      touched (F := F) c a2 a3 a4 a6 a7 a8 X2 X3 X4 f6 f7 f8
      ⊢ wp frame (wpE (defs₀ (F := F)) 𝒱 (c : Thread nD τ) bd) E
          (k0_t2_body (F := F) i a2 h2 a3 h3 a4 h4 a5 h5 a6 h6 a7 h7 a8 h8 w v2 v7 v12 v14 v28 v39 k PUnit.unit)
          (fun _ => touched (F := F) c a2 a3 a4 a6 a7 a8 X2 X3 X4 (a6.view.writes (Elt F) f6 L6)
            (a7.view.writes (Elt F) f7 L7) (a8.view.writes (Elt F) f8 L8)) } := by
  refine ⟨?_, ?_, ?_, fun E f6 f7 f8 => ?run⟩
  case run =>
    unfold k0_t2_body
    iintro ⟨H2, H3, H4, H6, H7, H8⟩
    sl_exec
    sl_step
    sl_close

/-- One trip of the loop over the positions of the third group (every sixteenth position): the pieces it writes. -/
@[irreducible] def trip3 (k : Fin k0_t3_loop.trips) :
    Σ' (L6 : PieceL) (L7 : PieceL), { L8 : PieceL // ∀ (E : Set ℕ) f6 f7 f8,
      touched (F := F) c a2 a3 a4 a6 a7 a8 X2 X3 X4 f6 f7 f8
      ⊢ wp frame (wpE (defs₀ (F := F)) 𝒱 (c : Thread nD τ) bd) E
          (k0_t3_body (F := F) i a2 h2 a3 h3 a4 h4 a5 h5 a6 h6 a7 h7 a8 h8 w v2 v12 v14 v69 v72 k PUnit.unit)
          (fun _ => touched (F := F) c a2 a3 a4 a6 a7 a8 X2 X3 X4 (a6.view.writes (Elt F) f6 L6)
            (a7.view.writes (Elt F) f7 L7) (a8.view.writes (Elt F) f8 L8)) } := by
  refine ⟨?_, ?_, ?_, fun E f6 f7 f8 => ?run⟩
  case run =>
    unfold k0_t3_body
    iintro ⟨H2, H3, H4, H6, H7, H8⟩
    sl_exec
    sl_step
    sl_close

set_option warn.classDefReducibility false in
/-- The loop over the positions of the first group (every position), by the pieces of the trips before. -/
@[sl_loop] def loop1 (E : Set ℕ) (G6 : BufTy.Contents (Elt F) a6.view.ty) (G7 : BufTy.Contents (Elt F) a7.view.ty)
    (G8 : BufTy.Contents (Elt F) a8.view.ty) :
    LoopInvTy_k0_t1 (F := F) Unit ℕ (UR sig nD τ) ℕ 𝒱 c bd E i a2 h2 a3 h3 a4 h4 a5 h5 a6 h6 a7 h7 a8 h8 w v2 v7 v12 v14 v28 v39 where
  inv k _ := before (F := F) c a2 a3 a4 a6 a7 a8 X2 X3 X4 G6 G7 G8
    (fun k => (trip1 (F := F) 𝒱 c bd i a2 h2 a3 h3 a4 h4 a5 h5 a6 h6 a7 h7 a8 h8 w v2 v7 v12 v14 v28 v39 X2 X3 X4 k).1)
    (fun k => (trip1 (F := F) 𝒱 c bd i a2 h2 a3 h3 a4 h4 a5 h5 a6 h6 a7 h7 a8 h8 w v2 v7 v12 v14 v28 v39 X2 X3 X4 k).2.1)
    (fun k => (trip1 (F := F) 𝒱 c bd i a2 h2 a3 h3 a4 h4 a5 h5 a6 h6 a7 h7 a8 h8 w v2 v7 v12 v14 v28 v39 X2 X3 X4 k).2.2.1) k
  step k _ := before_step 𝒱 c bd E a2 a3 a4 a6 a7 a8 X2 X3 X4 G6 G7 G8 _ _ _ k _
    ((trip1 (F := F) 𝒱 c bd i a2 h2 a3 h3 a4 h4 a5 h5 a6 h6 a7 h7 a8 h8 w v2 v7 v12 v14 v28 v39 X2 X3 X4 k).2.2.2 E)

set_option warn.classDefReducibility false in
/-- The loop over the positions of the second group (every fourth position), by the pieces of the trips before. -/
@[sl_loop] def loop2 (E : Set ℕ) (G6 : BufTy.Contents (Elt F) a6.view.ty) (G7 : BufTy.Contents (Elt F) a7.view.ty)
    (G8 : BufTy.Contents (Elt F) a8.view.ty) :
    LoopInvTy_k0_t2 (F := F) Unit ℕ (UR sig nD τ) ℕ 𝒱 c bd E i a2 h2 a3 h3 a4 h4 a5 h5 a6 h6 a7 h7 a8 h8 w v2 v7 v12 v14 v28 v39 where
  inv k _ := before (F := F) c a2 a3 a4 a6 a7 a8 X2 X3 X4 G6 G7 G8
    (fun k => (trip2 (F := F) 𝒱 c bd i a2 h2 a3 h3 a4 h4 a5 h5 a6 h6 a7 h7 a8 h8 w v2 v7 v12 v14 v28 v39 X2 X3 X4 k).1)
    (fun k => (trip2 (F := F) 𝒱 c bd i a2 h2 a3 h3 a4 h4 a5 h5 a6 h6 a7 h7 a8 h8 w v2 v7 v12 v14 v28 v39 X2 X3 X4 k).2.1)
    (fun k => (trip2 (F := F) 𝒱 c bd i a2 h2 a3 h3 a4 h4 a5 h5 a6 h6 a7 h7 a8 h8 w v2 v7 v12 v14 v28 v39 X2 X3 X4 k).2.2.1) k
  step k _ := before_step 𝒱 c bd E a2 a3 a4 a6 a7 a8 X2 X3 X4 G6 G7 G8 _ _ _ k _
    ((trip2 (F := F) 𝒱 c bd i a2 h2 a3 h3 a4 h4 a5 h5 a6 h6 a7 h7 a8 h8 w v2 v7 v12 v14 v28 v39 X2 X3 X4 k).2.2.2 E)

set_option warn.classDefReducibility false in
/-- The loop over the positions of the third group (every sixteenth position), by the pieces of the trips before. -/
@[sl_loop] def loop3 (E : Set ℕ) (G6 : BufTy.Contents (Elt F) a6.view.ty) (G7 : BufTy.Contents (Elt F) a7.view.ty)
    (G8 : BufTy.Contents (Elt F) a8.view.ty) :
    LoopInvTy_k0_t3 (F := F) Unit ℕ (UR sig nD τ) ℕ 𝒱 c bd E i a2 h2 a3 h3 a4 h4 a5 h5 a6 h6 a7 h7 a8 h8 w v2 v12 v14 v69 v72 where
  inv k _ := before (F := F) c a2 a3 a4 a6 a7 a8 X2 X3 X4 G6 G7 G8
    (fun k => (trip3 (F := F) 𝒱 c bd i a2 h2 a3 h3 a4 h4 a5 h5 a6 h6 a7 h7 a8 h8 w v2 v12 v14 v69 v72 X2 X3 X4 k).1)
    (fun k => (trip3 (F := F) 𝒱 c bd i a2 h2 a3 h3 a4 h4 a5 h5 a6 h6 a7 h7 a8 h8 w v2 v12 v14 v69 v72 X2 X3 X4 k).2.1)
    (fun k => (trip3 (F := F) 𝒱 c bd i a2 h2 a3 h3 a4 h4 a5 h5 a6 h6 a7 h7 a8 h8 w v2 v12 v14 v69 v72 X2 X3 X4 k).2.2.1) k
  step k _ := before_step 𝒱 c bd E a2 a3 a4 a6 a7 a8 X2 X3 X4 G6 G7 G8 _ _ _ k _
    ((trip3 (F := F) 𝒱 c bd i a2 h2 a3 h3 a4 h4 a5 h5 a6 h6 a7 h7 a8 h8 w v2 v12 v14 v69 v72 X2 X3 X4 k).2.2.2 E)

end Loops

end Cert.DilAttnIdeal.Run

end
-- ==== Proof.DilBody.lean ====
/- The body of the dilated attention kernel, run over its three loops and its merge of the groups. -/
module

public import proofs.«01_k».proof.Proof.DilRun
public import proofs.«01_k».proof.Proof.Gen.DilAttnIdeal.Launch
public import proofs.«01_k».proof.Proof.Gen.DilAttnIdeal.Points
public import Idealize.ShloMosaic.Lib.Pipeline.Frame
public import Idealize.ShloMosaic.Lib.Pipeline.FrameBody

@[expose] public section

set_option maxRecDepth 16384
set_option maxHeartbeats 4000000

noncomputable section

namespace Cert.DilAttnIdeal.Run

open Cert.DilAttnIdeal Cert.DilAttnIdeal.Gen Cert.DilLoop
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
local notation "Plane" => Memref sig Kind.tc Space.vmem S3x2048x128 EltTy.f32

/-- The whole body from any contents of the scratch buffers: the pieces it writes into the output's buffer, with the
    proof that the inputs' buffers are left as they were. -/
def bodyRun (c : Dev nD) (i : grid0.Coords) (a2 : Plane) (h2 : a2.IsWhole) (a3 : Plane)
    (h3 : a3.IsWhole) (a4 : Plane) (h4 : a4.IsWhole) (a5 : Memref sig .tc .vmem S2048x128 .bf16) (h5 : a5.IsWhole)
    (a6 : Plane) (h6 : a6.IsWhole) (a7 : Plane) (h7 : a7.IsWhole) (a8 : Plane) (h8 : a8.IsWhole)
    (x0 x1 x2 : Vec F S3x2048x128 .f32) (G6 : BufTy.Contents (Elt F) a6.view.ty) (G7 : BufTy.Contents (Elt F) a7.view.ty)
    (G8 : BufTy.Contents (Elt F) a8.view.ty) :
    { L5 : List (View.Piece (Elt F) S2048x128 .bf16) // ∀ (E : Set ℕ) (K : PUnit → sProp 𝕄),
      iprop(owns (c : Thread nD τ) a2 fullShare x0 ∗ owns (c : Thread nD τ) a3 fullShare x1 ∗ owns (c : Thread nD τ) a4 fullShare x2
          ∗ (∃ d, owns (c : Thread nD τ) a5 fullShare d)
          ∗ (a6.view.loc (c : Thread nD τ) ↦[a6.view.set]{fullShare} G6)
          ∗ (a7.view.loc (c : Thread nD τ) ↦[a7.view.set]{fullShare} G7)
          ∗ (a8.view.loc (c : Thread nD τ) ↦[a8.view.set]{fullShare} G8)
          ∗ (iprop(owns (c : Thread nD τ) a2 fullShare x0 ∗ owns (c : Thread nD τ) a3 fullShare x1 ∗ owns (c : Thread nD τ) a4 fullShare x2
              ∗ (∃ f, a5.view.loc (c : Thread nD τ) ↦[a5.view.set]{fullShare} a5.view.writes (Elt F) f L5)
              ∗ (∃ f, a6.view.loc (c : Thread nD τ) ↦[a6.view.set]{fullShare} f)
              ∗ (∃ f, a7.view.loc (c : Thread nD τ) ↦[a7.view.set]{fullShare} f)
              ∗ (∃ f, a8.view.loc (c : Thread nD τ) ↦[a8.view.set]{fullShare} f)) -∗ K ⟨⟩))
        ⊢ wp frame (wpE (defs₀ (F := F)) Variants.none (c : Thread nD τ) none) E
            (cc0_dil_attn_prompt i a2 h2 a3 h3 a4 h4 a5 h5 a6 h6 a7 h7 a8 h8) K } := by
  refine ⟨?_, fun E K => ?run⟩
  case run =>
    simp only [cc0_dil_attn_prompt_eq_skeleton]; unfold cc0_dil_attn_prompt_skel
    simp only [k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%d3, %f3, -, H3⟩, H6, H7, H8, Hk⟩
    obtain rfl := h2.eq_unread hf0; obtain rfl := h3.eq_unread hf1; obtain rfl := h4.eq_unread hf2
    sl_exec
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    isplitl [H6]; · iexists _; iexact H6
    isplitl [H7]; · iexists _; iexact H7
    iexists _; iexact H8

end Cert.DilAttnIdeal.Run

end
-- ==== Proof.DilPieces.lean ====
/- The pieces one trip of each loop of the dilated attention kernel writes: one block of 128 rows, `dil g` rows apart, of each
   scratch buffer, in closed form of the kernel's inputs. -/
module

public import proofs.«01_k».proof.Proof.DilBody
public import Idealize.ShloMosaic.Lib.WholeRead

@[expose] public section

set_option maxRecDepth 16384
set_option maxHeartbeats 4000000

noncomputable section

namespace Cert.DilAttnIdeal.Run

open Cert.DilAttnIdeal Cert.DilAttnIdeal.Gen Cert.DilLoop
open Idealize.ShloMosaic Idealize.ShloMosaic.TcCoe Idealize.SL.Sem

variable {F : FTy → Type} [FloatOps F] [Named F]

local notation "Plane" => Memref sig Kind.tc Space.vmem S3x2048x128 EltTy.f32

/-- The dilation of each group. -/
def dil : Fin 3 → ℕ := ![1, 4, 16]

/-- The first row of the block trip `k` of group `g` writes. -/
def first (g : Fin 3) (k : Fin 16) : ℕ := k.val / dil g * (128 * dil g) + k.val % dil g

/-- The first row of the block before it (of its own block, if there is none before). -/
def prior (g : Fin 3) (k : Fin 16) : ℕ := (k.val / dil g - 1) * (128 * dil g) + k.val % dil g

/-- The rows trip `k` of group `g` writes. -/
def own (g : Fin 3) (k : Fin 16) : Rect S3x2048x128 where
  off := ![g.val, first g k, 0]
  size := ![1, 128, 128]
  stride := ![1, dil g, 1]
  inb := (by decide +kernel : ∀ (g : Fin 3) (k : Fin 16) (a : Fin 3), (![1, 128, 128] : Fin 3 → ℕ) a = 0
    ∨ (![g.val, first g k, 0] : Fin 3 → ℕ) a + (![1, dil g, 1] : Fin 3 → ℕ) a * ((![1, 128, 128] : Fin 3 → ℕ) a - 1) < (![3, 2048, 128] : Fin 3 → ℕ) a) g k
  stride_pos := (by decide +kernel : ∀ (g : Fin 3) (a : Fin 3), 0 < (![1, dil g, 1] : Fin 3 → ℕ) a) g

/-- The rows of the block before. -/
def prev (g : Fin 3) (k : Fin 16) : LoadRect S3x2048x128 where
  off := ![g.val, prior g k, 0]
  size := ![1, 128, 128]
  stride := ![1, dil g, 1]
  inb := (by decide +kernel : ∀ (g : Fin 3) (k : Fin 16) (a : Fin 3), (![1, 128, 128] : Fin 3 → ℕ) a = 0
    ∨ (![g.val, prior g k, 0] : Fin 3 → ℕ) a + (![1, dil g, 1] : Fin 3 → ℕ) a * ((![1, 128, 128] : Fin 3 → ℕ) a - 1) < (![3, 2048, 128] : Fin 3 → ℕ) a) g k

/-- The values of a block at trip `k`'s rows. -/
def ownOf (x : Vec F S3x2048x128 .f32) (g : Fin 3) (k : Fin 16) : Vec F S1x128x128 .f32 := fun y => x ((own g k).idx y)

/-- The values of a block at the rows before trip `k`'s. -/
def prevOf (x : Vec F S3x2048x128 .f32) (g : Fin 3) (k : Fin 16) : Vec F S1x128x128 .f32 := fun y => x ((prev g k).idx y)

/-- The bias of head `hh` of a pair: minus the slope times the distance where the key is within reach, the mask elsewhere. -/
def bias (g : Fin 3) (hh : BitVec 32) (i : grid0.Coords) : FVec F S128x256 .f32 :=
  k0_pay52 k0_pay33 (sitofp .f32 (muli k0_pay32 (broadcast S128x256 (BitVec.ofNat 32 (dil g)))))
    (Scalar.addi (Scalar.addi (Scalar.muli 2#32 (BitVec.ofNat 32 (i 1).val)) hh) 1#32)

/-- The weighted values of a block of queries, both heads of the pair. -/
def payO (b0 b1 : FVec F S128x256 .f32) (n : BitVec 32) (q kp ko vp vo : Vec F S1x128x128 .f32) :
     Vec F S1x128x128 .f32 := k0_pay40 k0_pay31 (k0_pay3 vp vo) (k0_pay9 k0_pay31 k0_pay34 b0 n (k0_pay1 q) kp ko vp vo)
  (k0_pay10 k0_pay31 k0_pay34 b1 n (k0_pay1 q) kp ko)

/-- The greatest score of each query. -/
def payM (b0 b1 : FVec F S128x256 .f32) (n : BitVec 32) (q kp ko vp vo : Vec F S1x128x128 .f32) :
     Vec F S1x128x128 .f32 := k0_pay41 k0_pay31 (k0_pay6 k0_pay31 k0_pay34 b0 n (k0_pay1 q) kp ko)
  (k0_pay10 k0_pay31 k0_pay34 b1 n (k0_pay1 q) kp ko)

/-- The sum of the weights of each query. -/
def payD (b0 b1 : FVec F S128x256 .f32) (n : BitVec 32) (q kp ko vp vo : Vec F S1x128x128 .f32) :
     Vec F S1x128x128 .f32 := k0_pay42 k0_pay31 (k0_pay8 k0_pay31 k0_pay34 b0 n (k0_pay1 q) kp ko)
  (k0_pay10 k0_pay31 k0_pay34 b1 n (k0_pay1 q) kp ko)

/-- What trip `k` of group `g` writes of the output, the maxima and the sums, by which of the three `pay` is. -/
def outOf (pay : FVec F S128x256 .f32 → FVec F S128x256 .f32 → BitVec 32 → Vec F S1x128x128 .f32 → Vec F S1x128x128 .f32 → Vec F S1x128x128 .f32 → Vec F S1x128x128 .f32 → Vec F S1x128x128 .f32 → Vec F S1x128x128 .f32)
    (i : grid0.Coords) (x0 x1 x2 : Vec F S3x2048x128 .f32) (g : Fin 3) (k : Fin 16) : Vec F S1x128x128 .f32 :=
  pay (bias g 0#32 i) (bias g 1#32 i) (BitVec.ofNat 32 (k.val / dil g)) (ownOf x0 g k) (prevOf x1 g k) (ownOf x1 g k)
    (prevOf x2 g k) (ownOf x2 g k)

/-- A load of a whole buffer that reads `x`, at a rectangle given by its offsets and strides. -/
theorem load_eq {a : Plane} (h : a.IsWhole) (x : Vec F S3x2048x128 .f32) (r : LoadRect S3x2048x128) {off stride : Fin 3 → ℕ}
    (inb : ∀ a, r.size a = 0 ∨ off a + stride a * (r.size a - 1) < S3x2048x128.size a) (eo : off = r.off) (es : stride = r.stride) :
    View.readAt (Elt F) a.view ⟨off, r.size, stride, inb⟩ (h.unread x) = fun y => x (r.idx y) := by
  subst eo; subst es
  exact funext fun y => h.readAt_unread x r y

/-- A piece by its rectangle's offsets and strides. -/
theorem piece_eq (r : Rect S3x2048x128) {off stride : Fin 3 → ℕ}
    (inb : ∀ a, r.size a = 0 ∨ off a + stride a * (r.size a - 1) < S3x2048x128.size a) (pos : ∀ a, 0 < stride a)
    (w w' : r.shape.Idx → Elt F .f32) (eo : off = r.off) (es : stride = r.stride) (ew : w = w') :
    (⟨⟨⟨off, r.size, stride, inb⟩, pos⟩, w⟩ : View.Piece (Elt F) S3x2048x128 EltTy.f32) = ⟨r, w'⟩ := by
  subst eo; subst es; subst ew; rfl

/-- A payload of equal arguments. -/
theorem pay_congr (pay : FVec F S128x256 .f32 → FVec F S128x256 .f32 → BitVec 32 → Vec F S1x128x128 .f32 → Vec F S1x128x128 .f32 → Vec F S1x128x128 .f32 → Vec F S1x128x128 .f32 → Vec F S1x128x128 .f32 → Vec F S1x128x128 .f32)
    (b0 b1 : FVec F S128x256 .f32) {n n' : BitVec 32} {q q' kp kp' ko ko' vp vp' vo vo' : Vec F S1x128x128 .f32} (en : n = n') (eq : q = q')
    (ekp : kp = kp') (eko : ko = ko') (evp : vp = vp') (evo : vo = vo') :
    pay b0 b1 n q kp ko vp vo = pay b0 b1 n' q' kp' ko' vp' vo' := by
  subst en; subst eq; subst ekp; subst eko; subst evp; subst evo; rfl

/-- The strides of consecutive rows. -/
theorem stride_one : (fun _ => 1 : Fin 3 → ℕ) = ![1, dil 0, 1] := by decide

variable (𝒱 : Variants) (c : Dev nD) (bd : Option 𝒱.V) (i : grid0.Coords) (a2 : Plane) (h2 : a2.IsWhole) (a3 : Plane)
  (h3 : a3.IsWhole) (a4 : Plane) (h4 : a4.IsWhole) (a5 : Memref sig .tc .vmem S2048x128 .bf16) (h5 : a5.IsWhole)
  (a6 : Plane) (h6 : a6.IsWhole) (a7 : Plane) (h7 : a7.IsWhole) (a8 : Plane) (h8 : a8.IsWhole) (x0 x1 x2 : Vec F S3x2048x128 .f32)

/-- Where the first (every position) group's trips write. -/
theorem own1 (k : Fin 16) : k0_off1 k = ![0, first 0 k, 0] :=
  funext ((by decide +kernel : ∀ (k : Fin k0_t1_loop.trips) (a : Fin 3), k0_off1 k a = (![0, first 0 ⟨k.val, k.isLt⟩, 0] : Fin 3 → ℕ) a) k)

/-- Where they read the block before. -/
theorem prev1 (k : Fin 16) : k0_off2 k = ![0, prior 0 k, 0] :=
  funext ((by decide +kernel : ∀ (k : Fin k0_t1_loop.trips) (a : Fin 3), k0_off2 k a = (![0, prior 0 ⟨k.val, k.isLt⟩, 0] : Fin 3 → ℕ) a) k)

/-- The number of the block among those of its residue. -/
theorem quot1 : ∀ k : Fin k0_t1_loop.trips, trip1.sl.v158 k = BitVec.ofNat 32 (k.val / dil 0) := by decide +kernel

/-- The weighted values trip `k` of the first (every position) group writes. -/
theorem trip1_O (k : Fin 16) :
    (trip1 (F := F) 𝒱 c bd i a2 h2 a3 h3 a4 h4 a5 h5 a6 h6 a7 h7 a8 h8 (BitVec.ofNat 32 (i 1).val) k0_pay31 k0_pay32 k0_pay33 k0_pay34 (k0_pay36 i) (k0_pay37 i)
      (h2.unread x0) (h3.unread x1) (h4.unread x2) k).1 = [⟨own 0 k, outOf payO i x0 x1 x2 0 k⟩] := by
  unfold trip1
  refine congrArg (· :: []) (piece_eq (own 0 k) _ _ _ _ (own1 k) stride_one ?_)
  exact pay_congr payO _ _ (quot1 k) (load_eq h2 x0 (own 0 k).toLoadRect _ (own1 k) stride_one) (load_eq h3 x1 (prev 0 k) _ (prev1 k) stride_one)
    (load_eq h3 x1 (own 0 k).toLoadRect _ (own1 k) stride_one) (load_eq h4 x2 (prev 0 k) _ (prev1 k) stride_one) (load_eq h4 x2 (own 0 k).toLoadRect _ (own1 k) stride_one)

/-- The maxima trip `k` of the first (every position) group writes. -/
theorem trip1_M (k : Fin 16) :
    (trip1 (F := F) 𝒱 c bd i a2 h2 a3 h3 a4 h4 a5 h5 a6 h6 a7 h7 a8 h8 (BitVec.ofNat 32 (i 1).val) k0_pay31 k0_pay32 k0_pay33 k0_pay34 (k0_pay36 i) (k0_pay37 i)
      (h2.unread x0) (h3.unread x1) (h4.unread x2) k).2.1 = [⟨own 0 k, outOf payM i x0 x1 x2 0 k⟩] := by
  unfold trip1
  refine congrArg (· :: []) (piece_eq (own 0 k) _ _ _ _ (own1 k) stride_one ?_)
  exact pay_congr payM _ _ (quot1 k) (load_eq h2 x0 (own 0 k).toLoadRect _ (own1 k) stride_one) (load_eq h3 x1 (prev 0 k) _ (prev1 k) stride_one)
    (load_eq h3 x1 (own 0 k).toLoadRect _ (own1 k) stride_one) rfl rfl

/-- The sums of the weights trip `k` of the first (every position) group writes. -/
theorem trip1_D (k : Fin 16) :
    (trip1 (F := F) 𝒱 c bd i a2 h2 a3 h3 a4 h4 a5 h5 a6 h6 a7 h7 a8 h8 (BitVec.ofNat 32 (i 1).val) k0_pay31 k0_pay32 k0_pay33 k0_pay34 (k0_pay36 i) (k0_pay37 i)
      (h2.unread x0) (h3.unread x1) (h4.unread x2) k).2.2.1 = [⟨own 0 k, outOf payD i x0 x1 x2 0 k⟩] := by
  unfold trip1
  refine congrArg (· :: []) (piece_eq (own 0 k) _ _ _ _ (own1 k) stride_one ?_)
  exact pay_congr payD _ _ (quot1 k) (load_eq h2 x0 (own 0 k).toLoadRect _ (own1 k) stride_one) (load_eq h3 x1 (prev 0 k) _ (prev1 k) stride_one)
    (load_eq h3 x1 (own 0 k).toLoadRect _ (own1 k) stride_one) rfl rfl

/-- Where the second (every fourth position) group's trips write. -/
theorem own2 (k : Fin 16) : k0_off3 k = ![1, first 1 k, 0] :=
  funext ((by decide +kernel : ∀ (k : Fin k0_t2_loop.trips) (a : Fin 3), k0_off3 k a = (![1, first 1 ⟨k.val, k.isLt⟩, 0] : Fin 3 → ℕ) a) k)

/-- Where they read the block before. -/
theorem prev2 (k : Fin 16) : k0_off4 k = ![1, prior 1 k, 0] :=
  funext ((by decide +kernel : ∀ (k : Fin k0_t2_loop.trips) (a : Fin 3), k0_off4 k a = (![1, prior 1 ⟨k.val, k.isLt⟩, 0] : Fin 3 → ℕ) a) k)

/-- The number of the block among those of its residue. -/
theorem quot2 : ∀ k : Fin k0_t2_loop.trips, trip2.sl.v158 k = BitVec.ofNat 32 (k.val / dil 1) := by decide +kernel

/-- The weighted values trip `k` of the second (every fourth position) group writes. -/
theorem trip2_O (k : Fin 16) :
    (trip2 (F := F) 𝒱 c bd i a2 h2 a3 h3 a4 h4 a5 h5 a6 h6 a7 h7 a8 h8 (BitVec.ofNat 32 (i 1).val) k0_pay31 k0_pay32 k0_pay33 k0_pay34 (k0_pay36 i) (k0_pay37 i)
      (h2.unread x0) (h3.unread x1) (h4.unread x2) k).1 = [⟨own 1 k, outOf payO i x0 x1 x2 1 k⟩] := by
  unfold trip2
  refine congrArg (· :: []) (piece_eq (own 1 k) _ _ _ _ (own2 k) rfl ?_)
  exact pay_congr payO _ _ (quot2 k) (load_eq h2 x0 (own 1 k).toLoadRect _ (own2 k) rfl) (load_eq h3 x1 (prev 1 k) _ (prev2 k) rfl)
    (load_eq h3 x1 (own 1 k).toLoadRect _ (own2 k) rfl) (load_eq h4 x2 (prev 1 k) _ (prev2 k) rfl) (load_eq h4 x2 (own 1 k).toLoadRect _ (own2 k) rfl)

/-- The maxima trip `k` of the second (every fourth position) group writes. -/
theorem trip2_M (k : Fin 16) :
    (trip2 (F := F) 𝒱 c bd i a2 h2 a3 h3 a4 h4 a5 h5 a6 h6 a7 h7 a8 h8 (BitVec.ofNat 32 (i 1).val) k0_pay31 k0_pay32 k0_pay33 k0_pay34 (k0_pay36 i) (k0_pay37 i)
      (h2.unread x0) (h3.unread x1) (h4.unread x2) k).2.1 = [⟨own 1 k, outOf payM i x0 x1 x2 1 k⟩] := by
  unfold trip2
  refine congrArg (· :: []) (piece_eq (own 1 k) _ _ _ _ (own2 k) rfl ?_)
  exact pay_congr payM _ _ (quot2 k) (load_eq h2 x0 (own 1 k).toLoadRect _ (own2 k) rfl) (load_eq h3 x1 (prev 1 k) _ (prev2 k) rfl)
    (load_eq h3 x1 (own 1 k).toLoadRect _ (own2 k) rfl) rfl rfl

/-- The sums of the weights trip `k` of the second (every fourth position) group writes. -/
theorem trip2_D (k : Fin 16) :
    (trip2 (F := F) 𝒱 c bd i a2 h2 a3 h3 a4 h4 a5 h5 a6 h6 a7 h7 a8 h8 (BitVec.ofNat 32 (i 1).val) k0_pay31 k0_pay32 k0_pay33 k0_pay34 (k0_pay36 i) (k0_pay37 i)
      (h2.unread x0) (h3.unread x1) (h4.unread x2) k).2.2.1 = [⟨own 1 k, outOf payD i x0 x1 x2 1 k⟩] := by
  unfold trip2
  refine congrArg (· :: []) (piece_eq (own 1 k) _ _ _ _ (own2 k) rfl ?_)
  exact pay_congr payD _ _ (quot2 k) (load_eq h2 x0 (own 1 k).toLoadRect _ (own2 k) rfl) (load_eq h3 x1 (prev 1 k) _ (prev2 k) rfl)
    (load_eq h3 x1 (own 1 k).toLoadRect _ (own2 k) rfl) rfl rfl

/-- Where the third (every sixteenth position) group's trips write. -/
theorem own3 (k : Fin 16) : k0_off5 k = ![2, first 2 k, 0] :=
  funext ((by decide +kernel : ∀ (k : Fin k0_t3_loop.trips) (a : Fin 3), k0_off5 k a = (![2, first 2 ⟨k.val, k.isLt⟩, 0] : Fin 3 → ℕ) a) k)

/-- Where they read the block before. -/
theorem prev3 (k : Fin 16) : k0_off6 k = ![2, prior 2 k, 0] :=
  funext ((by decide +kernel : ∀ (k : Fin k0_t3_loop.trips) (a : Fin 3), k0_off6 k a = (![2, prior 2 ⟨k.val, k.isLt⟩, 0] : Fin 3 → ℕ) a) k)

/-- The number of the block among those of its residue. -/
theorem quot3 : ∀ k : Fin k0_t3_loop.trips, 0#32 = BitVec.ofNat 32 (k.val / dil 2) := by decide +kernel

/-- The weighted values trip `k` of the third (every sixteenth position) group writes. -/
theorem trip3_O (k : Fin 16) :
    (trip3 (F := F) 𝒱 c bd i a2 h2 a3 h3 a4 h4 a5 h5 a6 h6 a7 h7 a8 h8 (BitVec.ofNat 32 (i 1).val) k0_pay31 k0_pay33 k0_pay34 (k0_pay51 k0_pay32) (Scalar.addi (Scalar.addi (Scalar.muli 2#32 (BitVec.ofNat 32 (i 1).val)) 0#32) 1#32)
      (h2.unread x0) (h3.unread x1) (h4.unread x2) k).1 = [⟨own 2 k, outOf payO i x0 x1 x2 2 k⟩] := by
  unfold trip3
  refine congrArg (· :: []) (piece_eq (own 2 k) _ _ _ _ (own3 k) rfl ?_)
  exact pay_congr payO _ _ (quot3 k) (load_eq h2 x0 (own 2 k).toLoadRect _ (own3 k) rfl) (load_eq h3 x1 (prev 2 k) _ (prev3 k) rfl)
    (load_eq h3 x1 (own 2 k).toLoadRect _ (own3 k) rfl) (load_eq h4 x2 (prev 2 k) _ (prev3 k) rfl) (load_eq h4 x2 (own 2 k).toLoadRect _ (own3 k) rfl)

/-- The maxima trip `k` of the third (every sixteenth position) group writes. -/
theorem trip3_M (k : Fin 16) :
    (trip3 (F := F) 𝒱 c bd i a2 h2 a3 h3 a4 h4 a5 h5 a6 h6 a7 h7 a8 h8 (BitVec.ofNat 32 (i 1).val) k0_pay31 k0_pay33 k0_pay34 (k0_pay51 k0_pay32) (Scalar.addi (Scalar.addi (Scalar.muli 2#32 (BitVec.ofNat 32 (i 1).val)) 0#32) 1#32)
      (h2.unread x0) (h3.unread x1) (h4.unread x2) k).2.1 = [⟨own 2 k, outOf payM i x0 x1 x2 2 k⟩] := by
  unfold trip3
  refine congrArg (· :: []) (piece_eq (own 2 k) _ _ _ _ (own3 k) rfl ?_)
  exact pay_congr payM _ _ (quot3 k) (load_eq h2 x0 (own 2 k).toLoadRect _ (own3 k) rfl) (load_eq h3 x1 (prev 2 k) _ (prev3 k) rfl)
    (load_eq h3 x1 (own 2 k).toLoadRect _ (own3 k) rfl) rfl rfl

/-- The sums of the weights trip `k` of the third (every sixteenth position) group writes. -/
theorem trip3_D (k : Fin 16) :
    (trip3 (F := F) 𝒱 c bd i a2 h2 a3 h3 a4 h4 a5 h5 a6 h6 a7 h7 a8 h8 (BitVec.ofNat 32 (i 1).val) k0_pay31 k0_pay33 k0_pay34 (k0_pay51 k0_pay32) (Scalar.addi (Scalar.addi (Scalar.muli 2#32 (BitVec.ofNat 32 (i 1).val)) 0#32) 1#32)
      (h2.unread x0) (h3.unread x1) (h4.unread x2) k).2.2.1 = [⟨own 2 k, outOf payD i x0 x1 x2 2 k⟩] := by
  unfold trip3
  refine congrArg (· :: []) (piece_eq (own 2 k) _ _ _ _ (own3 k) rfl ?_)
  exact pay_congr payD _ _ (quot3 k) (load_eq h2 x0 (own 2 k).toLoadRect _ (own3 k) rfl) (load_eq h3 x1 (prev 2 k) _ (prev3 k) rfl)
    (load_eq h3 x1 (own 2 k).toLoadRect _ (own3 k) rfl) rfl rfl

end Cert.DilAttnIdeal.Run

end
-- ==== Proof.DilOut.lean ====
/- What the three loops of the dilated attention kernel leave in the scratch buffers, whatever these held before, and
   what the body therefore writes into the output's block. -/
module

public import proofs.«01_k».proof.Proof.DilPieces
public import Idealize.ShloMosaic.Lib.Pointwise

@[expose] public section

set_option maxRecDepth 16384
set_option maxHeartbeats 4000000

noncomputable section

namespace Cert.DilAttnIdeal.Run

open Cert.DilAttnIdeal Cert.DilAttnIdeal.Gen Cert.DilLoop
open Idealize.ShloMosaic Idealize.ShloMosaic.TcCoe Idealize.SL.Sem

variable {F : FTy → Type} [FloatOps F] [Named F]

local notation "Plane" => Memref sig Kind.tc Space.vmem S3x2048x128 EltTy.f32

/-- The trip that writes row `t` of group `g`. -/
def tripOf (g : Fin 3) (t : Fin 2048) : Fin 16 :=
  ⟨t.val / (128 * dil g) * dil g + t.val % dil g, by fin_cases g <;> dsimp [dil] <;> omega⟩

/-- The place of the row in that trip's block. -/
def placeOf (g : Fin 3) (t : Fin 2048) : Fin 128 := ⟨t.val / dil g % 128, Nat.mod_lt _ (by norm_num)⟩

/-- The row is the trip's row of that place. -/
theorem first_add (g : Fin 3) (t : Fin 2048) : first g (tripOf g t) + dil g * (placeOf g t).val = t.val := by
  fin_cases g <;> dsimp [first, tripOf, placeOf, dil] <;> omega

/-- No other trip of the group writes it. -/
theorem trip_unique (g : Fin 3) (t : Fin 2048) (k : Fin 16) (j : ℕ) (hj : j < 128) (h : first g k + dil g * j = t.val) :
    k = tripOf g t := by
  have hk := k.isLt
  apply Fin.ext
  revert h
  fin_cases g <;> dsimp [first, tripOf, dil] <;> omega

/-- The contents of group `g`'s rows, by the blocks its trips write. -/
def groupOf (out : Fin 3 → Fin 16 → Vec F S1x128x128 .f32) (g : Fin 3) (t : Fin 2048) (l : Fin 128) : Elt F .f32 :=
  out g (tripOf g t) (ix3 0 (placeOf g t) l)

/-- After the three loops each row of a scratch buffer reads what its one trip wrote there. -/
theorem scratch_read (a : Plane) (G : BufTy.Contents (Elt F) a.view.ty) (out : Fin 3 → Fin 16 → Vec F S1x128x128 .f32)
    (p1 p2 p3 : Fin 16 → List (View.Piece (Elt F) S3x2048x128 EltTy.f32)) (h1 : ∀ k, p1 k = [⟨own 0 k, out 0 k⟩])
    (h2 : ∀ k, p2 k = [⟨own 1 k, out 1 k⟩]) (h3 : ∀ k, p3 k = [⟨own 2 k, out 2 k⟩]) (g : Fin 3) (t : Fin 2048) (l : Fin 128) :
    a.view.read (Elt F) (a.view.writes (Elt F) G (piecesUpTo p3 16 ++ (piecesUpTo p2 16 ++ piecesUpTo p1 16))) (ix3 g t l)
      = groupOf out g t l := by
  have mem : ∀ q : View.Piece (Elt F) S3x2048x128 EltTy.f32, q ∈ piecesUpTo p3 16 ++ (piecesUpTo p2 16 ++ piecesUpTo p1 16)
      ↔ ∃ (g : Fin 3) (k : Fin 16), q = ⟨own g k, out g k⟩ := fun q => by
    simp only [List.mem_append, mem_piecesUpTo, h1, h2, h3, List.mem_singleton]
    constructor
    · rintro (⟨k, -, h⟩ | ⟨k, -, h⟩ | ⟨k, -, h⟩)
      exacts [⟨2, k, h⟩, ⟨1, k, h⟩, ⟨0, k, h⟩]
    · rintro ⟨g, k, h⟩
      fin_cases g
      exacts [.inr (.inr ⟨k, k.isLt, h⟩), .inr (.inl ⟨k, k.isLt, h⟩), .inl ⟨k, k.isLt, h⟩]
  have e : (own g (tripOf g t)).emb (ix3 0 (placeOf g t) l) = ix3 g t l := by
    funext b
    apply Fin.ext
    fin_cases b
    · show g.val + 1 * 0 = g.val; omega
    · exact first_add g t
    · show 0 + 1 * l.val = l.val; omega
  rw [← e]
  refine View.read_writes_of_unique a.view G ⟨own g (tripOf g t), out g (tripOf g t)⟩ (ix3 0 (placeOf g t) l) _
    ((mem _).mpr ⟨g, _, rfl⟩) fun q hq hs => ?_
  obtain ⟨g', k, rfl⟩ := (mem q).mp hq
  rw [e] at hs
  have hs := LoadRect.mem_set _ |>.mp hs
  obtain ⟨j0, hj0, e0⟩ := hs 0
  obtain ⟨j1, hj1, e1⟩ := hs 1
  have hj0 : j0 < 1 := hj0
  have e0 : g.val = g'.val + 1 * j0 := e0
  obtain rfl : g = g' := Fin.ext (by omega)
  obtain rfl := trip_unique g t k j1 hj1 (show t.val = first g k + dil g * j1 from e1).symm
  rfl

/-- A load of one group's plane after the three loops. -/
theorem plane_read (a : Plane) (G : BufTy.Contents (Elt F) a.view.ty) (out : Fin 3 → Fin 16 → Vec F S1x128x128 .f32)
    (p1 p2 p3 : Fin 16 → List (View.Piece (Elt F) S3x2048x128 EltTy.f32)) (h1 : ∀ k, p1 k = [⟨own 0 k, out 0 k⟩])
    (h2 : ∀ k, p2 k = [⟨own 1 k, out 1 k⟩]) (h3 : ∀ k, p3 k = [⟨own 2 k, out 2 k⟩]) (g : Fin 3) (off : Fin 3 → ℕ)
    (inb : ∀ a, off a + (![1, 2048, 128] : Fin 3 → ℕ) a ≤ S3x2048x128.size a) (eo : off = ![g.val, 0, 0]) :
    View.readAt (Elt F) a.view (Rect.unit (s := S3x2048x128) off ![1, 2048, 128] inb).toLoadRect
      (a.view.writes (Elt F) G (piecesUpTo p3 16 ++ (piecesUpTo p2 16 ++ piecesUpTo p1 16)))
      = fun y => groupOf out g (y 1) (y 2) := by
  subst eo
  funext y
  refine Eq.trans (congrArg (a.view.read (Elt F) _) ?_) (scratch_read a G out p1 p2 p3 h1 h2 h3 g (y 1) (y 2))
  funext b
  apply Fin.ext
  have h0 : (y 0).val < 1 := (y 0).isLt
  fin_cases b
  · show g.val + 1 * (y 0).val = g.val; omega
  · show 0 + 1 * (y 1).val = (y 1).val; omega
  · show 0 + 1 * (y 2).val = (y 2).val; omega

/-- The merge of the three groups, from the planes of weighted values, maxima and sums. -/
def merge (O M D : Fin 3 → Vec F S1x2048x128 .f32) : Vec F S2048x128 .bf16 :=
  k0_pay63 (k0_pay59 (M 0) (M 1) (M 2)) k0_pay60 k0_pay61 (k0_pay62 (M 0)) (O 0) (D 0) (M 1) (O 1) (D 1) (M 2) (O 2) (D 2)

/-- The merge of equal planes. -/
theorem merge_congr {o0 o1 o2 m0 m1 m2 d0 d1 d2 : Vec F S1x2048x128 .f32} (O M D : Fin 3 → Vec F S1x2048x128 .f32)
    (eo0 : o0 = O 0) (eo1 : o1 = O 1) (eo2 : o2 = O 2) (em0 : m0 = M 0) (em1 : m1 = M 1) (em2 : m2 = M 2)
    (ed0 : d0 = D 0) (ed1 : d1 = D 1) (ed2 : d2 = D 2) :
    k0_pay63 (k0_pay59 m0 m1 m2) k0_pay60 k0_pay61 (k0_pay62 m0) o0 d0 m1 o1 d1 m2 o2 d2 = merge O M D := by
  subst eo0; subst eo1; subst eo2; subst em0; subst em1; subst em2; subst ed0; subst ed1; subst ed2; rfl

/-- The planes of one scratch buffer, by what the trips write there. -/
def planes (pay : FVec F S128x256 .f32 → FVec F S128x256 .f32 → BitVec 32 → Vec F S1x128x128 .f32 → Vec F S1x128x128 .f32
      → Vec F S1x128x128 .f32 → Vec F S1x128x128 .f32 → Vec F S1x128x128 .f32 → Vec F S1x128x128 .f32)
    (i : grid0.Coords) (x0 x1 x2 : Vec F S3x2048x128 .f32) (g : Fin 3) : Vec F S1x2048x128 .f32 :=
  fun y => groupOf (outOf pay i x0 x1 x2) g (y 1) (y 2)

/-- What the body writes at grid point `i` from the blocks of queries, keys and values. -/
def outVal (i : grid0.Coords) (x0 x1 x2 : Vec F S3x2048x128 .f32) : Vec F S2048x128 .bf16 :=
  merge (planes payO i x0 x1 x2) (planes payM i x0 x1 x2) (planes payD i x0 x1 x2)

/-- The body writes one piece: the whole output block, whatever the scratch buffers held before. -/
theorem bodyRun_pieces (c : Dev nD) (i : grid0.Coords) (a2 : Plane) (h2 : a2.IsWhole) (a3 : Plane)
    (h3 : a3.IsWhole) (a4 : Plane) (h4 : a4.IsWhole) (a5 : Memref sig .tc .vmem S2048x128 .bf16) (h5 : a5.IsWhole)
    (a6 : Plane) (h6 : a6.IsWhole) (a7 : Plane) (h7 : a7.IsWhole) (a8 : Plane) (h8 : a8.IsWhole)
    (x0 x1 x2 : Vec F S3x2048x128 .f32) (G6 : BufTy.Contents (Elt F) a6.view.ty) (G7 : BufTy.Contents (Elt F) a7.view.ty)
    (G8 : BufTy.Contents (Elt F) a8.view.ty) :
    (bodyRun c i a2 h2 a3 h3 a4 h4 a5 h5 a6 h6 a7 h7 a8 h8 x0 x1 x2 G6 G7 G8).1
      = [⟨Rect.unit ![0, 0] ![2048, 128] inb_S2048x128_S2048x128_0_0, outVal i x0 x1 x2⟩] := by
  unfold bodyRun
  have rO := plane_read a6 G6 (outOf payO i x0 x1 x2) _ _ _
    (trip1_O Variants.none c none i a2 h2 a3 h3 a4 h4 a5 h5 a6 h6 a7 h7 a8 h8 x0 x1 x2)
    (trip2_O Variants.none c none i a2 h2 a3 h3 a4 h4 a5 h5 a6 h6 a7 h7 a8 h8 x0 x1 x2)
    (trip3_O Variants.none c none i a2 h2 a3 h3 a4 h4 a5 h5 a6 h6 a7 h7 a8 h8 x0 x1 x2)
  have rM := plane_read a7 G7 (outOf payM i x0 x1 x2) _ _ _
    (trip1_M Variants.none c none i a2 h2 a3 h3 a4 h4 a5 h5 a6 h6 a7 h7 a8 h8 x0 x1 x2)
    (trip2_M Variants.none c none i a2 h2 a3 h3 a4 h4 a5 h5 a6 h6 a7 h7 a8 h8 x0 x1 x2)
    (trip3_M Variants.none c none i a2 h2 a3 h3 a4 h4 a5 h5 a6 h6 a7 h7 a8 h8 x0 x1 x2)
  have rD := plane_read a8 G8 (outOf payD i x0 x1 x2) _ _ _
    (trip1_D Variants.none c none i a2 h2 a3 h3 a4 h4 a5 h5 a6 h6 a7 h7 a8 h8 x0 x1 x2)
    (trip2_D Variants.none c none i a2 h2 a3 h3 a4 h4 a5 h5 a6 h6 a7 h7 a8 h8 x0 x1 x2)
    (trip3_D Variants.none c none i a2 h2 a3 h3 a4 h4 a5 h5 a6 h6 a7 h7 a8 h8 x0 x1 x2)
  refine congrArg (fun w => [(⟨Rect.unit ![0, 0] ![2048, 128] inb_S2048x128_S2048x128_0_0, w⟩ : View.Piece (Elt F) S2048x128 EltTy.bf16)]) ?_
  exact merge_congr (planes payO i x0 x1 x2) (planes payM i x0 x1 x2) (planes payD i x0 x1 x2)
    (rO 0 _ inb_S3x2048x128_S1x2048x128_0_0_0 rfl) (rO 1 _ inb_S3x2048x128_S1x2048x128_1_0_0 rfl) (rO 2 _ inb_S3x2048x128_S1x2048x128_2_0_0 rfl)
    (rM 0 _ inb_S3x2048x128_S1x2048x128_0_0_0 rfl) (rM 1 _ inb_S3x2048x128_S1x2048x128_1_0_0 rfl) (rM 2 _ inb_S3x2048x128_S1x2048x128_2_0_0 rfl)
    (rD 0 _ inb_S3x2048x128_S1x2048x128_0_0_0 rfl) (rD 1 _ inb_S3x2048x128_S1x2048x128_1_0_0 rfl) (rD 2 _ inb_S3x2048x128_S1x2048x128_2_0_0 rfl)

end Cert.DilAttnIdeal.Run

end
-- ==== Proof.DilSpec.lean ====
/- Dilated attention of one query in one group, on plain functions of the positions, and the mix of the groups; and two ways
   of listing the same positions agree on it. -/
module

public import Idealize.ShloMosaic.PureOps.Ideal

@[expose] public section

noncomputable section

namespace Cert.Dil

open Idealize.ShloMosaic

/-- Position `t'` is one query `t` reads: at most 128 strides back, and a whole number of them. -/
def reach (d t t' : ℕ) : Prop := t' ≤ t ∧ t - t' ≤ 128 * d ∧ (t - t') % d = 0

instance (d t t' : ℕ) : Decidable (reach d t t') := inferInstanceAs (Decidable (_ ∧ _))

/-- The slope of head `H` of the eight. -/
def slope (H : ℕ) : ℝ := Real.rpow 2 (-((H : ℝ) + 1))

/-- The score of query `t` at position `t'`: the dot product less the slope times the distance, `⊥` out of reach. -/
def score (H d : ℕ) (q : Fin 64 → EReal) (k : Fin 2048 → Fin 64 → EReal) (t t' : Fin 2048) : EReal :=
  if reach d t.val t'.val then (∑ e, q e * k t' e) - ((slope H * ((t.val - t'.val : ℕ) : ℝ) : ℝ) : EReal) else ⊥

/-- The sum of the weights of the scores. -/
def den {n : ℕ} (s : Fin n → EReal) : EReal := ∑ p, Ideal.exp (s p - Finset.univ.sup s)

/-- The weighted sum of the values. -/
def num {n : ℕ} (s v : Fin n → EReal) : EReal := ∑ p, Ideal.exp (s p - Finset.univ.sup s) * v p

/-- The quotient of three groups' weighted sums by their sums of weights, each scaled from its own greatest score to the
    greatest of all. -/
def mix (o m d : Fin 3 → EReal) : EReal :=
  let top := max (max (m 0) (m 1)) (m 2)
  Ideal.div (o 0 * Ideal.exp (m 0 - top) + o 1 * Ideal.exp (m 1 - top) + o 2 * Ideal.exp (m 2 - top))
    (d 0 * Ideal.exp (m 0 - top) + d 1 * Ideal.exp (m 1 - top) + d 2 * Ideal.exp (m 2 - top))

/-- The dilated attention of one query and one column of one head, all three groups mixed. -/
def attend (H : ℕ) (d : Fin 3 → ℕ) (q : Fin 3 → Fin 64 → EReal) (k : Fin 3 → Fin 2048 → Fin 64 → EReal)
    (v : Fin 3 → Fin 2048 → EReal) (t : Fin 2048) : EReal :=
  mix (fun g => num (score H (d g) (q g) (k g) t) (v g)) (fun g => Finset.univ.sup (score H (d g) (q g) (k g) t))
    (fun g => den (score H (d g) (q g) (k g) t))

/-- Equal heads, rows and positions have equal attention. -/
theorem attend_congr {H H' : ℕ} (d : Fin 3 → ℕ) {q q' : Fin 3 → Fin 64 → EReal} {k k' : Fin 3 → Fin 2048 → Fin 64 → EReal}
    {v v' : Fin 3 → Fin 2048 → EReal} {t t' : Fin 2048} (hH : H = H') (hq : ∀ g e, q g e = q' g e) (hk : ∀ g x e, k g x e = k' g x e)
    (hv : ∀ g x, v g x = v' g x) (ht : t = t') : attend H d q k v t = attend H' d q' k' v' t' := by
  obtain rfl : q = q' := funext fun g => funext fun e => hq g e
  obtain rfl : k = k' := funext fun g => funext fun x => funext fun e => hk g x e
  obtain rfl : v = v' := funext fun g => funext fun x => hv g x
  rw [hH, ht]

/-- `⊥` less anything is `⊥`. -/
theorem bot_sub (a : EReal) : (⊥ : EReal) - a = ⊥ := by rw [sub_eq_add_neg, EReal.bot_add]

section Listing

variable {n N : ℕ} (V : Fin n → Prop) [DecidablePred V] (W : Fin N → Prop) [DecidablePred W] (at' : Fin n → Fin N)
  (hV : ∀ p, V p → W (at' p)) (inj : ∀ p p', V p → V p' → at' p = at' p' → p = p') (surj : ∀ t, W t → ∃ p, V p ∧ at' p = t)

include hV inj surj

/-- Two sums over the same terms, listed in two ways with other terms that are zero, are equal. -/
theorem sum_listing (f : Fin n → EReal) (g : Fin N → EReal) (hf : ∀ p, ¬V p → f p = 0) (hg : ∀ t, ¬W t → g t = 0)
    (h : ∀ p, V p → f p = g (at' p)) : ∑ p, f p = ∑ t, g t := by
  rw [← Finset.sum_filter_add_sum_filter_not Finset.univ V f, ← Finset.sum_filter_add_sum_filter_not Finset.univ W g,
    Finset.sum_eq_zero (s := Finset.univ.filter fun p => ¬V p) fun p hp => hf p (Finset.mem_filter.mp hp).2,
    Finset.sum_eq_zero (s := Finset.univ.filter fun p => ¬W p) fun p hp => hg p (Finset.mem_filter.mp hp).2, add_zero, add_zero]
  refine Finset.sum_nbij at' (fun p hp => ?_) (fun p hp p' hp' e => ?_) (fun t ht => ?_) fun p hp => h p (Finset.mem_filter.mp hp).2
  · exact Finset.mem_filter.mpr ⟨Finset.mem_univ _, hV p (Finset.mem_filter.mp hp).2⟩
  · exact inj p p' (Finset.mem_filter.mp hp).2 (Finset.mem_filter.mp hp').2 e
  · obtain ⟨p, hp, e⟩ := surj t (Finset.mem_filter.mp ht).2
    exact ⟨p, Finset.mem_coe.mpr (Finset.mem_filter.mpr ⟨Finset.mem_univ _, hp⟩), e⟩

variable (s : Fin n → EReal) (u : Fin N → EReal) (hs : ∀ p, ¬V p → s p = ⊥) (hu : ∀ t, ¬W t → u t = ⊥)
  (h : ∀ p, V p → s p = u (at' p))

include hs hu h

/-- The greatest score does not depend on the listing. -/
theorem sup_listing : Finset.univ.sup s = Finset.univ.sup u := by
  apply le_antisymm
  · refine Finset.sup_le fun p _ => ?_
    by_cases hp : V p
    · rw [h p hp]; exact Finset.le_sup (f := u) (Finset.mem_univ _)
    · rw [hs p hp]; exact bot_le
  · refine Finset.sup_le fun t _ => ?_
    by_cases ht : W t
    · obtain ⟨p, hp, rfl⟩ := surj t ht
      rw [← h p hp]; exact Finset.le_sup (f := s) (Finset.mem_univ _)
    · rw [hu t ht]; exact bot_le

/-- Nor does the sum of the weights. -/
theorem den_listing : den s = den u := by
  rw [den, den, sup_listing V W at' hV inj surj s u hs hu h]
  exact sum_listing V W at' hV inj surj _ _ (fun p hp => by rw [hs p hp, bot_sub]; rfl) (fun t ht => by rw [hu t ht, bot_sub]; rfl)
    fun p hp => by rw [h p hp]

/-- Nor does the weighted sum. -/
theorem num_listing (x : Fin n → EReal) (y : Fin N → EReal) (hx : ∀ p, V p → x p = y (at' p)) : num s x = num u y := by
  have e0 : ∀ a b : EReal, Ideal.exp (⊥ - a) * b = 0 := fun a b => by rw [bot_sub]; exact zero_mul b
  rw [num, num, sup_listing V W at' hV inj surj s u hs hu h]
  exact sum_listing V W at' hV inj surj _ _ (fun p hp => by rw [hs p hp, e0]) (fun t ht => by rw [hu t ht, e0])
    fun p hp => by rw [h p hp, hx p hp]

end Listing

end Cert.Dil

end
-- ==== Proof.DilBlock.lean ====
/- What a trip of the dilated attention kernel writes for a row, at the ideal values: the greatest score, the sum of the
   weights and the weighted sum of the values, over the 256 rows it loads. -/
module

public import proofs.«01_k».proof.Proof.DilOut
public import proofs.«01_k».proof.Proof.DilSpec
public import Idealize.ShloMosaic.Lib.Pointwise
public import Idealize.ShloMosaic.Lib.WordCmp

@[expose] public section

set_option maxRecDepth 16384

noncomputable section

namespace Cert.DilAttnIdeal.Run

open Cert.DilAttnIdeal Cert.DilAttnIdeal.Gen Cert.Dil
open Idealize.ShloMosaic Idealize.ShloMosaic.TcCoe Idealize.SL.Sem

/-- The word −∞ is the least extended real. -/
theorem ofBits_neg_inf : Ideal.ofBits .f32 0xFF800000#32 = ⊥ := by simp [Ideal.ofBits, Ideal.ieee]

/-- The masking constant is the least extended real. -/
theorem mask_bot : (Named.named κ "mask" 0xF149F2CA#32 : Ideal .f32) = ⊥ := rfl

/-- The rows of two blocks, the first block's first. -/
def rowsOf (a b : Vec Ideal S1x128x128 .f32) (p : Fin 256) (d : Fin 128) : EReal :=
  if h : p.val < 128 then a (ix3 0 ⟨p.val, h⟩ d) else b (ix3 0 ⟨p.val - 128, by omega⟩ d)

/-- Lane `e` of head `h`, of the two heads side by side. -/
def lane (h : Fin 2) (e : Fin 64) : Fin 128 := ⟨64 * h.val + e.val, by omega⟩

/-- The score of query `r` with row `p` for head `h` of the two. -/
def scoreOf (h : Fin 2) (b : FVec Ideal S128x256 .f32) (n : BitVec 32) (q kp ko : Vec Ideal S1x128x128 .f32) (r : Fin 128)
    (p : Fin 256) : EReal :=
  (∑ e : Fin 64, q (ix3 0 r (lane h e)) * rowsOf kp ko p (lane h e)) + b (ix2 r p)
    + (if p.val < 128 ∧ n = 0#32 then ⊥ else 0)

/-- The lanes of the first head. -/
theorem lanes_at (r d : Fin 128) : k0_pay31 (ix2 r d) = if d.val < 64 then 1#1 else 0#1 := by
  pointwise [k0_pay31]
  split
  · word_cmp
  · word_cmp

/-- The keys of both blocks. -/
theorem keys_at (a b : Vec Ideal S1x128x128 .f32) (p : Fin 256) (d : Fin 128) : k0_pay2 a b (ix2 p d) = rowsOf a b p d := by
  unfold rowsOf
  split
  · rename_i h
    pointwise [k0_pay2]
    rw [dif_pos (by omega)]
  · rename_i h
    pointwise [k0_pay2]
    exact dif_neg h

/-- The values of both blocks. -/
theorem values_at (a b : Vec Ideal S1x128x128 .f32) (p : Fin 256) (d : Fin 128) : k0_pay3 a b (ix2 p d) = rowsOf a b p d :=
  keys_at a b p d

/-- The mask of the rows before the first. -/
theorem edge_at (n : BitVec 32) (r : Fin 128) (p : Fin 256) :
    k0_pay4 (F := Ideal) k0_pay34 n (ix2 r p) = if p.val < 128 ∧ n = 0#32 then ⊥ else 0 := by
  pointwise [k0_pay4, k0_pay34, mask_bot]
  have e1 : IntOp.cmpi .slt (BitVec.ofNat 32 p.val) 128#32 = if p.val < 128 then 1#1 else 0#1 := by
    split
    · word_cmp
    · word_cmp
  have e2 : Scalar.cmpi .eq n 0#32 = if n = 0#32 then 1#1 else 0#1 := by
    show BitVec.ofBool (n == 0#32) = _
    by_cases h : n = 0#32
    · subst h; rfl
    · rw [if_neg h, beq_false_of_ne h]; rfl
  rw [e1, e2]
  by_cases hp : p.val < 128 <;> by_cases hn : n = 0#32 <;> simp [hp, hn] <;> rfl

/-- The first head's score. -/
theorem score0_at (b : FVec Ideal S128x256 .f32) (n : BitVec 32) (q kp ko : Vec Ideal S1x128x128 .f32) (r : Fin 128) (p : Fin 256) :
    k0_pay5 k0_pay31 k0_pay34 b n (k0_pay1 q) kp ko (ix2 r p) = scoreOf 0 b n q kp ko r p := by
  pointwise [k0_pay5, keys_at, edge_at, lanes_at, k0_pay1]
  have e : ∀ x : Fin 64, (⟨x.val, by omega⟩ : Fin 128) = lane 0 x := fun x => Fin.ext (by simp [lane])
  simp only [e, Finset.sum_const_zero, add_zero]
  rfl

/-- The second head's score. -/
theorem score1_at (b : FVec Ideal S128x256 .f32) (n : BitVec 32) (q kp ko : Vec Ideal S1x128x128 .f32) (r : Fin 128) (p : Fin 256) :
    k0_pay10 k0_pay31 k0_pay34 b n (k0_pay1 q) kp ko (ix2 r p) = scoreOf 1 b n q kp ko r p := by
  pointwise [k0_pay10, keys_at, edge_at, lanes_at, k0_pay1]
  have e : ∀ x : Fin 64, (⟨64 + x.val, by omega⟩ : Fin 128) = lane 1 x := fun x => rfl
  have e0 : ∀ a : EReal, Scalar.select (IntOp.xori 1#1 1#1) a 0 = 0 := fun a => rfl
  have e1 : ∀ a : EReal, Scalar.select (IntOp.xori 0#1 1#1) a 0 = a := fun a => rfl
  simp only [e, e0, e1, Finset.sum_const_zero, zero_add]
  rfl

/-- The score of a column's head. -/
abbrev colScore (b0 b1 : FVec Ideal S128x256 .f32) (n : BitVec 32) (q kp ko : Vec Ideal S1x128x128 .f32) (l r : Fin 128) (p : Fin 256) : EReal :=
  if l.val < 64 then scoreOf 0 b0 n q kp ko r p else scoreOf 1 b1 n q kp ko r p

/-- A choice by a column's head, of what is computed of each head's scores. -/
theorem pick (l : Fin 128) (s0 s1 : Fin 256 → EReal) (f : (Fin 256 → EReal) → EReal) :
    Scalar.select (if l.val < 64 then 1#1 else 0#1) (f s0) (f s1) = f fun p => if l.val < 64 then s0 p else s1 p := by
  by_cases h : l.val < 64
  · simp only [if_pos h]; rfl
  · simp only [if_neg h]; rfl

/-- The greatest score. -/
theorem payM_at (b0 b1 : FVec Ideal S128x256 .f32) (n : BitVec 32) (q kp ko vp vo : Vec Ideal S1x128x128 .f32) (r l : Fin 128) :
    payM b0 b1 n q kp ko vp vo (ix3 0 r l) = Finset.univ.sup (colScore b0 b1 n q kp ko l r) := by
  pointwise [payM, k0_pay41, k0_pay38, k0_pay6, lanes_at, ofBits_neg_inf, score0_at, score1_at]
  exact pick l (scoreOf 0 b0 n q kp ko r) (scoreOf 1 b1 n q kp ko r) fun f => Finset.univ.sup f

/-- The sum of the weights. -/
theorem payD_at (b0 b1 : FVec Ideal S128x256 .f32) (n : BitVec 32) (q kp ko vp vo : Vec Ideal S1x128x128 .f32) (r l : Fin 128) :
    payD b0 b1 n q kp ko vp vo (ix3 0 r l) = den (colScore b0 b1 n q kp ko l r) := by
  pointwise [payD, k0_pay42, k0_pay39, k0_pay38, k0_pay8, k0_pay7, k0_pay6, lanes_at, ofBits_neg_inf, score0_at, score1_at]
  exact pick l (scoreOf 0 b0 n q kp ko r) (scoreOf 1 b1 n q kp ko r) fun f => den f

/-- The weighted sum of the values. -/
theorem payO_at (b0 b1 : FVec Ideal S128x256 .f32) (n : BitVec 32) (q kp ko vp vo : Vec Ideal S1x128x128 .f32) (r l : Fin 128) :
    payO b0 b1 n q kp ko vp vo (ix3 0 r l) = num (colScore b0 b1 n q kp ko l r) (fun p => rowsOf vp vo p l) := by
  pointwise [payO, k0_pay40, k0_pay39, k0_pay38, k0_pay9, k0_pay7, k0_pay6, lanes_at, ofBits_neg_inf, score0_at, score1_at, values_at]
  exact pick l (scoreOf 0 b0 n q kp ko r) (scoreOf 1 b1 n q kp ko r) fun f => num f fun p => rowsOf vp vo p l

/-- The distance from row `p` back to query `r`, in strides, as a word: whether it is at least 0, and at most 128. -/
theorem reach_words : ∀ (r : Fin 128) (p : Fin 256),
    IntOp.cmpi .sge (IntOp.subi (IntOp.addi (BitVec.ofNat 32 r.val) 128#32) (BitVec.ofNat 32 p.val)) 0#32 = (if p.val ≤ r.val + 128 then 1#1 else 0#1)
    ∧ IntOp.cmpi .sle (IntOp.subi (IntOp.addi (BitVec.ofNat 32 r.val) 128#32) (BitVec.ofNat 32 p.val)) 128#32 = (if r.val ≤ p.val then 1#1 else 0#1)
    ∧ (p.val ≤ r.val + 128 → IntOp.subi (IntOp.addi (BitVec.ofNat 32 r.val) 128#32) (BitVec.ofNat 32 p.val) = BitVec.ofNat 32 (r.val + 128 - p.val)) := by
  decide +kernel

/-- A distance times a group's stride, as a word's integer. -/
theorem far_words : ∀ (x : Fin 129) (g : Fin 3), (IntOp.muli (BitVec.ofNat 32 x.val) (BitVec.ofNat 32 (dil g))).toInt = ((x.val * dil g : ℕ) : ℤ) := by
  decide +kernel

/-- A head's place among all, counted from 1, as a word's integer. -/
theorem head_words : ∀ (j : Fin 4) (h : Fin 2),
    (Scalar.addi (Scalar.addi (Scalar.muli (2#32) (BitVec.ofNat 32 j.val)) (BitVec.ofNat 32 h.val)) 1#32).toInt = ((2 * j.val + h.val + 1 : ℕ) : ℤ) := by
  decide +kernel

/-- The word −1. -/
theorem ofBits_neg_one : Ideal.ofBits .f32 0xBF800000#32 = ((-1 : ℝ) : EReal) := by
  simp [Ideal.ofBits, Ideal.ieee, -EReal.coe_mul, -EReal.coe_neg]
  norm_num

/-- A bias. -/
theorem bias_at (g : Fin 3) (h : Fin 2) (i : grid0.Coords) (r : Fin 128) (p : Fin 256) :
    bias (F := Ideal) g (BitVec.ofNat 32 h.val) i (ix2 r p) = if r.val ≤ p.val ∧ p.val ≤ r.val + 128 then
      (0 - Ideal.exp2 (((-1 : ℝ) : EReal) * (((2 * (i 1).val + h.val + 1 : ℕ) : ℝ) : EReal))) * ((((r.val + 128 - p.val) * dil g : ℕ) : ℝ) : EReal) else ⊥ := by
  pointwise [bias, k0_pay52, k0_pay33, k0_pay32, mask_bot]
  obtain ⟨e1, e2, e5⟩ := reach_words r p
  have e3 := head_words ⟨(i 1).val, (i 1).isLt⟩ h
  rw [e1, e2, ofBits_neg_one]
  by_cases h1 : r.val ≤ p.val
  · by_cases h2 : p.val ≤ r.val + 128
    · have e4 := far_words ⟨r.val + 128 - p.val, by omega⟩ g
      simp only [if_pos h1, if_pos h2, if_pos (And.intro h1 h2), e5 h2]
      have es : ∀ a b : EReal, Scalar.select (IntOp.andi 1#1 1#1) a b = a := fun _ _ => rfl
      have ef : ∀ w : BitVec 32, FloatOps.sitofp (F := Ideal) FTy.f32 w = ((w.toInt : ℝ) : EReal) := fun _ => rfl
      rw [es, ef, e3, e4]
      rfl
    · rw [if_neg (show ¬(r.val ≤ p.val ∧ p.val ≤ r.val + 128) from fun c => h2 c.2)]
      simp only [if_pos h1, if_neg h2]
      rfl
  · rw [if_neg (show ¬(r.val ≤ p.val ∧ p.val ≤ r.val + 128) from fun c => h1 c.1)]
    by_cases h2 : p.val ≤ r.val + 128
    · simp only [if_neg h1, if_pos h2]
      rfl
    · simp only [if_neg h1, if_neg h2]
      rfl

/-- The merge mixes the groups row by row and lane by lane. -/
theorem merge_at (O M D : Fin 3 → Vec Ideal S1x2048x128 .f32) (t : Fin 2048) (l : Fin 128) :
    merge O M D (ix2 t l) = mix (fun g => O g (ix3 0 t l)) (fun g => M g (ix3 0 t l)) (fun g => D g (ix3 0 t l)) := by
  pointwise [merge, k0_pay59, k0_pay60, k0_pay61, k0_pay62, k0_pay63]
  rfl

end Cert.DilAttnIdeal.Run

end
-- ==== Proof.DilValue.lean ====
/- The dilated attention kernel's block of the output, as dilated attention of the blocks it reads. -/
module

public import proofs.«01_k».proof.Proof.DilBlock

@[expose] public section

set_option maxRecDepth 16384

noncomputable section

namespace Cert.DilAttnIdeal.Run

open Cert.DilAttnIdeal Cert.DilAttnIdeal.Gen Cert.Dil
open Idealize.ShloMosaic Idealize.ShloMosaic.TcCoe Idealize.SL.Sem

/-- The rows of a trip's block lie in the plane. -/
theorem first_lt (g : Fin 3) (k : Fin 16) (r : ℕ) (h : r < 128) : first g k + dil g * r < 2048 := by
  have := k.isLt
  fin_cases g <;> dsimp [first, dil] <;> omega

/-- So do those of the block before. -/
theorem prior_lt (g : Fin 3) (k : Fin 16) (r : ℕ) (h : r < 128) : prior g k + dil g * r < 2048 := by
  have := k.isLt
  fin_cases g <;> dsimp [prior, dil] <;> omega

/-- The row of the plane that is row `p` of the two blocks trip `k` loads. -/
def rowAt (g : Fin 3) (k : Fin 16) (p : Fin 256) : Fin 2048 :=
  if h : p.val < 128 then ⟨prior g k + dil g * p.val, prior_lt g k _ h⟩ else ⟨first g k + dil g * (p.val - 128), first_lt g k _ (by omega)⟩

/-- A block's row. -/
theorem own_at (x : Vec Ideal S3x2048x128 .f32) (g : Fin 3) (k : Fin 16) (r d : Fin 128) (t : Fin 2048)
    (ht : first g k + dil g * r.val = t.val) : ownOf x g k (ix3 0 r d) = x (ix3 g t d) := by
  refine congrArg x (funext fun a => Fin.ext ?_)
  fin_cases a
  · show g.val + 1 * 0 = g.val; omega
  · exact ht
  · show 0 + 1 * d.val = d.val; omega

/-- A row of the block before. -/
theorem prev_at (x : Vec Ideal S3x2048x128 .f32) (g : Fin 3) (k : Fin 16) (r d : Fin 128) (t : Fin 2048)
    (ht : prior g k + dil g * r.val = t.val) : prevOf x g k (ix3 0 r d) = x (ix3 g t d) := by
  refine congrArg x (funext fun a => Fin.ext ?_)
  fin_cases a
  · show g.val + 1 * 0 = g.val; omega
  · exact ht
  · show 0 + 1 * d.val = d.val; omega

/-- A row of the two blocks. -/
theorem rows_at (x : Vec Ideal S3x2048x128 .f32) (g : Fin 3) (k : Fin 16) (p : Fin 256) (d : Fin 128) :
    rowsOf (prevOf x g k) (ownOf x g k) p d = x (ix3 g (rowAt g k p) d) := by
  unfold rowsOf rowAt
  split
  · exact prev_at x g k _ d _ rfl
  · exact own_at x g k _ d _ rfl

/-- Row `p` of the two blocks counts for query `r` of trip `k`. -/
def Counts (g : Fin 3) (k : Fin 16) (r : Fin 128) (p : Fin 256) : Prop :=
  (r.val ≤ p.val ∧ p.val ≤ r.val + 128) ∧ (128 ≤ p.val ∨ k.val / dil g ≠ 0)

instance (g : Fin 3) (k : Fin 16) (r : Fin 128) (p : Fin 256) : Decidable (Counts g k r p) := inferInstanceAs (Decidable (_ ∧ _))

/-- How far back a row that counts is. -/
theorem counts_back (g : Fin 3) (k : Fin 16) (r : Fin 128) (p : Fin 256) (h : Counts g k r p) :
    first g k + dil g * r.val = (rowAt g k p).val + (r.val + 128 - p.val) * dil g := by
  obtain ⟨⟨h1, h2⟩, h3⟩ := h
  have := k.isLt
  have := r.isLt
  have := p.isLt
  revert h3
  unfold rowAt
  split <;> fin_cases g <;> dsimp [first, prior, dil] <;> omega

/-- A row that counts is in reach. -/
theorem counts_reach (g : Fin 3) (k : Fin 16) (r : Fin 128) (t : Fin 2048) (ht : first g k + dil g * r.val = t.val) (p : Fin 256)
    (h : Counts g k r p) : reach (dil g) t.val (rowAt g k p).val := by
  have e := counts_back g k r p h
  have e' : t.val - (rowAt g k p).val = (r.val + 128 - p.val) * dil g := by omega
  refine ⟨by omega, ?_, ?_⟩
  · rw [e', mul_comm _ (dil g), mul_comm _ (dil g)]
    have := h.1
    exact Nat.mul_le_mul_left _ (by omega)
  · rw [e', Nat.mul_mod_left]

/-- Rows that count are different rows of the plane. -/
theorem counts_inj (g : Fin 3) (k : Fin 16) (r : Fin 128) (p p' : Fin 256) (h : Counts g k r p) (h' : Counts g k r p')
    (e : rowAt g k p = rowAt g k p') : p = p' := by
  have e1 := counts_back g k r p h
  have e2 := counts_back g k r p' h'
  rw [e] at e1
  have := h.1
  have := h'.1
  apply Fin.ext
  revert e1 e2
  fin_cases g <;> dsimp [dil] <;> omega

/-- Every position in reach is a row that counts. -/
theorem counts_surj (g : Fin 3) (k : Fin 16) (r : Fin 128) (t : Fin 2048) (ht : first g k + dil g * r.val = t.val) (t' : Fin 2048)
    (h : reach (dil g) t.val t'.val) : ∃ p, Counts g k r p ∧ rowAt g k p = t' := by
  obtain ⟨h1, h2, h3⟩ := h
  have hk := k.isLt
  have hr := r.isLt
  obtain ⟨x, hx⟩ : ∃ x, t.val = t'.val + x * dil g := ⟨(t.val - t'.val) / dil g, by
    revert h1 h3
    fin_cases g <;> dsimp [dil] <;> omega⟩
  have hx' : x ≤ 128 := by
    revert h2 hx
    fin_cases g <;> dsimp [dil] <;> omega
  have hc : Counts g k r ⟨r.val + 128 - x, by omega⟩ := by
    refine ⟨⟨by dsimp only; omega, by dsimp only; omega⟩, ?_⟩
    dsimp only
    revert ht hx
    fin_cases g <;> dsimp [first, dil] <;> omega
  refine ⟨_, hc, Fin.ext ?_⟩
  have e := counts_back g k r _ hc
  rw [show r.val + 128 - (r.val + 128 - x) = x by omega] at e
  omega

/-- The head of a column, of the two of its block. -/
def headOf (l : Fin 128) : Fin 2 := ⟨l.val / 64, by omega⟩

/-- A column's scores are its head's. -/
theorem colScore_eq (b : Fin 2 → FVec Ideal S128x256 .f32) (n : BitVec 32) (q kp ko : Vec Ideal S1x128x128 .f32) (l r : Fin 128) (p : Fin 256) :
    colScore (b 0) (b 1) n q kp ko l r p = scoreOf (headOf l) (b (headOf l)) n q kp ko r p := by
  by_cases h : l.val < 64
  · rw [show headOf l = 0 from Fin.ext (by show l.val / 64 = 0; omega)]; exact if_pos h
  · rw [show headOf l = 1 from Fin.ext (by show l.val / 64 = 1; omega)]; exact if_neg h

/-- The word of a trip's block index is 0 where the index is. -/
theorem index_word : ∀ (g : Fin 3) (k : Fin 16), BitVec.ofNat 32 (k.val / dil g) = 0#32 ↔ k.val / dil g = 0 := by decide +kernel

/-- The exponential of minus a head's place is its slope. -/
theorem exp2_slope (H : ℕ) : Ideal.exp2 (((-1 : ℝ) : EReal) * (((H + 1 : ℕ) : ℝ) : EReal)) = ((slope H : ℝ) : EReal) := by
  rw [← EReal.coe_mul]
  show ((Real.rpow 2 (-1 * ((H + 1 : ℕ) : ℝ)) : ℝ) : EReal) = _
  show _ = ((Real.rpow 2 (-((H : ℝ) + 1)) : ℝ) : EReal)
  congr 2
  push_cast
  ring

variable (i : grid0.Coords) (x0 x1 x2 : Vec Ideal S3x2048x128 .f32) (g : Fin 3) (k : Fin 16) (r l : Fin 128) (t : Fin 2048)
  (ht : first g k + dil g * r.val = t.val)

/-- The scores the kernel takes of a trip's 256 rows, for one query and one column. -/
def scores (p : Fin 256) : EReal :=
  scoreOf (headOf l) (bias g (BitVec.ofNat 32 (headOf l).val) i) (BitVec.ofNat 32 (k.val / dil g)) (ownOf x0 g k) (prevOf x1 g k) (ownOf x1 g k) r p

/-- The scores of all positions of the plane. -/
def planeScores : Fin 2048 → EReal :=
  score (2 * (i 1).val + (headOf l).val) (dil g) (fun e => x0 (ix3 g t (lane (headOf l) e))) (fun t' e => x1 (ix3 g t' (lane (headOf l) e))) t

/-- Rows that do not count have score `⊥`. -/
theorem scores_out (p : Fin 256) (h : ¬Counts g k r p) : scores i x0 x1 g k r l p = ⊥ := by
  rw [scores, scoreOf, bias_at]
  by_cases h1 : r.val ≤ p.val ∧ p.val ≤ r.val + 128
  · have h2 : p.val < 128 ∧ BitVec.ofNat 32 (k.val / dil g) = 0#32 := by
      rw [index_word]
      by_contra c
      exact h ⟨h1, by omega⟩
    rw [if_pos h2, EReal.add_bot]
  · rw [if_neg h1, EReal.add_bot, EReal.bot_add]

include ht

/-- Rows that count have the scores of their positions. -/
theorem scores_in (p : Fin 256) (h : Counts g k r p) : scores i x0 x1 g k r l p = planeScores i x0 x1 g l t (rowAt g k p) := by
  have e := counts_back g k r p h
  have e' : t.val - (rowAt g k p).val = (r.val + 128 - p.val) * dil g := by omega
  rw [scores, scoreOf, bias_at, if_pos h.1, exp2_slope, planeScores, score, if_pos (counts_reach g k r t ht p h), e',
    if_neg (by rw [index_word]; have := h.2; omega), add_zero]
  simp only [rows_at, own_at x0 g k r _ t ht]
  have e0 : ∀ a b : ℝ, (0 - (a : EReal)) * (b : EReal) = -((a * b : ℝ) : EReal) := fun a b => by
    rw [zero_sub, ← EReal.coe_neg, ← EReal.coe_mul, neg_mul, EReal.coe_neg]
  rw [e0, sub_eq_add_neg]

/-- Positions out of reach have score `⊥`. -/
theorem planeScores_out (t' : Fin 2048) (h : ¬reach (dil g) t.val t'.val) : planeScores i x0 x1 g l t t' = ⊥ := if_neg h

/-- The greatest score of a query and column. -/
theorem trip_top : outOf payM i x0 x1 x2 g k (ix3 0 r l) = Finset.univ.sup (planeScores i x0 x1 g l t) := by
  rw [outOf, payM_at, show colScore (bias g 0#32 i) (bias g 1#32 i) (BitVec.ofNat 32 (k.val / dil g)) (ownOf x0 g k) (prevOf x1 g k) (ownOf x1 g k) l r
    = scores i x0 x1 g k r l from funext fun p => colScore_eq (fun h => bias g (BitVec.ofNat 32 h.val) i) _ _ _ _ l r p]
  exact sup_listing (Counts g k r) (fun t' => reach (dil g) t.val t'.val) (rowAt g k) (counts_reach g k r t ht) (counts_inj g k r)
    (counts_surj g k r t ht) _ _ (scores_out i x0 x1 g k r l) (planeScores_out i x0 x1 g k r l t ht) (scores_in i x0 x1 g k r l t ht)

/-- The sum of the weights. -/
theorem trip_den : outOf payD i x0 x1 x2 g k (ix3 0 r l) = den (planeScores i x0 x1 g l t) := by
  rw [outOf, payD_at, show colScore (bias g 0#32 i) (bias g 1#32 i) (BitVec.ofNat 32 (k.val / dil g)) (ownOf x0 g k) (prevOf x1 g k) (ownOf x1 g k) l r
    = scores i x0 x1 g k r l from funext fun p => colScore_eq (fun h => bias g (BitVec.ofNat 32 h.val) i) _ _ _ _ l r p]
  exact den_listing (Counts g k r) (fun t' => reach (dil g) t.val t'.val) (rowAt g k) (counts_reach g k r t ht) (counts_inj g k r)
    (counts_surj g k r t ht) _ _ (scores_out i x0 x1 g k r l) (planeScores_out i x0 x1 g k r l t ht) (scores_in i x0 x1 g k r l t ht)

/-- The weighted sum of the values. -/
theorem trip_num : outOf payO i x0 x1 x2 g k (ix3 0 r l) = num (planeScores i x0 x1 g l t) (fun t' => x2 (ix3 g t' l)) := by
  rw [outOf, payO_at, show colScore (bias g 0#32 i) (bias g 1#32 i) (BitVec.ofNat 32 (k.val / dil g)) (ownOf x0 g k) (prevOf x1 g k) (ownOf x1 g k) l r
    = scores i x0 x1 g k r l from funext fun p => colScore_eq (fun h => bias g (BitVec.ofNat 32 h.val) i) _ _ _ _ l r p]
  exact num_listing (Counts g k r) (fun t' => reach (dil g) t.val t'.val) (rowAt g k) (counts_reach g k r t ht) (counts_inj g k r)
    (counts_surj g k r t ht) _ _ (scores_out i x0 x1 g k r l) (planeScores_out i x0 x1 g k r l t ht) (scores_in i x0 x1 g k r l t ht)
    _ _ fun p _ => rows_at x2 g k p l

omit ht

/-- The kernel's block of the output is the dilated attention of its blocks. -/
theorem outVal_at : outVal i x0 x1 x2 (ix2 t l) = attend (2 * (i 1).val + (headOf l).val) dil
    (fun g e => x0 (ix3 g t (lane (headOf l) e))) (fun g t' e => x1 (ix3 g t' (lane (headOf l) e))) (fun g t' => x2 (ix3 g t' l)) t := by
  rw [outVal, merge_at, attend]
  refine congr (congr (congrArg mix (funext fun g => ?_)) (funext fun g => ?_)) (funext fun g => ?_)
  · exact trip_num i x0 x1 x2 g _ _ l t (first_add g t)
  · exact trip_top i x0 x1 x2 g _ _ l t (first_add g t)
  · exact trip_den i x0 x1 x2 g _ _ l t (first_add g t)

end Cert.DilAttnIdeal.Run

end
-- ==== Proof.DilFrame.lean ====
/- The run of the dilated attention call of the idealized kernel: its arguments end unchanged, no semaphore is left
   counted, and its result is what the grid's points write back. -/
module

public import proofs.«01_k».proof.Proof.DilOut
public import Idealize.ShloMosaic.Lib.Claim

@[expose] public section

set_option maxRecDepth 16384

noncomputable section

namespace Cert.DilAttnIdeal.Run

open Cert.DilAttnIdeal Cert.DilAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A core's buffers when the call begins: as launched. -/
abbrev V (c : Dev nD) (b : Ref sig .tc) : Buf (Elt F) ((c : Thread nD τ).loc b) := m ((c : Thread nD τ).loc b)

set_option maxHeartbeats 800000 in
/-- The program is the call alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The block of window `w` at point `t`, as the call finds the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What point `t` leaves in the output's block. -/
def outsAt (c : Dev nD) (t : Fin cfg0.N) : Vec F S2048x128 .bf16 :=
  outVal (grid0.coords t) (iblk m c 0 t) (iblk m c 1 t) (iblk m c 2 t)

/-- The proof data of the call: the arrays as found, each input's buffer left at its block, the output's at the point's
    value; the key and value windows share one array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t
  Φ _ := Pipeline.ΦA spec0 c
  q w := Pipeline.shareOf spec0 w
  owed _ := 0

/-- The arrays are as found. -/
theorem A_eq (c : Dev nD) (w : Fin cfg0.W) : (dats m 0 c).A w = V m c (Pipeline.arrRef spec0 w) := by
  dsimp only [dats]

/-- Each input's buffer is left at its block. -/
theorem after0 (c : Dev nD) (t : Fin cfg0.N) : (dats m 0 c).after 0 t = iblk m c 0 t := by dsimp only [dats]
/-- The same of the keys. -/
theorem after1 (c : Dev nD) (t : Fin cfg0.N) : (dats m 0 c).after 1 t = iblk m c 1 t := by dsimp only [dats]
/-- The same of the values. -/
theorem after2 (c : Dev nD) (t : Fin cfg0.N) : (dats m 0 c).after 2 t = iblk m c 2 t := by dsimp only [dats]
/-- The output's buffer is left at the point's value. -/
theorem after3 (c : Dev nD) (t : Fin cfg0.N) : (dats m 0 c).after 3 t = outsAt m c t := by dsimp only [dats]

/-- Each input's buffer holds its block before every point. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]) t d).trans
    (by unfold Dat.fetched Dat.blockOf iblk; rw [A_eq]; try rfl)
/-- The same of the keys. -/
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]) t d).trans
    (by unfold Dat.fetched Dat.blockOf iblk; rw [A_eq]; try rfl)
/-- The same of the values. -/
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]) t d).trans
    (by unfold Dat.fetched Dat.blockOf iblk; rw [A_eq]; try rfl)

/-- The memref of window `w`'s buffer at point `t`. -/
abbrev ms (w : Fin cfg0.W) (t : Fin cfg0.N) := (cfg0.win w).stage (cfg0.slots t w)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms 0 t) fullShare ((dats m 0 c).before 0 t d))
    ∗ (∃ d, owns (c : Thread nD τ) (ms 1 t) fullShare ((dats m 0 c).before 1 t d))
    ∗ (∃ d, owns (c : Thread nD τ) (ms 2 t) fullShare ((dats m 0 c).before 2 t d))
    ∗ (∃ d, owns (c : Thread nD τ) (ms 3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ owns (c : Thread nD τ) (ms 0 t) fullShare ((dats m 0 c).after 0 t)
    ∗ owns (c : Thread nD τ) (ms 1 t) fullShare ((dats m 0 c).after 1 t)
    ∗ owns (c : Thread nD τ) (ms 2 t) fullShare ((dats m 0 c).after 2 t)
    ∗ owns (c : Thread nD τ) (ms 3 t) fullShare ((dats m 0 c).after 3 t))

/-- A buffer after the one piece reads as it. -/
theorem piece_read (a : Memref sig .tc .vmem S2048x128 .bf16) (f : BufTy.Contents (Elt F) a.view.ty) (w : Vec F S2048x128 .bf16) :
    a.view.read (Elt F) (a.view.writes (Elt F) f [⟨Rect.unit ![0, 0] ![2048, 128] inb_S2048x128_S2048x128_0_0, w⟩]) = w := by
  funext y
  have e : (Rect.unit (s := S2048x128) ![0, 0] ![2048, 128] inb_S2048x128_S2048x128_0_0).emb y = y := by
    funext b; apply Fin.ext
    fin_cases b
    · show 0 + 1 * (y 0).val = (y 0).val; omega
    · show 0 + 1 * (y 1).val = (y 1).val; omega
  conv_lhs => rw [← e]
  exact View.read_writes_of_unique a.view f ⟨Rect.unit ![0, 0] ![2048, 128] inb_S2048x128_S2048x128_0_0, w⟩ y _
    (List.mem_singleton.mpr rfl) fun q hq _ => List.mem_singleton.mp hq

set_option maxHeartbeats 4000000 in
/-- The body at any point, its scratch buffers from whatever they hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl,
    after0, after1, after2, after3,
    show (dats m 0 c).Φ t.succ = Pipeline.ΦA spec0 c from rfl, show (dats m 0 c).Φ t.castSucc = Pipeline.ΦA spec0 c from rfl]
  unfold Pipeline.ΦA outsAt
  rw [scopedRest0_eq]
  iintro ⟨⟨⟨⟨%g6, S6⟩, ⟨%g7, S7⟩, ⟨%g8, S8⟩⟩, Hr⟩, Ho, ⟨%d0, H0⟩, ⟨%d1, H1⟩, ⟨%d2, H2⟩, ⟨%d3, H3⟩⟩
  iapply ((bodyRun c (grid0.coords t) _ _ _ _ _ _ _ _ (Memref.whole cc0_scratch0) (Memref.isWhole_whole _) (Memref.whole cc0_scratch1) (Memref.isWhole_whole _)
    (Memref.whole cc0_scratch2) (Memref.isWhole_whole _) (iblk m c 0 t) (iblk m c 1 t) (iblk m c 2 t) g6 g7 g8).2 Set.univ _)
  rw [bodyRun_pieces]
  simp only [Memref.view_whole, View.set_whole]
  isplitl [H0]; · iexact H0
  isplitl [H1]; · iexact H1
  isplitl [H2]; · iexact H2
  isplitl [H3]; · iexists _; iexact H3
  isplitl [S6]; · iexact S6
  isplitl [S7]; · iexact S7
  isplitl [S8]; · iexact S8
  iintro ⟨H0, H1, H2, ⟨%e3, H3⟩, ⟨%e6, S6⟩, ⟨%e7, S7⟩, ⟨%e8, S8⟩⟩
  isplitl [Hr S6 S7 S8]
  · isplitl [S6 S7 S8]
    · isplitl [S6]; · iexists _; iexact S6
      isplitl [S7]; · iexists _; iexact S7
      iexists _; iexact S8
    iexact Hr
  isplitl [Ho]; · iexact Ho
  isplitl [H0]; · iexact H0
  isplitl [H1]; · iexact H1
  isplitl [H2]; · iexact H2
  unfold owns; iexists _; isplitr
  swap; · iexact H3
  ipureintro; exact piece_read _ _ _

/-- The body table's row at the point's buffers is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: the arrays at what the points write back, every other buffer as found, every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- An input's array ends as launched. -/
theorem kept (r : PUnit × MemSt nD τ sig (Elt F)) (h : Pipeline.FramePost cfgs (dats m) 0 (V m) r) (c : Dev nD) :
    r.2.mem ((c : Thread nD τ).loc main_arg0) = m ((c : Thread nD τ).loc main_arg0)
      ∧ r.2.mem ((c : Thread nD τ).loc main_arg1) = m ((c : Thread nD τ).loc main_arg1) :=
  ⟨((h c).1 0).trans (((dats m 0 c).arrAt_in 0 rfl _).trans (A_eq m c 0)),
    ((h c).1 1).trans (((dats m 0 c).arrAt_in 1 rfl _).trans (A_eq m c 1))⟩

/-- The run terminates, leaves the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨kept m r h.1, h.2⟩) (run_quiescent m ρ)

/-- The run with the result named: what the points have written back after the last. -/
theorem run_blocks : θ_run defs (onTc (τ := τ) (main (F := F))) ⟨m, fun _ => 0, ρ⟩ fun r => ∀ c : Dev nD,
      r.2.mem ((c : Thread nD τ).loc main_v0) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h.1 c).1 3, kept m r h.1 c⟩) (run_quiescent m ρ)

end Cert.DilAttnIdeal.Run

end
-- ==== Proof.DilAttnRef.lean ====
/- The reference dilated attention, read at an index: it is the dilated attention of its arguments' rows. -/
module

public import proofs.«01_k».proof.Proof.Gen.DilAttnRefIdeal.Run
public import proofs.«01_k».proof.Proof.AttnRef
public import proofs.«01_k».proof.Proof.DilSpec

@[expose] public section

set_option maxRecDepth 16384

noncomputable section

namespace Cert.DilAttnRef

open Cert.DilAttnRefIdeal Cert.DilAttnRefIdeal.Gen Cert.Dil
open Idealize.ShloMosaic Idealize.ShloMosaic.TcCoe Idealize.SL.Sem

/-- The queries of each group, by batch, position and head. -/
def queries (q : FVec Ideal S3x16384x512 .f32) : Fin 3 → FVec Ideal S8x2048x8x64 .f32 :=
  let x := shapeCast S3x8x2048x8x64 q shapeCasts_S3x16384x512_S3x8x2048x8x64
  ![shapeCast _ (extractStridedSlice S1x8x2048x8x64 ![0, 0, 0, 0, 0] x slices_S3x8x2048x8x64_S1x8x2048x8x64_0_0_0_0_0) shapeCasts_S1x8x2048x8x64_S8x2048x8x64,
    shapeCast _ (extractStridedSlice S1x8x2048x8x64 ![1, 0, 0, 0, 0] x slices_S3x8x2048x8x64_S1x8x2048x8x64_1_0_0_0_0) shapeCasts_S1x8x2048x8x64_S8x2048x8x64,
    shapeCast _ (extractStridedSlice S1x8x2048x8x64 ![2, 0, 0, 0, 0] x slices_S3x8x2048x8x64_S1x8x2048x8x64_2_0_0_0_0) shapeCasts_S1x8x2048x8x64_S8x2048x8x64]

/-- The keys of each group. -/
def keys (kv : FVec Ideal S3x16384x1024 .f32) : Fin 3 → FVec Ideal S8x2048x8x64 .f32 :=
  let x := shapeCast S3x8x2048x2x8x64 kv shapeCasts_S3x16384x1024_S3x8x2048x2x8x64
  ![shapeCast _ (extractStridedSlice S1x8x2048x1x8x64 ![0, 0, 0, 0, 0, 0] x slices_S3x8x2048x2x8x64_S1x8x2048x1x8x64_0_0_0_0_0_0) shapeCasts_S1x8x2048x1x8x64_S8x2048x8x64,
    shapeCast _ (extractStridedSlice S1x8x2048x1x8x64 ![1, 0, 0, 0, 0, 0] x slices_S3x8x2048x2x8x64_S1x8x2048x1x8x64_1_0_0_0_0_0) shapeCasts_S1x8x2048x1x8x64_S8x2048x8x64,
    shapeCast _ (extractStridedSlice S1x8x2048x1x8x64 ![2, 0, 0, 0, 0, 0] x slices_S3x8x2048x2x8x64_S1x8x2048x1x8x64_2_0_0_0_0_0) shapeCasts_S1x8x2048x1x8x64_S8x2048x8x64]

/-- The values of each group. -/
def values (kv : FVec Ideal S3x16384x1024 .f32) : Fin 3 → FVec Ideal S8x2048x8x64 .f32 :=
  let x := shapeCast S3x8x2048x2x8x64 kv shapeCasts_S3x16384x1024_S3x8x2048x2x8x64
  ![shapeCast _ (extractStridedSlice S1x8x2048x1x8x64 ![0, 0, 0, 1, 0, 0] x slices_S3x8x2048x2x8x64_S1x8x2048x1x8x64_0_0_0_1_0_0) shapeCasts_S1x8x2048x1x8x64_S8x2048x8x64,
    shapeCast _ (extractStridedSlice S1x8x2048x1x8x64 ![1, 0, 0, 1, 0, 0] x slices_S3x8x2048x2x8x64_S1x8x2048x1x8x64_1_0_0_1_0_0) shapeCasts_S1x8x2048x1x8x64_S8x2048x8x64,
    shapeCast _ (extractStridedSlice S1x8x2048x1x8x64 ![2, 0, 0, 1, 0, 0] x slices_S3x8x2048x2x8x64_S1x8x2048x1x8x64_2_0_0_1_0_0) shapeCasts_S1x8x2048x1x8x64_S8x2048x8x64]

/-- The distances between positions. -/
def dist : IVec S2048x2048 32 :=
  subi (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0)))

/-- A divisor: the word itself, 1 for 0. -/
def divisor (w : BitVec 32) : IVec S_ 32 :=
  select (cmpi .eq (id (constantI S_ 32 w)) (constantI S_ 32 0#32)) (constantI S_ 32 1#32) (id (constantI S_ 32 w))

/-- The remainders of the distances. -/
def remainder (w : BitVec 32) : IVec S2048x2048 32 := Host.remsi dist (broadcastInDim S2048x2048 ![] bcast_S_S2048x2048 (divisor w))

/-- Where a position is read: at most `win` back, a multiple of `w` back. -/
def read (win w : BitVec 32) : IVec S2048x2048 1 :=
  andi (andi (cmpi .sge dist (broadcastInDim S2048x2048 ![] bcast_S_S2048x2048 (constantI S_ 32 0#32)))
      (cmpi .sle dist (broadcastInDim S2048x2048 ![] bcast_S_S2048x2048 (constantI S_ 32 win))))
    (cmpi .eq (select (andi (cmpi .ne (cmpi .slt (remainder w) (broadcastInDim S2048x2048 ![] bcast_S_S2048x2048 (constantI S_ 32 0#32)))
          (broadcastInDim S2048x2048 ![] bcast_S_S2048x2048 (cmpi .slt (divisor w) (constantI S_ 32 0#32))))
        (cmpi .ne (remainder w) (broadcastInDim S2048x2048 ![] bcast_S_S2048x2048 (constantI S_ 32 0#32))))
      (addi (remainder w) (broadcastInDim S2048x2048 ![] bcast_S_S2048x2048 (divisor w))) (remainder w))
      (broadcastInDim S2048x2048 ![] bcast_S_S2048x2048 (constantI S_ 32 0#32)))

/-- The slopes of the heads. -/
def slopes : FVec Ideal S8 .f32 :=
  Host.powf (broadcastInDim S8 ![] bcast_S_S8 (constant S_ .f32 0x40000000#32)) (Host.divf (mulf (broadcastInDim S8 ![] bcast_S_S8 (constant S_ .f32 0xC1000000#32))
    (addf (broadcastInDim S8 ![] bcast_S_S8 (constant S_ .f32 0x3F800000#32)) (sitofp .f32 (iotaInDim S8 32 0)))) (broadcastInDim S8 ![] bcast_S_S8 (constant S_ .f32 0x41000000#32)))

/-- The scores of a group. -/
def scores (win w : BitVec 32) (q k : FVec Ideal S8x2048x8x64 .f32) : FVec Ideal S8x8x2048x2048 .f32 :=
  select (broadcastInDim S8x8x2048x2048 ![2, 3] bcast_S2048x2048_S8x8x2048x2048_2_3 (read win w))
    (subf (Host.dotGeneral dot_S8x2048x8x64_S8x2048x8x64_S8x8x2048x2048_3_3_1_1_02_02 none q k)
      (broadcastInDim S8x8x2048x2048 ![0, 1, 2, 3] bcast_S1x8x2048x2048_S8x8x2048x2048_0_1_2_3 (broadcastInDim S1x8x2048x2048 ![1, 2, 3] bcast_S8x2048x2048_S1x8x2048x2048_1_2_3
        (mulf (broadcastInDim S8x2048x2048 ![0, 1, 2] bcast_S8x1x1_S8x2048x2048_0_1_2 (broadcastInDim S8x1x1 ![0] bcast_S8_S8x1x1_0 slopes))
          (broadcastInDim S8x2048x2048 ![0, 1, 2] bcast_S1x2048x2048_S8x2048x2048_0_1_2 (broadcastInDim S1x2048x2048 ![1, 2] bcast_S2048x2048_S1x2048x2048_1_2 (sitofp .f32 dist)))))))
    (broadcastInDim S8x8x2048x2048 ![] bcast_S_S8x8x2048x2048 (id (constant S_ .f32 0xFF800000#32)))

/-- The greatest scores, by batch, head and position. -/
def greatest (s : FVec Ideal S8x8x2048x2048 .f32) : FVec Ideal S8x8x2048 .f32 :=
  Host.reduce FloatOps.maximumf s (constant S_ .f32 0xFF800000#32) reducesTo_S8x8x2048x2048_S8x8x2048_d3 h_S_

/-- The weights. -/
def weights (s : FVec Ideal S8x8x2048x2048 .f32) : FVec Ideal S8x8x2048x2048 .f32 :=
  Host.exp (subf s (broadcastInDim S8x8x2048x2048 ![0, 1, 2, 3] bcast_S8x8x2048x1_S8x8x2048x2048_0_1_2_3 (broadcastInDim S8x8x2048x1 ![0, 1, 2] bcast_S8x8x2048_S8x8x2048x1_0_1_2 (greatest s))))

/-- The greatest scores, by batch, position and head. -/
def tops (s : FVec Ideal S8x8x2048x2048 .f32) : FVec Ideal S8x2048x8 .f32 :=
  transpose S8x2048x8 [0, 2, 1] (greatest s) transposes_S8x8x2048_S8x2048x8_0_2_1

/-- The sums of the weights. -/
def dens (s : FVec Ideal S8x8x2048x2048 .f32) : FVec Ideal S8x2048x8 .f32 :=
  transpose S8x2048x8 [0, 2, 1] (Host.reduceAdd (weights s) (constant S_ .f32 0x00000000#32) reducesTo_S8x8x2048x2048_S8x8x2048_d3 h_S_) transposes_S8x8x2048_S8x2048x8_0_2_1

/-- The weighted sums of the values. -/
def nums (s : FVec Ideal S8x8x2048x2048 .f32) (v : FVec Ideal S8x2048x8x64 .f32) : FVec Ideal S8x2048x8x64 .f32 :=
  transpose S8x2048x8x64 [0, 3, 1, 2] (Host.dotGeneral dot_S8x2048x8x64_S8x8x2048x2048_S8x8x64x2048_1_3_3_2_02_01 none v (weights s)) transposes_S8x8x64x2048_S8x2048x8x64_0_3_1_2

/-- The groups merged. -/
def merged (o : Fin 3 → FVec Ideal S8x2048x8x64 .f32) (m d : Fin 3 → FVec Ideal S8x2048x8 .f32) : FVec Ideal S8x2048x8x64 .f32 :=
  let top := maximumf (maximumf (m 0) (m 1)) (m 2)
  let wide := fun x : FVec Ideal S8x2048x8 .f32 => broadcastInDim S8x2048x8x64 ![0, 1, 2, 3] bcast_S8x2048x8x1_S8x2048x8x64_0_1_2_3 (broadcastInDim S8x2048x8x1 ![0, 1, 2] bcast_S8x2048x8_S8x2048x8x1_0_1_2 x)
  Host.divf
    (addf (addf (addf (broadcastInDim S8x2048x8x64 ![] bcast_S_S8x2048x8x64 (constant S_ .f32 0x00000000#32)) (mulf (o 0) (wide (Host.exp (subf (m 0) top)))))
      (mulf (o 1) (wide (Host.exp (subf (m 1) top))))) (mulf (o 2) (wide (Host.exp (subf (m 2) top)))))
    (wide (addf (addf (addf (broadcastInDim S8x2048x8 ![] bcast_S_S8x2048x8 (constant S_ .f32 0x00000000#32)) (mulf (d 0) (Host.exp (subf (m 0) top))))
      (mulf (d 1) (Host.exp (subf (m 1) top)))) (mulf (d 2) (Host.exp (subf (m 2) top)))))

/-- How far each group reaches, and its strides, as words. -/
def reaches : Fin 3 → BitVec 32 × BitVec 32 := ![(128#32, 1#32), (512#32, 4#32), (2048#32, 16#32)]

/-- A group's scores. -/
def groupScores (q : FVec Ideal S3x16384x512 .f32) (kv : FVec Ideal S3x16384x1024 .f32) (g : Fin 3) : FVec Ideal S8x8x2048x2048 .f32 :=
  scores (reaches g).1 (reaches g).2 (queries q g) (keys kv g)

/-- The reference's result. -/
def result (q : FVec Ideal S3x16384x512 .f32) (kv : FVec Ideal S3x16384x1024 .f32) : FVec Ideal S16384x512 .bf16 :=
  truncf .bf16 (shapeCast S16384x512 (merged (fun g => nums (groupScores q kv g) (values kv g)) (fun g => tops (groupScores q kv g))
    (fun g => dens (groupScores q kv g))) shapeCasts_S8x2048x8x64_S16384x512) bitsLt_bf16_f32

/-- The reference's run ends with this result. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v175) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Value.run (F := Ideal) m ρ)

/-- A query. -/
theorem queries_at (q : FVec Ideal S3x16384x512 .f32) (g : Fin 3) (b : Fin 8) (t : Fin 2048) (h : Fin 8) (e : Fin 64) :
    queries q g (ix4 b t h e) = q (ix3 g ⟨b.val * 2048 + t.val, by omega⟩ ⟨h.val * 64 + e.val, by omega⟩) := by
  fin_cases g
  · pointwise [queries]
  · pointwise [queries]
  · pointwise [queries]

/-- A key. -/
theorem keys_at (kv : FVec Ideal S3x16384x1024 .f32) (g : Fin 3) (b : Fin 8) (t : Fin 2048) (h : Fin 8) (e : Fin 64) :
    keys kv g (ix4 b t h e) = kv (ix3 g ⟨b.val * 2048 + t.val, by omega⟩ ⟨h.val * 64 + e.val, by omega⟩) := by
  fin_cases g
  · pointwise [keys]
  · pointwise [keys]
  · pointwise [keys]

/-- A value. -/
theorem values_at (kv : FVec Ideal S3x16384x1024 .f32) (g : Fin 3) (b : Fin 8) (t : Fin 2048) (h : Fin 8) (e : Fin 64) :
    values kv g (ix4 b t h e) = kv (ix3 g ⟨b.val * 2048 + t.val, by omega⟩ ⟨512 + h.val * 64 + e.val, by omega⟩) := by
  fin_cases g
  · pointwise [values]
  · pointwise [values]
  · pointwise [values]

/-- The distance of two positions. -/
theorem dist_at (t t' : Fin 2048) : dist (ix2 t t') = IntOp.subi (BitVec.ofNat 32 t.val) (BitVec.ofNat 32 t'.val) := by
  pointwise [dist]

/-- Whether a position is read, by its distance's word. -/
def readWord (win w x : BitVec 32) : BitVec 1 :=
  let y := Scalar.select (IntOp.cmpi .eq w 0#32) 1#32 w
  let z := IntOp.remsi .host x y
  IntOp.andi (IntOp.andi (IntOp.cmpi .sge x 0#32) (IntOp.cmpi .sle x win))
    (IntOp.cmpi .eq (Scalar.select (IntOp.andi (IntOp.cmpi .ne (IntOp.cmpi .slt z 0#32) (IntOp.cmpi .slt y 0#32)) (IntOp.cmpi .ne z 0#32))
      (IntOp.addi z y) z) 0#32)

/-- Where a position is read, from its distance. -/
theorem read_dist (win w : BitVec 32) (t t' : Fin 2048) : read win w (ix2 t t') = readWord win w (IntOp.subi (BitVec.ofNat 32 t.val) (BitVec.ofNat 32 t'.val)) := by
  pointwise [read, remainder, divisor, dist_at]
  rfl

/-- The strides of the groups. -/
def strides : Fin 3 → ℕ := ![1, 4, 16]

/-- The words of distances that are not negative. -/
theorem word_back : ∀ (g : Fin 3) (x : Fin 2048), readWord (reaches g).1 (reaches g).2 (BitVec.ofNat 32 x.val)
    = if x.val ≤ 128 * strides g ∧ x.val % strides g = 0 then 1#1 else 0#1 := by decide +kernel

/-- The words of negative distances. -/
theorem word_ahead : ∀ (g : Fin 3) (x : Fin 2048), x.val ≠ 0 → readWord (reaches g).1 (reaches g).2 (-BitVec.ofNat 32 x.val) = 0#1 := by
  decide +kernel

/-- The distance of a position that is not ahead. -/
theorem sub_back (t t' : Fin 2048) (h : t'.val ≤ t.val) : IntOp.subi (BitVec.ofNat 32 t.val) (BitVec.ofNat 32 t'.val) = BitVec.ofNat 32 (t.val - t'.val) := by
  unfold IntOp.subi
  bv_omega

/-- The distance of a position ahead. -/
theorem sub_ahead (t t' : Fin 2048) (h : t.val < t'.val) : IntOp.subi (BitVec.ofNat 32 t.val) (BitVec.ofNat 32 t'.val) = -BitVec.ofNat 32 (t'.val - t.val) := by
  unfold IntOp.subi
  bv_omega

/-- A group's queries read the positions in reach. -/
theorem read_at (g : Fin 3) (t t' : Fin 2048) : read (reaches g).1 (reaches g).2 (ix2 t t') = if reach (strides g) t.val t'.val then 1#1 else 0#1 := by
  rw [read_dist]
  by_cases h : t'.val ≤ t.val
  · rw [sub_back t t' h]
    refine (word_back g ⟨t.val - t'.val, by omega⟩).trans (if_congr ?_ rfl rfl)
    exact ⟨fun c => ⟨h, c⟩, fun c => c.2⟩
  · rw [sub_ahead t t' (by omega), if_neg fun c => h c.1]
    exact word_ahead g ⟨t'.val - t.val, by omega⟩ (by dsimp only; omega)

/-- The distance in reach, as a number. -/
theorem dist_real (t t' : Fin 2048) (h : t'.val ≤ t.val) :
    (FloatOps.sitofp (F := Ideal) .f32 (IntOp.subi (BitVec.ofNat 32 t.val) (BitVec.ofNat 32 t'.val))) = (((t.val - t'.val : ℕ) : ℝ) : EReal) := by
  rw [sub_back t t' h]
  show (((BitVec.ofNat 32 (t.val - t'.val)).toInt : ℝ) : EReal) = _
  have e : (BitVec.ofNat 32 (t.val - t'.val)).toInt = ((t.val - t'.val : ℕ) : ℤ) := by
    rw [BitVec.toInt_eq_toNat_of_lt (by simp; omega)]
    simp
    omega
  rw [e]
  norm_cast

/-- The word 2. -/
theorem ofBits_two : Ideal.ofBits .f32 0x40000000#32 = ((2 : ℝ) : EReal) := by
  simp [Ideal.ofBits, Ideal.ieee, -EReal.coe_mul]; norm_num

/-- The word −8. -/
theorem ofBits_neg_eight : Ideal.ofBits .f32 0xC1000000#32 = ((-8 : ℝ) : EReal) := by
  simp [Ideal.ofBits, Ideal.ieee, -EReal.coe_mul, -EReal.coe_neg]; norm_num

/-- The word 8. -/
theorem ofBits_eight : Ideal.ofBits .f32 0x41000000#32 = ((8 : ℝ) : EReal) := by
  simp [Ideal.ofBits, Ideal.ieee, -EReal.coe_mul]; norm_num

/-- A head's number, as a real. -/
theorem head_real : ∀ h : Fin 8, (BitVec.ofNat 32 h.val).toInt = (h.val : ℤ) := by decide +kernel

/-- A slope. -/
theorem slopes_at (h : Fin 8) : slopes (ix1 h) = ((slope h.val : ℝ) : EReal) := by
  pointwise [slopes, ofBits_two, ofBits_neg_eight, ofBits_eight]
  have e : FloatOps.sitofp (F := Ideal) FTy.f32 (BitVec.ofNat 32 h.val) = ((h.val : ℝ) : EReal) := by
    show (((BitVec.ofNat 32 h.val).toInt : ℝ) : EReal) = _
    rw [head_real]
    norm_cast
  rw [e, ← EReal.coe_one, ← EReal.coe_add, ← EReal.coe_mul, Ideal.div_coe (by norm_num), ← EReal.coe_mul, Ideal.pow_coe_coe]
  show _ = ((Real.rpow 2 (-((h.val : ℝ) + 1)) : ℝ) : EReal)
  congr 2
  ring

/-- A score of a group. -/
theorem scores_at (g : Fin 3) (q k : FVec Ideal S8x2048x8x64 .f32) (b h : Fin 8) (t t' : Fin 2048) :
    scores (reaches g).1 (reaches g).2 q k (ix4 b h t t')
      = score h.val (strides g) (fun e => q (ix4 b t h e)) (fun t' e => k (ix4 b t' h e)) t t' := by
  pointwise [scores, read_at, slopes_at, dist_at]
  unfold score
  by_cases hr : reach (strides g) t.val t'.val
  · rw [if_pos hr, if_pos hr, dist_real t t' hr.1, ← EReal.coe_mul]
    rfl
  · rw [if_neg hr, if_neg hr]
    exact AttnRef.ofBits_neg_inf

/-- A greatest score. -/
theorem greatest_at (s : FVec Ideal S8x8x2048x2048 .f32) (b h : Fin 8) (t : Fin 2048) :
    greatest s (ix3 b h t) = Finset.univ.sup fun t' : Fin 2048 => s (ix4 b h t t') := by
  have hr : Shape.Reduces S8x8x2048x2048 [3] S8x8x2048 := by decide
  have e := AttnRef.reduce_max s (constant (F := Ideal) S_ .f32 0xFF800000#32) reducesTo_S8x8x2048x2048_S8x8x2048_d3 hr h_S_ AttnRef.ofBits_neg_inf (ix3 b h t)
  have hl : ∀ κ : Fin 2048, hr.lift (ix3 b h t) κ = ix4 b h t κ := fun κ => by funext a; fin_cases a <;> rfl
  rw [greatest, e]
  exact congrArg (Finset.univ.sup) (funext fun κ => congrArg s (hl κ))

/-- The same, by batch, position and head. -/
theorem tops_at (s : FVec Ideal S8x8x2048x2048 .f32) (b : Fin 8) (t : Fin 2048) (h : Fin 8) :
    tops s (ix3 b t h) = Finset.univ.sup fun t' : Fin 2048 => s (ix4 b h t t') := by
  pointwise [tops, greatest_at]

/-- A sum of weights. -/
theorem dens_at (s : FVec Ideal S8x8x2048x2048 .f32) (b : Fin 8) (t : Fin 2048) (h : Fin 8) :
    dens s (ix3 b t h) = den fun t' : Fin 2048 => s (ix4 b h t t') := by
  pointwise [dens, weights, greatest_at]
  rfl

/-- A weighted sum of the values. -/
theorem nums_at (s : FVec Ideal S8x8x2048x2048 .f32) (v : FVec Ideal S8x2048x8x64 .f32) (b : Fin 8) (t : Fin 2048) (h : Fin 8) (e : Fin 64) :
    nums s v (ix4 b t h e) = num (fun t' : Fin 2048 => s (ix4 b h t t')) fun t' => v (ix4 b t' h e) := by
  pointwise [nums, weights, greatest_at]
  exact Finset.sum_congr rfl fun x _ => mul_comm _ _

/-- The merge. -/
theorem merged_at (o : Fin 3 → FVec Ideal S8x2048x8x64 .f32) (m d : Fin 3 → FVec Ideal S8x2048x8 .f32) (b : Fin 8) (t : Fin 2048) (h : Fin 8) (e : Fin 64) :
    merged o m d (ix4 b t h e) = mix (fun g => o g (ix4 b t h e)) (fun g => m g (ix3 b t h)) (fun g => d g (ix3 b t h)) := by
  pointwise [merged]
  rfl

/-- The result at row `R` and column `C`. -/
theorem result_at (q : FVec Ideal S3x16384x512 .f32) (kv : FVec Ideal S3x16384x1024 .f32) (R : Fin 16384) (C : Fin 512) :
    result q kv (ix2 R C) = attend (C.val / 64) strides (fun g e => q (ix3 g R ⟨C.val / 64 * 64 + e.val, by omega⟩))
      (fun g t' e => kv (ix3 g ⟨R.val / 2048 * 2048 + t'.val, by omega⟩ ⟨C.val / 64 * 64 + e.val, by omega⟩))
      (fun g t' => kv (ix3 g ⟨R.val / 2048 * 2048 + t'.val, by omega⟩ ⟨512 + C.val, by omega⟩)) ⟨R.val % 2048, by omega⟩ := by
  pointwise [result]
  have hs : ∀ g (t' : Fin 2048), groupScores q kv g (ix4 ⟨R.val / 2048, by omega⟩ ⟨C.val / 64, by omega⟩ ⟨R.val % 2048, by omega⟩ t')
      = score (C.val / 64) (strides g) (fun e => q (ix3 g R ⟨C.val / 64 * 64 + e.val, by omega⟩))
        (fun t' e => kv (ix3 g ⟨R.val / 2048 * 2048 + t'.val, by omega⟩ ⟨C.val / 64 * 64 + e.val, by omega⟩)) ⟨R.val % 2048, by omega⟩ t' := fun g t' => by
    rw [groupScores, scores_at]
    simp only [queries_at, keys_at]
    have hR : (⟨R.val / 2048 * 2048 + R.val % 2048, by omega⟩ : Fin 16384) = R := Fin.ext (by dsimp only; omega)
    rw [hR]
  rw [merged_at, attend]
  simp only [nums_at, tops_at, dens_at, hs, values_at]
  have hC : (⟨512 + C.val / 64 * 64 + C.val % 64, by omega⟩ : Fin 1024) = ⟨512 + C.val, by omega⟩ := Fin.ext (by dsimp only; omega)
  rw [hC]

end Cert.DilAttnRef

end
-- ==== Proof.DilFinal.lean ====
/- The array the dilated attention call leaves is the reference's result. -/
module

public import proofs.«01_k».proof.Proof.DilValue
public import proofs.«01_k».proof.Proof.DilFrame
public import proofs.«01_k».proof.Proof.DilAttnRef
public import Idealize.ShloMosaic.Lib.Pipeline.ValueKit

@[expose] public section

set_option maxRecDepth 16384

noncomputable section

namespace Cert.DilAttnIdeal.Run

open Cert.DilAttnIdeal Cert.DilAttnIdeal.Gen Cert.Dil
open Idealize.ShloMosaic Idealize.ShloMosaic.TcCoe Idealize.ShloMosaic.Tactic Idealize.SL.Sem

variable (m : (ℓ : Loc nD τ sig) → Buf (Elt Ideal) ℓ)

/-- The windows' blocks at a grid point. -/
theorem idx : ∀ t : Fin cfg0.N, win0_0.index t = ![0, t.val / 4, t.val % 4] ∧ win0_1.index t = ![0, t.val / 4, t.val % 4]
    ∧ win0_2.index t = ![0, t.val / 4, 4 + t.val % 4] ∧ win0_3.index t = ![t.val / 4, t.val % 4] ∧ (grid0.coords t 1).val = t.val % 4 :=
  (by decide +kernel : ∀ t : Fin grid0.N, _)

/-- What a grid point stores is the reference's result at the place of its block. -/
theorem point (c : Dev nD) (t : Fin cfg0.N) (r : Fin 2048) (l : Fin 128) :
    outsAt m c t (ix2 r l) = DilAttnRef.result (m ((c.tc : Thread nD τ).loc main_arg0)) (m ((c.tc : Thread nD τ).loc main_arg1))
      (((cfg0.win 3).blk t).view.emb (ix2 r l)) := by
  have hN : t.val < 32 := t.isLt
  have h0 : ∀ (g : Fin 3) (r : Fin 2048) (l : Fin 128), iblk m c 0 t (ix3 g r l) = m ((c.tc : Thread nD τ).loc main_arg0)
      (ix3 g ⟨2048 * (t.val / 4) + r.val, by omega⟩ ⟨128 * (t.val % 4) + l.val, by omega⟩) := fun g r l => by
    blk_ext [iblk, V, idx t]
  have h1 : ∀ (g : Fin 3) (r : Fin 2048) (l : Fin 128), iblk m c 1 t (ix3 g r l) = m ((c.tc : Thread nD τ).loc main_arg1)
      (ix3 g ⟨2048 * (t.val / 4) + r.val, by omega⟩ ⟨128 * (t.val % 4) + l.val, by omega⟩) := fun g r l => by
    blk_ext [iblk, V, idx t]
  have h2 : ∀ (g : Fin 3) (r : Fin 2048) (l : Fin 128), iblk m c 2 t (ix3 g r l) = m ((c.tc : Thread nD τ).loc main_arg1)
      (ix3 g ⟨2048 * (t.val / 4) + r.val, by omega⟩ ⟨128 * (4 + t.val % 4) + l.val, by omega⟩) := fun g r l => by
    blk_ext [iblk, V, idx t]
  have he : ((cfg0.win 3).blk t).view.emb (ix2 r l) = ix2 ⟨2048 * (t.val / 4) + r.val, by omega⟩ ⟨128 * (t.val % 4) + l.val, by omega⟩ := by
    blk_ext [idx t]
  rw [he, DilAttnRef.result_at, outsAt, outVal_at, (idx t).2.2.2.2]
  simp only [h0, h1, h2]
  have hl : (headOf l).val = l.val / 64 := rfl
  have hr := r.isLt
  have e1 : ∀ (a : Vec Ideal S3x16384x512 .f32) (g : Fin 3) {x x' : Fin 16384} {y y' : Fin 512}, x.val = x'.val → y.val = y'.val → a (ix3 g x y) = a (ix3 g x' y') :=
    fun a g x x' y y' hx hy => by rw [Fin.ext hx, Fin.ext hy]
  have e2 : ∀ (a : Vec Ideal S3x16384x1024 .f32) (g : Fin 3) {x x' : Fin 16384} {y y' : Fin 1024}, x.val = x'.val → y.val = y'.val → a (ix3 g x y) = a (ix3 g x' y') :=
    fun a g x x' y y' hx hy => by rw [Fin.ext hx, Fin.ext hy]
  have ed : dil = DilAttnRef.strides := rfl
  rw [ed]
  refine attend_congr _ (by omega) (fun g e => e1 _ g rfl ?_) (fun g t' e => e2 _ g ?_ ?_) (fun g t' => e2 _ g ?_ ?_) (Fin.ext ?_)
  · show 128 * (t.val % 4) + (64 * (l.val / 64) + e.val) = (128 * (t.val % 4) + l.val) / 64 * 64 + e.val
    omega
  · show 2048 * (t.val / 4) + t'.val = (2048 * (t.val / 4) + r.val) / 2048 * 2048 + t'.val
    omega
  · show 128 * (t.val % 4) + (64 * (l.val / 64) + e.val) = (128 * (t.val % 4) + l.val) / 64 * 64 + e.val
    omega
  · show 2048 * (t.val / 4) + t'.val = (2048 * (t.val / 4) + r.val) / 2048 * 2048 + t'.val
    omega
  · show 128 * (4 + t.val % 4) + l.val = 512 + (128 * (t.val % 4) + l.val)
    omega
  · show r.val = (2048 * (t.val / 4) + r.val) % 2048
    omega

/-- The result array after the run is the reference's. -/
theorem final (c : Dev nD) : (dats m 0 c).arrAt 3 cfg0.N
    = DilAttnRef.result (m ((c.tc : Thread nD τ).loc main_arg0)) (m ((c.tc : Thread nD τ).loc main_arg1)) := by
  refine (dats m 0 c).arrAt_eq_of_covers 3 _ (by decide +kernel) fun t _ y => ?_
  blk_simp
  rw [after3]
  obtain ⟨r, l, rfl⟩ : ∃ (r : Fin 2048) (l : Fin 128), y = ix2 r l := ⟨y 0, y 1, eq_ix2 y⟩
  exact point m c t r l

end Cert.DilAttnIdeal.Run

end
-- ==== Proof.DilAttnClaims.lean ====
/-
  The claims about the dilated attention: the runs end, the idealization is licensed, and the kernel's result is the reference's.
-/
module

public import proofs.«01_k».proof.Defs
public import proofs.«01_k».proof.Proof.DilKeep
public import proofs.«01_k».proof.Proof.DilFinal
public import Idealize.ShloMosaic.Lib.Quiescent

@[expose] public section

set_option maxRecDepth 16384

noncomputable section

namespace Cert.DilAttnClaims

open Idealize.ShloMosaic Idealize.ShloMosaic.TcCoe Idealize.SL.Sem

/-- The kernel runs to its end, keeps its arguments, and leaves no counter raised. -/
theorem frame_kernel : Cert.quiescent_DilAttn := fun m ρ _ => Cert.DilAttn.Keep.frame m ρ

/-- The idealized kernel does too. -/
theorem frame_ideal : Cert.quiescent_DilAttnIdeal := fun m ρ _ => Cert.DilAttnIdeal.Run.frame m ρ

/-- The reference does too. -/
theorem frame_reference : Cert.quiescent_DilAttnRefIdeal := fun m ρ _ =>
  (θ_run Cert.DilAttnRefIdeal.defs _ _).mono
    (fun r h => ⟨fun c => (h c).2, Idealize.ShloMosaic.sem_eq_zero_of_no_sems (by decide) r.2⟩)
    (Cert.DilAttnRefIdeal.Value.run (F := Ideal) m ρ)

/-- The only change the idealization makes is to read the mask's large negative constant as −∞. -/
theorem preserves : Cert.preserves_DilAttn_DilAttnIdeal :=
  IdealRules.named_const.statement Cert.DilAttnIdeal.κ "mask" .f32 0xF149F2CA#32 ⊥ rfl

/-- The attention of each group over the blocks in reach, merged, is the masked attention over all positions, merged. -/
theorem algebraic : Cert.algebraic_DilAttnIdeal_DilAttnRefIdeal := by
  intro m ρ m' ρ' _ args
  refine ⟨fun c => Cert.DilAttnRef.result (m ((c.tc : Thread Cert.DilAttnIdeal.nD Cert.DilAttnIdeal.τ).loc Cert.DilAttnIdeal.main_arg0)) (m ((c.tc : Thread Cert.DilAttnIdeal.nD Cert.DilAttnIdeal.τ).loc Cert.DilAttnIdeal.main_arg1)),
    (θ_run Cert.DilAttnIdeal.defs _ _).mono (fun r h c => ⟨(h c).1.trans (Cert.DilAttnIdeal.Run.final m c), (h c).2⟩)
      (Cert.DilAttnIdeal.Run.run_blocks (F := Ideal) m ρ), ?_⟩
  refine (θ_run Cert.DilAttnRefIdeal.defs _ _).mono (fun r h c => ⟨(h c).1.trans ?_, (h c).2⟩) (Cert.DilAttnRef.run m' ρ')
  obtain ⟨h0, h1⟩ := args c
  rw [h0, h1]

end Cert.DilAttnClaims

end
-- ==== Proof.PostSampleRef.lean ====
/-
  The second half of the last layer at the sample batch: the reference, row by row.
-/
module

public import proofs.«01_k».proof.Proof.Gen.PostFinalSampleRefIdeal.Run
public import proofs.«01_k».proof.Proof.PostRow
public import Idealize.ShloMosaic.Lib.Pointwise

@[expose] public section

set_option maxRecDepth 16384

noncomputable section

namespace Cert.PostSampleRef

open Cert.PostFinalSampleRefIdeal Cert.PostFinalSampleRefIdeal.Gen Cert.PostRow
open Idealize.ShloMosaic Idealize.ShloMosaic.TcCoe Idealize.SL.Sem

variable (x : FVec Ideal S32x1024 .f32) (o : FVec Ideal S32x512 .bf16) (wo : FVec Ideal S512x1024 .bf16) (g : FVec Ideal S1x1024 .f32)
  (up : FVec Ideal S1024x4096 .bf16) (dn : FVec Ideal S4096x1024 .bf16) (R : Fin 32) (j : Fin 1024)

/-- The reference's residual. -/
def resids : FVec Ideal S32x1024 .f32 :=
  addf x (Host.dotGeneral dot_S32x512_S512x1024_S32x1024_1_0_0_1_n_n none (extf .f32 o bitsLt_bf16_f32) (extf .f32 wo bitsLt_bf16_f32))

/-- The reference's normalised rows. -/
def norms (y : FVec Ideal S32x1024 .f32) (g : FVec Ideal S1x1024 .f32) : FVec Ideal S32x1024 .f32 :=
  mulf (mulf y (broadcastInDim S32x1024 ![0, 1] bcast_S32x1_S32x1024_0_1 (Host.rsqrt (addf (Host.divf (broadcastInDim S32x1 ![0] bcast_S32_S32x1_0 (Host.reduceAdd (mulf y y) (constant S_ .f32 0x00000000#32) reducesTo_S32x1024_S32_d1 h_S_)) (broadcastInDim S32x1 ![] bcast_S_S32x1 (constant S_ .f32 0x44800000#32))) (broadcastInDim S32x1 ![] bcast_S_S32x1 (constant S_ .f32 0x358637BD#32)))))) (broadcastInDim S32x1024 ![0, 1] bcast_S1x1024_S32x1024_0_1 g)

/-- The reference's hidden numbers. -/
def hiddens (h : FVec Ideal S32x1024 .f32) (up : FVec Ideal S1024x4096 .bf16) : FVec Ideal S32x4096 .f32 :=
  maximumf (Host.dotGeneral dot_S32x1024_S1024x4096_S32x4096_1_0_0_1_n_n none h (extf .f32 up bitsLt_bf16_f32)) (broadcastInDim S32x4096 ![] bcast_S_S32x4096 (constant S_ .f32 0x00000000#32))

/-- The reference's result before the final normalisation. -/
def stream : FVec Ideal S32x1024 .f32 :=
  addf (resids x o wo) (Host.dotGeneral dot_S32x4096_S4096x1024_S32x1024_1_0_0_1_n_n none
    (mulf (hiddens (norms (resids x o wo) g) up) (hiddens (norms (resids x o wo) g) up)) (extf .f32 dn bitsLt_bf16_f32))

/-- The reference's residual at a place. -/
theorem resids_at : resids x o wo (ix2 R j) = resid (row x R) (row o R) (row wo) j := by
  pointwise [resids]
  rfl

/-- The reference's normalised row at a place. -/
theorem norms_at (y : FVec Ideal S32x1024 .f32) : norms y g (ix2 R j) = norm (row y R) (row g 0) j := by
  pointwise [norms]
  rfl

/-- The reference's hidden numbers at a place. -/
theorem hiddens_at (h : FVec Ideal S32x1024 .f32) (f : Fin 4096) :
    hiddens h up (ix2 R f) = max (∑ k, h (ix2 R k) * up (ix2 k f)) 0 := by
  pointwise [hiddens]

/-- The reference's result before the final normalisation, at a place. -/
theorem stream_at : stream x o wo g up dn (ix2 R j)
    = ffn (resid (row x R) (row o R) (row wo)) (row g 0) (row up) (row dn) j := by
  have e : ∀ k, norms (resids x o wo) g (ix2 R k) = norm (resid (row x R) (row o R) (row wo)) (row g 0) k := fun k => by
    rw [norms_at, show row (resids x o wo) R = _ from funext fun k => resids_at x o wo R k]
  pointwise [stream]
  rw [resids_at]
  simp only [hiddens_at, e]
  rfl

/-- The reference's result. -/
def result (gfin : FVec Ideal S1x1024 .f32) : FVec Ideal S32x1024 .f32 := norms (stream x o wo g up dn) gfin

/-- The reference's result at a place. -/
theorem result_at (gfin : FVec Ideal S1x1024 .f32) : result x o wo g up dn gfin (ix2 R j)
    = norm (ffn (resid (row x R) (row o R) (row wo)) (row g 0) (row up) (row dn)) (row gfin 0) j := by
  rw [result, norms_at]
  exact congrArg (fun x => norm x _ j) (funext fun j => stream_at x o wo g up dn R j)

end Cert.PostSampleRef
-- ==== Proof.PostSampleValue.lean ====
/-
  The second half of the last layer at the sample batch: the kernel's result array is the reference's. The batch is one block of 32 rows.
-/
module

public import proofs.«01_k».proof.Proof.Gen.PostFinalSampleIdeal.Value
public import proofs.«01_k».proof.Proof.PostSampleRef
public import Idealize.ShloMosaic.Lib.Pipeline.ValueKit
public import Idealize.ShloMosaic.Lib.Pointwise

@[expose] public section

set_option maxRecDepth 16384

noncomputable section

namespace Cert.PostSampleValue

open Cert.PostFinalSampleIdeal Cert.PostFinalSampleIdeal.Gen Cert.PostRow
open Idealize.ShloMosaic Idealize.ShloMosaic.TcCoe Idealize.SL.Sem

section Block

variable (v0 : Vec Ideal S32x1024 .f32) (v1 : Vec Ideal S32x512 .bf16) (v2 : Vec Ideal S512x1024 .bf16) (v5 : Vec Ideal S1x1024 .f32)
  (u d : Vec Ideal S1024x1024 .bf16) (r : Fin 32) (j : Fin 1024)

/-- The residual of a row of a block. -/
theorem pay2_at : k0_pay2 v0 v1 v2 (ix2 r j) = resid (row v0 r) (row v1 r) (row v2) j := by
  pointwise [k0_pay2]
  rfl

/-- The normalised row of a block. -/
theorem pay3_at : k0_pay3 v0 v1 v2 v5 (ix2 r j) = norm (resid (row v0 r) (row v1 r) (row v2)) (row v5 0) j := by
  pointwise [k0_pay3]
  simp only [pay2_at]
  rfl

/-- The residual plus the first part of the network. -/
theorem pay4_at : k0_pay4 v0 v1 v2 v5 u d (ix2 r j) = resid (row v0 r) (row v1 r) (row v2) j
    + ∑ f : Fin 1024, hidden (row (k0_pay3 v0 v1 v2 v5) r) (fun k => u (ix2 k f)) * d (ix2 f j) := by
  pointwise [k0_pay4]
  rw [pay2_at]
  rfl

/-- The hidden numbers of the second part. -/
theorem pay5_at : k0_pay5 v0 v1 v2 v5 u (ix2 r j) = hidden (row (k0_pay3 v0 v1 v2 v5) r) (fun k => u (ix2 k j)) := by
  pointwise [k0_pay5]
  rfl

/-- The other parts of the network, added in order, and the final normalisation. -/
theorem pay1_at (h : FVec Ideal S32x1024 .bf16) (a : FVec Ideal S32x1024 .f32) (h1 : FVec Ideal S32x1024 .bf16)
    (d1 u2 d2 u3 d3 : Vec Ideal S1024x1024 .bf16) (w : Vec Ideal S1x1024 .f32) :
    k0_pay1 h a h1 d1 u2 d2 u3 d3 w (ix2 r j) = norm (fun j => a (ix2 r j)
      + (∑ f : Fin 1024, h1 (ix2 r f) * d1 (ix2 f j))
      + (∑ f : Fin 1024, hidden (row h r) (fun k => u2 (ix2 k f)) * d2 (ix2 f j))
      + ∑ f : Fin 1024, hidden (row h r) (fun k => u3 (ix2 k f)) * d3 (ix2 f j)) (row w 0) j := by
  pointwise [k0_pay1]
  rfl

/-- What the kernel stores, row by row. -/
theorem out_at (x0 : Vec Ideal S32x1024 .f32) (x1 : Vec Ideal S32x512 .bf16) (x2 : Vec Ideal S512x1024 .bf16) (x3 : Vec Ideal S1x1024 .f32)
    (x4 : Vec Ideal S1024x4096 .bf16) (x5 : Vec Ideal S4096x1024 .bf16) (x6 : Vec Ideal S1x1024 .f32) :
    PostFinalSampleIdeal.Value.G7 (F := Ideal) x0 x1 x2 x3 x4 x5 x6 (ix2 r j)
      = norm (ffn (resid (row x0 r) (row x1 r) (row x2)) (row x3 0) (row x4) (row x5)) (row x6 0) j := by
  unfold PostFinalSampleIdeal.Value.G7
  rw [pay1_at]
  refine congrArg (fun x => norm x _ j) (funext fun j => ?_)
  rw [pay4_at]
  simp only [pay5_at]
  rw [← ffn_parts]
  have e : row (k0_pay3 (F := Ideal) x0 x1 x2 x3) r = norm (resid (row x0 r) (row x1 r) (row x2)) (row x3 0) :=
    funext fun j => pay3_at ..
  simp only [e]
  unfold part
  pointwise

end Block

/-- The stored array is the reference's. -/
theorem final (x0 : Vec Ideal S32x1024 .f32) (x1 : Vec Ideal S32x512 .bf16) (x2 : Vec Ideal S512x1024 .bf16) (x3 : Vec Ideal S1x1024 .f32)
    (x4 : Vec Ideal S1024x4096 .bf16) (x5 : Vec Ideal S4096x1024 .bf16) (x6 : Vec Ideal S1x1024 .f32) :
    PostFinalSampleIdeal.Value.G7 (F := Ideal) x0 x1 x2 x3 x4 x5 x6 = PostSampleRef.result x0 x1 x2 x3 x4 x5 x6 := by
  funext y
  obtain ⟨r, j, rfl⟩ : ∃ (r : Fin 32) (j : Fin 1024), y = ix2 r j := ⟨y 0, y 1, eq_ix2 y⟩
  rw [out_at, PostSampleRef.result_at]

end Cert.PostSampleValue
-- ==== Proof.PostSampleClaims.lean ====
/-
  The claims about what follows the attention of the last layer: the runs end, the idealization is licensed, and the kernel's result is the reference's.
-/
module

public import proofs.«01_k».proof.Defs
public import proofs.«01_k».proof.Proof.Gen.PostFinalSample.Frame
public import proofs.«01_k».proof.Proof.Gen.PostFinalSampleIdeal.Frame
public import proofs.«01_k».proof.Proof.Gen.PostFinalSampleIdeal.Value
public import proofs.«01_k».proof.Proof.Gen.PostFinalSampleRefIdeal.Run
public import proofs.«01_k».proof.Proof.PostSampleValue
public import Idealize.ShloMosaic.Lib.Quiescent

@[expose] public section

set_option maxRecDepth 16384

noncomputable section

namespace Cert.PostSampleClaims

open Idealize.ShloMosaic Idealize.ShloMosaic.TcCoe Idealize.SL.Sem

/-- The kernel runs to its end, keeps its arguments, and leaves no counter raised. -/
theorem frame_kernel : Cert.quiescent_PostFinalSample := fun m ρ _ => Cert.PostFinalSample.Gen.frame m ρ

/-- The idealized kernel does too. -/
theorem frame_ideal : Cert.quiescent_PostFinalSampleIdeal := fun m ρ _ => Cert.PostFinalSampleIdeal.Gen.frame m ρ

/-- The reference does too. -/
theorem frame_reference : Cert.quiescent_PostFinalSampleRefIdeal := fun m ρ _ =>
  (θ_run Cert.PostFinalSampleRefIdeal.defs _ _).mono
    (fun r h => ⟨fun c => (h c).2, Idealize.ShloMosaic.sem_eq_zero_of_no_sems (by decide) r.2⟩)
    (Cert.PostFinalSampleRefIdeal.Value.run (F := Ideal) m ρ)

/-- The kernel and its idealization differ in no operation. -/
theorem preserves : Cert.preserves_PostFinalSample_PostFinalSampleIdeal := trivial

/-- The last layer's feed-forward part and the final normalization give the reference's hidden states of the sample batch. -/
theorem algebraic : Cert.algebraic_PostFinalSampleIdeal_PostFinalSampleRefIdeal := by
  intro m ρ m' ρ' _ args
  refine ⟨fun c => Cert.PostSampleRef.result (m ((c.tc : Thread Cert.PostFinalSampleIdeal.nD Cert.PostFinalSampleIdeal.τ).loc Cert.PostFinalSampleIdeal.main_arg0)) (m ((c.tc : Thread Cert.PostFinalSampleIdeal.nD Cert.PostFinalSampleIdeal.τ).loc Cert.PostFinalSampleIdeal.main_arg1)) (m ((c.tc : Thread Cert.PostFinalSampleIdeal.nD Cert.PostFinalSampleIdeal.τ).loc Cert.PostFinalSampleIdeal.main_arg2)) (m ((c.tc : Thread Cert.PostFinalSampleIdeal.nD Cert.PostFinalSampleIdeal.τ).loc Cert.PostFinalSampleIdeal.main_arg3)) (m ((c.tc : Thread Cert.PostFinalSampleIdeal.nD Cert.PostFinalSampleIdeal.τ).loc Cert.PostFinalSampleIdeal.main_arg4)) (m ((c.tc : Thread Cert.PostFinalSampleIdeal.nD Cert.PostFinalSampleIdeal.τ).loc Cert.PostFinalSampleIdeal.main_arg5)) (m ((c.tc : Thread Cert.PostFinalSampleIdeal.nD Cert.PostFinalSampleIdeal.τ).loc Cert.PostFinalSampleIdeal.main_arg6)),
    (θ_run Cert.PostFinalSampleIdeal.defs _ _).mono (fun r h c => ⟨(h c).1.trans (Cert.PostSampleValue.final ..), (h c).2⟩)
      (Cert.PostFinalSampleIdeal.Value.run (F := Ideal) m ρ), ?_⟩
  refine (θ_run Cert.PostFinalSampleRefIdeal.defs _ _).mono (fun r h c => ⟨(h c).1.trans ?_, (h c).2⟩)
    (Cert.PostFinalSampleRefIdeal.Value.run (F := Ideal) m' ρ')
  obtain ⟨h0, h1, h2, h3, h4, h5, h6⟩ := args c
  show Cert.PostSampleRef.result (m' ((c.tc : Thread Cert.PostFinalSampleRefIdeal.nD Cert.PostFinalSampleRefIdeal.τ).loc Cert.PostFinalSampleRefIdeal.main_arg0)) (m' ((c.tc : Thread Cert.PostFinalSampleRefIdeal.nD Cert.PostFinalSampleRefIdeal.τ).loc Cert.PostFinalSampleRefIdeal.main_arg1)) (m' ((c.tc : Thread Cert.PostFinalSampleRefIdeal.nD Cert.PostFinalSampleRefIdeal.τ).loc Cert.PostFinalSampleRefIdeal.main_arg2)) (m' ((c.tc : Thread Cert.PostFinalSampleRefIdeal.nD Cert.PostFinalSampleRefIdeal.τ).loc Cert.PostFinalSampleRefIdeal.main_arg3)) (m' ((c.tc : Thread Cert.PostFinalSampleRefIdeal.nD Cert.PostFinalSampleRefIdeal.τ).loc Cert.PostFinalSampleRefIdeal.main_arg4)) (m' ((c.tc : Thread Cert.PostFinalSampleRefIdeal.nD Cert.PostFinalSampleRefIdeal.τ).loc Cert.PostFinalSampleRefIdeal.main_arg5)) (m' ((c.tc : Thread Cert.PostFinalSampleRefIdeal.nD Cert.PostFinalSampleRefIdeal.τ).loc Cert.PostFinalSampleRefIdeal.main_arg6)) = _
  rw [h0, h1, h2, h3, h4, h5, h6]

end Cert.PostSampleClaims

end
-- ==== Proof.DilSampleRef.lean ====
/-
  The projections of a dilated layer at the sample batch, and the past keys and values with the new position: the reference, row by row.
-/
module

public import proofs.«01_k».proof.Proof.Gen.DilProjSampleRefIdeal.Run
public import proofs.«01_k».proof.Proof.PostSampleRef
public import Idealize.ShloMosaic.Lib.Pointwise

@[expose] public section

set_option maxRecDepth 16384

noncomputable section

namespace Cert.DilSampleRef

open Cert.DilProjSampleRefIdeal Cert.DilProjSampleRefIdeal.Gen Cert.PostRow
open Idealize.ShloMosaic Idealize.ShloMosaic.TcCoe Idealize.SL.Sem

variable (x : FVec Ideal S32x1024 .f32) (g : FVec Ideal S1x1024 .f32) (w : FVec Ideal S1024x4608 .bf16)

/-- The normalised rows times the weights, split into groups, the three parts of a group, and heads. -/
def proj : FVec Ideal S32x3x3x8x64 .f32 :=
  shapeCast S32x3x3x8x64 (Host.dotGeneral dot_S32x1024_S1024x4608_S32x4608_1_0_0_1_n_n none (PostSampleRef.norms x g) (extf .f32 w bitsLt_bf16_f32)) shapeCasts_S32x4608_S32x3x3x8x64

/-- The scaled queries, group by group. -/
def queries : FVec Ideal S3x32x512 .f32 :=
  transpose S3x32x512 [1, 0, 2] (mulf (shapeCast S32x3x512 (shapeCast S32x3x8x64 (extractStridedSlice S32x3x1x8x64 ![0, 0, 0, 0, 0] (proj x g w) slices_S32x3x3x8x64_S32x3x1x8x64_0_0_0_0_0) shapeCasts_S32x3x1x8x64_S32x3x8x64) shapeCasts_S32x3x8x64_S32x3x512) (broadcastInDim S32x3x512 ![] bcast_S_S32x3x512 (constant S_ .f32 0x3E000000#32))) transposes_S32x3x512_S3x32x512_1_0_2

/-- The keys and values of every group. -/
def parts : FVec Ideal S32x3x2x8x64 .f32 := extractStridedSlice S32x3x2x8x64 ![0, 0, 1, 0, 0] (proj x g w) slices_S32x3x3x8x64_S32x3x2x8x64_0_0_1_0_0

/-- The keys and values, group by group. -/
def kvs : FVec Ideal S3x32x1024 .f32 :=
  transpose S3x32x1024 [1, 0, 2] (shapeCast S32x3x1024 (parts x g w) shapeCasts_S32x3x2x8x64_S32x3x1024) transposes_S32x3x1024_S3x32x1024_1_0_2

/-- The new keys and values of group 0. -/
def fresh0 : FVec Ideal S32x1x2x8x64 .f32 :=
  broadcastInDim S32x1x2x8x64 ![0, 2, 3, 4] bcast_S32x2x8x64_S32x1x2x8x64_0_2_3_4 (shapeCast S32x2x8x64 (extractStridedSlice S32x1x2x8x64 ![0, 0, 0, 0, 0] (parts x g w) slices_S32x3x2x8x64_S32x1x2x8x64_0_0_0_0_0) shapeCasts_S32x1x2x8x64_S32x2x8x64)

/-- The new keys and values of group 1. -/
def fresh1 : FVec Ideal S32x1x2x8x64 .f32 :=
  broadcastInDim S32x1x2x8x64 ![0, 2, 3, 4] bcast_S32x2x8x64_S32x1x2x8x64_0_2_3_4 (shapeCast S32x2x8x64 (extractStridedSlice S32x1x2x8x64 ![0, 1, 0, 0, 0] (parts x g w) slices_S32x3x2x8x64_S32x1x2x8x64_0_1_0_0_0) shapeCasts_S32x1x2x8x64_S32x2x8x64)

/-- The new keys and values of group 2. -/
def fresh2 : FVec Ideal S32x1x2x8x64 .f32 :=
  broadcastInDim S32x1x2x8x64 ![0, 2, 3, 4] bcast_S32x2x8x64_S32x1x2x8x64_0_2_3_4 (shapeCast S32x2x8x64 (extractStridedSlice S32x1x2x8x64 ![0, 2, 0, 0, 0] (parts x g w) slices_S32x3x2x8x64_S32x1x2x8x64_0_2_0_0_0) shapeCasts_S32x1x2x8x64_S32x2x8x64)

/-- The past of group 0 without its oldest position, and then the new one. -/
def pushed0 (s : FVec Ideal S32x128x2x8x64 .f32) : FVec Ideal S32x128x2x8x64 .f32 :=
  concatenate S32x128x2x8x64 1 [⟨S32x127x2x8x64, extractStridedSlice S32x127x2x8x64 ![0, 1, 0, 0, 0] s slices_S32x128x2x8x64_S32x127x2x8x64_0_1_0_0_0⟩, ⟨S32x1x2x8x64, fresh0 x g w⟩] concatenates_S32x127x2x8x64_S32x1x2x8x64_S32x128x2x8x64_d1

/-- The past of group 1 without its oldest position, and then the new one. -/
def pushed1 (s : FVec Ideal S32x512x2x8x64 .f32) : FVec Ideal S32x512x2x8x64 .f32 :=
  concatenate S32x512x2x8x64 1 [⟨S32x511x2x8x64, extractStridedSlice S32x511x2x8x64 ![0, 1, 0, 0, 0] s slices_S32x512x2x8x64_S32x511x2x8x64_0_1_0_0_0⟩, ⟨S32x1x2x8x64, fresh1 x g w⟩] concatenates_S32x511x2x8x64_S32x1x2x8x64_S32x512x2x8x64_d1

/-- The past of group 2 without its oldest position, and then the new one. -/
def pushed2 (s : FVec Ideal S32x2048x2x8x64 .f32) : FVec Ideal S32x2048x2x8x64 .f32 :=
  concatenate S32x2048x2x8x64 1 [⟨S32x2047x2x8x64, extractStridedSlice S32x2047x2x8x64 ![0, 1, 0, 0, 0] s slices_S32x2048x2x8x64_S32x2047x2x8x64_0_1_0_0_0⟩, ⟨S32x1x2x8x64, fresh2 x g w⟩] concatenates_S32x2047x2x8x64_S32x1x2x8x64_S32x2048x2x8x64_d1

/-- A projection at a place. -/
theorem proj_at (R : Fin 32) (n p : Fin 3) (h : Fin 8) (e : Fin 64) : proj x g w (ix5 R n p h e)
    = ∑ k, norm (row x R) (row g 0) k * w (ix2 k ⟨n.val * 1536 + p.val * 512 + h.val * 64 + e.val, by omega⟩) := by
  pointwise [proj]
  simp only [PostSampleRef.norms_at]

/-- A scaled query at a place. -/
theorem queries_at (n : Fin 3) (R : Fin 32) (e : Fin 512) : queries x g w (ix3 n R e)
    = (∑ k, norm (row x R) (row g 0) k * w (ix2 k ⟨n.val * 1536 + e.val, by omega⟩)) * Ideal.ofBits FTy.f32 0x3E000000#32 := by
  pointwise [queries]
  simp only [proj_at]
  refine congrArg (· * Ideal.ofBits FTy.f32 0x3E000000#32) (Finset.sum_congr rfl fun k _ => congrArg (fun f => _ * w (ix2 k f)) (Fin.ext ?_))
  dsimp only
  omega

/-- A key or value at a place. -/
theorem kvs_at (n : Fin 3) (R : Fin 32) (e : Fin 1024) : kvs x g w (ix3 n R e)
    = ∑ k, norm (row x R) (row g 0) k * w (ix2 k ⟨n.val * 1536 + (512 + e.val), by omega⟩) := by
  pointwise [kvs, parts]
  rw [proj_at]
  refine Finset.sum_congr rfl fun k _ => congrArg (fun f => _ * w (ix2 k f)) (Fin.ext ?_)
  dsimp only
  omega

/-- A new key or value of group 0 is an entry of the group's keys and values. -/
theorem fresh0_at (R : Fin 32) (a : Fin 1) (p : Fin 2) (h : Fin 8) (e : Fin 64) : fresh0 x g w (ix5 R a p h e)
    = kvs x g w (ix3 0 R ⟨p.val * 512 + h.val * 64 + e.val, by omega⟩) := by
  pointwise [fresh0, kvs]

/-- A new key or value of group 1 is an entry of the group's keys and values. -/
theorem fresh1_at (R : Fin 32) (a : Fin 1) (p : Fin 2) (h : Fin 8) (e : Fin 64) : fresh1 x g w (ix5 R a p h e)
    = kvs x g w (ix3 1 R ⟨p.val * 512 + h.val * 64 + e.val, by omega⟩) := by
  pointwise [fresh1, kvs]

/-- A new key or value of group 2 is an entry of the group's keys and values. -/
theorem fresh2_at (R : Fin 32) (a : Fin 1) (p : Fin 2) (h : Fin 8) (e : Fin 64) : fresh2 x g w (ix5 R a p h e)
    = kvs x g w (ix3 2 R ⟨p.val * 512 + h.val * 64 + e.val, by omega⟩) := by
  pointwise [fresh2, kvs]

end Cert.DilSampleRef
-- ==== Proof.DilSampleValue.lean ====
/-
  The projections of a dilated layer at the sample batch: the kernel's two result arrays are the reference's, and so are the past keys
  and values with the new position, which the host puts together from the second.
-/
module

public import proofs.«01_k».proof.Proof.Gen.DilProjSampleIdeal.Frame
public import proofs.«01_k».proof.Proof.DilSampleRef
public import Idealize.ShloMosaic.Lib.Pipeline.ValueKit
public import Idealize.ShloMosaic.Lib.Pointwise
public import Idealize.ShloMosaic.Lib.Claim

@[expose] public section

set_option maxRecDepth 16384

noncomputable section

namespace Cert.DilSampleValue

open Cert.DilProjSampleIdeal Cert.DilProjSampleIdeal.Gen Cert.PostRow
open Idealize.ShloMosaic Idealize.ShloMosaic.TcCoe Idealize.SL.Sem

section Block

variable (v0 : Vec Ideal S32x1024 .f32) (v1 : Vec Ideal S1x1024 .f32) (h : FVec Ideal S32x1024 .bf16) (w : Vec Ideal S1024x1536 .bf16)
  (r : Fin 32)

/-- The normalised row of a block. -/
theorem pay6_at (k : Fin 1024) : k0_pay6 v0 v1 (ix2 r k) = norm (row v0 r) (row v1 0) k := by
  pointwise [k0_pay6]
  rfl

/-- The projection of the third group. -/
theorem pay3_at (j : Fin 1536) : k0_pay3 h w (ix2 r j) = ∑ k, h (ix2 r k) * w (ix2 k j) := by
  pointwise [k0_pay3]

/-- The projection of the first group. -/
theorem pay7_at (j : Fin 1536) : k0_pay7 v0 v1 w (ix2 r j) = ∑ k, norm (row v0 r) (row v1 0) k * w (ix2 k j) := by
  pointwise [k0_pay7]
  simp only [pay6_at]

/-- The projection of the second group. -/
theorem pay10_at (j : Fin 1536) : k0_pay10 v0 v1 w (ix2 r j) = ∑ k, norm (row v0 r) (row v1 0) k * w (ix2 k j) := by
  pointwise [k0_pay10]
  simp only [pay6_at]

/-- A scaled query of the first group. -/
theorem pay8_at (a : Fin 1) (e : Fin 512) : k0_pay8 v0 v1 w (ix3 a r e)
    = (∑ k, norm (row v0 r) (row v1 0) k * w (ix2 k ⟨e.val, by omega⟩)) * Ideal.ofBits FTy.f32 0x3E000000#32 := by
  pointwise [k0_pay8]
  simp only [pay7_at]

/-- A scaled query of the second group. -/
theorem pay1_at (a : Fin 1) (e : Fin 512) : k0_pay1 (k0_pay11 v0 v1 w) (ix3 a r e)
    = (∑ k, norm (row v0 r) (row v1 0) k * w (ix2 k ⟨e.val, by omega⟩)) * Ideal.ofBits FTy.f32 0x3E000000#32 := by
  pointwise [k0_pay1, k0_pay11]
  simp only [pay10_at]

/-- A scaled query of the third group. -/
theorem pay4_at (a : Fin 1) (e : Fin 512) : k0_pay4 h w (ix3 a r e)
    = (∑ k, h (ix2 r k) * w (ix2 k ⟨e.val, by omega⟩)) * Ideal.ofBits FTy.f32 0x3E000000#32 := by
  pointwise [k0_pay4]
  simp only [pay3_at]

/-- A key or value of the first group. -/
theorem pay9_at (a : Fin 1) (e : Fin 1024) : k0_pay9 v0 v1 w (ix3 a r e)
    = ∑ k, norm (row v0 r) (row v1 0) k * w (ix2 k ⟨512 + e.val, by omega⟩) := by
  pointwise [k0_pay9]
  simp only [pay7_at]

/-- A key or value of the second group. -/
theorem pay2_at (a : Fin 1) (e : Fin 1024) : k0_pay2 (k0_pay10 v0 v1 w) (ix3 a r e)
    = ∑ k, norm (row v0 r) (row v1 0) k * w (ix2 k ⟨512 + e.val, by omega⟩) := by
  pointwise [k0_pay2]
  simp only [pay10_at]

/-- A key or value of the third group. -/
theorem pay5_at (a : Fin 1) (e : Fin 1024) : k0_pay5 h w (ix3 a r e) = ∑ k, h (ix2 r k) * w (ix2 k ⟨512 + e.val, by omega⟩) := by
  pointwise [k0_pay5]
  simp only [pay3_at]

variable (x0 : Vec Ideal S32x1024 .f32) (x1 : Vec Ideal S1x1024 .f32) (x2 : Vec Ideal S1024x4608 .bf16)

/-- The normalised row of a block, as the third group reads it. -/
theorem pay12_at (k : Fin 1024) : k0_pay12 (F := Ideal) x0 x1 x2 (ix2 r k) = norm (row x0 r) (row x1 0) k := by
  unfold k0_pay12
  simp (disch := decide) only [View.ld_unit_lit]
  rw [pay6_at]

/-- A scaled query of a block. -/
theorem query_at (n : Fin 3) (e : Fin 512) : out0_3 (F := Ideal) x0 x1 x2 (ix3 n r e)
    = (∑ k, norm (row x0 r) (row x1 0) k * x2 (ix2 k ⟨n.val * 1536 + e.val, by omega⟩)) * Ideal.ofBits FTy.f32 0x3E000000#32 := by
  canon_tiles x hx
  all_goals
    obtain ⟨a, b, d, rfl⟩ : ∃ a b d, x = ix3 a b d := ⟨x 0, x 1, x 2, eq_ix3 x⟩
    obtain rfl : r = b := Fin.ext hx1
    obtain rfl : e = d := Fin.ext hx2
    have ha : a.val < 1 := a.isLt
  · obtain rfl : n = 2 := Fin.ext (by change n.val = 2 + a.val at hx0; show n.val = 2; omega)
    rw [pay4_at]
    simp only [pay12_at]
    pointwise
  · obtain rfl : n = 1 := Fin.ext (by change n.val = 1 + a.val at hx0; show n.val = 1; omega)
    simp (disch := decide) only [View.ld_unit_lit]
    rw [pay1_at]
    pointwise
  · obtain rfl : n = 0 := Fin.ext (by change n.val = a.val at hx0; show n.val = 0; omega)
    simp (disch := decide) only [View.ld_unit_lit]
    rw [pay8_at]
    pointwise

/-- A key or value of a block. -/
theorem kv_at (n : Fin 3) (e : Fin 1024) : out0_4 (F := Ideal) x0 x1 x2 (ix3 n r e)
    = ∑ k, norm (row x0 r) (row x1 0) k * x2 (ix2 k ⟨n.val * 1536 + (512 + e.val), by omega⟩) := by
  canon_tiles x hx
  all_goals
    obtain ⟨a, b, d, rfl⟩ : ∃ a b d, x = ix3 a b d := ⟨x 0, x 1, x 2, eq_ix3 x⟩
    obtain rfl : r = b := Fin.ext hx1
    obtain rfl : e = d := Fin.ext hx2
    have ha : a.val < 1 := a.isLt
  · obtain rfl : n = 2 := Fin.ext (by change n.val = 2 + a.val at hx0; show n.val = 2; omega)
    rw [pay5_at]
    simp only [pay12_at]
    pointwise
  · obtain rfl : n = 1 := Fin.ext (by change n.val = 1 + a.val at hx0; show n.val = 1; omega)
    simp (disch := decide) only [View.ld_unit_lit]
    rw [pay2_at]
    pointwise
  · obtain rfl : n = 0 := Fin.ext (by change n.val = a.val at hx0; show n.val = 0; omega)
    simp (disch := decide) only [View.ld_unit_lit]
    rw [pay9_at]
    pointwise

end Block

/-- The new keys and values of group 0, as the host cuts them out, are the reference's. -/
theorem laid0 (x : FVec Ideal S32x1024 .f32) (g : FVec Ideal S1x1024 .f32) (w : FVec Ideal S1024x4608 .bf16) :
    shapeCast S32x1x2x8x64 (shapeCast S32x1024 (extractStridedSlice S1x32x1024 ![0, 0, 0] (DilSampleRef.kvs x g w) slices_S3x32x1024_S1x32x1024_0_0_0) shapeCasts_S1x32x1024_S32x1024) shapeCasts_S32x1024_S32x1x2x8x64
      = DilSampleRef.fresh0 x g w := by
  funext y
  obtain ⟨R, a, p, h, e, rfl⟩ : ∃ R a p h e, y = ix5 R a p h e := ⟨y 0, y 1, y 2, y 3, y 4, eq_ix5 y⟩
  rw [DilSampleRef.fresh0_at]
  pointwise

/-- The new keys and values of group 1, as the host cuts them out, are the reference's. -/
theorem laid1 (x : FVec Ideal S32x1024 .f32) (g : FVec Ideal S1x1024 .f32) (w : FVec Ideal S1024x4608 .bf16) :
    shapeCast S32x1x2x8x64 (shapeCast S32x1024 (extractStridedSlice S1x32x1024 ![1, 0, 0] (DilSampleRef.kvs x g w) slices_S3x32x1024_S1x32x1024_1_0_0) shapeCasts_S1x32x1024_S32x1024) shapeCasts_S32x1024_S32x1x2x8x64
      = DilSampleRef.fresh1 x g w := by
  funext y
  obtain ⟨R, a, p, h, e, rfl⟩ : ∃ R a p h e, y = ix5 R a p h e := ⟨y 0, y 1, y 2, y 3, y 4, eq_ix5 y⟩
  rw [DilSampleRef.fresh1_at]
  pointwise

/-- The new keys and values of group 2, as the host cuts them out, are the reference's. -/
theorem laid2 (x : FVec Ideal S32x1024 .f32) (g : FVec Ideal S1x1024 .f32) (w : FVec Ideal S1024x4608 .bf16) :
    shapeCast S32x1x2x8x64 (shapeCast S32x1024 (extractStridedSlice S1x32x1024 ![2, 0, 0] (DilSampleRef.kvs x g w) slices_S3x32x1024_S1x32x1024_2_0_0) shapeCasts_S1x32x1024_S32x1024) shapeCasts_S32x1024_S32x1x2x8x64
      = DilSampleRef.fresh2 x g w := by
  funext y
  obtain ⟨R, a, p, h, e, rfl⟩ : ∃ R a p h e, y = ix5 R a p h e := ⟨y 0, y 1, y 2, y 3, y 4, eq_ix5 y⟩
  rw [DilSampleRef.fresh2_at]
  pointwise

variable (m : (ℓ : Loc nD τ sig) → Buf (Elt Ideal) ℓ)

/-- The windows' blocks at a grid point. -/
theorem idx : ∀ t : Fin cfg0.N, win0_0.index t = ![t.val, 0] ∧ win0_1.index t = ![0, 0] ∧ win0_2.index t = ![0, 0]
    ∧ win0_3.index t = ![0, t.val, 0] ∧ win0_4.index t = ![0, t.val, 0] :=
  (by decide +kernel : ∀ t : Fin grid0.N, _)

/-- A row of the activations' block is a row of the array. -/
theorem rows (c : Dev nD) (t : Fin cfg0.N) (r : Fin 32) : row (iblk m c 0 t) r
    = row (m ((c.tc : Thread nD τ).loc main_arg0)) ⟨32 * t.val + r.val, by have : t.val < 1 := t.isLt; omega⟩ :=
  funext fun k => by blk_ext [row, iblk, V, idx t]

/-- The normalisation's weights' block is the whole array. -/
theorem weights (c : Dev nD) (t : Fin cfg0.N) : row (iblk m c 1 t) 0 = row (m ((c.tc : Thread nD τ).loc main_arg1)) 0 :=
  funext fun k => by blk_ext [row, iblk, V, idx t]

/-- The projection's weights' block is the whole array. -/
theorem columns (c : Dev nD) (t : Fin cfg0.N) (k : Fin 1024) (j : Fin 4608) :
    iblk m c 2 t (ix2 k j) = m ((c.tc : Thread nD τ).loc main_arg2) (ix2 k j) := by
  blk_ext [iblk, V, idx t]

/-- The query array after the run is the reference's. -/
theorem final_queries (c : Dev nD) : (dats m 0 c).arrAt 3 cfg0.N
    = DilSampleRef.queries (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  obtain ⟨n, r, e, rfl⟩ : ∃ (n : Fin 3) (r : Fin 32) (e : Fin 512), y = ix3 n r e := ⟨y 0, y 1, y 2, eq_ix3 y⟩
  have hN : t.val < 1 := t.isLt
  have he : ((cfg0.win 3).blk t).view.emb (ix3 n r e) = ix3 n ⟨32 * t.val + r.val, by omega⟩ e := by blk_ext [idx t]
  rw [he, DilSampleRef.queries_at, query_at, rows, weights]
  simp only [columns]

/-- The array of keys and values after the run is the reference's. -/
theorem final_kvs (c : Dev nD) : (dats m 0 c).arrAt 4 cfg0.N
    = DilSampleRef.kvs (m ((c.tc : Thread nD τ).loc main_arg0)) (m ((c.tc : Thread nD τ).loc main_arg1)) (m ((c.tc : Thread nD τ).loc main_arg2)) := by
  refine (dats m 0 c).arrAt_eq_of_covers 4 _ (by decide +kernel) fun t _ y => ?_
  blk_simp
  rw [after0_4]
  obtain ⟨n, r, e, rfl⟩ : ∃ (n : Fin 3) (r : Fin 32) (e : Fin 1024), y = ix3 n r e := ⟨y 0, y 1, y 2, eq_ix3 y⟩
  have hN : t.val < 1 := t.isLt
  have he : ((cfg0.win 4).blk t).view.emb (ix3 n r e) = ix3 n ⟨32 * t.val + r.val, by omega⟩ e := by blk_ext [idx t]
  rw [he, DilSampleRef.kvs_at, kv_at, rows, weights]
  simp only [columns]

/-- The contents when the region has ended. -/
abbrev left (c : Dev nD) : Valuation τ sig (Elt Ideal) :=
  Pipeline.withArrays spec0 c (V0 m c) fun w => (dats m 0 c).arrAt w cfg0.N

/-- The array of keys and values, when the region has ended. -/
theorem left_kvs (c : Dev nD) : left m c (Proc.devRef .tc main_v0_1)
    = DilSampleRef.kvs (m ((c.tc : Thread nD τ).loc main_arg0)) (m ((c.tc : Thread nD τ).loc main_arg1)) (m ((c.tc : Thread nD τ).loc main_arg2)) :=
  (Pipeline.withArrays_arr spec0 launch0.win.arr_inj c (V0 m c) _ 4).trans (final_kvs m c)

/-- The past of group 0 is as launched when the region has ended. -/
theorem left_past0 (c : Dev nD) : left m c (Proc.devRef .tc main_arg3) = m ((c.tc : Thread nD τ).loc main_arg3) :=
  (Pipeline.withArrays_of_ne spec0 c (V0 m c) _ main_arg3 (by decide)).trans (V_main_arg3 m c)

/-- The past of group 0 with the new position is the reference's. -/
theorem final_past0 (c : Dev nD) : Pipeline.afterTail₀ cfgs (dats m) 0 (V0 m) [hostOps1] c main_v5
    = DilSampleRef.pushed0 (m ((c.tc : Thread nD τ).loc main_arg0)) (m ((c.tc : Thread nD τ).loc main_arg1)) (m ((c.tc : Thread nD τ).loc main_arg2)) (m ((c.tc : Thread nD τ).loc main_arg3)) := by
  show StableHlo.after [hostOps1].flatten (left m c) (Proc.devRef .tc main_v5) = _
  simp only [List.flatten_cons, List.flatten_nil, List.append_nil]
  simp only [StableHlo.after_cons, StableHlo.after_nil]
  after_results_simp
  after_results_loop
  rw [left_kvs, left_past0]
  unfold DilSampleRef.pushed0
  rw [← laid0]
  rfl

/-- The past of group 1 is as launched when the region has ended. -/
theorem left_past1 (c : Dev nD) : left m c (Proc.devRef .tc main_arg4) = m ((c.tc : Thread nD τ).loc main_arg4) :=
  (Pipeline.withArrays_of_ne spec0 c (V0 m c) _ main_arg4 (by decide)).trans (V_main_arg4 m c)

/-- The past of group 1 with the new position is the reference's. -/
theorem final_past1 (c : Dev nD) : Pipeline.afterTail₀ cfgs (dats m) 0 (V0 m) [hostOps1] c main_v10
    = DilSampleRef.pushed1 (m ((c.tc : Thread nD τ).loc main_arg0)) (m ((c.tc : Thread nD τ).loc main_arg1)) (m ((c.tc : Thread nD τ).loc main_arg2)) (m ((c.tc : Thread nD τ).loc main_arg4)) := by
  show StableHlo.after [hostOps1].flatten (left m c) (Proc.devRef .tc main_v10) = _
  simp only [List.flatten_cons, List.flatten_nil, List.append_nil]
  simp only [StableHlo.after_cons, StableHlo.after_nil]
  after_results_simp
  after_results_loop
  rw [left_kvs, left_past1]
  unfold DilSampleRef.pushed1
  rw [← laid1]
  rfl

/-- The past of group 2 is as launched when the region has ended. -/
theorem left_past2 (c : Dev nD) : left m c (Proc.devRef .tc main_arg5) = m ((c.tc : Thread nD τ).loc main_arg5) :=
  (Pipeline.withArrays_of_ne spec0 c (V0 m c) _ main_arg5 (by decide)).trans (V_main_arg5 m c)

/-- The past of group 2 with the new position is the reference's. -/
theorem final_past2 (c : Dev nD) : Pipeline.afterTail₀ cfgs (dats m) 0 (V0 m) [hostOps1] c main_v15
    = DilSampleRef.pushed2 (m ((c.tc : Thread nD τ).loc main_arg0)) (m ((c.tc : Thread nD τ).loc main_arg1)) (m ((c.tc : Thread nD τ).loc main_arg2)) (m ((c.tc : Thread nD τ).loc main_arg5)) := by
  show StableHlo.after [hostOps1].flatten (left m c) (Proc.devRef .tc main_v15) = _
  simp only [List.flatten_cons, List.flatten_nil, List.append_nil]
  simp only [StableHlo.after_cons, StableHlo.after_nil]
  after_results_simp
  after_results_loop
  rw [left_kvs, left_past2]
  unfold DilSampleRef.pushed2
  rw [← laid2]
  rfl

end Cert.DilSampleValue
-- ==== Proof.DilSampleClaims.lean ====
/-
  The claims about the projection of the dilated layers at the sample batch: the runs end, the idealization is licensed, and the kernel's results are the reference's.
-/
module

public import proofs.«01_k».proof.Defs
public import proofs.«01_k».proof.Proof.Gen.DilProjSample.Frame
public import proofs.«01_k».proof.Proof.Gen.DilProjSampleIdeal.Frame
public import proofs.«01_k».proof.Proof.Gen.DilProjSampleRefIdeal.Run
public import proofs.«01_k».proof.Proof.DilSampleValue
public import Idealize.ShloMosaic.Lib.Quiescent

@[expose] public section

set_option maxRecDepth 16384

noncomputable section

namespace Cert.DilSampleClaims

open Idealize.ShloMosaic Idealize.ShloMosaic.TcCoe Idealize.SL.Sem

/-- The kernel runs to its end, keeps its arguments, and leaves no counter raised. -/
theorem frame_kernel : Cert.quiescent_DilProjSample := fun m ρ _ => Cert.DilProjSample.Gen.frame m ρ

/-- The idealized kernel does too. -/
theorem frame_ideal : Cert.quiescent_DilProjSampleIdeal := fun m ρ _ => Cert.DilProjSampleIdeal.Gen.frame m ρ

/-- The reference does too. -/
theorem frame_reference : Cert.quiescent_DilProjSampleRefIdeal := fun m ρ _ =>
  (θ_run Cert.DilProjSampleRefIdeal.defs _ _).mono
    (fun r h => ⟨fun c => (h c).2.2.2.2.2, Idealize.ShloMosaic.sem_eq_zero_of_no_sems (by decide) r.2⟩)
    (Cert.DilProjSampleRefIdeal.Value.run (F := Ideal) m ρ)

/-- The kernel and its idealization differ in no operation. -/
theorem preserves : Cert.preserves_DilProjSample_DilProjSampleIdeal := trivial

/-- The queries, the keys with values and the three pasts with the new position are the reference's. -/
theorem algebraic : Cert.algebraic_DilProjSampleIdeal_DilProjSampleRefIdeal := by
  intro m ρ m' ρ' _ args
  refine ⟨fun c => Cert.DilSampleRef.queries (m ((c.tc : Thread Cert.DilProjSampleIdeal.nD Cert.DilProjSampleIdeal.τ).loc Cert.DilProjSampleIdeal.main_arg0)) (m ((c.tc : Thread Cert.DilProjSampleIdeal.nD Cert.DilProjSampleIdeal.τ).loc Cert.DilProjSampleIdeal.main_arg1)) (m ((c.tc : Thread Cert.DilProjSampleIdeal.nD Cert.DilProjSampleIdeal.τ).loc Cert.DilProjSampleIdeal.main_arg2)),
    fun c => Cert.DilSampleRef.kvs (m ((c.tc : Thread Cert.DilProjSampleIdeal.nD Cert.DilProjSampleIdeal.τ).loc Cert.DilProjSampleIdeal.main_arg0)) (m ((c.tc : Thread Cert.DilProjSampleIdeal.nD Cert.DilProjSampleIdeal.τ).loc Cert.DilProjSampleIdeal.main_arg1)) (m ((c.tc : Thread Cert.DilProjSampleIdeal.nD Cert.DilProjSampleIdeal.τ).loc Cert.DilProjSampleIdeal.main_arg2)),
    fun c => Cert.DilSampleRef.pushed0 (m ((c.tc : Thread Cert.DilProjSampleIdeal.nD Cert.DilProjSampleIdeal.τ).loc Cert.DilProjSampleIdeal.main_arg0)) (m ((c.tc : Thread Cert.DilProjSampleIdeal.nD Cert.DilProjSampleIdeal.τ).loc Cert.DilProjSampleIdeal.main_arg1)) (m ((c.tc : Thread Cert.DilProjSampleIdeal.nD Cert.DilProjSampleIdeal.τ).loc Cert.DilProjSampleIdeal.main_arg2)) (m ((c.tc : Thread Cert.DilProjSampleIdeal.nD Cert.DilProjSampleIdeal.τ).loc Cert.DilProjSampleIdeal.main_arg3)),
    fun c => Cert.DilSampleRef.pushed1 (m ((c.tc : Thread Cert.DilProjSampleIdeal.nD Cert.DilProjSampleIdeal.τ).loc Cert.DilProjSampleIdeal.main_arg0)) (m ((c.tc : Thread Cert.DilProjSampleIdeal.nD Cert.DilProjSampleIdeal.τ).loc Cert.DilProjSampleIdeal.main_arg1)) (m ((c.tc : Thread Cert.DilProjSampleIdeal.nD Cert.DilProjSampleIdeal.τ).loc Cert.DilProjSampleIdeal.main_arg2)) (m ((c.tc : Thread Cert.DilProjSampleIdeal.nD Cert.DilProjSampleIdeal.τ).loc Cert.DilProjSampleIdeal.main_arg4)),
    fun c => Cert.DilSampleRef.pushed2 (m ((c.tc : Thread Cert.DilProjSampleIdeal.nD Cert.DilProjSampleIdeal.τ).loc Cert.DilProjSampleIdeal.main_arg0)) (m ((c.tc : Thread Cert.DilProjSampleIdeal.nD Cert.DilProjSampleIdeal.τ).loc Cert.DilProjSampleIdeal.main_arg1)) (m ((c.tc : Thread Cert.DilProjSampleIdeal.nD Cert.DilProjSampleIdeal.τ).loc Cert.DilProjSampleIdeal.main_arg2)) (m ((c.tc : Thread Cert.DilProjSampleIdeal.nD Cert.DilProjSampleIdeal.τ).loc Cert.DilProjSampleIdeal.main_arg5)),
    (θ_run Cert.DilProjSampleIdeal.defs _ _).mono
      (fun r h c => ⟨((h.1 c).1 3).trans (Cert.DilSampleValue.final_queries m c), ((h.1 c).1 4).trans (Cert.DilSampleValue.final_kvs m c),
        ((h.1 c).2 _ (Pipeline.mem_restRefs_of _ (by decide) (by decide))).trans (Cert.DilSampleValue.final_past0 m c),
        ((h.1 c).2 _ (Pipeline.mem_restRefs_of _ (by decide) (by decide))).trans (Cert.DilSampleValue.final_past1 m c),
        ((h.1 c).2 _ (Pipeline.mem_restRefs_of _ (by decide) (by decide))).trans (Cert.DilSampleValue.final_past2 m c), h.2 c⟩)
      (θ_run_and (Cert.DilProjSampleIdeal.Gen.run_main (F := Ideal) m ρ) (Cert.DilProjSampleIdeal.Gen.unchanged (F := Ideal) m ρ)), ?_⟩
  refine (θ_run Cert.DilProjSampleRefIdeal.defs _ _).mono (fun r h c => ⟨(h c).1.trans ?_, (h c).2.1.trans ?_, (h c).2.2.1.trans ?_, (h c).2.2.2.1.trans ?_, (h c).2.2.2.2.1.trans ?_, (h c).2.2.2.2.2⟩)
    (Cert.DilProjSampleRefIdeal.Value.run (F := Ideal) m' ρ')
  · obtain ⟨h0, h1, h2, h3, h4, h5⟩ := args c
    show Cert.DilSampleRef.queries (m' ((c.tc : Thread Cert.DilProjSampleRefIdeal.nD Cert.DilProjSampleRefIdeal.τ).loc Cert.DilProjSampleRefIdeal.main_arg0)) (m' ((c.tc : Thread Cert.DilProjSampleRefIdeal.nD Cert.DilProjSampleRefIdeal.τ).loc Cert.DilProjSampleRefIdeal.main_arg1)) (m' ((c.tc : Thread Cert.DilProjSampleRefIdeal.nD Cert.DilProjSampleRefIdeal.τ).loc Cert.DilProjSampleRefIdeal.main_arg2)) = _
    rw [h0, h1, h2]
  · obtain ⟨h0, h1, h2, h3, h4, h5⟩ := args c
    show Cert.DilSampleRef.kvs (m' ((c.tc : Thread Cert.DilProjSampleRefIdeal.nD Cert.DilProjSampleRefIdeal.τ).loc Cert.DilProjSampleRefIdeal.main_arg0)) (m' ((c.tc : Thread Cert.DilProjSampleRefIdeal.nD Cert.DilProjSampleRefIdeal.τ).loc Cert.DilProjSampleRefIdeal.main_arg1)) (m' ((c.tc : Thread Cert.DilProjSampleRefIdeal.nD Cert.DilProjSampleRefIdeal.τ).loc Cert.DilProjSampleRefIdeal.main_arg2)) = _
    rw [h0, h1, h2]
  · obtain ⟨h0, h1, h2, h3, h4, h5⟩ := args c
    show Cert.DilSampleRef.pushed0 (m' ((c.tc : Thread Cert.DilProjSampleRefIdeal.nD Cert.DilProjSampleRefIdeal.τ).loc Cert.DilProjSampleRefIdeal.main_arg0)) (m' ((c.tc : Thread Cert.DilProjSampleRefIdeal.nD Cert.DilProjSampleRefIdeal.τ).loc Cert.DilProjSampleRefIdeal.main_arg1)) (m' ((c.tc : Thread Cert.DilProjSampleRefIdeal.nD Cert.DilProjSampleRefIdeal.τ).loc Cert.DilProjSampleRefIdeal.main_arg2)) (m' ((c.tc : Thread Cert.DilProjSampleRefIdeal.nD Cert.DilProjSampleRefIdeal.τ).loc Cert.DilProjSampleRefIdeal.main_arg3)) = _
    rw [h0, h1, h2, h3]
  · obtain ⟨h0, h1, h2, h3, h4, h5⟩ := args c
    show Cert.DilSampleRef.pushed1 (m' ((c.tc : Thread Cert.DilProjSampleRefIdeal.nD Cert.DilProjSampleRefIdeal.τ).loc Cert.DilProjSampleRefIdeal.main_arg0)) (m' ((c.tc : Thread Cert.DilProjSampleRefIdeal.nD Cert.DilProjSampleRefIdeal.τ).loc Cert.DilProjSampleRefIdeal.main_arg1)) (m' ((c.tc : Thread Cert.DilProjSampleRefIdeal.nD Cert.DilProjSampleRefIdeal.τ).loc Cert.DilProjSampleRefIdeal.main_arg2)) (m' ((c.tc : Thread Cert.DilProjSampleRefIdeal.nD Cert.DilProjSampleRefIdeal.τ).loc Cert.DilProjSampleRefIdeal.main_arg4)) = _
    rw [h0, h1, h2, h4]
  · obtain ⟨h0, h1, h2, h3, h4, h5⟩ := args c
    show Cert.DilSampleRef.pushed2 (m' ((c.tc : Thread Cert.DilProjSampleRefIdeal.nD Cert.DilProjSampleRefIdeal.τ).loc Cert.DilProjSampleRefIdeal.main_arg0)) (m' ((c.tc : Thread Cert.DilProjSampleRefIdeal.nD Cert.DilProjSampleRefIdeal.τ).loc Cert.DilProjSampleRefIdeal.main_arg1)) (m' ((c.tc : Thread Cert.DilProjSampleRefIdeal.nD Cert.DilProjSampleRefIdeal.τ).loc Cert.DilProjSampleRefIdeal.main_arg2)) (m' ((c.tc : Thread Cert.DilProjSampleRefIdeal.nD Cert.DilProjSampleRefIdeal.τ).loc Cert.DilProjSampleRefIdeal.main_arg5)) = _
    rw [h0, h1, h2, h5]

end Cert.DilSampleClaims

end
-- ==== Proof.MlaSampleBlock.lean ====
/-
  The projections of a latent layer at the sample batch: what the kernel's body leaves in its three result blocks, number by number.
-/
module

public import proofs.«01_k».proof.Proof.Gen.MlaProjSampleIdeal.Value
public import proofs.«01_k».proof.Proof.MlaRow
public import Idealize.ShloMosaic.Lib.Pipeline.ValueKit
public import Idealize.ShloMosaic.Lib.Pointwise

@[expose] public section

set_option maxRecDepth 16384

noncomputable section

namespace Cert.MlaSampleBlock

open Cert.MlaProjSampleIdeal Cert.MlaProjSampleIdeal.Gen Cert.PostRow Cert.MlaRow
open Idealize.ShloMosaic Idealize.ShloMosaic.TcCoe Idealize.SL.Sem

section Body

variable (v0 : Vec Ideal S32x1024 .f32) (v1 : Vec Ideal S1x1024 .f32) (w : Vec Ideal S1024x896 .bf16) (r : Fin 32)

/-- The first projection of a normalised row. -/
theorem pay1_at (j : Fin 896) : k0_pay1 v0 v1 w (ix2 r j) = ∑ k, norm (row v0 r) (row v1 0) k * w (ix2 k j) := by
  pointwise [k0_pay1]
  rfl

/-- A latent for the queries. -/
theorem pay2_at (g : Vec Ideal S1x384 .f32) (j : Fin 384) : k0_pay2 v0 v1 w g (ix2 r j)
    = rms (Ideal.ofBits FTy.f32 0x43C00000#32) (times (norm (row v0 r) (row v1 0)) fun k (j : Fin 384) => w (ix2 k ⟨j.val, by omega⟩)) (row g 0) j := by
  pointwise [k0_pay2]
  simp only [pay1_at]
  rfl

/-- A latent for the keys before its normalisation. -/
theorem pay3_at (j : Fin 256) : k0_pay3 v0 v1 w (ix2 r j)
    = times (norm (row v0 r) (row v1 0)) (fun k (j : Fin 256) => w (ix2 k ⟨384 + j.val, by omega⟩)) j := by
  pointwise [k0_pay3]
  simp only [pay1_at]
  rfl

/-- A latent for the keys. -/
theorem pay5_at (g : Vec Ideal S1x256 .f32) (j : Fin 256) : k0_pay5 (k0_pay3 v0 v1 w) g (k0_pay4 v0 v1 w) (ix2 r j)
    = rms (Ideal.ofBits FTy.f32 0x43800000#32) (times (norm (row v0 r) (row v1 0)) fun k (j : Fin 256) => w (ix2 k ⟨384 + j.val, by omega⟩)) (row g 0) j := by
  pointwise [k0_pay5, k0_pay4]
  simp only [pay3_at]
  rfl

/-- A lane of the rotary key. -/
theorem pay6_at (a b : Vec Ideal S32x128 .f32) (j : Fin 32) : k0_pay6 (k0_pay1 v0 v1 w) a b (ix2 r j)
    = (∑ k, norm (row v0 r) (row v1 0) k * w (ix2 k ⟨640 + j.val, by omega⟩)) * a (ix2 r ⟨j.val, by omega⟩)
      + (∑ k, norm (row v0 r) (row v1 0) k * w (ix2 k ⟨768 + j.val, by omega⟩)) * b (ix2 r ⟨j.val, by omega⟩) := by
  pointwise [k0_pay6]
  simp only [pay1_at]

/-- The cosines of four heads. -/
theorem pay7_at (a : Vec Ideal S32x128 .f32) (n : Fin 4) (l : Fin 128) : k0_pay7 a (ix2 r ⟨n.val * 128 + l.val, by omega⟩) = a (ix2 r l) := by
  match n with
  | 0 => pointwise [k0_pay7]
  | 1 => pointwise [k0_pay7]
  | 2 =>
    pointwise [k0_pay7]
    rw [dif_neg (by omega), dif_neg (by omega), dif_pos (by omega)]
    exact congrArg (fun e => a (ix2 r e)) (Fin.ext (by dsimp only; omega))
  | 3 =>
    pointwise [k0_pay7]
    rw [dif_neg (by omega), dif_neg (by omega), dif_neg (by omega)]
    exact congrArg (fun e => a (ix2 r e)) (Fin.ext (by dsimp only; omega))

/-- The queries of four heads. -/
theorem pay9_at (q : FVec Ideal S32x384 .bf16) (a b : Vec Ideal S32x128 .f32) (y z : Vec Ideal S384x512 .bf16) (n : Fin 4) (l : Fin 128) :
    k0_pay9 q a b y z (ix2 r ⟨n.val * 128 + l.val, by omega⟩)
    = (∑ k, q (ix2 r k) * y (ix2 k ⟨n.val * 128 + l.val, by omega⟩)) * a (ix2 r l)
      + (∑ k, q (ix2 r k) * z (ix2 k ⟨n.val * 128 + l.val, by omega⟩)) * b (ix2 r l) := by
  pointwise [k0_pay9]
  rw [pay7_at, show k0_pay8 b = k0_pay7 b from rfl, pay7_at]

variable (x0 : Vec Ideal S32x1024 .f32) (x1 : Vec Ideal S1x1024 .f32) (x2 : Vec Ideal S1024x896 .bf16) (x3 : Vec Ideal S1x384 .f32)
  (x4 x5 : Vec Ideal S384x2048 .bf16) (x6 : Vec Ideal S1x256 .f32) (x7 x8 x9 x10 : Vec Ideal S32x128 .f32)

/-- A row's latents for the queries. -/
abbrev latQ : Fin 384 → EReal :=
  rms (Ideal.ofBits FTy.f32 0x43C00000#32) (times (norm (row x0 r) (row x1 0)) fun k (j : Fin 384) => x2 (ix2 k ⟨j.val, by omega⟩)) (row x3 0)

/-- A row's latents for the keys. -/
abbrev latC : Fin 256 → EReal :=
  rms (Ideal.ofBits FTy.f32 0x43800000#32) (times (norm (row x0 r) (row x1 0)) fun k (j : Fin 256) => x2 (ix2 k ⟨384 + j.val, by omega⟩)) (row x6 0)

/-- A row's rotary key on 128 lanes. -/
abbrev turned (l : Fin 128) : EReal :=
  (∑ k, norm (row x0 r) (row x1 0) k * x2 (ix2 k ⟨640 + l.val, by omega⟩)) * x9 (ix2 r l)
    + (∑ k, norm (row x0 r) (row x1 0) k * x2 (ix2 k ⟨768 + l.val, by omega⟩)) * x10 (ix2 r l)

/-- A latent the cache keeps. -/
theorem latents_at (j : Fin 256) : out0_12 (F := Ideal) x0 x1 x2 x3 x4 x5 x6 x7 x8 x9 x10 (ix2 r j) = latC r x0 x1 x2 x6 j := by
  unfold_out out0_12
  simp (disch := decide) only [View.ld_unit_lit]
  frame_out
  rw [pay5_at]

/-- A rotary key the cache keeps. -/
theorem rotary_at (j : Fin 32) : out0_13 (F := Ideal) x0 x1 x2 x3 x4 x5 x6 x7 x8 x9 x10 (ix2 r j)
    = turned r x0 x1 x2 x9 x10 ⟨j.val, by omega⟩ := by
  unfold_out out0_13
  simp (disch := decide) only [View.ld_unit_lit]
  frame_out
  rw [pay6_at]

/-- A query. -/
theorem queries_at (n : Fin 16) (l : Fin 128) : out0_11 (F := Ideal) x0 x1 x2 x3 x4 x5 x6 x7 x8 x9 x10 (ix2 r ⟨n.val * 128 + l.val, by omega⟩)
    = (∑ k, latQ r x0 x1 x2 x3 k * x4 (ix2 k ⟨n.val * 128 + l.val, by omega⟩)) * x7 (ix2 r l)
      + (∑ k, latQ r x0 x1 x2 x3 k * x5 (ix2 k ⟨n.val * 128 + l.val, by omega⟩)) * x8 (ix2 r l) := by
  unfold_out out0_11
  canon_tiles x hx
  all_goals
    obtain ⟨a, b, rfl⟩ : ∃ a b, x = ix2 a b := ⟨x 0, x 1, eq_ix2 x⟩
    obtain rfl : r = a := Fin.ext hx0
  · obtain ⟨p, hp⟩ : ∃ p : Fin 4, n.val = 12 + p.val := ⟨⟨n.val - 12, by change n.val * 128 + l.val = 1536 + b.val at hx1; omega⟩, by change n.val * 128 + l.val = 1536 + b.val at hx1; dsimp only; omega⟩
    have hb : b = ⟨p.val * 128 + l.val, by omega⟩ := Fin.ext (by change n.val * 128 + l.val = 1536 + b.val at hx1; dsimp only; omega)
    have e (v : Vec Ideal S384x2048 .bf16) (k : Fin 384) : View.ld v r0_14 (ix2 k ⟨p.val * 128 + l.val, by omega⟩) = v (ix2 k ⟨n.val * 128 + l.val, by omega⟩) := by
      pointwise
      exact congrArg (fun e => v (ix2 k e)) (Fin.ext (by dsimp only; omega))
    rw [hb]
    simp (disch := decide) only [View.ld_unit_lit]
    refine (pay9_at r _ _ _ _ _ p l).trans ?_
    simp only [pay2_at]
    exact congrArg₂ (· + ·) (congrArg (· * _) (Finset.sum_congr rfl fun k _ => congrArg (_ * ·) (e x4 k)))
      (congrArg (· * _) (Finset.sum_congr rfl fun k _ => congrArg (_ * ·) (e x5 k)))
  · obtain ⟨p, hp⟩ : ∃ p : Fin 4, n.val = 8 + p.val := ⟨⟨n.val - 8, by change n.val * 128 + l.val = 1024 + b.val at hx1; omega⟩, by change n.val * 128 + l.val = 1024 + b.val at hx1; dsimp only; omega⟩
    have hb : b = ⟨p.val * 128 + l.val, by omega⟩ := Fin.ext (by change n.val * 128 + l.val = 1024 + b.val at hx1; dsimp only; omega)
    have e (v : Vec Ideal S384x2048 .bf16) (k : Fin 384) : View.ld v r0_12 (ix2 k ⟨p.val * 128 + l.val, by omega⟩) = v (ix2 k ⟨n.val * 128 + l.val, by omega⟩) := by
      pointwise
      exact congrArg (fun e => v (ix2 k e)) (Fin.ext (by dsimp only; omega))
    rw [hb]
    simp (disch := decide) only [View.ld_unit_lit]
    refine (pay9_at r _ _ _ _ _ p l).trans ?_
    simp only [pay2_at]
    exact congrArg₂ (· + ·) (congrArg (· * _) (Finset.sum_congr rfl fun k _ => congrArg (_ * ·) (e x4 k)))
      (congrArg (· * _) (Finset.sum_congr rfl fun k _ => congrArg (_ * ·) (e x5 k)))
  · obtain ⟨p, hp⟩ : ∃ p : Fin 4, n.val = 4 + p.val := ⟨⟨n.val - 4, by change n.val * 128 + l.val = 512 + b.val at hx1; omega⟩, by change n.val * 128 + l.val = 512 + b.val at hx1; dsimp only; omega⟩
    have hb : b = ⟨p.val * 128 + l.val, by omega⟩ := Fin.ext (by change n.val * 128 + l.val = 512 + b.val at hx1; dsimp only; omega)
    have e (v : Vec Ideal S384x2048 .bf16) (k : Fin 384) : View.ld v r0_10 (ix2 k ⟨p.val * 128 + l.val, by omega⟩) = v (ix2 k ⟨n.val * 128 + l.val, by omega⟩) := by
      pointwise
      exact congrArg (fun e => v (ix2 k e)) (Fin.ext (by dsimp only; omega))
    rw [hb]
    simp (disch := decide) only [View.ld_unit_lit]
    refine (pay9_at r _ _ _ _ _ p l).trans ?_
    simp only [pay2_at]
    exact congrArg₂ (· + ·) (congrArg (· * _) (Finset.sum_congr rfl fun k _ => congrArg (_ * ·) (e x4 k)))
      (congrArg (· * _) (Finset.sum_congr rfl fun k _ => congrArg (_ * ·) (e x5 k)))
  · obtain ⟨p, hp⟩ : ∃ p : Fin 4, n.val = p.val := ⟨⟨n.val - 0, by change n.val * 128 + l.val = b.val at hx1; omega⟩, by change n.val * 128 + l.val = b.val at hx1; dsimp only; omega⟩
    have hb : b = ⟨p.val * 128 + l.val, by omega⟩ := Fin.ext (by change n.val * 128 + l.val = b.val at hx1; dsimp only; omega)
    have e (v : Vec Ideal S384x2048 .bf16) (k : Fin 384) : View.ld v r0_8 (ix2 k ⟨p.val * 128 + l.val, by omega⟩) = v (ix2 k ⟨n.val * 128 + l.val, by omega⟩) := by
      pointwise
      exact congrArg (fun e => v (ix2 k e)) (Fin.ext (by dsimp only; omega))
    rw [hb]
    simp (disch := decide) only [View.ld_unit_lit]
    refine (pay9_at r _ _ _ _ _ p l).trans ?_
    simp only [pay2_at]
    exact congrArg₂ (· + ·) (congrArg (· * _) (Finset.sum_congr rfl fun k _ => congrArg (_ * ·) (e x4 k)))
      (congrArg (· * _) (Finset.sum_congr rfl fun k _ => congrArg (_ * ·) (e x5 k)))

end Body

end Cert.MlaSampleBlock
-- ==== Proof.MlaSampleRow.lean ====
/-
  The rotation of a rotary part by the angles of the sample batch's position, the one after the past.
-/
module

public import proofs.«01_k».proof.Proof.MlaRow

@[expose] public section

noncomputable section

namespace Cert.MlaSampleRow

open Idealize.ShloMosaic

/-- The angle of a frequency at position 16384. -/
def late (i : Fin 16) : EReal :=
  FloatOps.sitofp (F := Ideal) FTy.f32 16384#32 * Ideal.pow (Ideal.ofBits FTy.f32 0x461C4000#32)
    (Ideal.div (-FloatOps.sitofp (F := Ideal) FTy.f32 (BitVec.ofNat 32 i.val)) (Ideal.ofBits FTy.f32 0x41800000#32))

/-- The first half of a rotary part after its rotation. -/
def turnLow (a b : EReal) (i : Fin 16) : EReal := a * Ideal.cos (late i) - b * Ideal.sin (late i)

/-- The second half of a rotary part after its rotation. -/
def turnHigh (a b : EReal) (i : Fin 16) : EReal := a * Ideal.sin (late i) + b * Ideal.cos (late i)

end Cert.MlaSampleRow
-- ==== Proof.MlaSamplePrep.lean ====
/-
  The projections of a latent layer at the sample batch: the weights and the rotary tables as they are laid out for the kernel.
-/
module

public import proofs.«01_k».proof.Proof.Gen.MlaProjSampleIdeal.Value
public import proofs.«01_k».proof.Proof.MlaTables
public import proofs.«01_k».proof.Proof.MlaSampleRow

@[expose] public section

set_option maxRecDepth 16384

noncomputable section

namespace Cert.MlaSamplePrep

open Cert.MlaProjSampleIdeal Cert.MlaProjSampleIdeal.Gen
open Cert.MlaPrep (first query querySwapped)
open Idealize.ShloMosaic Idealize.ShloMosaic.TcCoe Idealize.SL.Sem

/-- The angle of a frequency, row by row. -/
def angle : FVec Ideal S32x16 .f32 :=
  mulf (broadcastInDim S32x16 ![0, 1] bcast_S32x1_S32x16_0_1 (broadcastInDim S32x1 ![0] bcast_S32_S32x1_0 (sitofp .f32 (broadcastInDim S32 ![] bcast_S_S32 (constantI S_ 32 16384#32)))))
    (broadcastInDim S32x16 ![0, 1] bcast_S1x16_S32x16_0_1 (broadcastInDim S1x16 ![1] bcast_S16_S1x16_1
      (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

/-- Zeros on the spare lanes. -/
def spare : FVec Ideal S32x32 .f32 := broadcastInDim S32x32 ![] bcast_S_S32x32 (constant S_ .f32 0x00000000#32)

/-- The queries' table of cosines, scaled. -/
def cosQ : FVec Ideal S32x128 .f32 :=
  mulf (concatenate S32x128 1 [⟨S32x64, broadcastInDim S32x64 ![] bcast_S_S32x64 (constant S_ .f32 0x3F800000#32)⟩, ⟨S32x16, Host.cos angle⟩, ⟨S32x16, Host.cos angle⟩, ⟨S32x32, spare⟩] concatenates_S32x64_S32x16_S32x16_S32x32_S32x128_d1)
    (broadcastInDim S32x128 ![] bcast_S_S32x128 (constant S_ .f32 0x3DD105EC#32))

/-- The queries' table of sines, scaled. -/
def sinQ : FVec Ideal S32x128 .f32 :=
  mulf (concatenate S32x128 1 [⟨S32x64, broadcastInDim S32x64 ![] bcast_S_S32x64 (constant S_ .f32 0x00000000#32)⟩, ⟨S32x16, Host.negf (Host.sin angle)⟩, ⟨S32x16, Host.sin angle⟩, ⟨S32x32, spare⟩] concatenates_S32x64_S32x16_S32x16_S32x32_S32x128_d1)
    (broadcastInDim S32x128 ![] bcast_S_S32x128 (constant S_ .f32 0x3DD105EC#32))

/-- The keys' table of cosines. -/
def cosK : FVec Ideal S32x128 .f32 :=
  concatenate S32x128 1 [⟨S32x16, Host.cos angle⟩, ⟨S32x16, Host.cos angle⟩, ⟨S32x96, broadcastInDim S32x96 ![] bcast_S_S32x96 (constant S_ .f32 0x00000000#32)⟩] concatenates_S32x16_S32x16_S32x96_S32x128_d1

/-- The keys' table of sines. -/
def sinK : FVec Ideal S32x128 .f32 :=
  concatenate S32x128 1 [⟨S32x16, Host.negf (Host.sin angle)⟩, ⟨S32x16, Host.sin angle⟩, ⟨S32x96, broadcastInDim S32x96 ![] bcast_S_S32x96 (constant S_ .f32 0x00000000#32)⟩] concatenates_S32x16_S32x16_S32x96_S32x128_d1

variable (m : (ℓ : Loc nD τ sig) → Buf (Elt Ideal) ℓ) (c : Dev nD)

/-- The first projection, as the kernel finds it. -/
theorem entry_v8 : V m c main_v8 = first (m ((c.tc : Thread nD τ).loc main_arg2)) (m ((c.tc : Thread nD τ).loc main_arg5)) := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results_simp <;> (try dsimp only [Matrix.cons_val]) <;> (try after_results_simp) <;> rfl

/-- The queries' second projection, as the kernel finds it. -/
theorem entry_v12 : V m c main_v12 = query (m ((c.tc : Thread nD τ).loc main_arg4)) := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results_simp <;> (try dsimp only [Matrix.cons_val]) <;> (try after_results_simp) <;> rfl

/-- The queries' exchanged rotary columns, as the kernel finds them. -/
theorem entry_v20 : V m c main_v20 = querySwapped (m ((c.tc : Thread nD τ).loc main_arg4)) := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results_simp <;> (try dsimp only [Matrix.cons_val]) <;> (try after_results_simp) <;> rfl

/-- The queries' table of cosines, as the kernel finds it. -/
theorem entry_v40 : V m c main_v40 = cosQ := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results_simp <;> (try dsimp only [Matrix.cons_val]) <;> (try after_results_simp) <;> rfl

/-- The queries' table of sines, as the kernel finds it. -/
theorem entry_v45 : V m c main_v45 = sinQ := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results_simp <;> (try dsimp only [Matrix.cons_val]) <;> (try after_results_simp) <;> rfl

/-- The keys' table of cosines, as the kernel finds it. -/
theorem entry_v47 : V m c main_v47 = cosK := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results_simp <;> (try dsimp only [Matrix.cons_val]) <;> (try after_results_simp) <;> rfl

/-- The keys' table of sines, as the kernel finds it. -/
theorem entry_v49 : V m c main_v49 = sinK := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results_simp <;> (try dsimp only [Matrix.cons_val]) <;> (try after_results_simp) <;> rfl

end Cert.MlaSamplePrep
-- ==== Proof.MlaSampleTables.lean ====
/-
  The projections of a latent layer at the sample batch: the numbers of the rotary tables, lane by lane.
-/
module

public import proofs.«01_k».proof.Proof.MlaSamplePrep

@[expose] public section

set_option maxRecDepth 16384

noncomputable section

namespace Cert.MlaSamplePrep

open Cert.MlaProjSampleIdeal Cert.MlaProjSampleIdeal.Gen Cert.MlaSampleRow
open Cert.MlaPrep (scale)
open Idealize.ShloMosaic

variable (s : Fin 32)

/-- An angle. -/
theorem angle_at (i : Fin 16) : angle (ix2 s i) = late i := by
  pointwise [angle]
  rfl

/-- The keys' cosines, first half. -/
theorem cosK_low (i : Fin 16) : cosK (ix2 s ⟨i.val, by omega⟩) = Ideal.cos (late i) := by
  pointwise [cosK]
  rw [angle_at]

/-- The keys' cosines, second half. -/
theorem cosK_high (i : Fin 16) : cosK (ix2 s ⟨16 + i.val, by omega⟩) = Ideal.cos (late i) := by
  pointwise [cosK]
  rw [angle_at]

/-- The keys' cosines, elsewhere. -/
theorem cosK_rest (i : Fin 96) : cosK (ix2 s ⟨32 + i.val, by omega⟩) = 0 := by
  pointwise [cosK]
  rw [dif_neg (by omega), dif_neg (by omega)]

/-- The keys' sines, first half. -/
theorem sinK_low (i : Fin 16) : sinK (ix2 s ⟨i.val, by omega⟩) = -Ideal.sin (late i) := by
  pointwise [sinK]
  rw [angle_at]

/-- The keys' sines, second half. -/
theorem sinK_high (i : Fin 16) : sinK (ix2 s ⟨16 + i.val, by omega⟩) = Ideal.sin (late i) := by
  pointwise [sinK]
  rw [angle_at]

/-- The keys' sines, elsewhere. -/
theorem sinK_rest (i : Fin 96) : sinK (ix2 s ⟨32 + i.val, by omega⟩) = 0 := by
  pointwise [sinK]
  rw [dif_neg (by omega), dif_neg (by omega)]

/-- The queries' cosines on the first lanes. -/
theorem cosQ_first (l : Fin 64) : cosQ (ix2 s ⟨l.val, by omega⟩) = scale := by
  pointwise [cosQ]

/-- The queries' cosines, first half. -/
theorem cosQ_low (i : Fin 16) : cosQ (ix2 s ⟨64 + i.val, by omega⟩) = Ideal.cos (late i) * scale := by
  pointwise [cosQ]
  rw [angle_at]

/-- The queries' cosines, second half. -/
theorem cosQ_high (i : Fin 16) : cosQ (ix2 s ⟨80 + i.val, by omega⟩) = Ideal.cos (late i) * scale := by
  have e : (⟨80 + i.val - 64 - 16, by omega⟩ : Fin 16) = i := Fin.ext (by dsimp only; omega)
  pointwise [cosQ]
  rw [dif_neg (by omega), dif_neg (by omega), dif_pos (by omega), e, angle_at]

/-- The queries' cosines on the spare lanes. -/
theorem cosQ_spare (i : Fin 32) : cosQ (ix2 s ⟨96 + i.val, by omega⟩) = 0 := by
  pointwise [cosQ, spare]
  rw [dif_neg (by omega), dif_neg (by omega), dif_neg (by omega), zero_mul]

/-- The queries' sines on the first lanes. -/
theorem sinQ_first (l : Fin 64) : sinQ (ix2 s ⟨l.val, by omega⟩) = 0 := by
  pointwise [sinQ]
  rw [zero_mul]

/-- The queries' sines, first half. -/
theorem sinQ_low (i : Fin 16) : sinQ (ix2 s ⟨64 + i.val, by omega⟩) = -Ideal.sin (late i) * scale := by
  pointwise [sinQ]
  rw [angle_at]

/-- The queries' sines, second half. -/
theorem sinQ_high (i : Fin 16) : sinQ (ix2 s ⟨80 + i.val, by omega⟩) = Ideal.sin (late i) * scale := by
  have e : (⟨80 + i.val - 64 - 16, by omega⟩ : Fin 16) = i := Fin.ext (by dsimp only; omega)
  pointwise [sinQ]
  rw [dif_neg (by omega), dif_neg (by omega), dif_pos (by omega), e, angle_at]

/-- The queries' sines on the spare lanes. -/
theorem sinQ_spare (i : Fin 32) : sinQ (ix2 s ⟨96 + i.val, by omega⟩) = 0 := by
  pointwise [sinQ, spare]
  rw [dif_neg (by omega), dif_neg (by omega), dif_neg (by omega), zero_mul]

end Cert.MlaSamplePrep
-- ==== Proof.MlaSampleRef.lean ====
/-
  The projections of a latent layer at the sample batch: the reference, row by row.
-/
module

public import proofs.«01_k».proof.Proof.Gen.MlaProjSampleRefIdeal.Run
public import proofs.«01_k».proof.Proof.MlaSampleRow

@[expose] public section

set_option maxRecDepth 16384

noncomputable section

namespace Cert.MlaSampleRef

open Cert.MlaProjSampleRefIdeal Cert.MlaProjSampleRefIdeal.Gen Cert.PostRow Cert.MlaSampleRow
open Cert.MlaRow (rms times)
open Idealize.ShloMosaic Idealize.ShloMosaic.TcCoe Idealize.SL.Sem

variable (x : FVec Ideal S32x1024 .f32) (g : FVec Ideal S1x1024 .f32) (wdq : FVec Ideal S1024x384 .f32) (gq : FVec Ideal S1x384 .f32)
  (wuq : FVec Ideal S384x1536 .f32) (wdkv : FVec Ideal S1024x288 .f32) (gkv : FVec Ideal S1x256 .f32)

/-- The normalised rows, one position each. -/
def hidden : FVec Ideal S32x1x1024 .f32 :=
  shapeCast _ (mulf (mulf x (broadcastInDim S32x1024 ![0, 1] bcast_S32x1_S32x1024_0_1 (Host.rsqrt (addf (Host.divf (broadcastInDim S32x1 ![0] bcast_S32_S32x1_0 (Host.reduceAdd (mulf x x) (constant S_ .f32 0x00000000#32) reducesTo_S32x1024_S32_d1 h_S_)) (broadcastInDim S32x1 ![] bcast_S_S32x1 (constant S_ .f32 0x44800000#32))) (broadcastInDim S32x1 ![] bcast_S_S32x1 (constant S_ .f32 0x358637BD#32)))))) (broadcastInDim S32x1024 ![0, 1] bcast_S1x1024_S32x1024_0_1 g)) shapeCasts_S32x1024_S32x1x1024

/-- The small number under the roots. -/
def eps : FVec Ideal S32x1x1 .f32 := broadcastInDim S32x1x1 ![] bcast_S_S32x1x1 (constant S_ .f32 0x358637BD#32)

/-- The queries' latents before their normalisation. -/
def downQ : FVec Ideal S32x1x384 .f32 := Host.dotGeneral dot_S32x1x1024_S1024x384_S32x1x384_2_0_01_1_n_n none (hidden x g) wdq

/-- The keys' latents before their normalisation, with the rotary columns. -/
def downKV : FVec Ideal S32x1x288 .f32 := Host.dotGeneral dot_S32x1x1024_S1024x288_S32x1x288_2_0_01_1_n_n none (hidden x g) wdkv

/-- The queries' latents. -/
def latQ : FVec Ideal S32x1x384 .f32 :=
  mulf (mulf (downQ x g wdq) (broadcastInDim S32x1x384 ![0, 1, 2] bcast_S32x1x1_S32x1x384_0_1_2 (Host.rsqrt (addf (Host.divf (broadcastInDim S32x1x1 ![0, 1] bcast_S32x1_S32x1x1_0_1 (Host.reduceAdd (mulf (downQ x g wdq) (downQ x g wdq)) (constant S_ .f32 0x00000000#32) reducesTo_S32x1x384_S32x1_d2 h_S_)) (broadcastInDim S32x1x1 ![] bcast_S_S32x1x1 (constant S_ .f32 0x43C00000#32))) eps)))) (broadcastInDim S32x1x384 ![0, 1, 2] bcast_S1x1x384_S32x1x384_0_1_2 (broadcastInDim S1x1x384 ![1, 2] bcast_S1x384_S1x1x384_1_2 gq))

/-- The queries, head by head. -/
def heads : FVec Ideal S32x1x16x96 .f32 :=
  shapeCast _ (Host.dotGeneral dot_S32x1x384_S384x1536_S32x1x1536_2_0_01_1_n_n none (latQ x g wdq gq) wuq) shapeCasts_S32x1x1536_S32x1x16x96

/-- The keys' latents before their normalisation, alone. -/
def downC : FVec Ideal S32x1x256 .f32 := extractStridedSlice S32x1x256 ![0, 0, 0] (downKV x g wdkv) slices_S32x1x288_S32x1x256_0_0_0

/-- The keys' latents. -/
def latC : FVec Ideal S32x1x256 .f32 :=
  mulf (mulf (downC x g wdkv) (broadcastInDim S32x1x256 ![0, 1, 2] bcast_S32x1x1_S32x1x256_0_1_2 (Host.rsqrt (addf (Host.divf (broadcastInDim S32x1x1 ![0, 1] bcast_S32x1_S32x1x1_0_1 (Host.reduceAdd (mulf (downC x g wdkv) (downC x g wdkv)) (constant S_ .f32 0x00000000#32) reducesTo_S32x1x256_S32x1_d2 h_S_)) (broadcastInDim S32x1x1 ![] bcast_S_S32x1x1 (constant S_ .f32 0x43800000#32))) eps)))) (broadcastInDim S32x1x256 ![0, 1, 2] bcast_S1x1x256_S32x1x256_0_1_2 (broadcastInDim S1x1x256 ![1, 2] bcast_S1x256_S1x1x256_1_2 gkv))

/-- The position after the past. -/
def position : IVec S1 32 := addi (broadcastInDim S1 ![] bcast_S_S1 (constantI S_ 32 16384#32)) (iotaInDim S1 32 0)

/-- The angle of a frequency. -/
def angle : FVec Ideal S1x16 .f32 :=
  mulf (broadcastInDim S1x16 ![0, 1] bcast_S1x1_S1x16_0_1 (broadcastInDim S1x1 ![0] bcast_S1_S1x1_0 (sitofp .f32 position))) (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))))

/-- The cosines, for every row and head. -/
def cosines : FVec Ideal S1x1x1x16 .f32 := broadcastInDim S1x1x1x16 ![1, 3] bcast_S1x16_S1x1x1x16_1_3 (Host.cos angle)

/-- The sines, for every row and head. -/
def sines : FVec Ideal S1x1x1x16 .f32 := broadcastInDim S1x1x1x16 ![1, 3] bcast_S1x16_S1x1x1x16_1_3 (Host.sin angle)

/-- The rotary columns of the keys. -/
def partK : FVec Ideal S32x1x1x32 .f32 := broadcastInDim S32x1x1x32 ![0, 1, 3] bcast_S32x1x32_S32x1x1x32_0_1_3 (extractStridedSlice S32x1x32 ![0, 0, 256] (downKV x g wdkv) slices_S32x1x288_S32x1x32_0_0_256)

/-- The first half of the keys' rotary columns. -/
def lowK : FVec Ideal S32x1x1x16 .f32 := extractStridedSlice S32x1x1x16 ![0, 0, 0, 0] (partK x g wdkv) slices_S32x1x1x32_S32x1x1x16_0_0_0_0

/-- The second half of the keys' rotary columns. -/
def highK : FVec Ideal S32x1x1x16 .f32 := extractStridedSlice S32x1x1x16 ![0, 0, 0, 16] (partK x g wdkv) slices_S32x1x1x32_S32x1x1x16_0_0_0_16

/-- The rotary keys. -/
def turnedK : FVec Ideal S32x1x1x32 .f32 :=
  concatenate S32x1x1x32 3 [⟨S32x1x1x16, subf (mulf (lowK x g wdkv) (broadcastInDim S32x1x1x16 ![0, 1, 2, 3] bcast_S1x1x1x16_S32x1x1x16_0_1_2_3 cosines)) (mulf (highK x g wdkv) (broadcastInDim S32x1x1x16 ![0, 1, 2, 3] bcast_S1x1x1x16_S32x1x1x16_0_1_2_3 sines))⟩, ⟨S32x1x1x16, addf (mulf (lowK x g wdkv) (broadcastInDim S32x1x1x16 ![0, 1, 2, 3] bcast_S1x1x1x16_S32x1x1x16_0_1_2_3 sines)) (mulf (highK x g wdkv) (broadcastInDim S32x1x1x16 ![0, 1, 2, 3] bcast_S1x1x1x16_S32x1x1x16_0_1_2_3 cosines))⟩] concatenates_S32x1x1x16_S32x1x1x16_S32x1x1x32_d3

/-- The rotary part of the queries. -/
def partQ : FVec Ideal S32x1x16x32 .f32 := extractStridedSlice S32x1x16x32 ![0, 0, 0, 64] (heads x g wdq gq wuq) slices_S32x1x16x96_S32x1x16x32_0_0_0_64

/-- The first half of the queries' rotary part. -/
def lowQ : FVec Ideal S32x1x16x16 .f32 := extractStridedSlice S32x1x16x16 ![0, 0, 0, 0] (partQ x g wdq gq wuq) slices_S32x1x16x32_S32x1x16x16_0_0_0_0

/-- The second half of the queries' rotary part. -/
def highQ : FVec Ideal S32x1x16x16 .f32 := extractStridedSlice S32x1x16x16 ![0, 0, 0, 16] (partQ x g wdq gq wuq) slices_S32x1x16x32_S32x1x16x16_0_0_0_16

/-- The rotated part of the queries. -/
def turnedQ : FVec Ideal S32x1x16x32 .f32 :=
  concatenate S32x1x16x32 3 [⟨S32x1x16x16, subf (mulf (lowQ x g wdq gq wuq) (broadcastInDim S32x1x16x16 ![0, 1, 2, 3] bcast_S1x1x1x16_S32x1x16x16_0_1_2_3 cosines)) (mulf (highQ x g wdq gq wuq) (broadcastInDim S32x1x16x16 ![0, 1, 2, 3] bcast_S1x1x1x16_S32x1x16x16_0_1_2_3 sines))⟩, ⟨S32x1x16x16, addf (mulf (lowQ x g wdq gq wuq) (broadcastInDim S32x1x16x16 ![0, 1, 2, 3] bcast_S1x1x1x16_S32x1x16x16_0_1_2_3 sines)) (mulf (highQ x g wdq gq wuq) (broadcastInDim S32x1x16x16 ![0, 1, 2, 3] bcast_S1x1x1x16_S32x1x16x16_0_1_2_3 cosines))⟩] concatenates_S32x1x16x16_S32x1x16x16_S32x1x16x32_d3

/-- Zeros on the spare lanes. -/
def spare : FVec Ideal S32x1x16x32 .f32 := broadcastInDim S32x1x16x32 ![] bcast_S_S32x1x16x32 (constant S_ .f32 0x00000000#32)

/-- The scaled queries, head by head. -/
def rowsQ : FVec Ideal S32x1x16x128 .f32 :=
  mulf (concatenate S32x1x16x128 3 [⟨S32x1x16x64, extractStridedSlice S32x1x16x64 ![0, 0, 0, 0] (heads x g wdq gq wuq) slices_S32x1x16x96_S32x1x16x64_0_0_0_0⟩, ⟨S32x1x16x32, turnedQ x g wdq gq wuq⟩, ⟨S32x1x16x32, spare⟩] concatenates_S32x1x16x64_S32x1x16x32_S32x1x16x32_S32x1x16x128_d3) (broadcastInDim S32x1x16x128 ![] bcast_S_S32x1x16x128 (constant S_ .f32 0x3DD105EC#32))

/-- The scaled queries. -/
def queries : FVec Ideal S32x2048 .bf16 :=
  truncf .bf16 (shapeCast S32x2048 (rowsQ x g wdq gq wuq) shapeCasts_S32x1x16x128_S32x2048) bitsLt_bf16_f32

/-- The latents the cache keeps. -/
def latents : FVec Ideal S32x256 .f32 := shapeCast S32x256 (latC x g wdkv gkv) shapeCasts_S32x1x256_S32x256

/-- The rotary keys the cache keeps. -/
def rotary : FVec Ideal S32x32 .f32 := shapeCast S32x32 (turnedK x g wdkv) shapeCasts_S32x1x1x32_S32x32

/-- A row's normalised numbers. -/
abbrev H (R : Fin 32) : Fin 1024 → EReal := norm (row x R) (row g 0)

/-- A row's latents for the queries. -/
abbrev Q (R : Fin 32) : Fin 384 → EReal := rms (Ideal.ofBits FTy.f32 0x43C00000#32) (times (H x g R) (row wdq)) (row gq 0)

/-- A row's latents for the keys. -/
abbrev C (R : Fin 32) : Fin 256 → EReal :=
  rms (Ideal.ofBits FTy.f32 0x43800000#32) (times (H x g R) fun k (j : Fin 256) => wdkv (ix2 k ⟨j.val, by omega⟩)) (row gkv 0)

/-- A row's rotary columns before the rotation. -/
abbrev P (R : Fin 32) (j : Fin 32) : EReal := ∑ k, H x g R k * wdkv (ix2 k ⟨256 + j.val, by omega⟩)

/-- A head's column of a row's queries. -/
abbrev U (R : Fin 32) (n : Fin 16) (l : Fin 96) : EReal := ∑ k, Q x g wdq gq R k * wuq (ix2 k ⟨n.val * 96 + l.val, by omega⟩)

variable (R : Fin 32) (a : Fin 1)

/-- A normalised number. -/
theorem hidden_at (k : Fin 1024) : hidden x g (ix3 R a k) = H x g R k := by
  pointwise [hidden]
  rfl

/-- A query's latent before its normalisation. -/
theorem downQ_at (j : Fin 384) : downQ x g wdq (ix3 R a j) = times (H x g R) (row wdq) j := by
  pointwise [downQ]
  simp only [hidden_at]
  rfl

/-- A key's latent or rotary column before its normalisation. -/
theorem downKV_at (j : Fin 288) : downKV x g wdkv (ix3 R a j) = ∑ k, H x g R k * wdkv (ix2 k j) := by
  pointwise [downKV]
  simp only [hidden_at]

/-- A query's latent. -/
theorem latQ_at (j : Fin 384) : latQ x g wdq gq (ix3 R a j) = Q x g wdq gq R j := by
  pointwise [latQ, eps]
  simp only [downQ_at]
  rfl

/-- A key's latent. -/
theorem latC_at (j : Fin 256) : latC x g wdkv gkv (ix3 R a j) = C x g wdkv gkv R j := by
  pointwise [latC, eps, downC]
  simp only [downKV_at]
  rfl

/-- A query's number, head by head. -/
theorem heads_at (n : Fin 16) (l : Fin 96) : heads x g wdq gq wuq (ix4 R a n l) = U x g wdq gq wuq R n l := by
  pointwise [heads]
  simp only [latQ_at]

/-- An angle. -/
theorem angle_at (i : Fin 16) : angle (ix2 a i) = late i := by
  pointwise [angle]
  rfl

/-- The first half of a rotary key. -/
theorem turnedK_low (i : Fin 16) : turnedK x g wdkv (ix4 R a 0 ⟨i.val, by omega⟩)
    = turnLow (P x g wdkv R ⟨i.val, by omega⟩) (P x g wdkv R ⟨16 + i.val, by omega⟩) i := by
  pointwise [turnedK, lowK, highK, partK, cosines, sines]
  simp only [angle_at, downKV_at]
  rfl

/-- The second half of a rotary key. -/
theorem turnedK_high (i : Fin 16) : turnedK x g wdkv (ix4 R a 0 ⟨16 + i.val, by omega⟩)
    = turnHigh (P x g wdkv R ⟨i.val, by omega⟩) (P x g wdkv R ⟨16 + i.val, by omega⟩) i := by
  pointwise [turnedK, lowK, highK, partK, cosines, sines]
  simp only [angle_at, downKV_at]
  rfl

/-- The first half of the rotary part of a query. -/
theorem turnedQ_low (n i : Fin 16) : turnedQ x g wdq gq wuq (ix4 R a n ⟨i.val, by omega⟩)
    = turnLow (U x g wdq gq wuq R n ⟨64 + i.val, by omega⟩) (U x g wdq gq wuq R n ⟨80 + i.val, by omega⟩) i := by
  have e : (⟨64 + (16 + i.val), by omega⟩ : Fin 96) = ⟨80 + i.val, by omega⟩ := Fin.ext (by dsimp only; omega)
  pointwise [turnedQ, lowQ, highQ, partQ, cosines, sines]
  simp only [angle_at, heads_at]
  rw [e]
  rfl

/-- The second half of the rotary part of a query. -/
theorem turnedQ_high (n i : Fin 16) : turnedQ x g wdq gq wuq (ix4 R a n ⟨16 + i.val, by omega⟩)
    = turnHigh (U x g wdq gq wuq R n ⟨64 + i.val, by omega⟩) (U x g wdq gq wuq R n ⟨80 + i.val, by omega⟩) i := by
  have e : (⟨64 + (16 + i.val), by omega⟩ : Fin 96) = ⟨80 + i.val, by omega⟩ := Fin.ext (by dsimp only; omega)
  pointwise [turnedQ, lowQ, highQ, partQ, cosines, sines]
  simp only [angle_at, heads_at]
  rw [e]
  rfl

/-- A latent. -/
theorem latents_at (j : Fin 256) : latents x g wdkv gkv (ix2 R j) = C x g wdkv gkv R j := by
  pointwise [latents]
  rw [latC_at]

/-- The first half of a rotary key. -/
theorem rotary_low (i : Fin 16) : rotary x g wdkv (ix2 R ⟨i.val, by omega⟩)
    = turnLow (P x g wdkv R ⟨i.val, by omega⟩) (P x g wdkv R ⟨16 + i.val, by omega⟩) i := by
  pointwise [rotary]
  rw [turnedK_low]

/-- The second half of a rotary key. -/
theorem rotary_high (i : Fin 16) : rotary x g wdkv (ix2 R ⟨16 + i.val, by omega⟩)
    = turnHigh (P x g wdkv R ⟨i.val, by omega⟩) (P x g wdkv R ⟨16 + i.val, by omega⟩) i := by
  pointwise [rotary]
  rw [turnedK_high]

/-- A query's number is its head's at its lane. -/
theorem queries_at (n : Fin 16) (l : Fin 128) : queries x g wdq gq wuq (ix2 R ⟨n.val * 128 + l.val, by omega⟩)
    = rowsQ x g wdq gq wuq (ix4 R 0 n l) := by
  pointwise [queries]

/-- A query's first lanes. -/
theorem queries_first (n : Fin 16) (l : Fin 64) : rowsQ x g wdq gq wuq (ix4 R 0 n ⟨l.val, by omega⟩)
    = U x g wdq gq wuq R n ⟨l.val, by omega⟩ * Ideal.ofBits FTy.f32 0x3DD105EC#32 := by
  pointwise [rowsQ]
  simp only [heads_at]

/-- The first half of a query's rotary lanes. -/
theorem queries_low (n i : Fin 16) : rowsQ x g wdq gq wuq (ix4 R 0 n ⟨64 + i.val, by omega⟩)
    = turnLow (U x g wdq gq wuq R n ⟨64 + i.val, by omega⟩) (U x g wdq gq wuq R n ⟨80 + i.val, by omega⟩) i * Ideal.ofBits FTy.f32 0x3DD105EC#32 := by
  pointwise [rowsQ]
  rw [dif_pos (by omega), turnedQ_low]

/-- The second half of a query's rotary lanes. -/
theorem queries_high (n i : Fin 16) : rowsQ x g wdq gq wuq (ix4 R 0 n ⟨80 + i.val, by omega⟩)
    = turnHigh (U x g wdq gq wuq R n ⟨64 + i.val, by omega⟩) (U x g wdq gq wuq R n ⟨80 + i.val, by omega⟩) i * Ideal.ofBits FTy.f32 0x3DD105EC#32 := by
  have e : (⟨80 + i.val - 64, by omega⟩ : Fin 32) = ⟨16 + i.val, by omega⟩ := Fin.ext (by dsimp only; omega)
  pointwise [rowsQ]
  rw [dif_neg (by omega), dif_pos (by omega), e, turnedQ_high]

/-- A query's spare lanes. -/
theorem queries_spare (n : Fin 16) (i : Fin 32) : rowsQ x g wdq gq wuq (ix4 R 0 n ⟨96 + i.val, by omega⟩) = 0 := by
  pointwise [rowsQ, spare]
  rw [dif_neg (by omega), dif_neg (by omega), zero_mul]

end Cert.MlaSampleRef
-- ==== Proof.MlaSampleValue.lean ====
/-
  The projections of a latent layer at the sample batch: the kernel's result arrays after the run are the reference's.
-/
module

public import proofs.«01_k».proof.Proof.MlaSampleBlock
public import proofs.«01_k».proof.Proof.MlaSampleTables
public import proofs.«01_k».proof.Proof.MlaSampleRef

@[expose] public section

set_option maxRecDepth 16384

noncomputable section

namespace Cert.MlaSampleValue

open Cert.MlaProjSampleIdeal Cert.MlaProjSampleIdeal.Gen Cert.PostRow Cert.MlaSampleRow Cert.MlaSamplePrep
open Cert.MlaRow (halves lanes wide)
open Cert.MlaPrep (first query querySwapped first_queries first_keys first_turn first_low first_high query_at swapped_low swapped_high scale_real)
open Idealize.ShloMosaic Idealize.ShloMosaic.TcCoe Idealize.SL.Sem

variable (m : (ℓ : Loc nD τ sig) → Buf (Elt Ideal) ℓ) (c : Dev nD)

/-- The windows' blocks at a grid point. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] :=
  (by decide +kernel : ∀ t : Fin grid0.N, _)

section Blocks

variable (t : Fin cfg0.N) (r : Fin 32)

/-- A row of the activations' block is a row of the array. -/
theorem rows : row (iblk m c 0 t) r = row (m ((c.tc : Thread nD τ).loc main_arg0)) r :=
  funext fun k => by blk_ext [row, iblk, V, idx t]

/-- The first normalisation's weights' block is the whole array. -/
theorem mixing : row (iblk m c 1 t) 0 = row (m ((c.tc : Thread nD τ).loc main_arg1)) 0 :=
  funext fun k => by blk_ext [row, iblk, V, idx t]

/-- The first projection's block is the whole array. -/
theorem columns (k : Fin 1024) (j : Fin 896) : iblk m c 2 t (ix2 k j) = first (m ((c.tc : Thread nD τ).loc main_arg2)) (m ((c.tc : Thread nD τ).loc main_arg5)) (ix2 k j) := by
  rw [← entry_v8]
  blk_ext [iblk, idx t]

/-- The queries' normalisation's weights' block is the whole array. -/
theorem weightsQ : row (iblk m c 3 t) 0 = row (m ((c.tc : Thread nD τ).loc main_arg3)) 0 :=
  funext fun k => by blk_ext [row, iblk, V, idx t]

/-- The queries' projection's block is the whole array. -/
theorem columnsQ (k : Fin 384) (j : Fin 2048) : iblk m c 4 t (ix2 k j) = query (m ((c.tc : Thread nD τ).loc main_arg4)) (ix2 k j) := by
  rw [← entry_v12]
  blk_ext [iblk, idx t]

/-- The exchanged queries' projection's block is the whole array. -/
theorem columnsS (k : Fin 384) (j : Fin 2048) : iblk m c 5 t (ix2 k j) = querySwapped (m ((c.tc : Thread nD τ).loc main_arg4)) (ix2 k j) := by
  rw [← entry_v20]
  blk_ext [iblk, idx t]

/-- The keys' normalisation's weights' block is the whole array. -/
theorem weightsK : row (iblk m c 6 t) 0 = row (m ((c.tc : Thread nD τ).loc main_arg6)) 0 :=
  funext fun k => by blk_ext [row, iblk, V, idx t]

/-- The queries' cosines of a row are its position's. -/
theorem tableCQ (l : Fin 128) : iblk m c 7 t (ix2 r l) = cosQ (ix2 r l) := by
  rw [← entry_v40 m c]
  blk_ext [iblk, idx t]

/-- The queries' sines of a row are its position's. -/
theorem tableSQ (l : Fin 128) : iblk m c 8 t (ix2 r l) = sinQ (ix2 r l) := by
  rw [← entry_v45 m c]
  blk_ext [iblk, idx t]

/-- The keys' cosines of a row are its position's. -/
theorem tableCK (l : Fin 128) : iblk m c 9 t (ix2 r l) = cosK (ix2 r l) := by
  rw [← entry_v47 m c]
  blk_ext [iblk, idx t]

/-- The keys' sines of a row are its position's. -/
theorem tableSK (l : Fin 128) : iblk m c 10 t (ix2 r l) = sinK (ix2 r l) := by
  rw [← entry_v49 m c]
  blk_ext [iblk, idx t]

end Blocks

section Rows

variable (t : Fin cfg0.N) (r : Fin 32)

/-- A block's latents for the keys are the reference's. -/
theorem latC_eq : MlaSampleBlock.latC r (iblk m c 0 t) (iblk m c 1 t) (iblk m c 2 t) (iblk m c 6 t)
    = MlaSampleRef.C (m ((c.tc : Thread nD τ).loc main_arg0)) (m ((c.tc : Thread nD τ).loc main_arg1)) (m ((c.tc : Thread nD τ).loc main_arg5)) (m ((c.tc : Thread nD τ).loc main_arg6)) r := by
  unfold MlaSampleBlock.latC MlaSampleRef.C
  rw [rows, mixing, weightsK]
  simp only [columns, first_keys]

/-- A block's latents for the queries are the reference's. -/
theorem latQ_eq : MlaSampleBlock.latQ r (iblk m c 0 t) (iblk m c 1 t) (iblk m c 2 t) (iblk m c 3 t)
    = MlaSampleRef.Q (m ((c.tc : Thread nD τ).loc main_arg0)) (m ((c.tc : Thread nD τ).loc main_arg1)) (m ((c.tc : Thread nD τ).loc main_arg2)) (m ((c.tc : Thread nD τ).loc main_arg3)) r := by
  unfold MlaSampleBlock.latQ MlaSampleRef.Q
  rw [rows, mixing, weightsQ]
  simp only [columns, first_queries]

/-- A block's rotary key, first half. -/
theorem turned_low (i : Fin 16) : MlaSampleBlock.turned r (iblk m c 0 t) (iblk m c 1 t) (iblk m c 2 t) (iblk m c 9 t) (iblk m c 10 t) ⟨i.val, by omega⟩
    = turnLow (MlaSampleRef.P (m ((c.tc : Thread nD τ).loc main_arg0)) (m ((c.tc : Thread nD τ).loc main_arg1)) (m ((c.tc : Thread nD τ).loc main_arg5)) r ⟨i.val, by omega⟩)
        (MlaSampleRef.P (m ((c.tc : Thread nD τ).loc main_arg0)) (m ((c.tc : Thread nD τ).loc main_arg1)) (m ((c.tc : Thread nD τ).loc main_arg5)) r ⟨16 + i.val, by omega⟩) i := by
  unfold MlaSampleBlock.turned turnLow MlaSampleRef.P
  rw [rows, mixing, tableCK, tableSK, cosK_low, sinK_low]
  simp only [columns, first_low]
  simp only [fun k => first_turn (m ((c.tc : Thread nD τ).loc main_arg2)) (m ((c.tc : Thread nD τ).loc main_arg5)) k ⟨i.val, by omega⟩]
  rw [mul_neg, sub_eq_add_neg]

/-- A block's rotary key, second half. -/
theorem turned_high (i : Fin 16) : MlaSampleBlock.turned r (iblk m c 0 t) (iblk m c 1 t) (iblk m c 2 t) (iblk m c 9 t) (iblk m c 10 t) ⟨16 + i.val, by omega⟩
    = turnHigh (MlaSampleRef.P (m ((c.tc : Thread nD τ).loc main_arg0)) (m ((c.tc : Thread nD τ).loc main_arg1)) (m ((c.tc : Thread nD τ).loc main_arg5)) r ⟨i.val, by omega⟩)
        (MlaSampleRef.P (m ((c.tc : Thread nD τ).loc main_arg0)) (m ((c.tc : Thread nD τ).loc main_arg1)) (m ((c.tc : Thread nD τ).loc main_arg5)) r ⟨16 + i.val, by omega⟩) i := by
  have e : (⟨768 + (16 + i.val), by omega⟩ : Fin 896) = ⟨784 + i.val, by omega⟩ := Fin.ext (by dsimp only; omega)
  unfold MlaSampleBlock.turned turnHigh MlaSampleRef.P
  rw [rows, mixing, tableCK, tableSK, cosK_high, sinK_high]
  simp only [columns, e, first_high]
  simp only [fun k => first_turn (m ((c.tc : Thread nD τ).loc main_arg2)) (m ((c.tc : Thread nD τ).loc main_arg5)) k ⟨16 + i.val, by omega⟩]
  rw [add_comm]

/-- A block's rotary key on 32 lanes is the reference's. -/
theorem turned_eq (j : Fin 32) : MlaSampleBlock.turned r (iblk m c 0 t) (iblk m c 1 t) (iblk m c 2 t) (iblk m c 9 t) (iblk m c 10 t) ⟨j.val, by omega⟩
    = MlaSampleRef.rotary (m ((c.tc : Thread nD τ).loc main_arg0)) (m ((c.tc : Thread nD τ).loc main_arg1)) (m ((c.tc : Thread nD τ).loc main_arg5)) (ix2 r j) := by
  rcases halves j with ⟨i, rfl⟩ | ⟨i, rfl⟩
  · rw [turned_low, MlaSampleRef.rotary_low]
  · rw [turned_high, MlaSampleRef.rotary_high]

/-- A block's queries are the reference's. -/
theorem queries_eq (n : Fin 16) (l : Fin 128) :
    (∑ k, MlaSampleBlock.latQ r (iblk m c 0 t) (iblk m c 1 t) (iblk m c 2 t) (iblk m c 3 t) k * iblk m c 4 t (ix2 k ⟨n.val * 128 + l.val, by omega⟩)) * iblk m c 7 t (ix2 r l)
      + (∑ k, MlaSampleBlock.latQ r (iblk m c 0 t) (iblk m c 1 t) (iblk m c 2 t) (iblk m c 3 t) k * iblk m c 5 t (ix2 k ⟨n.val * 128 + l.val, by omega⟩)) * iblk m c 8 t (ix2 r l)
    = MlaSampleRef.queries (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (ix2 r ⟨n.val * 128 + l.val, by omega⟩) := by
  rw [latQ_eq, tableCQ, tableSQ, MlaSampleRef.queries_at]
  simp only [columnsQ, columnsS]
  have own (l : Fin 96) (k : Fin 384) := query_at (m ((c.tc : Thread nD τ).loc main_arg4)) k n l
  rcases lanes l with ⟨i, rfl⟩ | ⟨i, rfl⟩ | ⟨i, rfl⟩ | ⟨i, rfl⟩
  · rw [MlaSampleRef.queries_first, cosQ_first, sinQ_first, mul_zero, add_zero]
    simp only [own ⟨i.val, by omega⟩]
  · rw [MlaSampleRef.queries_low, cosQ_low, sinQ_low, ← mul_assoc, ← mul_assoc, ← EReal.right_distrib_of_nonneg_of_ne_top scale_real.1 scale_real.2]
    simp only [own ⟨64 + i.val, by omega⟩, swapped_low, turnLow]
    rw [mul_neg, sub_eq_add_neg]
  · rw [MlaSampleRef.queries_high, cosQ_high, sinQ_high, ← mul_assoc, ← mul_assoc, ← EReal.right_distrib_of_nonneg_of_ne_top scale_real.1 scale_real.2, add_comm]
    simp only [own ⟨80 + i.val, by omega⟩, swapped_high, turnHigh]
  · rw [MlaSampleRef.queries_spare, cosQ_spare, sinQ_spare, mul_zero, mul_zero, add_zero]

end Rows

/-- The queries after the run are the reference's. -/
theorem final_queries : (dats m 0 c).arrAt 11 cfg0.N
    = MlaSampleRef.queries (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine (dats m 0 c).arrAt_eq_of_covers 11 _ (by decide +kernel) fun t _ y => ?_
  blk_simp
  rw [after0_11]
  obtain ⟨r, e, rfl⟩ : ∃ (r : Fin 32) (e : Fin 2048), y = ix2 r e := ⟨y 0, y 1, eq_ix2 y⟩
  have he : ((cfg0.win 11).blk t).view.emb (ix2 r e) = ix2 r e := by blk_ext [idx t]
  obtain ⟨n, l, rfl⟩ := wide e
  rw [he, MlaSampleBlock.queries_at, queries_eq]

/-- The latents after the run are the reference's. -/
theorem final_latents : (dats m 0 c).arrAt 12 cfg0.N
    = MlaSampleRef.latents (m ((c.tc : Thread nD τ).loc main_arg0)) (m ((c.tc : Thread nD τ).loc main_arg1)) (m ((c.tc : Thread nD τ).loc main_arg5))
        (m ((c.tc : Thread nD τ).loc main_arg6)) := by
  refine (dats m 0 c).arrAt_eq_of_covers 12 _ (by decide +kernel) fun t _ y => ?_
  blk_simp
  rw [after0_12]
  obtain ⟨r, e, rfl⟩ : ∃ (r : Fin 32) (e : Fin 256), y = ix2 r e := ⟨y 0, y 1, eq_ix2 y⟩
  have he : ((cfg0.win 12).blk t).view.emb (ix2 r e) = ix2 r e := by blk_ext [idx t]
  rw [he, MlaSampleRef.latents_at, MlaSampleBlock.latents_at, latC_eq]

/-- The rotary keys after the run are the reference's. -/
theorem final_rotary : (dats m 0 c).arrAt 13 cfg0.N
    = MlaSampleRef.rotary (m ((c.tc : Thread nD τ).loc main_arg0)) (m ((c.tc : Thread nD τ).loc main_arg1)) (m ((c.tc : Thread nD τ).loc main_arg5)) := by
  refine (dats m 0 c).arrAt_eq_of_covers 13 _ (by decide +kernel) fun t _ y => ?_
  blk_simp
  rw [after0_13]
  obtain ⟨r, e, rfl⟩ : ∃ (r : Fin 32) (e : Fin 32), y = ix2 r e := ⟨y 0, y 1, eq_ix2 y⟩
  have he : ((cfg0.win 13).blk t).view.emb (ix2 r e) = ix2 r e := by blk_ext [idx t]
  rw [he, MlaSampleBlock.rotary_at, turned_eq]
-- ==== Proof.MlaSampleClaims.lean ====
/-
  The claims about the projections of the latent layers at the sample batch: the runs end, the idealization is licensed, and the kernel's results are the reference's.
-/
module

public import proofs.«01_k».proof.Defs
public import proofs.«01_k».proof.Proof.Gen.MlaProjSample.Frame
public import proofs.«01_k».proof.Proof.Gen.MlaProjSampleIdeal.Frame
public import proofs.«01_k».proof.Proof.Gen.MlaProjSampleIdeal.Value
public import proofs.«01_k».proof.Proof.Gen.MlaProjSampleRefIdeal.Run
public import proofs.«01_k».proof.Proof.MlaSampleValue
public import Idealize.ShloMosaic.Lib.Quiescent

@[expose] public section

set_option maxRecDepth 16384

noncomputable section

namespace Cert.MlaSampleClaims

open Idealize.ShloMosaic Idealize.ShloMosaic.TcCoe Idealize.SL.Sem

/-- The kernel runs to its end, keeps its arguments, and leaves no counter raised. -/
theorem frame_kernel : Cert.quiescent_MlaProjSample := fun m ρ _ => Cert.MlaProjSample.Gen.frame m ρ

/-- The idealized kernel does too. -/
theorem frame_ideal : Cert.quiescent_MlaProjSampleIdeal := fun m ρ _ => Cert.MlaProjSampleIdeal.Gen.frame m ρ

/-- The reference does too. -/
theorem frame_reference : Cert.quiescent_MlaProjSampleRefIdeal := fun m ρ _ =>
  (θ_run Cert.MlaProjSampleRefIdeal.defs _ _).mono
    (fun r h => ⟨fun c => (h c).2.2.2, Idealize.ShloMosaic.sem_eq_zero_of_no_sems (by decide) r.2⟩)
    (Cert.MlaProjSampleRefIdeal.Value.run (F := Ideal) m ρ)

/-- The kernel and its idealization differ in no operation. -/
theorem preserves : Cert.preserves_MlaProjSample_MlaProjSampleIdeal := trivial

/-- The queries, the latents and the rotary keys are the reference's. -/
theorem algebraic : Cert.algebraic_MlaProjSampleIdeal_MlaProjSampleRefIdeal := by
  intro m ρ m' ρ' _ args
  refine ⟨fun c => Cert.MlaSampleRef.queries (m ((c.tc : Thread Cert.MlaProjSampleIdeal.nD Cert.MlaProjSampleIdeal.τ).loc Cert.MlaProjSampleIdeal.main_arg0)) (m ((c.tc : Thread Cert.MlaProjSampleIdeal.nD Cert.MlaProjSampleIdeal.τ).loc Cert.MlaProjSampleIdeal.main_arg1)) (m ((c.tc : Thread Cert.MlaProjSampleIdeal.nD Cert.MlaProjSampleIdeal.τ).loc Cert.MlaProjSampleIdeal.main_arg2)) (m ((c.tc : Thread Cert.MlaProjSampleIdeal.nD Cert.MlaProjSampleIdeal.τ).loc Cert.MlaProjSampleIdeal.main_arg3)) (m ((c.tc : Thread Cert.MlaProjSampleIdeal.nD Cert.MlaProjSampleIdeal.τ).loc Cert.MlaProjSampleIdeal.main_arg4)),
    fun c => Cert.MlaSampleRef.latents (m ((c.tc : Thread Cert.MlaProjSampleIdeal.nD Cert.MlaProjSampleIdeal.τ).loc Cert.MlaProjSampleIdeal.main_arg0)) (m ((c.tc : Thread Cert.MlaProjSampleIdeal.nD Cert.MlaProjSampleIdeal.τ).loc Cert.MlaProjSampleIdeal.main_arg1)) (m ((c.tc : Thread Cert.MlaProjSampleIdeal.nD Cert.MlaProjSampleIdeal.τ).loc Cert.MlaProjSampleIdeal.main_arg5)) (m ((c.tc : Thread Cert.MlaProjSampleIdeal.nD Cert.MlaProjSampleIdeal.τ).loc Cert.MlaProjSampleIdeal.main_arg6)),
    fun c => Cert.MlaSampleRef.rotary (m ((c.tc : Thread Cert.MlaProjSampleIdeal.nD Cert.MlaProjSampleIdeal.τ).loc Cert.MlaProjSampleIdeal.main_arg0)) (m ((c.tc : Thread Cert.MlaProjSampleIdeal.nD Cert.MlaProjSampleIdeal.τ).loc Cert.MlaProjSampleIdeal.main_arg1)) (m ((c.tc : Thread Cert.MlaProjSampleIdeal.nD Cert.MlaProjSampleIdeal.τ).loc Cert.MlaProjSampleIdeal.main_arg5)),
    (θ_run Cert.MlaProjSampleIdeal.defs _ _).mono
      (fun r h c => ⟨(h c).1.trans (Cert.MlaSampleValue.final_queries m c), (h c).2.1.trans (Cert.MlaSampleValue.final_latents m c), (h c).2.2.1.trans (Cert.MlaSampleValue.final_rotary m c), (h c).2.2.2⟩)
      (Cert.MlaProjSampleIdeal.Value.run_blocks (F := Ideal) m ρ), ?_⟩
  refine (θ_run Cert.MlaProjSampleRefIdeal.defs _ _).mono (fun r h c => ⟨(h c).1.trans ?_, (h c).2.1.trans ?_, (h c).2.2.1.trans ?_, (h c).2.2.2⟩)
    (Cert.MlaProjSampleRefIdeal.Value.run (F := Ideal) m' ρ')
  · obtain ⟨h0, h1, h2, h3, h4, h5, h6⟩ := args c
    show Cert.MlaSampleRef.queries (m' ((c.tc : Thread Cert.MlaProjSampleRefIdeal.nD Cert.MlaProjSampleRefIdeal.τ).loc Cert.MlaProjSampleRefIdeal.main_arg0)) (m' ((c.tc : Thread Cert.MlaProjSampleRefIdeal.nD Cert.MlaProjSampleRefIdeal.τ).loc Cert.MlaProjSampleRefIdeal.main_arg1)) (m' ((c.tc : Thread Cert.MlaProjSampleRefIdeal.nD Cert.MlaProjSampleRefIdeal.τ).loc Cert.MlaProjSampleRefIdeal.main_arg2)) (m' ((c.tc : Thread Cert.MlaProjSampleRefIdeal.nD Cert.MlaProjSampleRefIdeal.τ).loc Cert.MlaProjSampleRefIdeal.main_arg3)) (m' ((c.tc : Thread Cert.MlaProjSampleRefIdeal.nD Cert.MlaProjSampleRefIdeal.τ).loc Cert.MlaProjSampleRefIdeal.main_arg4)) = _
    rw [h0, h1, h2, h3, h4]
  · obtain ⟨h0, h1, h2, h3, h4, h5, h6⟩ := args c
    show Cert.MlaSampleRef.latents (m' ((c.tc : Thread Cert.MlaProjSampleRefIdeal.nD Cert.MlaProjSampleRefIdeal.τ).loc Cert.MlaProjSampleRefIdeal.main_arg0)) (m' ((c.tc : Thread Cert.MlaProjSampleRefIdeal.nD Cert.MlaProjSampleRefIdeal.τ).loc Cert.MlaProjSampleRefIdeal.main_arg1)) (m' ((c.tc : Thread Cert.MlaProjSampleRefIdeal.nD Cert.MlaProjSampleRefIdeal.τ).loc Cert.MlaProjSampleRefIdeal.main_arg5)) (m' ((c.tc : Thread Cert.MlaProjSampleRefIdeal.nD Cert.MlaProjSampleRefIdeal.τ).loc Cert.MlaProjSampleRefIdeal.main_arg6)) = _
    rw [h0, h1, h5, h6]
  · obtain ⟨h0, h1, h2, h3, h4, h5, h6⟩ := args c
    show Cert.MlaSampleRef.rotary (m' ((c.tc : Thread Cert.MlaProjSampleRefIdeal.nD Cert.MlaProjSampleRefIdeal.τ).loc Cert.MlaProjSampleRefIdeal.main_arg0)) (m' ((c.tc : Thread Cert.MlaProjSampleRefIdeal.nD Cert.MlaProjSampleRefIdeal.τ).loc Cert.MlaProjSampleRefIdeal.main_arg1)) (m' ((c.tc : Thread Cert.MlaProjSampleRefIdeal.nD Cert.MlaProjSampleRefIdeal.τ).loc Cert.MlaProjSampleRefIdeal.main_arg5)) = _
    rw [h0, h1, h5]

end Cert.MlaSampleClaims

end
-- ==== Proof.lean ====
/-
  The certificate: every claim, put together from the modules that prove them.
-/
module

public import proofs.«01_k».proof.Defs
public import proofs.«01_k».proof.Proof.AttnClaims
public import proofs.«01_k».proof.Proof.PostMlaClaims
public import proofs.«01_k».proof.Proof.PostFinalClaims
public import proofs.«01_k».proof.Proof.DilProjClaims
public import proofs.«01_k».proof.Proof.PostDilClaims
public import proofs.«01_k».proof.Proof.MlaProjClaims
public import proofs.«01_k».proof.Proof.DilAttnClaims
public import proofs.«01_k».proof.Proof.PostSampleClaims
public import proofs.«01_k».proof.Proof.DilSampleClaims
public import proofs.«01_k».proof.Proof.MlaSampleClaims
public import Idealize.ShloMosaic.Adequacy
public import Idealize.ShloMosaic.Init

@[expose] public section

noncomputable section

namespace Cert.Proof

/-- Every claim of the certificate: the runs of the ten kernels, their idealizations and their references end cleanly, and
    each idealized kernel computes what its reference computes. -/
theorem claim : Cert.Claim :=
  ⟨Cert.Attn.Gen.facts, Cert.AttnIdeal.Gen.facts, Cert.AttnRefIdeal.Gen.facts,
    Cert.PostMla.Gen.facts, Cert.PostMlaIdeal.Gen.facts, Cert.PostMlaRefIdeal.Gen.facts,
    Cert.PostFinal.Gen.facts, Cert.PostFinalIdeal.Gen.facts, Cert.PostFinalRefIdeal.Gen.facts,
    Cert.DilProj.Gen.facts, Cert.DilProjIdeal.Gen.facts, Cert.DilProjRefIdeal.Gen.facts,
    Cert.PostDil.Gen.facts, Cert.PostDilIdeal.Gen.facts, Cert.PostDilRefIdeal.Gen.facts,
    Cert.MlaProj.Gen.facts, Cert.MlaProjIdeal.Gen.facts, Cert.MlaProjRefIdeal.Gen.facts,
    Cert.DilAttn.Gen.facts, Cert.DilAttnIdeal.Gen.facts, Cert.DilAttnRefIdeal.Gen.facts,
    Cert.PostFinalSample.Gen.facts, Cert.PostFinalSampleIdeal.Gen.facts, Cert.PostFinalSampleRefIdeal.Gen.facts,
    Cert.DilProjSample.Gen.facts, Cert.DilProjSampleIdeal.Gen.facts, Cert.DilProjSampleRefIdeal.Gen.facts,
    Cert.MlaProjSample.Gen.facts, Cert.MlaProjSampleIdeal.Gen.facts, Cert.MlaProjSampleRefIdeal.Gen.facts,
    Cert.Pre_finite.Gen.facts,
    AttnClaims.frame_kernel, AttnClaims.frame_ideal, AttnClaims.frame_ideal_finite, AttnClaims.frame_reference, AttnClaims.frame_reference_finite,
    PostMlaClaims.frame_kernel, PostMlaClaims.frame_ideal, PostMlaClaims.frame_reference,
    PostFinalClaims.frame_kernel, PostFinalClaims.frame_ideal, PostFinalClaims.frame_reference,
    DilProjClaims.frame_kernel, DilProjClaims.frame_ideal, DilProjClaims.frame_reference,
    PostDilClaims.frame_kernel, PostDilClaims.frame_ideal, PostDilClaims.frame_reference,
    MlaProjClaims.frame_kernel, MlaProjClaims.frame_ideal, MlaProjClaims.frame_reference,
    DilAttnClaims.frame_kernel, DilAttnClaims.frame_ideal, DilAttnClaims.frame_reference,
    PostSampleClaims.frame_kernel, PostSampleClaims.frame_ideal, PostSampleClaims.frame_reference,
    DilSampleClaims.frame_kernel, DilSampleClaims.frame_ideal, DilSampleClaims.frame_reference,
    MlaSampleClaims.frame_kernel, MlaSampleClaims.frame_ideal, MlaSampleClaims.frame_reference,
    AttnClaims.preserves, AttnClaims.algebraic,
    PostMlaClaims.preserves, PostMlaClaims.algebraic,
    PostFinalClaims.preserves, PostFinalClaims.algebraic,
    DilProjClaims.preserves, DilProjClaims.algebraic,
    PostDilClaims.preserves, PostDilClaims.algebraic,
    MlaProjClaims.preserves, MlaProjClaims.algebraic,
    DilAttnClaims.preserves, DilAttnClaims.algebraic,
    PostSampleClaims.preserves, PostSampleClaims.algebraic,
    DilSampleClaims.preserves, DilSampleClaims.algebraic,
    MlaSampleClaims.preserves, MlaSampleClaims.algebraic⟩

end Cert.Proof

end
